-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite2 [hPre_finite2 : Cert.Pre_finite2.Facts] (m : (ℓ : Loc Cert.XattnIdeal.nD Cert.XattnIdeal.τ Cert.XattnIdeal.sig) → Buf (Elt Ideal) ℓ) : Prop :=
  ∀ c : Dev Cert.XattnIdeal.nD,
    (Cert.Pre_finite2.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))).1 = (fun _ => 1#1)
    ∧ (Cert.Pre_finite2.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))).2.1 = (fun _ => 1#1)
    ∧ (Cert.Pre_finite2.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))).2.2.1 = (fun _ => 1#1)
    ∧ (Cert.Pre_finite2.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))).2.2.2.1 = (fun _ => 1#1)
    ∧ (Cert.Pre_finite2.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))).2.2.2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite2 [hPre_finite2 : Cert.Pre_finite2.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite2.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))).1 = (fun _ => 1#1)
    ∧ (Cert.Pre_finite2.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))).2.1 = (fun _ => 1#1)
    ∧ (Cert.Pre_finite2.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))).2.2.1 = (fun _ => 1#1)
    ∧ (Cert.Pre_finite2.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))).2.2.2.1 = (fun _ => 1#1)
    ∧ (Cert.Pre_finite2.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))).2.2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdRefIdeal (m : (ℓ : Loc Cert.QBwdRefIdeal.nD Cert.QBwdRefIdeal.τ Cert.QBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamDownAfter (m : (ℓ : Loc Cert.AdamDownAfter.nD Cert.AdamDownAfter.τ Cert.AdamDownAfter.sig) → Buf (Elt Bits) ℓ) : Prop :=
  True

def Pre_AdamDownAfterIdeal (m : (ℓ : Loc Cert.AdamDownAfterIdeal.nD Cert.AdamDownAfterIdeal.τ Cert.AdamDownAfterIdeal.sig) → Buf (Elt Ideal) ℓ) : Prop :=
  True

def Pre_AdamDownAfterRefIdeal (m : (ℓ : Loc Cert.AdamDownAfterRefIdeal.nD Cert.AdamDownAfterRefIdeal.τ Cert.AdamDownAfterRefIdeal.sig) → Buf (Elt Ideal) ℓ) : Prop :=
  True

def Pre_AdamUpAfter (m : (ℓ : Loc Cert.AdamUpAfter.nD Cert.AdamUpAfter.τ Cert.AdamUpAfter.sig) → Buf (Elt Bits) ℓ) : Prop :=
  True

def Pre_AdamUpAfterIdeal (m : (ℓ : Loc Cert.AdamUpAfterIdeal.nD Cert.AdamUpAfterIdeal.τ Cert.AdamUpAfterIdeal.sig) → Buf (Elt Ideal) ℓ) : Prop :=
  True

def Pre_AdamUpAfterRefIdeal (m : (ℓ : Loc Cert.AdamUpAfterRefIdeal.nD Cert.AdamUpAfterRefIdeal.τ Cert.AdamUpAfterRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_finite2 [hXattnIdeal : Cert.XattnIdeal.Facts] [hPre_finite2 : Cert.Pre_finite2.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite2 m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_XattnRefIdeal_pre_finite2 [hXattnRefIdeal : Cert.XattnRefIdeal.Facts] [hPre_finite2 : Cert.Pre_finite2.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite2 m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamDownAfter [hAdamDownAfter : Cert.AdamDownAfter.Facts] : Prop :=
  ∀ (m : (ℓ : Loc Cert.AdamDownAfter.nD Cert.AdamDownAfter.τ Cert.AdamDownAfter.sig) → Buf (Elt Bits) ℓ) (g : Dev Cert.AdamDownAfter.nD → PrngReg), Pre_AdamDownAfter m →
    θ_run (Cert.AdamDownAfter.defs (F := Bits)) (onTc (τ := Cert.AdamDownAfter.τ) (Cert.AdamDownAfter.main (F := Bits))) ⟨m, fun _ => 0, g⟩ (fun r => (∀ c : Dev Cert.AdamDownAfter.nD,
      r.2.mem ((c.tc : Thread Cert.AdamDownAfter.nD Cert.AdamDownAfter.τ).loc Cert.AdamDownAfter.main_arg0) = m ((c.tc : Thread Cert.AdamDownAfter.nD Cert.AdamDownAfter.τ).loc Cert.AdamDownAfter.main_arg0)
      ∧ r.2.mem ((c.tc : Thread Cert.AdamDownAfter.nD Cert.AdamDownAfter.τ).loc Cert.AdamDownAfter.main_arg1) = m ((c.tc : Thread Cert.AdamDownAfter.nD Cert.AdamDownAfter.τ).loc Cert.AdamDownAfter.main_arg1)
      ∧ r.2.mem ((c.tc : Thread Cert.AdamDownAfter.nD Cert.AdamDownAfter.τ).loc Cert.AdamDownAfter.main_arg2) = m ((c.tc : Thread Cert.AdamDownAfter.nD Cert.AdamDownAfter.τ).loc Cert.AdamDownAfter.main_arg2)
      ∧ r.2.mem ((c.tc : Thread Cert.AdamDownAfter.nD Cert.AdamDownAfter.τ).loc Cert.AdamDownAfter.main_arg3) = m ((c.tc : Thread Cert.AdamDownAfter.nD Cert.AdamDownAfter.τ).loc Cert.AdamDownAfter.main_arg3)
      ∧ r.2.mem ((c.tc : Thread Cert.AdamDownAfter.nD Cert.AdamDownAfter.τ).loc Cert.AdamDownAfter.main_arg4) = m ((c.tc : Thread Cert.AdamDownAfter.nD Cert.AdamDownAfter.τ).loc Cert.AdamDownAfter.main_arg4))
      ∧ r.2.sem = fun _ => 0)

def quiescent_AdamDownAfterIdeal [hAdamDownAfterIdeal : Cert.AdamDownAfterIdeal.Facts] : Prop :=
  ∀ (m : (ℓ : Loc Cert.AdamDownAfterIdeal.nD Cert.AdamDownAfterIdeal.τ Cert.AdamDownAfterIdeal.sig) → Buf (Elt Ideal) ℓ) (g : Dev Cert.AdamDownAfterIdeal.nD → PrngReg), Pre_AdamDownAfterIdeal m →
    θ_run (Cert.AdamDownAfterIdeal.defs (F := Ideal)) (onTc (τ := Cert.AdamDownAfterIdeal.τ) (Cert.AdamDownAfterIdeal.main (F := Ideal))) ⟨m, fun _ => 0, g⟩ (fun r => (∀ c : Dev Cert.AdamDownAfterIdeal.nD,
      r.2.mem ((c.tc : Thread Cert.AdamDownAfterIdeal.nD Cert.AdamDownAfterIdeal.τ).loc Cert.AdamDownAfterIdeal.main_arg0) = m ((c.tc : Thread Cert.AdamDownAfterIdeal.nD Cert.AdamDownAfterIdeal.τ).loc Cert.AdamDownAfterIdeal.main_arg0)
      ∧ r.2.mem ((c.tc : Thread Cert.AdamDownAfterIdeal.nD Cert.AdamDownAfterIdeal.τ).loc Cert.AdamDownAfterIdeal.main_arg1) = m ((c.tc : Thread Cert.AdamDownAfterIdeal.nD Cert.AdamDownAfterIdeal.τ).loc Cert.AdamDownAfterIdeal.main_arg1)
      ∧ r.2.mem ((c.tc : Thread Cert.AdamDownAfterIdeal.nD Cert.AdamDownAfterIdeal.τ).loc Cert.AdamDownAfterIdeal.main_arg2) = m ((c.tc : Thread Cert.AdamDownAfterIdeal.nD Cert.AdamDownAfterIdeal.τ).loc Cert.AdamDownAfterIdeal.main_arg2)
      ∧ r.2.mem ((c.tc : Thread Cert.AdamDownAfterIdeal.nD Cert.AdamDownAfterIdeal.τ).loc Cert.AdamDownAfterIdeal.main_arg3) = m ((c.tc : Thread Cert.AdamDownAfterIdeal.nD Cert.AdamDownAfterIdeal.τ).loc Cert.AdamDownAfterIdeal.main_arg3)
      ∧ r.2.mem ((c.tc : Thread Cert.AdamDownAfterIdeal.nD Cert.AdamDownAfterIdeal.τ).loc Cert.AdamDownAfterIdeal.main_arg4) = m ((c.tc : Thread Cert.AdamDownAfterIdeal.nD Cert.AdamDownAfterIdeal.τ).loc Cert.AdamDownAfterIdeal.main_arg4))
      ∧ r.2.sem = fun _ => 0)

def quiescent_AdamDownAfterRefIdeal [hAdamDownAfterRefIdeal : Cert.AdamDownAfterRefIdeal.Facts] : Prop :=
  ∀ (m : (ℓ : Loc Cert.AdamDownAfterRefIdeal.nD Cert.AdamDownAfterRefIdeal.τ Cert.AdamDownAfterRefIdeal.sig) → Buf (Elt Ideal) ℓ) (g : Dev Cert.AdamDownAfterRefIdeal.nD → PrngReg), Pre_AdamDownAfterRefIdeal m →
    θ_run (Cert.AdamDownAfterRefIdeal.defs (F := Ideal)) (onTc (τ := Cert.AdamDownAfterRefIdeal.τ) (Cert.AdamDownAfterRefIdeal.main (F := Ideal))) ⟨m, fun _ => 0, g⟩ (fun r => (∀ c : Dev Cert.AdamDownAfterRefIdeal.nD,
      r.2.mem ((c.tc : Thread Cert.AdamDownAfterRefIdeal.nD Cert.AdamDownAfterRefIdeal.τ).loc Cert.AdamDownAfterRefIdeal.main_arg0) = m ((c.tc : Thread Cert.AdamDownAfterRefIdeal.nD Cert.AdamDownAfterRefIdeal.τ).loc Cert.AdamDownAfterRefIdeal.main_arg0)
      ∧ r.2.mem ((c.tc : Thread Cert.AdamDownAfterRefIdeal.nD Cert.AdamDownAfterRefIdeal.τ).loc Cert.AdamDownAfterRefIdeal.main_arg1) = m ((c.tc : Thread Cert.AdamDownAfterRefIdeal.nD Cert.AdamDownAfterRefIdeal.τ).loc Cert.AdamDownAfterRefIdeal.main_arg1)
      ∧ r.2.mem ((c.tc : Thread Cert.AdamDownAfterRefIdeal.nD Cert.AdamDownAfterRefIdeal.τ).loc Cert.AdamDownAfterRefIdeal.main_arg2) = m ((c.tc : Thread Cert.AdamDownAfterRefIdeal.nD Cert.AdamDownAfterRefIdeal.τ).loc Cert.AdamDownAfterRefIdeal.main_arg2)
      ∧ r.2.mem ((c.tc : Thread Cert.AdamDownAfterRefIdeal.nD Cert.AdamDownAfterRefIdeal.τ).loc Cert.AdamDownAfterRefIdeal.main_arg3) = m ((c.tc : Thread Cert.AdamDownAfterRefIdeal.nD Cert.AdamDownAfterRefIdeal.τ).loc Cert.AdamDownAfterRefIdeal.main_arg3)
      ∧ r.2.mem ((c.tc : Thread Cert.AdamDownAfterRefIdeal.nD Cert.AdamDownAfterRefIdeal.τ).loc Cert.AdamDownAfterRefIdeal.main_arg4) = m ((c.tc : Thread Cert.AdamDownAfterRefIdeal.nD Cert.AdamDownAfterRefIdeal.τ).loc Cert.AdamDownAfterRefIdeal.main_arg4))
      ∧ r.2.sem = fun _ => 0)

def quiescent_AdamUpAfter [hAdamUpAfter : Cert.AdamUpAfter.Facts] : Prop :=
  ∀ (m : (ℓ : Loc Cert.AdamUpAfter.nD Cert.AdamUpAfter.τ Cert.AdamUpAfter.sig) → Buf (Elt Bits) ℓ) (g : Dev Cert.AdamUpAfter.nD → PrngReg), Pre_AdamUpAfter m →
    θ_run (Cert.AdamUpAfter.defs (F := Bits)) (onTc (τ := Cert.AdamUpAfter.τ) (Cert.AdamUpAfter.main (F := Bits))) ⟨m, fun _ => 0, g⟩ (fun r => (∀ c : Dev Cert.AdamUpAfter.nD,
      r.2.mem ((c.tc : Thread Cert.AdamUpAfter.nD Cert.AdamUpAfter.τ).loc Cert.AdamUpAfter.main_arg0) = m ((c.tc : Thread Cert.AdamUpAfter.nD Cert.AdamUpAfter.τ).loc Cert.AdamUpAfter.main_arg0)
      ∧ r.2.mem ((c.tc : Thread Cert.AdamUpAfter.nD Cert.AdamUpAfter.τ).loc Cert.AdamUpAfter.main_arg1) = m ((c.tc : Thread Cert.AdamUpAfter.nD Cert.AdamUpAfter.τ).loc Cert.AdamUpAfter.main_arg1)
      ∧ r.2.mem ((c.tc : Thread Cert.AdamUpAfter.nD Cert.AdamUpAfter.τ).loc Cert.AdamUpAfter.main_arg2) = m ((c.tc : Thread Cert.AdamUpAfter.nD Cert.AdamUpAfter.τ).loc Cert.AdamUpAfter.main_arg2)
      ∧ r.2.mem ((c.tc : Thread Cert.AdamUpAfter.nD Cert.AdamUpAfter.τ).loc Cert.AdamUpAfter.main_arg3) = m ((c.tc : Thread Cert.AdamUpAfter.nD Cert.AdamUpAfter.τ).loc Cert.AdamUpAfter.main_arg3)
      ∧ r.2.mem ((c.tc : Thread Cert.AdamUpAfter.nD Cert.AdamUpAfter.τ).loc Cert.AdamUpAfter.main_arg4) = m ((c.tc : Thread Cert.AdamUpAfter.nD Cert.AdamUpAfter.τ).loc Cert.AdamUpAfter.main_arg4))
      ∧ r.2.sem = fun _ => 0)

def quiescent_AdamUpAfterIdeal [hAdamUpAfterIdeal : Cert.AdamUpAfterIdeal.Facts] : Prop :=
  ∀ (m : (ℓ : Loc Cert.AdamUpAfterIdeal.nD Cert.AdamUpAfterIdeal.τ Cert.AdamUpAfterIdeal.sig) → Buf (Elt Ideal) ℓ) (g : Dev Cert.AdamUpAfterIdeal.nD → PrngReg), Pre_AdamUpAfterIdeal m →
    θ_run (Cert.AdamUpAfterIdeal.defs (F := Ideal)) (onTc (τ := Cert.AdamUpAfterIdeal.τ) (Cert.AdamUpAfterIdeal.main (F := Ideal))) ⟨m, fun _ => 0, g⟩ (fun r => (∀ c : Dev Cert.AdamUpAfterIdeal.nD,
      r.2.mem ((c.tc : Thread Cert.AdamUpAfterIdeal.nD Cert.AdamUpAfterIdeal.τ).loc Cert.AdamUpAfterIdeal.main_arg0) = m ((c.tc : Thread Cert.AdamUpAfterIdeal.nD Cert.AdamUpAfterIdeal.τ).loc Cert.AdamUpAfterIdeal.main_arg0)
      ∧ r.2.mem ((c.tc : Thread Cert.AdamUpAfterIdeal.nD Cert.AdamUpAfterIdeal.τ).loc Cert.AdamUpAfterIdeal.main_arg1) = m ((c.tc : Thread Cert.AdamUpAfterIdeal.nD Cert.AdamUpAfterIdeal.τ).loc Cert.AdamUpAfterIdeal.main_arg1)
      ∧ r.2.mem ((c.tc : Thread Cert.AdamUpAfterIdeal.nD Cert.AdamUpAfterIdeal.τ).loc Cert.AdamUpAfterIdeal.main_arg2) = m ((c.tc : Thread Cert.AdamUpAfterIdeal.nD Cert.AdamUpAfterIdeal.τ).loc Cert.AdamUpAfterIdeal.main_arg2)
      ∧ r.2.mem ((c.tc : Thread Cert.AdamUpAfterIdeal.nD Cert.AdamUpAfterIdeal.τ).loc Cert.AdamUpAfterIdeal.main_arg3) = m ((c.tc : Thread Cert.AdamUpAfterIdeal.nD Cert.AdamUpAfterIdeal.τ).loc Cert.AdamUpAfterIdeal.main_arg3)
      ∧ r.2.mem ((c.tc : Thread Cert.AdamUpAfterIdeal.nD Cert.AdamUpAfterIdeal.τ).loc Cert.AdamUpAfterIdeal.main_arg4) = m ((c.tc : Thread Cert.AdamUpAfterIdeal.nD Cert.AdamUpAfterIdeal.τ).loc Cert.AdamUpAfterIdeal.main_arg4))
      ∧ r.2.sem = fun _ => 0)

def quiescent_AdamUpAfterRefIdeal [hAdamUpAfterRefIdeal : Cert.AdamUpAfterRefIdeal.Facts] : Prop :=
  ∀ (m : (ℓ : Loc Cert.AdamUpAfterRefIdeal.nD Cert.AdamUpAfterRefIdeal.τ Cert.AdamUpAfterRefIdeal.sig) → Buf (Elt Ideal) ℓ) (g : Dev Cert.AdamUpAfterRefIdeal.nD → PrngReg), Pre_AdamUpAfterRefIdeal m →
    θ_run (Cert.AdamUpAfterRefIdeal.defs (F := Ideal)) (onTc (τ := Cert.AdamUpAfterRefIdeal.τ) (Cert.AdamUpAfterRefIdeal.main (F := Ideal))) ⟨m, fun _ => 0, g⟩ (fun r => (∀ c : Dev Cert.AdamUpAfterRefIdeal.nD,
      r.2.mem ((c.tc : Thread Cert.AdamUpAfterRefIdeal.nD Cert.AdamUpAfterRefIdeal.τ).loc Cert.AdamUpAfterRefIdeal.main_arg0) = m ((c.tc : Thread Cert.AdamUpAfterRefIdeal.nD Cert.AdamUpAfterRefIdeal.τ).loc Cert.AdamUpAfterRefIdeal.main_arg0)
      ∧ r.2.mem ((c.tc : Thread Cert.AdamUpAfterRefIdeal.nD Cert.AdamUpAfterRefIdeal.τ).loc Cert.AdamUpAfterRefIdeal.main_arg1) = m ((c.tc : Thread Cert.AdamUpAfterRefIdeal.nD Cert.AdamUpAfterRefIdeal.τ).loc Cert.AdamUpAfterRefIdeal.main_arg1)
      ∧ r.2.mem ((c.tc : Thread Cert.AdamUpAfterRefIdeal.nD Cert.AdamUpAfterRefIdeal.τ).loc Cert.AdamUpAfterRefIdeal.main_arg2) = m ((c.tc : Thread Cert.AdamUpAfterRefIdeal.nD Cert.AdamUpAfterRefIdeal.τ).loc Cert.AdamUpAfterRefIdeal.main_arg2)
      ∧ r.2.mem ((c.tc : Thread Cert.AdamUpAfterRefIdeal.nD Cert.AdamUpAfterRefIdeal.τ).loc Cert.AdamUpAfterRefIdeal.main_arg3) = m ((c.tc : Thread Cert.AdamUpAfterRefIdeal.nD Cert.AdamUpAfterRefIdeal.τ).loc Cert.AdamUpAfterRefIdeal.main_arg3)
      ∧ r.2.mem ((c.tc : Thread Cert.AdamUpAfterRefIdeal.nD Cert.AdamUpAfterRefIdeal.τ).loc Cert.AdamUpAfterRefIdeal.main_arg4) = m ((c.tc : Thread Cert.AdamUpAfterRefIdeal.nD Cert.AdamUpAfterRefIdeal.τ).loc Cert.AdamUpAfterRefIdeal.main_arg4))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v119) = v0 c
          ∧ r.2.mem ((c.tc : Thread Cert.ConvRefIdeal.nD Cert.ConvRefIdeal.τ).loc Cert.ConvRefIdeal.main_v120) = v1 c
          ∧ r.2.mem ((c.tc : Thread Cert.ConvRefIdeal.nD Cert.ConvRefIdeal.τ).loc Cert.ConvRefIdeal.main_v122) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Xattn_XattnIdeal : Prop :=
  True

def algebraic_XattnIdeal_XattnRefIdeal_pre_finite2 [hXattnIdeal : Cert.XattnIdeal.Facts] [hXattnRefIdeal : Cert.XattnRefIdeal.Facts] [hPre_finite2 : Cert.Pre_finite2.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite2 m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v1_0)) (v1 : (c : Dev Cert.XattnIdeal.nD) → Buf (Elt Ideal) ((c.tc : Thread Cert.XattnIdeal.nD Cert.XattnIdeal.τ).loc Cert.XattnIdeal.main_v1_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v1_0) = v0 c
          ∧ r.2.mem ((c.tc : Thread Cert.XattnIdeal.nD Cert.XattnIdeal.τ).loc Cert.XattnIdeal.main_v1_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v73) = v0 c
          ∧ r.2.mem ((c.tc : Thread Cert.XattnRefIdeal.nD Cert.XattnRefIdeal.τ).loc Cert.XattnRefIdeal.main_v71) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v44) = v0 c
          ∧ r.2.mem ((c.tc : Thread Cert.FfnUpRefIdeal.nD Cert.FfnUpRefIdeal.τ).loc Cert.FfnUpRefIdeal.main_v45) = v1 c
          ∧ r.2.mem ((c.tc : Thread Cert.FfnUpRefIdeal.nD Cert.FfnUpRefIdeal.τ).loc Cert.FfnUpRefIdeal.main_v27) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v1) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v10) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v1)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v1) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v11) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v11) = v0 c
          ∧ r.2.mem ((c.tc : Thread Cert.FfnFwdRefIdeal.nD Cert.FfnFwdRefIdeal.τ).loc Cert.FfnFwdRefIdeal.main_v14) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v5) = v0 c
          ∧ r.2.mem ((c.tc : Thread Cert.DownFwdRefIdeal.nD Cert.DownFwdRefIdeal.τ).loc Cert.DownFwdRefIdeal.main_v18) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v16) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v54) = v0 c
          ∧ r.2.mem ((c.tc : Thread Cert.DownLossRefIdeal.nD Cert.DownLossRefIdeal.τ).loc Cert.DownLossRefIdeal.main_v55) = v1 c
          ∧ r.2.mem ((c.tc : Thread Cert.DownLossRefIdeal.nD Cert.DownLossRefIdeal.τ).loc Cert.DownLossRefIdeal.main_v56) = v2 c
          ∧ r.2.mem ((c.tc : Thread Cert.DownLossRefIdeal.nD Cert.DownLossRefIdeal.τ).loc Cert.DownLossRefIdeal.main_v38) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_QBwd_QBwdIdeal : Prop :=
  True

def algebraic_QBwdIdeal_QBwdRefIdeal [hQBwdIdeal : Cert.QBwdIdeal.Facts] [hQBwdRefIdeal : Cert.QBwdRefIdeal.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)) →
    ∃ (v0 : (c : Dev Cert.QBwdIdeal.nD) → Buf (Elt Ideal) ((c.tc : Thread Cert.QBwdIdeal.nD Cert.QBwdIdeal.τ).loc Cert.QBwdIdeal.main_v2_0)) (v1 : (c : Dev Cert.QBwdIdeal.nD) → Buf (Elt Ideal) ((c.tc : Thread Cert.QBwdIdeal.nD Cert.QBwdIdeal.τ).loc Cert.QBwdIdeal.main_v2_1)) (v2 : (c : Dev Cert.QBwdIdeal.nD) → Buf (Elt Ideal) ((c.tc : Thread Cert.QBwdIdeal.nD Cert.QBwdIdeal.τ).loc Cert.QBwdIdeal.main_v2_2)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v2_0) = v0 c
          ∧ r.2.mem ((c.tc : Thread Cert.QBwdIdeal.nD Cert.QBwdIdeal.τ).loc Cert.QBwdIdeal.main_v2_1) = v1 c
          ∧ r.2.mem ((c.tc : Thread Cert.QBwdIdeal.nD Cert.QBwdIdeal.τ).loc Cert.QBwdIdeal.main_v2_2) = v2 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v38) = v0 c
          ∧ r.2.mem ((c.tc : Thread Cert.QBwdRefIdeal.nD Cert.QBwdRefIdeal.τ).loc Cert.QBwdRefIdeal.main_v39) = v1 c
          ∧ r.2.mem ((c.tc : Thread Cert.QBwdRefIdeal.nD Cert.QBwdRefIdeal.τ).loc Cert.QBwdRefIdeal.main_v21) = v2 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v5) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v4)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v4) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v22) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)) (v2 : (c : Dev Cert.MemKvIdeal.nD) → Buf (Elt Ideal) ((c.tc : Thread Cert.MemKvIdeal.nD Cert.MemKvIdeal.τ).loc Cert.MemKvIdeal.main_v1_0)) (v3 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_v1_0) = v2 c
          ∧ r.2.mem ((c.tc : Thread Cert.MemKvIdeal.nD Cert.MemKvIdeal.τ).loc Cert.MemKvIdeal.main_v1_1) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v34) = v0 c
          ∧ r.2.mem ((c.tc : Thread Cert.MemKvRefIdeal.nD Cert.MemKvRefIdeal.τ).loc Cert.MemKvRefIdeal.main_v35) = v1 c
          ∧ r.2.mem ((c.tc : Thread Cert.MemKvRefIdeal.nD Cert.MemKvRefIdeal.τ).loc Cert.MemKvRefIdeal.main_v36) = v2 c
          ∧ r.2.mem ((c.tc : Thread Cert.MemKvRefIdeal.nD Cert.MemKvRefIdeal.τ).loc Cert.MemKvRefIdeal.main_v21) = v3 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v1) = v0 c
          ∧ r.2.mem ((c.tc : Thread Cert.AdamSquareRefIdeal.nD Cert.AdamSquareRefIdeal.τ).loc Cert.AdamSquareRefIdeal.main_v25) = v1 c
          ∧ r.2.mem ((c.tc : Thread Cert.AdamSquareRefIdeal.nD Cert.AdamSquareRefIdeal.τ).loc Cert.AdamSquareRefIdeal.main_v6) = v2 c
          ∧ r.2.mem ((c.tc : Thread Cert.AdamSquareRefIdeal.nD Cert.AdamSquareRefIdeal.τ).loc Cert.AdamSquareRefIdeal.main_v12) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)
      ∧ m' ((c.tc : Thread Cert.AdamKvRefIdeal.nD Cert.AdamKvRefIdeal.τ).loc Cert.AdamKvRefIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v1) = v0 c
          ∧ r.2.mem ((c.tc : Thread Cert.AdamKvRefIdeal.nD Cert.AdamKvRefIdeal.τ).loc Cert.AdamKvRefIdeal.main_v25) = v1 c
          ∧ r.2.mem ((c.tc : Thread Cert.AdamKvRefIdeal.nD Cert.AdamKvRefIdeal.τ).loc Cert.AdamKvRefIdeal.main_v6) = v2 c
          ∧ r.2.mem ((c.tc : Thread Cert.AdamKvRefIdeal.nD Cert.AdamKvRefIdeal.τ).loc Cert.AdamKvRefIdeal.main_v12) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3)
          ∧ r.2.mem ((c.tc : Thread Cert.AdamKvRefIdeal.nD Cert.AdamKvRefIdeal.τ).loc Cert.AdamKvRefIdeal.main_arg4) = m' ((c.tc : Thread Cert.AdamKvRefIdeal.nD Cert.AdamKvRefIdeal.τ).loc Cert.AdamKvRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamDownAfter_AdamDownAfterIdeal : Prop :=
  True

def algebraic_AdamDownAfterIdeal_AdamDownAfterRefIdeal [hAdamDownAfterIdeal : Cert.AdamDownAfterIdeal.Facts] [hAdamDownAfterRefIdeal : Cert.AdamDownAfterRefIdeal.Facts] : Prop :=
  ∀ (m : (ℓ : Loc Cert.AdamDownAfterIdeal.nD Cert.AdamDownAfterIdeal.τ Cert.AdamDownAfterIdeal.sig) → Buf (Elt Ideal) ℓ) (g : Dev Cert.AdamDownAfterIdeal.nD → PrngReg)
    (m' : (ℓ : Loc Cert.AdamDownAfterRefIdeal.nD Cert.AdamDownAfterRefIdeal.τ Cert.AdamDownAfterRefIdeal.sig) → Buf (Elt Ideal) ℓ) (g' : Dev Cert.AdamDownAfterRefIdeal.nD → PrngReg), Pre_AdamDownAfterIdeal m →
    (∀ c : Dev Cert.AdamDownAfterIdeal.nD,
      m' ((c.tc : Thread Cert.AdamDownAfterRefIdeal.nD Cert.AdamDownAfterRefIdeal.τ).loc Cert.AdamDownAfterRefIdeal.main_arg0) = m ((c.tc : Thread Cert.AdamDownAfterIdeal.nD Cert.AdamDownAfterIdeal.τ).loc Cert.AdamDownAfterIdeal.main_arg0)
      ∧ m' ((c.tc : Thread Cert.AdamDownAfterRefIdeal.nD Cert.AdamDownAfterRefIdeal.τ).loc Cert.AdamDownAfterRefIdeal.main_arg1) = m ((c.tc : Thread Cert.AdamDownAfterIdeal.nD Cert.AdamDownAfterIdeal.τ).loc Cert.AdamDownAfterIdeal.main_arg1)
      ∧ m' ((c.tc : Thread Cert.AdamDownAfterRefIdeal.nD Cert.AdamDownAfterRefIdeal.τ).loc Cert.AdamDownAfterRefIdeal.main_arg2) = m ((c.tc : Thread Cert.AdamDownAfterIdeal.nD Cert.AdamDownAfterIdeal.τ).loc Cert.AdamDownAfterIdeal.main_arg2)
      ∧ m' ((c.tc : Thread Cert.AdamDownAfterRefIdeal.nD Cert.AdamDownAfterRefIdeal.τ).loc Cert.AdamDownAfterRefIdeal.main_arg3) = m ((c.tc : Thread Cert.AdamDownAfterIdeal.nD Cert.AdamDownAfterIdeal.τ).loc Cert.AdamDownAfterIdeal.main_arg3)
      ∧ m' ((c.tc : Thread Cert.AdamDownAfterRefIdeal.nD Cert.AdamDownAfterRefIdeal.τ).loc Cert.AdamDownAfterRefIdeal.main_arg4) = m ((c.tc : Thread Cert.AdamDownAfterIdeal.nD Cert.AdamDownAfterIdeal.τ).loc Cert.AdamDownAfterIdeal.main_arg4)) →
    ∃ (v0 : (c : Dev Cert.AdamDownAfterIdeal.nD) → Buf (Elt Ideal) ((c.tc : Thread Cert.AdamDownAfterIdeal.nD Cert.AdamDownAfterIdeal.τ).loc Cert.AdamDownAfterIdeal.main_v0_0)) (v1 : (c : Dev Cert.AdamDownAfterIdeal.nD) → Buf (Elt Ideal) ((c.tc : Thread Cert.AdamDownAfterIdeal.nD Cert.AdamDownAfterIdeal.τ).loc Cert.AdamDownAfterIdeal.main_v0_1)) (v2 : (c : Dev Cert.AdamDownAfterIdeal.nD) → Buf (Elt Ideal) ((c.tc : Thread Cert.AdamDownAfterIdeal.nD Cert.AdamDownAfterIdeal.τ).loc Cert.AdamDownAfterIdeal.main_v0_2)) (v3 : (c : Dev Cert.AdamDownAfterIdeal.nD) → Buf (Elt Ideal) ((c.tc : Thread Cert.AdamDownAfterIdeal.nD Cert.AdamDownAfterIdeal.τ).loc Cert.AdamDownAfterIdeal.main_v0_3)),
      θ_run (Cert.AdamDownAfterIdeal.defs (F := Ideal)) (onTc (τ := Cert.AdamDownAfterIdeal.τ) (Cert.AdamDownAfterIdeal.main (F := Ideal))) ⟨m, fun _ => 0, g⟩ (fun r => ∀ c : Dev Cert.AdamDownAfterIdeal.nD,
          r.2.mem ((c.tc : Thread Cert.AdamDownAfterIdeal.nD Cert.AdamDownAfterIdeal.τ).loc Cert.AdamDownAfterIdeal.main_v0_0) = v0 c
          ∧ r.2.mem ((c.tc : Thread Cert.AdamDownAfterIdeal.nD Cert.AdamDownAfterIdeal.τ).loc Cert.AdamDownAfterIdeal.main_v0_1) = v1 c
          ∧ r.2.mem ((c.tc : Thread Cert.AdamDownAfterIdeal.nD Cert.AdamDownAfterIdeal.τ).loc Cert.AdamDownAfterIdeal.main_v0_2) = v2 c
          ∧ r.2.mem ((c.tc : Thread Cert.AdamDownAfterIdeal.nD Cert.AdamDownAfterIdeal.τ).loc Cert.AdamDownAfterIdeal.main_v0_3) = v3 c
          ∧ r.2.mem ((c.tc : Thread Cert.AdamDownAfterIdeal.nD Cert.AdamDownAfterIdeal.τ).loc Cert.AdamDownAfterIdeal.main_arg0) = m ((c.tc : Thread Cert.AdamDownAfterIdeal.nD Cert.AdamDownAfterIdeal.τ).loc Cert.AdamDownAfterIdeal.main_arg0)
          ∧ r.2.mem ((c.tc : Thread Cert.AdamDownAfterIdeal.nD Cert.AdamDownAfterIdeal.τ).loc Cert.AdamDownAfterIdeal.main_arg1) = m ((c.tc : Thread Cert.AdamDownAfterIdeal.nD Cert.AdamDownAfterIdeal.τ).loc Cert.AdamDownAfterIdeal.main_arg1)
          ∧ r.2.mem ((c.tc : Thread Cert.AdamDownAfterIdeal.nD Cert.AdamDownAfterIdeal.τ).loc Cert.AdamDownAfterIdeal.main_arg2) = m ((c.tc : Thread Cert.AdamDownAfterIdeal.nD Cert.AdamDownAfterIdeal.τ).loc Cert.AdamDownAfterIdeal.main_arg2)
          ∧ r.2.mem ((c.tc : Thread Cert.AdamDownAfterIdeal.nD Cert.AdamDownAfterIdeal.τ).loc Cert.AdamDownAfterIdeal.main_arg3) = m ((c.tc : Thread Cert.AdamDownAfterIdeal.nD Cert.AdamDownAfterIdeal.τ).loc Cert.AdamDownAfterIdeal.main_arg3)
          ∧ r.2.mem ((c.tc : Thread Cert.AdamDownAfterIdeal.nD Cert.AdamDownAfterIdeal.τ).loc Cert.AdamDownAfterIdeal.main_arg4) = m ((c.tc : Thread Cert.AdamDownAfterIdeal.nD Cert.AdamDownAfterIdeal.τ).loc Cert.AdamDownAfterIdeal.main_arg4))
      ∧ θ_run (Cert.AdamDownAfterRefIdeal.defs (F := Ideal)) (onTc (τ := Cert.AdamDownAfterRefIdeal.τ) (Cert.AdamDownAfterRefIdeal.main (F := Ideal))) ⟨m', fun _ => 0, g'⟩ (fun r => ∀ c : Dev Cert.AdamDownAfterRefIdeal.nD,
          r.2.mem ((c.tc : Thread Cert.AdamDownAfterRefIdeal.nD Cert.AdamDownAfterRefIdeal.τ).loc Cert.AdamDownAfterRefIdeal.main_v1) = v0 c
          ∧ r.2.mem ((c.tc : Thread Cert.AdamDownAfterRefIdeal.nD Cert.AdamDownAfterRefIdeal.τ).loc Cert.AdamDownAfterRefIdeal.main_v25) = v1 c
          ∧ r.2.mem ((c.tc : Thread Cert.AdamDownAfterRefIdeal.nD Cert.AdamDownAfterRefIdeal.τ).loc Cert.AdamDownAfterRefIdeal.main_v6) = v2 c
          ∧ r.2.mem ((c.tc : Thread Cert.AdamDownAfterRefIdeal.nD Cert.AdamDownAfterRefIdeal.τ).loc Cert.AdamDownAfterRefIdeal.main_v12) = v3 c
          ∧ r.2.mem ((c.tc : Thread Cert.AdamDownAfterRefIdeal.nD Cert.AdamDownAfterRefIdeal.τ).loc Cert.AdamDownAfterRefIdeal.main_arg0) = m' ((c.tc : Thread Cert.AdamDownAfterRefIdeal.nD Cert.AdamDownAfterRefIdeal.τ).loc Cert.AdamDownAfterRefIdeal.main_arg0)
          ∧ r.2.mem ((c.tc : Thread Cert.AdamDownAfterRefIdeal.nD Cert.AdamDownAfterRefIdeal.τ).loc Cert.AdamDownAfterRefIdeal.main_arg1) = m' ((c.tc : Thread Cert.AdamDownAfterRefIdeal.nD Cert.AdamDownAfterRefIdeal.τ).loc Cert.AdamDownAfterRefIdeal.main_arg1)
          ∧ r.2.mem ((c.tc : Thread Cert.AdamDownAfterRefIdeal.nD Cert.AdamDownAfterRefIdeal.τ).loc Cert.AdamDownAfterRefIdeal.main_arg2) = m' ((c.tc : Thread Cert.AdamDownAfterRefIdeal.nD Cert.AdamDownAfterRefIdeal.τ).loc Cert.AdamDownAfterRefIdeal.main_arg2)
          ∧ r.2.mem ((c.tc : Thread Cert.AdamDownAfterRefIdeal.nD Cert.AdamDownAfterRefIdeal.τ).loc Cert.AdamDownAfterRefIdeal.main_arg3) = m' ((c.tc : Thread Cert.AdamDownAfterRefIdeal.nD Cert.AdamDownAfterRefIdeal.τ).loc Cert.AdamDownAfterRefIdeal.main_arg3)
          ∧ r.2.mem ((c.tc : Thread Cert.AdamDownAfterRefIdeal.nD Cert.AdamDownAfterRefIdeal.τ).loc Cert.AdamDownAfterRefIdeal.main_arg4) = m' ((c.tc : Thread Cert.AdamDownAfterRefIdeal.nD Cert.AdamDownAfterRefIdeal.τ).loc Cert.AdamDownAfterRefIdeal.main_arg4))

def preserves_AdamUpAfter_AdamUpAfterIdeal : Prop :=
  True

def algebraic_AdamUpAfterIdeal_AdamUpAfterRefIdeal [hAdamUpAfterIdeal : Cert.AdamUpAfterIdeal.Facts] [hAdamUpAfterRefIdeal : Cert.AdamUpAfterRefIdeal.Facts] : Prop :=
  ∀ (m : (ℓ : Loc Cert.AdamUpAfterIdeal.nD Cert.AdamUpAfterIdeal.τ Cert.AdamUpAfterIdeal.sig) → Buf (Elt Ideal) ℓ) (g : Dev Cert.AdamUpAfterIdeal.nD → PrngReg)
    (m' : (ℓ : Loc Cert.AdamUpAfterRefIdeal.nD Cert.AdamUpAfterRefIdeal.τ Cert.AdamUpAfterRefIdeal.sig) → Buf (Elt Ideal) ℓ) (g' : Dev Cert.AdamUpAfterRefIdeal.nD → PrngReg), Pre_AdamUpAfterIdeal m →
    (∀ c : Dev Cert.AdamUpAfterIdeal.nD,
      m' ((c.tc : Thread Cert.AdamUpAfterRefIdeal.nD Cert.AdamUpAfterRefIdeal.τ).loc Cert.AdamUpAfterRefIdeal.main_arg0) = m ((c.tc : Thread Cert.AdamUpAfterIdeal.nD Cert.AdamUpAfterIdeal.τ).loc Cert.AdamUpAfterIdeal.main_arg0)
      ∧ m' ((c.tc : Thread Cert.AdamUpAfterRefIdeal.nD Cert.AdamUpAfterRefIdeal.τ).loc Cert.AdamUpAfterRefIdeal.main_arg1) = m ((c.tc : Thread Cert.AdamUpAfterIdeal.nD Cert.AdamUpAfterIdeal.τ).loc Cert.AdamUpAfterIdeal.main_arg1)
      ∧ m' ((c.tc : Thread Cert.AdamUpAfterRefIdeal.nD Cert.AdamUpAfterRefIdeal.τ).loc Cert.AdamUpAfterRefIdeal.main_arg2) = m ((c.tc : Thread Cert.AdamUpAfterIdeal.nD Cert.AdamUpAfterIdeal.τ).loc Cert.AdamUpAfterIdeal.main_arg2)
      ∧ m' ((c.tc : Thread Cert.AdamUpAfterRefIdeal.nD Cert.AdamUpAfterRefIdeal.τ).loc Cert.AdamUpAfterRefIdeal.main_arg3) = m ((c.tc : Thread Cert.AdamUpAfterIdeal.nD Cert.AdamUpAfterIdeal.τ).loc Cert.AdamUpAfterIdeal.main_arg3)
      ∧ m' ((c.tc : Thread Cert.AdamUpAfterRefIdeal.nD Cert.AdamUpAfterRefIdeal.τ).loc Cert.AdamUpAfterRefIdeal.main_arg4) = m ((c.tc : Thread Cert.AdamUpAfterIdeal.nD Cert.AdamUpAfterIdeal.τ).loc Cert.AdamUpAfterIdeal.main_arg4)) →
    ∃ (v0 : (c : Dev Cert.AdamUpAfterIdeal.nD) → Buf (Elt Ideal) ((c.tc : Thread Cert.AdamUpAfterIdeal.nD Cert.AdamUpAfterIdeal.τ).loc Cert.AdamUpAfterIdeal.main_v0_0)) (v1 : (c : Dev Cert.AdamUpAfterIdeal.nD) → Buf (Elt Ideal) ((c.tc : Thread Cert.AdamUpAfterIdeal.nD Cert.AdamUpAfterIdeal.τ).loc Cert.AdamUpAfterIdeal.main_v0_1)) (v2 : (c : Dev Cert.AdamUpAfterIdeal.nD) → Buf (Elt Ideal) ((c.tc : Thread Cert.AdamUpAfterIdeal.nD Cert.AdamUpAfterIdeal.τ).loc Cert.AdamUpAfterIdeal.main_v0_2)) (v3 : (c : Dev Cert.AdamUpAfterIdeal.nD) → Buf (Elt Ideal) ((c.tc : Thread Cert.AdamUpAfterIdeal.nD Cert.AdamUpAfterIdeal.τ).loc Cert.AdamUpAfterIdeal.main_v0_3)),
      θ_run (Cert.AdamUpAfterIdeal.defs (F := Ideal)) (onTc (τ := Cert.AdamUpAfterIdeal.τ) (Cert.AdamUpAfterIdeal.main (F := Ideal))) ⟨m, fun _ => 0, g⟩ (fun r => ∀ c : Dev Cert.AdamUpAfterIdeal.nD,
          r.2.mem ((c.tc : Thread Cert.AdamUpAfterIdeal.nD Cert.AdamUpAfterIdeal.τ).loc Cert.AdamUpAfterIdeal.main_v0_0) = v0 c
          ∧ r.2.mem ((c.tc : Thread Cert.AdamUpAfterIdeal.nD Cert.AdamUpAfterIdeal.τ).loc Cert.AdamUpAfterIdeal.main_v0_1) = v1 c
          ∧ r.2.mem ((c.tc : Thread Cert.AdamUpAfterIdeal.nD Cert.AdamUpAfterIdeal.τ).loc Cert.AdamUpAfterIdeal.main_v0_2) = v2 c
          ∧ r.2.mem ((c.tc : Thread Cert.AdamUpAfterIdeal.nD Cert.AdamUpAfterIdeal.τ).loc Cert.AdamUpAfterIdeal.main_v0_3) = v3 c
          ∧ r.2.mem ((c.tc : Thread Cert.AdamUpAfterIdeal.nD Cert.AdamUpAfterIdeal.τ).loc Cert.AdamUpAfterIdeal.main_arg0) = m ((c.tc : Thread Cert.AdamUpAfterIdeal.nD Cert.AdamUpAfterIdeal.τ).loc Cert.AdamUpAfterIdeal.main_arg0)
          ∧ r.2.mem ((c.tc : Thread Cert.AdamUpAfterIdeal.nD Cert.AdamUpAfterIdeal.τ).loc Cert.AdamUpAfterIdeal.main_arg1) = m ((c.tc : Thread Cert.AdamUpAfterIdeal.nD Cert.AdamUpAfterIdeal.τ).loc Cert.AdamUpAfterIdeal.main_arg1)
          ∧ r.2.mem ((c.tc : Thread Cert.AdamUpAfterIdeal.nD Cert.AdamUpAfterIdeal.τ).loc Cert.AdamUpAfterIdeal.main_arg2) = m ((c.tc : Thread Cert.AdamUpAfterIdeal.nD Cert.AdamUpAfterIdeal.τ).loc Cert.AdamUpAfterIdeal.main_arg2)
          ∧ r.2.mem ((c.tc : Thread Cert.AdamUpAfterIdeal.nD Cert.AdamUpAfterIdeal.τ).loc Cert.AdamUpAfterIdeal.main_arg3) = m ((c.tc : Thread Cert.AdamUpAfterIdeal.nD Cert.AdamUpAfterIdeal.τ).loc Cert.AdamUpAfterIdeal.main_arg3)
          ∧ r.2.mem ((c.tc : Thread Cert.AdamUpAfterIdeal.nD Cert.AdamUpAfterIdeal.τ).loc Cert.AdamUpAfterIdeal.main_arg4) = m ((c.tc : Thread Cert.AdamUpAfterIdeal.nD Cert.AdamUpAfterIdeal.τ).loc Cert.AdamUpAfterIdeal.main_arg4))
      ∧ θ_run (Cert.AdamUpAfterRefIdeal.defs (F := Ideal)) (onTc (τ := Cert.AdamUpAfterRefIdeal.τ) (Cert.AdamUpAfterRefIdeal.main (F := Ideal))) ⟨m', fun _ => 0, g'⟩ (fun r => ∀ c : Dev Cert.AdamUpAfterRefIdeal.nD,
          r.2.mem ((c.tc : Thread Cert.AdamUpAfterRefIdeal.nD Cert.AdamUpAfterRefIdeal.τ).loc Cert.AdamUpAfterRefIdeal.main_v1) = v0 c
          ∧ r.2.mem ((c.tc : Thread Cert.AdamUpAfterRefIdeal.nD Cert.AdamUpAfterRefIdeal.τ).loc Cert.AdamUpAfterRefIdeal.main_v25) = v1 c
          ∧ r.2.mem ((c.tc : Thread Cert.AdamUpAfterRefIdeal.nD Cert.AdamUpAfterRefIdeal.τ).loc Cert.AdamUpAfterRefIdeal.main_v6) = v2 c
          ∧ r.2.mem ((c.tc : Thread Cert.AdamUpAfterRefIdeal.nD Cert.AdamUpAfterRefIdeal.τ).loc Cert.AdamUpAfterRefIdeal.main_v12) = v3 c
          ∧ r.2.mem ((c.tc : Thread Cert.AdamUpAfterRefIdeal.nD Cert.AdamUpAfterRefIdeal.τ).loc Cert.AdamUpAfterRefIdeal.main_arg0) = m' ((c.tc : Thread Cert.AdamUpAfterRefIdeal.nD Cert.AdamUpAfterRefIdeal.τ).loc Cert.AdamUpAfterRefIdeal.main_arg0)
          ∧ r.2.mem ((c.tc : Thread Cert.AdamUpAfterRefIdeal.nD Cert.AdamUpAfterRefIdeal.τ).loc Cert.AdamUpAfterRefIdeal.main_arg1) = m' ((c.tc : Thread Cert.AdamUpAfterRefIdeal.nD Cert.AdamUpAfterRefIdeal.τ).loc Cert.AdamUpAfterRefIdeal.main_arg1)
          ∧ r.2.mem ((c.tc : Thread Cert.AdamUpAfterRefIdeal.nD Cert.AdamUpAfterRefIdeal.τ).loc Cert.AdamUpAfterRefIdeal.main_arg2) = m' ((c.tc : Thread Cert.AdamUpAfterRefIdeal.nD Cert.AdamUpAfterRefIdeal.τ).loc Cert.AdamUpAfterRefIdeal.main_arg2)
          ∧ r.2.mem ((c.tc : Thread Cert.AdamUpAfterRefIdeal.nD Cert.AdamUpAfterRefIdeal.τ).loc Cert.AdamUpAfterRefIdeal.main_arg3) = m' ((c.tc : Thread Cert.AdamUpAfterRefIdeal.nD Cert.AdamUpAfterRefIdeal.τ).loc Cert.AdamUpAfterRefIdeal.main_arg3)
          ∧ r.2.mem ((c.tc : Thread Cert.AdamUpAfterRefIdeal.nD Cert.AdamUpAfterRefIdeal.τ).loc Cert.AdamUpAfterRefIdeal.main_arg4) = m' ((c.tc : Thread Cert.AdamUpAfterRefIdeal.nD Cert.AdamUpAfterRefIdeal.τ).loc Cert.AdamUpAfterRefIdeal.main_arg4))

def Claim : Prop :=
  ∃ (hConv : Cert.Conv.Facts) (hConvIdeal : Cert.ConvIdeal.Facts) (hConvRefIdeal : Cert.ConvRefIdeal.Facts) (hXattn : Cert.Xattn.Facts) (hXattnIdeal : Cert.XattnIdeal.Facts) (hXattnRefIdeal : Cert.XattnRefIdeal.Facts) (hFfnUp : Cert.FfnUp.Facts) (hFfnUpIdeal : Cert.FfnUpIdeal.Facts) (hFfnUpRefIdeal : Cert.FfnUpRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwOut : Cert.DwOut.Facts) (hDwOutIdeal : Cert.DwOutIdeal.Facts) (hDwOutRefIdeal : Cert.DwOutRefIdeal.Facts) (hFfnFwd : Cert.FfnFwd.Facts) (hFfnFwdIdeal : Cert.FfnFwdIdeal.Facts) (hFfnFwdRefIdeal : Cert.FfnFwdRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hDownLoss : Cert.DownLoss.Facts) (hDownLossIdeal : Cert.DownLossIdeal.Facts) (hDownLossRefIdeal : Cert.DownLossRefIdeal.Facts) (hQBwd : Cert.QBwd.Facts) (hQBwdIdeal : Cert.QBwdIdeal.Facts) (hQBwdRefIdeal : Cert.QBwdRefIdeal.Facts) (hOutBwd : Cert.OutBwd.Facts) (hOutBwdIdeal : Cert.OutBwdIdeal.Facts) (hOutBwdRefIdeal : Cert.OutBwdRefIdeal.Facts) (hDwIn : Cert.DwIn.Facts) (hDwInIdeal : Cert.DwInIdeal.Facts) (hDwInRefIdeal : Cert.DwInRefIdeal.Facts) (hMemKv : Cert.MemKv.Facts) (hMemKvIdeal : Cert.MemKvIdeal.Facts) (hMemKvRefIdeal : Cert.MemKvRefIdeal.Facts) (hAdamDown : Cert.AdamDown.Facts) (hAdamDownIdeal : Cert.AdamDownIdeal.Facts) (hAdamDownRefIdeal : Cert.AdamDownRefIdeal.Facts) (hAdamSquare : Cert.AdamSquare.Facts) (hAdamSquareIdeal : Cert.AdamSquareIdeal.Facts) (hAdamSquareRefIdeal : Cert.AdamSquareRefIdeal.Facts) (hAdamUp : Cert.AdamUp.Facts) (hAdamUpIdeal : Cert.AdamUpIdeal.Facts) (hAdamUpRefIdeal : Cert.AdamUpRefIdeal.Facts) (hAdamIn : Cert.AdamIn.Facts) (hAdamInIdeal : Cert.AdamInIdeal.Facts) (hAdamInRefIdeal : Cert.AdamInRefIdeal.Facts) (hAdamKv : Cert.AdamKv.Facts) (hAdamKvIdeal : Cert.AdamKvIdeal.Facts) (hAdamKvRefIdeal : Cert.AdamKvRefIdeal.Facts) (hAdamSmall : Cert.AdamSmall.Facts) (hAdamSmallIdeal : Cert.AdamSmallIdeal.Facts) (hAdamSmallRefIdeal : Cert.AdamSmallRefIdeal.Facts) (hAdamDownAfter : Cert.AdamDownAfter.Facts) (hAdamDownAfterIdeal : Cert.AdamDownAfterIdeal.Facts) (hAdamDownAfterRefIdeal : Cert.AdamDownAfterRefIdeal.Facts) (hAdamUpAfter : Cert.AdamUpAfter.Facts) (hAdamUpAfterIdeal : Cert.AdamUpAfterIdeal.Facts) (hAdamUpAfterRefIdeal : Cert.AdamUpAfterRefIdeal.Facts) (hPre_finite2 : Cert.Pre_finite2.Facts),
    quiescent_Conv (hConv := hConv)
    ∧ quiescent_ConvIdeal (hConvIdeal := hConvIdeal)
    ∧ quiescent_ConvRefIdeal (hConvRefIdeal := hConvRefIdeal)
    ∧ quiescent_Xattn (hXattn := hXattn)
    ∧ quiescent_XattnIdeal (hXattnIdeal := hXattnIdeal)
    ∧ quiescent_XattnIdeal_pre_finite2 (hXattnIdeal := hXattnIdeal) (hPre_finite2 := hPre_finite2)
    ∧ quiescent_XattnRefIdeal (hXattnRefIdeal := hXattnRefIdeal)
    ∧ quiescent_XattnRefIdeal_pre_finite2 (hXattnRefIdeal := hXattnRefIdeal) (hPre_finite2 := hPre_finite2)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_QBwd (hQBwd := hQBwd)
    ∧ quiescent_QBwdIdeal (hQBwdIdeal := hQBwdIdeal)
    ∧ quiescent_QBwdRefIdeal (hQBwdRefIdeal := hQBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamDownAfter (hAdamDownAfter := hAdamDownAfter)
    ∧ quiescent_AdamDownAfterIdeal (hAdamDownAfterIdeal := hAdamDownAfterIdeal)
    ∧ quiescent_AdamDownAfterRefIdeal (hAdamDownAfterRefIdeal := hAdamDownAfterRefIdeal)
    ∧ quiescent_AdamUpAfter (hAdamUpAfter := hAdamUpAfter)
    ∧ quiescent_AdamUpAfterIdeal (hAdamUpAfterIdeal := hAdamUpAfterIdeal)
    ∧ quiescent_AdamUpAfterRefIdeal (hAdamUpAfterRefIdeal := hAdamUpAfterRefIdeal)
    ∧ preserves_Conv_ConvIdeal
    ∧ algebraic_ConvIdeal_ConvRefIdeal (hConvIdeal := hConvIdeal) (hConvRefIdeal := hConvRefIdeal)
    ∧ preserves_Xattn_XattnIdeal
    ∧ algebraic_XattnIdeal_XattnRefIdeal_pre_finite2 (hXattnIdeal := hXattnIdeal) (hXattnRefIdeal := hXattnRefIdeal) (hPre_finite2 := hPre_finite2)
    ∧ preserves_FfnUp_FfnUpIdeal
    ∧ algebraic_FfnUpIdeal_FfnUpRefIdeal (hFfnUpIdeal := hFfnUpIdeal) (hFfnUpRefIdeal := hFfnUpRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwOut_DwOutIdeal
    ∧ algebraic_DwOutIdeal_DwOutRefIdeal (hDwOutIdeal := hDwOutIdeal) (hDwOutRefIdeal := hDwOutRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_DownLoss_DownLossIdeal
    ∧ algebraic_DownLossIdeal_DownLossRefIdeal (hDownLossIdeal := hDownLossIdeal) (hDownLossRefIdeal := hDownLossRefIdeal)
    ∧ preserves_QBwd_QBwdIdeal
    ∧ algebraic_QBwdIdeal_QBwdRefIdeal (hQBwdIdeal := hQBwdIdeal) (hQBwdRefIdeal := hQBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_DwIn_DwInIdeal
    ∧ algebraic_DwInIdeal_DwInRefIdeal (hDwInIdeal := hDwInIdeal) (hDwInRefIdeal := hDwInRefIdeal)
    ∧ preserves_MemKv_MemKvIdeal
    ∧ algebraic_MemKvIdeal_MemKvRefIdeal (hMemKvIdeal := hMemKvIdeal) (hMemKvRefIdeal := hMemKvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamIn_AdamInIdeal
    ∧ algebraic_AdamInIdeal_AdamInRefIdeal (hAdamInIdeal := hAdamInIdeal) (hAdamInRefIdeal := hAdamInRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamDownAfter_AdamDownAfterIdeal
    ∧ algebraic_AdamDownAfterIdeal_AdamDownAfterRefIdeal (hAdamDownAfterIdeal := hAdamDownAfterIdeal) (hAdamDownAfterRefIdeal := hAdamDownAfterRefIdeal)
    ∧ preserves_AdamUpAfter_AdamUpAfterIdeal
    ∧ algebraic_AdamUpAfterIdeal_AdamUpAfterRefIdeal (hAdamUpAfterIdeal := hAdamUpAfterIdeal) (hAdamUpAfterRefIdeal := hAdamUpAfterRefIdeal)
-- ==== Pre_finite2.lean ====
abbrev S4096x1024 : Shape := ⟨2, ![4096, 1024]⟩
abbrev S1024x1024 : Shape := ⟨2, ![1024, 1024]⟩
abbrev S8x256x256 : Shape := ⟨3, ![8, 256, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S8x256x256 : S_.BroadcastsInDim S8x256x256 (![] : Fin 0 → Fin S8x256x256.rank)

variable [Facts]

def fn_part1 {F : FTy → Type} [FloatOps F] (main_v3 : IVec S4096x1024 1) (main_v7 : IVec S1024x1024 1) (main_v11 : IVec S8x256x256 1) (main_v15 : IVec S4096x1024 1) (main_v17 : FVec F S1024x1024 .f32) (main_v18 : FVec F S1024x1024 .f32) : IVec S4096x1024 1 × IVec S1024x1024 1 × IVec S8x256x256 1 × IVec S4096x1024 1 × IVec S1024x1024 1 :=
  let main_v19 : IVec S1024x1024 1 := cmpf .olt main_v17 main_v18
  (main_v3, main_v7, main_v11, main_v15, main_v19)

def fn {F : FTy → Type} [FloatOps F] (main_arg0 : FVec F S4096x1024 .bf16) (main_arg1 : FVec F S1024x1024 .bf16) (main_arg2 : FVec F S8x256x256 .bf16) (main_arg3 : FVec F S4096x1024 .bf16) (main_arg4 : FVec F S1024x1024 .bf16) : IVec S4096x1024 1 × IVec S1024x1024 1 × IVec S8x256x256 1 × IVec S4096x1024 1 × IVec S1024x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8x256x256 .f32 := (extf .f32 · bitsLt_bf16_f32) main_arg2
  let main_v9 : FVec F S8x256x256 .f32 := Host.absf main_v8
  let main_cst_1 : FVec F S_ .f32 := constant S_ .f32 0x7F800000#32
  let main_v10 : FVec F S8x256x256 .f32 := broadcastInDim S8x256x256 ![] bcast_S_S8x256x256 main_cst_1
  let main_v11 : IVec S8x256x256 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : FVec F S1024x1024 .f32 := (extf .f32 · bitsLt_bf16_f32) main_arg4
  let main_v17 : FVec F S1024x1024 .f32 := Host.absf main_v16
  let main_cst_3 : FVec F S_ .f32 := constant S_ .f32 0x7F800000#32
  let main_v18 : FVec F S1024x1024 .f32 := broadcastInDim S1024x1024 ![] bcast_S_S1024x1024 main_cst_3
  fn_part1 (F := F) main_v3 main_v7 main_v11 main_v15 main_v17 main_v18
-- ==== Conv.lean ====
abbrev S4096x1024 : Shape := ⟨2, ![4096, 1024]⟩
abbrev S5x4096x1024 : Shape := ⟨3, ![5, 4096, 1024]⟩
abbrev S8x1024 : Shape := ⟨2, ![8, 1024]⟩
abbrev S256x1024 : Shape := ⟨2, ![256, 1024]⟩
abbrev S5x256x1024 : Shape := ⟨3, ![5, 256, 1024]⟩
abbrev S5x16x1024 : Shape := ⟨3, ![5, 16, 1024]⟩
abbrev S16x1024 : Shape := ⟨2, ![16, 1024]⟩
abbrev S1x256x1024 : Shape := ⟨3, ![1, 256, 1024]⟩
abbrev S1x16x1024 : Shape := ⟨3, ![1, 16, 1024]⟩
abbrev S1x1024 : Shape := ⟨2, ![1, 1024]⟩
abbrev S1024 : Shape := ⟨1, ![1024]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S5x4096x1024, .bf16⟩
  | .hbm, ⟨2, _⟩ => ⟨S4096x1024, .bf16⟩
  | .hbm, ⟨3, _⟩ => ⟨S8x1024, .f32⟩
  | .hbm, ⟨4, _⟩ => ⟨S4096x1024, .bf16⟩
  | .hbm, ⟨5, _⟩ => ⟨S5x4096x1024, .bf16⟩
  | .hbm, ⟨6, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S5x256x1024, .bf16⟩
  | .local _ .vmem, ⟨3, _⟩ => ⟨S5x256x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S5x16x1024, .bf16⟩
  | .local _ .vmem, ⟨8, _⟩ => ⟨S5x16x1024, .bf16⟩
  | .local _ .vmem, ⟨9, _⟩ => ⟨S5x16x1024, .bf16⟩
  | .local _ .vmem, ⟨10, _⟩ => ⟨S5x16x1024, .bf16⟩
  | .local _ .vmem, ⟨11, _⟩ => ⟨S16x1024, .bf16⟩
  | .local _ .vmem, ⟨12, _⟩ => ⟨S16x1024, .bf16⟩
  | .local _ .vmem, ⟨13, _⟩ => ⟨S256x1024, .bf16⟩
  | .local _ .vmem, ⟨14, _⟩ => ⟨S256x1024, .bf16⟩
  | .local _ .vmem, ⟨15, _⟩ => ⟨S5x256x1024, .bf16⟩
  | .local _ .vmem, ⟨16, _⟩ => ⟨S5x256x1024, .bf16⟩
  | .local _ .vmem, ⟨17, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S5x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S5x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S5x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ConvRefIdeal.lean ====
abbrev S4096x1024 : Shape := ⟨2, ![4096, 1024]⟩
abbrev S5x4096x1024 : Shape := ⟨3, ![5, 4096, 1024]⟩
abbrev S8x1024 : Shape := ⟨2, ![8, 1024]⟩
abbrev S3x1024 : Shape := ⟨2, ![3, 1024]⟩
abbrev S1x4096x1024 : Shape := ⟨3, ![1, 4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S5x1024 : Shape := ⟨2, ![5, 1024]⟩

abbrev nBuf : Space → Nat
  | .hbm => 154
  | .vmem => 0
  | .smem => 0
  | _ => 0

abbrev hbmTy0_0 (i : Nat) : BufTy := match i % 128 with
  | 0 => ⟨S4096x1024, .bf16⟩
  | 1 => ⟨S5x4096x1024, .bf16⟩
  | 2 => ⟨S4096x1024, .bf16⟩
  | 3 => ⟨S8x1024, .f32⟩
  | 4 => ⟨S5x4096x1024, .f32⟩
  | 5 => ⟨S4096x1024, .f32⟩
  | 6 => ⟨S3x1024, .f32⟩
  | 7 => ⟨S1x4096x1024, .f32⟩
  | 8 => ⟨S4096x1024, .f32⟩
  | 9 => ⟨S1x4096x1024, .f32⟩
  | 10 => ⟨S4096x1024, .f32⟩
  | 11 => ⟨S1x4096x1024, .f32⟩
  | 12 => ⟨S4096x1024, .f32⟩
  | 13 => ⟨S1x4096x1024, .f32⟩
  | 14 => ⟨S4096x1024, .f32⟩
  | 15 => ⟨S1x4096x1024, .f32⟩
  | 16 => ⟨S4096x1024, .f32⟩
  | 17 => ⟨S4096x1024, .f32⟩
  | 18 => ⟨S_, .f32⟩
  | 19 => ⟨S2x1024, .f32⟩
  | 20 => ⟨S4098x1024, .f32⟩
  | 21 => ⟨S_, .f32⟩
  | 22 => ⟨S2x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S_, .f32⟩
  | 92 => ⟨S4098x1024, .f32⟩
  | 93 => ⟨S1x1024, .f32⟩
  | 94 => ⟨S_, .f32⟩
  | 95 => ⟨S3x1024, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S_, .f32⟩
  | 103 => ⟨S1024, .f32⟩
  | 104 => ⟨S_, .f32⟩
  | 105 => ⟨S4098x1024, .f32⟩
  | 106 => ⟨S4098x1024, .f32⟩
  | 107 => ⟨S1x1024, .f32⟩
  | 108 => ⟨S_, .f32⟩
  | 109 => ⟨S3x1024, .f32⟩
  | 110 => ⟨S3x1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S_, .f32⟩
  | 120 => ⟨S4098x1024, .f32⟩
  | 121 => ⟨S4098x1024, .f32⟩
  | 122 => ⟨S1x1024, .f32⟩
  | 123 => ⟨S_, .f32⟩
  | 124 => ⟨S3x1024, .f32⟩
  | 125 => ⟨S3x1024, .f32⟩
  | 126 => ⟨S2x1024, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S4096x1024, .f32⟩
  | 2 => ⟨S1x4096x1024, .f32⟩
  | 3 => ⟨S_, .f32⟩
  | 4 => ⟨S5x4096x1024, .f32⟩
  | 5 => ⟨S1x4096x1024, .f32⟩
  | 6 => ⟨S_, .f32⟩
  | 7 => ⟨S5x4096x1024, .f32⟩
  | 8 => ⟨S5x4096x1024, .f32⟩
  | 9 => ⟨S1x4096x1024, .f32⟩
  | 10 => ⟨S_, .f32⟩
  | 11 => ⟨S5x4096x1024, .f32⟩
  | 12 => ⟨S5x4096x1024, .f32⟩
  | 13 => ⟨S1x4096x1024, .f32⟩
  | 14 => ⟨S_, .f32⟩
  | 15 => ⟨S5x4096x1024, .f32⟩
  | 16 => ⟨S5x4096x1024, .f32⟩
  | 17 => ⟨S1x4096x1024, .f32⟩
  | 18 => ⟨S_, .f32⟩
  | 19 => ⟨S5x4096x1024, .f32⟩
  | 20 => ⟨S5x4096x1024, .f32⟩
  | 21 => ⟨S4096x1024, .bf16⟩
  | 22 => ⟨S5x4096x1024, .bf16⟩
  | 23 => ⟨S_, .f32⟩
  | 24 => ⟨S5x1024, .f32⟩
  | 25 => ⟨S8x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_8 : Ref sig .tc := ⟨.hbm, 86, rfl⟩
abbrev main_v73 : Ref sig .tc := ⟨.hbm, 87, rfl⟩
abbrev main_v74 : Ref sig .tc := ⟨.hbm, 88, rfl⟩
abbrev main_cst_9 : Ref sig .tc := ⟨.hbm, 89, rfl⟩
abbrev main_v75 : Ref sig .tc := ⟨.hbm, 90, rfl⟩
abbrev main_cst_10 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_12 : Ref sig .tc := ⟨.hbm, 99, rfl⟩
abbrev main_v82 : Ref sig .tc := ⟨.hbm, 100, rfl⟩
abbrev main_v83 : Ref sig .tc := ⟨.hbm, 101, rfl⟩
abbrev main_cst_13 : Ref sig .tc := ⟨.hbm, 102, rfl⟩
abbrev main_v84 : Ref sig .tc := ⟨.hbm, 103, rfl⟩
abbrev main_cst_14 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_15 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_16 : Ref sig .tc := ⟨.hbm, 114, rfl⟩
abbrev main_v93 : Ref sig .tc := ⟨.hbm, 115, rfl⟩
abbrev main_v94 : Ref sig .tc := ⟨.hbm, 116, rfl⟩
abbrev main_cst_17 : Ref sig .tc := ⟨.hbm, 117, rfl⟩
abbrev main_v95 : Ref sig .tc := ⟨.hbm, 118, rfl⟩
abbrev main_cst_18 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_19 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_20 : Ref sig .tc := ⟨.hbm, 131, rfl⟩
abbrev main_v106 : Ref sig .tc := ⟨.hbm, 132, rfl⟩
abbrev main_v107 : Ref sig .tc := ⟨.hbm, 133, rfl⟩
abbrev main_cst_21 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_22 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_23 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_24 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_25 : Ref sig .tc := ⟨.hbm, 151, rfl⟩
abbrev main_v121 : Ref sig .tc := ⟨.hbm, 152, rfl⟩
abbrev main_v122 : Ref sig .tc := ⟨.hbm, 153, rfl⟩

abbrev nD : Nat := 1
abbrev τ : Topo := Topo.v7x

variable {F : FTy → Type} [FloatOps F]
-- ==== Xattn.lean ====
abbrev S4096x1024 : Shape := ⟨2, ![4096, 1024]⟩
abbrev S1024x1024 : Shape := ⟨2, ![1024, 1024]⟩
abbrev S8x256x256 : Shape := ⟨3, ![8, 256, 256]⟩
abbrev S4096x128 : Shape := ⟨2, ![4096, 128]⟩
abbrev S1024x128 : Shape := ⟨2, ![1024, 128]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 10
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x256x256, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x128, .f32⟩
  | .hbm, ⟨8, _⟩ => ⟨S4096x1024, .bf16⟩
  | .hbm, ⟨9, _⟩ => ⟨S8x256x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x256x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S8x256x256, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S1024x1024, .bf16⟩
  | .local _ .vmem, ⟨22, _⟩ => ⟨S8x256x256, .f32⟩
  | .local _ .vmem, ⟨23, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== XattnRefIdeal.lean ====
abbrev S4096x1024 : Shape := ⟨2, ![4096, 1024]⟩
abbrev S1024x1024 : Shape := ⟨2, ![1024, 1024]⟩
abbrev S8x256x256 : Shape := ⟨3, ![8, 256, 256]⟩
abbrev S4096x4x256 : Shape := ⟨3, ![4096, 4, 256]⟩
abbrev S4x256x256 : Shape := ⟨3, ![4, 256, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x256x256, .bf16⟩
  | .hbm, ⟨3, _⟩ => ⟨S4096x1024, .bf16⟩
  | .hbm, ⟨4, _⟩ => ⟨S1024x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S8x256x256, .f32⟩
  | .hbm, ⟨11, _⟩ => ⟨S1024x1024, .f32⟩
  | .hbm, ⟨12, _⟩ => ⟨S4096x4x256, .f32⟩
  | .hbm, ⟨13, _⟩ => ⟨S4x256x256, .f32⟩
  | .hbm, ⟨14, _⟩ => ⟨S4x256x256, .f32⟩
  | .hbm, ⟨15, _⟩ => ⟨S4x4096x256, .f32⟩
  | .hbm, ⟨16, _⟩ => ⟨S_, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .i1⟩
  | .hbm, ⟨24, _⟩ => ⟨S4x4096x256, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .i1⟩
  | .hbm, ⟨33, _⟩ => ⟨S_, .f32⟩
  | .hbm, ⟨34, _⟩ => ⟨S4x4096, .f32⟩
  | .hbm, ⟨35, _⟩ => ⟨S4x4096, .i1⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S4x4096, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x256, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S4x4096x256, .f32⟩
  | .hbm, ⟨52, _⟩ => ⟨S4x4096x256, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x256x4096, .f32⟩
  | .hbm, ⟨58, _⟩ => ⟨S4096x4x256, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x4x256, .f32⟩
  | .hbm, ⟨64, _⟩ => ⟨S4x256x4096, .f32⟩
  | .hbm, ⟨65, _⟩ => ⟨S4x4096x256, .f32⟩
  | .hbm, ⟨66, _⟩ => ⟨S4x256x256, .f32⟩
  | .hbm, ⟨67, _⟩ => ⟨S4x256x256, .f32⟩
  | .hbm, ⟨68, _⟩ => ⟨S4x4096x256, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S4x4096x1, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096, .f32⟩
  | .hbm, ⟨79, _⟩ => ⟨S4x4096x256, .f32⟩
  | .hbm, ⟨80, _⟩ => ⟨S4x4096x256, .f32⟩
  | .hbm, ⟨81, _⟩ => ⟨S4x4096x256, .f32⟩
  | .hbm, ⟨82, _⟩ => ⟨S_, .f32⟩
  | .hbm, ⟨83, _⟩ => ⟨S4x4096x256, .f32⟩
  | .hbm, ⟨84, _⟩ => ⟨S4x4096x256, .f32⟩
  | .hbm, ⟨85, _⟩ => ⟨S4x256x256, .f32⟩
  | .hbm, ⟨86, _⟩ => ⟨S4x4096x256, .f32⟩
  | .hbm, ⟨87, _⟩ => ⟨S4096x4x256, .f32⟩
  | .hbm, ⟨88, _⟩ => ⟨S_, .f32⟩
  | .hbm, ⟨89, _⟩ => ⟨S8x256x256, .f32⟩
  | .hbm, ⟨90, _⟩ => ⟨S_, .f32⟩
  | .hbm, ⟨91, _⟩ => ⟨S8x256x256, .f32⟩
  | .hbm, ⟨92, _⟩ => ⟨S8x256x256, .f32⟩
  | .hbm, ⟨93, _⟩ => ⟨S4096x1024, .f32⟩
  | .hbm, ⟨94, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== FfnUp.lean ====
abbrev S8x4096x704 : Shape := ⟨3, ![8, 4096, 704]⟩
abbrev S8x704x1024 : Shape := ⟨3, ![8, 704, 1024]⟩
abbrev S4096x1024 : Shape := ⟨2, ![4096, 1024]⟩
abbrev S1x1024 : Shape := ⟨2, ![1, 1024]⟩
abbrev S8x128 : Shape := ⟨2, ![8, 128]⟩
abbrev S8x512x704 : Shape := ⟨3, ![8, 512, 704]⟩
abbrev S512x1024 : Shape := ⟨2, ![512, 1024]⟩
abbrev S_ : Shape := ⟨0, ![]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8x4096x704, .bf16⟩
  | .hbm, ⟨1, _⟩ => ⟨S8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S8x512x704, .bf16⟩
  | .local _ .vmem, ⟨1, _⟩ => ⟨S8x512x704, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x704x1024, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnUpRefIdeal.lean ====
abbrev S8x4096x704 : Shape := ⟨3, ![8, 4096, 704]⟩
abbrev S8x704x1024 : Shape := ⟨3, ![8, 704, 1024]⟩
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S8x704x4096 : Shape := ⟨3, ![8, 704, 4096]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S8x704x1024, .f32⟩
  | .hbm, ⟨26, _⟩ => ⟨S8x704x4096, .f32⟩
  | .hbm, ⟨27, _⟩ => ⟨S8x4096x704, .f32⟩
  | .hbm, ⟨28, _⟩ => ⟨S_, .f32⟩
  | .hbm, ⟨29, _⟩ => ⟨S8x4096x704, .f32⟩
  | .hbm, ⟨30, _⟩ => ⟨S8x4096x704, .f32⟩
  | .hbm, ⟨31, _⟩ => ⟨S8x4096x704, .f32⟩
  | .hbm, ⟨32, _⟩ => ⟨S_, .f32⟩
  | .hbm, ⟨33, _⟩ => ⟨S8x4096x704, .f32⟩
  | .hbm, ⟨34, _⟩ => ⟨S8x4096x704, .f32⟩
  | .hbm, ⟨35, _⟩ => ⟨S8x704x4096, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== DwDown.lean ====
abbrev S4x4096x704 : Shape := ⟨3, ![4, 4096, 704]⟩
abbrev S4096x1024 : Shape := ⟨2, ![4096, 1024]⟩
abbrev S1x4096x1024 : Shape := ⟨3, ![1, 4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S1x4096x1024, .bf16⟩
  | .hbm, ⟨3, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownRefIdeal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4x4096x704, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x4x704, .f32⟩
  | .hbm, ⟨14, _⟩ => ⟨S4x704x1024, .f32⟩
  | .hbm, ⟨15, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DwUp.lean ====
abbrev S8x4096x704 : Shape := ⟨3, ![8, 4096, 704]⟩
abbrev S4096x1024 : Shape := ⟨2, ![4096, 1024]⟩
abbrev S1x4096x1024 : Shape := ⟨3, ![1, 4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S1x4096x1024, .bf16⟩
  | .hbm, ⟨3, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x704x1024, .bf16⟩
  | .local _ .vmem, ⟨4, _⟩ => ⟨S1x704x1024, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S8x4096x704 : Shape := ⟨3, ![8, 4096, 704]⟩
abbrev S4096x1024 : Shape := ⟨2, ![4096, 1024]⟩
abbrev S_ : Shape := ⟨0, ![]⟩
abbrev S8x704x1024 : Shape := ⟨3, ![8, 704, 1024]⟩
abbrev S8x704x4096 : Shape := ⟨3, ![8, 704, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S_, .f32⟩
  | .hbm, ⟨3, _⟩ => ⟨S8x704x1024, .f32⟩
  | .hbm, ⟨4, _⟩ => ⟨S4096x1024, .f32⟩
  | .hbm, ⟨5, _⟩ => ⟨S8x704x4096, .f32⟩
  | .hbm, ⟨6, _⟩ => ⟨S8x4096x704, .f32⟩
  | .hbm, ⟨7, _⟩ => ⟨S_, .f32⟩
  | .hbm, ⟨8, _⟩ => ⟨S8x4096x704, .f32⟩
  | .hbm, ⟨9, _⟩ => ⟨S8x4096x704, .f32⟩
  | .hbm, ⟨10, _⟩ => ⟨S8x4096x704, .f32⟩
  | .hbm, ⟨11, _⟩ => ⟨S_, .f32⟩
  | .hbm, ⟨12, _⟩ => ⟨S8x4096x704, .f32⟩
  | .hbm, ⟨13, _⟩ => ⟨S8x4096x704, .f32⟩
  | .hbm, ⟨14, _⟩ => ⟨S8x704x4096, .f32⟩
  | .hbm, ⟨15, _⟩ => ⟨S8x704x1024, .f32⟩
  | .hbm, ⟨16, _⟩ => ⟨S8x704x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== DwOut.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x4096x1024, .bf16⟩
  | .hbm, ⟨4, _⟩ => ⟨S1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwOutRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnFwd.lean ====
abbrev S4096x1024 : Shape := ⟨2, ![4096, 1024]⟩
abbrev S2x4x704x1024 : Shape := ⟨4, ![2, 4, 704, 1024]⟩
abbrev S2x4x4096x704 : Shape := ⟨4, ![2, 4, 4096, 704]⟩
abbrev S4x4096x704 : Shape := ⟨3, ![4, 4096, 704]⟩
abbrev S512x1024 : Shape := ⟨2, ![512, 1024]⟩
abbrev S2x4x512x704 : Shape := ⟨4, ![2, 4, 512, 704]⟩
abbrev S4x512x704 : Shape := ⟨3, ![4, 512, 704]⟩
abbrev S_ : Shape := ⟨0, ![]⟩
abbrev S256x1024 : Shape := ⟨2, ![256, 1024]⟩
abbrev S1x1x704x1024 : Shape := ⟨4, ![1, 1, 704, 1024]⟩
abbrev S704x1024 : Shape := ⟨2, ![704, 1024]⟩
abbrev S256x704 : Shape := ⟨2, ![256, 704]⟩
abbrev S1x1x256x704 : Shape := ⟨4, ![1, 1, 256, 704]⟩
abbrev S1x256x704 : Shape := ⟨3, ![1, 256, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4x704x1024, .bf16⟩
  | .hbm, ⟨2, _⟩ => ⟨S2x4x4096x704, .bf16⟩
  | .hbm, ⟨3, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S2x4x512x704, .bf16⟩
  | .local _ .vmem, ⟨3, _⟩ => ⟨S2x4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S2x4x704x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnFwdRefIdeal.lean ====
abbrev S4096x1024 : Shape := ⟨2, ![4096, 1024]⟩
abbrev S2x4x704x1024 : Shape := ⟨4, ![2, 4, 704, 1024]⟩
abbrev S2x4x704x4096 : Shape := ⟨4, ![2, 4, 704, 4096]⟩
abbrev S2x4x4096x704 : Shape := ⟨4, ![2, 4, 4096, 704]⟩
abbrev S1x4x4096x704 : Shape := ⟨4, ![1, 4, 4096, 704]⟩
abbrev S4x4096x704 : Shape := ⟨3, ![4, 4096, 704]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4x704x1024, .bf16⟩
  | .hbm, ⟨2, _⟩ => ⟨S4096x1024, .f32⟩
  | .hbm, ⟨3, _⟩ => ⟨S2x4x704x1024, .f32⟩
  | .hbm, ⟨4, _⟩ => ⟨S2x4x704x4096, .f32⟩
  | .hbm, ⟨5, _⟩ => ⟨S2x4x4096x704, .f32⟩
  | .hbm, ⟨6, _⟩ => ⟨S1x4x4096x704, .f32⟩
  | .hbm, ⟨7, _⟩ => ⟨S4x4096x704, .f32⟩
  | .hbm, ⟨8, _⟩ => ⟨S1x4x4096x704, .f32⟩
  | .hbm, ⟨9, _⟩ => ⟨S4x4096x704, .f32⟩
  | .hbm, ⟨10, _⟩ => ⟨S1x4x4096x704, .f32⟩
  | .hbm, ⟨11, _⟩ => ⟨S1x4x4096x704, .f32⟩
  | .hbm, ⟨12, _⟩ => ⟨S2x4x4096x704, .f32⟩
  | .hbm, ⟨13, _⟩ => ⟨S2x4x4096x704, .bf16⟩
  | .hbm, ⟨14, _⟩ => ⟨S4x4096x704, .f32⟩
  | .hbm, ⟨15, _⟩ => ⟨S4x4096x704, .f32⟩
  | .hbm, ⟨16, _⟩ => ⟨S_, .f32⟩
  | .hbm, ⟨17, _⟩ => ⟨S4x4096x704, .f32⟩
  | .hbm, ⟨18, _⟩ => ⟨S4x4096x704, .f32⟩
  | .hbm, ⟨19, _⟩ => ⟨S_, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== DownFwd.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownFwdRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4x704x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x4096x1024, .bf16⟩
  | .hbm, ⟨5, _⟩ => ⟨S1x1024x1024, .bf16⟩
  | .hbm, ⟨6, _⟩ => ⟨S4096x1024, .f32⟩
  | .hbm, ⟨7, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DownLoss.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S8x128 : Shape := ⟨2, ![8, 128]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x128, .f32⟩
  | .hbm, ⟨8, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x4096x704, .f32⟩
  | .hbm, ⟨6, _⟩ => ⟨S4x704x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S8x128, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== QBwd.lean ====
abbrev S4096x1024 : Shape := ⟨2, ![4096, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x4096x1024, .bf16⟩
  | .hbm, ⟨6, _⟩ => ⟨S1x1024x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QBwdRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x4096x1024, .bf16⟩
  | .hbm, ⟨3, _⟩ => ⟨S1x1024x1024, .bf16⟩
  | .hbm, ⟨4, _⟩ => ⟨S4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBwdRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S5x4096x1024 : Shape := ⟨3, ![5, 4096, 1024]⟩
abbrev S4096x1024 : Shape := ⟨2, ![4096, 1024]⟩
abbrev S4096x512 : Shape := ⟨2, ![4096, 512]⟩
abbrev S6656x1024 : Shape := ⟨2, ![6656, 1024]⟩
abbrev S1x4096x512 : Shape := ⟨3, ![1, 4096, 512]⟩
abbrev S512x1024 : Shape := ⟨2, ![512, 1024]⟩
abbrev S1x4096x1024 : Shape := ⟨3, ![1, 4096, 1024]⟩

abbrev nBuf : Space → Nat
  | .hbm => 9
  | .vmem => 13
  | .smem => 0
  | _ => 0

abbrev bufTy : (tb : Table) → Fin (tcTables nBuf tb) → BufTy
  | .hbm, ⟨0, _⟩ => ⟨S5x4096x1024, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S6656x1024, .bf16⟩
  | .hbm, ⟨5, _⟩ => ⟨S1x4096x1024, .bf16⟩
  | .hbm, ⟨6, _⟩ => ⟨S6656x1024, .bf16⟩
  | .hbm, ⟨7, _⟩ => ⟨S1x4096x512, .bf16⟩
  | .hbm, ⟨8, _⟩ => ⟨S6656x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S1x4096x512, .bf16⟩
  | .local _ .vmem, ⟨6, _⟩ => ⟨S1x4096x512, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S1x4096x512, .bf16⟩
  | .local _ .vmem, ⟨11, _⟩ => ⟨S4096x1024, .bf16⟩
  | .local _ .vmem, ⟨12, _⟩ => ⟨S512x1024, .bf16⟩
  | _, _ => ⟨S5x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨2, ![5, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c3_i32 : BitVec 32 := 3#32
  let v1 : BitVec 32 := Scalar.addi c3_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage1_0 : Fin 2 → Memref sig .tc .vmem S1x4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2_i32 : BitVec 32 := 2#32
  let v1 : BitVec 32 := Scalar.addi c2_i32 v0
  let v2 : BitVec 32 := Scalar.addi v1 arg1
  let c0_i32 : BitVec 32 := 0#32
  let c0_i32_0 : BitVec 32 := 0#32
  ![v2.toNat, c0_i32.toNat]

abbrev stage2_0 : Fin 1 → Memref sig .tc .vmem S1x4096x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]
-- ==== DwInRefIdeal.lean ====
abbrev S5x4096x1024 : Shape := ⟨3, ![5, 4096, 1024]⟩
abbrev S4096x1024 : Shape := ⟨2, ![4096, 1024]⟩
abbrev S4096x512 : Shape := ⟨2, ![4096, 512]⟩
abbrev S_ : Shape := ⟨0, ![]⟩
abbrev S6656x1024 : Shape := ⟨2, ![6656, 1024]⟩
abbrev S1024x6656 : Shape := ⟨2, ![1024, 6656]⟩
abbrev S4096x6656 : Shape := ⟨2, ![4096, 6656]⟩
abbrev S4096x5120 : Shape := ⟨2, ![4096, 5120]⟩
abbrev S4096x5x1024 : Shape := ⟨3, ![4096, 5, 1024]⟩

abbrev nBuf : Space → Nat
  | .hbm => 31
  | .vmem => 0
  | .smem => 0
  | _ => 0

abbrev bufTy : (tb : Table) → Fin (tcTables nBuf tb) → BufTy
  | .hbm, ⟨0, _⟩ => ⟨S5x4096x1024, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S5x4096x1024, .f32⟩
  | .hbm, ⟨5, _⟩ => ⟨S4096x1024, .f32⟩
  | .hbm, ⟨6, _⟩ => ⟨S4096x512, .f32⟩
  | .hbm, ⟨7, _⟩ => ⟨S_, .f32⟩
  | .hbm, ⟨8, _⟩ => ⟨S6656x1024, .f32⟩
  | .hbm, ⟨9, _⟩ => ⟨S4096x1024, .f32⟩
  | .hbm, ⟨10, _⟩ => ⟨S1024x6656, .f32⟩
  | .hbm, ⟨11, _⟩ => ⟨S4096x6656, .f32⟩
  | .hbm, ⟨12, _⟩ => ⟨S4096x5120, .f32⟩
  | .hbm, ⟨13, _⟩ => ⟨S4096x5x1024, .f32⟩
  | .hbm, ⟨14, _⟩ => ⟨S5x4096x1024, .f32⟩
  | .hbm, ⟨15, _⟩ => ⟨S4096x1024, .f32⟩
  | .hbm, ⟨16, _⟩ => ⟨S4096x512, .f32⟩
  | .hbm, ⟨17, _⟩ => ⟨S_, .f32⟩
  | .hbm, ⟨18, _⟩ => ⟨S4096x6656, .f32⟩
  | .hbm, ⟨19, _⟩ => ⟨S_, .f32⟩
  | .hbm, ⟨20, _⟩ => ⟨S4096x6656, .f32⟩
  | .hbm, ⟨21, _⟩ => ⟨S4096x6656, .f32⟩
  | .hbm, ⟨22, _⟩ => ⟨S4096x5x1024, .f32⟩
  | .hbm, ⟨23, _⟩ => ⟨S4096x5120, .f32⟩
  | .hbm, ⟨24, _⟩ => ⟨S_, .f32⟩
  | .hbm, ⟨25, _⟩ => ⟨S4096x6656, .f32⟩
  | .hbm, ⟨26, _⟩ => ⟨S4096x6656, .f32⟩
  | .hbm, ⟨27, _⟩ => ⟨S6656x1024, .f32⟩
  | .hbm, ⟨28, _⟩ => ⟨S1024x6656, .f32⟩
  | .hbm, ⟨29, _⟩ => ⟨S6656x1024, .f32⟩
  | .hbm, ⟨30, _⟩ => ⟨S6656x1024, .bf16⟩
  | _, _ => ⟨S5x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S8x1024x256 : Shape := ⟨3, ![8, 1024, 256]⟩
abbrev S8x256x256 : Shape := ⟨3, ![8, 256, 256]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S8x1024x256, .bf16⟩
  | .hbm, ⟨3, _⟩ => ⟨S8x256x256, .f32⟩
  | .hbm, ⟨4, _⟩ => ⟨S256x1024, .bf16⟩
  | .hbm, ⟨5, _⟩ => ⟨S8x256x256, .bf16⟩
  | .hbm, ⟨6, _⟩ => ⟨S8x1024x256, .bf16⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x1024, .bf16⟩
  | .local _ .vmem, ⟨4, _⟩ => ⟨S8x256x256, .bf16⟩
  | .local _ .vmem, ⟨5, _⟩ => ⟨S8x256x256, .f32⟩
  | .local _ .vmem, ⟨6, _⟩ => ⟨S256x1024, .bf16⟩
  | .local _ .vmem, ⟨7, _⟩ => ⟨S8x1024x256, .bf16⟩
  | .local _ .vmem, ⟨8, _⟩ => ⟨S256x1024, .f32⟩
  | .local _ .vmem, ⟨9, _⟩ => ⟨S8x1024x256, .bf16⟩
  | .local _ .vmem, ⟨10, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== MemKvRefIdeal.lean ====
abbrev S256x1024 : Shape := ⟨2, ![256, 1024]⟩
abbrev S1x1024 : Shape := ⟨2, ![1, 1024]⟩
abbrev S8x1024x256 : Shape := ⟨3, ![8, 1024, 256]⟩
abbrev S8x256x256 : Shape := ⟨3, ![8, 256, 256]⟩
abbrev S_ : Shape := ⟨0, ![]⟩
abbrev S256 : Shape := ⟨1, ![256]⟩
abbrev S256x1 : Shape := ⟨2, ![256, 1]⟩
abbrev S8x256x1024 : Shape := ⟨3, ![8, 256, 1024]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S8x1024x256, .bf16⟩
  | .hbm, ⟨3, _⟩ => ⟨S8x256x256, .f32⟩
  | .hbm, ⟨4, _⟩ => ⟨S8x1024x256, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S8x256x256, .f32⟩
  | .hbm, ⟨21, _⟩ => ⟨S8x256x256, .f32⟩
  | .hbm, ⟨22, _⟩ => ⟨S8x256x256, .f32⟩
  | .hbm, ⟨23, _⟩ => ⟨S256x1024, .f32⟩
  | .hbm, ⟨24, _⟩ => ⟨S8x256x1024, .f32⟩
  | .hbm, ⟨25, _⟩ => ⟨S8x1024x256, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S256x1, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | .hbm, ⟨46, _⟩ => ⟨S8x256x256, .bf16⟩
  | .hbm, ⟨47, _⟩ => ⟨S8x1024x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSquare.lean ====
abbrev S8x128x1024 : Shape := ⟨3, ![8, 128, 1024]⟩
abbrev S128x1024 : Shape := ⟨2, ![128, 1024]⟩
abbrev S8x128 : Shape := ⟨2, ![8, 128]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamSquareIdeal.lean ====
abbrev S8x128x1024 : Shape := ⟨3, ![8, 128, 1024]⟩
abbrev S128x1024 : Shape := ⟨2, ![128, 1024]⟩
abbrev S8x128 : Shape := ⟨2, ![8, 128]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamSquareRefIdeal.lean ====
abbrev S8x128x1024 : Shape := ⟨3, ![8, 128, 1024]⟩
abbrev S128x1024 : Shape := ⟨2, ![128, 1024]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S8x832x1024 : Shape := ⟨3, ![8, 832, 1024]⟩
abbrev S832x1024 : Shape := ⟨2, ![832, 1024]⟩
abbrev S8x208x1024 : Shape := ⟨3, ![8, 208, 1024]⟩
abbrev S208x1024 : Shape := ⟨2, ![208, 1024]⟩
abbrev S1x208x1024 : Shape := ⟨3, ![1, 208, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x832x1024, .bf16⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .local _ .vmem, ⟨0, _⟩ => ⟨S8x208x1024, .bf16⟩
  | .local _ .vmem, ⟨1, _⟩ => ⟨S8x208x1024, .bf16⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S8x832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x832x1024 : Shape := ⟨3, ![8, 832, 1024]⟩
abbrev S832x1024 : Shape := ⟨2, ![832, 1024]⟩
abbrev S8x208x1024 : Shape := ⟨3, ![8, 208, 1024]⟩
abbrev S208x1024 : Shape := ⟨2, ![208, 1024]⟩
abbrev S1x208x1024 : Shape := ⟨3, ![1, 208, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x832x1024, .bf16⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .local _ .vmem, ⟨0, _⟩ => ⟨S8x208x1024, .bf16⟩
  | .local _ .vmem, ⟨1, _⟩ => ⟨S8x208x1024, .bf16⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S8x832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x832x1024 : Shape := ⟨3, ![8, 832, 1024]⟩
abbrev S832x1024 : Shape := ⟨2, ![832, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x832x1024, .bf16⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S8x832x1024, .f32⟩
  | .hbm, ⟨5, _⟩ => ⟨S_, .f32⟩
  | .hbm, ⟨6, _⟩ => ⟨S832x1024, .f32⟩
  | .hbm, ⟨7, _⟩ => ⟨S_, .f32⟩
  | .hbm, ⟨8, _⟩ => ⟨S832x1024, .f32⟩
  | .hbm, ⟨9, _⟩ => ⟨S832x1024, .f32⟩
  | .hbm, ⟨10, _⟩ => ⟨S_, .f32⟩
  | .hbm, ⟨11, _⟩ => ⟨S832x1024, .f32⟩
  | .hbm, ⟨12, _⟩ => ⟨S832x1024, .f32⟩
  | .hbm, ⟨13, _⟩ => ⟨S832x1024, .f32⟩
  | .hbm, ⟨14, _⟩ => ⟨S_, .f32⟩
  | .hbm, ⟨15, _⟩ => ⟨S832x1024, .f32⟩
  | .hbm, ⟨16, _⟩ => ⟨S832x1024, .f32⟩
  | .hbm, ⟨17, _⟩ => ⟨S832x1024, .f32⟩
  | .hbm, ⟨18, _⟩ => ⟨S_, .f32⟩
  | .hbm, ⟨19, _⟩ => ⟨S832x1024, .f32⟩
  | .hbm, ⟨20, _⟩ => ⟨S832x1024, .f32⟩
  | .hbm, ⟨21, _⟩ => ⟨S832x1024, .f32⟩
  | .hbm, ⟨22, _⟩ => ⟨S_, .f32⟩
  | .hbm, ⟨23, _⟩ => ⟨S832x1024, .f32⟩
  | .hbm, ⟨24, _⟩ => ⟨S832x1024, .f32⟩
  | .hbm, ⟨25, _⟩ => ⟨S_, .f32⟩
  | .hbm, ⟨26, _⟩ => ⟨S832x1024, .f32⟩
  | .hbm, ⟨27, _⟩ => ⟨S832x1024, .f32⟩
  | .hbm, ⟨28, _⟩ => ⟨S832x1024, .f32⟩
  | .hbm, ⟨29, _⟩ => ⟨S_, .f32⟩
  | .hbm, ⟨30, _⟩ => ⟨S832x1024, .f32⟩
  | .hbm, ⟨31, _⟩ => ⟨S832x1024, .f32⟩
  | .hbm, ⟨32, _⟩ => ⟨S832x1024, .f32⟩
  | .hbm, ⟨33, _⟩ => ⟨S_, .f32⟩
  | .hbm, ⟨34, _⟩ => ⟨S832x1024, .f32⟩
  | .hbm, ⟨35, _⟩ => ⟨S832x1024, .f32⟩
  | .hbm, ⟨36, _⟩ => ⟨S832x1024, .f32⟩
  | .hbm, ⟨37, _⟩ => ⟨S_, .f32⟩
  | .hbm, ⟨38, _⟩ => ⟨S832x1024, .f32⟩
  | .hbm, ⟨39, _⟩ => ⟨S832x1024, .f32⟩
  | _, _ => ⟨S8x832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamKv.lean ====
abbrev S8x1024x256 : Shape := ⟨3, ![8, 1024, 256]⟩
abbrev S1024x256 : Shape := ⟨2, ![1024, 256]⟩
abbrev S8x128 : Shape := ⟨2, ![8, 128]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x128, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S8x128, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamKvIdeal.lean ====
abbrev S8x1024x256 : Shape := ⟨3, ![8, 1024, 256]⟩
abbrev S1024x256 : Shape := ⟨2, ![1024, 256]⟩
abbrev S8x128 : Shape := ⟨2, ![8, 128]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x128, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S8x128, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamKvRefIdeal.lean ====
abbrev S8x1024x256 : Shape := ⟨3, ![8, 1024, 256]⟩
abbrev S1024x256 : Shape := ⟨2, ![1024, 256]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x128, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamSmall.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDownAfter.lean ====
abbrev S8x352x1024 : Shape := ⟨3, ![8, 352, 1024]⟩
abbrev S352x1024 : Shape := ⟨2, ![352, 1024]⟩
abbrev S8x128 : Shape := ⟨2, ![8, 128]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x128, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S8x128, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownAfterIdeal.lean ====
abbrev S8x352x1024 : Shape := ⟨3, ![8, 352, 1024]⟩
abbrev S352x1024 : Shape := ⟨2, ![352, 1024]⟩
abbrev S8x128 : Shape := ⟨2, ![8, 128]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x128, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S8x128, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownAfterRefIdeal.lean ====
abbrev S8x352x1024 : Shape := ⟨3, ![8, 352, 1024]⟩
abbrev S352x1024 : Shape := ⟨2, ![352, 1024]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x128, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamUpAfter.lean ====
abbrev S8x704x1024 : Shape := ⟨3, ![8, 704, 1024]⟩
abbrev S704x1024 : Shape := ⟨2, ![704, 1024]⟩
abbrev S8x128 : Shape := ⟨2, ![8, 128]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x128, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S8x128, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpAfterRefIdeal.lean ====
abbrev S8x704x1024 : Shape := ⟨3, ![8, 704, 1024]⟩
abbrev S704x1024 : Shape := ⟨2, ![704, 1024]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x128, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.ConvSpec.lean ====
/-
  The gradient of the gated short causal convolution merged with attention, as functions of a row number and a lane.

  The forward part of the layer is `merged = sigmoid(g_attn) * attn + sigmoid(g_conv) * (b * conv)`, where `conv` at
  row `r` is `w₀ * u (r - 2) + w₁ * u (r - 1) + w₂ * u r` of the gated input `u = c * x`, rows before the first being
  zero. The five planes of `pa` are `c`, `b`, `x`, `g_attn`, `g_conv`.

  Rows are natural numbers: outside the array a row reads zero, so a shift needs no case distinction.
-/
module

public import Idealize.ShloMosaic.Lib.Pointwise
public import Idealize.ShloMosaic.Lib.Tactic

@[expose] public section

noncomputable section

namespace Cert.ConvSpec

open Idealize.ShloMosaic

/-- The arrays the gradient reads: the cotangent, the five projections, the attention branch, the taps. -/
structure Args where
  dm : Vec Ideal ⟨2, ![4096, 1024]⟩ .bf16
  pa : Vec Ideal ⟨3, ![5, 4096, 1024]⟩ .bf16
  attn : Vec Ideal ⟨2, ![4096, 1024]⟩ .bf16
  w : Vec Ideal ⟨2, ![8, 1024]⟩ .f32

variable (A : Args)

/-- The cotangent at a row; zero past the last row. -/
def DM (r : ℕ) (l : Fin 1024) : EReal := if h : r < 4096 then A.dm (ix2 ⟨r, h⟩ l) else 0

/-- A plane of the projections at a row; zero past the last row. -/
def PA (p : Fin 5) (r : ℕ) (l : Fin 1024) : EReal := if h : r < 4096 then A.pa (ix3 p ⟨r, h⟩ l) else 0

/-- The attention branch at a row; zero past the last row. -/
def AT (r : ℕ) (l : Fin 1024) : EReal := if h : r < 4096 then A.attn (ix2 ⟨r, h⟩ l) else 0

/-- A tap of the convolution. -/
def W (j : Fin 8) (l : Fin 1024) : EReal := A.w (ix2 j l)

/-- The gated input of the convolution. -/
def cu (r : ℕ) (l : Fin 1024) : EReal := PA A 0 r l * PA A 2 r l

/-- A sequence moved `k` rows down, zeros coming in from above. -/
def back (k : ℕ) (f : ℕ → Fin 1024 → EReal) (r : ℕ) (l : Fin 1024) : EReal := if k ≤ r then f (r - k) l else 0

/-- The convolution. -/
def c3 (r : ℕ) (l : Fin 1024) : EReal :=
  W A 0 l * back 2 (cu A) r l + W A 1 l * back 1 (cu A) r l + W A 2 l * cu A r l

/-- The gate of the attention branch. -/
def sa (r : ℕ) (l : Fin 1024) : EReal := Ideal.logistic (PA A 3 r l)

/-- The gate of the convolution branch. -/
def sc (r : ℕ) (l : Fin 1024) : EReal := Ideal.logistic (PA A 4 r l)

/-- The cotangent of the gated convolution. -/
def dconv (r : ℕ) (l : Fin 1024) : EReal := DM A r l * sc A r l

/-- The cotangent of the convolution. -/
def dc3 (r : ℕ) (l : Fin 1024) : EReal := dconv A r l * PA A 1 r l

/-- The cotangent of the gated input: the convolution read backwards. -/
def dcu (r : ℕ) (l : Fin 1024) : EReal :=
  W A 2 l * dc3 A r l + W A 1 l * dc3 A (r + 1) l + W A 0 l * dc3 A (r + 2) l

/-- The gradient of the attention branch. -/
def dattn (r : ℕ) (l : Fin 1024) : EReal := DM A r l * sa A r l

/-- The gradient of the five projections. -/
def dpa (p : Fin 5) (r : ℕ) (l : Fin 1024) : EReal :=
  match p with
  | 0 => dcu A r l * PA A 2 r l
  | 1 => dconv A r l * c3 A r l
  | 2 => dcu A r l * PA A 0 r l
  | 3 => DM A r l * AT A r l * sa A r l * (1 - sa A r l)
  | 4 => DM A r l * PA A 1 r l * c3 A r l * sc A r l * (1 - sc A r l)

/-- What row `r` adds to the gradient of tap `j`; there are three taps. -/
def dwAt (j : Fin 8) (r : ℕ) (l : Fin 1024) : EReal :=
  if j.val < 3 then dc3 A r l * back (2 - j.val) (cu A) r l else 0

/-- The gradient of the taps over the first `n` rows. -/
def dw (n : ℕ) (j : Fin 8) (l : Fin 1024) : EReal := ∑ r ∈ Finset.range n, dwAt A j r l

/-- Past the last row nothing comes in. -/
theorem dc3_out {r : ℕ} (h : 4096 ≤ r) (l : Fin 1024) : dc3 A r l = 0 := by
  simp [dc3, dconv, DM, Nat.not_lt.mpr h]

/-- Moving by nothing. -/
theorem back_zero (f : ℕ → Fin 1024 → EReal) : back 0 f = f := by
  funext r l; simp [back]

/-- The gradient over `n + k` rows is that over `n` rows and the following `k`. -/
theorem dw_add (n k : ℕ) (j : Fin 8) (l : Fin 1024) :
    dw A (n + k) j l = dw A n j l + ∑ q : Fin k, dwAt A j (n + q.val) l := by
  unfold dw
  rw [Finset.sum_range_add, Finset.sum_range (fun i => dwAt A j (n + i) l)]

end Cert.ConvSpec
-- ==== Proof.ConvBlock.lean ====
/-
  What one block of 256 rows of the convolution kernel computes, in the words of `ConvSpec`.

  `Blk A n x₀ … x₆` says that the seven buffers hold the rows `256 n …` of the arrays `A`, the whole taps, the 16 rows
  before the block and the 16 rows after it. Under it every value the body stores is the gradient at row `256 n + q`.
-/
module

public import Idealize.ShloMosaic.Lib.WordCmp
public import proofs.«01_k».proof.Proof.ConvSpec
public import proofs.«01_k».proof.Proof.Gen.ConvIdeal.Skeleton

@[expose] public section

noncomputable section

namespace Cert.ConvBlock

open Cert.ConvIdeal Cert.ConvIdeal.Gen Cert.ConvSpec Idealize.ShloMosaic Idealize.ShloMosaic.TcCoe Idealize.SL.Sem

variable (A : Args)

/-- The buffers of block `n` hold the arrays' rows. -/
structure Blk (n : ℕ) (x0 : Vec Ideal S256x1024 .bf16) (x1 : Vec Ideal S5x256x1024 .bf16) (x2 : Vec Ideal S256x1024 .bf16)
    (x3 : Vec Ideal S8x1024 .f32) (x4 x5 : Vec Ideal S5x16x1024 .bf16) (x6 : Vec Ideal S16x1024 .bf16) : Prop where
  lt : n < 16
  dm : ∀ q l, x0 (ix2 q l) = DM A (256 * n + q.val) l
  pa : ∀ p q l, x1 (ix3 p q l) = PA A p (256 * n + q.val) l
  attn : ∀ q l, x2 (ix2 q l) = AT A (256 * n + q.val) l
  w : ∀ j l, x3 (ix2 j l) = W A j l
  prev : ∀ p q l, x4 (ix3 p q l) = PA A p (16 * (16 * n - 1) + q.val) l
  next : ∀ p q l, x5 (ix3 p q l) = PA A p (16 * min (16 * n + 16) 255 + q.val) l
  dmNext : ∀ q l, x6 (ix2 q l) = DM A (16 * min (16 * n + 16) 255 + q.val) l

/-- Plane `p` of the projections' block, as the body loads it. -/
abbrev pl (x1 : Vec Ideal S5x256x1024 .bf16) (p : ℕ) (h : ∀ a, (![p, 0, 0] : Fin 3 → ℕ) a + S1x256x1024.size a ≤ S5x256x1024.size a) :
    Vec Ideal S1x256x1024 .bf16 := View.ld x1 (Rect.unit (s := S5x256x1024) ![p, 0, 0] S1x256x1024.size h)

/-- Plane `p` of a 16-row neighbour of the projections, as the body loads it. -/
abbrev hl (x : Vec Ideal S5x16x1024 .bf16) (p : ℕ) (h : ∀ a, (![p, 0, 0] : Fin 3 → ℕ) a + S1x16x1024.size a ≤ S5x16x1024.size a) :
    Vec Ideal S1x16x1024 .bf16 := View.ld x (Rect.unit (s := S5x16x1024) ![p, 0, 0] S1x16x1024.size h)

theorem pl_apply (x1 : Vec Ideal S5x256x1024 .bf16) (p : ℕ) (h) (q : Fin 256) (l : Fin 1024) (hp : p < 5) :
    pl x1 p h (ix3 0 q l) = x1 (ix3 ⟨p, hp⟩ q l) := by
  unfold pl
  rw [View.ld_unit]
  pointwise

theorem hl_apply (x : Vec Ideal S5x16x1024 .bf16) (p : ℕ) (h) (q : Fin 16) (l : Fin 1024) (hp : p < 5) :
    hl x p h (ix3 0 q l) = x (ix3 ⟨p, hp⟩ q l) := by
  unfold hl
  rw [View.ld_unit]
  pointwise

/-- A vector of the block holds the rows of `f`. -/
def Holds (n : ℕ) (v : FVec Ideal S256x1024 .f32) (f : ℕ → Fin 1024 → EReal) : Prop :=
  ∀ q l, v (ix2 q l) = f (256 * n + q.val) l

/-- A row number compared with a literal. -/
theorem sel_row {α : Type} (q k : ℕ) (hq : q < 256) (hk : k < 256) (a b : α) :
    Scalar.select (IntOp.cmpi .eq (BitVec.ofNat 32 q) (BitVec.ofNat 32 k)) a b = if q = k then a else b := by
  rw [WordCmp.cmpi_eq_ofNat (w := 32) (by omega) (by omega)]
  by_cases h : q = k <;> simp [h, Scalar.select]

/-- A flag of the grid chooses. -/
theorem sel_flag {α : Type} (P : Prop) [Decidable P] (a b : α) :
    Scalar.select (BitVec.ofBool (decide P)) a b = if P then a else b := by
  by_cases h : P <;> simp [h, Scalar.select]

section
variable {A} {n : ℕ} {x0 : Vec Ideal S256x1024 .bf16} {x1 : Vec Ideal S5x256x1024 .bf16} {x2 : Vec Ideal S256x1024 .bf16}
  {x3 : Vec Ideal S8x1024 .f32} {x4 x5 : Vec Ideal S5x16x1024 .bf16} {x6 : Vec Ideal S16x1024 .bf16}
  (B : Blk A n x0 x1 x2 x3 x4 x5 x6)
include B

theorem holds_dm : Holds n (k0_pay4 x0) (DM A) := fun q l => by
  unfold_payloads
  pointwise [B.dm]

theorem holds_c (h) : Holds n (k0_pay5 (pl x1 0 h)) (PA A 0) := fun q l => by
  unfold_payloads
  pointwise
  rw [pl_apply x1 0 h q l (by decide), B.pa]
  rfl

theorem holds_b (h) : Holds n (k0_pay6 (pl x1 1 h)) (PA A 1) := fun q l => by
  unfold_payloads
  pointwise
  rw [pl_apply x1 1 h q l (by decide), B.pa]
  rfl

theorem holds_u (h) : Holds n (k0_pay7 (pl x1 2 h)) (PA A 2) := fun q l => by
  unfold_payloads
  pointwise
  rw [pl_apply x1 2 h q l (by decide), B.pa]
  rfl

theorem holds_sa (h) : Holds n (k0_pay8 (pl x1 3 h)) (sa A) := fun q l => by
  unfold_payloads
  pointwise
  rw [pl_apply x1 3 h q l (by decide), B.pa]
  rfl

theorem holds_sc (h) : Holds n (k0_pay9 (pl x1 4 h)) (sc A) := fun q l => by
  unfold_payloads
  pointwise
  rw [pl_apply x1 4 h q l (by decide), B.pa]
  rfl

theorem holds_attn : Holds n (k0_pay10 x2) (AT A) := fun q l => by
  unfold_payloads
  pointwise [B.attn]

theorem holds_cu (h h') : Holds n (k0_pay11 (pl x1 0 h) (pl x1 2 h')) (cu A) := fun q l => by
  unfold_payloads
  pointwise
  rw [pl_apply x1 0 h q l (by decide), pl_apply x1 2 h' q l (by decide), B.pa, B.pa]
  rfl

/-- The gated input in the sixteen rows before the block. -/
theorem halo_cu (h h') (q : Fin 16) (l : Fin 1024) :
    k0_pay12 (hl x4 0 h) (hl x4 2 h') (ix2 q l) = cu A (16 * (16 * n - 1) + q.val) l := by
  unfold_payloads
  pointwise
  rw [hl_apply x4 0 h q l (by decide), hl_apply x4 2 h' q l (by decide), B.prev, B.prev]
  rfl

/-- The input one row up. -/
theorem holds_c1 {v : FVec Ideal S256x1024 .f32} (hv : Holds n v (cu A)) (h h') :
    Holds n (k0_pay14 v (k0_pay12 (hl x4 0 h) (hl x4 2 h')) (BitVec.ofBool (decide (n = 0)))) (back 1 (cu A)) := fun q l => by
  have e : ∀ f : BitVec 1, k0_pay14 v (k0_pay12 (hl x4 0 h) (hl x4 2 h')) f (ix2 q l)
      = if q.val = 0 then (Scalar.select f 0 (k0_pay12 (hl x4 0 h) (hl x4 2 h') (ix2 15 l)))
        else v (ix2 ⟨(q.val + 256 - 1) % 256, by omega⟩ l) := by
    intro f
    rw [← sel_row _ 0 q.isLt (by omega)]
    unfold k0_pay14 k0_pay13
    pointwise
  rw [e, sel_flag, halo_cu B, hv]
  have hn := B.lt
  unfold back
  by_cases h0 : q.val = 0
  · by_cases h1 : n = 0
    · simp [h0, h1]
    · rw [if_pos h0, if_neg h1, if_pos (by omega)]
      congr 1
      simp [h0]
      omega
  · rw [if_neg h0, if_pos (by omega)]
    congr 1
    simp only
    omega

/-- The input two rows up. -/
theorem holds_c2 {v : FVec Ideal S256x1024 .f32} (hv : Holds n v (cu A)) (h h') :
    Holds n (k0_pay15 v (k0_pay12 (hl x4 0 h) (hl x4 2 h')) (BitVec.ofBool (decide (n = 0)))) (back 2 (cu A)) := fun q l => by
  have e : ∀ f : BitVec 1, k0_pay15 v (k0_pay12 (hl x4 0 h) (hl x4 2 h')) f (ix2 q l)
      = if q.val = 0 then (Scalar.select f 0 (k0_pay12 (hl x4 0 h) (hl x4 2 h') (ix2 14 l)))
        else if q.val = 1 then (Scalar.select f 0 (k0_pay12 (hl x4 0 h) (hl x4 2 h') (ix2 15 l)))
        else v (ix2 ⟨(q.val + 256 - 2) % 256, by omega⟩ l) := by
    intro f
    rw [← sel_row _ 1 q.isLt (by omega), ← sel_row _ 0 q.isLt (by omega)]
    unfold k0_pay15 k0_pay13
    pointwise
  rw [e, sel_flag, sel_flag, halo_cu B, halo_cu B, hv]
  have hn := B.lt
  unfold back
  by_cases h0 : q.val = 0
  · by_cases h1 : n = 0
    · simp [h0, h1]
    · rw [if_pos h0, if_neg h1, if_pos (by omega)]
      congr 1
      simp [h0]
      omega
  · by_cases h2 : q.val = 1
    · by_cases h1 : n = 0
      · simp [h2, h1]
      · rw [if_neg h0, if_pos h2, if_neg h1, if_pos (by omega)]
        congr 1
        simp [h2]
        omega
    · rw [if_neg h0, if_neg h2, if_pos (by omega)]
      congr 1
      simp only
      omega

/-- The convolution. -/
theorem holds_c3 {v : FVec Ideal S256x1024 .f32} (hv : Holds n v (cu A)) (h h') :
    Holds n (k0_pay16 v (k0_pay12 (hl x4 0 h) (hl x4 2 h')) (BitVec.ofBool (decide (n = 0))) x3) (c3 A) := fun q l => by
  have e : ∀ (y : FVec Ideal S16x1024 .f32) (f : BitVec 1), k0_pay16 v y f x3 (ix2 q l)
      = x3 (ix2 0 l) * k0_pay15 v y f (ix2 q l) + x3 (ix2 1 l) * k0_pay14 v y f (ix2 q l) + x3 (ix2 2 l) * v (ix2 q l) := by
    intro y f
    unfold k0_pay16
    pointwise
  rw [e, holds_c2 B hv, holds_c1 B hv, hv, B.w, B.w, B.w]
  rfl
omit B

theorem holds_dconv {v w : FVec Ideal S256x1024 .f32} (hv : Holds n v (DM A)) (hw : Holds n w (sc A)) :
    Holds n (k0_pay17 v w) (dconv A) := fun q l => by
  unfold_payloads
  pointwise [hv q l, hw q l]
  rfl

theorem holds_dc3 {v b w : FVec Ideal S256x1024 .f32} (hv : Holds n v (DM A)) (hb : Holds n b (PA A 1)) (hw : Holds n w (sc A)) :
    Holds n (k0_pay18 v b w) (dc3 A) := fun q l => by
  unfold k0_pay18
  pointwise [holds_dconv hv hw q l, hb q l]
  rfl
include B

/-- The cotangent of the convolution in the sixteen rows after the block. -/
theorem halo_dc3 (h h') (q : Fin 16) (l : Fin 1024) :
    k0_pay19 x6 (hl x5 4 h) (ix2 q l) * hl x5 1 h' (ix3 0 q l) = dc3 A (16 * min (16 * n + 16) 255 + q.val) l := by
  unfold_payloads
  pointwise [B.dmNext]
  rw [hl_apply x5 4 h q l (by decide), hl_apply x5 1 h' q l (by decide), B.next, B.next]
  rfl

/-- The cotangent of the gated input. -/
theorem holds_dcu {v : FVec Ideal S256x1024 .f32} (hv : Holds n v (dc3 A)) (h h') :
    Holds n (k0_pay20 (BitVec.ofBool (decide (n = 15))) x3 v (k0_pay19 x6 (hl x5 4 h)) (hl x5 1 h')) (dcu A) := fun q l => by
  have e : ∀ (f : BitVec 1) (y : FVec Ideal S16x1024 .f32) (z : Vec Ideal S1x16x1024 .bf16),
      k0_pay20 f x3 v y z (ix2 q l)
      = x3 (ix2 2 l) * v (ix2 q l)
        + x3 (ix2 1 l) * (if q.val = 255 then (Scalar.select f 0 (y (ix2 0 l) * z (ix3 0 0 l)))
            else v (ix2 ⟨(q.val + 256 - 255) % 256, by omega⟩ l))
        + x3 (ix2 0 l) * (if q.val = 254 then (Scalar.select f 0 (y (ix2 0 l) * z (ix3 0 0 l)))
            else if q.val = 255 then (Scalar.select f 0 (y (ix2 1 l) * z (ix3 0 1 l)))
            else v (ix2 ⟨(q.val + 256 - 254) % 256, by omega⟩ l)) := by
    intro f y z
    simp only [← sel_row _ 255 q.isLt (by omega), ← sel_row _ 254 q.isLt (by omega)]
    unfold k0_pay20
    pointwise
  have hn := B.lt
  rw [e, sel_flag, sel_flag, halo_dc3 B, halo_dc3 B, hv, hv, hv, B.w, B.w, B.w]
  unfold dcu
  have e1 : (if q.val = 255 then (if n = 15 then 0 else dc3 A (16 * min (16 * n + 16) 255 + (0 : Fin 16).val) l)
      else dc3 A (256 * n + (⟨(q.val + 256 - 255) % 256, by omega⟩ : Fin 256).val) l) = dc3 A (256 * n + q.val + 1) l := by
    by_cases h0 : q.val = 255
    · rw [if_pos h0]
      by_cases h1 : n = 15
      · rw [if_pos h1, dc3_out A (by omega)]
      · rw [if_neg h1]; congr 1; simp; omega
    · rw [if_neg h0]; congr 1; simp only; omega
  have e2 : (if q.val = 254 then (if n = 15 then 0 else dc3 A (16 * min (16 * n + 16) 255 + (0 : Fin 16).val) l)
      else if q.val = 255 then (if n = 15 then 0 else dc3 A (16 * min (16 * n + 16) 255 + (1 : Fin 16).val) l)
      else dc3 A (256 * n + (⟨(q.val + 256 - 254) % 256, by omega⟩ : Fin 256).val) l) = dc3 A (256 * n + q.val + 2) l := by
    by_cases h0 : q.val = 254
    · rw [if_pos h0]
      by_cases h1 : n = 15
      · rw [if_pos h1, dc3_out A (by omega)]
      · rw [if_neg h1]; congr 1; simp; omega
    · rw [if_neg h0]
      by_cases h3 : q.val = 255
      · rw [if_pos h3]
        by_cases h1 : n = 15
        · rw [if_pos h1, dc3_out A (by omega)]
        · rw [if_neg h1]; congr 1; simp; omega
      · rw [if_neg h3]; congr 1; simp only; omega
  rw [e1, e2]
omit B

/-- The gradient of the attention branch. -/
theorem out_dattn {v s : FVec Ideal S256x1024 .f32} (hv : Holds n v (DM A)) (hs : Holds n s (sa A)) (q l) :
    k0_pay21 (F := Ideal) v s (ix2 q l) = dattn A (256 * n + q.val) l := by
  unfold_payloads
  pointwise [hv q l, hs q l]
  rfl

theorem out_dpa1 {v w : FVec Ideal S256x1024 .f32} (hv : Holds n v (dconv A)) (hw : Holds n w (c3 A)) (q l) :
    k0_pay24 (F := Ideal) (k0_pay23 w v) (ix3 0 q l) = dpa A 1 (256 * n + q.val) l := by
  unfold_payloads
  pointwise [hv q l, hw q l]
  rfl

theorem out_dpa2 {v w : FVec Ideal S256x1024 .f32} (hv : Holds n v (PA A 0)) (hw : Holds n w (dcu A)) (q l) :
    k0_pay25 (F := Ideal) v w (ix3 0 q l) = dpa A 2 (256 * n + q.val) l := by
  unfold_payloads
  pointwise [hv q l, hw q l]
  rfl

theorem out_dpa3 {v s a : FVec Ideal S256x1024 .f32} (hv : Holds n v (DM A)) (hs : Holds n s (sa A)) (ha : Holds n a (AT A)) (q l) :
    k0_pay26 (F := Ideal) v s a (ix3 0 q l) = dpa A 3 (256 * n + q.val) l := by
  unfold_payloads
  pointwise [hv q l, hs q l, ha q l]
  rfl

theorem out_dpa4 {v b s w : FVec Ideal S256x1024 .f32} (hv : Holds n v (DM A)) (hb : Holds n b (PA A 1)) (hs : Holds n s (sc A))
    (hw : Holds n w (c3 A)) (q l) :
    k0_pay27 (F := Ideal) v b s w (ix3 0 q l) = dpa A 4 (256 * n + q.val) l := by
  unfold_payloads
  pointwise [hv q l, hb q l, hs q l, hw q l]
  rfl
include B

theorem out_dpa0 {v u : FVec Ideal S256x1024 .f32} (hv : Holds n v (dc3 A)) (hu : Holds n u (PA A 2)) (h h') (q l) :
    k0_pay22 (F := Ideal) (BitVec.ofBool (decide (n = 15))) u x3 v (k0_pay19 x6 (hl x5 4 h)) (hl x5 1 h') (ix3 0 q l)
      = dpa A 0 (256 * n + q.val) l := by
  unfold k0_pay22
  pointwise [holds_dcu B hv h h' q l, hu q l]
  rfl
omit B

/-- What a block adds to the gradient of the first tap. -/
theorem add_dw0 {v w : FVec Ideal S256x1024 .f32} (hv : Holds n v (dc3 A)) (hw : Holds n w (back 2 (cu A))) (o : Vec Ideal S1x1024 .f32) (l) :
    k0_pay1 (k0_pay29 o) (k0_pay30 w v) (ix2 0 l) = o (ix2 0 l) + ∑ q : Fin 256, dwAt A 0 (256 * n + q.val) l := by
  unfold_payloads
  pointwise [hv _ l, hw _ l]
  rfl

/-- What a block adds to the gradient of the second tap. -/
theorem add_dw1 {v w : FVec Ideal S256x1024 .f32} (hv : Holds n v (dc3 A)) (hw : Holds n w (back 1 (cu A))) (o : Vec Ideal S1x1024 .f32) (l) :
    k0_pay2 w v o (ix2 0 l) = o (ix2 0 l) + ∑ q : Fin 256, dwAt A 1 (256 * n + q.val) l := by
  unfold_payloads
  pointwise [hv _ l, hw _ l]
  rfl

/-- What a block adds to the gradient of the third tap. -/
theorem add_dw2 {v w : FVec Ideal S256x1024 .f32} (hv : Holds n v (dc3 A)) (hw : Holds n w (cu A)) (o : Vec Ideal S1x1024 .f32) (l) :
    k0_pay3 w v o (ix2 0 l) = o (ix2 0 l) + ∑ q : Fin 256, dwAt A 2 (256 * n + q.val) l := by
  unfold_payloads
  pointwise [hv _ l, hw _ l]
  rfl

end

end Cert.ConvBlock
-- ==== Proof.ConvPoint.lean ====
/-
  The convolution kernel at one grid point: its buffers hold the rows `ConvBlock.Blk` asks for, and what the body leaves
  in the three output buffers is the gradient at those rows; the taps' gradient is the sum over the rows so far.
-/
module

public import proofs.«01_k».proof.Proof.ConvBlock
public import proofs.«01_k».proof.Proof.Gen.ConvIdeal.Value
public import Idealize.ShloMosaic.Lib.Tactic
public import Idealize.ShloMosaic.Lib.WritesUnit
public import Idealize.ShloMosaic.Lib.Pipeline.ValueKit
public import Idealize.ShloMosaic.Lib.Pipeline.ReadBack

@[expose] public section

noncomputable section

namespace Cert.ConvPoint

open Cert.ConvIdeal Cert.ConvIdeal.Gen Cert.ConvSpec Cert.ConvBlock Idealize.ShloMosaic Idealize.ShloMosaic.TcCoe Idealize.SL.Sem
open Idealize.ShloMosaic.Pipeline (Dat)

variable (m : (ℓ : Loc nD τ sig) → Buf (Elt Ideal) ℓ) (c : Dev nD)

/-- The arrays the kernel is launched on. -/
def args : Args where
  dm := m ((c : Thread nD τ).loc main_arg0)
  pa := m ((c : Thread nD τ).loc main_arg1)
  attn := m ((c : Thread nD τ).loc main_arg2)
  w := m ((c : Thread nD τ).loc main_arg3)

theorem zero2 : (![0, 0] : Fin 2 → Nat) = fun _ => 0 := funext fun a => by fin_cases a <;> rfl

/-- Which block of its array each window is at. -/
theorem at_point (t : Fin cfg0.N) :
    (win0_0.index t 0 = t.val ∧ win0_0.index t 1 = 0) ∧ (win0_1.index t 0 = 0 ∧ win0_1.index t 1 = t.val ∧ win0_1.index t 2 = 0)
    ∧ (win0_2.index t 0 = t.val ∧ win0_2.index t 1 = 0) ∧ (win0_3.index t 0 = 0 ∧ win0_3.index t 1 = 0)
    ∧ (win0_4.index t 0 = 0 ∧ win0_4.index t 1 = 16 * t.val - 1 ∧ win0_4.index t 2 = 0)
    ∧ (win0_5.index t 0 = 0 ∧ win0_5.index t 1 = min (16 * t.val + 16) 255 ∧ win0_5.index t 2 = 0)
    ∧ (win0_6.index t 0 = min (16 * t.val + 16) 255 ∧ win0_6.index t 1 = 0)
    ∧ (win0_7.index t 0 = t.val ∧ win0_7.index t 1 = 0) ∧ (win0_8.index t 0 = 0 ∧ win0_8.index t 1 = t.val ∧ win0_8.index t 2 = 0)
    ∧ (win0_9.index t 0 = 0 ∧ win0_9.index t 1 = 0) ∧ (grid0.coords t 1).val = t.val := by
  rcases fin_N0 t with rfl | rfl | rfl | rfl | rfl | rfl | rfl | rfl | rfl | rfl | rfl | rfl | rfl | rfl | rfl | rfl <;> decide +kernel

theorem blk (t : Fin cfg0.N) : Blk (args m c) t.val (iblk m c 0 t) (iblk m c 1 t) (iblk m c 2 t) (iblk m c 3 t) (iblk m c 4 t)
    (iblk m c 5 t) (iblk m c 6 t) := by
  obtain ⟨h0, h1, h2, h3, h4, h5, h6, -⟩ := at_point t
  have hN : t.val < 16 := lt_of_lt_of_eq t.isLt N_0
  refine ⟨hN, fun q l => ?_, fun p q l => ?_, fun q l => ?_, fun j l => ?_, fun p q l => ?_, fun p q l => ?_, fun q l => ?_⟩
  · rw [DM, dif_pos (by omega)]
    unfold iblk
    rw [View.read_apply]
    refine congrArg (m ((c : Thread nD τ).loc main_arg0)) (funext fun a => Fin.ext ?_)
    match a with
    | ⟨0, _⟩ => show win0_0.index t 0 * 256 + 1 * q.val = 256 * t.val + q.val; rw [h0.1]; omega
    | ⟨1, _⟩ => show win0_0.index t 1 * 1024 + 1 * l.val = l.val; rw [h0.2]; omega
  · rw [PA, dif_pos (by omega)]
    unfold iblk
    rw [View.read_apply]
    refine congrArg (m ((c : Thread nD τ).loc main_arg1)) (funext fun a => Fin.ext ?_)
    match a with
    | ⟨0, _⟩ => show win0_1.index t 0 * 5 + 1 * p.val = p.val; rw [h1.1]; omega
    | ⟨1, _⟩ => show win0_1.index t 1 * 256 + 1 * q.val = 256 * t.val + q.val; rw [h1.2.1]; omega
    | ⟨2, _⟩ => show win0_1.index t 2 * 1024 + 1 * l.val = l.val; rw [h1.2.2]; omega
  · rw [AT, dif_pos (by omega)]
    unfold iblk
    rw [View.read_apply]
    refine congrArg (m ((c : Thread nD τ).loc main_arg2)) (funext fun a => Fin.ext ?_)
    match a with
    | ⟨0, _⟩ => show win0_2.index t 0 * 256 + 1 * q.val = 256 * t.val + q.val; rw [h2.1]; omega
    | ⟨1, _⟩ => show win0_2.index t 1 * 1024 + 1 * l.val = l.val; rw [h2.2]; omega
  · unfold W iblk
    rw [View.read_apply]
    refine congrArg (m ((c : Thread nD τ).loc main_arg3)) (funext fun a => Fin.ext ?_)
    match a with
    | ⟨0, _⟩ => show win0_3.index t 0 * 8 + 1 * j.val = j.val; rw [h3.1]; omega
    | ⟨1, _⟩ => show win0_3.index t 1 * 1024 + 1 * l.val = l.val; rw [h3.2]; omega
  · rw [PA, dif_pos (by omega)]
    unfold iblk
    rw [View.read_apply]
    refine congrArg (m ((c : Thread nD τ).loc main_arg1)) (funext fun a => Fin.ext ?_)
    match a with
    | ⟨0, _⟩ => show win0_4.index t 0 * 5 + 1 * p.val = p.val; rw [h4.1]; omega
    | ⟨1, _⟩ => show win0_4.index t 1 * 16 + 1 * q.val = 16 * (16 * t.val - 1) + q.val; rw [h4.2.1]; omega
    | ⟨2, _⟩ => show win0_4.index t 2 * 1024 + 1 * l.val = l.val; rw [h4.2.2]; omega
  · rw [PA, dif_pos (by omega)]
    unfold iblk
    rw [View.read_apply]
    refine congrArg (m ((c : Thread nD τ).loc main_arg1)) (funext fun a => Fin.ext ?_)
    match a with
    | ⟨0, _⟩ => show win0_5.index t 0 * 5 + 1 * p.val = p.val; rw [h5.1]; omega
    | ⟨1, _⟩ => show win0_5.index t 1 * 16 + 1 * q.val = 16 * min (16 * t.val + 16) 255 + q.val; rw [h5.2.1]; omega
    | ⟨2, _⟩ => show win0_5.index t 2 * 1024 + 1 * l.val = l.val; rw [h5.2.2]; omega
  · rw [DM, dif_pos (by omega)]
    unfold iblk
    rw [View.read_apply]
    refine congrArg (m ((c : Thread nD τ).loc main_arg0)) (funext fun a => Fin.ext ?_)
    match a with
    | ⟨0, _⟩ => show win0_6.index t 0 * 16 + 1 * q.val = 16 * min (16 * t.val + 16) 255 + q.val; rw [h6.1]; omega
    | ⟨1, _⟩ => show win0_6.index t 1 * 1024 + 1 * l.val = l.val; rw [h6.2]; omega

/-- The flag of the first block, and that of the last, as the printed code computes them. -/
theorem flag (t : Fin cfg0.N) (k : ℕ) (hk : k < 16) :
    Scalar.cmpi .eq (BitVec.ofNat 32 (grid0.coords t 1).val) (BitVec.ofNat 32 k) = BitVec.ofBool (decide (t.val = k)) := by
  have hN : t.val < 16 := lt_of_lt_of_eq t.isLt N_0
  rw [(at_point t).2.2.2.2.2.2.2.2.2.2]
  exact WordCmp.cmpi_eq_ofNat (w := 32) (by omega) (by omega)

/-- The gradient of the attention branch after point `t`. -/
theorem left_dattn (t : Fin cfg0.N) (q : Fin 256) (l : Fin 1024) :
    (outsAt0 m c t.val t.isLt).1 (ix2 q l) = dattn (args m c) (256 * t.val + q.val) l := by
  have B := blk m c t
  by_cases h0 : t.val % 16 = 0
  · rw [outsAt0_A m c t h0]
    dsimp only
    unfold out0_A_7
    rw [View.read_writes_junk_eq_canon]
    unfold kernelRun0_A
    dsimp only
    sl_unfold_words
    simp only [View.readAt_eq_ld, Memref.IsWhole.read_unread, View.ld_unit_zero (S := S256x1024) zero2]
    rw [View.canon_unit_zero zero2]
    exact out_dattn (holds_dm B) (holds_sa B _) q l
  · rw [outsAt0_B m c t h0]
    dsimp only
    unfold out0_B_7
    rw [View.read_writes_junk_eq_canon]
    unfold kernelRun0_B
    dsimp only
    sl_unfold_words
    simp only [View.readAt_eq_ld, Memref.IsWhole.read_unread, View.ld_unit_zero (S := S256x1024) zero2]
    rw [View.canon_unit_zero zero2]
    exact out_dattn (holds_dm B) (holds_sa B _) q l

/-- A stored plane is what the whole array holds there. -/
theorem plane (k : ℕ) (hk : k < 5) (w : Vec Ideal S1x256x1024 .bf16) (G : S5x256x1024.Idx → Elt Ideal .bf16)
    (h) (hw : ∀ q l, w (ix3 0 q l) = G (ix3 ⟨k, hk⟩ q l)) (x : S1x256x1024.Idx) :
    w x = G ((Rect.unit (s := S5x256x1024) ![k, 0, 0] S1x256x1024.size h).emb x) := by
  obtain ⟨z, q, l, rfl⟩ : ∃ z q l, x = ix3 z q l := ⟨x 0, x 1, x 2, funext fun a => by fin_cases a <;> rfl⟩
  obtain rfl : z = 0 := Subsingleton.elim _ _
  rw [hw]
  refine congrArg G (funext fun a => Fin.ext ?_)
  match a with
  | ⟨0, _⟩ => show k = k + 1 * 0; omega
  | ⟨1, _⟩ => show q.val = 0 + 1 * q.val; omega
  | ⟨2, _⟩ => show l.val = 0 + 1 * l.val; omega

/-- A row lies in the plane of its own number. -/
theorem mem_plane (p : Fin 5) (q : Fin 256) (l : Fin 1024) (h) :
    (ix3 p q l : S5x256x1024.Idx) ∈ (Rect.unit (s := S5x256x1024) ![p.val, 0, 0] S1x256x1024.size h).set := by
  rw [Rect.mem_set_unit]
  intro a
  match a with
  | ⟨0, _⟩ => show p.val ≤ p.val ∧ p.val < p.val + 1; omega
  | ⟨1, _⟩ => show 0 ≤ q.val ∧ q.val < 0 + 256; omega
  | ⟨2, _⟩ => show 0 ≤ l.val ∧ l.val < 0 + 1024; omega

/-- Five planes stored one after the other hold, plane by plane, what was stored. -/
theorem planes (g0 g1 g2 g3 g4 : Vec Ideal S1x256x1024 .bf16) (G : Fin 5 → Fin 256 → Fin 1024 → EReal) (i0 i1 i2 i3 i4)
    (h0 : ∀ q l, g0 (ix3 0 q l) = G 0 q l) (h1 : ∀ q l, g1 (ix3 0 q l) = G 1 q l) (h2 : ∀ q l, g2 (ix3 0 q l) = G 2 q l)
    (h3 : ∀ q l, g3 (ix3 0 q l) = G 3 q l) (h4 : ∀ q l, g4 (ix3 0 q l) = G 4 q l) (p : Fin 5) (q : Fin 256) (l : Fin 1024) :
    View.canon (Val := Elt Ideal) (s := S5x256x1024) (e := .bf16)
      [⟨Rect.unit ![4, 0, 0] S1x256x1024.size i4, g4⟩, ⟨Rect.unit ![3, 0, 0] S1x256x1024.size i3, g3⟩,
       ⟨Rect.unit ![2, 0, 0] S1x256x1024.size i2, g2⟩, ⟨Rect.unit ![1, 0, 0] S1x256x1024.size i1, g1⟩,
       ⟨Rect.unit ![0, 0, 0] S1x256x1024.size i0, g0⟩] (ix3 p q l) = G p q l := by
  let H : S5x256x1024.Idx → Elt Ideal .bf16 := fun y => G (y 0) (y 1) (y 2)
  refine View.canon_apply_of_pieces (Val := Elt Ideal) (e := .bf16) H _ ?_ _ ?_
  · simp only [List.mem_cons, List.not_mem_nil, or_false]
    rintro P (rfl | rfl | rfl | rfl | rfl)
    · exact plane 4 (by decide) g4 H i4 h4
    · exact plane 3 (by decide) g3 H i3 h3
    · exact plane 2 (by decide) g2 H i2 h2
    · exact plane 1 (by decide) g1 H i1 h1
    · exact plane 0 (by decide) g0 H i0 h0
  · fin_cases p
    · exact ⟨⟨Rect.unit ![0, 0, 0] S1x256x1024.size i0, g0⟩, by simp, mem_plane 0 q l i0⟩
    · exact ⟨⟨Rect.unit ![1, 0, 0] S1x256x1024.size i1, g1⟩, by simp, mem_plane 1 q l i1⟩
    · exact ⟨⟨Rect.unit ![2, 0, 0] S1x256x1024.size i2, g2⟩, by simp, mem_plane 2 q l i2⟩
    · exact ⟨⟨Rect.unit ![3, 0, 0] S1x256x1024.size i3, g3⟩, by simp, mem_plane 3 q l i3⟩
    · exact ⟨⟨Rect.unit ![4, 0, 0] S1x256x1024.size i4, g4⟩, by simp, mem_plane 4 q l i4⟩

/-- The gradient of the projections after point `t`. -/
theorem left_dpa (t : Fin cfg0.N) (p : Fin 5) (q : Fin 256) (l : Fin 1024) :
    (outsAt0 m c t.val t.isLt).2.1 (ix3 p q l) = dpa (args m c) p (256 * t.val + q.val) l := by
  have B := blk m c t
  by_cases h0 : t.val % 16 = 0
  · rw [outsAt0_A m c t h0]
    dsimp only
    frame_out
    erw [flag t 0 (by omega), flag t 15 (by omega)]
    exact planes _ _ _ _ _ (fun p q l => dpa (args m c) p (256 * t.val + q.val) l) _ _ _ _ _
      (out_dpa0 B (holds_dc3 (holds_dm B) (holds_b B _) (holds_sc B _)) (holds_u B _) _ _)
      (out_dpa1 (holds_dconv (holds_dm B) (holds_sc B _)) (holds_c3 B (holds_cu B _ _) _ _))
      (out_dpa2 (holds_c B _) (holds_dcu B (holds_dc3 (holds_dm B) (holds_b B _) (holds_sc B _)) _ _))
      (out_dpa3 (holds_dm B) (holds_sa B _) (holds_attn B))
      (out_dpa4 (holds_dm B) (holds_b B _) (holds_sc B _) (holds_c3 B (holds_cu B _ _) _ _)) p q l
  · rw [outsAt0_B m c t h0]
    dsimp only
    frame_out
    erw [flag t 0 (by omega), flag t 15 (by omega)]
    exact planes _ _ _ _ _ (fun p q l => dpa (args m c) p (256 * t.val + q.val) l) _ _ _ _ _
      (out_dpa0 B (holds_dc3 (holds_dm B) (holds_b B _) (holds_sc B _)) (holds_u B _) _ _)
      (out_dpa1 (holds_dconv (holds_dm B) (holds_sc B _)) (holds_c3 B (holds_cu B _ _) _ _))
      (out_dpa2 (holds_c B _) (holds_dcu B (holds_dc3 (holds_dm B) (holds_b B _) (holds_sc B _)) _ _))
      (out_dpa3 (holds_dm B) (holds_sa B _) (holds_attn B))
      (out_dpa4 (holds_dm B) (holds_b B _) (holds_sc B _) (holds_c3 B (holds_cu B _ _) _ _)) p q l

/-- Three rows stored over a buffer. -/
theorem rows3 {sig' : RefSig} {κ : Kind} {sp : Space} (v : View sig' κ sp S8x1024 .f32) (f : v.ty.Contents (Elt Ideal))
    (g0 g1 g2 : Vec Ideal S1x1024 .f32) (L : List (View.Piece (Elt Ideal) S8x1024 .f32)) (i0 i1 i2) (j : Fin 8) (l : Fin 1024) :
    v.read (Elt Ideal) (v.writes (Elt Ideal) f (⟨Rect.unit ![2, 0] S1x1024.size i2, g2⟩ :: ⟨Rect.unit ![1, 0] S1x1024.size i1, g1⟩
      :: ⟨Rect.unit ![0, 0] S1x1024.size i0, g0⟩ :: L)) (ix2 j l)
      = if j.val = 0 then g0 (ix2 0 l) else if j.val = 1 then g1 (ix2 0 l) else if j.val = 2 then g2 (ix2 0 l)
        else v.read (Elt Ideal) (v.writes (Elt Ideal) f L) (ix2 j l) := by
  by_cases h2 : j.val = 2
  · rw [if_neg (by omega), if_neg (by omega), if_pos h2]
    exact View.read_writes_cons_rows_of_mem v f _ _ _ _ (ix2 0 l) rfl (by show j.val = 2 + 0; omega) rfl
  rw [View.read_writes_cons_rows_of_not_mem (o := 2) (W := 1) v f _ _ _ _ rfl rfl (by show j.val < 2 ∨ 2 + 1 ≤ j.val; omega)]
  by_cases h1 : j.val = 1
  · rw [if_neg (by omega), if_pos h1]
    exact View.read_writes_cons_rows_of_mem v f _ _ _ _ (ix2 0 l) rfl (by show j.val = 1 + 0; omega) rfl
  rw [View.read_writes_cons_rows_of_not_mem (o := 1) (W := 1) v f _ _ _ _ rfl rfl (by show j.val < 1 ∨ 1 + 1 ≤ j.val; omega)]
  by_cases h0 : j.val = 0
  · rw [if_pos h0]
    exact View.read_writes_cons_rows_of_mem v f _ _ _ _ (ix2 0 l) rfl (by show j.val = 0 + 0; omega) rfl
  rw [View.read_writes_cons_rows_of_not_mem (o := 0) (W := 1) v f _ _ _ _ rfl rfl (by show j.val < 0 ∨ 0 + 1 ≤ j.val; omega)]
  rw [if_neg h0, if_neg h1, if_neg h2]

/-- A row of the taps' gradient, as the body loads it. -/
theorem ld_row (x : Vec Ideal S8x1024 .f32) (k : ℕ) (hk : k < 8) (h) (l : Fin 1024) :
    View.ld x (Rect.unit (s := S8x1024) ![k, 0] S1x1024.size h) (ix2 0 l) = x (ix2 ⟨k, hk⟩ l) := by
  rw [View.ld_unit]
  pointwise

theorem zero_row (j : Fin 8) (l : Fin 1024) : k0_pay28 (F := Ideal) (ix2 j l) = 0 := by
  unfold_payloads
  pointwise

/-- One point adds its rows to the taps' gradient, whatever it held. -/
theorem step {A : Args} {n : ℕ} {v w0 w1 w2 : FVec Ideal S256x1024 .f32} (hv : Holds n v (dc3 A)) (h0 : Holds n w0 (back 2 (cu A)))
    (h1 : Holds n w1 (back 1 (cu A))) (h2 : Holds n w2 (cu A)) (old : Vec Ideal S8x1024 .f32) (rest : EReal) (i0 i1 i2) (j : Fin 8) (l : Fin 1024)
    (hr : rest = old (ix2 j l)) :
    (if j.val = 0 then k0_pay1 (k0_pay29 (View.ld old (Rect.unit (s := S8x1024) ![0, 0] S1x1024.size i0))) (k0_pay30 w0 v) (ix2 0 l)
      else if j.val = 1 then k0_pay2 w1 v (View.ld old (Rect.unit (s := S8x1024) ![1, 0] S1x1024.size i1)) (ix2 0 l)
      else if j.val = 2 then k0_pay3 w2 v (View.ld old (Rect.unit (s := S8x1024) ![2, 0] S1x1024.size i2)) (ix2 0 l)
      else rest) = old (ix2 j l) + ∑ q : Fin 256, dwAt A j (256 * n + q.val) l := by
  by_cases e0 : j.val = 0
  · obtain rfl : j = 0 := Fin.ext e0
    rw [if_pos e0, add_dw0 hv h0, ld_row old 0 (by decide)]
    rfl
  by_cases e1 : j.val = 1
  · obtain rfl : j = 1 := Fin.ext e1
    rw [if_neg e0, if_pos e1, add_dw1 hv h1, ld_row old 1 (by decide)]
    rfl
  by_cases e2 : j.val = 2
  · obtain rfl : j = 2 := Fin.ext e2
    rw [if_neg e0, if_neg e1, if_pos e2, add_dw2 hv h2, ld_row old 2 (by decide)]
    rfl
  rw [if_neg e0, if_neg e1, if_neg e2, hr, Finset.sum_eq_zero (fun q _ => by rw [dwAt, if_neg (by omega)]), add_zero]

/-- The gradient of the taps after point `n` is that over the rows up to its block's last. -/
theorem left_dw (n : ℕ) : ∀ (hn : n < cfg0.N) (j : Fin 8) (l : Fin 1024),
    (outsAt0 m c n hn).2.2 (ix2 j l) = dw (args m c) (256 * n + 256) j l := by
  induction n using Nat.strong_induction_on with
  | _ n ih =>
  intro hn j l
  have B := blk m c ⟨n, hn⟩
  have hN : n < 16 := lt_of_lt_of_eq hn N_0
  have hdc := holds_dc3 (holds_dm B) (holds_b B inb_S5x256x1024_S1x256x1024_1_0_0) (holds_sc B inb_S5x256x1024_S1x256x1024_4_0_0)
  have hcu := holds_cu B inb_S5x256x1024_S1x256x1024_0_0_0 inb_S5x256x1024_S1x256x1024_2_0_0
  have hc1 := holds_c1 B hcu inb_S5x16x1024_S1x16x1024_0_0_0 inb_S5x16x1024_S1x16x1024_2_0_0
  have hc2 := holds_c2 B hcu inb_S5x16x1024_S1x16x1024_0_0_0 inb_S5x16x1024_S1x16x1024_2_0_0
  by_cases h0 : n % 16 = 0
  · obtain rfl : n = 0 := by omega
    rw [show outsAt0 m c 0 hn = _ from outsAt0_A m c ⟨0, hn⟩ h0]
    dsimp only
    unfold out0_A_9
    unfold kernelRun0_A
    dsimp only
    sl_unfold_words
    simp (disch := decide) only [↓ View.readCov_skip, ↓ View.readCov_cons_toLoadRect, ↓ View.readCov_fill]
    simp only [View.readAt_eq_ld, Memref.IsWhole.read_unread, View.ld_unit_zero (S := S256x1024) zero2]
    erw [rows3, flag ⟨0, hn⟩ 0 (by omega)]
    refine (step hdc hc2 hc1 hcu (k0_pay28 (F := Ideal)) _ _ _ _ j l ?_).trans ?_
    · rw [View.read_writes_junk_eq_canon, View.canon_unit_zero zero2]
    · rw [zero_row, dw_add]
      simp [dw]
  · rw [show outsAt0 m c n hn = _ from outsAt0_B m c ⟨n, hn⟩ h0]
    dsimp only
    unfold out0_B_9
    unfold kernelRun0_B
    dsimp only
    sl_unfold_words
    simp only [View.readAt_eq_ld, Memref.IsWhole.read_unread, View.ld_unit_zero (S := S256x1024) zero2]
    erw [rows3, flag ⟨n, hn⟩ 0 (by omega)]
    refine (step hdc hc2 hc1 hcu _ _ _ _ _ j l ?_).trans ?_
    · rw [View.writes_nil, Memref.IsWhole.read_unread]
    · rw [ih (n - 1) (by omega) _ j l, dw_add _ (256 * n), show 256 * (n - 1) + 256 = 256 * n by omega]

end Cert.ConvPoint
-- ==== Proof.ConvArray.lean ====
/-
  The arrays the convolution kernel leaves: the gradient of the attention branch, that of the projections, that of the
  taps, as the functions of `ConvSpec`.
-/
module

public import proofs.«01_k».proof.Proof.ConvPoint

@[expose] public section

noncomputable section

namespace Cert.ConvArray

open Cert.ConvIdeal Cert.ConvIdeal.Gen Cert.ConvSpec Cert.ConvBlock Cert.ConvPoint Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The gradient of the attention branch as an array. -/
def dattnArr (A : Args) : Vec Ideal S4096x1024 .bf16 := fun y => dattn A (y 0).val (y 1)

/-- The gradient of the projections as an array. -/
def dpaArr (A : Args) : Vec Ideal S5x4096x1024 .bf16 := fun y => dpa A (y 0) (y 1).val (y 2)

/-- The gradient of the taps as an array. -/
def dwArr (A : Args) : Vec Ideal S8x1024 .f32 := fun y => dw A 4096 (y 0) (y 1)

theorem out_dattn : (dats m 0 c).arrAt 7 cfg0.N = dattnArr (args m c) := by
  refine (dats m 0 c).arrAt_eq_of_cover 7 (dattnArr (args m c)) (fun t _ => ?_) fun i => ?_
  · obtain ⟨-, -, -, -, -, -, -, h, -⟩ := at_point t
    rw [Value.flushed7]
    funext y
    obtain ⟨q, l, rfl⟩ : ∃ q l, y = ix2 q l := ⟨y 0, y 1, funext fun a => by fin_cases a <;> rfl⟩
    refine (left_dattn m c t q l).trans ?_
    rw [View.read_apply]
    show dattn _ _ _ = dattn (args m c) (win0_7.index t 0 * 256 + 1 * q.val) _
    rw [h.1]
    refine congr (congrArg (dattn _) (by omega)) (Fin.ext ?_)
    show l.val = win0_7.index t 1 * 1024 + 1 * l.val
    rw [h.2]; omega
  · have h0 : (i 0 : Nat) < 4096 := (i 0).isLt
    have h1 : (i 1 : Nat) < 1024 := (i 1).isLt
    let t : Fin cfg0.N := ⟨(i 0 : Nat) / 256, by rw [show cfg0.N = 16 from N_0]; omega⟩
    obtain ⟨-, -, -, -, -, -, -, h, -⟩ := at_point t
    refine ⟨t, flush0_7 t, ?_⟩
    show i ∈ ((View.whole main_v0_0).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256
                rw [h.1]; show (i 0 : Nat) / 256 * 256 ≤ _ ∧ _ < (i 0 : Nat) / 256 * 256 + 256; omega
    | ⟨1, _⟩ => show win0_7.index t 1 * 1024 ≤ (i 1 : Nat) ∧ (i 1 : Nat) < win0_7.index t 1 * 1024 + 1024
                rw [h.2]; omega

theorem out_dpa : (dats m 0 c).arrAt 8 cfg0.N = dpaArr (args m c) := by
  refine (dats m 0 c).arrAt_eq_of_cover 8 (dpaArr (args m c)) (fun t _ => ?_) fun i => ?_
  · obtain ⟨-, -, -, -, -, -, -, -, h, -⟩ := at_point t
    rw [Value.flushed8]
    funext y
    obtain ⟨p, q, l, rfl⟩ : ∃ p q l, y = ix3 p q l := ⟨y 0, y 1, y 2, funext fun a => by fin_cases a <;> rfl⟩
    refine (left_dpa m c t p q l).trans ?_
    rw [View.read_apply]
    show dpa _ _ _ _ = dpa (args m c) _ (win0_8.index t 1 * 256 + 1 * q.val) _
    rw [h.2.1]
    refine congr (congr (congrArg (dpa _) (Fin.ext ?_)) (by omega)) (Fin.ext ?_)
    · show p.val = win0_8.index t 0 * 5 + 1 * p.val
      rw [h.1]; omega
    · show l.val = win0_8.index t 2 * 1024 + 1 * l.val
      rw [h.2.2]; omega
  · have h0 : (i 0 : Nat) < 5 := (i 0).isLt
    have h1 : (i 1 : Nat) < 4096 := (i 1).isLt
    have h2 : (i 2 : Nat) < 1024 := (i 2).isLt
    let t : Fin cfg0.N := ⟨(i 1 : Nat) / 256, by rw [show cfg0.N = 16 from N_0]; omega⟩
    obtain ⟨-, -, -, -, -, -, -, -, h, -⟩ := at_point t
    refine ⟨t, flush0_8 t, ?_⟩
    show i ∈ ((View.whole main_v0_1).slice (win0_8.rect t)).set
    rw [View.set_slice_whole, Rect.mem_set_unit]
    intro a
    match a with
    | ⟨0, _⟩ => show win0_8.index t 0 * 5 ≤ (i 0 : Nat) ∧ (i 0 : Nat) < win0_8.index t 0 * 5 + 5
                rw [h.1]; omega
    | ⟨1, _⟩ => show win0_8.index t 1 * 256 ≤ (i 1 : Nat) ∧ (i 1 : Nat) < win0_8.index t 1 * 256 + 256
                rw [h.2.1]; show (i 1 : Nat) / 256 * 256 ≤ _ ∧ _ < (i 1 : Nat) / 256 * 256 + 256; omega
    | ⟨2, _⟩ => show win0_8.index t 2 * 1024 ≤ (i 2 : Nat) ∧ (i 2 : Nat) < win0_8.index t 2 * 1024 + 1024
                rw [h.2.2]; omega

theorem out_dw : (dats m 0 c).arrAt 9 cfg0.N = dwArr (args m c) := by
  refine (dats m 0 c).arrAt_eq_of_cover 9 (dwArr (args m c)) (fun t hf => ?_) fun i => ?_
  · obtain ⟨-, -, -, -, -, -, -, -, -, h, -⟩ := at_point t
    have hN : t.val < 16 := lt_of_lt_of_eq t.isLt N_0
    have h15 : t.val = 15 := by have := (flush0_9 t).mp hf; omega
    rw [Value.flushed9]
    funext y
    obtain ⟨j, l, rfl⟩ : ∃ j l, y = ix2 j l := ⟨y 0, y 1, funext fun a => by fin_cases a <;> rfl⟩
    refine (left_dw m c t.val t.isLt j l).trans ?_
    rw [View.read_apply, h15]
    show dw _ _ _ _ = dw (args m c) 4096 _ _
    refine congr (congrArg (dw _ _) (Fin.ext ?_)) (Fin.ext ?_)
    · show j.val = win0_9.index t 0 * 8 + 1 * j.val
      rw [h.1]; omega
    · show l.val = win0_9.index t 1 * 1024 + 1 * l.val
      rw [h.2]; omega
  · have h0 : (i 0 : Nat) < 8 := (i 0).isLt
    have h1 : (i 1 : Nat) < 1024 := (i 1).isLt
    obtain ⟨-, -, -, -, -, -, -, -, -, h, -⟩ := at_point t0_15
    refine ⟨t0_15, (flush0_9 t0_15).mpr rfl, ?_⟩
    show i ∈ ((View.whole main_v0_2).slice (win0_9.rect t0_15)).set
    rw [View.set_slice_whole, Rect.mem_set_unit]
    intro a
    match a with
    | ⟨0, _⟩ => show win0_9.index t0_15 0 * 8 ≤ (i 0 : Nat) ∧ (i 0 : Nat) < win0_9.index t0_15 0 * 8 + 8
                rw [h.1]; omega
    | ⟨1, _⟩ => show win0_9.index t0_15 1 * 1024 ≤ (i 1 : Nat) ∧ (i 1 : Nat) < win0_9.index t0_15 1 * 1024 + 1024
                rw [h.2]; omega

/-- The run, read: the three gradients in the result arrays, the arguments unchanged. -/
theorem run : θ_run defs (onTc (τ := τ) (main (F := Ideal))) ⟨m, fun _ => 0, ρ⟩ fun r => ∀ c : Dev nD,
      r.2.mem ((c : Thread nD τ).loc main_v0_0) = dattnArr (args m c)
      ∧ r.2.mem ((c : Thread nD τ).loc main_v0_1) = dpaArr (args m c)
      ∧ r.2.mem ((c : Thread nD τ).loc main_v0_2) = dwArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h7, h8, h9, h⟩ := h c
  exact ⟨h7.trans (out_dattn m c), h8.trans (out_dpa m c), h9.trans (out_dw m c), h⟩

end Cert.ConvArray
-- ==== Proof.ConvRef.lean ====
/-
  What the reference computes, stage by stage: the same functions of `ConvSpec`.
-/
module

public import proofs.«01_k».proof.Proof.ConvSpec
public import proofs.«01_k».proof.Proof.Gen.ConvRefIdeal.Read
public import proofs.«01_k».proof.Proof.Gen.ConvRefIdeal.Run

@[expose] public section

noncomputable section

namespace Cert.ConvRef

open Cert.ConvRefIdeal Cert.ConvRefIdeal.Read Cert.ConvSpec Idealize.ShloMosaic Idealize.ShloMosaic.TcCoe

variable (A : Args)

/-! The planes of the projections and the other arrays. -/

theorem v61 (r : Fin 4096) (l : Fin 1024) : val_main_v61 A.dm (ix2 r l) = DM A r l := by
  pointwise [val_main_v61, DM]

theorem v1 (r : Fin 4096) (l : Fin 1024) : val_main_v1 A.attn (ix2 r l) = AT A r l := by
  pointwise [val_main_v1, AT]

theorem v4 (r : Fin 4096) (l : Fin 1024) : val_main_v4 A.pa (ix2 r l) = PA A 0 r l := by
  pointwise [val_main_v4, val_main_v3, val_main_v0, PA]

theorem v6 (r : Fin 4096) (l : Fin 1024) : val_main_v6 A.pa (ix2 r l) = PA A 1 r l := by
  pointwise [val_main_v6, val_main_v5, val_main_v0, PA]

theorem v8 (r : Fin 4096) (l : Fin 1024) : val_main_v8 A.pa (ix2 r l) = PA A 2 r l := by
  pointwise [val_main_v8, val_main_v7, val_main_v0, PA]

theorem v10 (r : Fin 4096) (l : Fin 1024) : val_main_v10 A.pa (ix2 r l) = PA A 3 r l := by
  pointwise [val_main_v10, val_main_v9, val_main_v0, PA]

theorem v12 (r : Fin 4096) (l : Fin 1024) : val_main_v12 A.pa (ix2 r l) = PA A 4 r l := by
  pointwise [val_main_v12, val_main_v11, val_main_v0, PA]

/-! The gates. -/

theorem v45 (r : Fin 4096) (l : Fin 1024) : val_main_v45 A.pa (ix2 r l) = sa A r l := by
  pointwise [val_main_v45, val_main_v44, val_main_cst_3, val_main_v43, val_main_v42, val_main_cst_2, val_main_v41, val_main_v40, v10]
  rfl

theorem v55 (r : Fin 4096) (l : Fin 1024) : val_main_v55 A.pa (ix2 r l) = sc A r l := by
  pointwise [val_main_v55, val_main_v54, val_main_cst_6, val_main_v53, val_main_v52, val_main_cst_5, val_main_v51, val_main_v50, v12]
  rfl

theorem v48 (r : Fin 4096) (l : Fin 1024) : val_main_v48 A.pa (ix2 r l) = sa A r l * (1 - sa A r l) := by
  pointwise [val_main_v48, val_main_v47, val_main_v46, val_main_cst_4, v45]

theorem v58 (r : Fin 4096) (l : Fin 1024) : val_main_v58 A.pa (ix2 r l) = sc A r l * (1 - sc A r l) := by
  pointwise [val_main_v58, val_main_v57, val_main_v56, val_main_cst_7, v55]

/-! The gated input with two zero rows in front, and the three windows of it. -/

theorem v15 (r : Fin 4098) (l : Fin 1024) : val_main_v15 A.pa (ix2 r l) = back 2 (cu A) r l := by
  pointwise [val_main_v15, val_main_v14, val_main_v13, val_main_cst, v4, v8]
  unfold back cu
  by_cases h : r.val < 2
  · rw [dif_pos h, if_neg (by omega)]
  · rw [dif_neg h, if_pos (by omega)]

theorem v19 (r : Fin 4096) (l : Fin 1024) : val_main_v19 A.pa (ix2 r l) = back 2 (cu A) r l := by
  pointwise [val_main_v19, v15]

theorem v27 (r : Fin 4096) (l : Fin 1024) : val_main_v27 A.pa (ix2 r l) = back 1 (cu A) r l := by
  pointwise [val_main_v27, v15]
  unfold back
  by_cases h : 1 ≤ r.val
  · rw [if_pos (by omega), if_pos h]; congr 1; omega
  · rw [if_neg (by omega), if_neg h]

theorem v34 (r : Fin 4096) (l : Fin 1024) : val_main_v34 A.pa (ix2 r l) = cu A r l := by
  pointwise [val_main_v34, v15]
  unfold back
  rw [if_pos (by omega)]; congr 1; omega

/-! The taps as rows of the size of the array. -/

theorem v20 (l : Fin 1024) : val_main_v20 A.w (ix2 0 l) = W A 0 l := by
  pointwise [val_main_v20, val_main_v18, val_main_v17, val_main_v2, W]

theorem v28 (l : Fin 1024) : val_main_v28 A.w (ix2 0 l) = W A 1 l := by
  pointwise [val_main_v28, val_main_v26, val_main_v25, val_main_v2, W]

theorem v35 (l : Fin 1024) : val_main_v35 A.w (ix2 0 l) = W A 2 l := by
  pointwise [val_main_v35, val_main_v33, val_main_v32, val_main_v2, W]

/-! The forward convolution, and the cotangents. -/

theorem v38 (r : Fin 4096) (l : Fin 1024) : val_main_v38 A.pa A.w (ix2 r l) = c3 A r l := by
  pointwise [val_main_v38, val_main_v37, val_main_v36, val_main_v31, val_main_v30, val_main_v29, val_main_v24,
    val_main_v23, val_main_cst_1, val_main_v22, val_main_v21, v20, v28, v35, v19, v27, v34, c3]

theorem v62 (r : Fin 4096) (l : Fin 1024) : val_main_v62 A.dm A.pa (ix2 r l) = dconv A r l := by
  pointwise [val_main_v62, v55, v61, dconv]
  exact mul_comm _ _

theorem v68 (r : Fin 4096) (l : Fin 1024) : val_main_v68 A.dm A.pa (ix2 r l) = dc3 A r l := by
  pointwise [val_main_v68, v6, v62, dc3]
  exact mul_comm _ _

/-- The cotangent of the gated input, still with the two rows in front of it. -/
theorem v97 (r : Fin 4098) (h : 2 ≤ r.val) (l : Fin 1024) :
    val_main_v97 A.dm A.pa A.w (ix2 r l) = dcu A (r.val - 2) l := by
  pointwise [val_main_v97, val_main_v96, val_main_v91, val_main_v90, val_main_v86, val_main_v85, val_main_v80,
    val_main_v79, val_main_v76, val_main_v71, val_main_v70, val_main_cst_10, val_main_cst_14, val_main_cst_18, v20, v28, v35, v68, dcu]
  have hr := r.isLt
  obtain ⟨k, hk⟩ : ∃ k, r.val = k + 2 := ⟨r.val - 2, by omega⟩
  simp only [hk, Nat.add_sub_cancel]
  congr 1
  · congr 1
    · rw [dif_pos (by omega)]
    · by_cases h1 : k + 1 < 4096
      · rw [dif_pos (by omega)]; rfl
      · rw [dif_neg (by omega), dc3_out A (r := k + 1) (by omega), mul_zero]
  · by_cases h1 : k + 2 < 4096
    · rw [dif_pos h1]
    · rw [dif_neg h1, dc3_out A (r := k + 2) (by omega), mul_zero]

theorem v102 (r : Fin 4096) (l : Fin 1024) : val_main_v102 A.dm A.pa A.w (ix2 r l) = dcu A r l := by
  pointwise [val_main_v102]
  rw [v97 A _ (by simp)]
  simp

/-! The gradient of the taps. -/

theorem v100 (j : Fin 3) (l : Fin 1024) : val_main_v100 A.dm A.pa (ix2 j l) = dw A 4096 ⟨j.val, by omega⟩ l := by
  pointwise [val_main_v100, val_main_v99, val_main_v98, val_main_v95, val_main_v94, val_main_v93, val_main_v92, val_main_v89,
    val_main_v88, val_main_v87, val_main_v84, val_main_v83, val_main_v82, val_main_v81, val_main_v78, val_main_v77,
    val_main_v75, val_main_v74, val_main_v73, val_main_v72, val_main_cst_8, val_main_cst_9, val_main_cst_11, val_main_cst_12,
    val_main_cst_13, val_main_cst_15, val_main_cst_16, val_main_cst_17, val_main_cst_19, v68, v19, v27, v34]
  unfold dw
  rw [Finset.sum_range]
  fin_cases j <;> simp [dwAt, back_zero]

theorem v122 (j : Fin 8) (l : Fin 1024) : val_main_v122 A.dm A.pa (ix2 j l) = dw A 4096 j l := by
  pointwise [val_main_v122, val_main_v121, val_main_cst_25, v100]
  by_cases h : j.val < 3
  · rw [dif_pos h]
  · rw [dif_neg h]
    unfold dw dwAt
    simp [h]

/-! The other two gradients. -/

theorem v119 (r : Fin 4096) (l : Fin 1024) : val_main_v119 A.dm A.pa (ix2 r l) = dattn A r l := by
  pointwise [val_main_v119, val_main_v65, v45, v61, dattn]
  exact mul_comm _ _

theorem v120 (p : Fin 5) (r : Fin 4096) (l : Fin 1024) :
    val_main_v120 A.dm A.pa A.attn A.w (ix3 p r l) = dpa A p r l := by
  pointwise [val_main_v120, val_main_v118, val_main_v117, val_main_v116, val_main_v115, val_main_v114, val_main_v113,
    val_main_v112, val_main_v111, val_main_v110, val_main_v109, val_main_v108, val_main_v107, val_main_v106, val_main_v105,
    val_main_v104, val_main_v103, val_main_v69, val_main_v67, val_main_v66, val_main_v64, val_main_v63, val_main_v39,
    val_main_cst_20, val_main_cst_21, val_main_cst_22, val_main_cst_23, val_main_cst_24, v102, v4, v8, v62, v38, v61, v1,
    v48, v58, v6]
  fin_cases p <;> simp [dpa, mul_comm, mul_left_comm, mul_assoc]

end Cert.ConvRef
-- ==== Proof.ConvClaim.lean ====
/-
  The claims about the convolution gradient: what the kernel leaves is what the reference computes.
-/
module

public import proofs.«01_k».proof.Defs
public import proofs.«01_k».proof.Proof.ConvArray
public import proofs.«01_k».proof.Proof.ConvRef

@[expose] public section

noncomputable section

namespace Cert.ConvClaim

open Cert.ConvSpec Idealize.ShloMosaic Idealize.ShloMosaic.TcCoe Idealize.SL.Sem

variable (m : (ℓ : Loc Cert.ConvRefIdeal.nD Cert.ConvRefIdeal.τ Cert.ConvRefIdeal.sig) → Buf (Elt Ideal) ℓ)
  (ρ : Dev Cert.ConvRefIdeal.nD → PrngReg)

/-- The reference's arguments on a device. -/
def refArgs (c : Dev Cert.ConvRefIdeal.nD) : Args where
  dm := m ((c.tc : Thread Cert.ConvRefIdeal.nD Cert.ConvRefIdeal.τ).loc Cert.ConvRefIdeal.main_arg0)
  pa := m ((c.tc : Thread Cert.ConvRefIdeal.nD Cert.ConvRefIdeal.τ).loc Cert.ConvRefIdeal.main_arg1)
  attn := m ((c.tc : Thread Cert.ConvRefIdeal.nD Cert.ConvRefIdeal.τ).loc Cert.ConvRefIdeal.main_arg2)
  w := m ((c.tc : Thread Cert.ConvRefIdeal.nD Cert.ConvRefIdeal.τ).loc Cert.ConvRefIdeal.main_arg3)

open Cert.ConvRefIdeal in
/-- The reference's run, read: the three gradients, the arguments unchanged. -/
theorem ref_run : θ_run defs (onTc (τ := τ) (main (F := Ideal))) ⟨m, fun _ => 0, ρ⟩ fun r => ∀ c : Dev nD,
      r.2.mem ((c.tc : Thread nD τ).loc main_v119) = ConvArray.dattnArr (refArgs m c)
      ∧ r.2.mem ((c.tc : Thread nD τ).loc main_v120) = ConvArray.dpaArr (refArgs m c)
      ∧ r.2.mem ((c.tc : Thread nD τ).loc main_v122) = ConvArray.dwArr (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h⟩ := h c
  refine ⟨h0.trans ((Read.val_main_v119_eq _ _).trans ?_), h1.trans ((Read.val_main_v120_eq m c).trans ?_),
    h2.trans ((Read.val_main_v122_eq m c).trans ?_), h⟩
  · funext y
    obtain ⟨r, l, rfl⟩ : ∃ r l, y = ix2 r l := ⟨y 0, y 1, funext fun a => by fin_cases a <;> rfl⟩
    exact ConvRef.v119 (refArgs m c) r l
  · funext y
    obtain ⟨p, r, l, rfl⟩ : ∃ p r l, y = ix3 p r l := ⟨y 0, y 1, y 2, funext fun a => by fin_cases a <;> rfl⟩
    exact ConvRef.v120 (refArgs m c) p r l
  · funext y
    obtain ⟨j, l, rfl⟩ : ∃ j l, y = ix2 j l := ⟨y 0, y 1, funext fun a => by fin_cases a <;> rfl⟩
    exact ConvRef.v122 (refArgs m c) j l

/-- The reference runs, keeps its arguments and has no semaphore. -/
theorem ref_frame : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- Kernel and reference leave the same three gradients. -/
theorem algebraic : Cert.algebraic_ConvIdeal_ConvRefIdeal := by
  intro m g m' g' _ hagree
  have hA : ∀ c : Dev Cert.ConvIdeal.nD, refArgs m' c = ConvPoint.args m c := fun c => by
    obtain ⟨h0, h1, h2, h3⟩ := hagree c
    unfold refArgs ConvPoint.args
    exact congr (congr (congr (congrArg Args.mk h0) h1) h2) h3
  refine ⟨fun c => ConvArray.dattnArr (ConvPoint.args m c), fun c => ConvArray.dpaArr (ConvPoint.args m c),
    fun c => ConvArray.dwArr (ConvPoint.args m c), ConvArray.run m g, ?_⟩
  refine (θ_run Cert.ConvRefIdeal.defs _ _).mono (fun r h c => ?_) (ref_run m' g')
  have e : refArgs m' c = ConvPoint.args m c := hA c
  have hc := h c
  rw [e] at hc
  exact hc

end Cert.ConvClaim
-- ==== Proof.Finite.lean ====
/-
  Finite arrays. The preconditions say of every entry that its magnitude is below infinity; such an entry is a real
  number, and sums and products of real numbers may be worked out in the reals.
-/
module

public import Idealize.ShloMosaic.PureOps.Ideal
public import Idealize.ShloMosaic.Lib.Pointwise

@[expose] public section

noncomputable section

namespace Cert.Finite

open Idealize.ShloMosaic

/-- A real number, seen among the extended ones. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- What an entry of a precondition's result says: the magnitude is below infinity. -/
theorem of_below {x : EReal} (h : Ideal.cmp .olt (max x (-x)) (Ideal.ofBits FTy.f32 0x7F800000#32) = 1#1) :
    IsReal x := by
  have hi : Ideal.ofBits FTy.f32 0x7F800000#32 = ⊤ := by simp [Ideal.ofBits, Ideal.ieee]
  rw [hi] at h
  induction x with
  | bot => simp [Ideal.cmp] at h
  | top => simp [Ideal.cmp] at h
  | coe r => exact ⟨r, rfl⟩

end Cert.Finite
-- ==== Proof.XattnMath.lean ====
/-
  One row of one head of the attention into the memory, in the reals: the scores, the weights of the softmax, the row's
  output, and the gradients that come back through it. The kernel keeps the logarithm of a row's sum and takes the weights
  from it again; the reference divides. The two agree.
-/
module

public import proofs.«01_k».proof.Proof.Finite

@[expose] public section

noncomputable section

namespace Cert.XattnMath

open Idealize.ShloMosaic Cert.Finite

/-- The constants one sixteenth, one and minus infinity. -/
theorem sixteenth_eq : Ideal.ofBits FTy.f32 0x3D800000#32 = ((1 / 16 : ℝ) : EReal) := by
  simp [Ideal.ofBits, Ideal.ieee, ← EReal.coe_mul]
  norm_num

theorem one_eq : Ideal.ofBits FTy.f32 0x3F800000#32 = ((1 : ℝ) : EReal) := by
  simp [Ideal.ofBits, Ideal.ieee, ← EReal.coe_mul]
  norm_num

theorem bot_eq : Ideal.ofBits FTy.f32 0xFF800000#32 = ⊥ := by
  simp [Ideal.ofBits, Ideal.ieee]

/-- The greatest of finitely many reals is a real. -/
theorem greatest {ι : Type} [DecidableEq ι] (f : ι → ℝ) (s : Finset ι) :
    s = ∅ ∨ IsReal (s.fold max (⊥ : EReal) fun i => (f i : EReal)) := by
  induction s using Finset.induction_on with
  | empty => exact .inl rfl
  | insert a s ha ih =>
    refine .inr ?_
    rw [Finset.fold_insert ha]
    rcases ih with rfl | ⟨r, hr⟩
    · exact ⟨f a, by rw [Finset.fold_empty]; exact max_eq_left bot_le⟩
    · exact ⟨max (f a) r, by rw [hr]; exact (EReal.coe_strictMono.monotone.map_max).symm⟩

/-- The greatest score of a row. -/
def top (s : Fin 256 → ℝ) : ℝ := (Finset.univ.fold max (⊥ : EReal) fun t => (s t : EReal)).toReal

theorem top_eq (s : Fin 256 → ℝ) : (Finset.univ.fold max (⊥ : EReal) fun t => (s t : EReal)) = (top s : EReal) := by
  rcases greatest s Finset.univ with h | ⟨r, h⟩
  · exact absurd (Finset.mem_univ (0 : Fin 256)) (by rw [h]; exact Finset.notMem_empty _)
  · unfold top
    rw [h, EReal.toReal_coe]

/-- The score of a row and a token of the memory. -/
def score (q : Fin 256 → ℝ) (k : Fin 256 → Fin 256 → ℝ) (t : Fin 256) : ℝ := (∑ d, q d * k t d) * (1 / 16)

/-- The exponential of a score above the greatest. -/
def above (s : Fin 256 → ℝ) (t : Fin 256) : ℝ := Real.exp (s t - top s)

def total (s : Fin 256 → ℝ) : ℝ := ∑ t, above s t

theorem total_pos (s : Fin 256 → ℝ) : 0 < total s :=
  Finset.sum_pos (fun _ _ => Real.exp_pos _) ⟨0, Finset.mem_univ _⟩

/-- The softmax. -/
def prob (s : Fin 256 → ℝ) (t : Fin 256) : ℝ := above s t / total s

/-- The logarithm of the sum of the exponentials. -/
def lse (s : Fin 256 → ℝ) : ℝ := top s + Real.log (total s)

/-- The row's output. -/
def out (s : Fin 256 → ℝ) (v : Fin 256 → Fin 256 → ℝ) (j : Fin 256) : ℝ := (∑ t, above s t * v t j) * (1 / total s)

/-- The gradient at a weight. -/
def dprob (g : Fin 256 → ℝ) (v : Fin 256 → Fin 256 → ℝ) (t : Fin 256) : ℝ := ∑ j, g j * v t j

/-- The gradient at a score before its factor. -/
def dlogit (s : Fin 256 → ℝ) (g : Fin 256 → ℝ) (v : Fin 256 → Fin 256 → ℝ) (t : Fin 256) : ℝ :=
  prob s t * (dprob g v t - ∑ u, prob s u * dprob g v u) * (1 / 16)

/-- The weights out of the logarithm. -/
theorem prob_eq (s : Fin 256 → ℝ) (t : Fin 256) : Real.exp (s t - lse s) = prob s t := by
  unfold lse prob above
  rw [← sub_sub, Real.exp_sub, Real.exp_log (total_pos s)]

/-- The sum over a row's output is the sum over its weights. -/
theorem delta_eq (s : Fin 256 → ℝ) (g : Fin 256 → ℝ) (v : Fin 256 → Fin 256 → ℝ) :
    ∑ j, g j * out s v j = ∑ u, prob s u * dprob g v u := by
  unfold out prob dprob
  simp only [Finset.sum_mul, Finset.mul_sum]
  rw [Finset.sum_comm]
  refine Finset.sum_congr rfl fun u _ => Finset.sum_congr rfl fun j _ => ?_
  rw [div_eq_mul_one_div]
  ring

end Cert.XattnMath
-- ==== Proof.XattnFwd.lean ====
/-
  The attention into the memory, forward: what the first call's body stores, for a block of 1024 rows.
-/
module

public import proofs.«01_k».proof.Defs
public import proofs.«01_k».proof.Proof.XattnMath
public import proofs.«01_k».proof.Proof.Gen.XattnIdeal.Frame
public import Idealize.ShloMosaic.Lib.Tactic
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

noncomputable section

namespace Cert.XattnClaim

open Idealize.ShloMosaic Idealize.ShloMosaic.TcCoe Idealize.SL.Sem
open Idealize.ShloMosaic.Pipeline (Dat)
open Cert.XattnMath

set_option maxRecDepth 16384
open Cert.XattnIdeal Cert.XattnIdeal.Gen

theorem zero2 : (![0, 0] : Fin 2 → Nat) = fun _ => 0 := funext fun a => by fin_cases a <;> rfl

/-- The columns of a head. -/
def col (h : Fin 4) (d : Fin 256) : Fin 1024 := ⟨256 * h.val + d.val, by have := h.isLt; have := d.isLt; omega⟩

/-- A row's queries, and a head's part of them, of the keys and of the values. -/
def query (x : Fin 1024 → ℝ) (w : Fin 1024 → Fin 1024 → ℝ) (f : Fin 1024) : ℝ := ∑ e, x e * w e f
def part (q : Fin 1024 → ℝ) (h : Fin 4) (d : Fin 256) : ℝ := q (col h d)
def keys (k : Fin 8 → Fin 256 → Fin 256 → ℝ) (h : Fin 4) (t d : Fin 256) : ℝ := k ⟨h.val, by omega⟩ t d
def vals (k : Fin 8 → Fin 256 → Fin 256 → ℝ) (h : Fin 4) (t d : Fin 256) : ℝ := k ⟨4 + h.val, by omega⟩ t d

/-- A row's scores in a head. -/
def scores (q : Fin 1024 → ℝ) (k : Fin 8 → Fin 256 → Fin 256 → ℝ) (h : Fin 4) (t : Fin 256) : ℝ := score (part q h) (keys k h) t

section Head

variable (a : Vec Ideal S1024x256 .bf16) (b v : Vec Ideal S1x256x256 .bf16) (i : Fin 1024) (q : Fin 256 → ℝ) (k w : Fin 256 → Fin 256 → ℝ)
  (hq : ∀ d, a (ix2 i d) = (q d : EReal)) (hk : ∀ t d, b (ix3 0 t d) = (k t d : EReal)) (hv : ∀ t j, v (ix3 0 t j) = (w t j : EReal))

include hq hk

/-- A head's scores, their greatest, the exponentials above it, their sum. -/
theorem head_score (t : Fin 256) : k0_pay8 a b (ix2 i t) = (score q k t : EReal) := by
  unfold_payloads
  pointwise
  simp only [hq, hk, sixteenth_eq, ← EReal.coe_mul, ← Finite.coe_sum]
  rfl

theorem head_top : k0_pay9 a b (ix2 i 0) = (top (score q k) : EReal) := by
  have e := head_score a b i q k hq hk
  unfold k0_pay9
  generalize k0_pay8 a b = s at e
  rw [← top_eq]
  simp only [← e]
  pointwise
  simp only [bot_eq]

theorem head_above (t : Fin 256) : k0_pay10 a b (ix2 i t) = (above (score q k) t : EReal) := by
  have e := head_score a b i q k hq hk t
  have e2 := head_top a b i q k hq hk
  unfold k0_pay10
  generalize k0_pay8 a b = s at e
  generalize k0_pay9 a b = m at e2
  pointwise
  rw [e, e2, ← EReal.coe_sub, Ideal.exp_coe]
  rfl

theorem head_total : k0_pay11 a b (ix2 i 0) = (total (score q k) : EReal) := by
  have e := head_above a b i q k hq hk
  unfold k0_pay11 total
  generalize k0_pay10 a b = s at e
  rw [Finite.coe_sum]
  simp only [← e]
  pointwise

include hv in
/-- The head's output. -/
theorem head_out (j : Fin 256) : k0_pay12 a b v (ix2 i j) = (out (score q k) w j : EReal) := by
  have e := head_above a b i q k hq hk
  have e2 := head_total a b i q k hq hk
  unfold k0_pay12 out
  generalize k0_pay10 a b = s at e
  generalize k0_pay11 a b = m at e2
  pointwise
  rw [e2, Ideal.div_coe (total_pos _).ne']
  simp only [e, hv, ← EReal.coe_mul, ← Finite.coe_sum, ← EReal.coe_one, one_mul]

omit hk hq in
theorem head_lse (s : Fin 256 → ℝ) : (top s : EReal) + Ideal.log (total s : EReal) = (lse s : EReal) := by
  rw [Ideal.log_coe, if_neg (not_le.mpr (total_pos s)), ← EReal.coe_add]
  rfl

end Head

section Lanes

variable (z : FVec Ideal S1024x128 .f32) (x0 x1 x2 x3 : Vec Ideal S1024x256 .bf16) (k0 k1 k2 k3 : Vec Ideal S1x256x256 .bf16) (i : Fin 1024)

/-- The logarithms of the four heads, each in its lane. -/
def lanes : FVec Ideal S1024x128 .f32 :=
  k0_pay5 (iota .tc S1024x128 32 [1] iota_S1024x128_d1_w32)
    (k0_pay26 (iota .tc S1024x128 32 [1] iota_S1024x128_d1_w32)
      (k0_pay19 (iota .tc S1024x128 32 [1] iota_S1024x128_d1_w32) k0_pay7 (k0_pay9 x0 k0) (k0_pay11 x0 k0) k0_pay13 x1 k1)
      (k0_pay20 x2) k2)
    (k0_pay27 x3 k3) (k0_pay28 x3 k3)

theorem lanes0 : lanes x0 x1 x2 x3 k0 k1 k2 k3 (ix2 i 0) = k0_pay9 x0 k0 (ix2 i 0) + Ideal.log (k0_pay11 x0 k0 (ix2 i 0)) := by
  unfold lanes k0_pay5 k0_pay26 k0_pay19 k0_pay13
  generalize k0_pay9 x0 k0 = a
  generalize k0_pay11 x0 k0 = b
  pointwise
  rfl

theorem lanes1 : lanes x0 x1 x2 x3 k0 k1 k2 k3 (ix2 i 1) = k0_pay9 x1 k1 (ix2 i 0) + Ideal.log (k0_pay11 x1 k1 (ix2 i 0)) := by
  show _ = k0_pay15 x1 k1 (ix2 i 0) + Ideal.log (k0_pay17 x1 k1 (ix2 i 0))
  unfold lanes k0_pay5 k0_pay26 k0_pay19 k0_pay13
  generalize k0_pay15 x1 k1 = a
  generalize k0_pay17 x1 k1 = b
  pointwise
  rfl

theorem lanes2 : lanes x0 x1 x2 x3 k0 k1 k2 k3 (ix2 i 2) = k0_pay9 x2 k2 (ix2 i 0) + Ideal.log (k0_pay11 x2 k2 (ix2 i 0)) := by
  have e1 : k0_pay22 (k0_pay20 x2) k2 = k0_pay9 x2 k2 := rfl
  have e2 : k0_pay24 (k0_pay20 x2) k2 = k0_pay11 x2 k2 := rfl
  unfold lanes k0_pay5 k0_pay26
  rw [e1, e2]
  generalize k0_pay9 x2 k2 = a
  generalize k0_pay11 x2 k2 = b
  pointwise
  rfl

theorem lanes3 : lanes x0 x1 x2 x3 k0 k1 k2 k3 (ix2 i 3) = k0_pay9 x3 k3 (ix2 i 0) + Ideal.log (k0_pay11 x3 k3 (ix2 i 0)) := by
  show _ = k0_pay1 (k0_pay28 x3 k3) (ix2 i 0) + Ideal.log (k0_pay3 (k0_pay27 x3 k3) (k0_pay28 x3 k3) (ix2 i 0))
  unfold lanes k0_pay5
  generalize k0_pay3 (k0_pay27 x3 k3) (k0_pay28 x3 k3) = b
  generalize k0_pay1 (k0_pay28 x3 k3) = a
  pointwise

end Lanes

section Block

/-- A head's columns and a plane, out of what they are loaded from. -/
theorem load_cols (x : Vec Ideal S1024x1024 .bf16) (h : Fin 4) (o : ℕ) (ho : o = 256 * h.val) (hb) (i : Fin 1024) (d : Fin 256) :
    View.ld (Val := Elt Ideal) x (Rect.unit (s := S1024x1024) ![0, o] S1024x256.size hb) (ix2 i d) = x (ix2 i (col h d)) := by
  subst ho
  show x _ = _
  refine congrArg x (funext fun a => Fin.ext ?_)
  match a with
  | ⟨0, _⟩ => show 0 + 1 * i.val = i.val; omega
  | ⟨1, _⟩ => show 256 * h.val + 1 * d.val = 256 * h.val + d.val; omega

theorem load_plane (k : Vec Ideal S8x256x256 .bf16) (j : ℕ) (hj : j < 8) (hb) (t d : Fin 256) :
    View.ld (Val := Elt Ideal) k (Rect.unit (s := S8x256x256) ![j, 0, 0] S1x256x256.size hb) (ix3 0 t d) = k (ix3 ⟨j, hj⟩ t d) := by
  show k _ = _
  refine congrArg k (funext fun a => Fin.ext ?_)
  match a with
  | ⟨0, _⟩ => show j + 1 * 0 = j; rfl
  | ⟨1, _⟩ => show 0 + 1 * t.val = t.val; omega
  | ⟨2, _⟩ => show 0 + 1 * d.val = d.val; omega

/-- An array of all heads, by row, head and column of a head. -/
def spread (G : Fin 1024 → Fin 4 → Fin 256 → EReal) (z : S1024x1024.Idx) : EReal :=
  G (z 0) ⟨(z 1).val / 256, by have h1 : (z 1 : ℕ) < 1024 := (z 1).isLt; omega⟩ ⟨(z 1).val % 256, Nat.mod_lt _ (by decide)⟩

/-- A head's columns, stored where an array of all heads has them. -/
theorem put_cols (G : Fin 1024 → Fin 4 → Fin 256 → EReal) (v : S1024x256.Idx → EReal) (h : Fin 4) (o : ℕ) (ho : o = 256 * h.val) (hb)
    (hv : ∀ i j, v (ix2 i j) = G i h j) (y : S1024x256.Idx) :
    v y = spread G ((Rect.unit (s := S1024x1024) ![0, o] S1024x256.size hb).emb y) := by
  subst ho
  obtain ⟨i, j, rfl⟩ : ∃ i j, y = ix2 i j := ⟨y 0, y 1, funext fun a => by fin_cases a <;> rfl⟩
  rw [hv]
  refine congr (congr (congrArg G (Fin.ext ?_)) (Fin.ext ?_)) (Fin.ext ?_)
  · show i.val = 0 + 1 * i.val; omega
  · show h.val = (256 * h.val + 1 * j.val) / 256; omega
  · show j.val = (256 * h.val + 1 * j.val) % 256; omega

variable (x w : Vec Ideal S1024x1024 .bf16) (k : Vec Ideal S8x256x256 .bf16)
  (X W : Fin 1024 → Fin 1024 → ℝ) (K : Fin 8 → Fin 256 → Fin 256 → ℝ)
  (hx : ∀ i e, x (ix2 i e) = (X i e : EReal)) (hw : ∀ e f, w (ix2 e f) = (W e f : EReal)) (hk : ∀ j t d, k (ix3 j t d) = (K j t d : EReal))

/-- A row's output and the logarithm of its sum, in a head. -/
def result (q : Fin 1024 → ℝ) (k : Fin 8 → Fin 256 → Fin 256 → ℝ) (h : Fin 4) (j : Fin 256) : ℝ := out (scores q k h) (vals k h) j

include hx hw in
theorem block_query (i f : Fin 1024) : k0_pay6 x w (ix2 i f) = (query (X i) W f : EReal) := by
  unfold_payloads
  pointwise
  simp only [hx, hw, ← EReal.coe_mul, ← Finite.coe_sum]
  rfl

theorem query_cols (q : Vec Ideal S1024x1024 .bf16) (Q : Fin 1024 → Fin 1024 → ℝ) (hq : ∀ i f, q (ix2 i f) = (Q i f : EReal)) (h : Fin 4) (o : ℕ) (ho : o = 256 * h.val) (hb)
    (i : Fin 1024) (d : Fin 256) :
    View.ld (Val := Elt Ideal) q (Rect.unit (s := S1024x1024) ![0, o] S1024x256.size hb) (ix2 i d) = (part (Q i) h d : EReal) :=
  (load_cols q h o ho hb i d).trans (hq ..)

include hk in
theorem key_plane (h : Fin 4) (j : ℕ) (hj : j = h.val) (hb) (t d : Fin 256) :
    View.ld (Val := Elt Ideal) k (Rect.unit (s := S8x256x256) ![j, 0, 0] S1x256x256.size hb) (ix3 0 t d) = (keys K h t d : EReal) := by
  subst hj
  exact (load_plane k h.val (by omega) hb t d).trans (hk ..)

include hk in
theorem val_plane (h : Fin 4) (j : ℕ) (hj : j = 4 + h.val) (hb) (t d : Fin 256) :
    View.ld (Val := Elt Ideal) k (Rect.unit (s := S8x256x256) ![j, 0, 0] S1x256x256.size hb) (ix3 0 t d) = (vals K h t d : EReal) := by
  subst hj
  exact (load_plane k (4 + h.val) (by omega) hb t d).trans (hk ..)

end Block

end Cert.XattnClaim
-- ==== Proof.XattnFwdArr.lean ====
/-
  The attention into the memory, forward: the first call's blocks and the arrays they fill.
-/
module

public import proofs.«01_k».proof.Proof.XattnFwd

@[expose] public section

noncomputable section

namespace Cert.XattnClaim

open Idealize.ShloMosaic Idealize.ShloMosaic.TcCoe Idealize.SL.Sem
open Idealize.ShloMosaic.Pipeline (Dat)
open Cert.XattnMath

set_option maxRecDepth 16384
open Cert.XattnIdeal Cert.XattnIdeal.Gen

variable (V : (c : Dev nD) → (b : Ref sig .tc) → Buf (Elt Ideal) ((c : Thread nD τ).loc b)) (c : Dev nD)

section Point

variable (t : Fin cfg0.N) (X W : Fin 1024 → Fin 1024 → ℝ) (K : Fin 8 → Fin 256 → Fin 256 → ℝ)
  (hx : ∀ i e, iblk0 V c 0 t (ix2 i e) = (X i e : EReal)) (hw : ∀ e f, iblk0 V c 1 t (ix2 e f) = (W e f : EReal))
  (hk : ∀ j u d, iblk0 V c 2 t (ix3 j u d) = (K j u d : EReal))

include hx hw in
theorem point_query (i f : Fin 1024) : (outsAt0 V c t).1 (ix2 i f) = (query (X i) W f : EReal) := by
  revert hx hw
  unfold outsAt0
  generalize iblk0 V c 0 t = x
  generalize iblk0 V c 1 t = w
  generalize iblk0 V c 2 t = k
  intro hx hw
  dsimp only
  unfold out0_A_3
  rw [View.read_writes_junk_eq_canon]
  unfold kernelRun0_A
  dsimp only
  sl_unfold_words
  simp only [View.readAt_eq_ld, Memref.IsWhole.read_unread, View.ld_unit_zero (S := S1024x1024) zero2]
  rw [View.canon_unit_zero zero2]
  exact block_query x w X W hx hw i f

include hx hw hk in
theorem point_out (y : S1024x1024.Idx) : (outsAt0 V c t).2.1 y = spread (fun i h j => ((result (query (X i) W) K h j : ℝ) : EReal)) y := by
  revert hx hw hk
  have hcov := cover0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk0 V c 0 t) (iblk0 V c 1 t) (iblk0 V c 2 t) y
  revert hcov
  unfold outsAt0
  generalize iblk0 V c 0 t = x
  generalize iblk0 V c 1 t = w
  generalize iblk0 V c 2 t = k
  intro hcov hx hw hk
  have hq := block_query x w X W hx hw
  dsimp only
  unfold out0_A_4
  rw [View.read_writes_junk_eq_canon]
  refine View.canon_apply_of_pieces (Val := Elt Ideal) (e := .bf16) (spread (fun i h j => ((result (query (X i) W) K h j : ℝ) : EReal))) _ ?_ y hcov
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1024x1024) zero2]
  generalize k0_pay6 x w = q at hq
  rw [List.forall_mem_cons, List.forall_mem_cons, List.forall_mem_cons, List.forall_mem_singleton]
  dsimp only
  refine ⟨put_cols (fun i h j => ((result (query (X i) W) K h j : ℝ) : EReal)) _ 3 _ rfl _ fun i j => ?_,
    put_cols (fun i h j => ((result (query (X i) W) K h j : ℝ) : EReal)) _ 2 _ rfl _ fun i j => ?_,
    put_cols (fun i h j => ((result (query (X i) W) K h j : ℝ) : EReal)) _ 1 _ rfl _ fun i j => ?_,
    put_cols (fun i h j => ((result (query (X i) W) K h j : ℝ) : EReal)) _ 0 _ rfl _ fun i j => ?_⟩
  · exact head_out _ _ _ i _ _ _ (query_cols q _ hq 3 768 rfl _ i) (key_plane k K hk 3 3 rfl _) (val_plane k K hk 3 7 rfl _) j
  · exact head_out _ _ _ i _ _ _ (query_cols q _ hq 2 512 rfl _ i) (key_plane k K hk 2 2 rfl _) (val_plane k K hk 2 6 rfl _) j
  · exact head_out _ _ _ i _ _ _ (query_cols q _ hq 1 256 rfl _ i) (key_plane k K hk 1 1 rfl _) (val_plane k K hk 1 5 rfl _) j
  · exact head_out _ _ _ i _ _ _ (query_cols q _ hq 0 0 rfl _ i) (key_plane k K hk 0 0 rfl _) (val_plane k K hk 0 4 rfl _) j

include hx hw hk in
theorem point_lse (i : Fin 1024) (h : Fin 4) : (outsAt0 V c t).2.2 (ix2 i ⟨h.val, by omega⟩) = (lse (scores (query (X i) W) K h) : EReal) := by
  revert hx hw hk
  unfold outsAt0
  generalize iblk0 V c 0 t = x
  generalize iblk0 V c 1 t = w
  generalize iblk0 V c 2 t = k
  intro hx hw hk
  have hq := block_query x w X W hx hw
  dsimp only
  unfold out0_A_5
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1024x1024) zero2]
  rw [View.canon_unit_zero zero2]
  generalize k0_pay6 x w = q at hq
  rw [← head_lse]
  match h with
  | 0 => exact (lanes0 ..).trans (congr (congrArg _ (head_top _ _ i _ _ (query_cols q _ hq 0 0 rfl _ i) (key_plane k K hk 0 0 rfl _)))
      (congrArg _ (head_total _ _ i _ _ (query_cols q _ hq 0 0 rfl _ i) (key_plane k K hk 0 0 rfl _))))
  | 1 => exact (lanes1 ..).trans (congr (congrArg _ (head_top _ _ i _ _ (query_cols q _ hq 1 256 rfl _ i) (key_plane k K hk 1 1 rfl _)))
      (congrArg _ (head_total _ _ i _ _ (query_cols q _ hq 1 256 rfl _ i) (key_plane k K hk 1 1 rfl _))))
  | 2 => exact (lanes2 ..).trans (congr (congrArg _ (head_top _ _ i _ _ (query_cols q _ hq 2 512 rfl _ i) (key_plane k K hk 2 2 rfl _)))
      (congrArg _ (head_total _ _ i _ _ (query_cols q _ hq 2 512 rfl _ i) (key_plane k K hk 2 2 rfl _))))
  | 3 => exact (lanes3 ..).trans (congr (congrArg _ (head_top _ _ i _ _ (query_cols q _ hq 3 768 rfl _ i) (key_plane k K hk 3 3 rfl _)))
      (congrArg _ (head_total _ _ i _ _ (query_cols q _ hq 3 768 rfl _ i) (key_plane k K hk 3 3 rfl _))))

end Point

end Cert.XattnClaim
-- ==== Proof.XattnBack.lean ====
/-
  The attention into the memory, backward: what the second call's body computes, for a block of 1024 rows.
-/
module

public import proofs.«01_k».proof.Proof.XattnFwd

@[expose] public section

noncomputable section

namespace Cert.XattnClaim

open Idealize.ShloMosaic Idealize.ShloMosaic.TcCoe Idealize.SL.Sem
open Idealize.ShloMosaic.Pipeline (Dat)
open Cert.XattnMath

set_option maxRecDepth 16384
open Cert.XattnIdeal Cert.XattnIdeal.Gen

section Back

variable (q g o : Vec Ideal S1024x256 .bf16) (k v : Vec Ideal S1x256x256 .bf16) (l : Vec Ideal S1024x1 .f32) (z : Vec Ideal S1x256x256 .f32)
  (Q G : Fin 1024 → Fin 256 → ℝ) (K W : Fin 256 → Fin 256 → ℝ)
  (hq : ∀ i d, q (ix2 i d) = (Q i d : EReal)) (hg : ∀ i d, g (ix2 i d) = (G i d : EReal))
  (hk : ∀ t d, k (ix3 0 t d) = (K t d : EReal)) (hv : ∀ t d, v (ix3 0 t d) = (W t d : EReal))
  (ho : ∀ i d, o (ix2 i d) = (out (score (Q i) K) W d : EReal)) (hl : ∀ i, l (ix2 i 0) = (lse (score (Q i) K) : EReal))

include hq hk hl in
/-- A head's weights, out of the logarithms that were kept. -/
theorem back_prob (i : Fin 1024) (t : Fin 256) : k1_pay6 q k l (ix2 i t) = (prob (score (Q i) K) t : EReal) := by
  unfold_payloads
  pointwise
  simp only [hq, hk, hl, sixteenth_eq, ← EReal.coe_mul, ← Finite.coe_sum, ← EReal.coe_sub, Ideal.exp_coe]
  exact congrArg _ (prob_eq (score (Q i) K) t)

include hg hv in
/-- The gradients at them. -/
theorem back_dprob (i : Fin 1024) (t : Fin 256) : k1_pay7 v g (ix2 i t) = (dprob (G i) W t : EReal) := by
  unfold_payloads
  pointwise
  simp only [hg, hv, ← EReal.coe_mul, ← Finite.coe_sum]
  rfl

include hg ho in
theorem back_delta (i : Fin 1024) (d : Fin 256) : k1_pay8 g o (ix2 i d) = ((G i d * out (score (Q i) K) W d : ℝ) : EReal) := by
  unfold_payloads
  pointwise
  simp only [hg, ho, ← EReal.coe_mul]

include hq hk hl hg hv ho

/-- The gradients at the scores. -/
theorem back_dlogit (i : Fin 1024) (t : Fin 256) :
    k1_pay9 (k1_pay6 q k l) (k1_pay7 v g) (k1_pay8 g o) (ix2 i t) = (dlogit (score (Q i) K) (G i) W t : EReal) := by
  have e1 := back_prob q k l Q K hq hk hl i t
  have e2 := back_dprob g v G W hg hv i t
  have e3 := back_delta g o Q G K W hg ho i
  unfold k1_pay9
  generalize k1_pay6 q k l = a at e1
  generalize k1_pay7 v g = b at e2
  generalize k1_pay8 g o = c at e3
  pointwise
  simp only [e1, e2, e3, sixteenth_eq, ← EReal.coe_mul, ← Finite.coe_sum, ← EReal.coe_sub]
  rw [delta_eq]
  rfl

/-- The queries' gradient. -/
theorem back_dq (i : Fin 1024) (d : Fin 256) :
    k1_pay10 (k1_pay5 k) (k1_pay6 q k l) (k1_pay7 v g) (k1_pay8 g o) (ix2 i d) = ((∑ t, dlogit (score (Q i) K) (G i) W t * K t d : ℝ) : EReal) := by
  have e := back_dlogit q g o k v l Q G K W hq hg hk hv ho hl i
  unfold k1_pay10 k1_pay5
  generalize k1_pay9 (k1_pay6 q k l) (k1_pay7 v g) (k1_pay8 g o) = a at e
  pointwise
  simp only [e, hk, ← EReal.coe_mul, ← Finite.coe_sum]

/-- The keys' gradient, added to what was there. -/
theorem back_dk (t d : Fin 256) :
    k1_pay11 (k1_pay4 q) (k1_pay6 q k l) (k1_pay7 v g) (k1_pay8 g o) z (ix3 0 t d)
      = z (ix3 0 t d) + ((∑ i, dlogit (score (Q i) K) (G i) W t * Q i d : ℝ) : EReal) := by
  have e := fun i => back_dlogit q g o k v l Q G K W hq hg hk hv ho hl i t
  unfold k1_pay11 k1_pay4
  generalize k1_pay9 (k1_pay6 q k l) (k1_pay7 v g) (k1_pay8 g o) = a at e
  pointwise
  simp only [e, hq, ← EReal.coe_mul, ← Finite.coe_sum]

omit hv ho in
/-- The values' gradient, added to what was there. -/
theorem back_dv (t d : Fin 256) :
    k1_pay12 g (k1_pay6 q k l) z (ix3 0 t d) = z (ix3 0 t d) + ((∑ i, prob (score (Q i) K) t * G i d : ℝ) : EReal) := by
  have e := fun i => back_prob q k l Q K hq hk hl i t
  unfold k1_pay12
  generalize k1_pay6 q k l = a at e
  pointwise
  simp only [e, hg, ← EReal.coe_mul, ← Finite.coe_sum]

end Back

/-- The gradient that comes to the heads' outputs. -/
theorem back_out (dy w : Vec Ideal S1024x1024 .bf16) (D W : Fin 1024 → Fin 1024 → ℝ) (hd : ∀ i e, dy (ix2 i e) = (D i e : EReal))
    (hw : ∀ f e, w (ix2 f e) = (W f e : EReal)) (i f : Fin 1024) : k1_pay3 dy w (ix2 i f) = ((∑ e, D i e * W f e : ℝ) : EReal) := by
  unfold_payloads
  pointwise
  simp only [hd, hw, ← EReal.coe_mul, ← Finite.coe_sum]

/-! ## The other heads -/

section Others

variable (q g o : Vec Ideal S1024x256 .bf16) (k v : Vec Ideal S1x256x256 .bf16) (l : Vec Ideal S1024x1 .f32) (z : Vec Ideal S1x256x256 .f32)

theorem dq_second : k1_pay17 (k1_pay13 q) (k1_pay14 k) v g l o = k1_pay10 (k1_pay5 k) (k1_pay6 q k l) (k1_pay7 v g) (k1_pay8 g o) := rfl
theorem dq_third : k1_pay26 (k1_pay21 k) (k1_pay23 q k v g l o) k1_pay24 = k1_pay10 (k1_pay5 k) (k1_pay6 q k l) (k1_pay7 v g) (k1_pay8 g o) := rfl
theorem dq_fourth : k1_pay35 (k1_pay30 k) (k1_pay31 v) g (k1_pay32 q k) (FloatOps.ofBits FTy.f32 1031798784#32) l o
    = k1_pay10 (k1_pay5 k) (k1_pay6 q k l) (k1_pay7 v g) (k1_pay8 g o) := rfl
theorem dk_second : k1_pay18 (k1_pay13 q) (k1_pay14 k) v g l o z = k1_pay11 (k1_pay4 q) (k1_pay6 q k l) (k1_pay7 v g) (k1_pay8 g o) z := rfl
theorem dk_third : k1_pay27 (k1_pay20 q) (k1_pay23 q k v g l o) k1_pay24 z = k1_pay11 (k1_pay4 q) (k1_pay6 q k l) (k1_pay7 v g) (k1_pay8 g o) z := rfl
theorem dk_fourth : k1_pay36 (k1_pay29 q) (k1_pay31 v) g (k1_pay32 q k) (FloatOps.ofBits FTy.f32 1031798784#32) l o z
    = k1_pay11 (k1_pay4 q) (k1_pay6 q k l) (k1_pay7 v g) (k1_pay8 g o) z := rfl
theorem dv_second : k1_pay19 g (k1_pay15 (k1_pay13 q) (k1_pay14 k) l) z = k1_pay12 g (k1_pay6 q k l) z := rfl
theorem dv_third : k1_pay28 g (k1_pay22 q k l) z = k1_pay12 g (k1_pay6 q k l) z := rfl
theorem dv_fourth : k1_pay1 (k1_pay37 g (k1_pay32 q k) (FloatOps.ofBits FTy.f32 1031798784#32) l z) = k1_pay12 g (k1_pay6 q k l) z := rfl

end Others

section Place

theorem load_lane (l : Vec Ideal S1024x128 .f32) (j : ℕ) (hj : j < 128) (hb) (i : Fin 1024) :
    View.ld (Val := Elt Ideal) l (Rect.unit (s := S1024x128) ![0, j] S1024x1.size hb) (ix2 i 0) = l (ix2 i ⟨j, hj⟩) := by
  show l _ = _
  refine congrArg l (funext fun a => Fin.ext ?_)
  match a with
  | ⟨0, _⟩ => show 0 + 1 * i.val = i.val; omega
  | ⟨1, _⟩ => show j + 1 * 0 = j; rfl

theorem load_sum (k : Vec Ideal S8x256x256 .f32) (j : ℕ) (hj : j < 8) (hb) (t d : Fin 256) :
    View.ld (Val := Elt Ideal) k (Rect.unit (s := S8x256x256) ![j, 0, 0] S1x256x256.size hb) (ix3 0 t d) = k (ix3 ⟨j, hj⟩ t d) := by
  show k _ = _
  refine congrArg k (funext fun a => Fin.ext ?_)
  match a with
  | ⟨0, _⟩ => show j + 1 * 0 = j; rfl
  | ⟨1, _⟩ => show 0 + 1 * t.val = t.val; omega
  | ⟨2, _⟩ => show 0 + 1 * d.val = d.val; omega

/-- A plane, stored where the array of the planes has it. -/
theorem put_plane (G : Fin 8 → Fin 256 → Fin 256 → EReal) (v : S1x256x256.Idx → EReal) (j : ℕ) (hj : j < 8) (hb)
    (hv : ∀ t d, v (ix3 0 t d) = G ⟨j, hj⟩ t d) (y : S1x256x256.Idx) :
    v y = (fun z : S8x256x256.Idx => G (z 0) (z 1) (z 2)) ((Rect.unit (s := S8x256x256) ![j, 0, 0] S1x256x256.size hb).emb y) := by
  obtain ⟨t, d, rfl⟩ : ∃ t d, y = ix3 0 t d := ⟨y 1, y 2, funext fun a => by
    match a with
    | ⟨0, _⟩ => exact Fin.ext (by have h : (y 0 : ℕ) < 1 := (y 0).isLt; show (y 0 : ℕ) = 0; omega)
    | ⟨1, _⟩ => rfl
    | ⟨2, _⟩ => rfl⟩
  rw [hv]
  refine congr (congr (congrArg G (Fin.ext ?_)) (Fin.ext ?_)) (Fin.ext ?_)
  · show j = j + 1 * 0; rfl
  · show t.val = 0 + 1 * t.val; omega
  · show d.val = 0 + 1 * d.val; omega

end Place

/-! ## One row -/

/-- The gradient that comes to a row of the heads' outputs. -/
def incoming (dy : Fin 1024 → ℝ) (w : Fin 1024 → Fin 1024 → ℝ) (f : Fin 1024) : ℝ := ∑ e, dy e * w f e

/-- A row's gradient at its queries. -/
def dquery (q g : Fin 1024 → ℝ) (k : Fin 8 → Fin 256 → Fin 256 → ℝ) (h : Fin 4) (d : Fin 256) : ℝ :=
  ∑ t, dlogit (scores q k h) (part g h) (vals k h) t * keys k h t d

/-- What a row adds to the gradient at the keys, and at the values. -/
def dkey (q g : Fin 1024 → ℝ) (k : Fin 8 → Fin 256 → Fin 256 → ℝ) (h : Fin 4) (t d : Fin 256) : ℝ :=
  dlogit (scores q k h) (part g h) (vals k h) t * part q h d
def dval (q g : Fin 1024 → ℝ) (k : Fin 8 → Fin 256 → Fin 256 → ℝ) (h : Fin 4) (t d : Fin 256) : ℝ :=
  prob (scores q k h) t * part g h d

/-- The two, as planes. -/
def dplane (q g : Fin 1024 → ℝ) (k : Fin 8 → Fin 256 → Fin 256 → ℝ) (p : Fin 8) (t d : Fin 256) : ℝ :=
  if h : p.val < 4 then dkey q g k ⟨p.val, h⟩ t d else dval q g k ⟨p.val - 4, by omega⟩ t d

theorem dplane_key (q g : Fin 1024 → ℝ) (k : Fin 8 → Fin 256 → Fin 256 → ℝ) (h : Fin 4) (j : ℕ) (hj : j < 8) (e : j = h.val) (t d : Fin 256) :
    dplane q g k ⟨j, hj⟩ t d = dkey q g k h t d := by
  subst e
  exact dif_pos h.isLt

theorem dplane_val (q g : Fin 1024 → ℝ) (k : Fin 8 → Fin 256 → Fin 256 → ℝ) (h : Fin 4) (j : ℕ) (hj : j < 8) (e : j = 4 + h.val) (t d : Fin 256) :
    dplane q g k ⟨j, hj⟩ t d = dval q g k h t d := by
  subst e
  refine (dif_neg (show ¬4 + h.val < 4 by omega)).trans (congrArg (fun a => dval q g k a t d) (Fin.ext ?_))
  show 4 + h.val - 4 = h.val
  omega

end Cert.XattnClaim
-- ==== Proof.XattnPoint.lean ====
/-
  The attention into the memory, backward: what a point of the second call leaves.
-/
module

public import proofs.«01_k».proof.Proof.XattnBack

@[expose] public section

noncomputable section

namespace Cert.XattnClaim

open Idealize.ShloMosaic Idealize.ShloMosaic.TcCoe Idealize.SL.Sem
open Idealize.ShloMosaic.Pipeline (Dat)
open Cert.XattnMath

set_option maxRecDepth 16384
open Cert.XattnIdeal Cert.XattnIdeal.Gen

variable (V : (c : Dev nD) → (b : Ref sig .tc) → Buf (Elt Ideal) ((c : Thread nD τ).loc b)) (c : Dev nD)

section Heads

variable (q o dy w : Vec Ideal S1024x1024 .bf16) (k : Vec Ideal S8x256x256 .bf16) (l : Vec Ideal S1024x128 .f32)
  (Q D W : Fin 1024 → Fin 1024 → ℝ) (K : Fin 8 → Fin 256 → Fin 256 → ℝ)

/-- A point's blocks, in the reals: the queries, the memory, the heads' outputs, the gradient, the weights, and the logarithms. -/
structure Blocks : Prop where
  hq : ∀ i f, q (ix2 i f) = (Q i f : EReal)
  hk : ∀ j t d, k (ix3 j t d) = (K j t d : EReal)
  ho : ∀ i h d, o (ix2 i (col h d)) = (result (Q i) K h d : EReal)
  hd : ∀ i e, dy (ix2 i e) = (D i e : EReal)
  hw : ∀ f e, w (ix2 f e) = (W f e : EReal)
  hl : ∀ i (h : Fin 4), l (ix2 i ⟨h.val, by omega⟩) = (lse (scores (Q i) K h) : EReal)

variable {q o dy w k l Q D W K} (b : Blocks q o dy w k l Q D W K) (h : Fin 4) (a j j' n : ℕ) (ha : a = 256 * h.val) (hj : j = h.val) (hj' : j' = 4 + h.val) (hn : n = h.val)
  (ba bk bv bl) (z : Vec Ideal S1x256x256 .f32)

include b ha hj hj' hn in
theorem heads_dq (i : Fin 1024) (d : Fin 256) :
    k1_pay10 (k1_pay5 (View.ld (Val := Elt Ideal) k (Rect.unit (s := S8x256x256) ![j, 0, 0] S1x256x256.size bk)))
      (k1_pay6 (View.ld (Val := Elt Ideal) q (Rect.unit (s := S1024x1024) ![0, a] S1024x256.size ba)) (View.ld (Val := Elt Ideal) k (Rect.unit (s := S8x256x256) ![j, 0, 0] S1x256x256.size bk))
        (View.ld (Val := Elt Ideal) l (Rect.unit (s := S1024x128) ![0, n] S1024x1.size bl)))
      (k1_pay7 (View.ld (Val := Elt Ideal) k (Rect.unit (s := S8x256x256) ![j', 0, 0] S1x256x256.size bv))
        (View.ld (Val := Elt Ideal) (k1_pay3 dy w) (Rect.unit (s := S1024x1024) ![0, a] S1024x256.size ba)))
      (k1_pay8 (View.ld (Val := Elt Ideal) (k1_pay3 dy w) (Rect.unit (s := S1024x1024) ![0, a] S1024x256.size ba))
        (View.ld (Val := Elt Ideal) o (Rect.unit (s := S1024x1024) ![0, a] S1024x256.size ba))) (ix2 i d)
      = (dquery (Q i) (incoming (D i) W) K h d : EReal) :=
  back_dq _ _ _ _ _ _ (fun i => part (Q i) h) (fun i => part (incoming (D i) W) h) (keys K h) (vals K h)
    (query_cols q Q b.hq h a ha ba) (query_cols (k1_pay3 dy w) (fun i => incoming (D i) W) (back_out dy w D W b.hd b.hw) h a ha ba) (key_plane k K b.hk h j hj bk) (val_plane k K b.hk h j' hj' bv)
    (fun i d => (load_cols o h a ha ba i d).trans (b.ho i h d))
    (fun i => by subst hn; exact (load_lane l h.val (by omega) bl i).trans (b.hl i h)) i d

include b ha hj hj' hn in
theorem heads_dk (t d : Fin 256) :
    k1_pay11 (k1_pay4 (View.ld (Val := Elt Ideal) q (Rect.unit (s := S1024x1024) ![0, a] S1024x256.size ba)))
      (k1_pay6 (View.ld (Val := Elt Ideal) q (Rect.unit (s := S1024x1024) ![0, a] S1024x256.size ba)) (View.ld (Val := Elt Ideal) k (Rect.unit (s := S8x256x256) ![j, 0, 0] S1x256x256.size bk))
        (View.ld (Val := Elt Ideal) l (Rect.unit (s := S1024x128) ![0, n] S1024x1.size bl)))
      (k1_pay7 (View.ld (Val := Elt Ideal) k (Rect.unit (s := S8x256x256) ![j', 0, 0] S1x256x256.size bv))
        (View.ld (Val := Elt Ideal) (k1_pay3 dy w) (Rect.unit (s := S1024x1024) ![0, a] S1024x256.size ba)))
      (k1_pay8 (View.ld (Val := Elt Ideal) (k1_pay3 dy w) (Rect.unit (s := S1024x1024) ![0, a] S1024x256.size ba))
        (View.ld (Val := Elt Ideal) o (Rect.unit (s := S1024x1024) ![0, a] S1024x256.size ba))) z (ix3 0 t d)
      = z (ix3 0 t d) + ((∑ i, dkey (Q i) (incoming (D i) W) K h t d : ℝ) : EReal) :=
  back_dk _ _ _ _ _ _ z (fun i => part (Q i) h) (fun i => part (incoming (D i) W) h) (keys K h) (vals K h)
    (query_cols q Q b.hq h a ha ba) (query_cols (k1_pay3 dy w) (fun i => incoming (D i) W) (back_out dy w D W b.hd b.hw) h a ha ba) (key_plane k K b.hk h j hj bk) (val_plane k K b.hk h j' hj' bv)
    (fun i d => (load_cols o h a ha ba i d).trans (b.ho i h d))
    (fun i => by subst hn; exact (load_lane l h.val (by omega) bl i).trans (b.hl i h)) t d

include b ha hj hn in
theorem heads_dv (t d : Fin 256) :
    k1_pay12 (View.ld (Val := Elt Ideal) (k1_pay3 dy w) (Rect.unit (s := S1024x1024) ![0, a] S1024x256.size ba))
      (k1_pay6 (View.ld (Val := Elt Ideal) q (Rect.unit (s := S1024x1024) ![0, a] S1024x256.size ba)) (View.ld (Val := Elt Ideal) k (Rect.unit (s := S8x256x256) ![j, 0, 0] S1x256x256.size bk))
        (View.ld (Val := Elt Ideal) l (Rect.unit (s := S1024x128) ![0, n] S1024x1.size bl))) z (ix3 0 t d)
      = z (ix3 0 t d) + ((∑ i, dval (Q i) (incoming (D i) W) K h t d : ℝ) : EReal) :=
  back_dv _ _ _ _ z (fun i => part (Q i) h) (fun i => part (incoming (D i) W) h) (keys K h)
    (query_cols q Q b.hq h a ha ba) (query_cols (k1_pay3 dy w) (fun i => incoming (D i) W) (back_out dy w D W b.hd b.hw) h a ha ba) (key_plane k K b.hk h j hj bk)
    (fun i => by subst hn; exact (load_lane l h.val (by omega) bl i).trans (b.hl i h)) t d

end Heads

section Point

variable (t : Fin cfg1.N) (Q D W : Fin 1024 → Fin 1024 → ℝ) (K : Fin 8 → Fin 256 → Fin 256 → ℝ)
  (b : Blocks (iblk1 V c 0 t) (iblk1 V c 2 t) (iblk1 V c 3 t) (iblk1 V c 4 t) (iblk1 V c 1 t) (iblk1 V c 5 t) Q D W K)

include b in
theorem point6_A (h0 : t.val % 4 = 0) (y : S1024x1024.Idx) :
    (outsAt1 V c t.val t.isLt).1 y = spread (fun i h d => ((dquery (Q i) (incoming (D i) W) K h d : ℝ) : EReal)) y := by
  have hcov := cover1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t) y
  rw [outsAt1_A V c t h0]
  generalize iblk1 V c 0 t = q at b hcov ⊢
  generalize iblk1 V c 1 t = k at b hcov ⊢
  generalize iblk1 V c 2 t = o at b hcov ⊢
  generalize iblk1 V c 3 t = dy at b hcov ⊢
  generalize iblk1 V c 4 t = w at b hcov ⊢
  generalize iblk1 V c 5 t = l at b hcov ⊢
  dsimp only
  unfold out1_A_6
  rw [View.read_writes_junk_eq_canon]
  refine View.canon_apply_of_pieces (Val := Elt Ideal) (e := .bf16) (spread (fun i h d => ((dquery (Q i) (incoming (D i) W) K h d : ℝ) : EReal))) _ ?_ y hcov
  unfold kernelRun1_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1024x1024) zero2]
  rw [List.forall_mem_cons, List.forall_mem_cons, List.forall_mem_cons, List.forall_mem_singleton]
  dsimp only
  refine ⟨put_cols (fun i h d => ((dquery (Q i) (incoming (D i) W) K h d : ℝ) : EReal)) _ 3 _ rfl _ fun i d => ?_,
    put_cols (fun i h d => ((dquery (Q i) (incoming (D i) W) K h d : ℝ) : EReal)) _ 2 _ rfl _ fun i d => ?_,
    put_cols (fun i h d => ((dquery (Q i) (incoming (D i) W) K h d : ℝ) : EReal)) _ 1 _ rfl _ fun i d => ?_,
    put_cols (fun i h d => ((dquery (Q i) (incoming (D i) W) K h d : ℝ) : EReal)) _ 0 _ rfl _ fun i d => ?_⟩
  · refine (congrFun (dq_fourth ..) _).trans ?_
    exact heads_dq b 3 768 3 7 3 rfl rfl rfl rfl _ _ _ _ i d
  · refine (congrFun (dq_third ..) _).trans ?_
    exact heads_dq b 2 512 2 6 2 rfl rfl rfl rfl _ _ _ _ i d
  · refine (congrFun (dq_second ..) _).trans ?_
    exact heads_dq b 1 256 1 5 1 rfl rfl rfl rfl _ _ _ _ i d
  · exact heads_dq b 0 0 0 4 0 rfl rfl rfl rfl _ _ _ _ i d

include b in
theorem point6_B (h0 : ¬t.val % 4 = 0) (y : S1024x1024.Idx) :
    (outsAt1 V c t.val t.isLt).1 y = spread (fun i h d => ((dquery (Q i) (incoming (D i) W) K h d : ℝ) : EReal)) y := by
  have hcov := cover1_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (lt_of_le_of_lt (Nat.sub_le _ _) t.isLt)).2 y
  rw [outsAt1_B V c t h0]
  generalize iblk1 V c 0 t = q at b hcov ⊢
  generalize iblk1 V c 1 t = k at b hcov ⊢
  generalize iblk1 V c 2 t = o at b hcov ⊢
  generalize iblk1 V c 3 t = dy at b hcov ⊢
  generalize iblk1 V c 4 t = w at b hcov ⊢
  generalize iblk1 V c 5 t = l at b hcov ⊢
  generalize (outsAt1 V c (t.val - 1) _).2 = p at hcov ⊢
  dsimp only
  unfold out1_B_6
  rw [View.read_writes_junk_eq_canon]
  refine View.canon_apply_of_pieces (Val := Elt Ideal) (e := .bf16) (spread (fun i h d => ((dquery (Q i) (incoming (D i) W) K h d : ℝ) : EReal))) _ ?_ y hcov
  unfold kernelRun1_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1024x1024) zero2]
  rw [List.forall_mem_cons, List.forall_mem_cons, List.forall_mem_cons, List.forall_mem_singleton]
  dsimp only
  refine ⟨put_cols (fun i h d => ((dquery (Q i) (incoming (D i) W) K h d : ℝ) : EReal)) _ 3 _ rfl _ fun i d => ?_,
    put_cols (fun i h d => ((dquery (Q i) (incoming (D i) W) K h d : ℝ) : EReal)) _ 2 _ rfl _ fun i d => ?_,
    put_cols (fun i h d => ((dquery (Q i) (incoming (D i) W) K h d : ℝ) : EReal)) _ 1 _ rfl _ fun i d => ?_,
    put_cols (fun i h d => ((dquery (Q i) (incoming (D i) W) K h d : ℝ) : EReal)) _ 0 _ rfl _ fun i d => ?_⟩
  · refine (congrFun (dq_fourth ..) _).trans ?_
    exact heads_dq b 3 768 3 7 3 rfl rfl rfl rfl _ _ _ _ i d
  · refine (congrFun (dq_third ..) _).trans ?_
    exact heads_dq b 2 512 2 6 2 rfl rfl rfl rfl _ _ _ _ i d
  · refine (congrFun (dq_second ..) _).trans ?_
    exact heads_dq b 1 256 1 5 1 rfl rfl rfl rfl _ _ _ _ i d
  · exact heads_dq b 0 0 0 4 0 rfl rfl rfl rfl _ _ _ _ i d

include b in
theorem point7_A (h0 : t.val % 4 = 0) (j : Fin 8) (u d : Fin 256) :
    (outsAt1 V c t.val t.isLt).2 (ix3 j u d) = 0 + ((∑ i, dplane (Q i) (incoming (D i) W) K j u d : ℝ) : EReal) := by
  rw [outsAt1_A V c t h0]
  generalize iblk1 V c 0 t = q at b ⊢
  generalize iblk1 V c 1 t = k at b ⊢
  generalize iblk1 V c 2 t = o at b ⊢
  generalize iblk1 V c 3 t = dy at b ⊢
  generalize iblk1 V c 4 t = w at b ⊢
  generalize iblk1 V c 5 t = l at b ⊢
  dsimp only
  unfold out1_A_7
  rw [View.read_writes_junk_eq_canon]
  unfold kernelRun1_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1024x1024) zero2]
  refine (View.canon_append_of_piecesOf (Val := Elt Ideal) (e := .f32) (fun z : S8x256x256.Idx => (fun j u d => k1_pay2 (F := Ideal) (ix3 j u d) + ((∑ i, dplane (Q i) (incoming (D i) W) K j u d : ℝ) : EReal)) (z 0) (z 1) (z 2)) [_] [_, _, _, _, _, _, _, _] ?_ (ix3 j u d) ?_).trans ?_
  rotate_left
  · refine View.cover_of_tiledL (Val := Elt Ideal) (e := .f32) (s := S8x256x256) _ S1x256x256.size ?_ (ix3 j u d)
    sl_kernel_rfl
  · refine congrArg (· + _) ?_
    unfold_payloads
    pointwise
  refine ⟨?_, ?_, ?_, ?_, ?_, ?_, ?_, ?_, trivial⟩ <;> dsimp only
  · refine put_plane (fun j u d => k1_pay2 (F := Ideal) (ix3 j u d) + ((∑ i, dplane (Q i) (incoming (D i) W) K j u d : ℝ) : EReal)) _ 7 (by decide) _ fun u d => ?_
    refine (congrFun (dv_fourth ..) _).trans ?_
    refine (heads_dv b 3 768 3 3 rfl rfl rfl _ _ _ _ u d).trans ?_
    refine congr (congrArg _ (load_sum _ 7 (by decide) _ u d)) (congrArg _ (Finset.sum_congr rfl fun i _ => ?_))
    exact (dplane_val (Q i) (incoming (D i) W) K 3 7 (by decide) rfl u d).symm
  · refine put_plane (fun j u d => k1_pay2 (F := Ideal) (ix3 j u d) + ((∑ i, dplane (Q i) (incoming (D i) W) K j u d : ℝ) : EReal)) _ 3 (by decide) _ fun u d => ?_
    refine (congrFun (dk_fourth ..) _).trans ?_
    refine (heads_dk b 3 768 3 7 3 rfl rfl rfl rfl _ _ _ _ _ u d).trans ?_
    refine congr (congrArg _ (load_sum _ 3 (by decide) _ u d)) (congrArg _ (Finset.sum_congr rfl fun i _ => ?_))
    exact (dplane_key (Q i) (incoming (D i) W) K 3 3 (by decide) rfl u d).symm
  · refine put_plane (fun j u d => k1_pay2 (F := Ideal) (ix3 j u d) + ((∑ i, dplane (Q i) (incoming (D i) W) K j u d : ℝ) : EReal)) _ 6 (by decide) _ fun u d => ?_
    refine (congrFun (dv_third ..) _).trans ?_
    refine (heads_dv b 2 512 2 2 rfl rfl rfl _ _ _ _ u d).trans ?_
    refine congr (congrArg _ (load_sum _ 6 (by decide) _ u d)) (congrArg _ (Finset.sum_congr rfl fun i _ => ?_))
    exact (dplane_val (Q i) (incoming (D i) W) K 2 6 (by decide) rfl u d).symm
  · refine put_plane (fun j u d => k1_pay2 (F := Ideal) (ix3 j u d) + ((∑ i, dplane (Q i) (incoming (D i) W) K j u d : ℝ) : EReal)) _ 2 (by decide) _ fun u d => ?_
    refine (congrFun (dk_third ..) _).trans ?_
    refine (heads_dk b 2 512 2 6 2 rfl rfl rfl rfl _ _ _ _ _ u d).trans ?_
    refine congr (congrArg _ (load_sum _ 2 (by decide) _ u d)) (congrArg _ (Finset.sum_congr rfl fun i _ => ?_))
    exact (dplane_key (Q i) (incoming (D i) W) K 2 2 (by decide) rfl u d).symm
  · refine put_plane (fun j u d => k1_pay2 (F := Ideal) (ix3 j u d) + ((∑ i, dplane (Q i) (incoming (D i) W) K j u d : ℝ) : EReal)) _ 5 (by decide) _ fun u d => ?_
    refine (congrFun (dv_second ..) _).trans ?_
    refine (heads_dv b 1 256 1 1 rfl rfl rfl _ _ _ _ u d).trans ?_
    refine congr (congrArg _ (load_sum _ 5 (by decide) _ u d)) (congrArg _ (Finset.sum_congr rfl fun i _ => ?_))
    exact (dplane_val (Q i) (incoming (D i) W) K 1 5 (by decide) rfl u d).symm
  · refine put_plane (fun j u d => k1_pay2 (F := Ideal) (ix3 j u d) + ((∑ i, dplane (Q i) (incoming (D i) W) K j u d : ℝ) : EReal)) _ 1 (by decide) _ fun u d => ?_
    refine (congrFun (dk_second ..) _).trans ?_
    refine (heads_dk b 1 256 1 5 1 rfl rfl rfl rfl _ _ _ _ _ u d).trans ?_
    refine congr (congrArg _ (load_sum _ 1 (by decide) _ u d)) (congrArg _ (Finset.sum_congr rfl fun i _ => ?_))
    exact (dplane_key (Q i) (incoming (D i) W) K 1 1 (by decide) rfl u d).symm
  · refine put_plane (fun j u d => k1_pay2 (F := Ideal) (ix3 j u d) + ((∑ i, dplane (Q i) (incoming (D i) W) K j u d : ℝ) : EReal)) _ 4 (by decide) _ fun u d => ?_
    refine (heads_dv b 0 0 0 0 rfl rfl rfl _ _ _ _ u d).trans ?_
    refine congr (congrArg _ (load_sum _ 4 (by decide) _ u d)) (congrArg _ (Finset.sum_congr rfl fun i _ => ?_))
    exact (dplane_val (Q i) (incoming (D i) W) K 0 4 (by decide) rfl u d).symm
  · refine put_plane (fun j u d => k1_pay2 (F := Ideal) (ix3 j u d) + ((∑ i, dplane (Q i) (incoming (D i) W) K j u d : ℝ) : EReal)) _ 0 (by decide) _ fun u d => ?_
    refine (heads_dk b 0 0 0 4 0 rfl rfl rfl rfl _ _ _ _ _ u d).trans ?_
    refine congr (congrArg _ (load_sum _ 0 (by decide) _ u d)) (congrArg _ (Finset.sum_congr rfl fun i _ => ?_))
    exact (dplane_key (Q i) (incoming (D i) W) K 0 0 (by decide) rfl u d).symm

include b in
theorem point7_B (h0 : ¬t.val % 4 = 0) (j : Fin 8) (u d : Fin 256) :
    (outsAt1 V c t.val t.isLt).2 (ix3 j u d) = (outsAt1 V c (t.val - 1) (lt_of_le_of_lt (Nat.sub_le _ _) t.isLt)).2 (ix3 j u d) + ((∑ i, dplane (Q i) (incoming (D i) W) K j u d : ℝ) : EReal) := by
  rw [outsAt1_B V c t h0]
  generalize iblk1 V c 0 t = q at b ⊢
  generalize iblk1 V c 1 t = k at b ⊢
  generalize iblk1 V c 2 t = o at b ⊢
  generalize iblk1 V c 3 t = dy at b ⊢
  generalize iblk1 V c 4 t = w at b ⊢
  generalize iblk1 V c 5 t = l at b ⊢
  generalize (outsAt1 V c (t.val - 1) _).2 = p
  dsimp only
  unfold out1_B_7
  rw [View.read_writes_junk_eq_canon]
  unfold kernelRun1_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1024x1024) zero2]
  refine (View.canon_append_of_piecesOf (Val := Elt Ideal) (e := .f32) (fun z : S8x256x256.Idx => (fun j u d => p (ix3 j u d) + ((∑ i, dplane (Q i) (incoming (D i) W) K j u d : ℝ) : EReal)) (z 0) (z 1) (z 2)) [] [_, _, _, _, _, _, _, _] ?_ (ix3 j u d) ?_)
  rotate_left
  · refine View.cover_of_tiledL (Val := Elt Ideal) (e := .f32) (s := S8x256x256) _ S1x256x256.size ?_ (ix3 j u d)
    sl_kernel_rfl
  refine ⟨?_, ?_, ?_, ?_, ?_, ?_, ?_, ?_, trivial⟩ <;> dsimp only
  · refine put_plane (fun j u d => p (ix3 j u d) + ((∑ i, dplane (Q i) (incoming (D i) W) K j u d : ℝ) : EReal)) _ 7 (by decide) _ fun u d => ?_
    refine (congrFun (dv_fourth ..) _).trans ?_
    refine (heads_dv b 3 768 3 3 rfl rfl rfl _ _ _ _ u d).trans ?_
    refine congr (congrArg _ (load_sum _ 7 (by decide) _ u d)) (congrArg _ (Finset.sum_congr rfl fun i _ => ?_))
    exact (dplane_val (Q i) (incoming (D i) W) K 3 7 (by decide) rfl u d).symm
  · refine put_plane (fun j u d => p (ix3 j u d) + ((∑ i, dplane (Q i) (incoming (D i) W) K j u d : ℝ) : EReal)) _ 3 (by decide) _ fun u d => ?_
    refine (congrFun (dk_fourth ..) _).trans ?_
    refine (heads_dk b 3 768 3 7 3 rfl rfl rfl rfl _ _ _ _ _ u d).trans ?_
    refine congr (congrArg _ (load_sum _ 3 (by decide) _ u d)) (congrArg _ (Finset.sum_congr rfl fun i _ => ?_))
    exact (dplane_key (Q i) (incoming (D i) W) K 3 3 (by decide) rfl u d).symm
  · refine put_plane (fun j u d => p (ix3 j u d) + ((∑ i, dplane (Q i) (incoming (D i) W) K j u d : ℝ) : EReal)) _ 6 (by decide) _ fun u d => ?_
    refine (congrFun (dv_third ..) _).trans ?_
    refine (heads_dv b 2 512 2 2 rfl rfl rfl _ _ _ _ u d).trans ?_
    refine congr (congrArg _ (load_sum _ 6 (by decide) _ u d)) (congrArg _ (Finset.sum_congr rfl fun i _ => ?_))
    exact (dplane_val (Q i) (incoming (D i) W) K 2 6 (by decide) rfl u d).symm
  · refine put_plane (fun j u d => p (ix3 j u d) + ((∑ i, dplane (Q i) (incoming (D i) W) K j u d : ℝ) : EReal)) _ 2 (by decide) _ fun u d => ?_
    refine (congrFun (dk_third ..) _).trans ?_
    refine (heads_dk b 2 512 2 6 2 rfl rfl rfl rfl _ _ _ _ _ u d).trans ?_
    refine congr (congrArg _ (load_sum _ 2 (by decide) _ u d)) (congrArg _ (Finset.sum_congr rfl fun i _ => ?_))
    exact (dplane_key (Q i) (incoming (D i) W) K 2 2 (by decide) rfl u d).symm
  · refine put_plane (fun j u d => p (ix3 j u d) + ((∑ i, dplane (Q i) (incoming (D i) W) K j u d : ℝ) : EReal)) _ 5 (by decide) _ fun u d => ?_
    refine (congrFun (dv_second ..) _).trans ?_
    refine (heads_dv b 1 256 1 1 rfl rfl rfl _ _ _ _ u d).trans ?_
    refine congr (congrArg _ (load_sum _ 5 (by decide) _ u d)) (congrArg _ (Finset.sum_congr rfl fun i _ => ?_))
    exact (dplane_val (Q i) (incoming (D i) W) K 1 5 (by decide) rfl u d).symm
  · refine put_plane (fun j u d => p (ix3 j u d) + ((∑ i, dplane (Q i) (incoming (D i) W) K j u d : ℝ) : EReal)) _ 1 (by decide) _ fun u d => ?_
    refine (congrFun (dk_second ..) _).trans ?_
    refine (heads_dk b 1 256 1 5 1 rfl rfl rfl rfl _ _ _ _ _ u d).trans ?_
    refine congr (congrArg _ (load_sum _ 1 (by decide) _ u d)) (congrArg _ (Finset.sum_congr rfl fun i _ => ?_))
    exact (dplane_key (Q i) (incoming (D i) W) K 1 1 (by decide) rfl u d).symm
  · refine put_plane (fun j u d => p (ix3 j u d) + ((∑ i, dplane (Q i) (incoming (D i) W) K j u d : ℝ) : EReal)) _ 4 (by decide) _ fun u d => ?_
    refine (heads_dv b 0 0 0 0 rfl rfl rfl _ _ _ _ u d).trans ?_
    refine congr (congrArg _ (load_sum _ 4 (by decide) _ u d)) (congrArg _ (Finset.sum_congr rfl fun i _ => ?_))
    exact (dplane_val (Q i) (incoming (D i) W) K 0 4 (by decide) rfl u d).symm
  · refine put_plane (fun j u d => p (ix3 j u d) + ((∑ i, dplane (Q i) (incoming (D i) W) K j u d : ℝ) : EReal)) _ 0 (by decide) _ fun u d => ?_
    refine (heads_dk b 0 0 0 4 0 rfl rfl rfl rfl _ _ _ _ _ u d).trans ?_
    refine congr (congrArg _ (load_sum _ 0 (by decide) _ u d)) (congrArg _ (Finset.sum_congr rfl fun i _ => ?_))
    exact (dplane_key (Q i) (incoming (D i) W) K 0 0 (by decide) rfl u d).symm

end Point

end Cert.XattnClaim
-- ==== Proof.XattnCalls.lean ====
/-
  The attention into the memory, from what each point leaves to what the two calls leave.
-/
module

public import proofs.«01_k».proof.Proof.XattnFwdArr
public import proofs.«01_k».proof.Proof.XattnPoint

@[expose] public section

noncomputable section

namespace Cert.XattnClaim

open Idealize.ShloMosaic Idealize.ShloMosaic.TcCoe Idealize.SL.Sem
open Idealize.ShloMosaic.Pipeline (Dat)
open Cert.XattnMath

set_option maxRecDepth 16384
open Cert.XattnIdeal Cert.XattnIdeal.Gen

variable (V : (c : Dev nD) → (b : Ref sig .tc) → Buf (Elt Ideal) ((c : Thread nD τ).loc b)) (c : Dev nD)

/-! ## The blocks of the windows -/

theorem lt_rows {n : ℕ} (hn : n < 4) (i : Fin 1024) : 1024 * n + i.val < 4096 := by omega

theorem four_0 (t : Fin cfg0.N) : t.val < 4 := lt_of_lt_of_eq t.isLt (N_0 : cfg0.N = 4)

theorem at0_0 : ∀ t : Fin grid0.N, win0_0.index t 0 = t.val ∧ win0_0.index t 1 = 0 := by
  decide +kernel

theorem in0_0 (t : Fin cfg0.N) (i : Fin 1024) (e : Fin 1024) : iblk0 V c 0 t (ix2 i e) = V c main_arg0 (ix2 ⟨1024 * t.val + i.val, lt_rows (four_0 t) i⟩ e) := by
  have h := at0_0 t
  unfold iblk0
  rw [View.read_apply]
  refine congrArg (V c main_arg0) (funext fun a => Fin.ext ?_)
  match a with
  | ⟨0, _⟩ => show win0_0.index t 0 * 1024 + 1 * i.val = 1024 * t.val + i.val; rw [h.1]; omega
  | ⟨1, _⟩ => show win0_0.index t 1 * 1024 + 1 * e.val = e.val; rw [h.2]; omega

theorem at0_1 : ∀ t : Fin grid0.N, win0_1.index t 0 = 0 ∧ win0_1.index t 1 = 0 := by
  decide +kernel

theorem in0_1 (t : Fin cfg0.N) : iblk0 V c 1 t = V c main_arg1 := by
  have h := at0_1 t
  funext y
  unfold iblk0
  rw [View.read_apply]
  refine congrArg (V c main_arg1) (funext fun a => Fin.ext ?_)
  match a with
  | ⟨0, _⟩ => show win0_1.index t 0 * 1024 + 1 * (y 0).val = (y 0).val; rw [h.1]; omega
  | ⟨1, _⟩ => show win0_1.index t 1 * 1024 + 1 * (y 1).val = (y 1).val; rw [h.2]; omega

theorem at0_2 : ∀ t : Fin grid0.N, win0_2.index t 0 = 0 ∧ win0_2.index t 1 = 0 ∧ win0_2.index t 2 = 0 := by
  decide +kernel

theorem in0_2 (t : Fin cfg0.N) : iblk0 V c 2 t = V c main_arg2 := by
  have h := at0_2 t
  funext y
  unfold iblk0
  rw [View.read_apply]
  refine congrArg (V c main_arg2) (funext fun a => Fin.ext ?_)
  match a with
  | ⟨0, _⟩ => show win0_2.index t 0 * 8 + 1 * (y 0).val = (y 0).val; rw [h.1]; omega
  | ⟨1, _⟩ => show win0_2.index t 1 * 256 + 1 * (y 1).val = (y 1).val; rw [h.2.1]; omega
  | ⟨2, _⟩ => show win0_2.index t 2 * 256 + 1 * (y 2).val = (y 2).val; rw [h.2.2]; omega

theorem at0_3 : ∀ t : Fin grid0.N, win0_3.index t 0 = t.val ∧ win0_3.index t 1 = 0 := by
  decide +kernel

theorem at0_4 : ∀ t : Fin grid0.N, win0_4.index t 0 = t.val ∧ win0_4.index t 1 = 0 := by
  decide +kernel

theorem at0_5 : ∀ t : Fin grid0.N, win0_5.index t 0 = t.val ∧ win0_5.index t 1 = 0 := by
  decide +kernel

theorem four_1 (t : Fin cfg1.N) : t.val < 4 := lt_of_lt_of_eq t.isLt (N_1 : cfg1.N = 4)

theorem at1_0 : ∀ t : Fin grid1.N, win1_0.index t 0 = t.val ∧ win1_0.index t 1 = 0 := by
  decide +kernel

theorem in1_0 (t : Fin cfg1.N) (i : Fin 1024) (e : Fin 1024) : iblk1 V c 0 t (ix2 i e) = V c main_v0_0 (ix2 ⟨1024 * t.val + i.val, lt_rows (four_1 t) i⟩ e) := by
  have h := at1_0 t
  unfold iblk1
  rw [View.read_apply]
  refine congrArg (V c main_v0_0) (funext fun a => Fin.ext ?_)
  match a with
  | ⟨0, _⟩ => show win1_0.index t 0 * 1024 + 1 * i.val = 1024 * t.val + i.val; rw [h.1]; omega
  | ⟨1, _⟩ => show win1_0.index t 1 * 1024 + 1 * e.val = e.val; rw [h.2]; omega

theorem at1_1 : ∀ t : Fin grid1.N, win1_1.index t 0 = 0 ∧ win1_1.index t 1 = 0 ∧ win1_1.index t 2 = 0 := by
  decide +kernel

theorem in1_1 (t : Fin cfg1.N) : iblk1 V c 1 t = V c main_arg2 := by
  have h := at1_1 t
  funext y
  unfold iblk1
  rw [View.read_apply]
  refine congrArg (V c main_arg2) (funext fun a => Fin.ext ?_)
  match a with
  | ⟨0, _⟩ => show win1_1.index t 0 * 8 + 1 * (y 0).val = (y 0).val; rw [h.1]; omega
  | ⟨1, _⟩ => show win1_1.index t 1 * 256 + 1 * (y 1).val = (y 1).val; rw [h.2.1]; omega
  | ⟨2, _⟩ => show win1_1.index t 2 * 256 + 1 * (y 2).val = (y 2).val; rw [h.2.2]; omega

theorem at1_2 : ∀ t : Fin grid1.N, win1_2.index t 0 = t.val ∧ win1_2.index t 1 = 0 := by
  decide +kernel

theorem in1_2 (t : Fin cfg1.N) (i : Fin 1024) (e : Fin 1024) : iblk1 V c 2 t (ix2 i e) = V c main_v0_1 (ix2 ⟨1024 * t.val + i.val, lt_rows (four_1 t) i⟩ e) := by
  have h := at1_2 t
  unfold iblk1
  rw [View.read_apply]
  refine congrArg (V c main_v0_1) (funext fun a => Fin.ext ?_)
  match a with
  | ⟨0, _⟩ => show win1_2.index t 0 * 1024 + 1 * i.val = 1024 * t.val + i.val; rw [h.1]; omega
  | ⟨1, _⟩ => show win1_2.index t 1 * 1024 + 1 * e.val = e.val; rw [h.2]; omega

theorem at1_3 : ∀ t : Fin grid1.N, win1_3.index t 0 = t.val ∧ win1_3.index t 1 = 0 := by
  decide +kernel

theorem in1_3 (t : Fin cfg1.N) (i : Fin 1024) (e : Fin 1024) : iblk1 V c 3 t (ix2 i e) = V c main_arg3 (ix2 ⟨1024 * t.val + i.val, lt_rows (four_1 t) i⟩ e) := by
  have h := at1_3 t
  unfold iblk1
  rw [View.read_apply]
  refine congrArg (V c main_arg3) (funext fun a => Fin.ext ?_)
  match a with
  | ⟨0, _⟩ => show win1_3.index t 0 * 1024 + 1 * i.val = 1024 * t.val + i.val; rw [h.1]; omega
  | ⟨1, _⟩ => show win1_3.index t 1 * 1024 + 1 * e.val = e.val; rw [h.2]; omega

theorem at1_4 : ∀ t : Fin grid1.N, win1_4.index t 0 = 0 ∧ win1_4.index t 1 = 0 := by
  decide +kernel

theorem in1_4 (t : Fin cfg1.N) : iblk1 V c 4 t = V c main_arg4 := by
  have h := at1_4 t
  funext y
  unfold iblk1
  rw [View.read_apply]
  refine congrArg (V c main_arg4) (funext fun a => Fin.ext ?_)
  match a with
  | ⟨0, _⟩ => show win1_4.index t 0 * 1024 + 1 * (y 0).val = (y 0).val; rw [h.1]; omega
  | ⟨1, _⟩ => show win1_4.index t 1 * 1024 + 1 * (y 1).val = (y 1).val; rw [h.2]; omega

theorem at1_5 : ∀ t : Fin grid1.N, win1_5.index t 0 = t.val ∧ win1_5.index t 1 = 0 := by
  decide +kernel

theorem in1_5 (t : Fin cfg1.N) (i : Fin 1024) (e : Fin 128) : iblk1 V c 5 t (ix2 i e) = V c main_v0_2 (ix2 ⟨1024 * t.val + i.val, lt_rows (four_1 t) i⟩ e) := by
  have h := at1_5 t
  unfold iblk1
  rw [View.read_apply]
  refine congrArg (V c main_v0_2) (funext fun a => Fin.ext ?_)
  match a with
  | ⟨0, _⟩ => show win1_5.index t 0 * 1024 + 1 * i.val = 1024 * t.val + i.val; rw [h.1]; omega
  | ⟨1, _⟩ => show win1_5.index t 1 * 128 + 1 * e.val = e.val; rw [h.2]; omega

theorem at1_6 : ∀ t : Fin grid1.N, win1_6.index t 0 = t.val ∧ win1_6.index t 1 = 0 := by
  decide +kernel

theorem at1_7 : ∀ t : Fin grid1.N, win1_7.index t 0 = 0 ∧ win1_7.index t 1 = 0 ∧ win1_7.index t 2 = 0 := by
  decide +kernel

/-- An array of all rows and heads. -/
def heads (R : ℕ → Fin 4 → Fin 256 → ℝ) (z : S4096x1024.Idx) : EReal :=
  R (z 0).val ⟨(z 1).val / 256, by have h1 : (z 1 : ℕ) < 1024 := (z 1).isLt; omega⟩ ⟨(z 1).val % 256, Nat.mod_lt _ (by decide)⟩

theorem heads_col (R : ℕ → Fin 4 → Fin 256 → ℝ) (n : Fin 4096) (h : Fin 4) (d : Fin 256) : heads R (ix2 n (col h d)) = (R n.val h d : EReal) := by
  refine congrArg _ (congr (congr (congrArg R rfl) (Fin.ext ?_)) (Fin.ext ?_))
  · show (256 * h.val + d.val) / 256 = h.val; omega
  · show (256 * h.val + d.val) % 256 = d.val; omega

theorem heads_block (R : ℕ → Fin 4 → Fin 256 → ℝ) (n : ℕ) (y : S1024x1024.Idx) (w : S4096x1024.Idx) (h0 : (w 0).val = 1024 * n + (y 0).val) (h1 : (w 1).val = (y 1).val) :
    spread (fun i h d => ((R (1024 * n + i.val) h d : ℝ) : EReal)) y = heads R w := by
  refine congrArg _ (congr (congr (congrArg R h0.symm) (Fin.ext ?_)) (Fin.ext ?_))
  · show (y 1).val / 256 = (w 1).val / 256; rw [h1]
  · show (y 1).val % 256 = (w 1).val % 256; rw [h1]

/-! ## The first call -/

section First

variable (X : ℕ → Fin 1024 → ℝ) (W : Fin 1024 → Fin 1024 → ℝ) (K : Fin 8 → Fin 256 → Fin 256 → ℝ)
  (hX : ∀ (n : Fin 4096) e, V c main_arg0 (ix2 n e) = (X n.val e : EReal)) (hW : ∀ e f, V c main_arg1 (ix2 e f) = (W e f : EReal))
  (hK : ∀ j u d, V c main_arg2 (ix3 j u d) = (K j u d : EReal))

include hX in
theorem block_x (t : Fin cfg0.N) (i e : Fin 1024) : iblk0 V c 0 t (ix2 i e) = (X (1024 * t.val + i.val) e : EReal) := (in0_0 V c t i e).trans (hX ..)

include hW in
theorem block_w (t : Fin cfg0.N) (e f : Fin 1024) : iblk0 V c 1 t (ix2 e f) = (W e f : EReal) := (congrFun (in0_1 V c t) _).trans (hW ..)

include hK in
theorem block_k (t : Fin cfg0.N) (j : Fin 8) (u d : Fin 256) : iblk0 V c 2 t (ix3 j u d) = (K j u d : EReal) := (congrFun (in0_2 V c t) _).trans (hK ..)

include hX hW in
theorem out03 : (dat0 V c).arrAt 3 cfg0.N = fun z : S4096x1024.Idx => (query (X (z 0).val) W (z 1) : EReal) := by
  refine (dat0 V c).arrAt_eq_of_cover 3 (fun z : S4096x1024.Idx => (query (X (z 0).val) W (z 1) : EReal)) (fun t _ => ?_) fun i => ?_
  · have h := at0_3 t
    show (cfg0.win 3).cut (grid0.coords t) ((dat0 V c).after 3 t) = _
    rw [after0_3]
    funext y
    rw [View.read_apply]
    obtain ⟨i, f, rfl⟩ : ∃ i f, y = ix2 i f := ⟨y 0, y 1, funext fun a => by fin_cases a <;> rfl⟩
    refine (point_query V c t (fun i => X (1024 * t.val + i.val)) W (block_x V c X hX t) (block_w V c W hW t) i f).trans ?_
    refine congrArg _ (congr (congrArg (fun n => query (X n) W) ?_) (Fin.ext ?_))
    · show 1024 * t.val + i.val = win0_3.index t 0 * 1024 + 1 * i.val; rw [h.1]; omega
    · show f.val = win0_3.index t 1 * 1024 + 1 * f.val; rw [h.2]; omega
  · have h0 : (i 0 : Nat) < 4096 := (i 0).isLt
    have h1 : (i 1 : Nat) < 1024 := (i 1).isLt
    obtain ⟨t, ht⟩ : ∃ t : Fin cfg0.N, t.val = (i 0 : Nat) / 1024 :=
      ⟨⟨(i 0 : Nat) / 1024, lt_of_lt_of_eq (by omega : (i 0 : Nat) / 1024 < 4) (N_0 : cfg0.N = 4).symm⟩, rfl⟩
    have h := at0_3 t
    refine ⟨t, flush0_3 _, ?_⟩
    show i ∈ ((View.whole main_v0_0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [h.1, ht]; omega
    | ⟨1, _⟩ => show win0_3.index t 1 * 1024 ≤ (i 1 : Nat) ∧ (i 1 : Nat) < win0_3.index t 1 * 1024 + 1024
                rw [h.2, Nat.zero_mul, Nat.zero_add]; exact ⟨Nat.zero_le _, h1⟩

include hX hW hK in
theorem out04 : (dat0 V c).arrAt 4 cfg0.N = heads fun n h d => result (query (X n) W) K h d := by
  refine (dat0 V c).arrAt_eq_of_cover 4 (heads fun n h d => result (query (X n) W) K h d) (fun t _ => ?_) fun i => ?_
  · have h := at0_4 t
    show (cfg0.win 4).cut (grid0.coords t) ((dat0 V c).after 4 t) = _
    rw [after0_4]
    funext y
    rw [View.read_apply]
    refine (point_out V c t (fun i => X (1024 * t.val + i.val)) W K (block_x V c X hX t) (block_w V c W hW t) (block_k V c K hK t) y).trans
      (heads_block (fun n h d => result (query (X n) W) K h d) t.val y _ ?_ ?_)
    · show win0_4.index t 0 * 1024 + 1 * (y 0).val = 1024 * t.val + (y 0).val; rw [h.1]; omega
    · show win0_4.index t 1 * 1024 + 1 * (y 1).val = (y 1).val; rw [h.2]; omega
  · have h0 : (i 0 : Nat) < 4096 := (i 0).isLt
    have h1 : (i 1 : Nat) < 1024 := (i 1).isLt
    obtain ⟨t, ht⟩ : ∃ t : Fin cfg0.N, t.val = (i 0 : Nat) / 1024 :=
      ⟨⟨(i 0 : Nat) / 1024, lt_of_lt_of_eq (by omega : (i 0 : Nat) / 1024 < 4) (N_0 : cfg0.N = 4).symm⟩, rfl⟩
    have h := at0_4 t
    refine ⟨t, flush0_4 _, ?_⟩
    show i ∈ ((View.whole main_v0_1).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [h.1, ht]; omega
    | ⟨1, _⟩ => show win0_4.index t 1 * 1024 ≤ (i 1 : Nat) ∧ (i 1 : Nat) < win0_4.index t 1 * 1024 + 1024
                rw [h.2, Nat.zero_mul, Nat.zero_add]; exact ⟨Nat.zero_le _, h1⟩

/-- The array of the logarithms: its lanes beyond the heads are what the points leave. -/
def lanesOf (z : S4096x128.Idx) : EReal :=
  (outsAt0 V c ⟨(z 0).val / 1024, lt_of_lt_of_eq (by have h0 : (z 0 : ℕ) < 4096 := (z 0).isLt; omega : (z 0 : ℕ) / 1024 < 4) (N_0 : cfg0.N = 4).symm⟩).2.2
    (ix2 ⟨(z 0).val % 1024, Nat.mod_lt _ (by decide)⟩ (z 1))

theorem out05 : (dat0 V c).arrAt 5 cfg0.N = lanesOf V c := by
  refine (dat0 V c).arrAt_eq_of_cover 5 (lanesOf V c) (fun t _ => ?_) fun i => ?_
  · have h := at0_5 t
    show (cfg0.win 5).cut (grid0.coords t) ((dat0 V c).after 5 t) = _
    rw [after0_5]
    funext y
    rw [View.read_apply]
    have key : ∀ (s : Fin cfg0.N) (a : Fin 1024) (b : Fin 128), s = t → a = y 0 → b = y 1 → (outsAt0 V c t).2.2 y = (outsAt0 V c s).2.2 (ix2 a b) := by
      rintro s a b rfl rfl rfl
      exact congrArg _ (funext fun a => by fin_cases a <;> rfl)
    have h0 : (y 0 : ℕ) < 1024 := (y 0).isLt
    refine key _ _ _ (Fin.ext ?_) (Fin.ext ?_) (Fin.ext ?_)
    · show (win0_5.index t 0 * 1024 + 1 * (y 0).val) / 1024 = t.val; rw [h.1]; omega
    · show (win0_5.index t 0 * 1024 + 1 * (y 0).val) % 1024 = (y 0).val; rw [h.1]; omega
    · show win0_5.index t 1 * 128 + 1 * (y 1).val = (y 1).val; rw [h.2]; omega
  · have h0 : (i 0 : Nat) < 4096 := (i 0).isLt
    have h1 : (i 1 : Nat) < 128 := (i 1).isLt
    obtain ⟨t, ht⟩ : ∃ t : Fin cfg0.N, t.val = (i 0 : Nat) / 1024 :=
      ⟨⟨(i 0 : Nat) / 1024, lt_of_lt_of_eq (by omega : (i 0 : Nat) / 1024 < 4) (N_0 : cfg0.N = 4).symm⟩, rfl⟩
    have h := at0_5 t
    refine ⟨t, flush0_5 _, ?_⟩
    show i ∈ ((View.whole main_v0_2).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [h.1, ht]; omega
    | ⟨1, _⟩ => show win0_5.index t 1 * 128 ≤ (i 1 : Nat) ∧ (i 1 : Nat) < win0_5.index t 1 * 128 + 128
                rw [h.2, Nat.zero_mul, Nat.zero_add]; exact ⟨Nat.zero_le _, h1⟩

include hX hW hK in
theorem lanesOf_eq (n : Fin 4096) (h : Fin 4) : lanesOf V c (ix2 n ⟨h.val, by omega⟩) = (lse (scores (query (X n.val) W) K h) : EReal) := by
  have hn : n.val / 1024 < cfg0.N := lt_of_lt_of_eq (by omega : n.val / 1024 < 4) (N_0 : cfg0.N = 4).symm
  refine (point_lse V c ⟨n.val / 1024, hn⟩ (fun i => X (1024 * (n.val / 1024) + i.val)) W K (block_x V c X hX _) (block_w V c W hW _) (block_k V c K hK _)
    ⟨n.val % 1024, Nat.mod_lt _ (by decide)⟩ h).trans ?_
  exact congrArg (fun a => ((lse (scores (query (X a) W) K h) : ℝ) : EReal)) (Nat.div_add_mod n.val 1024)

end First

/-! ## The second call -/

section Second

variable (Q D : ℕ → Fin 1024 → ℝ) (W : Fin 1024 → Fin 1024 → ℝ) (K : Fin 8 → Fin 256 → Fin 256 → ℝ)

/-- What the second call finds, in the reals. -/
structure Found : Prop where
  hq : ∀ (n : Fin 4096) f, V c main_v0_0 (ix2 n f) = (Q n.val f : EReal)
  hk : ∀ j u d, V c main_arg2 (ix3 j u d) = (K j u d : EReal)
  ho : ∀ (n : Fin 4096) h d, V c main_v0_1 (ix2 n (col h d)) = (result (Q n.val) K h d : EReal)
  hd : ∀ (n : Fin 4096) e, V c main_arg3 (ix2 n e) = (D n.val e : EReal)
  hw : ∀ f e, V c main_arg4 (ix2 f e) = (W f e : EReal)
  hl : ∀ (n : Fin 4096) (h : Fin 4), V c main_v0_2 (ix2 n ⟨h.val, by omega⟩) = (lse (scores (Q n.val) K h) : EReal)

variable {V c Q D W K} (b : Found V c Q D W K)

include b

theorem Found.blocks (t : Fin cfg1.N) : Blocks (iblk1 V c 0 t) (iblk1 V c 2 t) (iblk1 V c 3 t) (iblk1 V c 4 t) (iblk1 V c 1 t) (iblk1 V c 5 t)
    (fun i => Q (1024 * t.val + i.val)) (fun i => D (1024 * t.val + i.val)) W K where
  hq i f := (in1_0 V c t i f).trans (b.hq ..)
  hk j u d := (congrFun (in1_1 V c t) _).trans (b.hk ..)
  ho i h d := (in1_2 V c t i _).trans (b.ho ..)
  hd i e := (in1_3 V c t i e).trans (b.hd ..)
  hw f e := (congrFun (in1_4 V c t) _).trans (b.hw ..)
  hl i h := (in1_5 V c t i _).trans (b.hl ..)

theorem left6 (t : Fin cfg1.N) (y : S1024x1024.Idx) :
    (outsAt1 V c t.val t.isLt).1 y
      = spread (fun i h d => ((dquery (Q (1024 * t.val + i.val)) (incoming (D (1024 * t.val + i.val)) W) K h d : ℝ) : EReal)) y := by
  by_cases h0 : t.val % 4 = 0
  · exact point6_A V c t _ _ W K (b.blocks t) h0 y
  · exact point6_B V c t _ _ W K (b.blocks t) h0 y

theorem out16 : (dat1 V c).arrAt 6 cfg1.N = heads fun n h d => dquery (Q n) (incoming (D n) W) K h d := by
  refine (dat1 V c).arrAt_eq_of_cover 6 (heads fun n h d => dquery (Q n) (incoming (D n) W) K h d) (fun t _ => ?_) fun i => ?_
  · have h := at1_6 t
    show (cfg1.win 6).cut (grid1.coords t) ((dat1 V c).after 6 t) = _
    rw [after1_6]
    funext y
    rw [View.read_apply]
    refine (left6 b t y).trans (heads_block (fun n h d => dquery (Q n) (incoming (D n) W) K h d) t.val y _ ?_ ?_)
    · show win1_6.index t 0 * 1024 + 1 * (y 0).val = 1024 * t.val + (y 0).val; rw [h.1]; omega
    · show win1_6.index t 1 * 1024 + 1 * (y 1).val = (y 1).val; rw [h.2]; omega
  · have h0 : (i 0 : Nat) < 4096 := (i 0).isLt
    have h1 : (i 1 : Nat) < 1024 := (i 1).isLt
    obtain ⟨t, ht⟩ : ∃ t : Fin cfg1.N, t.val = (i 0 : Nat) / 1024 :=
      ⟨⟨(i 0 : Nat) / 1024, lt_of_lt_of_eq (by omega : (i 0 : Nat) / 1024 < 4) (N_1 : cfg1.N = 4).symm⟩, rfl⟩
    have h := at1_6 t
    refine ⟨t, flush1_6 _, ?_⟩
    show i ∈ ((View.whole main_v1_0).slice (win1_6.rect t)).set
    rw [View.set_slice_whole, Rect.mem_set_unit]
    intro a
    match a with
    | ⟨0, _⟩ => show win1_6.index t 0 * 1024 ≤ (i 0 : Nat) ∧ (i 0 : Nat) < win1_6.index t 0 * 1024 + 1024
                rw [h.1, ht]; omega
    | ⟨1, _⟩ => show win1_6.index t 1 * 1024 ≤ (i 1 : Nat) ∧ (i 1 : Nat) < win1_6.index t 1 * 1024 + 1024
                rw [h.2, Nat.zero_mul, Nat.zero_add]; exact ⟨Nat.zero_le _, h1⟩

/-- The planes' gradient over the rows up to a point. -/
theorem left7 (j : Fin 8) (u d : Fin 256) (n : ℕ) : ∀ hn : n < cfg1.N,
    (outsAt1 V c n hn).2 (ix3 j u d) = ((∑ r ∈ Finset.range (1024 * (n + 1)), dplane (Q r) (incoming (D r) W) K j u d : ℝ) : EReal) := by
  induction n with
  | zero =>
    intro hn
    refine (point7_A V c ⟨0, hn⟩ _ _ W K (b.blocks ⟨0, hn⟩) rfl j u d).trans ?_
    rw [zero_add, Finset.sum_range]
    refine congrArg _ (Finset.sum_congr rfl fun i _ => ?_)
    show dplane (Q (1024 * 0 + i.val)) (incoming (D (1024 * 0 + i.val)) W) K j u d = _
    rw [Nat.mul_zero, Nat.zero_add]
  | succ n ih =>
    intro hn
    have h4 : n + 1 < 4 := lt_of_lt_of_eq hn (N_1 : cfg1.N = 4)
    refine (point7_B V c ⟨n + 1, hn⟩ _ _ W K (b.blocks ⟨n + 1, hn⟩) (show ¬(n + 1) % 4 = 0 by omega) j u d).trans ?_
    refine (congrArg (· + _) (ih (by omega))).trans ?_
    rw [← EReal.coe_add, show 1024 * (n + 1 + 1) = 1024 * (n + 1) + 1024 from by omega, Finset.sum_range_add, Finset.sum_range (n := 1024)]

theorem out17 : (dat1 V c).arrAt 7 cfg1.N
    = fun z : S8x256x256.Idx => ((∑ r ∈ Finset.range 4096, dplane (Q r) (incoming (D r) W) K (z 0) (z 1) (z 2) : ℝ) : EReal) := by
  refine (dat1 V c).arrAt_eq_of_cover 7 (fun z : S8x256x256.Idx => ((∑ r ∈ Finset.range 4096, dplane (Q r) (incoming (D r) W) K (z 0) (z 1) (z 2) : ℝ) : EReal))
    (fun t ht => ?_) fun i => ?_
  · have h := at1_7 t
    have h3 : t.val = 3 := by have := (flush1_7 t).mp ht; have := four_1 t; omega
    show (cfg1.win 7).cut (grid1.coords t) ((dat1 V c).after 7 t) = _
    rw [after1_7]
    funext y
    rw [View.read_apply]
    obtain ⟨j, u, d, rfl⟩ : ∃ j u d, y = ix3 j u d := ⟨y 0, y 1, y 2, funext fun a => by fin_cases a <;> rfl⟩
    refine (left7 b j u d t.val t.isLt).trans ?_
    rw [h3]
    refine congrArg _ (Finset.sum_congr rfl fun r _ => congr (congr (congrArg (dplane (Q r) (incoming (D r) W) K) (Fin.ext ?_)) (Fin.ext ?_)) (Fin.ext ?_))
    · show j.val = win1_7.index t 0 * 8 + 1 * j.val; rw [h.1]; omega
    · show u.val = win1_7.index t 1 * 256 + 1 * u.val; rw [h.2.1]; omega
    · show d.val = win1_7.index t 2 * 256 + 1 * d.val; rw [h.2.2]; omega
  · obtain ⟨t, ht⟩ : ∃ t : Fin cfg1.N, t.val = 3 := ⟨⟨3, lt_of_lt_of_eq (by decide : 3 < 4) (N_1 : cfg1.N = 4).symm⟩, rfl⟩
    have h := at1_7 t
    refine ⟨t, (flush1_7 t).mpr (by rw [ht]), ?_⟩
    show i ∈ ((View.whole main_v1_1).slice (win1_7.rect t)).set
    rw [View.set_slice_whole, Rect.mem_set_unit]
    have h0 : (i 0 : Nat) < 8 := (i 0).isLt
    have h1 : (i 1 : Nat) < 256 := (i 1).isLt
    have h2 : (i 2 : Nat) < 256 := (i 2).isLt
    intro a
    match a with
    | ⟨0, _⟩ => show win1_7.index t 0 * 8 ≤ (i 0 : Nat) ∧ (i 0 : Nat) < win1_7.index t 0 * 8 + 8
                rw [h.1, Nat.zero_mul, Nat.zero_add]; exact ⟨Nat.zero_le _, h0⟩
    | ⟨1, _⟩ => show win1_7.index t 1 * 256 ≤ (i 1 : Nat) ∧ (i 1 : Nat) < win1_7.index t 1 * 256 + 256
                rw [h.2.1, Nat.zero_mul, Nat.zero_add]; exact ⟨Nat.zero_le _, h1⟩
    | ⟨2, _⟩ => show win1_7.index t 2 * 256 ≤ (i 2 : Nat) ∧ (i 2 : Nat) < win1_7.index t 2 * 256 + 256
                rw [h.2.2, Nat.zero_mul, Nat.zero_add]; exact ⟨Nat.zero_le _, h2⟩

end Second

end Cert.XattnClaim
-- ==== Proof.XattnRef.lean ====
/-
  The reference's attention into the memory and its gradients, stage by stage, in the reals.
-/
module

public import proofs.«01_k».proof.Proof.XattnBack
public import proofs.«01_k».proof.Proof.Gen.XattnRefIdeal.Run
public import proofs.«01_k».proof.Proof.Gen.XattnRefIdeal.Read

@[expose] public section

noncomputable section

namespace Cert.XattnClaim

open Idealize.ShloMosaic Idealize.ShloMosaic.TcCoe Idealize.SL.Sem
open Cert.XattnMath

set_option maxRecDepth 16384
open Cert.XattnRefIdeal Cert.XattnRefIdeal.Read

variable (a0 : Vec Ideal S4096x1024 .bf16) (a1 : Vec Ideal S1024x1024 .bf16) (a2 : Vec Ideal S8x256x256 .bf16)
  (a3 : Vec Ideal S4096x1024 .bf16) (a4 : Vec Ideal S1024x1024 .bf16)
  (X D : ℕ → Fin 1024 → ℝ) (W O : Fin 1024 → Fin 1024 → ℝ) (K : Fin 8 → Fin 256 → Fin 256 → ℝ)

/-- The five arguments hold reals. -/
structure Given : Prop where
  hx : ∀ (n : Fin 4096) e, a0 (ix2 n e) = (X n.val e : EReal)
  hw : ∀ e f, a1 (ix2 e f) = (W e f : EReal)
  hk : ∀ p t d, a2 (ix3 p t d) = (K p t d : EReal)
  hd : ∀ (n : Fin 4096) e, a3 (ix2 n e) = (D n.val e : EReal)
  ho : ∀ f e, a4 (ix2 f e) = (O f e : EReal)

variable {a0 a1 a2 a3 a4 X D W O K} (b : Given a0 a1 a2 a3 a4 X D W O K) (n : Fin 4096) (h : Fin 4) (t d : Fin 256)

include b

theorem ref_query (f : Fin 1024) : val_main_v4 (F := Ideal) a0 a1 (ix2 n f) = (query (X n.val) W f : EReal) := by
  unfold query
  pointwise [val_main_v4, val_main_v3, val_main_v2, val_main_v1, val_main_v0]
  simp only [b.hx, b.hw, ← EReal.coe_mul, ← Finite.coe_sum]

theorem ref_part : val_main_v7 (F := Ideal) a0 a1 (ix3 n h d) = (part (query (X n.val) W) h d : EReal) := by
  rw [val_main_v7_apply]
  refine Eq.trans (congrArg _ (funext fun a => Fin.ext ?_)) (ref_query b n (col h d))
  have := h.isLt
  have := d.isLt
  match a with
  | ⟨0, _⟩ => show ((n.val * 4 + h.val) * 256 + d.val) / 1024 = n.val; omega
  | ⟨1, _⟩ => show ((n.val * 4 + h.val) * 256 + d.val) % 1024 = 256 * h.val + d.val; omega

theorem ref_keys : val_main_v8 (F := Ideal) a2 (ix3 h t d) = (keys K h t d : EReal) := by
  rw [val_main_v8_apply]
  refine Eq.trans (congrArg (val_main_v5 (F := Ideal) a2) (funext fun a => Fin.ext ?_)) (b.hk ⟨h.val, by omega⟩ t d)
  match a with
  | ⟨0, _⟩ => rfl
  | ⟨1, _⟩ => rfl
  | ⟨2, _⟩ => rfl

theorem ref_vals : val_main_v9 (F := Ideal) a2 (ix3 h t d) = (vals K h t d : EReal) := by
  rw [val_main_v9_apply]
  refine Eq.trans (congrArg (val_main_v5 (F := Ideal) a2) (funext fun a => Fin.ext ?_)) (b.hk ⟨4 + h.val, by omega⟩ t d)
  match a with
  | ⟨0, _⟩ => first | rfl | exact Nat.add_comm _ _
  | ⟨1, _⟩ => rfl
  | ⟨2, _⟩ => rfl

theorem ref_score : val_main_v12 (F := Ideal) a0 a1 a2 (ix3 h n t) = (scores (query (X n.val) W) K h t : EReal) := by
  have e := ref_part b n h
  have e2 := ref_keys b h
  unfold val_main_v12 val_main_v10 val_main_v11 val_main_cst
  generalize val_main_v7 (F := Ideal) a0 a1 = s at e
  generalize val_main_v8 (F := Ideal) a2 = u at e2
  pointwise
  simp only [e, e2, sixteenth_eq, ← EReal.coe_mul, ← Finite.coe_sum]
  rfl

theorem ref_max : val_main_v13 (F := Ideal) a0 a1 a2 (ix2 h n) = (top (scores (query (X n.val) W) K h) : EReal) := by
  have e : (fun t => val_main_v12 (F := Ideal) a0 a1 a2 (ix3 h n t)) = fun t => (scores (query (X n.val) W) K h t : EReal) :=
    funext fun t => ref_score b n h t
  rw [← top_eq, ← e, ← bot_eq]
  unfold val_main_v13 val_main_cst_0
  generalize val_main_v12 (F := Ideal) a0 a1 a2 = s
  pointwise

theorem ref_top : val_main_v20 (F := Ideal) a0 a1 a2 (ix2 h n) = (top (scores (query (X n.val) W) K h) : EReal) := by
  rw [val_main_v20_apply, ref_max b n h, val_main_v19_apply, val_main_cst_2_apply]
  refine (congrArg (fun z : EReal => max z _) bot_eq).trans ?_
  exact max_eq_right bot_le

theorem ref_above : val_main_v33 (F := Ideal) a0 a1 a2 (ix3 h n t) = (above (scores (query (X n.val) W) K h) t : EReal) := by
  have e := ref_score b n h t
  have e2 := ref_top b n h
  unfold val_main_v33 val_main_v32 val_main_v31 val_main_v30
  generalize val_main_v12 (F := Ideal) a0 a1 a2 = s at e
  generalize val_main_v20 (F := Ideal) a0 a1 a2 = m at e2
  pointwise
  rw [e, e2, ← EReal.coe_sub, Ideal.exp_coe]
  rfl

theorem ref_total : val_main_v34 (F := Ideal) a0 a1 a2 (ix2 h n) = (total (scores (query (X n.val) W) K h) : EReal) := by
  have e := ref_above b n h
  unfold val_main_v34 val_main_cst_8 total
  generalize val_main_v33 (F := Ideal) a0 a1 a2 = s at e
  rw [Finite.coe_sum]
  simp only [← e]
  pointwise

theorem ref_prob : val_main_v37 (F := Ideal) a0 a1 a2 (ix3 h n t) = (prob (scores (query (X n.val) W) K h) t : EReal) := by
  have e := ref_above b n h t
  have e2 := ref_total b n h
  unfold val_main_v37 val_main_v36 val_main_v35
  generalize val_main_v33 (F := Ideal) a0 a1 a2 = s at e
  generalize val_main_v34 (F := Ideal) a0 a1 a2 = m at e2
  pointwise
  rw [e, e2, Ideal.div_coe (total_pos _).ne', ← EReal.coe_mul]
  exact congrArg _ (div_eq_mul_one_div _ _).symm

theorem ref_incoming (f : Fin 1024) : val_main_v46 (F := Ideal) a3 a4 (ix2 n f) = (incoming (D n.val) O f : EReal) := by
  unfold incoming
  pointwise [val_main_v46, val_main_v45, val_main_v6]
  simp only [b.hd, b.ho, ← EReal.coe_mul, ← Finite.coe_sum]

theorem ref_given : val_main_v48 (F := Ideal) a3 a4 (ix3 h d n) = (part (incoming (D n.val) O) h d : EReal) := by
  rw [val_main_v48_apply, val_main_v47_apply]
  refine Eq.trans (congrArg _ (funext fun a => Fin.ext ?_)) (ref_incoming b n (col h d))
  have := h.isLt
  have := d.isLt
  match a with
  | ⟨0, _⟩ => show ((n.val * 4 + h.val) * 256 + d.val) / 1024 = n.val; omega
  | ⟨1, _⟩ => show ((n.val * 4 + h.val) * 256 + d.val) % 1024 = 256 * h.val + d.val; omega

theorem ref_dprob : val_main_v49 (F := Ideal) a2 a3 a4 (ix3 h n t) = (dprob (part (incoming (D n.val) O) h) (vals K h) t : EReal) := by
  have e := ref_given b n h
  have e2 := ref_vals b h
  unfold val_main_v49 dprob
  generalize val_main_v48 (F := Ideal) a3 a4 = s at e
  generalize val_main_v9 (F := Ideal) a2 = u at e2
  pointwise
  simp only [e, e2, ← EReal.coe_mul, ← Finite.coe_sum]

end Cert.XattnClaim
-- ==== Proof.XattnRefBack.lean ====
/-
  The reference's gradients of the attention into the memory, in the reals: its softmax's backward, and the sums.
-/
module

public import proofs.«01_k».proof.Proof.XattnRef

@[expose] public section

noncomputable section

namespace Cert.XattnClaim

open Idealize.ShloMosaic Idealize.ShloMosaic.TcCoe Idealize.SL.Sem
open Cert.XattnMath

set_option maxRecDepth 16384
open Cert.XattnRefIdeal Cert.XattnRefIdeal.Read

/-- The gradient at a score, the way it is worked out behind a division. -/
theorem softmax_back (s g : Fin 256 → ℝ) (v : Fin 256 → Fin 256 → ℝ) (t : Fin 256) :
    (dprob g v t * (1 / total s) + -∑ u, dprob g v u * (1 / (total s * total s)) * above s u) * above s t * (1 / 16) = dlogit s g v t := by
  have hp := (total_pos s).ne'
  have hs : ∑ u, dprob g v u * (1 / (total s * total s)) * above s u = (∑ u, prob s u * dprob g v u) * (1 / total s) := by
    rw [Finset.sum_mul]
    refine Finset.sum_congr rfl fun u _ => ?_
    unfold prob
    field_simp
  unfold dlogit
  rw [hs, show prob s t = above s t * (1 / total s) from div_eq_mul_one_div _ _]
  ring

variable {a0 : Vec Ideal S4096x1024 .bf16} {a1 : Vec Ideal S1024x1024 .bf16} {a2 : Vec Ideal S8x256x256 .bf16}
  {a3 : Vec Ideal S4096x1024 .bf16} {a4 : Vec Ideal S1024x1024 .bf16}
  {X D : ℕ → Fin 1024 → ℝ} {W O : Fin 1024 → Fin 1024 → ℝ} {K : Fin 8 → Fin 256 → Fin 256 → ℝ}

variable (b : Given a0 a1 a2 a3 a4 X D W O K) (n : Fin 4096) (h : Fin 4) (t d : Fin 256)

include b

/-- The gradient at the sum of the exponentials. -/
theorem ref_dtotal : val_main_v60 (F := Ideal) a0 a1 a2 a3 a4 (ix2 h n)
    = ((-∑ u, dprob (part (incoming (D n.val) O) h) (vals K h) u
        * (1 / (total (scores (query (X n.val) W) K h) * total (scores (query (X n.val) W) K h))) * above (scores (query (X n.val) W) K h) u : ℝ) : EReal) := by
  have e := ref_above b n h
  have e2 := ref_total b n h
  have e3 := ref_dprob b n h
  have hp := total_pos (scores (query (X n.val) W) K h)
  unfold val_main_v60 val_main_v57 val_main_v56 val_main_v55 val_main_v54 val_main_v53 val_main_v52 val_main_v40 val_main_v39 val_main_v38
    val_main_v35 val_main_cst_9 val_main_cst_10 val_main_cst_11
  generalize val_main_v33 (F := Ideal) a0 a1 a2 = s at e
  generalize val_main_v34 (F := Ideal) a0 a1 a2 = m at e2
  generalize val_main_v49 (F := Ideal) a2 a3 a4 = p at e3
  pointwise
  simp only [e, e2, e3, one_eq, ← EReal.coe_mul, Ideal.div_coe (mul_pos hp hp).ne', one_mul, ← Finite.coe_sum, ← EReal.coe_neg]
  exact congrArg _ (Fin.sum_univ_one _)

theorem ref_dlogit : val_main_v65 (F := Ideal) a0 a1 a2 a3 a4 (ix3 h n t)
    = (dlogit (scores (query (X n.val) W) K h) (part (incoming (D n.val) O) h) (vals K h) t : EReal) := by
  have e := ref_above b n h t
  have e2 := ref_total b n h
  have e3 := ref_dprob b n h t
  have e4 := ref_dtotal b n h
  rw [← softmax_back]
  unfold val_main_v65 val_main_v64 val_main_v63 val_main_v62 val_main_v61 val_main_v59 val_main_v58 val_main_v35 val_main_cst_12
  generalize val_main_v33 (F := Ideal) a0 a1 a2 = s at e
  generalize val_main_v34 (F := Ideal) a0 a1 a2 = m at e2
  generalize val_main_v49 (F := Ideal) a2 a3 a4 = p at e3
  generalize val_main_v60 (F := Ideal) a0 a1 a2 a3 a4 = z at e4
  pointwise
  rw [e, e2, e3, e4, sixteenth_eq, Ideal.div_coe (total_pos _).ne', ← EReal.coe_mul, ← EReal.coe_add, ← EReal.coe_mul, ← EReal.coe_mul]

/-- The gradient at the queries. -/
theorem ref_dq : val_main_v73 (F := Ideal) a0 a1 a2 a3 a4 (ix2 n (col h d))
    = (dquery (query (X n.val) W) (incoming (D n.val) O) K h d : EReal) := by
  have e := ref_dlogit b n h
  have e2 := ref_keys b h
  have e5 : val_main_v67 (F := Ideal) a0 a1 a2 a3 a4 (ix3 h n d) = (dquery (query (X n.val) W) (incoming (D n.val) O) K h d : EReal) := by
    unfold val_main_v67 dquery
    generalize val_main_v65 (F := Ideal) a0 a1 a2 a3 a4 = s at e
    generalize val_main_v8 (F := Ideal) a2 = u at e2
    pointwise
    simp only [e, e2, ← EReal.coe_mul, ← Finite.coe_sum]
  refine Eq.trans ?_ e5
  show val_main_v72 (F := Ideal) a0 a1 a2 a3 a4 (ix2 n (col h d)) = _
  rw [val_main_v72_apply, val_main_v68_apply]
  refine congrArg _ (funext fun a => Fin.ext ?_)
  have := h.isLt
  have := d.isLt
  match a with
  | ⟨0, _⟩ => show (n.val * 1024 + (256 * h.val + d.val)) / 256 % 4 = h.val; omega
  | ⟨1, _⟩ => show (n.val * 1024 + (256 * h.val + d.val)) / 1024 = n.val; omega
  | ⟨2, _⟩ => show (n.val * 1024 + (256 * h.val + d.val)) % 256 = d.val; omega

/-- The gradient at the keys, and at the values. -/
theorem ref_dk : val_main_v66 (F := Ideal) a0 a1 a2 a3 a4 (ix3 h t d)
    = ((∑ r : Fin 4096, dkey (query (X r.val) W) (incoming (D r.val) O) K h t d : ℝ) : EReal) := by
  have e := fun r => ref_dlogit b r h t
  have e2 := fun r => ref_part b r h d
  unfold val_main_v66 dkey
  generalize val_main_v65 (F := Ideal) a0 a1 a2 a3 a4 = s at e
  generalize val_main_v7 (F := Ideal) a0 a1 = u at e2
  pointwise
  simp only [e, e2, ← EReal.coe_mul, ← Finite.coe_sum]

theorem ref_dv : val_main_v51 (F := Ideal) a0 a1 a2 a3 a4 (ix3 h t d)
    = ((∑ r : Fin 4096, dval (query (X r.val) W) (incoming (D r.val) O) K h t d : ℝ) : EReal) := by
  have e := fun r => ref_prob b r h t
  have e2 := fun r => ref_given b r h d
  unfold val_main_v51 val_main_v50 dval
  generalize val_main_v37 (F := Ideal) a0 a1 a2 = s at e
  generalize val_main_v48 (F := Ideal) a3 a4 = u at e2
  pointwise
  simp only [e, e2, ← EReal.coe_mul, ← Finite.coe_sum]
  exact congrArg _ (Finset.sum_congr rfl fun r _ => mul_comm _ _)

theorem ref_dkv (p : Fin 8) : val_main_v71 (F := Ideal) a0 a1 a2 a3 a4 (ix3 p t d)
    = ((∑ r ∈ Finset.range 4096, dplane (query (X r) W) (incoming (D r) O) K p t d : ℝ) : EReal) := by
  rw [Finset.sum_range, val_main_v71_apply]
  have z : (FloatOps.ofBits (F := Ideal) .f32 0x00000000#32 : EReal) = 0 := by simp [Ideal.ofBits, Ideal.ieee]
  by_cases hp : p.val < 4
  · have e1 : val_main_v69 (F := Ideal) a0 a1 a2 a3 a4 (ix3 p t d) = (0 : EReal) := by
      unfold val_main_v69
      rw [pad_apply_of_not_inside _ _ _ _ _ _ _ _ 0 (by
        show ¬(4 ≤ p.val ∧ _)
        omega)]
      exact z
    have e2 : val_main_v70 (F := Ideal) a0 a1 a2 a3 a4 (ix3 p t d) = val_main_v66 (F := Ideal) a0 a1 a2 a3 a4 (ix3 ⟨p.val, hp⟩ t d) := by
      unfold val_main_v70
      exact pad_apply_of_inside _ _ _ _ _ _ _ _ (ix3 ⟨p.val, hp⟩ t d) (fun a => by
        match a with
        | ⟨0, _⟩ => show p.val = 0 + p.val * (0 + 1); omega
        | ⟨1, _⟩ => show t.val = 0 + t.val * (0 + 1); omega
        | ⟨2, _⟩ => show d.val = 0 + d.val * (0 + 1); omega)
    rw [e1, e2, ref_dk b]
    refine (zero_add _).trans (congrArg _ (Finset.sum_congr rfl fun r _ => ?_))
    exact (dplane_key _ _ _ ⟨p.val, hp⟩ p.val p.isLt rfl t d).symm
  · have e1 : val_main_v70 (F := Ideal) a0 a1 a2 a3 a4 (ix3 p t d) = (0 : EReal) := by
      unfold val_main_v70
      rw [pad_apply_of_not_inside _ _ _ _ _ _ _ _ 0 (by
        show ¬(_ ∧ _ ∧ (p.val - 0) / (0 + 1) < 4)
        omega)]
      exact z
    have e2 : val_main_v69 (F := Ideal) a0 a1 a2 a3 a4 (ix3 p t d) = val_main_v51 (F := Ideal) a0 a1 a2 a3 a4 (ix3 ⟨p.val - 4, by omega⟩ t d) := by
      unfold val_main_v69
      exact pad_apply_of_inside _ _ _ _ _ _ _ _ (ix3 ⟨p.val - 4, by omega⟩ t d) (fun a => by
        match a with
        | ⟨0, _⟩ => show p.val = 4 + (p.val - 4) * (0 + 1); omega
        | ⟨1, _⟩ => show t.val = 0 + t.val * (0 + 1); omega
        | ⟨2, _⟩ => show d.val = 0 + d.val * (0 + 1); omega)
    rw [e1, e2, ref_dv b]
    refine (add_zero _).trans (congrArg _ (Finset.sum_congr rfl fun r _ => ?_))
    exact (dplane_val _ _ _ ⟨p.val - 4, by omega⟩ p.val p.isLt (show p.val = 4 + (p.val - 4) by omega) t d).symm

end Cert.XattnClaim
-- ==== Proof.XattnClaim.lean ====
/-
  The claims on `Xattn`: where every entry of the five arguments is finite, the kernel's two calls and the reference leave
  the same two arrays.
-/
module

public import proofs.«01_k».proof.Defs
public import proofs.«01_k».proof.Proof.Gen.Pre_finite2
public import proofs.«01_k».proof.Proof.XattnCalls
public import proofs.«01_k».proof.Proof.XattnRefBack

@[expose] public section

noncomputable section

namespace Cert.XattnClaim

open Idealize.ShloMosaic Idealize.ShloMosaic.TcCoe Idealize.SL.Sem
open Idealize.ShloMosaic.Pipeline (Dat)
open Cert.XattnMath

section Kernel

set_option maxRecDepth 16384
open Cert.XattnIdeal Cert.XattnIdeal.Gen

variable (m : (ℓ : Loc nD τ sig) → Buf (Elt Ideal) ℓ) (ρ : Dev nD → PrngReg) (c : Dev nD)

section Ends

variable {m c} {X D : ℕ → Fin 1024 → ℝ} {W O : Fin 1024 → Fin 1024 → ℝ} {K : Fin 8 → Fin 256 → Fin 256 → ℝ}
  (b : Given (m ((c : Thread nD τ).loc main_arg0)) (m ((c : Thread nD τ).loc main_arg1)) (m ((c : Thread nD τ).loc main_arg2))
    (m ((c : Thread nD τ).loc main_arg3)) (m ((c : Thread nD τ).loc main_arg4)) X D W O K)

include b

/-- What the second call finds. -/
theorem found : Found (V1 m ρ) c (fun n => query (X n) W) D O K where
  hq n f := by
    refine (congrFun (show V1 m ρ c main_v0_0 = _ from (W1_arr m ρ c 3).trans (out03 (V0 m ρ) c X W b.hx b.hw)) (ix2 n f)).trans ?_
    rfl
  hk p t d := (congrFun (show V1 m ρ c main_arg2 = _ from W1_args m ρ c main_arg2 (by decide)) (ix3 p t d)).trans (b.hk p t d)
  ho n h d := by
    refine (congrFun (show V1 m ρ c main_v0_1 = _ from (W1_arr m ρ c 4).trans (out04 (V0 m ρ) c X W K b.hx b.hw b.hk)) (ix2 n (col h d))).trans ?_
    exact heads_col _ n h d
  hd n e := (congrFun (show V1 m ρ c main_arg3 = _ from W1_args m ρ c main_arg3 (by decide)) (ix2 n e)).trans (b.hd n e)
  hw f e := (congrFun (show V1 m ρ c main_arg4 = _ from W1_args m ρ c main_arg4 (by decide)) (ix2 f e)).trans (b.ho f e)
  hl n h := by
    refine (congrFun (show V1 m ρ c main_v0_2 = _ from (W1_arr m ρ c 5).trans (out05 (V0 m ρ) c)) (ix2 n ⟨h.val, _⟩)).trans ?_
    exact lanesOf_eq (V0 m ρ) c X W K b.hx b.hw b.hk n h

/-- What each of the two results ends at. -/
theorem end_dq : W2 m ρ c (Proc.devRef .tc main_v1_0)
    = heads fun n h d => dquery (query (X n) W) (incoming (D n) O) K h d :=
  (W2_arr m ρ c 6).trans (out16 (found ρ b))

theorem end_dkv : W2 m ρ c (Proc.devRef .tc main_v1_1)
    = fun z : S8x256x256.Idx => ((∑ r ∈ Finset.range 4096, dplane (query (X r) W) (incoming (D r) O) K (z 0) (z 1) (z 2) : ℝ) : EReal) :=
  (W2_arr m ρ c 7).trans (out17 (found ρ b))

end Ends

section Run

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- The two calls run one after the other; afterwards every array is at what the last call to write it left. -/
theorem run : θ_run defs (onTc (τ := τ) (main (F := Ideal))) ⟨m, fun _ => 0, ρ⟩ (fun r => ∀ c : Dev nD,
      ∀ b : Ref sig .tc, ¬ (Proc.devRef .tc b : DevRef τ sig).isScoped →
        r.2.mem ((c : Thread nD τ).loc b) = W2 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => fun c b hb => h c _ (mem_uc b hb))

end Run

end Kernel

theorem ref_frame : Cert.quiescent_XattnRefIdeal := fun m ρ _ =>
  (θ_run Cert.XattnRefIdeal.defs _ _).mono (fun r h => ⟨fun c => (h c).2.2, sem_eq_zero_of_no_sems (by decide) r.2⟩)
    (Cert.XattnRefIdeal.Value.run (F := Ideal) m ρ)

/-- The precondition gives the reals. -/
theorem given (m : (ℓ : Loc Cert.XattnIdeal.nD Cert.XattnIdeal.τ Cert.XattnIdeal.sig) → Buf (Elt Ideal) ℓ)
    (hpre : Cert.Pre_XattnIdeal_finite2 m) (c : Dev Cert.XattnIdeal.nD) :
    ∃ (X D : ℕ → Fin 1024 → ℝ) (W O : Fin 1024 → Fin 1024 → ℝ) (K : Fin 8 → Fin 256 → Fin 256 → ℝ),
      Given (m ((c : Thread Cert.XattnIdeal.nD Cert.XattnIdeal.τ).loc Cert.XattnIdeal.main_arg0))
        (m ((c : Thread Cert.XattnIdeal.nD Cert.XattnIdeal.τ).loc Cert.XattnIdeal.main_arg1))
        (m ((c : Thread Cert.XattnIdeal.nD Cert.XattnIdeal.τ).loc Cert.XattnIdeal.main_arg2))
        (m ((c : Thread Cert.XattnIdeal.nD Cert.XattnIdeal.τ).loc Cert.XattnIdeal.main_arg3))
        (m ((c : Thread Cert.XattnIdeal.nD Cert.XattnIdeal.τ).loc Cert.XattnIdeal.main_arg4)) X D W O K := by
  obtain ⟨p0, p1, p2, p3, p4⟩ := hpre c
  have r0 : ∀ (n : Fin 4096) (e : Fin 1024), Finite.IsReal (m ((c : Thread Cert.XattnIdeal.nD Cert.XattnIdeal.τ).loc Cert.XattnIdeal.main_arg0) (ix2 n e)) :=
    fun n e => Finite.of_below (congrFun p0 (ix2 n e))
  have r1 : ∀ (e f : Fin 1024), Finite.IsReal (m ((c : Thread Cert.XattnIdeal.nD Cert.XattnIdeal.τ).loc Cert.XattnIdeal.main_arg1) (ix2 e f)) :=
    fun e f => Finite.of_below (congrFun p1 (ix2 e f))
  have r2 : ∀ (p : Fin 8) (t d : Fin 256), Finite.IsReal (m ((c : Thread Cert.XattnIdeal.nD Cert.XattnIdeal.τ).loc Cert.XattnIdeal.main_arg2) (ix3 p t d)) :=
    fun p t d => Finite.of_below (congrFun p2 (ix3 p t d))
  have r3 : ∀ (n : Fin 4096) (e : Fin 1024), Finite.IsReal (m ((c : Thread Cert.XattnIdeal.nD Cert.XattnIdeal.τ).loc Cert.XattnIdeal.main_arg3) (ix2 n e)) :=
    fun n e => Finite.of_below (congrFun p3 (ix2 n e))
  have r4 : ∀ (f e : Fin 1024), Finite.IsReal (m ((c : Thread Cert.XattnIdeal.nD Cert.XattnIdeal.τ).loc Cert.XattnIdeal.main_arg4) (ix2 f e)) :=
    fun f e => Finite.of_below (congrFun p4 (ix2 f e))
  choose x hx using r0
  choose w hw using r1
  choose k hk using r2
  choose y hy using r3
  choose o ho using r4
  exact ⟨fun n => if h : n < 4096 then x ⟨n, h⟩ else fun _ => 0, fun n => if h : n < 4096 then y ⟨n, h⟩ else fun _ => 0, w, o, k,
    fun n e => by rw [dif_pos n.isLt]; exact hx n e, hw, hk, fun n e => by rw [dif_pos n.isLt]; exact hy n e, ho⟩

/-- Kernel and reference leave the same two arrays. -/
theorem algebraic : Cert.algebraic_XattnIdeal_XattnRefIdeal_pre_finite2 := by
  intro m g m' g' hpre hagree
  choose X D W O K b using given m hpre
  refine ⟨fun c => heads fun n h d => dquery (query (X c n) (W c)) (incoming (D c n) (O c)) (K c) h d,
    fun c => fun z : Cert.XattnIdeal.S8x256x256.Idx =>
      ((∑ r ∈ Finset.range 4096, dplane (query (X c r) (W c)) (incoming (D c r) (O c)) (K c) (z 0) (z 1) (z 2) : ℝ) : EReal), ?_, ?_⟩
  · refine (θ_run Cert.XattnIdeal.defs _ _).mono (fun r h c => ?_) (run m g)
    exact ⟨(h c _ (by decide)).trans (end_dq g (b c)), (h c _ (by decide)).trans (end_dkv g (b c)),
      (h c _ (by decide)).trans (Cert.XattnIdeal.Gen.W2_main_arg0 m g c), (h c _ (by decide)).trans (Cert.XattnIdeal.Gen.W2_main_arg1 m g c),
      (h c _ (by decide)).trans (Cert.XattnIdeal.Gen.W2_main_arg2 m g c), (h c _ (by decide)).trans (Cert.XattnIdeal.Gen.W2_main_arg3 m g c),
      (h c _ (by decide)).trans (Cert.XattnIdeal.Gen.W2_main_arg4 m g c)⟩
  · refine (θ_run Cert.XattnRefIdeal.defs _ _).mono (fun r h c => ?_) (Cert.XattnRefIdeal.Value.run (F := Ideal) m' g')
    obtain ⟨e0, e1, e2, e3, e4⟩ := hagree c
    refine ⟨(h c).1.trans ((Cert.XattnRefIdeal.Read.val_main_v73_eq _ _).trans ?_),
      (h c).2.1.trans ((Cert.XattnRefIdeal.Read.val_main_v71_eq _ _).trans ?_), (h c).2.2⟩
    · rw [e0, e1, e2, e3, e4]
      funext z
      obtain ⟨n, f, rfl⟩ : ∃ n f, z = ix2 n f := ⟨z 0, z 1, funext fun a => by fin_cases a <;> rfl⟩
      obtain ⟨h, d, rfl⟩ : ∃ h d, f = col h d := ⟨⟨f.val / 256, by omega⟩, ⟨f.val % 256, by omega⟩, Fin.ext (by show f.val = 256 * (f.val / 256) + f.val % 256; omega)⟩
      exact (ref_dq (b c) n h d).trans (heads_col (fun n h d => dquery (query (X c n) (W c)) (incoming (D c n) (O c)) (K c) h d) n h d).symm
    · rw [e0, e1, e2, e3, e4]
      funext z
      obtain ⟨p, t, d, rfl⟩ : ∃ p t d, z = ix3 p t d := ⟨z 0, z 1, z 2, funext fun a => by fin_cases a <;> rfl⟩
      exact ref_dkv (b c) t d p

end Cert.XattnClaim
-- ==== Proof.Sums.lean ====
/-
  Sums of extended reals: a constant that is neither negative nor infinite goes in and out of a sum, and the values of
  the few constants the programs hold.
-/
module

public import Idealize.ShloMosaic.Lib.Pointwise

@[expose] public section

noncomputable section

namespace Cert.Sums

open Idealize.ShloMosaic

/-- The constant one half. -/
theorem half_eq : Ideal.ofBits FTy.f32 0x3F000000#32 = ((1 / 2 : ℝ) : EReal) := by
  simp [Ideal.ofBits, Ideal.ieee, ← EReal.coe_mul]
  norm_num

/-- A finite constant that is not negative, times a sum. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- Half of a sum. -/
theorem half_mul_sum {ι : Type} (s : Finset ι) (f : ι → EReal) :
    Ideal.ofBits FTy.f32 0x3F000000#32 * ∑ i ∈ s, f i = ∑ i ∈ s, Ideal.ofBits FTy.f32 0x3F000000#32 * f i := by
  rw [half_eq]
  exact mul_sum s _ (by norm_num) f

end Cert.Sums
-- ==== Proof.RmsGrad.lean ====
/-
  The gradient of a root-mean-square norm along one row of 1024 entries, written as the kernel computes it (the reciprocal
  root is computed once and the row's correction is one mean) and as the derivative of the norm is assembled from the
  derivatives of its steps. The two agree: with `r` the reciprocal root of `v`, the derivative of `r` is `-r / (2 v)`, and
  `r / v` is `r` cubed. On a row with an infinite entry `r` is zero, and both are what comes down past the norm.
-/
module

public import proofs.«01_k».proof.Proof.Finite
public import proofs.«01_k».proof.Proof.Sums
public import Mathlib.Tactic.FieldSimp
public import Mathlib.Tactic.Ring
public import Mathlib.Tactic.LinearCombination

@[expose] public section

noncomputable section

namespace Cert.RmsGrad

open Idealize.ShloMosaic Cert.Finite

/-- The row's mean square, kept away from zero. -/
def meanSq (x : Fin 1024 → EReal) : EReal :=
  Ideal.div (∑ k, x k * x k) (Ideal.ofBits FTy.f32 1149239296#32) + Ideal.ofBits FTy.f32 897988541#32

/-- The reciprocal of the row's root mean square. -/
def recip (x : Fin 1024 → EReal) : EReal := Ideal.rsqrt (meanSq x)

/-- The gradient of the norm, plus what comes down past it: `g` is the gain, `h` what comes down through the norm. -/
def grad (x g h : Fin 1024 → EReal) (d : EReal) (j : Fin 1024) : EReal :=
  d + recip x * (h j * g j - x j * recip x
    * Ideal.div (∑ k, h k * g k * (x k * recip x)) (Ideal.ofBits FTy.f32 1149239296#32))

/-- What the row's mean square receives, shared out to each of its entries. -/
def share (x g h : Fin 1024 → EReal) : EReal :=
  Ideal.div ((∑ k, x k * (h k * g k)) * (Ideal.ofBits FTy.f32 3204448256#32 * Ideal.div (recip x) (meanSq x)))
    (Ideal.ofBits FTy.f32 1149239296#32)

theorem width_eq : Ideal.ofBits FTy.f32 1149239296#32 = ((1024 : ℝ) : EReal) := by
  simp [Ideal.ofBits, Ideal.ieee, ← EReal.coe_mul]
  norm_num

theorem eps_eq : ∃ e : ℝ, 0 < e ∧ Ideal.ofBits FTy.f32 897988541#32 = (e : EReal) := by
  refine ⟨(1 : ℝ) * ((2 ^ 23 + 407485 : ℝ) * (2 : ℝ) ^ (-43 : ℤ)), by positivity, ?_⟩
  simp [Ideal.ofBits, Ideal.ieee, ← EReal.coe_mul]
  norm_num

theorem neg_half_eq : Ideal.ofBits FTy.f32 3204448256#32 = ((-1 / 2 : ℝ) : EReal) := by
  simp [Ideal.ofBits, Ideal.ieee, ← EReal.coe_mul]
  norm_num

/-- On a finite row the mean square is positive, and the reciprocal root is its root's reciprocal. -/
theorem recip_eq (x : Fin 1024 → ℝ) : ∃ v r : ℝ, 0 < v ∧ 0 ≤ r ∧ r * r * v = 1 ∧ meanSq (fun k => (x k : EReal)) = (v : EReal)
    ∧ recip (fun k => (x k : EReal)) = (r : EReal) := by
  obtain ⟨e, he, h⟩ := eps_eq
  have hv : meanSq (fun k => (x k : EReal)) = (((∑ k, x k * x k) * (1 / 1024) + e : ℝ) : EReal) := by
    rw [meanSq, h, width_eq, Ideal.div_coe (by norm_num)]
    simp only [← EReal.coe_mul, ← coe_sum, ← EReal.coe_add]
  have hp : 0 < (∑ k, x k * x k) * (1 / 1024) + e := by
    have : 0 ≤ ∑ k, x k * x k := Finset.sum_nonneg fun k _ => mul_self_nonneg _
    positivity
  refine ⟨_, (Real.sqrt ((∑ k, x k * x k) * (1 / 1024) + e))⁻¹, hp, inv_nonneg.mpr (Real.sqrt_nonneg _), ?_, hv, ?_⟩
  · generalize (∑ k, x k * x k) * (1 / 1024) + e = v at hp
    have hs := Real.sqrt_pos.mpr hp
    rw [← mul_inv, Real.mul_self_sqrt hp.le, inv_mul_cancel₀ hp.ne']
  · rw [recip, hv, Ideal.rsqrt_coe, if_neg (not_lt.mpr hp.le), if_neg hp.ne']

/-- On a row with an infinite entry the mean square is infinite. -/
theorem meanSq_top (x : Fin 1024 → EReal) (j : Fin 1024) (hj : ∀ r : ℝ, x j ≠ (r : EReal)) : meanSq x = ⊤ := by
  obtain ⟨e, he, h⟩ := eps_eq
  have hs : ∀ k, 0 ≤ x k * x k := fun k => by
    induction x k with
    | bot => exact le_top
    | top => exact le_top
    | coe r => exact_mod_cast mul_self_nonneg r
  have hx : x j * x j = ⊤ := by
    induction hh : x j with
    | bot => rfl
    | top => rfl
    | coe r => exact absurd hh (hj r)
  have ht : ∑ k, x k * x k = ⊤ := top_le_iff.mp (hx ▸ Finset.single_le_sum (f := fun k => x k * x k) (fun k _ => hs k) (Finset.mem_univ j))
  rw [meanSq, ht, h, width_eq, Ideal.div_coe (by norm_num), EReal.top_mul_coe_of_pos (by norm_num)]
  rfl

/-- The gradient is the one assembled from the derivatives of the norm's steps. -/
theorem grad_eq (x g h : Fin 1024 → EReal) (d : EReal) (j : Fin 1024) :
    grad x g h d j = d + h j * g j * recip x + x j * share x g h + share x g h * x j := by
  by_cases hx : ∀ k, IsReal (x k)
  · choose x' hx' using hx
    obtain rfl : x = fun k => (x' k : EReal) := funext hx'
    obtain ⟨v, r, hv, hr, hr', e1, e2⟩ := recip_eq x'
    unfold grad share
    rw [e1, e2, width_eq, neg_half_eq, Ideal.div_coe hv.ne', Ideal.div_coe (by norm_num), Ideal.div_coe (by norm_num)]
    have es : ∑ k, h k * g k * ((x' k : EReal) * (r : EReal)) = (r : EReal) * ∑ k, (x' k : EReal) * (h k * g k) := by
      rw [Sums.mul_sum _ r hr]
      exact Finset.sum_congr rfl fun k _ => by rw [mul_comm (h k * g k), mul_comm (x' k : EReal), mul_assoc]
    rw [es]
    generalize ∑ k, (x' k : EReal) * (h k * g k) = T
    generalize h j * g j = A
    have ev : 1 / v = r * r := by
      field_simp
      linarith
    -- both corrections are one real multiple of `T`
    have k1 : (x' j : EReal) * (r : EReal) * ((r : EReal) * T * ((1 / 1024 : ℝ) : EReal)) = ((x' j * r * r * (1 / 1024) : ℝ) : EReal) * T := by
      simp only [EReal.coe_mul]
      ac_rfl
    have k2 : T * (((-1 / 2 : ℝ) : EReal) * ((r : EReal) * ((1 / v : ℝ) : EReal))) * ((1 / 1024 : ℝ) : EReal)
        = ((-1 / 2 * (r * (1 / v)) * (1 / 1024) : ℝ) : EReal) * T := by
      simp only [EReal.coe_mul]
      ac_rfl
    rw [k1, k2, sub_eq_add_neg, EReal.left_distrib_of_nonneg_of_ne_top (by exact_mod_cast hr) (EReal.coe_ne_top r), ← EReal.neg_mul,
      ← EReal.coe_neg, ← mul_assoc, ← EReal.coe_mul, mul_comm (_ * T), ← mul_assoc, ← EReal.coe_mul, mul_comm A, add_assoc, add_assoc]
    refine congrArg (d + ·) (congrArg ((r : EReal) * A + ·) ?_)
    have two : ∀ y : EReal, y + y = ((2 : ℝ) : EReal) * y := fun y => by
      rw [show (2 : ℝ) = 1 + 1 by norm_num, EReal.coe_add, EReal.right_distrib_of_nonneg (by norm_num) (by norm_num), EReal.coe_one, one_mul]
    rw [two, ← mul_assoc, ← EReal.coe_mul, ev]
    refine congrArg (fun z : ℝ => (z : EReal) * T) ?_
    ring
  · obtain ⟨k, hk⟩ := not_forall.mp hx
    have hm := meanSq_top x k fun r e => hk ⟨r, e⟩
    have hr : recip x = 0 := by rw [recip, hm]; rfl
    have hs : share x g h = 0 := by
      unfold share
      rw [hr, hm, width_eq, Ideal.div_coe (by norm_num), show Ideal.div 0 ⊤ = 0 by simp [Ideal.div], mul_zero, mul_zero, zero_mul]
    unfold grad
    rw [hs, hr, zero_mul, mul_zero, mul_zero, zero_mul, add_zero, add_zero, add_zero]

end Cert.RmsGrad
-- ==== Proof.FfnUpPoint.lean ====
/-
  The norm gradient `FfnUp`, part 1: what one point computes. Eight products are summed and halved for 256 rows at a time,
  twice per point; each row then goes back through the norm, and the gain's gradient is added up over the points.
-/
module

public import proofs.«01_k».proof.Defs
public import proofs.«01_k».proof.Proof.RmsGrad
public import proofs.«01_k».proof.Proof.Gen.FfnUpIdeal.Value
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.FfnUpPoint

open Idealize.ShloMosaic Idealize.ShloMosaic.TcCoe Idealize.SL.Sem
open Idealize.ShloMosaic.Pipeline (Dat)
open Cert.FfnUpIdeal Cert.FfnUpIdeal.Gen

/-- What comes down through the norm at row `s`. -/
def dh (a : Vec Ideal S8x4096x704 .bf16) (w : Vec Ideal S8x704x1024 .bf16) (s : Fin 4096) (d : Fin 1024) : EReal :=
  Ideal.ofBits FTy.f32 0x3F000000#32 * ∑ j : Fin 8, ∑ f : Fin 704, a (ix3 j s f) * w (ix3 j f d)

/-- The gradient of the norm's argument. -/
def dx (a : Vec Ideal S8x4096x704 .bf16) (w : Vec Ideal S8x704x1024 .bf16) (x : Vec Ideal S4096x1024 .f32)
    (g : Vec Ideal S1x1024 .f32) (r : Vec Ideal S4096x1024 .f32) (s : Fin 4096) (d : Fin 1024) : EReal :=
  RmsGrad.grad (fun k => x (ix2 s k)) (fun k => g (ix2 0 k)) (dh a w s) (r (ix2 s d)) d

/-- Row `s`'s share of the gain's gradient; nothing beyond the last row. -/
def term (a : Vec Ideal S8x4096x704 .bf16) (w : Vec Ideal S8x704x1024 .bf16) (x : Vec Ideal S4096x1024 .f32) (d : Fin 1024)
    (s : ℕ) : EReal :=
  if h : s < 4096 then dh a w ⟨s, h⟩ d * (x (ix2 ⟨s, h⟩ d) * RmsGrad.recip fun k => x (ix2 ⟨s, h⟩ k)) else 0

/-- The gain's gradient over the first `n` rows. -/
def upTo (a : Vec Ideal S8x4096x704 .bf16) (w : Vec Ideal S8x704x1024 .bf16) (x : Vec Ideal S4096x1024 .f32) (d : Fin 1024)
    (n : ℕ) : EReal :=
  ∑ s ∈ Finset.range n, term a w x d s

/-- A block of rows more. -/
theorem upTo_add (a : Vec Ideal S8x4096x704 .bf16) (w : Vec Ideal S8x704x1024 .bf16) (x : Vec Ideal S4096x1024 .f32)
    (d : Fin 1024) (n : ℕ) : upTo a w x d (n + 256) = upTo a w x d n + ∑ i : Fin 256, term a w x d (n + i.val) := by
  unfold upTo
  rw [Finset.sum_range_add, Finset.sum_range (fun i => term a w x d (n + i))]

section Chunk

/-- The vector holds 256 rows of plane `j`, from row `o`. -/
def RowsOf (a : Vec Ideal S8x4096x704 .bf16) (j : Fin 8) (o : ℕ) (ho : o + 256 ≤ 4096) (v : Vec Ideal S1x256x704 .bf16) : Prop :=
  ∀ (i : Fin 256) (f : Fin 704), v (ix3 0 i f) = a (ix3 j ⟨o + i.val, by omega⟩ f)

/-- The vector holds plane `j` of the weight. -/
def PlaneOf (w : Vec Ideal S8x704x1024 .bf16) (j : Fin 8) (v : Vec Ideal S1x704x1024 .bf16) : Prop :=
  ∀ (f : Fin 704) (d : Fin 1024), v (ix3 0 f d) = w (ix3 j f d)

/-- The vector holds 256 rows, from row `o`. -/
def Rows (x : Vec Ideal S4096x1024 .f32) (o : ℕ) (ho : o + 256 ≤ 4096) (v : Vec Ideal S256x1024 .f32) : Prop :=
  ∀ (i : Fin 256) (d : Fin 1024), v (ix2 i d) = x (ix2 ⟨o + i.val, by omega⟩ d)

/-- The vector holds what comes down through the norm at 256 rows, from row `o`. -/
def DhRows (a : Vec Ideal S8x4096x704 .bf16) (w : Vec Ideal S8x704x1024 .bf16) (o : ℕ) (ho : o + 256 ≤ 4096)
    (v : Vec Ideal S256x1024 .f32) : Prop :=
  ∀ (i : Fin 256) (d : Fin 1024), v (ix2 i d) = dh a w ⟨o + i.val, by omega⟩ d

variable {a : Vec Ideal S8x4096x704 .bf16} {w : Vec Ideal S8x704x1024 .bf16} {x : Vec Ideal S4096x1024 .f32}
  {g : Vec Ideal S1x1024 .f32} {r : Vec Ideal S4096x1024 .f32} {o : ℕ} (ho : o + 256 ≤ 4096)

/-- The first 256 rows' sum of eight products, halved. -/
theorem dh_first {a0 a1 a2 a3 a4 a5 a6 a7 : Vec Ideal S1x256x704 .bf16} {w0 w1 w2 w3 w4 w5 w6 w7 : Vec Ideal S1x704x1024 .bf16}
    (ha0 : RowsOf a 0 o ho a0) (ha1 : RowsOf a 1 o ho a1) (ha2 : RowsOf a 2 o ho a2) (ha3 : RowsOf a 3 o ho a3) (ha4 : RowsOf a 4 o ho a4) (ha5 : RowsOf a 5 o ho a5) (ha6 : RowsOf a 6 o ho a6) (ha7 : RowsOf a 7 o ho a7)
    (hw0 : PlaneOf w 0 w0) (hw1 : PlaneOf w 1 w1) (hw2 : PlaneOf w 2 w2) (hw3 : PlaneOf w 3 w3) (hw4 : PlaneOf w 4 w4) (hw5 : PlaneOf w 5 w5) (hw6 : PlaneOf w 6 w6) (hw7 : PlaneOf w 7 w7) :
    DhRows a w o ho (k0_pay7 (k0_pay5 a0 w0 a1 w1 a2 w2) (k0_pay6 a3) w3 a4 w4 a5 w5 a6 w6 a7 w7) := by
  intro i d
  unfold_payloads
  pointwise
  simp only [ha0 i _, hw0 _ d, ha1 i _, hw1 _ d, ha2 i _, hw2 _ d, ha3 i _, hw3 _ d, ha4 i _, hw4 _ d, ha5 i _, hw5 _ d, ha6 i _, hw6 _ d, ha7 i _, hw7 _ d]
  rw [dh, Fin.sum_univ_eight]

/-- The second 256 rows' sum of eight products, halved. -/
theorem dh_second {a0 a1 a2 a3 a4 a5 a6 a7 : Vec Ideal S1x256x704 .bf16} {w0 w1 w2 w3 w4 w5 w6 w7 : Vec Ideal S1x704x1024 .bf16}
    (ha0 : RowsOf a 0 o ho a0) (ha1 : RowsOf a 1 o ho a1) (ha2 : RowsOf a 2 o ho a2) (ha3 : RowsOf a 3 o ho a3) (ha4 : RowsOf a 4 o ho a4) (ha5 : RowsOf a 5 o ho a5) (ha6 : RowsOf a 6 o ho a6) (ha7 : RowsOf a 7 o ho a7)
    (hw0 : PlaneOf w 0 w0) (hw1 : PlaneOf w 1 w1) (hw2 : PlaneOf w 2 w2) (hw3 : PlaneOf w 3 w3) (hw4 : PlaneOf w 4 w4) (hw5 : PlaneOf w 5 w5) (hw6 : PlaneOf w 6 w6) (hw7 : PlaneOf w 7 w7) :
    DhRows a w o ho (k0_pay16 (k0_pay13 a0 w0 a1 w1 a2 w2 a3 w3) (k0_pay14 a4) (k0_pay15 w4) (constant S256x1024 .f32 0x00000000#32) a5 w5 a6 w6 a7 w7) := by
  intro i d
  unfold_payloads
  pointwise
  simp only [ha0 i _, hw0 _ d, ha1 i _, hw1 _ d, ha2 i _, hw2 _ d, ha3 i _, hw3 _ d, ha4 i _, hw4 _ d, ha5 i _, hw5 _ d, ha6 i _, hw6 _ d, ha7 i _, hw7 _ d]
  rw [dh, Fin.sum_univ_eight]

/-- The first 256 rows go back through the norm. -/
theorem dx_first {h v u : FVec Ideal S256x1024 .f32} (hh : DhRows a w o ho h) (hv : Rows x o ho v) (hu : Rows r o ho u)
    (i : Fin 256) (d : Fin 1024) : k0_pay10 h v g u (ix2 i d) = dx a w x g r ⟨o + i.val, by omega⟩ d := by
  unfold_payloads
  pointwise
  simp only [hh i _, hv i _, hu i _]
  rfl

/-- The second 256 rows go back through the norm. -/
theorem dx_second {h v u : FVec Ideal S256x1024 .f32} (hh : DhRows a w o ho h) (hv : Rows x o ho v) (hu : Rows r o ho u)
    (i : Fin 256) (d : Fin 1024) : k0_pay1 h (k0_pay17 v) (k0_pay18 v) g u (ix2 i d) = dx a w x g r ⟨o + i.val, by omega⟩ d := by
  unfold_payloads
  pointwise
  simp only [hh i _, hv i _, hu i _]
  rfl

/-- The same rows, rounded. -/
theorem dxb_first {h v u : FVec Ideal S256x1024 .f32} (hh : DhRows a w o ho h) (hv : Rows x o ho v) (hu : Rows r o ho u)
    (i : Fin 256) (d : Fin 1024) : k0_pay11 h v g u (ix2 i d) = dx a w x g r ⟨o + i.val, by omega⟩ d := by
  rw [← dx_first ho hh hv hu i d]
  unfold k0_pay11
  pointwise

/-- The same rows, rounded. -/
theorem dxb_second {h v u : FVec Ideal S256x1024 .f32} (hh : DhRows a w o ho h) (hv : Rows x o ho v) (hu : Rows r o ho u)
    (i : Fin 256) (d : Fin 1024) : k0_pay2 h (k0_pay17 v) (k0_pay18 v) g u (ix2 i d) = dx a w x g r ⟨o + i.val, by omega⟩ d := by
  rw [← dx_second ho hh hv hu i d]
  unfold k0_pay2
  pointwise

/-- The first 256 rows' share of the gain's gradient. -/
theorem dg_first {h v : FVec Ideal S256x1024 .f32} (hh : DhRows a w o ho h) (hv : Rows x o ho v) (acc : Vec Ideal S1x1024 .f32)
    (d : Fin 1024) : k0_pay12 h v acc (ix2 0 d) = acc (ix2 0 d) + ∑ i : Fin 256, term a w x d (o + i.val) := by
  unfold_payloads
  pointwise
  refine congrArg (_ + ·) (Finset.sum_congr rfl fun i _ => ?_)
  simp only [hh i _, hv i _]
  rw [term, dif_pos (by omega)]
  rfl

/-- The second 256 rows' share of the gain's gradient. -/
theorem dg_second {h v : FVec Ideal S256x1024 .f32} (hh : DhRows a w o ho h) (hv : Rows x o ho v) (acc : Vec Ideal S1x1024 .f32)
    (d : Fin 1024) : k0_pay3 h (k0_pay18 v) acc (ix2 0 d) = acc (ix2 0 d) + ∑ i : Fin 256, term a w x d (o + i.val) := by
  unfold_payloads
  pointwise
  refine congrArg (_ + ·) (Finset.sum_congr rfl fun i _ => ?_)
  simp only [hh i _, hv i _]
  rw [term, dif_pos (by omega)]
  rfl

end Chunk

end Cert.FfnUpPoint
-- ==== Proof.FfnUpArray.lean ====
/-
  The norm gradient `FfnUp`, part 2: the arrays the run leaves. The weight is copied in once, at the first point, and every
  point reads it there.
-/
module

public import proofs.«01_k».proof.Proof.FfnUpPoint

@[expose] public section

noncomputable section

namespace Cert.FfnUpArray

open Idealize.ShloMosaic Idealize.ShloMosaic.TcCoe Idealize.SL.Sem
open Idealize.ShloMosaic.Pipeline (Dat)
open Cert.FfnUpIdeal Cert.FfnUpIdeal.Gen Cert.FfnUpPoint

variable (m : (ℓ : Loc nD τ sig) → Buf (Elt Ideal) ℓ) (ρ : Dev nD → PrngReg) (c : Dev nD)

/-- The arguments. -/
abbrev arrA : Vec Ideal S8x4096x704 .bf16 := m ((c : Thread nD τ).loc main_arg0)
abbrev arrW : Vec Ideal S8x704x1024 .bf16 := m ((c : Thread nD τ).loc main_arg1)
abbrev arrX : Vec Ideal S4096x1024 .f32 := m ((c : Thread nD τ).loc main_arg2)
abbrev arrG : Vec Ideal S1x1024 .f32 := m ((c : Thread nD τ).loc main_arg3)
abbrev arrR : Vec Ideal S4096x1024 .f32 := m ((c : Thread nD τ).loc main_arg4)

theorem zero3 : (![0, 0, 0] : Fin 3 → Nat) = fun _ => 0 := funext fun a => by fin_cases a <;> rfl
theorem zero2 : (![0, 0] : Fin 2 → Nat) = fun _ => 0 := funext fun a => by fin_cases a <;> rfl

/-- Which block of its array each window is at. -/
theorem at_point (t : Fin cfg0.N) :
    (win0_0.index t 0 = 0 ∧ win0_0.index t 1 = t.val ∧ win0_0.index t 2 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) := by
  rcases fin_N0 t with rfl | rfl | rfl | rfl | rfl | rfl | rfl | rfl <;> decide +kernel

theorem lt_rows (t : Fin cfg0.N) (k : ℕ) (hk : k + 256 ≤ 512) : 512 * t.val + k + 256 ≤ 4096 := by
  have : t.val < 8 := lt_of_lt_of_eq t.isLt N_0
  omega

/-- The rows of a plane that a load of the first window takes. -/
theorem rows_a (t : Fin cfg0.N) (j : Fin 8) (k : ℕ) (hk : k + 256 ≤ 512) (h) :
    RowsOf (arrA m c) j (512 * t.val + k) (lt_rows t k hk)
      (View.ld (iblk m c 0 t) (Rect.unit (s := S8x512x704) ![j.val, k, 0] S1x256x704.size h)) := by
  intro i f
  obtain ⟨w, -⟩ := at_point t
  rw [arrA, ← V_main_arg0 m c]
  show (View.read (Elt Ideal) _ _) _ = _
  rw [View.read_apply]
  refine congrArg (V m c main_arg0) (funext fun a => Fin.ext ?_)
  match a with
  | ⟨0, _⟩ => show win0_0.index t 0 * 8 + 1 * (j.val + 1 * 0) = j.val; rw [w.1]; omega
  | ⟨1, _⟩ => show win0_0.index t 1 * 512 + 1 * (k + 1 * i.val) = 512 * t.val + k + i.val; rw [w.2.1]; omega
  | ⟨2, _⟩ => show win0_0.index t 2 * 704 + 1 * (0 + 1 * f.val) = f.val; rw [w.2.2]; omega

/-- The rows that a load of the second window takes. -/
theorem rows_x (t : Fin cfg0.N) (k : ℕ) (hk : k + 256 ≤ 512) (h) :
    Rows (arrX m c) (512 * t.val + k) (lt_rows t k hk)
      (View.ld (iblk m c 1 t) (Rect.unit (s := S512x1024) ![k, 0] S256x1024.size h)) := by
  intro i d
  obtain ⟨-, w, -⟩ := at_point t
  rw [arrX, ← V_main_arg2 m c]
  show (View.read (Elt Ideal) _ _) _ = _
  rw [View.read_apply]
  refine congrArg (V m c main_arg2) (funext fun a => Fin.ext ?_)
  match a with
  | ⟨0, _⟩ => show win0_1.index t 0 * 512 + 1 * (k + 1 * i.val) = 512 * t.val + k + i.val; rw [w.1]; omega
  | ⟨1, _⟩ => show win0_1.index t 1 * 1024 + 1 * (0 + 1 * d.val) = d.val; rw [w.2]; omega

/-- The rows that a load of the fourth window takes. -/
theorem rows_r (t : Fin cfg0.N) (k : ℕ) (hk : k + 256 ≤ 512) (h) :
    Rows (arrR m c) (512 * t.val + k) (lt_rows t k hk)
      (View.ld (iblk m c 3 t) (Rect.unit (s := S512x1024) ![k, 0] S256x1024.size h)) := by
  intro i d
  obtain ⟨-, -, -, w, -⟩ := at_point t
  rw [arrR, ← V_main_arg4 m c]
  show (View.read (Elt Ideal) _ _) _ = _
  rw [View.read_apply]
  refine congrArg (V m c main_arg4) (funext fun a => Fin.ext ?_)
  match a with
  | ⟨0, _⟩ => show win0_3.index t 0 * 512 + 1 * (k + 1 * i.val) = 512 * t.val + k + i.val; rw [w.1]; omega
  | ⟨1, _⟩ => show win0_3.index t 1 * 1024 + 1 * (0 + 1 * d.val) = d.val; rw [w.2]; omega

/-- The gain is whole at every point. -/
theorem gain (t : Fin cfg0.N) : (iblk m c 2 t : Vec Ideal S1x1024 .f32) = arrG m c := by
  obtain ⟨-, -, w, -⟩ := at_point t
  funext y
  rw [arrG, ← V_main_arg3 m c]
  show (View.read (Elt Ideal) _ _) _ = _
  rw [View.read_apply]
  refine congrArg (V m c main_arg3) (funext fun a => Fin.ext ?_)
  match a with
  | ⟨0, _⟩ => show win0_2.index t 0 * 1 + 1 * (y 0).val = (y 0).val; rw [w.1]; omega
  | ⟨1, _⟩ => show win0_2.index t 1 * 1024 + 1 * (y 1).val = (y 1).val; rw [w.2]; omega

/-- A plane of an array that holds the weight. -/
theorem plane_ld (v w : Vec Ideal S8x704x1024 .bf16) (hv : v = w) (j : Fin 8) (h) :
    PlaneOf w j (View.ld (Val := Elt Ideal) (e' := .bf16) v (Rect.unit (s := S8x704x1024) ![j.val, 0, 0] S1x704x1024.size h)) := by
  subst hv
  intro f d
  refine congrArg v (funext fun a => Fin.ext ?_)
  match a with
  | ⟨0, _⟩ => show j.val + 1 * 0 = j.val; omega
  | ⟨1, _⟩ => show 0 + 1 * f.val = f.val; omega
  | ⟨2, _⟩ => show 0 + 1 * d.val = d.val; omega

/-- An array written whole holds what was written. -/
theorem canon_whole (v : Vec Ideal S8x704x1024 .bf16) :
    View.canon (Val := Elt Ideal) (e := .bf16) [⟨Rect.whole S8x704x1024, v⟩] = v :=
  View.canon_unit_zero (S := S8x704x1024) (off := fun _ => 0) rfl (fun a => (Nat.zero_add _).le) v

/-- A plane of the scratch array just after the weight has been copied in. -/
theorem plane_cov (v w : Vec Ideal S8x704x1024 .bf16) (hv : v = w) (j : Fin 8) (h) :
    PlaneOf w j ((View.whole cc0_scratch0).readCov (Val := Elt Ideal) [⟨Rect.whole S8x704x1024, v⟩]
      (Rect.unit (s := S8x704x1024) ![j.val, 0, 0] S1x704x1024.size h).toLoadRect) := by
  intro f d
  rw [View.readCov_eq_canon']
  dsimp only
  rw [canon_whole]
  exact plane_ld v w hv j h f d

/-- A stored half block is what the whole block holds there. -/
theorem half (t : Fin cfg0.N) (k : ℕ) (hk : k + 256 ≤ 512) (v : S256x1024.Idx → EReal) (G : Fin 4096 → Fin 1024 → EReal) (h)
    (hv : ∀ (i : Fin 256) (d : Fin 1024), v (ix2 i d) = G ⟨512 * t.val + k + i.val, by have := lt_rows t k hk; omega⟩ d)
    (y : S256x1024.Idx) :
    v y = (fun z : S512x1024.Idx => G ⟨512 * t.val + (z 0).val, by have := lt_rows t 256 (by decide); have : (z 0).val < 512 := (z 0).isLt; omega⟩ (z 1))
      ((Rect.unit (s := S512x1024) ![k, 0] S256x1024.size h).emb y) := by
  obtain ⟨i, d, rfl⟩ : ∃ i d, y = ix2 i d := ⟨y 0, y 1, funext fun a => by fin_cases a <;> rfl⟩
  rw [hv]
  refine congr (congrArg G (Fin.ext ?_)) (Fin.ext ?_)
  · show 512 * t.val + k + i.val = 512 * t.val + (k + 1 * i.val); omega
  · show d.val = 0 + 1 * d.val; omega

/-- What the copy brings in. -/
theorem weight_in : ReadAs.same.apply (View.read (Elt Ideal) (View.whole main_arg1) (V m c main_arg1)) = arrW m c := by
  rw [arrW, ← V_main_arg1 m c]
  rfl

/-- The scratch array holds the weight after every point. -/
theorem scratch (n : ℕ) : ∀ hn : n < cfg0.N, (outsAt0 m c n hn).2.2.2 = arrW m c := by
  induction n with
  | zero =>
    intro hn
    rw [show outsAt0 m c 0 hn = _ from outsAt0_A m c ⟨0, hn⟩ rfl rfl]
    dsimp only
    unfold sout0_A_0
    rw [View.read_writes_junk_eq_canon]
    unfold kernelRun0_A
    dsimp only
    sl_unfold_words
    exact (canon_whole _).trans (weight_in m c)
  | succ n ih =>
    intro hn
    have h8 : n + 1 < 8 := lt_of_lt_of_eq hn N_0
    have h0 : ¬(n + 1) % 8 = 0 := by omega
    rw [show outsAt0 m c (n + 1) hn = _ from outsAt0_B m c ⟨n + 1, hn⟩ h0 h0]
    dsimp only
    unfold sout0_B_0
    exact ih _

/-- A point's rows of the gradient. -/
def rowsOut (t : Fin cfg0.N) : S512x1024.Idx → EReal := fun z =>
  dx (arrA m c) (arrW m c) (arrX m c) (arrG m c) (arrR m c)
    ⟨512 * t.val + (z 0).val, by have := lt_rows t 256 (by decide); have : (z 0).val < 512 := (z 0).isLt; omega⟩ (z 1)

theorem left5_A (t : Fin cfg0.N) (h0 : t.val % 8 = 0) (y : S512x1024.Idx) :
    (outsAt0 m c t.val t.isLt).1 y = rowsOut m c t y := by
  rw [outsAt0_A m c t h0 h0]
  dsimp only
  unfold out0_A_5
  rw [View.read_writes_junk_eq_canon]
  refine View.canon_apply_of_pieces (Val := Elt Ideal) (e := .f32) (rowsOut m c t) _ ?_ _ (cover0_A_5 ..)
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
        (dx_second (lt_rows t 256 (by decide)) (dh_second (lt_rows t 256 (by decide)) (rows_a m c t 0 256 (by decide) _) (rows_a m c t 1 256 (by decide) _) (rows_a m c t 2 256 (by decide) _) (rows_a m c t 3 256 (by decide) _) (rows_a m c t 4 256 (by decide) _) (rows_a m c t 5 256 (by decide) _) (rows_a m c t 6 256 (by decide) _) (rows_a m c t 7 256 (by decide) _) (plane_cov _ _ (weight_in m c) 0 _) (plane_cov _ _ (weight_in m c) 1 _) (plane_cov _ _ (weight_in m c) 2 _) (plane_cov _ _ (weight_in m c) 3 _) (plane_cov _ _ (weight_in m c) 4 _) (plane_cov _ _ (weight_in m c) 5 _) (plane_cov _ _ (weight_in m c) 6 _) (plane_cov _ _ (weight_in m c) 7 _))
          (rows_x m c t 256 (by decide) _) (rows_r m c t 256 (by decide) _)),
    half t 0 (by decide) _ (dx (arrA m c) (arrW m c) (arrX m c) (arrG m c) (arrR m c)) _
        (dx_first (lt_rows t 0 (by decide)) (dh_first (lt_rows t 0 (by decide)) (rows_a m c t 0 0 (by decide) _) (rows_a m c t 1 0 (by decide) _) (rows_a m c t 2 0 (by decide) _) (rows_a m c t 3 0 (by decide) _) (rows_a m c t 4 0 (by decide) _) (rows_a m c t 5 0 (by decide) _) (rows_a m c t 6 0 (by decide) _) (rows_a m c t 7 0 (by decide) _) (plane_cov _ _ (weight_in m c) 0 _) (plane_cov _ _ (weight_in m c) 1 _) (plane_cov _ _ (weight_in m c) 2 _) (plane_cov _ _ (weight_in m c) 3 _) (plane_cov _ _ (weight_in m c) 4 _) (plane_cov _ _ (weight_in m c) 5 _) (plane_cov _ _ (weight_in m c) 6 _) (plane_cov _ _ (weight_in m c) 7 _))
          (rows_x m c t 0 (by decide) _) (rows_r m c t 0 (by decide) _))⟩

theorem left5_B (t : Fin cfg0.N) (h0 : ¬t.val % 8 = 0) (y : S512x1024.Idx) :
    (outsAt0 m c t.val t.isLt).1 y = rowsOut m c t y := by
  rw [outsAt0_B m c t h0 h0]
  dsimp only
  have hs := fun hn => (Memref.IsWhole.read_unread (Memref.isWhole_whole cc0_scratch0) _).trans (scratch m c (t.val - 1) hn)
  unfold out0_B_5
  rw [View.read_writes_junk_eq_canon]
  refine View.canon_apply_of_pieces (Val := Elt Ideal) (e := .f32) (rowsOut m c t) _ ?_ _ (cover0_B_5 ..)
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
        (dx_second (lt_rows t 256 (by decide)) (dh_second (lt_rows t 256 (by decide)) (rows_a m c t 0 256 (by decide) _) (rows_a m c t 1 256 (by decide) _) (rows_a m c t 2 256 (by decide) _) (rows_a m c t 3 256 (by decide) _) (rows_a m c t 4 256 (by decide) _) (rows_a m c t 5 256 (by decide) _) (rows_a m c t 6 256 (by decide) _) (rows_a m c t 7 256 (by decide) _) (plane_ld _ _ (hs _) 0 _) (plane_ld _ _ (hs _) 1 _) (plane_ld _ _ (hs _) 2 _) (plane_ld _ _ (hs _) 3 _) (plane_ld _ _ (hs _) 4 _) (plane_ld _ _ (hs _) 5 _) (plane_ld _ _ (hs _) 6 _) (plane_ld _ _ (hs _) 7 _))
          (rows_x m c t 256 (by decide) _) (rows_r m c t 256 (by decide) _)),
    half t 0 (by decide) _ (dx (arrA m c) (arrW m c) (arrX m c) (arrG m c) (arrR m c)) _
        (dx_first (lt_rows t 0 (by decide)) (dh_first (lt_rows t 0 (by decide)) (rows_a m c t 0 0 (by decide) _) (rows_a m c t 1 0 (by decide) _) (rows_a m c t 2 0 (by decide) _) (rows_a m c t 3 0 (by decide) _) (rows_a m c t 4 0 (by decide) _) (rows_a m c t 5 0 (by decide) _) (rows_a m c t 6 0 (by decide) _) (rows_a m c t 7 0 (by decide) _) (plane_ld _ _ (hs _) 0 _) (plane_ld _ _ (hs _) 1 _) (plane_ld _ _ (hs _) 2 _) (plane_ld _ _ (hs _) 3 _) (plane_ld _ _ (hs _) 4 _) (plane_ld _ _ (hs _) 5 _) (plane_ld _ _ (hs _) 6 _) (plane_ld _ _ (hs _) 7 _))
          (rows_x m c t 0 (by decide) _) (rows_r m c t 0 (by decide) _))⟩

theorem left5 (t : Fin cfg0.N) (y : S512x1024.Idx) : (outsAt0 m c t.val t.isLt).1 y = rowsOut m c t y := by
  by_cases h0 : t.val % 8 = 0
  · exact left5_A m c t h0 y
  · exact left5_B m c t h0 y

theorem left6_A (t : Fin cfg0.N) (h0 : t.val % 8 = 0) (y : S512x1024.Idx) :
    (outsAt0 m c t.val t.isLt).2.1 y = rowsOut m c t y := by
  rw [outsAt0_A m c t h0 h0]
  dsimp only
  unfold out0_A_6
  rw [View.read_writes_junk_eq_canon]
  refine View.canon_apply_of_pieces (Val := Elt Ideal) (e := .bf16) (rowsOut m c t) _ ?_ _ (cover0_A_6 ..)
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
        (dxb_second (lt_rows t 256 (by decide)) (dh_second (lt_rows t 256 (by decide)) (rows_a m c t 0 256 (by decide) _) (rows_a m c t 1 256 (by decide) _) (rows_a m c t 2 256 (by decide) _) (rows_a m c t 3 256 (by decide) _) (rows_a m c t 4 256 (by decide) _) (rows_a m c t 5 256 (by decide) _) (rows_a m c t 6 256 (by decide) _) (rows_a m c t 7 256 (by decide) _) (plane_cov _ _ (weight_in m c) 0 _) (plane_cov _ _ (weight_in m c) 1 _) (plane_cov _ _ (weight_in m c) 2 _) (plane_cov _ _ (weight_in m c) 3 _) (plane_cov _ _ (weight_in m c) 4 _) (plane_cov _ _ (weight_in m c) 5 _) (plane_cov _ _ (weight_in m c) 6 _) (plane_cov _ _ (weight_in m c) 7 _))
          (rows_x m c t 256 (by decide) _) (rows_r m c t 256 (by decide) _)),
    half t 0 (by decide) _ (dx (arrA m c) (arrW m c) (arrX m c) (arrG m c) (arrR m c)) _
        (dxb_first (lt_rows t 0 (by decide)) (dh_first (lt_rows t 0 (by decide)) (rows_a m c t 0 0 (by decide) _) (rows_a m c t 1 0 (by decide) _) (rows_a m c t 2 0 (by decide) _) (rows_a m c t 3 0 (by decide) _) (rows_a m c t 4 0 (by decide) _) (rows_a m c t 5 0 (by decide) _) (rows_a m c t 6 0 (by decide) _) (rows_a m c t 7 0 (by decide) _) (plane_cov _ _ (weight_in m c) 0 _) (plane_cov _ _ (weight_in m c) 1 _) (plane_cov _ _ (weight_in m c) 2 _) (plane_cov _ _ (weight_in m c) 3 _) (plane_cov _ _ (weight_in m c) 4 _) (plane_cov _ _ (weight_in m c) 5 _) (plane_cov _ _ (weight_in m c) 6 _) (plane_cov _ _ (weight_in m c) 7 _))
          (rows_x m c t 0 (by decide) _) (rows_r m c t 0 (by decide) _))⟩

theorem left6_B (t : Fin cfg0.N) (h0 : ¬t.val % 8 = 0) (y : S512x1024.Idx) :
    (outsAt0 m c t.val t.isLt).2.1 y = rowsOut m c t y := by
  rw [outsAt0_B m c t h0 h0]
  dsimp only
  have hs := fun hn => (Memref.IsWhole.read_unread (Memref.isWhole_whole cc0_scratch0) _).trans (scratch m c (t.val - 1) hn)
  unfold out0_B_6
  rw [View.read_writes_junk_eq_canon]
  refine View.canon_apply_of_pieces (Val := Elt Ideal) (e := .bf16) (rowsOut m c t) _ ?_ _ (cover0_B_6 ..)
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
        (dxb_second (lt_rows t 256 (by decide)) (dh_second (lt_rows t 256 (by decide)) (rows_a m c t 0 256 (by decide) _) (rows_a m c t 1 256 (by decide) _) (rows_a m c t 2 256 (by decide) _) (rows_a m c t 3 256 (by decide) _) (rows_a m c t 4 256 (by decide) _) (rows_a m c t 5 256 (by decide) _) (rows_a m c t 6 256 (by decide) _) (rows_a m c t 7 256 (by decide) _) (plane_ld _ _ (hs _) 0 _) (plane_ld _ _ (hs _) 1 _) (plane_ld _ _ (hs _) 2 _) (plane_ld _ _ (hs _) 3 _) (plane_ld _ _ (hs _) 4 _) (plane_ld _ _ (hs _) 5 _) (plane_ld _ _ (hs _) 6 _) (plane_ld _ _ (hs _) 7 _))
          (rows_x m c t 256 (by decide) _) (rows_r m c t 256 (by decide) _)),
    half t 0 (by decide) _ (dx (arrA m c) (arrW m c) (arrX m c) (arrG m c) (arrR m c)) _
        (dxb_first (lt_rows t 0 (by decide)) (dh_first (lt_rows t 0 (by decide)) (rows_a m c t 0 0 (by decide) _) (rows_a m c t 1 0 (by decide) _) (rows_a m c t 2 0 (by decide) _) (rows_a m c t 3 0 (by decide) _) (rows_a m c t 4 0 (by decide) _) (rows_a m c t 5 0 (by decide) _) (rows_a m c t 6 0 (by decide) _) (rows_a m c t 7 0 (by decide) _) (plane_ld _ _ (hs _) 0 _) (plane_ld _ _ (hs _) 1 _) (plane_ld _ _ (hs _) 2 _) (plane_ld _ _ (hs _) 3 _) (plane_ld _ _ (hs _) 4 _) (plane_ld _ _ (hs _) 5 _) (plane_ld _ _ (hs _) 6 _) (plane_ld _ _ (hs _) 7 _))
          (rows_x m c t 0 (by decide) _) (rows_r m c t 0 (by decide) _))⟩

theorem left6 (t : Fin cfg0.N) (y : S512x1024.Idx) : (outsAt0 m c t.val t.isLt).2.1 y = rowsOut m c t y := by
  by_cases h0 : t.val % 8 = 0
  · exact left6_A m c t h0 y
  · exact left6_B m c t h0 y

/-- What a point of this case leaves of the gain's gradient. -/
theorem left7_A (t : Fin cfg0.N) (h0 : t.val % 8 = 0) (d : Fin 1024) :
    (outsAt0 m c t.val t.isLt).2.2.1 (ix2 0 d) = 0
      + (∑ i : Fin 256, term (arrA m c) (arrW m c) (arrX m c) d (512 * t.val + 0 + i.val))
      + (∑ i : Fin 256, term (arrA m c) (arrW m c) (arrX m c) d (512 * t.val + 256 + i.val)) := by
  rw [outsAt0_A m c t h0 h0]
  dsimp only
  unfold out0_A_7
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [View.canon_cons_unit_zero zero2]
  refine (dg_second (lt_rows t 256 (by decide)) (dh_second (lt_rows t 256 (by decide)) (rows_a m c t 0 256 (by decide) _) (rows_a m c t 1 256 (by decide) _) (rows_a m c t 2 256 (by decide) _) (rows_a m c t 3 256 (by decide) _) (rows_a m c t 4 256 (by decide) _) (rows_a m c t 5 256 (by decide) _) (rows_a m c t 6 256 (by decide) _) (rows_a m c t 7 256 (by decide) _) (plane_cov _ _ (weight_in m c) 0 _) (plane_cov _ _ (weight_in m c) 1 _) (plane_cov _ _ (weight_in m c) 2 _) (plane_cov _ _ (weight_in m c) 3 _) (plane_cov _ _ (weight_in m c) 4 _) (plane_cov _ _ (weight_in m c) 5 _) (plane_cov _ _ (weight_in m c) 6 _) (plane_cov _ _ (weight_in m c) 7 _)) (rows_x m c t 256 (by decide) _) _ d).trans ?_
  refine congrArg (· + _) ((dg_first (lt_rows t 0 (by decide)) (dh_first (lt_rows t 0 (by decide)) (rows_a m c t 0 0 (by decide) _) (rows_a m c t 1 0 (by decide) _) (rows_a m c t 2 0 (by decide) _) (rows_a m c t 3 0 (by decide) _) (rows_a m c t 4 0 (by decide) _) (rows_a m c t 5 0 (by decide) _) (rows_a m c t 6 0 (by decide) _) (rows_a m c t 7 0 (by decide) _) (plane_cov _ _ (weight_in m c) 0 _) (plane_cov _ _ (weight_in m c) 1 _) (plane_cov _ _ (weight_in m c) 2 _) (plane_cov _ _ (weight_in m c) 3 _) (plane_cov _ _ (weight_in m c) 4 _) (plane_cov _ _ (weight_in m c) 5 _) (plane_cov _ _ (weight_in m c) 6 _) (plane_cov _ _ (weight_in m c) 7 _)) (rows_x m c t 0 (by decide) _) _ d).trans ?_)
  refine congrArg (· + _) ?_
  unfold_payloads
  pointwise

/-- What a point of this case leaves of the gain's gradient. -/
theorem left7_B (t : Fin cfg0.N) (h0 : ¬t.val % 8 = 0) (d : Fin 1024) :
    (outsAt0 m c t.val t.isLt).2.2.1 (ix2 0 d) = (outsAt0 m c (t.val - 1) (lt_of_le_of_lt (Nat.sub_le _ _) t.isLt)).2.2.1 (ix2 0 d)
      + (∑ i : Fin 256, term (arrA m c) (arrW m c) (arrX m c) d (512 * t.val + 0 + i.val))
      + (∑ i : Fin 256, term (arrA m c) (arrW m c) (arrX m c) d (512 * t.val + 256 + i.val)) := by
  rw [outsAt0_B m c t h0 h0]
  dsimp only
  have hs := fun hn => (Memref.IsWhole.read_unread (Memref.isWhole_whole cc0_scratch0) _).trans (scratch m c (t.val - 1) hn)
  unfold out0_B_7
  rw [View.read_writes_junk_eq_canon]
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [View.canon_cons_unit_zero zero2]
  refine (dg_second (lt_rows t 256 (by decide)) (dh_second (lt_rows t 256 (by decide)) (rows_a m c t 0 256 (by decide) _) (rows_a m c t 1 256 (by decide) _) (rows_a m c t 2 256 (by decide) _) (rows_a m c t 3 256 (by decide) _) (rows_a m c t 4 256 (by decide) _) (rows_a m c t 5 256 (by decide) _) (rows_a m c t 6 256 (by decide) _) (rows_a m c t 7 256 (by decide) _) (plane_ld _ _ (hs _) 0 _) (plane_ld _ _ (hs _) 1 _) (plane_ld _ _ (hs _) 2 _) (plane_ld _ _ (hs _) 3 _) (plane_ld _ _ (hs _) 4 _) (plane_ld _ _ (hs _) 5 _) (plane_ld _ _ (hs _) 6 _) (plane_ld _ _ (hs _) 7 _)) (rows_x m c t 256 (by decide) _) _ d).trans ?_
  refine congrArg (· + _) ((dg_first (lt_rows t 0 (by decide)) (dh_first (lt_rows t 0 (by decide)) (rows_a m c t 0 0 (by decide) _) (rows_a m c t 1 0 (by decide) _) (rows_a m c t 2 0 (by decide) _) (rows_a m c t 3 0 (by decide) _) (rows_a m c t 4 0 (by decide) _) (rows_a m c t 5 0 (by decide) _) (rows_a m c t 6 0 (by decide) _) (rows_a m c t 7 0 (by decide) _) (plane_ld _ _ (hs _) 0 _) (plane_ld _ _ (hs _) 1 _) (plane_ld _ _ (hs _) 2 _) (plane_ld _ _ (hs _) 3 _) (plane_ld _ _ (hs _) 4 _) (plane_ld _ _ (hs _) 5 _) (plane_ld _ _ (hs _) 6 _) (plane_ld _ _ (hs _) 7 _)) (rows_x m c t 0 (by decide) _) _ d).trans ?_)
  rfl

/-- The gain's gradient over the rows up to a point. -/
theorem left7 (d : Fin 1024) (n : ℕ) : ∀ hn : n < cfg0.N,
    (outsAt0 m c n hn).2.2.1 (ix2 0 d) = upTo (arrA m c) (arrW m c) (arrX m c) d (512 * n + 512) := by
  induction n with
  | zero =>
    intro hn
    refine (left7_A m c ⟨0, hn⟩ rfl d).trans ?_
    rw [show 512 * 0 + 512 = 0 + 256 + 256 from rfl, upTo_add, upTo_add, show upTo _ _ _ d 0 = 0 from Finset.sum_range_zero _]
    rfl
  | succ n ih =>
    intro hn
    have h8 : n + 1 < 8 := lt_of_lt_of_eq hn N_0
    refine (left7_B m c ⟨n + 1, hn⟩ (show ¬(n + 1) % 8 = 0 by omega) d).trans ?_
    rw [show 512 * (n + 1) + 512 = 512 * (n + 1) + 256 + 256 from rfl, upTo_add, upTo_add]
    refine congrArg (· + _) (congrArg (· + _) ?_)
    exact ih (by omega)

/-- The gradient the whole run leaves. -/
abbrev gradOut (a : Vec Ideal S8x4096x704 .bf16) (w : Vec Ideal S8x704x1024 .bf16) (x : Vec Ideal S4096x1024 .f32)
    (g : Vec Ideal S1x1024 .f32) (r : Vec Ideal S4096x1024 .f32) : S4096x1024.Idx → EReal := fun z =>
  dx a w x g r (z 0) (z 1)

/-- The gain's gradient the whole run leaves. -/
abbrev gainOut (a : Vec Ideal S8x4096x704 .bf16) (w : Vec Ideal S8x704x1024 .bf16) (x : Vec Ideal S4096x1024 .f32) :
    S1x1024.Idx → EReal := fun z => upTo a w x (z 1) 4096

/-- The rows' blocks fill the array. -/
theorem out5 : (dats m 0 c).arrAt 5 cfg0.N = gradOut (arrA m c) (arrW m c) (arrX m c) (arrG m c) (arrR m c) := by
  refine (dats m 0 c).arrAt_eq_of_cover 5 (gradOut (arrA m c) (arrW m c) (arrX m c) (arrG m c) (arrR m c))
    (fun t hf => ?_) fun i => ?_
  · obtain ⟨-, -, -, -, h, -⟩ := at_point t
    rw [Value.flushed5]
    funext y
    refine (left5 m c t y).trans ?_
    rw [View.read_apply]
    refine congr (congrArg (dx (arrA m c) (arrW m c) (arrX m c) (arrG m c) (arrR m c)) (Fin.ext ?_)) (Fin.ext ?_)
    · show 512 * t.val + (y 0).val = win0_5.index t 0 * 512 + 1 * (y 0).val; rw [h.1]; omega
    · show (y 1).val = win0_5.index t 1 * 1024 + 1 * (y 1).val; rw [h.2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    obtain ⟨-, -, -, -, h, -⟩ := at_point ⟨(i 0 : Nat) / 512, hN⟩
    refine ⟨⟨(i 0 : Nat) / 512, hN⟩, flush0_5 _, ?_⟩
    show i ∈ ((View.whole main_v0_0).slice (win0_5.rect ⟨(i 0 : Nat) / 512, hN⟩)).set
    rw [View.set_slice_whole, Rect.mem_set_unit]
    intro a
    match a with
    | ⟨0, _⟩ => show win0_5.index ⟨(i 0 : Nat) / 512, hN⟩ 0 * 512 ≤ (i 0 : Nat)
                    ∧ (i 0 : Nat) < win0_5.index ⟨(i 0 : Nat) / 512, hN⟩ 0 * 512 + 512
                rw [h.1]; dsimp only; omega
    | ⟨1, _⟩ => show win0_5.index ⟨(i 0 : Nat) / 512, hN⟩ 1 * 1024 ≤ (i 1 : Nat)
                    ∧ (i 1 : Nat) < win0_5.index ⟨(i 0 : Nat) / 512, hN⟩ 1 * 1024 + 1024
                rw [h.2]; omega

/-- The rows' blocks fill the array. -/
theorem out6 : (dats m 0 c).arrAt 6 cfg0.N = gradOut (arrA m c) (arrW m c) (arrX m c) (arrG m c) (arrR m c) := by
  refine (dats m 0 c).arrAt_eq_of_cover 6 (gradOut (arrA m c) (arrW m c) (arrX m c) (arrG m c) (arrR m c))
    (fun t hf => ?_) fun i => ?_
  · obtain ⟨-, -, -, -, -, h, -⟩ := at_point t
    rw [Value.flushed6]
    funext y
    refine (left6 m c t y).trans ?_
    rw [View.read_apply]
    refine congr (congrArg (dx (arrA m c) (arrW m c) (arrX m c) (arrG m c) (arrR m c)) (Fin.ext ?_)) (Fin.ext ?_)
    · show 512 * t.val + (y 0).val = win0_6.index t 0 * 512 + 1 * (y 0).val; rw [h.1]; omega
    · show (y 1).val = win0_6.index t 1 * 1024 + 1 * (y 1).val; rw [h.2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    obtain ⟨-, -, -, -, -, h, -⟩ := at_point ⟨(i 0 : Nat) / 512, hN⟩
    refine ⟨⟨(i 0 : Nat) / 512, hN⟩, flush0_6 _, ?_⟩
    show i ∈ ((View.whole main_v0_1).slice (win0_6.rect ⟨(i 0 : Nat) / 512, hN⟩)).set
    rw [View.set_slice_whole, Rect.mem_set_unit]
    intro a
    match a with
    | ⟨0, _⟩ => show win0_6.index ⟨(i 0 : Nat) / 512, hN⟩ 0 * 512 ≤ (i 0 : Nat)
                    ∧ (i 0 : Nat) < win0_6.index ⟨(i 0 : Nat) / 512, hN⟩ 0 * 512 + 512
                rw [h.1]; dsimp only; omega
    | ⟨1, _⟩ => show win0_6.index ⟨(i 0 : Nat) / 512, hN⟩ 1 * 1024 ≤ (i 1 : Nat)
                    ∧ (i 1 : Nat) < win0_6.index ⟨(i 0 : Nat) / 512, hN⟩ 1 * 1024 + 1024
                rw [h.2]; omega

/-- The last point writes the gain's gradient back. -/
theorem out7 : (dats m 0 c).arrAt 7 cfg0.N = gainOut (arrA m c) (arrW m c) (arrX m c) := by
  refine (dats m 0 c).arrAt_eq_of_cover 7 (gainOut (arrA m c) (arrW m c) (arrX m c)) (fun t hf => ?_) fun i => ?_
  · obtain ⟨-, -, -, -, -, -, h⟩ := at_point t
    have hN : t.val < 8 := lt_of_lt_of_eq t.isLt N_0
    have h7 : t.val % 8 = 7 := (flush0_7 t).mp hf
    rw [Value.flushed7]
    funext y
    obtain ⟨z, d, rfl⟩ : ∃ z d, y = ix2 z d := ⟨y 0, y 1, funext fun a => by fin_cases a <;> rfl⟩
    obtain rfl : z = 0 := Subsingleton.elim _ _
    refine (left7 m c d t.val t.isLt).trans ?_
    rw [View.read_apply, show 512 * t.val + 512 = 4096 by omega]
    refine congrArg (fun k : Fin 1024 => upTo (arrA m c) (arrW m c) (arrX m c) k 4096) (Fin.ext ?_)
    show d.val = win0_7.index t 1 * 1024 + 1 * d.val; rw [h.2]; omega
  · have h0 : (i 0 : Nat) < 1 := (i 0).isLt
    have h1 : (i 1 : Nat) < 1024 := (i 1).isLt
    obtain ⟨-, -, -, -, -, -, h⟩ := at_point t0_7
    refine ⟨t0_7, (flush0_7 t0_7).mpr rfl, ?_⟩
    show i ∈ ((View.whole main_v0_2).slice (win0_7.rect t0_7)).set
    rw [View.set_slice_whole, Rect.mem_set_unit]
    intro a
    match a with
    | ⟨0, _⟩ => show win0_7.index t0_7 0 * 1 ≤ (i 0 : Nat) ∧ (i 0 : Nat) < win0_7.index t0_7 0 * 1 + 1
                rw [h.1]; omega
    | ⟨1, _⟩ => show win0_7.index t0_7 1 * 1024 ≤ (i 1 : Nat) ∧ (i 1 : Nat) < win0_7.index t0_7 1 * 1024 + 1024
                rw [h.2]; omega

end Cert.FfnUpArray
-- ==== Proof.FfnUpClaim.lean ====
/-
  The norm gradient `FfnUp`, part 3: the reference's arrays, and that they are the kernel's. The
  reference's three terms of the gradient at the norm's input are the kernel's one bracket.
-/
module

public import proofs.«01_k».proof.Proof.FfnUpArray
public import proofs.«01_k».proof.Proof.Sums
public import proofs.«01_k».proof.Proof.Gen.FfnUpRefIdeal.Run
public import proofs.«01_k».proof.Proof.Gen.FfnUpRefIdeal.Read

@[expose] public section

noncomputable section

namespace Cert.FfnUpClaim

open Idealize.ShloMosaic Idealize.ShloMosaic.TcCoe Idealize.SL.Sem

section Reference

open Cert.FfnUpRefIdeal Cert.FfnUpRefIdeal.Read Cert.FfnUpPoint

variable (a : Vec Ideal S8x4096x704 .bf16) (w : Vec Ideal S8x704x1024 .bf16) (x : Vec Ideal S4096x1024 .f32)
  (g : Vec Ideal S1x1024 .f32) (r : Vec Ideal S4096x1024 .f32)

/-- What comes down through the norm. -/
theorem ref_dh (s : Fin 4096) (d : Fin 1024) : val_main_v24 a w (ix2 s d) = dh a w s d := by
  pointwise [val_main_v24, val_main_v23, val_main_v22, val_main_v21, val_main_v20, val_main_v15, val_main_cst_4]
  unfold dh
  rw [Sums.half_mul_sum]
  refine Finset.sum_congr rfl fun j _ => ?_
  rw [Sums.half_mul_sum]
  exact Finset.sum_congr rfl fun f _ => mul_assoc _ _ _

/-- The gain's gradient. -/
theorem ref_gain (z : S1x1024.Idx) : val_main_v27 a w x z = upTo a w x (z 1) 4096 := by
  obtain ⟨o, d, rfl⟩ : ∃ o d, z = ix2 o d := ⟨z 0, z 1, funext fun a => by fin_cases a <;> rfl⟩
  pointwise [val_main_v27, val_main_v26, val_main_v25, val_main_v12, val_main_v11, val_main_v7, val_main_v6, val_main_v5,
    val_main_v4, val_main_v3, val_main_v2, val_main_v1, val_main_v0, val_main_cst, val_main_cst_0, val_main_cst_1,
    val_main_cst_5, ref_dh]
  show _ = ∑ s ∈ Finset.range 4096, term a w x d s
  rw [Finset.sum_range]
  refine Finset.sum_congr rfl fun s _ => ?_
  rw [term, dif_pos s.isLt, mul_comm]
  rfl

/-- The gradient at the norm's input. -/
theorem ref_grad (z : S4096x1024.Idx) :
    val_main_v44 a w x g r z = dx a w x g r (z 0) (z 1) := by
  obtain ⟨s, d, rfl⟩ : ∃ s d, z = ix2 s d := ⟨z 0, z 1, funext fun a => by fin_cases a <;> rfl⟩
  pointwise [val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v10, val_main_v9, val_main_v8, val_main_v7, val_main_v6, val_main_v5, val_main_v4, val_main_v3,
    val_main_v2, val_main_v1, val_main_v0, val_main_cst, val_main_cst_0, val_main_cst_1, val_main_cst_2, val_main_cst_6,
    val_main_cst_7, val_main_cst_8, ref_dh]
  simp only [Finset.univ_unique, Finset.sum_singleton]
  exact (RmsGrad.grad_eq (fun k => x (ix2 s k)) (fun k => g (ix2 0 k)) (dh a w s) (r (ix2 s d)) d).symm

/-- The rounded gradient is the gradient. -/
theorem ref_gradb (z : S4096x1024.Idx) : val_main_v45 a w x g r z = val_main_v44 a w x g r z := by
  pointwise [val_main_v45]

/-- The reference runs, keeps its arguments and has no semaphore. -/
theorem ref_frame : Cert.quiescent_FfnUpRefIdeal := fun m ρ _ =>
  (θ_run Cert.FfnUpRefIdeal.defs _ _).mono
    (fun r h => ⟨fun c => (h c).2.2.2, sem_eq_zero_of_no_sems (by decide) r.2⟩)
    (Cert.FfnUpRefIdeal.Value.run (F := Ideal) m ρ)

end Reference

open Cert.FfnUpIdeal Cert.FfnUpArray in
/-- Kernel and reference leave the same three arrays. -/
theorem algebraic : Cert.algebraic_FfnUpIdeal_FfnUpRefIdeal := by
  intro m g m' g' _ hagree
  refine ⟨fun c => gradOut (arrA m c) (arrW m c) (arrX m c) (arrG m c) (arrR m c),
    fun c => gradOut (arrA m c) (arrW m c) (arrX m c) (arrG m c) (arrR m c),
    fun c => gainOut (arrA m c) (arrW m c) (arrX m c), ?_, ?_⟩
  · refine (θ_run Cert.FfnUpIdeal.defs _ _).mono (fun r h c => ?_) (Cert.FfnUpIdeal.Value.run_blocks m g)
    obtain ⟨h5, h6, h7, hk⟩ := h c
    exact ⟨h5.trans (out5 m c), h6.trans (out6 m c), h7.trans (out7 m c), hk⟩
  · refine (θ_run Cert.FfnUpRefIdeal.defs _ _).mono (fun r h c => ?_) (Cert.FfnUpRefIdeal.Value.run (F := Ideal) m' g')
    obtain ⟨h0, h1, h2, hk⟩ := h c
    obtain ⟨ea, ew, ex, eg, er, -⟩ := hagree c
    have key := fun z => ref_grad (arrA m c) (arrW m c) (arrX m c) (arrG m c) (arrR m c) z
    refine ⟨?_, ?_, ?_, hk⟩
    · refine (h0.trans (Cert.FfnUpRefIdeal.Read.val_main_v44_eq ..)).trans ?_
      rw [ea, ew, ex, eg, er]
      exact funext key
    · refine (h1.trans (Cert.FfnUpRefIdeal.Read.val_main_v45_eq ..)).trans ?_
      rw [ea, ew, ex, eg, er]
      exact funext fun z => (ref_gradb ..).trans (key z)
    · refine (h2.trans (Cert.FfnUpRefIdeal.Read.val_main_v27_eq ..)).trans ?_
      rw [ea, ew, ex]
      exact funext fun z => ref_gain ..

end Cert.FfnUpClaim
-- ==== Proof.DwDownClaim.lean ====
/-
  The weight gradient `DwDown`: the kernel leaves half the product of the transposed gated activations with the
  cotangent, block by block, and the reference the same array; the half enters before the sum in one and after it in the
  other.
-/
module

public import proofs.«01_k».proof.Defs
public import proofs.«01_k».proof.Proof.Sums
public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Tactic
public import Idealize.ShloMosaic.Lib.WritesUnit
public import Idealize.ShloMosaic.Lib.Pipeline.ValueKit
public import Idealize.ShloMosaic.Lib.Pipeline.ReadBack

@[expose] public section

noncomputable section

namespace Cert.DwDownClaim

open Idealize.ShloMosaic Idealize.ShloMosaic.TcCoe Idealize.SL.Sem
open Idealize.ShloMosaic.Pipeline (Dat)

/-- Half the product of the transposed left array with the right one, plane by plane. -/
def G (a : Vec Ideal Cert.DwDownIdeal.S4x4096x704 .bf16) (b : Vec Ideal Cert.DwDownIdeal.S4096x1024 .bf16) :
    Vec Ideal Cert.DwDownIdeal.S4x704x1024 .bf16 :=
  fun y => Ideal.ofBits FTy.f32 0x3F000000#32 * ∑ s : Fin 4096, a (ix3 (y 0) s (y 1)) * b (ix2 s (y 2))

section Kernel

open Cert.DwDownIdeal Cert.DwDownIdeal.Gen

variable (m : (ℓ : Loc nD τ sig) → Buf (Elt Ideal) ℓ) (ρ : Dev nD → PrngReg) (c : Dev nD)

theorem zero3 : (![0, 0, 0] : Fin 3 → Nat) = fun _ => 0 := funext fun a => by fin_cases a <;> rfl

/-- Which block of its array each window is at. -/
theorem at_point (t : Fin cfg0.N) :
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = t.val ∧ win0_2.index t 1 = 0 ∧ win0_2.index t 2 = 0) := by
  rcases fin_N0 t with rfl | rfl | rfl | rfl <;> decide +kernel

/-- The right array as the region finds it, with an axis of one in front. -/
theorem entry (s : Fin 4096) (l : Fin 1024) :
    V m c main_v0 (ix3 0 s l) = m ((c : Thread nD τ).loc main_arg1) (ix2 s l) := by
  have e : V m c main_v0 = broadcastInDim S1x4096x1024 ![1, 2] bcast_S4096x1024_S1x4096x1024_1_2 (m ((c : Thread nD τ).loc main_arg1)) := by
    show StableHlo.after hostOps0 (fun b => m (c, b)) (Proc.devRef .tc main_v0) = _
    after_results
  rw [e]
  generalize m ((c : Thread nD τ).loc main_arg1) = y
  pointwise

theorem left (t : Fin cfg0.N) (s : Fin 4096) (f : Fin 704) :
    iblk m c 0 t (ix3 0 s f) = m ((c : Thread nD τ).loc main_arg0) (ix3 ⟨t.val, lt_of_lt_of_eq t.isLt N_0⟩ s f) := by
  obtain ⟨h, -, -⟩ := at_point t
  unfold iblk
  rw [View.read_apply]
  refine (congrFun (V_main_arg0 m c) _).trans (congrArg (m ((c : Thread nD τ).loc main_arg0)) (funext fun a => Fin.ext ?_))
  match a with
  | ⟨0, _⟩ => show win0_0.index t 0 * 1 + 1 * 0 = t.val; rw [h.1]; omega
  | ⟨1, _⟩ => show win0_0.index t 1 * 4096 + 1 * s.val = s.val; rw [h.2.1]; omega
  | ⟨2, _⟩ => show win0_0.index t 2 * 704 + 1 * f.val = f.val; rw [h.2.2]; omega

theorem right (t : Fin cfg0.N) (s : Fin 4096) (l : Fin 1024) :
    iblk m c 1 t (ix3 0 s l) = m ((c : Thread nD τ).loc main_arg1) (ix2 s l) := by
  obtain ⟨-, h, -⟩ := at_point t
  rw [← entry m c s l]
  unfold iblk
  rw [View.read_apply]
  refine congrArg (V m c main_v0) (funext fun a => Fin.ext ?_)
  match a with
  | ⟨0, _⟩ => show win0_1.index t 0 * 1 + 1 * 0 = 0; rw [h.1]
  | ⟨1, _⟩ => show win0_1.index t 1 * 4096 + 1 * s.val = s.val; rw [h.2.1]; omega
  | ⟨2, _⟩ => show win0_1.index t 2 * 1024 + 1 * l.val = l.val; rw [h.2.2]; omega

/-- What the body stores. -/
theorem stored (x : Vec Ideal S1x4096x704 .bf16) (y : Vec Ideal S1x4096x1024 .bf16) (f : Fin 704) (l : Fin 1024) :
    out0_2 x y (ix3 0 f l) = Ideal.ofBits FTy.f32 0x3F000000#32 * ∑ s : Fin 4096, x (ix3 0 s f) * y (ix3 0 s l) := by
  unfold out0_2
  simp only [r0_0, r0_1, r0_2, View.ld_unit_zero (S := S1x4096x704) zero3, View.ld_unit_zero (S := S1x4096x1024) zero3]
  rw [View.canon_unit_zero zero3]
  unfold_payloads
  pointwise

/-- The gradient as the run leaves it. -/
theorem out : (dats m 0 c).arrAt 2 cfg0.N
    = G (m ((c : Thread nD τ).loc main_arg0)) (m ((c : Thread nD τ).loc main_arg1)) := by
  refine (dats m 0 c).arrAt_eq_of_cover 2 (G (m ((c : Thread nD τ).loc main_arg0)) (m ((c : Thread nD τ).loc main_arg1)))
    (fun t _ => ?_) fun i => ?_
  · obtain ⟨-, -, h⟩ := at_point t
    rw [Value.flushed2]
    funext y
    obtain ⟨z, f, l, rfl⟩ : ∃ z f l, y = ix3 z f l := ⟨y 0, y 1, y 2, funext fun a => by fin_cases a <;> rfl⟩
    obtain rfl : z = 0 := Subsingleton.elim _ _
    refine (stored _ _ f l).trans ?_
    rw [View.read_apply]
    refine Eq.trans ?_ (congrArg (G (m ((c : Thread nD τ).loc main_arg0)) (m ((c : Thread nD τ).loc main_arg1)))
      (a₁ := ix3 ⟨t.val, lt_of_lt_of_eq t.isLt N_0⟩ f l) (funext fun a => Fin.ext ?_))
    · simp only [left, right]
      rfl
    · match a with
      | ⟨0, _⟩ => show t.val = win0_2.index t 0 * 1 + 1 * 0; rw [h.1]; omega
      | ⟨1, _⟩ => show f.val = win0_2.index t 1 * 704 + 1 * f.val; rw [h.2.1]; omega
      | ⟨2, _⟩ => show l.val = win0_2.index t 2 * 1024 + 1 * l.val; rw [h.2.2]; omega
  · have h0 : (i 0 : Nat) < 4 := (i 0).isLt
    have h1 : (i 1 : Nat) < 704 := (i 1).isLt
    have h2 : (i 2 : Nat) < 1024 := (i 2).isLt
    let t : Fin cfg0.N := ⟨(i 0 : Nat), by rw [show cfg0.N = 4 from N_0]; omega⟩
    obtain ⟨-, -, h⟩ := at_point t
    refine ⟨t, flush0_2 t, ?_⟩
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [h.1]; show (i 0 : Nat) * 1 ≤ _ ∧ _ < (i 0 : Nat) * 1 + 1; omega
    | ⟨1, _⟩ => show win0_2.index t 1 * 704 ≤ (i 1 : Nat) ∧ (i 1 : Nat) < win0_2.index t 1 * 704 + 704
                rw [h.2.1]; omega
    | ⟨2, _⟩ => show win0_2.index t 2 * 1024 ≤ (i 2 : Nat) ∧ (i 2 : Nat) < win0_2.index t 2 * 1024 + 1024
                rw [h.2.2]; omega

end Kernel

section Reference

open Cert.DwDownRefIdeal Cert.DwDownRefIdeal.Read

/-- The reference's array. -/
theorem ref_out (a : Vec Ideal S4x4096x704 .bf16) (b : Vec Ideal S4096x1024 .bf16) : val_main_v10 a b = G a b := by
  funext y
  obtain ⟨p, f, l, rfl⟩ : ∃ p f l, y = ix3 p f l := ⟨y 0, y 1, y 2, funext fun a => by fin_cases a <;> rfl⟩
  pointwise [val_main_v10, val_main_v9, val_main_v8, val_main_v7, val_main_v6, val_main_cst_1, val_main_v5, val_main_v1]
  show _ = Ideal.ofBits FTy.f32 0x3F000000#32 * ∑ s : Fin 4096, a (ix3 p s f) * b (ix2 s l)
  rw [Sums.half_mul_sum]
  refine Finset.sum_congr rfl fun s _ => ?_
  rw [mul_assoc, mul_comm (b _)]

/-- The reference runs, keeps its arguments and has no semaphore. -/
theorem ref_frame : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

end Reference

/-- Kernel and reference leave the same gradient. -/
theorem algebraic : Cert.algebraic_DwDownIdeal_DwDownRefIdeal := by
  intro m g m' g' _ hagree
  refine ⟨fun c => G (m ((c : Thread Cert.DwDownIdeal.nD Cert.DwDownIdeal.τ).loc Cert.DwDownIdeal.main_arg0))
    (m ((c : Thread Cert.DwDownIdeal.nD Cert.DwDownIdeal.τ).loc Cert.DwDownIdeal.main_arg1)), ?_, ?_⟩
  · refine (θ_run Cert.DwDownIdeal.defs _ _).mono (fun r h c => ?_) (Cert.DwDownIdeal.Value.run_blocks m g)
    exact ⟨(h c).1.trans (out m c), (h c).2⟩
  · refine (θ_run Cert.DwDownRefIdeal.defs _ _).mono (fun r h c => ?_) (Cert.DwDownRefIdeal.Value.run (F := Ideal) m' g')
    refine ⟨(h c).1.trans ((Cert.DwDownRefIdeal.Read.val_main_v10_eq _ _).trans ((ref_out _ _).trans ?_)), (h c).2⟩
    exact congr (congrArg G (hagree c).1) (hagree c).2

end Cert.DwDownClaim
-- ==== Proof.DwUpClaim.lean ====
/-
  The weight gradient `DwUp`: the kernel leaves half the product of the transposed cotangent of the projections with the
  normalised input, block by block, and the reference the same array; the half enters before the sum in one and after it in the
  other.
-/
module

public import proofs.«01_k».proof.Defs
public import proofs.«01_k».proof.Proof.Sums
public import proofs.«01_k».proof.Proof.Gen.DwUpIdeal.Value
public import proofs.«01_k».proof.Proof.Gen.DwUpRefIdeal.Run
public import proofs.«01_k».proof.Proof.Gen.DwUpRefIdeal.Read
public import Idealize.ShloMosaic.Lib.Tactic
public import Idealize.ShloMosaic.Lib.WritesUnit
public import Idealize.ShloMosaic.Lib.Pipeline.ValueKit
public import Idealize.ShloMosaic.Lib.Pipeline.ReadBack

@[expose] public section

noncomputable section

namespace Cert.DwUpClaim

open Idealize.ShloMosaic Idealize.ShloMosaic.TcCoe Idealize.SL.Sem
open Idealize.ShloMosaic.Pipeline (Dat)

/-- Half the product of the transposed left array with the right one, plane by plane. -/
def G (a : Vec Ideal Cert.DwUpIdeal.S8x4096x704 .bf16) (b : Vec Ideal Cert.DwUpIdeal.S4096x1024 .bf16) :
    Vec Ideal Cert.DwUpIdeal.S8x704x1024 .bf16 :=
  fun y => Ideal.ofBits FTy.f32 0x3F000000#32 * ∑ s : Fin 4096, a (ix3 (y 0) s (y 1)) * b (ix2 s (y 2))

section Kernel

open Cert.DwUpIdeal Cert.DwUpIdeal.Gen

variable (m : (ℓ : Loc nD τ sig) → Buf (Elt Ideal) ℓ) (ρ : Dev nD → PrngReg) (c : Dev nD)

theorem zero3 : (![0, 0, 0] : Fin 3 → Nat) = fun _ => 0 := funext fun a => by fin_cases a <;> rfl

/-- Which block of its array each window is at. -/
theorem at_point (t : Fin cfg0.N) :
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = t.val ∧ win0_2.index t 1 = 0 ∧ win0_2.index t 2 = 0) := by
  rcases fin_N0 t with rfl | rfl | rfl | rfl | rfl | rfl | rfl | rfl <;> decide +kernel

/-- The right array as the region finds it, with an axis of one in front. -/
theorem entry (s : Fin 4096) (l : Fin 1024) :
    V m c main_v0 (ix3 0 s l) = m ((c : Thread nD τ).loc main_arg1) (ix2 s l) := by
  have e : V m c main_v0 = broadcastInDim S1x4096x1024 ![1, 2] bcast_S4096x1024_S1x4096x1024_1_2 (m ((c : Thread nD τ).loc main_arg1)) := by
    show StableHlo.after hostOps0 (fun b => m (c, b)) (Proc.devRef .tc main_v0) = _
    after_results
  rw [e]
  generalize m ((c : Thread nD τ).loc main_arg1) = y
  pointwise

theorem left (t : Fin cfg0.N) (s : Fin 4096) (f : Fin 704) :
    iblk m c 0 t (ix3 0 s f) = m ((c : Thread nD τ).loc main_arg0) (ix3 ⟨t.val, lt_of_lt_of_eq t.isLt N_0⟩ s f) := by
  obtain ⟨h, -, -⟩ := at_point t
  unfold iblk
  rw [View.read_apply]
  refine (congrFun (V_main_arg0 m c) _).trans (congrArg (m ((c : Thread nD τ).loc main_arg0)) (funext fun a => Fin.ext ?_))
  match a with
  | ⟨0, _⟩ => show win0_0.index t 0 * 1 + 1 * 0 = t.val; rw [h.1]; omega
  | ⟨1, _⟩ => show win0_0.index t 1 * 4096 + 1 * s.val = s.val; rw [h.2.1]; omega
  | ⟨2, _⟩ => show win0_0.index t 2 * 704 + 1 * f.val = f.val; rw [h.2.2]; omega

theorem right (t : Fin cfg0.N) (s : Fin 4096) (l : Fin 1024) :
    iblk m c 1 t (ix3 0 s l) = m ((c : Thread nD τ).loc main_arg1) (ix2 s l) := by
  obtain ⟨-, h, -⟩ := at_point t
  rw [← entry m c s l]
  unfold iblk
  rw [View.read_apply]
  refine congrArg (V m c main_v0) (funext fun a => Fin.ext ?_)
  match a with
  | ⟨0, _⟩ => show win0_1.index t 0 * 1 + 1 * 0 = 0; rw [h.1]
  | ⟨1, _⟩ => show win0_1.index t 1 * 4096 + 1 * s.val = s.val; rw [h.2.1]; omega
  | ⟨2, _⟩ => show win0_1.index t 2 * 1024 + 1 * l.val = l.val; rw [h.2.2]; omega

/-- What the body stores. -/
theorem stored (x : Vec Ideal S1x4096x704 .bf16) (y : Vec Ideal S1x4096x1024 .bf16) (f : Fin 704) (l : Fin 1024) :
    out0_2 x y (ix3 0 f l) = Ideal.ofBits FTy.f32 0x3F000000#32 * ∑ s : Fin 4096, x (ix3 0 s f) * y (ix3 0 s l) := by
  unfold out0_2
  simp only [r0_0, r0_1, r0_2, View.ld_unit_zero (S := S1x4096x704) zero3, View.ld_unit_zero (S := S1x4096x1024) zero3]
  rw [View.canon_unit_zero zero3]
  unfold_payloads
  pointwise

/-- The gradient as the run leaves it. -/
theorem out : (dats m 0 c).arrAt 2 cfg0.N
    = G (m ((c : Thread nD τ).loc main_arg0)) (m ((c : Thread nD τ).loc main_arg1)) := by
  refine (dats m 0 c).arrAt_eq_of_cover 2 (G (m ((c : Thread nD τ).loc main_arg0)) (m ((c : Thread nD τ).loc main_arg1)))
    (fun t _ => ?_) fun i => ?_
  · obtain ⟨-, -, h⟩ := at_point t
    rw [Value.flushed2]
    funext y
    obtain ⟨z, f, l, rfl⟩ : ∃ z f l, y = ix3 z f l := ⟨y 0, y 1, y 2, funext fun a => by fin_cases a <;> rfl⟩
    obtain rfl : z = 0 := Subsingleton.elim _ _
    refine (stored _ _ f l).trans ?_
    rw [View.read_apply]
    refine Eq.trans ?_ (congrArg (G (m ((c : Thread nD τ).loc main_arg0)) (m ((c : Thread nD τ).loc main_arg1)))
      (a₁ := ix3 ⟨t.val, lt_of_lt_of_eq t.isLt N_0⟩ f l) (funext fun a => Fin.ext ?_))
    · simp only [left, right]
      rfl
    · match a with
      | ⟨0, _⟩ => show t.val = win0_2.index t 0 * 1 + 1 * 0; rw [h.1]; omega
      | ⟨1, _⟩ => show f.val = win0_2.index t 1 * 704 + 1 * f.val; rw [h.2.1]; omega
      | ⟨2, _⟩ => show l.val = win0_2.index t 2 * 1024 + 1 * l.val; rw [h.2.2]; omega
  · have h0 : (i 0 : Nat) < 8 := (i 0).isLt
    have h1 : (i 1 : Nat) < 704 := (i 1).isLt
    have h2 : (i 2 : Nat) < 1024 := (i 2).isLt
    let t : Fin cfg0.N := ⟨(i 0 : Nat), by rw [show cfg0.N = 8 from N_0]; omega⟩
    obtain ⟨-, -, h⟩ := at_point t
    refine ⟨t, flush0_2 t, ?_⟩
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [h.1]; show (i 0 : Nat) * 1 ≤ _ ∧ _ < (i 0 : Nat) * 1 + 1; omega
    | ⟨1, _⟩ => show win0_2.index t 1 * 704 ≤ (i 1 : Nat) ∧ (i 1 : Nat) < win0_2.index t 1 * 704 + 704
                rw [h.2.1]; omega
    | ⟨2, _⟩ => show win0_2.index t 2 * 1024 ≤ (i 2 : Nat) ∧ (i 2 : Nat) < win0_2.index t 2 * 1024 + 1024
                rw [h.2.2]; omega

end Kernel

section Reference

open Cert.DwUpRefIdeal Cert.DwUpRefIdeal.Read

/-- The reference's array. -/
theorem ref_out (a : Vec Ideal S8x4096x704 .bf16) (b : Vec Ideal S4096x1024 .bf16) : val_main_v11 a b = G a b := by
  funext y
  obtain ⟨p, f, l, rfl⟩ : ∃ p f l, y = ix3 p f l := ⟨y 0, y 1, y 2, funext fun a => by fin_cases a <;> rfl⟩
  pointwise [val_main_v11, val_main_v10, val_main_v9, val_main_v8, val_main_v7, val_main_cst_1, val_main_v6, val_main_v1]
  show _ = Ideal.ofBits FTy.f32 0x3F000000#32 * ∑ s : Fin 4096, a (ix3 p s f) * b (ix2 s l)
  rw [Sums.half_mul_sum]
  refine Finset.sum_congr rfl fun s _ => ?_
  rw [mul_assoc]

/-- The reference runs, keeps its arguments and has no semaphore. -/
theorem ref_frame : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

end Reference

/-- Kernel and reference leave the same gradient. -/
theorem algebraic : Cert.algebraic_DwUpIdeal_DwUpRefIdeal := by
  intro m g m' g' _ hagree
  refine ⟨fun c => G (m ((c : Thread Cert.DwUpIdeal.nD Cert.DwUpIdeal.τ).loc Cert.DwUpIdeal.main_arg0))
    (m ((c : Thread Cert.DwUpIdeal.nD Cert.DwUpIdeal.τ).loc Cert.DwUpIdeal.main_arg1)), ?_, ?_⟩
  · refine (θ_run Cert.DwUpIdeal.defs _ _).mono (fun r h c => ?_) (Cert.DwUpIdeal.Value.run_blocks m g)
    exact ⟨(h c).1.trans (out m c), (h c).2⟩
  · refine (θ_run Cert.DwUpRefIdeal.defs _ _).mono (fun r h c => ?_) (Cert.DwUpRefIdeal.Value.run (F := Ideal) m' g')
    refine ⟨(h c).1.trans ((Cert.DwUpRefIdeal.Read.val_main_v11_eq _ _).trans ((ref_out _ _).trans ?_)), (h c).2⟩
    exact congr (congrArg G (hagree c).1) (hagree c).2

end Cert.DwUpClaim
-- ==== Proof.DwOutClaim.lean ====
/-
  The weight gradient `DwOut`: four blocks of rows are summed in a scratch array, and the last point writes the sum out;
  it is the product of the transposed left array with the right one, which the reference computes at once.
-/
module

public import proofs.«01_k».proof.Defs
public import proofs.«01_k».proof.Proof.Sums
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Tactic
public import Idealize.ShloMosaic.Lib.WritesUnit
public import Idealize.ShloMosaic.Lib.Pipeline.ValueKit
public import Idealize.ShloMosaic.Lib.Pipeline.ReadBack

@[expose] public section

noncomputable section

namespace Cert.DwOutClaim

open Idealize.ShloMosaic Idealize.ShloMosaic.TcCoe Idealize.SL.Sem
open Idealize.ShloMosaic.Pipeline (Dat)

/-- One row's share of the product of the transposed left array with the right one; nothing beyond the last row. -/
def term (a b : Vec Ideal Cert.DwOutIdeal.S4096x1024 .bf16) (i j : Fin 1024) (s : ℕ) : EReal :=
  if h : s < 4096 then a (ix2 ⟨s, h⟩ i) * b (ix2 ⟨s, h⟩ j) else 0

/-- The product over the first `n` rows. -/
def upTo (a b : Vec Ideal Cert.DwOutIdeal.S4096x1024 .bf16) (n : ℕ) (i j : Fin 1024) : EReal :=
  ∑ s ∈ Finset.range n, term a b i j s

/-- A block of rows more. -/
theorem upTo_add (a b : Vec Ideal Cert.DwOutIdeal.S4096x1024 .bf16) (n : ℕ) (i j : Fin 1024) :
    upTo a b (n + 1024) i j = upTo a b n i j + ∑ s : Fin 1024, term a b i j (n + s.val) := by
  unfold upTo
  rw [Finset.sum_range_add, Finset.sum_range (fun x => term a b i j (n + x))]

/-- The product, with an axis of one in front. -/
def G (a b : Vec Ideal Cert.DwOutIdeal.S4096x1024 .bf16) : Vec Ideal Cert.DwOutIdeal.S1x1024x1024 .bf16 :=
  fun y => upTo a b 4096 (y 1) (y 2)

section Kernel

open Cert.DwOutIdeal Cert.DwOutIdeal.Gen

variable (m : (ℓ : Loc nD τ sig) → Buf (Elt Ideal) ℓ) (ρ : Dev nD → PrngReg) (c : Dev nD)

theorem zero3 : (![0, 0, 0] : Fin 3 → Nat) = fun _ => 0 := funext fun a => by fin_cases a <;> rfl
theorem zero2 : (![0, 0] : Fin 2 → Nat) = fun _ => 0 := funext fun a => by fin_cases a <;> rfl

/-- Which block of its array each window is at. -/
theorem at_point (t : Fin cfg0.N) :
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = 0 ∧ win0_2.index t 2 = 0) := by
  rcases fin_N0 t with rfl | rfl | rfl | rfl <;> decide +kernel

/-- The left array as the region finds it. -/
theorem entry0 (s : Fin 4096) (l : Fin 1024) :
    V m c main_v0 (ix3 0 s l) = m ((c : Thread nD τ).loc main_arg0) (ix2 s l) := by
  have e : V m c main_v0 = broadcastInDim S1x4096x1024 ![1, 2] bcast_S4096x1024_S1x4096x1024_1_2 (m ((c : Thread nD τ).loc main_arg0)) := by
    show StableHlo.after hostOps0 (fun b => m (c, b)) (Proc.devRef .tc main_v0) = _
    after_results
  rw [e]
  generalize m ((c : Thread nD τ).loc main_arg0) = y
  pointwise

/-- The right array as the region finds it. -/
theorem entry1 (s : Fin 4096) (l : Fin 1024) :
    V m c main_v1 (ix3 0 s l) = m ((c : Thread nD τ).loc main_arg1) (ix2 s l) := by
  have e : V m c main_v1 = broadcastInDim S1x4096x1024 ![1, 2] bcast_S4096x1024_S1x4096x1024_1_2 (m ((c : Thread nD τ).loc main_arg1)) := by
    show StableHlo.after hostOps0 (fun b => m (c, b)) (Proc.devRef .tc main_v1) = _
    after_results
  rw [e]
  generalize m ((c : Thread nD τ).loc main_arg1) = y
  pointwise

theorem left (t : Fin cfg0.N) (s : Fin 1024) (l : Fin 1024) :
    iblk m c 0 t (ix3 0 s l) = m ((c : Thread nD τ).loc main_arg0)
      (ix2 ⟨1024 * t.val + s.val, by have : t.val < 4 := lt_of_lt_of_eq t.isLt N_0; omega⟩ l) := by
  obtain ⟨h, -, -⟩ := at_point t
  rw [← entry0 m c _ l]
  unfold iblk
  rw [View.read_apply]
  refine congrArg (V m c main_v0) (funext fun a => Fin.ext ?_)
  match a with
  | ⟨0, _⟩ => show win0_0.index t 0 * 1 + 1 * 0 = 0; rw [h.1]
  | ⟨1, _⟩ => show win0_0.index t 1 * 1024 + 1 * s.val = 1024 * t.val + s.val; rw [h.2.1]; omega
  | ⟨2, _⟩ => show win0_0.index t 2 * 1024 + 1 * l.val = l.val; rw [h.2.2]; omega

theorem right (t : Fin cfg0.N) (s : Fin 1024) (l : Fin 1024) :
    iblk m c 1 t (ix3 0 s l) = m ((c : Thread nD τ).loc main_arg1)
      (ix2 ⟨1024 * t.val + s.val, by have : t.val < 4 := lt_of_lt_of_eq t.isLt N_0; omega⟩ l) := by
  obtain ⟨-, h, -⟩ := at_point t
  rw [← entry1 m c _ l]
  unfold iblk
  rw [View.read_apply]
  refine congrArg (V m c main_v1) (funext fun a => Fin.ext ?_)
  match a with
  | ⟨0, _⟩ => show win0_1.index t 0 * 1 + 1 * 0 = 0; rw [h.1]
  | ⟨1, _⟩ => show win0_1.index t 1 * 1024 + 1 * s.val = 1024 * t.val + s.val; rw [h.2.1]; omega
  | ⟨2, _⟩ => show win0_1.index t 2 * 1024 + 1 * l.val = l.val; rw [h.2.2]; omega

/-- One block's product is the sum of its rows' shares. -/
theorem block (t : Fin cfg0.N) (x y : Vec Ideal S1x1024x1024 .bf16) (hx : x = iblk m c 0 t) (hy : y = iblk m c 1 t) (i j : Fin 1024) :
    ∑ s : Fin 1024, x (ix3 0 s i) * y (ix3 0 s j)
      = ∑ s : Fin 1024, term (m ((c : Thread nD τ).loc main_arg0)) (m ((c : Thread nD τ).loc main_arg1)) i j (1024 * t.val + s.val) := by
  have hN : t.val < 4 := lt_of_lt_of_eq t.isLt N_0
  refine Finset.sum_congr rfl fun s _ => ?_
  rw [term, dif_pos (by omega)]
  exact congr (congrArg _ ((congrFun hx _).trans (left m c t s i))) ((congrFun hy _).trans (right m c t s j))

theorem pay_first (x y : Vec Ideal S1x1024x1024 .bf16) (i j : Fin 1024) :
    k0_pay2 x y (ix2 i j) = ∑ s : Fin 1024, x (ix3 0 s i) * y (ix3 0 s j) := by
  unfold_payloads
  pointwise

theorem pay_next (x y : Vec Ideal S1x1024x1024 .bf16) (acc : Vec Ideal S1024x1024 .f32) (i j : Fin 1024) :
    k0_pay3 x y acc (ix2 i j) = acc (ix2 i j) + ∑ s : Fin 1024, x (ix3 0 s i) * y (ix3 0 s j) := by
  unfold_payloads
  pointwise

theorem pay_out (acc : Vec Ideal S1024x1024 .f32) (i j : Fin 1024) : k0_pay4 acc (ix3 0 i j) = acc (ix2 i j) := by
  unfold_payloads
  pointwise

/-- The scratch array after point `n` holds the product over the rows so far. -/
theorem scratch (n : ℕ) : ∀ (hn : n < cfg0.N) (i j : Fin 1024), (outsAt0 m c n hn).2 (ix2 i j)
      = upTo (m ((c : Thread nD τ).loc main_arg0)) (m ((c : Thread nD τ).loc main_arg1)) (1024 * n + 1024) i j := by
  induction n using Nat.strong_induction_on with
  | _ n ih =>
  intro hn i j
  have hN : n < 4 := lt_of_lt_of_eq hn N_0
  rw [upTo_add]
  by_cases h0 : n % 4 = 0
  · obtain rfl : n = 0 := by omega
    rw [show outsAt0 m c 0 hn = _ from outsAt0_A m c ⟨0, hn⟩ h0 (by simp) (by simp)]
    dsimp only
    unfold sout0_A_0
    rw [View.read_writes_junk_eq_canon]
    unfold kernelRun0_A
    dsimp only
    sl_unfold_words
    simp only [View.readAt_eq_ld, Memref.IsWhole.read_unread, View.ld_unit_zero (S := S1x1024x1024) zero3]
    rw [View.canon_unit_zero zero2, pay_first, block m c ⟨0, hn⟩ _ _ rfl rfl]
    simp [upTo]
  · have hp := ih (n - 1) (by omega) (by omega) i j
    rw [show 1024 * (n - 1) + 1024 = 1024 * n by omega] at hp
    by_cases h2 : n % 4 = 3
    · rw [show outsAt0 m c n hn = _ from outsAt0_C m c ⟨n, hn⟩ h0 (by show 1 ≤ n; omega) h2]
      dsimp only
      unfold sout0_C_0
      rw [View.read_writes_junk_eq_canon]
      unfold kernelRun0_C
      dsimp only
      sl_unfold_words
      simp only [View.readAt_eq_ld, Memref.IsWhole.read_unread, View.ld_unit_zero (S := S1x1024x1024) zero3,
        View.ld_unit_zero (S := S1024x1024) zero2]
      rw [View.canon_unit_zero zero2, pay_next, block m c ⟨n, hn⟩ _ _ rfl rfl]
      exact congrArg (· + _) ((congrFun (Memref.IsWhole.read_unread (Memref.isWhole_whole _) _) _).trans hp)
    · rw [show outsAt0 m c n hn = _ from outsAt0_B m c ⟨n, hn⟩ h0 (by show 1 ≤ n; omega) h2]
      dsimp only
      unfold sout0_B_0
      rw [View.read_writes_junk_eq_canon]
      unfold kernelRun0_B
      dsimp only
      sl_unfold_words
      simp only [View.readAt_eq_ld, Memref.IsWhole.read_unread, View.ld_unit_zero (S := S1x1024x1024) zero3,
        View.ld_unit_zero (S := S1024x1024) zero2]
      rw [View.canon_unit_zero zero2, pay_next, block m c ⟨n, hn⟩ _ _ rfl rfl]
      exact congrArg (· + _) ((congrFun (Memref.IsWhole.read_unread (Memref.isWhole_whole _) _) _).trans hp)

/-- What the last point writes out is the scratch array. -/
theorem left_out (t : Fin cfg0.N) (h3 : t.val % 4 = 3) (i j : Fin 1024) :
    (outsAt0 m c t.val t.isLt).1 (ix3 0 i j) = (outsAt0 m c t.val t.isLt).2 (ix2 i j) := by
  have hN : t.val < 4 := lt_of_lt_of_eq t.isLt N_0
  rw [outsAt0_C m c t (by omega) (by omega) h3]
  dsimp only
  unfold out0_C_2 sout0_C_0
  rw [View.read_writes_junk_eq_canon, View.read_writes_junk_eq_canon]
  unfold kernelRun0_C
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024x1024) zero3,
    View.ld_unit_zero (S := S1024x1024) zero2]
  rw [View.canon_unit_zero zero3, View.canon_unit_zero zero2, pay_out]

/-- The gradient as the run leaves it. -/
theorem out : (dats m 0 c).arrAt 2 cfg0.N
    = G (m ((c : Thread nD τ).loc main_arg0)) (m ((c : Thread nD τ).loc main_arg1)) := by
  refine (dats m 0 c).arrAt_eq_of_cover 2 (G (m ((c : Thread nD τ).loc main_arg0)) (m ((c : Thread nD τ).loc main_arg1)))
    (fun t hf => ?_) fun i => ?_
  · obtain ⟨-, -, h⟩ := at_point t
    have hN : t.val < 4 := lt_of_lt_of_eq t.isLt N_0
    have h3 : t.val % 4 = 3 := (flush0_2 t).mp hf
    rw [Value.flushed2]
    funext y
    obtain ⟨z, f, l, rfl⟩ : ∃ z f l, y = ix3 z f l := ⟨y 0, y 1, y 2, funext fun a => by fin_cases a <;> rfl⟩
    obtain rfl : z = 0 := Subsingleton.elim _ _
    refine ((left_out m c t h3 f l).trans (scratch m c t.val t.isLt f l)).trans ?_
    rw [View.read_apply, show 1024 * t.val + 1024 = 4096 by omega]
    refine Eq.trans ?_ (congrArg (G (m ((c : Thread nD τ).loc main_arg0)) (m ((c : Thread nD τ).loc main_arg1)))
      (a₁ := ix3 0 f l) (funext fun a => Fin.ext ?_))
    · rfl
    · match a with
      | ⟨0, _⟩ => show 0 = win0_2.index t 0 * 1 + 1 * 0; rw [h.1]
      | ⟨1, _⟩ => show f.val = win0_2.index t 1 * 1024 + 1 * f.val; rw [h.2.1]; omega
      | ⟨2, _⟩ => show l.val = win0_2.index t 2 * 1024 + 1 * l.val; rw [h.2.2]; omega
  · have h0 : (i 0 : Nat) < 1 := (i 0).isLt
    have h1 : (i 1 : Nat) < 1024 := (i 1).isLt
    have h2 : (i 2 : Nat) < 1024 := (i 2).isLt
    obtain ⟨-, -, h⟩ := at_point t0_3
    refine ⟨t0_3, (flush0_2 t0_3).mpr rfl, ?_⟩
    show i ∈ ((View.whole main_v2).slice (win0_2.rect t0_3)).set
    rw [View.set_slice_whole, Rect.mem_set_unit]
    intro a
    match a with
    | ⟨0, _⟩ => show win0_2.index t0_3 0 * 1 ≤ (i 0 : Nat) ∧ (i 0 : Nat) < win0_2.index t0_3 0 * 1 + 1
                rw [h.1]; omega
    | ⟨1, _⟩ => show win0_2.index t0_3 1 * 1024 ≤ (i 1 : Nat) ∧ (i 1 : Nat) < win0_2.index t0_3 1 * 1024 + 1024
                rw [h.2.1]; omega
    | ⟨2, _⟩ => show win0_2.index t0_3 2 * 1024 ≤ (i 2 : Nat) ∧ (i 2 : Nat) < win0_2.index t0_3 2 * 1024 + 1024
                rw [h.2.2]; omega

end Kernel

section Reference

open Cert.DwOutRefIdeal Cert.DwOutRefIdeal.Read

/-- The reference's array. -/
theorem ref_out (a b : Vec Ideal S4096x1024 .bf16) : val_main_v7 a b = G a b := by
  funext y
  obtain ⟨p, f, l, rfl⟩ : ∃ p f l, y = ix3 p f l := ⟨y 0, y 1, y 2, funext fun a => by fin_cases a <;> rfl⟩
  pointwise [val_main_v7, val_main_v6, val_main_v5, val_main_v4, val_main_v3, val_main_v1]
  show _ = ∑ s ∈ Finset.range 4096, term a b f l s
  rw [Finset.sum_range]
  refine Finset.sum_congr rfl fun s _ => ?_
  rw [term, dif_pos s.isLt, mul_comm]

/-- The reference runs, keeps its arguments and has no semaphore. -/
theorem ref_frame : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

end Reference

/-- Kernel and reference leave the same gradient. -/
theorem algebraic : Cert.algebraic_DwOutIdeal_DwOutRefIdeal := by
  intro m g m' g' _ hagree
  refine ⟨fun c => G (m ((c : Thread Cert.DwOutIdeal.nD Cert.DwOutIdeal.τ).loc Cert.DwOutIdeal.main_arg0))
    (m ((c : Thread Cert.DwOutIdeal.nD Cert.DwOutIdeal.τ).loc Cert.DwOutIdeal.main_arg1)), ?_, ?_⟩
  · refine (θ_run Cert.DwOutIdeal.defs _ _).mono (fun r h c => ?_) (Cert.DwOutIdeal.Value.run_blocks m g)
    exact ⟨(h c).1.trans (out m c), (h c).2⟩
  · refine (θ_run Cert.DwOutRefIdeal.defs _ _).mono (fun r h c => ?_) (Cert.DwOutRefIdeal.Value.run (F := Ideal) m' g')
    refine ⟨(h c).1.trans ((Cert.DwOutRefIdeal.Read.val_main_v7_eq _ _).trans ((ref_out _ _).trans ?_)), (h c).2⟩
    exact congr (congrArg G (hagree c).1) (hagree c).2

end Cert.DwOutClaim
-- ==== Proof.FfnFwdClaim.lean ====
/-
  The gated layer's way up: gate and up products of every row with four planes of the weight, kept, and the gated product
  that goes on. The weight is copied in once, at the first point, and every point reads it there.
-/
module

public import proofs.«01_k».proof.Defs
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.FfnFwdClaim

open Idealize.ShloMosaic Idealize.ShloMosaic.TcCoe Idealize.SL.Sem
open Idealize.ShloMosaic.Pipeline (Dat)

section Values

open Cert.FfnFwdIdeal

variable (a : Vec Ideal S4096x1024 .bf16) (w : Vec Ideal S2x4x704x1024 .bf16)

/-- Product `b` (the gate's or the way up's) of row `s` with plane `j`. -/
def up (b : Fin 2) (j : Fin 4) (s : Fin 4096) (f : Fin 704) : EReal := ∑ d : Fin 1024, a (ix2 s d) * w (ix4 b j f d)

/-- The gated product. -/
def gated (j : Fin 4) (s : Fin 4096) (f : Fin 704) : EReal :=
  up a w 0 j s f * Ideal.logistic (up a w 0 j s f) * up a w 1 j s f

end Values

section Kernel

open Cert.FfnFwdIdeal Cert.FfnFwdIdeal.Gen

/-- The vector holds 256 rows, from row `o`. -/
def RowsOf (a : Vec Ideal S4096x1024 .bf16) (o : ℕ) (ho : o + 256 ≤ 4096) (v : Vec Ideal S256x1024 .bf16) : Prop :=
  ∀ (i : Fin 256) (d : Fin 1024), v (ix2 i d) = a (ix2 ⟨o + i.val, by omega⟩ d)

/-- The vector holds plane `j` of the gate's weight (`b = 0`) or of the way up's (`b = 1`). -/
def PlaneOf (w : Vec Ideal S2x4x704x1024 .bf16) (b : Fin 2) (j : Fin 4) (v : Vec Ideal S1x1x704x1024 .bf16) : Prop :=
  ∀ (f : Fin 704) (d : Fin 1024), v (ix4 0 0 f d) = w (ix4 b j f d)

section Chunk

variable {a : Vec Ideal S4096x1024 .bf16} {w : Vec Ideal S2x4x704x1024 .bf16} {o : ℕ} (ho : o + 256 ≤ 4096)
  {va : Vec Ideal S256x1024 .bf16} {vg vu : Vec Ideal S1x1x704x1024 .bf16}

theorem up_0_0_0 {j : Fin 4} (ha : RowsOf a o ho va) (hw : PlaneOf w 0 j vg) (i : Fin 256) (f : Fin 704) :
    (k0_pay7 va vg) (ix4 0 0 i f) = up a w 0 j ⟨o + i.val, by omega⟩ f := by
  unfold_payloads
  pointwise
  simp only [ha i _, hw _ _]
  rfl

theorem up_1_0_0 {j : Fin 4} (ha : RowsOf a o ho va) (hw : PlaneOf w 1 j vu) (i : Fin 256) (f : Fin 704) :
    (k0_pay8 va vu) (ix4 0 0 i f) = up a w 1 j ⟨o + i.val, by omega⟩ f := by
  unfold_payloads
  pointwise
  simp only [ha i _, hw _ _]
  rfl

theorem gated_0_0 {j : Fin 4} (ha : RowsOf a o ho va) (hg : PlaneOf w 0 j vg) (hu : PlaneOf w 1 j vu) (i : Fin 256)
    (f : Fin 704) : (k0_pay9 va vg vu) (ix3 0 i f) = gated a w j ⟨o + i.val, by omega⟩ f := by
  unfold_payloads
  pointwise
  simp only [ha i _, hg _ _, hu _ _]
  rfl

theorem up_0_0_256 {j : Fin 4} (ha : RowsOf a o ho va) (hw : PlaneOf w 0 j vg) (i : Fin 256) (f : Fin 704) :
    (k0_pay12 va vg) (ix4 0 0 i f) = up a w 0 j ⟨o + i.val, by omega⟩ f := by
  unfold_payloads
  pointwise
  simp only [ha i _, hw _ _]
  rfl

theorem up_1_0_256 {j : Fin 4} (ha : RowsOf a o ho va) (hw : PlaneOf w 1 j vu) (i : Fin 256) (f : Fin 704) :
    (k0_pay13 va vu) (ix4 0 0 i f) = up a w 1 j ⟨o + i.val, by omega⟩ f := by
  unfold_payloads
  pointwise
  simp only [ha i _, hw _ _]
  rfl

theorem gated_0_256 {j : Fin 4} (ha : RowsOf a o ho va) (hg : PlaneOf w 0 j vg) (hu : PlaneOf w 1 j vu) (i : Fin 256)
    (f : Fin 704) : (k0_pay14 va vg vu) (ix3 0 i f) = gated a w j ⟨o + i.val, by omega⟩ f := by
  unfold_payloads
  pointwise
  simp only [ha i _, hg _ _, hu _ _]
  rfl

theorem up_0_1_0 {j : Fin 4} (ha : RowsOf a o ho va) (hw : PlaneOf w 0 j vg) (i : Fin 256) (f : Fin 704) :
    (k0_pay18 (k0_pay15 va vg)) (ix4 0 0 i f) = up a w 0 j ⟨o + i.val, by omega⟩ f := by
  unfold_payloads
  pointwise
  simp only [ha i _, hw _ _]
  rfl

theorem up_1_1_0 {j : Fin 4} (ha : RowsOf a o ho va) (hw : PlaneOf w 1 j vu) (i : Fin 256) (f : Fin 704) :
    (k0_pay19 va (k0_pay16 vu)) (ix4 0 0 i f) = up a w 1 j ⟨o + i.val, by omega⟩ f := by
  unfold_payloads
  pointwise
  simp only [ha i _, hw _ _]
  rfl

theorem gated_1_0 {j : Fin 4} (ha : RowsOf a o ho va) (hg : PlaneOf w 0 j vg) (hu : PlaneOf w 1 j vu) (i : Fin 256)
    (f : Fin 704) : (k0_pay20 va (k0_pay15 va vg) (k0_pay16 vu)) (ix3 0 i f) = gated a w j ⟨o + i.val, by omega⟩ f := by
  unfold_payloads
  pointwise
  simp only [ha i _, hg _ _, hu _ _]
  rfl

theorem up_0_1_256 {j : Fin 4} (ha : RowsOf a o ho va) (hw : PlaneOf w 0 j vg) (i : Fin 256) (f : Fin 704) :
    (k0_pay23 va vg) (ix4 0 0 i f) = up a w 0 j ⟨o + i.val, by omega⟩ f := by
  unfold_payloads
  pointwise
  simp only [ha i _, hw _ _]
  rfl

theorem up_1_1_256 {j : Fin 4} (ha : RowsOf a o ho va) (hw : PlaneOf w 1 j vu) (i : Fin 256) (f : Fin 704) :
    (k0_pay25 (k0_pay24 va vu)) (ix4 0 0 i f) = up a w 1 j ⟨o + i.val, by omega⟩ f := by
  unfold_payloads
  pointwise
  simp only [ha i _, hw _ _]
  rfl

theorem gated_1_256 {j : Fin 4} (ha : RowsOf a o ho va) (hg : PlaneOf w 0 j vg) (hu : PlaneOf w 1 j vu) (i : Fin 256)
    (f : Fin 704) : (k0_pay26 (k0_pay21 va vg) (k0_pay22 va vu)) (ix3 0 i f) = gated a w j ⟨o + i.val, by omega⟩ f := by
  unfold_payloads
  pointwise
  simp only [ha i _, hg _ _, hu _ _]
  rfl

theorem up_0_2_0 {j : Fin 4} (ha : RowsOf a o ho va) (hw : PlaneOf w 0 j vg) (i : Fin 256) (f : Fin 704) :
    (k0_pay29 va vg) (ix4 0 0 i f) = up a w 0 j ⟨o + i.val, by omega⟩ f := by
  unfold_payloads
  pointwise
  simp only [ha i _, hw _ _]
  rfl

theorem up_1_2_0 {j : Fin 4} (ha : RowsOf a o ho va) (hw : PlaneOf w 1 j vu) (i : Fin 256) (f : Fin 704) :
    (k0_pay30 va vu) (ix4 0 0 i f) = up a w 1 j ⟨o + i.val, by omega⟩ f := by
  unfold_payloads
  pointwise
  simp only [ha i _, hw _ _]
  rfl

theorem gated_2_0 {j : Fin 4} (ha : RowsOf a o ho va) (hg : PlaneOf w 0 j vg) (hu : PlaneOf w 1 j vu) (i : Fin 256)
    (f : Fin 704) : (k0_pay32 (k0_pay31 va vg vu)) (ix3 0 i f) = gated a w j ⟨o + i.val, by omega⟩ f := by
  unfold_payloads
  pointwise
  simp only [ha i _, hg _ _, hu _ _]
  rfl

theorem up_0_2_256 {j : Fin 4} (ha : RowsOf a o ho va) (hw : PlaneOf w 0 j vg) (i : Fin 256) (f : Fin 704) :
    (k0_pay35 va vg) (ix4 0 0 i f) = up a w 0 j ⟨o + i.val, by omega⟩ f := by
  unfold_payloads
  pointwise
  simp only [ha i _, hw _ _]
  rfl

theorem up_1_2_256 {j : Fin 4} (ha : RowsOf a o ho va) (hw : PlaneOf w 1 j vu) (i : Fin 256) (f : Fin 704) :
    (k0_pay36 va vu) (ix4 0 0 i f) = up a w 1 j ⟨o + i.val, by omega⟩ f := by
  unfold_payloads
  pointwise
  simp only [ha i _, hw _ _]
  rfl

theorem gated_2_256 {j : Fin 4} (ha : RowsOf a o ho va) (hg : PlaneOf w 0 j vg) (hu : PlaneOf w 1 j vu) (i : Fin 256)
    (f : Fin 704) : (k0_pay37 va vg vu) (ix3 0 i f) = gated a w j ⟨o + i.val, by omega⟩ f := by
  unfold_payloads
  pointwise
  simp only [ha i _, hg _ _, hu _ _]
  rfl

theorem up_0_3_0 {j : Fin 4} (ha : RowsOf a o ho va) (hw : PlaneOf w 0 j vg) (i : Fin 256) (f : Fin 704) :
    (k0_pay40 va vg) (ix4 0 0 i f) = up a w 0 j ⟨o + i.val, by omega⟩ f := by
  unfold_payloads
  pointwise
  simp only [ha i _, hw _ _]
  rfl

theorem up_1_3_0 {j : Fin 4} (ha : RowsOf a o ho va) (hw : PlaneOf w 1 j vu) (i : Fin 256) (f : Fin 704) :
    (k0_pay41 va vu) (ix4 0 0 i f) = up a w 1 j ⟨o + i.val, by omega⟩ f := by
  unfold_payloads
  pointwise
  simp only [ha i _, hw _ _]
  rfl

theorem gated_3_0 {j : Fin 4} (ha : RowsOf a o ho va) (hg : PlaneOf w 0 j vg) (hu : PlaneOf w 1 j vu) (i : Fin 256)
    (f : Fin 704) : (k0_pay42 va vg vu) (ix3 0 i f) = gated a w j ⟨o + i.val, by omega⟩ f := by
  unfold_payloads
  pointwise
  simp only [ha i _, hg _ _, hu _ _]
  rfl

theorem up_0_3_256 {j : Fin 4} (ha : RowsOf a o ho va) (hw : PlaneOf w 0 j vg) (i : Fin 256) (f : Fin 704) :
    (k0_pay2 (k0_pay43 va vg)) (ix4 0 0 i f) = up a w 0 j ⟨o + i.val, by omega⟩ f := by
  unfold_payloads
  pointwise
  simp only [ha i _, hw _ _]
  rfl

theorem up_1_3_256 {j : Fin 4} (ha : RowsOf a o ho va) (hw : PlaneOf w 1 j vu) (i : Fin 256) (f : Fin 704) :
    (k0_pay3 va (k0_pay44 vu)) (ix4 0 0 i f) = up a w 1 j ⟨o + i.val, by omega⟩ f := by
  unfold_payloads
  pointwise
  simp only [ha i _, hw _ _]
  rfl

theorem gated_3_256 {j : Fin 4} (ha : RowsOf a o ho va) (hg : PlaneOf w 0 j vg) (hu : PlaneOf w 1 j vu) (i : Fin 256)
    (f : Fin 704) : (k0_pay4 va (k0_pay43 va vg) (k0_pay44 vu)) (ix3 0 i f) = gated a w j ⟨o + i.val, by omega⟩ f := by
  unfold_payloads
  pointwise
  simp only [ha i _, hg _ _, hu _ _]
  rfl

end Chunk

variable (m : (ℓ : Loc nD τ sig) → Buf (Elt Ideal) ℓ) (c : Dev nD)

/-- The arguments. -/
abbrev arrA : Vec Ideal S4096x1024 .bf16 := m ((c : Thread nD τ).loc main_arg0)
abbrev arrW : Vec Ideal S2x4x704x1024 .bf16 := m ((c : Thread nD τ).loc main_arg1)

/-- Where window 0 stands. -/
theorem at_0 (t : Fin cfg0.N) : win0_0.index t 0 = t.val ∧ win0_0.index t 1 = 0 := by
  rcases fin_N0 t with rfl | rfl | rfl | rfl | rfl | rfl | rfl | rfl <;> decide +kernel

/-- Where window 1 stands. -/
theorem at_1 (t : Fin cfg0.N) : win0_1.index t 0 = 0 ∧ win0_1.index t 1 = 0 ∧ win0_1.index t 2 = t.val ∧ win0_1.index t 3 = 0 := by
  rcases fin_N0 t with rfl | rfl | rfl | rfl | rfl | rfl | rfl | rfl <;> decide +kernel

/-- Where window 2 stands. -/
theorem at_2 (t : Fin cfg0.N) : win0_2.index t 0 = 0 ∧ win0_2.index t 1 = t.val ∧ win0_2.index t 2 = 0 := by
  rcases fin_N0 t with rfl | rfl | rfl | rfl | rfl | rfl | rfl | rfl <;> decide +kernel

theorem lt_rows (t : Fin cfg0.N) (k : ℕ) (hk : k + 256 ≤ 512) : 512 * t.val + k + 256 ≤ 4096 := by
  have : t.val < 8 := lt_of_lt_of_eq t.isLt N_0
  omega

/-- The rows that a load of the first window takes. -/
theorem rows_a (t : Fin cfg0.N) (k : ℕ) (hk : k + 256 ≤ 512) (h) :
    RowsOf (arrA m c) (512 * t.val + k) (lt_rows t k hk)
      (View.ld (iblk m c 0 t) (Rect.unit (s := S512x1024) ![k, 0] S256x1024.size h)) := by
  intro i d
  have w := at_0 t
  rw [arrA, ← V_main_arg0 m c]
  show (View.read (Elt Ideal) _ _) _ = _
  rw [View.read_apply]
  refine congrArg (V m c main_arg0) (funext fun a => Fin.ext ?_)
  match a with
  | ⟨0, _⟩ => show win0_0.index t 0 * 512 + 1 * (k + 1 * i.val) = 512 * t.val + k + i.val; rw [w.1]; omega
  | ⟨1, _⟩ => show win0_0.index t 1 * 1024 + 1 * (0 + 1 * d.val) = d.val; rw [w.2]; omega

/-- A plane of an array that holds the weight. -/
theorem plane_ld (v w : Vec Ideal S2x4x704x1024 .bf16) (hv : v = w) (b : Fin 2) (j : Fin 4) (h) :
    PlaneOf w b j (View.ld (Val := Elt Ideal) (e' := .bf16) v
      (Rect.unit (s := S2x4x704x1024) ![b.val, j.val, 0, 0] S1x1x704x1024.size h)) := by
  subst hv
  intro f d
  refine congrArg v (funext fun a => Fin.ext ?_)
  match a with
  | ⟨0, _⟩ => show b.val + 1 * 0 = b.val; omega
  | ⟨1, _⟩ => show j.val + 1 * 0 = j.val; omega
  | ⟨2, _⟩ => show 0 + 1 * f.val = f.val; omega
  | ⟨3, _⟩ => show 0 + 1 * d.val = d.val; omega

/-- An array written whole holds what was written. -/
theorem canon_whole (v : Vec Ideal S2x4x704x1024 .bf16) :
    View.canon (Val := Elt Ideal) (e := .bf16) [⟨Rect.whole S2x4x704x1024, v⟩] = v :=
  View.canon_unit_zero (S := S2x4x704x1024) (off := fun _ => 0) rfl (fun a => (Nat.zero_add _).le) v

/-- A plane of the scratch array just after the weight has been copied in. -/
theorem plane_cov (v w : Vec Ideal S2x4x704x1024 .bf16) (hv : v = w) (b : Fin 2) (j : Fin 4) (h) :
    PlaneOf w b j ((View.whole cc0_scratch0).readCov (Val := Elt Ideal) [⟨Rect.whole S2x4x704x1024, v⟩]
      (Rect.unit (s := S2x4x704x1024) ![b.val, j.val, 0, 0] S1x1x704x1024.size h).toLoadRect) := by
  intro f d
  rw [View.readCov_eq_canon']
  dsimp only
  rw [canon_whole]
  exact plane_ld v w hv b j h f d

/-- A stored piece of the products is what the whole block holds there. -/
theorem piece1 (t : Fin cfg0.N) (b : Fin 2) (j : Fin 4) (k : ℕ) (hk : k + 256 ≤ 512) (v : S1x1x256x704.Idx → EReal)
    (G : Fin 2 → Fin 4 → Fin 4096 → Fin 704 → EReal) (h)
    (hv : ∀ (i : Fin 256) (f : Fin 704), v (ix4 0 0 i f) = G b j ⟨512 * t.val + k + i.val, by have := lt_rows t k hk; omega⟩ f)
    (y : S1x1x256x704.Idx) :
    v y = (fun z : S2x4x512x704.Idx => G (z 0) (z 1) ⟨512 * t.val + (z 2).val, by have := lt_rows t 256 (by decide); have : (z 2).val < 512 := (z 2).isLt; omega⟩ (z 3))
      ((Rect.unit (s := S2x4x512x704) ![b.val, j.val, k, 0] S1x1x256x704.size h).emb y) := by
  obtain ⟨p, q, i, f, rfl⟩ : ∃ p q i f, y = ix4 p q i f := ⟨y 0, y 1, y 2, y 3, funext fun a => by fin_cases a <;> rfl⟩
  obtain rfl : p = 0 := Subsingleton.elim _ _
  obtain rfl : q = 0 := Subsingleton.elim _ _
  rw [hv]
  refine congr (congr (congr (congrArg G (Fin.ext ?_)) (Fin.ext ?_)) (Fin.ext ?_)) (Fin.ext ?_)
  · show b.val = b.val + 1 * 0; omega
  · show j.val = j.val + 1 * 0; omega
  · show 512 * t.val + k + i.val = 512 * t.val + (k + 1 * i.val); omega
  · show f.val = 0 + 1 * f.val; omega

/-- A stored piece of the gated product is what the whole block holds there. -/
theorem piece2 (t : Fin cfg0.N) (j : Fin 4) (k : ℕ) (hk : k + 256 ≤ 512) (v : S1x256x704.Idx → EReal)
    (G : Fin 4 → Fin 4096 → Fin 704 → EReal) (h)
    (hv : ∀ (i : Fin 256) (f : Fin 704), v (ix3 0 i f) = G j ⟨512 * t.val + k + i.val, by have := lt_rows t k hk; omega⟩ f)
    (y : S1x256x704.Idx) :
    v y = (fun z : S4x512x704.Idx => G (z 0) ⟨512 * t.val + (z 1).val, by have := lt_rows t 256 (by decide); have : (z 1).val < 512 := (z 1).isLt; omega⟩ (z 2))
      ((Rect.unit (s := S4x512x704) ![j.val, k, 0] S1x256x704.size h).emb y) := by
  obtain ⟨q, i, f, rfl⟩ : ∃ q i f, y = ix3 q i f := ⟨y 0, y 1, y 2, funext fun a => by fin_cases a <;> rfl⟩
  obtain rfl : q = 0 := Subsingleton.elim _ _
  rw [hv]
  refine congr (congr (congrArg G (Fin.ext ?_)) (Fin.ext ?_)) (Fin.ext ?_)
  · show j.val = j.val + 1 * 0; omega
  · show 512 * t.val + k + i.val = 512 * t.val + (k + 1 * i.val); omega
  · show f.val = 0 + 1 * f.val; omega

/-- What the copy brings in. -/
theorem weight_in : ReadAs.same.apply (View.read (Elt Ideal) (View.whole main_arg1) (V m c main_arg1)) = arrW m c := by
  rw [arrW, ← V_main_arg1 m c]
  rfl

/-- The scratch array holds the weight after every point. -/
theorem scratch (n : ℕ) : ∀ hn : n < cfg0.N, (outsAt0 m c n hn).2.2 = arrW m c := by
  induction n with
  | zero =>
    intro hn
    rw [show outsAt0 m c 0 hn = _ from outsAt0_A m c ⟨0, hn⟩ rfl]
    dsimp only
    unfold sout0_A_0
    rw [View.read_writes_junk_eq_canon]
    unfold kernelRun0_A
    dsimp only
    sl_unfold_words
    exact (canon_whole _).trans (weight_in m c)
  | succ n ih =>
    intro hn
    have h8 : n + 1 < 8 := lt_of_lt_of_eq hn N_0
    have h0 : ¬(n + 1) % 8 = 0 := by omega
    rw [show outsAt0 m c (n + 1) hn = _ from outsAt0_B m c ⟨n + 1, hn⟩ h0]
    dsimp only
    unfold sout0_B_0
    exact ih _

/-- A point's rows of the products. -/
def upOut (t : Fin cfg0.N) : S2x4x512x704.Idx → EReal := fun z =>
  up (arrA m c) (arrW m c) (z 0) (z 1)
    ⟨512 * t.val + (z 2).val, by have := lt_rows t 256 (by decide); have : (z 2).val < 512 := (z 2).isLt; omega⟩ (z 3)

/-- A point's rows of the gated product. -/
def gatedOut (t : Fin cfg0.N) : S4x512x704.Idx → EReal := fun z =>
  gated (arrA m c) (arrW m c) (z 0)
    ⟨512 * t.val + (z 1).val, by have := lt_rows t 256 (by decide); have : (z 1).val < 512 := (z 1).isLt; omega⟩ (z 2)

theorem left1_A (t : Fin cfg0.N) (h0 : t.val % 8 = 0) (y : S2x4x512x704.Idx) :
    (outsAt0 m c t.val t.isLt).1 y = upOut m c t y := by
  rw [outsAt0_A m c t h0]
  dsimp only
  unfold out0_A_1
  rw [View.read_writes_junk_eq_canon]
  refine View.canon_apply_of_pieces (Val := Elt Ideal) (e := .bf16) (upOut m c t) _ ?_ _ (cover0_A_1 ..)
  unfold kernelRun0_A
  dsimp only
  sl_unfold_words
  simp (disch := decide) only [↓ View.readCov_skip, ↓ View.readCov_cons_toLoadRect, ↓ View.readCov_fill]
  simp only [View.readAt_eq_ld, Memref.IsWhole.read_unread]
  rw [List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_singleton]
  dsimp only
  exact ⟨piece1 t 1 3 256 (by decide) _ (up (arrA m c) (arrW m c)) _ (up_1_3_256 (lt_rows t 256 (by decide)) (rows_a m c t 256 (by decide) _) (plane_cov _ _ (weight_in m c) 1 3 _)),
    piece1 t 0 3 256 (by decide) _ (up (arrA m c) (arrW m c)) _ (up_0_3_256 (lt_rows t 256 (by decide)) (rows_a m c t 256 (by decide) _) (plane_cov _ _ (weight_in m c) 0 3 _)),
    piece1 t 1 3 0 (by decide) _ (up (arrA m c) (arrW m c)) _ (up_1_3_0 (lt_rows t 0 (by decide)) (rows_a m c t 0 (by decide) _) (plane_cov _ _ (weight_in m c) 1 3 _)),
    piece1 t 0 3 0 (by decide) _ (up (arrA m c) (arrW m c)) _ (up_0_3_0 (lt_rows t 0 (by decide)) (rows_a m c t 0 (by decide) _) (plane_cov _ _ (weight_in m c) 0 3 _)),
    piece1 t 1 2 256 (by decide) _ (up (arrA m c) (arrW m c)) _ (up_1_2_256 (lt_rows t 256 (by decide)) (rows_a m c t 256 (by decide) _) (plane_cov _ _ (weight_in m c) 1 2 _)),
    piece1 t 0 2 256 (by decide) _ (up (arrA m c) (arrW m c)) _ (up_0_2_256 (lt_rows t 256 (by decide)) (rows_a m c t 256 (by decide) _) (plane_cov _ _ (weight_in m c) 0 2 _)),
    piece1 t 1 2 0 (by decide) _ (up (arrA m c) (arrW m c)) _ (up_1_2_0 (lt_rows t 0 (by decide)) (rows_a m c t 0 (by decide) _) (plane_cov _ _ (weight_in m c) 1 2 _)),
    piece1 t 0 2 0 (by decide) _ (up (arrA m c) (arrW m c)) _ (up_0_2_0 (lt_rows t 0 (by decide)) (rows_a m c t 0 (by decide) _) (plane_cov _ _ (weight_in m c) 0 2 _)),
    piece1 t 1 1 256 (by decide) _ (up (arrA m c) (arrW m c)) _ (up_1_1_256 (lt_rows t 256 (by decide)) (rows_a m c t 256 (by decide) _) (plane_cov _ _ (weight_in m c) 1 1 _)),
    piece1 t 0 1 256 (by decide) _ (up (arrA m c) (arrW m c)) _ (up_0_1_256 (lt_rows t 256 (by decide)) (rows_a m c t 256 (by decide) _) (plane_cov _ _ (weight_in m c) 0 1 _)),
    piece1 t 1 1 0 (by decide) _ (up (arrA m c) (arrW m c)) _ (up_1_1_0 (lt_rows t 0 (by decide)) (rows_a m c t 0 (by decide) _) (plane_cov _ _ (weight_in m c) 1 1 _)),
    piece1 t 0 1 0 (by decide) _ (up (arrA m c) (arrW m c)) _ (up_0_1_0 (lt_rows t 0 (by decide)) (rows_a m c t 0 (by decide) _) (plane_cov _ _ (weight_in m c) 0 1 _)),
    piece1 t 1 0 256 (by decide) _ (up (arrA m c) (arrW m c)) _ (up_1_0_256 (lt_rows t 256 (by decide)) (rows_a m c t 256 (by decide) _) (plane_cov _ _ (weight_in m c) 1 0 _)),
    piece1 t 0 0 256 (by decide) _ (up (arrA m c) (arrW m c)) _ (up_0_0_256 (lt_rows t 256 (by decide)) (rows_a m c t 256 (by decide) _) (plane_cov _ _ (weight_in m c) 0 0 _)),
    piece1 t 1 0 0 (by decide) _ (up (arrA m c) (arrW m c)) _ (up_1_0_0 (lt_rows t 0 (by decide)) (rows_a m c t 0 (by decide) _) (plane_cov _ _ (weight_in m c) 1 0 _)),
    piece1 t 0 0 0 (by decide) _ (up (arrA m c) (arrW m c)) _ (up_0_0_0 (lt_rows t 0 (by decide)) (rows_a m c t 0 (by decide) _) (plane_cov _ _ (weight_in m c) 0 0 _))⟩

theorem left1_B (t : Fin cfg0.N) (h0 : ¬t.val % 8 = 0) (y : S2x4x512x704.Idx) :
    (outsAt0 m c t.val t.isLt).1 y = upOut m c t y := by
  rw [outsAt0_B m c t h0]
  dsimp only
  have hs := fun hn => (Memref.IsWhole.read_unread (Memref.isWhole_whole cc0_scratch0) _).trans (scratch m c (t.val - 1) hn)
  unfold out0_B_1
  rw [View.read_writes_junk_eq_canon]
  refine View.canon_apply_of_pieces (Val := Elt Ideal) (e := .bf16) (upOut m c t) _ ?_ _ (cover0_B_1 ..)
  unfold kernelRun0_B
  dsimp only
  sl_unfold_words
  simp (disch := decide) only [↓ View.readCov_skip, ↓ View.readCov_cons_toLoadRect, ↓ View.readCov_fill]
  simp only [View.readAt_eq_ld, Memref.IsWhole.read_unread]
  rw [List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_cons, List.forall_mem_singleton]
  dsimp only
  exact ⟨piece1 t 1 3 256 (by decide) _ (up (arrA m c) (arrW m c)) _ (up_1_3_256 (lt_rows t 256 (by decide)) (rows_a m c t 256 (by decide) _) (plane_ld _ _ (hs _) 1 3 _)),
    piece1 t 0 3 256 (by decide) _ (up (arrA m c) (arrW m c)) _ (up_0_3_256 (lt_rows t 256 (by decide)) (rows_a m c t 256 (by decide) _) (plane_ld _ _ (hs _) 0 3 _)),
    piece1 t 1 3 0 (by decide) _ (up (arrA m c) (arrW m c)) _ (up_1_3_0 (lt_rows t 0 (by decide)) (rows_a m c t 0 (by decide) _) (plane_ld _ _ (hs _) 1 3 _)),
    piece1 t 0 3 0 (by decide) _ (up (arrA m c) (arrW m c)) _ (up_0_3_0 (lt_rows t 0 (by decide)) (rows_a m c t 0 (by decide) _) (plane_ld _ _ (hs _) 0 3 _)),
    piece1 t 1 2 256 (by decide) _ (up (arrA m c) (arrW m c)) _ (up_1_2_256 (lt_rows t 256 (by decide)) (rows_a m c t 256 (by decide) _) (plane_ld _ _ (hs _) 1 2 _)),
    piece1 t 0 2 256 (by decide) _ (up (arrA m c) (arrW m c)) _ (up_0_2_256 (lt_rows t 256 (by decide)) (rows_a m c t 256 (by decide) _) (plane_ld _ _ (hs _) 0 2 _)),
    piece1 t 1 2 0 (by decide) _ (up (arrA m c) (arrW m c)) _ (up_1_2_0 (lt_rows t 0 (by decide)) (rows_a m c t 0 (by decide) _) (plane_ld _ _ (hs _) 1 2 _)),
    piece1 t 0 2 0 (by decide) _ (up (arrA m c) (arrW m c)) _ (up_0_2_0 (lt_rows t 0 (by decide)) (rows_a m c t 0 (by decide) _) (plane_ld _ _ (hs _) 0 2 _)),
    piece1 t 1 1 256 (by decide) _ (up (arrA m c) (arrW m c)) _ (up_1_1_256 (lt_rows t 256 (by decide)) (rows_a m c t 256 (by decide) _) (plane_ld _ _ (hs _) 1 1 _)),
    piece1 t 0 1 256 (by decide) _ (up (arrA m c) (arrW m c)) _ (up_0_1_256 (lt_rows t 256 (by decide)) (rows_a m c t 256 (by decide) _) (plane_ld _ _ (hs _) 0 1 _)),
    piece1 t 1 1 0 (by decide) _ (up (arrA m c) (arrW m c)) _ (up_1_1_0 (lt_rows t 0 (by decide)) (rows_a m c t 0 (by decide) _) (plane_ld _ _ (hs _) 1 1 _)),
    piece1 t 0 1 0 (by decide) _ (up (arrA m c) (arrW m c)) _ (up_0_1_0 (lt_rows t 0 (by decide)) (rows_a m c t 0 (by decide) _) (plane_ld _ _ (hs _) 0 1 _)),
    piece1 t 1 0 256 (by decide) _ (up (arrA m c) (arrW m c)) _ (up_1_0_256 (lt_rows t 256 (by decide)) (rows_a m c t 256 (by decide) _) (plane_ld _ _ (hs _) 1 0 _)),
    piece1 t 0 0 256 (by decide) _ (up (arrA m c) (arrW m c)) _ (up_0_0_256 (lt_rows t 256 (by decide)) (rows_a m c t 256 (by decide) _) (plane_ld _ _ (hs _) 0 0 _)),
    piece1 t 1 0 0 (by decide) _ (up (arrA m c) (arrW m c)) _ (up_1_0_0 (lt_rows t 0 (by decide)) (rows_a m c t 0 (by decide) _) (plane_ld _ _ (hs _) 1 0 _)),
    piece1 t 0 0 0 (by decide) _ (up (arrA m c) (arrW m c)) _ (up_0_0_0 (lt_rows t 0 (by decide)) (rows_a m c t 0 (by decide) _) (plane_ld _ _ (hs _) 0 0 _))⟩

theorem left1 (t : Fin cfg0.N) (y : S2x4x512x704.Idx) : (outsAt0 m c t.val t.isLt).1 y = upOut m c t y := by
  by_cases h0 : t.val % 8 = 0
  · exact left1_A m c t h0 y
  · exact left1_B m c t h0 y

theorem left2_A (t : Fin cfg0.N) (h0 : t.val % 8 = 0) (y : S4x512x704.Idx) :
    (outsAt0 m c t.val t.isLt).2.1 y = gatedOut m c t y := by
  rw [outsAt0_A m c t h0]
  dsimp only
  unfold out0_A_2
  rw [View.read_writes_junk_eq_canon]
  refine View.canon_apply_of_pieces (Val := Elt Ideal) (e := .bf16) (gatedOut m c t) _ ?_ _ (cover0_A_2 ..)
  unfold kernelRun0_A
  dsimp only
  sl_unfold_words
  simp (disch := decide) only [↓ View.readCov_skip, ↓ View.readCov_cons_toLoadRect, ↓ View.readCov_fill]
  simp only [View.readAt_eq_ld, Memref.IsWhole.read_unread]
  rw [List.forall_mem_cons, List.forall_mem_cons, List.forall_mem_cons, List.forall_mem_cons, List.forall_mem_cons, List.forall_mem_cons, List.forall_mem_cons, List.forall_mem_singleton]
  dsimp only
  exact ⟨piece2 t 3 256 (by decide) _ (gated (arrA m c) (arrW m c)) _ (gated_3_256 (lt_rows t 256 (by decide)) (rows_a m c t 256 (by decide) _) (plane_cov _ _ (weight_in m c) 0 3 _) (plane_cov _ _ (weight_in m c) 1 3 _)),
    piece2 t 3 0 (by decide) _ (gated (arrA m c) (arrW m c)) _ (gated_3_0 (lt_rows t 0 (by decide)) (rows_a m c t 0 (by decide) _) (plane_cov _ _ (weight_in m c) 0 3 _) (plane_cov _ _ (weight_in m c) 1 3 _)),
    piece2 t 2 256 (by decide) _ (gated (arrA m c) (arrW m c)) _ (gated_2_256 (lt_rows t 256 (by decide)) (rows_a m c t 256 (by decide) _) (plane_cov _ _ (weight_in m c) 0 2 _) (plane_cov _ _ (weight_in m c) 1 2 _)),
    piece2 t 2 0 (by decide) _ (gated (arrA m c) (arrW m c)) _ (gated_2_0 (lt_rows t 0 (by decide)) (rows_a m c t 0 (by decide) _) (plane_cov _ _ (weight_in m c) 0 2 _) (plane_cov _ _ (weight_in m c) 1 2 _)),
    piece2 t 1 256 (by decide) _ (gated (arrA m c) (arrW m c)) _ (gated_1_256 (lt_rows t 256 (by decide)) (rows_a m c t 256 (by decide) _) (plane_cov _ _ (weight_in m c) 0 1 _) (plane_cov _ _ (weight_in m c) 1 1 _)),
    piece2 t 1 0 (by decide) _ (gated (arrA m c) (arrW m c)) _ (gated_1_0 (lt_rows t 0 (by decide)) (rows_a m c t 0 (by decide) _) (plane_cov _ _ (weight_in m c) 0 1 _) (plane_cov _ _ (weight_in m c) 1 1 _)),
    piece2 t 0 256 (by decide) _ (gated (arrA m c) (arrW m c)) _ (gated_0_256 (lt_rows t 256 (by decide)) (rows_a m c t 256 (by decide) _) (plane_cov _ _ (weight_in m c) 0 0 _) (plane_cov _ _ (weight_in m c) 1 0 _)),
    piece2 t 0 0 (by decide) _ (gated (arrA m c) (arrW m c)) _ (gated_0_0 (lt_rows t 0 (by decide)) (rows_a m c t 0 (by decide) _) (plane_cov _ _ (weight_in m c) 0 0 _) (plane_cov _ _ (weight_in m c) 1 0 _))⟩

theorem left2_B (t : Fin cfg0.N) (h0 : ¬t.val % 8 = 0) (y : S4x512x704.Idx) :
    (outsAt0 m c t.val t.isLt).2.1 y = gatedOut m c t y := by
  rw [outsAt0_B m c t h0]
  dsimp only
  have hs := fun hn => (Memref.IsWhole.read_unread (Memref.isWhole_whole cc0_scratch0) _).trans (scratch m c (t.val - 1) hn)
  unfold out0_B_2
  rw [View.read_writes_junk_eq_canon]
  refine View.canon_apply_of_pieces (Val := Elt Ideal) (e := .bf16) (gatedOut m c t) _ ?_ _ (cover0_B_2 ..)
  unfold kernelRun0_B
  dsimp only
  sl_unfold_words
  simp (disch := decide) only [↓ View.readCov_skip, ↓ View.readCov_cons_toLoadRect, ↓ View.readCov_fill]
  simp only [View.readAt_eq_ld, Memref.IsWhole.read_unread]
  rw [List.forall_mem_cons, List.forall_mem_cons, List.forall_mem_cons, List.forall_mem_cons, List.forall_mem_cons, List.forall_mem_cons, List.forall_mem_cons, List.forall_mem_singleton]
  dsimp only
  exact ⟨piece2 t 3 256 (by decide) _ (gated (arrA m c) (arrW m c)) _ (gated_3_256 (lt_rows t 256 (by decide)) (rows_a m c t 256 (by decide) _) (plane_ld _ _ (hs _) 0 3 _) (plane_ld _ _ (hs _) 1 3 _)),
    piece2 t 3 0 (by decide) _ (gated (arrA m c) (arrW m c)) _ (gated_3_0 (lt_rows t 0 (by decide)) (rows_a m c t 0 (by decide) _) (plane_ld _ _ (hs _) 0 3 _) (plane_ld _ _ (hs _) 1 3 _)),
    piece2 t 2 256 (by decide) _ (gated (arrA m c) (arrW m c)) _ (gated_2_256 (lt_rows t 256 (by decide)) (rows_a m c t 256 (by decide) _) (plane_ld _ _ (hs _) 0 2 _) (plane_ld _ _ (hs _) 1 2 _)),
    piece2 t 2 0 (by decide) _ (gated (arrA m c) (arrW m c)) _ (gated_2_0 (lt_rows t 0 (by decide)) (rows_a m c t 0 (by decide) _) (plane_ld _ _ (hs _) 0 2 _) (plane_ld _ _ (hs _) 1 2 _)),
    piece2 t 1 256 (by decide) _ (gated (arrA m c) (arrW m c)) _ (gated_1_256 (lt_rows t 256 (by decide)) (rows_a m c t 256 (by decide) _) (plane_ld _ _ (hs _) 0 1 _) (plane_ld _ _ (hs _) 1 1 _)),
    piece2 t 1 0 (by decide) _ (gated (arrA m c) (arrW m c)) _ (gated_1_0 (lt_rows t 0 (by decide)) (rows_a m c t 0 (by decide) _) (plane_ld _ _ (hs _) 0 1 _) (plane_ld _ _ (hs _) 1 1 _)),
    piece2 t 0 256 (by decide) _ (gated (arrA m c) (arrW m c)) _ (gated_0_256 (lt_rows t 256 (by decide)) (rows_a m c t 256 (by decide) _) (plane_ld _ _ (hs _) 0 0 _) (plane_ld _ _ (hs _) 1 0 _)),
    piece2 t 0 0 (by decide) _ (gated (arrA m c) (arrW m c)) _ (gated_0_0 (lt_rows t 0 (by decide)) (rows_a m c t 0 (by decide) _) (plane_ld _ _ (hs _) 0 0 _) (plane_ld _ _ (hs _) 1 0 _))⟩

theorem left2 (t : Fin cfg0.N) (y : S4x512x704.Idx) : (outsAt0 m c t.val t.isLt).2.1 y = gatedOut m c t y := by
  by_cases h0 : t.val % 8 = 0
  · exact left2_A m c t h0 y
  · exact left2_B m c t h0 y

/-- The blocks fill the array. -/
theorem out1 : (dats m 0 c).arrAt 1 cfg0.N = fun z => up (arrA m c) (arrW m c) (z 0) (z 1) (z 2) (z 3) := by
  refine (dats m 0 c).arrAt_eq_of_cover 1 (fun z => up (arrA m c) (arrW m c) (z 0) (z 1) (z 2) (z 3)) (fun t _ => ?_) fun i => ?_
  · rw [Value.flushed1]
    funext y
    refine (left1 m c t y).trans ?_
    rw [View.read_apply]
    refine congr (congr (congr (congrArg (up (arrA m c) (arrW m c)) (Fin.ext ?_)) (Fin.ext ?_)) (Fin.ext ?_)) (Fin.ext ?_)
    · show (y 0).val = win0_1.index t 0 * 2 + 1 * (y 0).val; rw [(at_1 t).1]; omega
    · show (y 1).val = win0_1.index t 1 * 4 + 1 * (y 1).val; rw [(at_1 t).2.1]; omega
    · show 512 * t.val + (y 2).val = win0_1.index t 2 * 512 + 1 * (y 2).val; rw [(at_1 t).2.2.1]; omega
    · show (y 3).val = win0_1.index t 3 * 704 + 1 * (y 3).val; rw [(at_1 t).2.2.2]; omega
  · have h0 : (i 0 : Nat) < 2 := (i 0).isLt
    have h1 : (i 1 : Nat) < 4 := (i 1).isLt
    have h2 : (i 2 : Nat) < 4096 := (i 2).isLt
    have h3 : (i 3 : Nat) < 704 := (i 3).isLt
    have hN : (i 2 : Nat) / 512 < cfg0.N := lt_of_lt_of_eq (by omega : (i 2 : Nat) / 512 < 8) N_0.symm
    have h := at_1 ⟨(i 2 : Nat) / 512, hN⟩
    refine ⟨⟨(i 2 : Nat) / 512, hN⟩, flush0_1 _, ?_⟩
    show i ∈ ((View.whole main_v0_0).slice (win0_1.rect ⟨(i 2 : Nat) / 512, hN⟩)).set
    rw [View.set_slice_whole, Rect.mem_set_unit]
    intro a
    match a with
    | ⟨0, _⟩ => show win0_1.index ⟨(i 2 : Nat) / 512, hN⟩ 0 * 2 ≤ (i 0 : Nat)
                    ∧ (i 0 : Nat) < win0_1.index ⟨(i 2 : Nat) / 512, hN⟩ 0 * 2 + 2
                rw [h.1]; omega
    | ⟨1, _⟩ => show win0_1.index ⟨(i 2 : Nat) / 512, hN⟩ 1 * 4 ≤ (i 1 : Nat)
                    ∧ (i 1 : Nat) < win0_1.index ⟨(i 2 : Nat) / 512, hN⟩ 1 * 4 + 4
                rw [h.2.1]; omega
    | ⟨2, _⟩ => show win0_1.index ⟨(i 2 : Nat) / 512, hN⟩ 2 * 512 ≤ (i 2 : Nat)
                    ∧ (i 2 : Nat) < win0_1.index ⟨(i 2 : Nat) / 512, hN⟩ 2 * 512 + 512
                rw [h.2.2.1]; dsimp only; omega
    | ⟨3, _⟩ => show win0_1.index ⟨(i 2 : Nat) / 512, hN⟩ 3 * 704 ≤ (i 3 : Nat)
                    ∧ (i 3 : Nat) < win0_1.index ⟨(i 2 : Nat) / 512, hN⟩ 3 * 704 + 704
                rw [h.2.2.2]; omega

/-- The blocks fill the array. -/
theorem out2 : (dats m 0 c).arrAt 2 cfg0.N = fun z => gated (arrA m c) (arrW m c) (z 0) (z 1) (z 2) := by
  refine (dats m 0 c).arrAt_eq_of_cover 2 (fun z => gated (arrA m c) (arrW m c) (z 0) (z 1) (z 2)) (fun t _ => ?_) fun i => ?_
  · rw [Value.flushed2]
    funext y
    refine (left2 m c t y).trans ?_
    rw [View.read_apply]
    refine congr (congr (congrArg (gated (arrA m c) (arrW m c)) (Fin.ext ?_)) (Fin.ext ?_)) (Fin.ext ?_)
    · show (y 0).val = win0_2.index t 0 * 4 + 1 * (y 0).val; rw [(at_2 t).1]; omega
    · show 512 * t.val + (y 1).val = win0_2.index t 1 * 512 + 1 * (y 1).val; rw [(at_2 t).2.1]; omega
    · show (y 2).val = win0_2.index t 2 * 704 + 1 * (y 2).val; rw [(at_2 t).2.2]; omega
  · have h0 : (i 0 : Nat) < 4 := (i 0).isLt
    have h1 : (i 1 : Nat) < 4096 := (i 1).isLt
    have h2 : (i 2 : Nat) < 704 := (i 2).isLt
    have hN : (i 1 : Nat) / 512 < cfg0.N := lt_of_lt_of_eq (by omega : (i 1 : Nat) / 512 < 8) N_0.symm
    have h := at_2 ⟨(i 1 : Nat) / 512, hN⟩
    refine ⟨⟨(i 1 : Nat) / 512, hN⟩, flush0_2 _, ?_⟩
    show i ∈ ((View.whole main_v0_1).slice (win0_2.rect ⟨(i 1 : Nat) / 512, hN⟩)).set
    rw [View.set_slice_whole, Rect.mem_set_unit]
    intro a
    match a with
    | ⟨0, _⟩ => show win0_2.index ⟨(i 1 : Nat) / 512, hN⟩ 0 * 4 ≤ (i 0 : Nat)
                    ∧ (i 0 : Nat) < win0_2.index ⟨(i 1 : Nat) / 512, hN⟩ 0 * 4 + 4
                rw [h.1]; omega
    | ⟨1, _⟩ => show win0_2.index ⟨(i 1 : Nat) / 512, hN⟩ 1 * 512 ≤ (i 1 : Nat)
                    ∧ (i 1 : Nat) < win0_2.index ⟨(i 1 : Nat) / 512, hN⟩ 1 * 512 + 512
                rw [h.2.1]; dsimp only; omega
    | ⟨2, _⟩ => show win0_2.index ⟨(i 1 : Nat) / 512, hN⟩ 2 * 704 ≤ (i 2 : Nat)
                    ∧ (i 2 : Nat) < win0_2.index ⟨(i 1 : Nat) / 512, hN⟩ 2 * 704 + 704
                rw [h.2.2]; omega

end Kernel

section Reference

open Cert.FfnFwdRefIdeal Cert.FfnFwdRefIdeal.Read

variable (a : Vec Ideal S4096x1024 .bf16) (w : Vec Ideal S2x4x704x1024 .bf16)

theorem ref_product (b : Fin 2) (j : Fin 4) (s : Fin 4096) (f : Fin 704) : val_main_v3 a w (ix4 b j s f) = up a w b j s f := by
  pointwise [val_main_v3, val_main_v2, val_main_v1, val_main_v0]
  exact Finset.sum_congr rfl fun d _ => mul_comm _ _

theorem ref_up (b : Fin 2) (j : Fin 4) (s : Fin 4096) (f : Fin 704) : val_main_v11 a w (ix4 b j s f) = up a w b j s f := by
  fin_cases b
  · pointwise [val_main_v11, val_main_v10, val_main_v9, val_main_v8, val_main_v7, val_main_v6, val_main_v5, val_main_v4, ref_product]
  · pointwise [val_main_v11, val_main_v10, val_main_v9, val_main_v8, val_main_v7, val_main_v6, val_main_v5, val_main_v4, ref_product]

theorem ref_gated (j : Fin 4) (s : Fin 4096) (f : Fin 704) : val_main_v14 a w (ix3 j s f) = gated a w j s f := by
  pointwise [val_main_v14, val_main_v13, val_main_v12, val_main_call0_v5, val_main_call0_v4, val_main_call0_cst_0, val_main_call0_v3, val_main_call0_v2, val_main_call0_cst, val_main_call0_v1, val_main_call0_v0, val_main_v7, val_main_v6, val_main_v5, val_main_v4, ref_product]
  rfl

/-- The reference runs, keeps its arguments and has no semaphore. -/
theorem ref_frame : Cert.quiescent_FfnFwdRefIdeal := fun m ρ _ =>
  (θ_run Cert.FfnFwdRefIdeal.defs _ _).mono (fun r h => ⟨fun c => (h c).2.2, sem_eq_zero_of_no_sems (by decide) r.2⟩)
    (Cert.FfnFwdRefIdeal.Value.run (F := Ideal) m ρ)

end Reference

open Cert.FfnFwdIdeal in
/-- Kernel and reference leave the same two arrays. -/
theorem algebraic : Cert.algebraic_FfnFwdIdeal_FfnFwdRefIdeal := by
  intro m g m' g' _ hagree
  refine ⟨fun c z => up (arrA m c) (arrW m c) (z 0) (z 1) (z 2) (z 3),
    fun c z => gated (arrA m c) (arrW m c) (z 0) (z 1) (z 2), ?_, ?_⟩
  · refine (θ_run Cert.FfnFwdIdeal.defs _ _).mono (fun r h c => ?_) (Cert.FfnFwdIdeal.Value.run_blocks m g)
    obtain ⟨h1, h2, hk⟩ := h c
    exact ⟨h1.trans (out1 m c), h2.trans (out2 m c), hk⟩
  · refine (θ_run Cert.FfnFwdRefIdeal.defs _ _).mono (fun r h c => ?_) (Cert.FfnFwdRefIdeal.Value.run (F := Ideal) m' g')
    obtain ⟨h0, h1, hk⟩ := h c
    obtain ⟨ea, ew⟩ := hagree c
    refine ⟨?_, ?_, hk⟩
    · refine (h0.trans (Cert.FfnFwdRefIdeal.Read.val_main_v11_eq ..)).trans ?_
      rw [ea, ew]
      funext z
      obtain ⟨b, j, s, f, rfl⟩ : ∃ b j s f, z = ix4 b j s f := ⟨z 0, z 1, z 2, z 3, funext fun a => by fin_cases a <;> rfl⟩
      exact ref_up ..
    · refine (h1.trans (Cert.FfnFwdRefIdeal.Read.val_main_v14_eq ..)).trans ?_
      rw [ea, ew]
      funext z
      obtain ⟨j, s, f, rfl⟩ : ∃ j s f, z = ix3 j s f := ⟨z 0, z 1, z 2, funext fun a => by fin_cases a <;> rfl⟩
      exact ref_gated ..

end Cert.FfnFwdClaim
-- ==== Proof.DownFwdClaim.lean ====
/-
  The step out of the first gated layer: the product's planes are summed, halved and added to the residual row by row, and
  each row is then normed. The reference sums the planes in one product.
-/
module

public import proofs.«01_k».proof.Defs
public import proofs.«01_k».proof.Proof.RmsGrad
public import proofs.«01_k».proof.Proof.Gen.DownFwdIdeal.Value
public import proofs.«01_k».proof.Proof.Gen.DownFwdRefIdeal.Run
public import proofs.«01_k».proof.Proof.Gen.DownFwdRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.DownFwdClaim

open Idealize.ShloMosaic Idealize.ShloMosaic.TcCoe Idealize.SL.Sem
open Idealize.ShloMosaic.Pipeline (Dat)

section Values

open Cert.DownFwdIdeal

/-- The new residual at row `s`. -/
def res (a : Vec Ideal S4x4096x704 .bf16) (w : Vec Ideal S4x704x1024 .bf16) (x : Vec Ideal S4096x1024 .f32) (s : Fin 4096) (d : Fin 1024) :
    EReal :=
  x (ix2 s d) + Ideal.ofBits FTy.f32 0x3F000000#32 * ∑ j : Fin 4, ∑ f : Fin 704, a (ix3 j s f) * w (ix3 j f d)

/-- Row `s` after the norm. -/
def normed (a : Vec Ideal S4x4096x704 .bf16) (w : Vec Ideal S4x704x1024 .bf16) (x : Vec Ideal S4096x1024 .f32) (g : Vec Ideal S1x1024 .f32)
    (s : Fin 4096) (d : Fin 1024) : EReal :=
  res a w x s d * RmsGrad.recip (res a w x s) * g (ix2 0 d)

end Values

section Kernel

open Cert.DownFwdIdeal Cert.DownFwdIdeal.Gen

/-- The vector holds 256 rows, from row `o`. -/
def RowsOf (a : Vec Ideal S4x4096x704 .bf16) (j : Fin 4) (o : ℕ) (ho : o + 256 ≤ 4096) (v : Vec Ideal S1x256x704 .bf16) : Prop :=
  ∀ (i : Fin 256) (f : Fin 704), v (ix3 0 i f) = a (ix3 j ⟨o + i.val, by omega⟩ f)

/-- The vector holds the weight's plane `j`. -/
def PlaneOf (w : Vec Ideal S4x704x1024 .bf16) (j : Fin 4) (v : Vec Ideal S1x704x1024 .bf16) : Prop :=
  ∀ (f : Fin 704) (d : Fin 1024), v (ix3 0 f d) = w (ix3 j f d)

/-- The vector holds 256 rows, from row `o`. -/
def Rows (x : Vec Ideal S4096x1024 .f32) (o : ℕ) (ho : o + 256 ≤ 4096) (v : Vec Ideal S256x1024 .f32) : Prop :=
  ∀ (i : Fin 256) (d : Fin 1024), v (ix2 i d) = x (ix2 ⟨o + i.val, by omega⟩ d)

section Chunk

variable {a : Vec Ideal S4x4096x704 .bf16} {w : Vec Ideal S4x704x1024 .bf16} {x : Vec Ideal S4096x1024 .f32} {g : Vec Ideal S1x1024 .f32}
  {o : ℕ} (ho : o + 256 ≤ 4096)

theorem res_first {a0 : Vec Ideal S1x256x704 .bf16} {w0 : Vec Ideal S1x704x1024 .bf16} {a1 : Vec Ideal S1x256x704 .bf16} {w1 : Vec Ideal S1x704x1024 .bf16} {a2 : Vec Ideal S1x256x704 .bf16} {w2 : Vec Ideal S1x704x1024 .bf16} {a3 : Vec Ideal S1x256x704 .bf16} {w3 : Vec Ideal S1x704x1024 .bf16}
    {vx : Vec Ideal S256x1024 .f32}
    (ha0 : RowsOf a 0 o ho a0) (hw0 : PlaneOf w 0 w0) (ha1 : RowsOf a 1 o ho a1) (hw1 : PlaneOf w 1 w1) (ha2 : RowsOf a 2 o ho a2) (hw2 : PlaneOf w 2 w2) (ha3 : RowsOf a 3 o ho a3) (hw3 : PlaneOf w 3 w3)
    (hx : Rows x o ho vx) (i : Fin 256) (d : Fin 1024) :
    k0_pay3 a0 w0 a1 w1 a2 w2 a3 w3 vx (ix2 i d) = res a w x ⟨o + i.val, by omega⟩ d := by
  unfold_payloads
  pointwise
  simp only [ha0 i _, hw0 _ _, ha1 i _, hw1 _ _, ha2 i _, hw2 _ _, ha3 i _, hw3 _ _, hx i _]
  rw [res, Fin.sum_univ_four]

theorem normed_first {a0 : Vec Ideal S1x256x704 .bf16} {w0 : Vec Ideal S1x704x1024 .bf16} {a1 : Vec Ideal S1x256x704 .bf16} {w1 : Vec Ideal S1x704x1024 .bf16} {a2 : Vec Ideal S1x256x704 .bf16} {w2 : Vec Ideal S1x704x1024 .bf16} {a3 : Vec Ideal S1x256x704 .bf16} {w3 : Vec Ideal S1x704x1024 .bf16}
    {vx : Vec Ideal S256x1024 .f32} {vg : Vec Ideal S1x1024 .f32}
    (ha0 : RowsOf a 0 o ho a0) (hw0 : PlaneOf w 0 w0) (ha1 : RowsOf a 1 o ho a1) (hw1 : PlaneOf w 1 w1) (ha2 : RowsOf a 2 o ho a2) (hw2 : PlaneOf w 2 w2) (ha3 : RowsOf a 3 o ho a3) (hw3 : PlaneOf w 3 w3)
    (hx : Rows x o ho vx) (hg : vg = g) (i : Fin 256) (d : Fin 1024) :
    k0_pay4 (k0_pay3 a0 w0 a1 w1 a2 w2 a3 w3 vx) vg (ix2 i d) = normed a w x g ⟨o + i.val, by omega⟩ d := by
  subst hg
  have h := fun k => res_first ho ha0 hw0 ha1 hw1 ha2 hw2 ha3 hw3 hx i k
  generalize k0_pay3 a0 w0 a1 w1 a2 w2 a3 w3 vx = r at h ⊢
  unfold_payloads
  pointwise
  simp only [h]
  rfl

theorem res_second {a0 : Vec Ideal S1x256x704 .bf16} {w0 : Vec Ideal S1x704x1024 .bf16} {a1 : Vec Ideal S1x256x704 .bf16} {w1 : Vec Ideal S1x704x1024 .bf16} {a2 : Vec Ideal S1x256x704 .bf16} {w2 : Vec Ideal S1x704x1024 .bf16} {a3 : Vec Ideal S1x256x704 .bf16} {w3 : Vec Ideal S1x704x1024 .bf16}
    {vx : Vec Ideal S256x1024 .f32}
    (ha0 : RowsOf a 0 o ho a0) (hw0 : PlaneOf w 0 w0) (ha1 : RowsOf a 1 o ho a1) (hw1 : PlaneOf w 1 w1) (ha2 : RowsOf a 2 o ho a2) (hw2 : PlaneOf w 2 w2) (ha3 : RowsOf a 3 o ho a3) (hw3 : PlaneOf w 3 w3)
    (hx : Rows x o ho vx) (i : Fin 256) (d : Fin 1024) :
    k0_pay1 (k0_pay5 a0 w0 a1 w1) (k0_pay6 a2) w2 a3 w3 vx (ix2 i d) = res a w x ⟨o + i.val, by omega⟩ d := by
  unfold_payloads
  pointwise
  simp only [ha0 i _, hw0 _ _, ha1 i _, hw1 _ _, ha2 i _, hw2 _ _, ha3 i _, hw3 _ _, hx i _]
  rw [res, Fin.sum_univ_four]

theorem normed_second {a0 : Vec Ideal S1x256x704 .bf16} {w0 : Vec Ideal S1x704x1024 .bf16} {a1 : Vec Ideal S1x256x704 .bf16} {w1 : Vec Ideal S1x704x1024 .bf16} {a2 : Vec Ideal S1x256x704 .bf16} {w2 : Vec Ideal S1x704x1024 .bf16} {a3 : Vec Ideal S1x256x704 .bf16} {w3 : Vec Ideal S1x704x1024 .bf16}
    {vx : Vec Ideal S256x1024 .f32} {vg : Vec Ideal S1x1024 .f32}
    (ha0 : RowsOf a 0 o ho a0) (hw0 : PlaneOf w 0 w0) (ha1 : RowsOf a 1 o ho a1) (hw1 : PlaneOf w 1 w1) (ha2 : RowsOf a 2 o ho a2) (hw2 : PlaneOf w 2 w2) (ha3 : RowsOf a 3 o ho a3) (hw3 : PlaneOf w 3 w3)
    (hx : Rows x o ho vx) (hg : vg = g) (i : Fin 256) (d : Fin 1024) :
    k0_pay2 (k0_pay5 a0 w0 a1 w1) (k0_pay6 a2) w2 a3 w3 vx vg (ix2 i d) = normed a w x g ⟨o + i.val, by omega⟩ d := by
  subst hg
  have h := fun k => res_second ho ha0 hw0 ha1 hw1 ha2 hw2 ha3 hw3 hx i k
  unfold k0_pay2
  generalize k0_pay1 (k0_pay5 a0 w0 a1 w1) (k0_pay6 a2) w2 a3 w3 vx = r at h ⊢
  pointwise
  simp only [h]
  rfl

end Chunk

variable (m : (ℓ : Loc nD τ sig) → Buf (Elt Ideal) ℓ) (c : Dev nD)

/-- The arguments. -/
abbrev arrA : Vec Ideal S4x4096x704 .bf16 := m ((c : Thread nD τ).loc main_arg0)
abbrev arrW : Vec Ideal S4x704x1024 .bf16 := m ((c : Thread nD τ).loc main_arg1)
abbrev arrX : Vec Ideal S4096x1024 .f32 := m ((c : Thread nD τ).loc main_arg2)
abbrev arrG : Vec Ideal S1x1024 .f32 := m ((c : Thread nD τ).loc main_arg3)

theorem zero2 : (![0, 0] : Fin 2 → Nat) = fun _ => 0 := funext fun a => by fin_cases a <;> rfl
theorem zero3 : (![0, 0, 0] : Fin 3 → Nat) = fun _ => 0 := funext fun a => by fin_cases a <;> rfl

/-- Where window 0 stands. -/
theorem at_0 (t : Fin cfg0.N) : win0_0.index t 0 = 0 ∧ win0_0.index t 1 = t.val ∧ win0_0.index t 2 = 0 := by
  rcases fin_N0 t with rfl | rfl | rfl | rfl | rfl | rfl | rfl | rfl <;> decide +kernel

/-- Where window 1 stands. -/
theorem at_1 (t : Fin cfg0.N) : win0_1.index t 0 = 0 ∧ win0_1.index t 1 = 0 ∧ win0_1.index t 2 = 0 := by
  rcases fin_N0 t with rfl | rfl | rfl | rfl | rfl | rfl | rfl | rfl <;> decide +kernel

/-- Where window 2 stands. -/
theorem at_2 (t : Fin cfg0.N) : win0_2.index t 0 = t.val ∧ win0_2.index t 1 = 0 := by
  rcases fin_N0 t with rfl | rfl | rfl | rfl | rfl | rfl | rfl | rfl <;> decide +kernel

/-- Where window 3 stands. -/
theorem at_3 (t : Fin cfg0.N) : win0_3.index t 0 = 0 ∧ win0_3.index t 1 = 0 := by
  rcases fin_N0 t with rfl | rfl | rfl | rfl | rfl | rfl | rfl | rfl <;> decide +kernel

/-- Where window 4 stands. -/
theorem at_4 (t : Fin cfg0.N) : win0_4.index t 0 = t.val ∧ win0_4.index t 1 = 0 := by
  rcases fin_N0 t with rfl | rfl | rfl | rfl | rfl | rfl | rfl | rfl <;> decide +kernel

/-- Where window 5 stands. -/
theorem at_5 (t : Fin cfg0.N) : win0_5.index t 0 = t.val ∧ win0_5.index t 1 = 0 := by
  rcases fin_N0 t with rfl | rfl | rfl | rfl | rfl | rfl | rfl | rfl <;> decide +kernel

theorem lt_rows (t : Fin cfg0.N) (k : ℕ) (hk : k + 256 ≤ 512) : 512 * t.val + k + 256 ≤ 4096 := by
  have : t.val < 8 := lt_of_lt_of_eq t.isLt N_0
  omega

/-- The rows that a load of the first window takes. -/
theorem rows_a (t : Fin cfg0.N) (j : Fin 4) (k : ℕ) (hk : k + 256 ≤ 512) (h) :
    RowsOf (arrA m c) j (512 * t.val + k) (lt_rows t k hk)
      (View.ld (iblk m c 0 t) (Rect.unit (s := S4x512x704) ![j.val, k, 0] S1x256x704.size h)) := by
  intro i f
  have w := at_0 t
  rw [arrA, ← V_main_arg0 m c]
  show (View.read (Elt Ideal) _ _) _ = _
  rw [View.read_apply]
  refine congrArg (V m c main_arg0) (funext fun a => Fin.ext ?_)
  match a with
  | ⟨0, _⟩ => show win0_0.index t 0 * 4 + 1 * (j.val + 1 * 0) = j.val; rw [w.1]; omega
  | ⟨1, _⟩ => show win0_0.index t 1 * 512 + 1 * (k + 1 * i.val) = 512 * t.val + k + i.val; rw [w.2.1]; omega
  | ⟨2, _⟩ => show win0_0.index t 2 * 704 + 1 * (0 + 1 * f.val) = f.val; rw [w.2.2]; omega

/-- The weight that a load of the second window takes. -/
theorem plane_w (t : Fin cfg0.N) (j : Fin 4) (h) :
    PlaneOf (arrW m c) j (View.ld (iblk m c 1 t) (Rect.unit (s := S4x704x1024) ![j.val, 0, 0] S1x704x1024.size h)) := by
  intro f d
  have w := at_1 t
  rw [arrW, ← V_main_arg1 m c]
  show (View.read (Elt Ideal) _ _) _ = _
  rw [View.read_apply]
  refine congrArg (V m c main_arg1) (funext fun a => Fin.ext ?_)
  match a with
  | ⟨0, _⟩ => show win0_1.index t 0 * 4 + 1 * (j.val + 1 * 0) = j.val; rw [w.1]; omega
  | ⟨1, _⟩ => show win0_1.index t 1 * 704 + 1 * (0 + 1 * f.val) = f.val; rw [w.2.1]; omega
  | ⟨2, _⟩ => show win0_1.index t 2 * 1024 + 1 * (0 + 1 * d.val) = d.val; rw [w.2.2]; omega

/-- The rows that a load of the third window takes. -/
theorem rows_x (t : Fin cfg0.N) (k : ℕ) (hk : k + 256 ≤ 512) (h) :
    Rows (arrX m c) (512 * t.val + k) (lt_rows t k hk)
      (View.ld (iblk m c 2 t) (Rect.unit (s := S512x1024) ![k, 0] S256x1024.size h)) := by
  intro i d
  have w := at_2 t
  rw [arrX, ← V_main_arg2 m c]
  show (View.read (Elt Ideal) _ _) _ = _
  rw [View.read_apply]
  refine congrArg (V m c main_arg2) (funext fun a => Fin.ext ?_)
  match a with
  | ⟨0, _⟩ => show win0_2.index t 0 * 512 + 1 * (k + 1 * i.val) = 512 * t.val + k + i.val; rw [w.1]; omega
  | ⟨1, _⟩ => show win0_2.index t 1 * 1024 + 1 * (0 + 1 * d.val) = d.val; rw [w.2]; omega

/-- The gain is whole at every point. -/
theorem gain (t : Fin cfg0.N) : (iblk m c 3 t : Vec Ideal S1x1024 .f32) = arrG m c := by
  have w := at_3 t
  funext y
  rw [arrG, ← V_main_arg3 m c]
  show (View.read (Elt Ideal) _ _) _ = _
  rw [View.read_apply]
  refine congrArg (V m c main_arg3) (funext fun a => Fin.ext ?_)
  match a with
  | ⟨0, _⟩ => show win0_3.index t 0 * 1 + 1 * (y 0).val = (y 0).val; rw [w.1]; omega
  | ⟨1, _⟩ => show win0_3.index t 1 * 1024 + 1 * (y 1).val = (y 1).val; rw [w.2]; omega

/-- A stored half block is what the whole block holds there. -/
theorem half (t : Fin cfg0.N) (k : ℕ) (hk : k + 256 ≤ 512) (v : S256x1024.Idx → EReal) (G : Fin 4096 → Fin 1024 → EReal) (h)
    (hv : ∀ (i : Fin 256) (d : Fin 1024), v (ix2 i d) = G ⟨512 * t.val + k + i.val, by have := lt_rows t k hk; omega⟩ d)
    (y : S256x1024.Idx) :
    v y = (fun z : S512x1024.Idx => G ⟨512 * t.val + (z 0).val, by have := lt_rows t 256 (by decide); have : (z 0).val < 512 := (z 0).isLt; omega⟩ (z 1))
      ((Rect.unit (s := S512x1024) ![k, 0] S256x1024.size h).emb y) := by
  obtain ⟨i, d, rfl⟩ : ∃ i d, y = ix2 i d := ⟨y 0, y 1, funext fun a => by fin_cases a <;> rfl⟩
  rw [hv]
  refine congr (congrArg G (Fin.ext ?_)) (Fin.ext ?_)
  · show 512 * t.val + k + i.val = 512 * t.val + (k + 1 * i.val); omega
  · show d.val = 0 + 1 * d.val; omega

/-- What a point leaves in window 4. -/
theorem left4 (t : Fin cfg0.N) (y : S512x1024.Idx) :
    out0_4 (iblk m c 0 t) (iblk m c 1 t) (iblk m c 2 t) (iblk m c 3 t) y
      = res (arrA m c) (arrW m c) (arrX m c) ⟨512 * t.val + (y 0).val, by have := lt_rows t 256 (by decide); have : (y 0).val < 512 := (y 0).isLt; omega⟩ (y 1) := by
  unfold out0_4
  refine View.canon_apply_of_pieces (Val := Elt Ideal) (e := .f32) (fun z : S512x1024.Idx => res (arrA m c) (arrW m c) (arrX m c)
    ⟨512 * t.val + (z 0).val, by have := lt_rows t 256 (by decide); have : (z 0).val < 512 := (z 0).isLt; omega⟩ (z 1)) _ ?_ _ (cover0_4 ..)
  unfold k0_pay7 k0_pay8 k0_pay9
  rw [List.forall_mem_cons, List.forall_mem_singleton]
  dsimp only
  exact ⟨half t 256 (by decide) _ (res (arrA m c) (arrW m c) (arrX m c)) _
      (res_second (lt_rows t 256 (by decide)) (rows_a m c t 0 256 (by decide) _) (plane_w m c t 0 _) (rows_a m c t 1 256 (by decide) _) (plane_w m c t 1 _) (rows_a m c t 2 256 (by decide) _) (plane_w m c t 2 _) (rows_a m c t 3 256 (by decide) _) (plane_w m c t 3 _) (rows_x m c t 256 (by decide) _)),
    half t 0 (by decide) _ (res (arrA m c) (arrW m c) (arrX m c)) _
      (res_first (lt_rows t 0 (by decide)) (rows_a m c t 0 0 (by decide) _) (plane_w m c t 0 _) (rows_a m c t 1 0 (by decide) _) (plane_w m c t 1 _) (rows_a m c t 2 0 (by decide) _) (plane_w m c t 2 _) (rows_a m c t 3 0 (by decide) _) (plane_w m c t 3 _) (rows_x m c t 0 (by decide) _))⟩

/-- What a point leaves in window 5. -/
theorem left5 (t : Fin cfg0.N) (y : S512x1024.Idx) :
    out0_5 (iblk m c 0 t) (iblk m c 1 t) (iblk m c 2 t) (iblk m c 3 t) y
      = normed (arrA m c) (arrW m c) (arrX m c) (arrG m c) ⟨512 * t.val + (y 0).val, by have := lt_rows t 256 (by decide); have : (y 0).val < 512 := (y 0).isLt; omega⟩ (y 1) := by
  unfold out0_5
  refine View.canon_apply_of_pieces (Val := Elt Ideal) (e := .bf16) (fun z : S512x1024.Idx => normed (arrA m c) (arrW m c) (arrX m c) (arrG m c)
    ⟨512 * t.val + (z 0).val, by have := lt_rows t 256 (by decide); have : (z 0).val < 512 := (z 0).isLt; omega⟩ (z 1)) _ ?_ _ (cover0_5 ..)
  unfold k0_pay7 k0_pay8 k0_pay9
  rw [List.forall_mem_cons, List.forall_mem_singleton]
  dsimp only
  exact ⟨half t 256 (by decide) _ (normed (arrA m c) (arrW m c) (arrX m c) (arrG m c)) _
      (normed_second (lt_rows t 256 (by decide)) (rows_a m c t 0 256 (by decide) _) (plane_w m c t 0 _) (rows_a m c t 1 256 (by decide) _) (plane_w m c t 1 _) (rows_a m c t 2 256 (by decide) _) (plane_w m c t 2 _) (rows_a m c t 3 256 (by decide) _) (plane_w m c t 3 _) (rows_x m c t 256 (by decide) _) ((View.ld_unit_zero (S := S1x1024) zero2 _ _).trans (gain m c t))),
    half t 0 (by decide) _ (normed (arrA m c) (arrW m c) (arrX m c) (arrG m c)) _
      (normed_first (lt_rows t 0 (by decide)) (rows_a m c t 0 0 (by decide) _) (plane_w m c t 0 _) (rows_a m c t 1 0 (by decide) _) (plane_w m c t 1 _) (rows_a m c t 2 0 (by decide) _) (plane_w m c t 2 _) (rows_a m c t 3 0 (by decide) _) (plane_w m c t 3 _) (rows_x m c t 0 (by decide) _) ((View.ld_unit_zero (S := S1x1024) zero2 _ _).trans (gain m c t)))⟩

/-- The blocks fill the array. -/
theorem out4 : (dats m 0 c).arrAt 4 cfg0.N = fun z => res (arrA m c) (arrW m c) (arrX m c) (z 0) (z 1) := by
  refine (dats m 0 c).arrAt_eq_of_cover 4 (fun z => res (arrA m c) (arrW m c) (arrX m c) (z 0) (z 1)) (fun t _ => ?_) fun i => ?_
  · rw [Value.flushed4]
    funext y
    refine (left4 m c t y).trans ?_
    rw [View.read_apply]
    refine congr (congrArg (res (arrA m c) (arrW m c) (arrX m c)) (Fin.ext ?_)) (Fin.ext ?_)
    · show 512 * t.val + (y 0).val = win0_4.index t 0 * 512 + 1 * (y 0).val; rw [(at_4 t).1]; omega
    · show (y 1).val = win0_4.index t 1 * 1024 + 1 * (y 1).val; rw [(at_4 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_4 ⟨(i 0 : Nat) / 512, hN⟩
    refine ⟨⟨(i 0 : Nat) / 512, hN⟩, flush0_4 _, ?_⟩
    show i ∈ ((View.whole main_v0_0).slice (win0_4.rect ⟨(i 0 : Nat) / 512, hN⟩)).set
    rw [View.set_slice_whole, Rect.mem_set_unit]
    intro a
    match a with
    | ⟨0, _⟩ => show win0_4.index ⟨(i 0 : Nat) / 512, hN⟩ 0 * 512 ≤ (i 0 : Nat)
                    ∧ (i 0 : Nat) < win0_4.index ⟨(i 0 : Nat) / 512, hN⟩ 0 * 512 + 512
                rw [h.1]; dsimp only; omega
    | ⟨1, _⟩ => show win0_4.index ⟨(i 0 : Nat) / 512, hN⟩ 1 * 1024 ≤ (i 1 : Nat)
                    ∧ (i 1 : Nat) < win0_4.index ⟨(i 0 : Nat) / 512, hN⟩ 1 * 1024 + 1024
                rw [h.2]; omega

/-- The blocks fill the array. -/
theorem out5 : (dats m 0 c).arrAt 5 cfg0.N = fun z => normed (arrA m c) (arrW m c) (arrX m c) (arrG m c) (z 0) (z 1) := by
  refine (dats m 0 c).arrAt_eq_of_cover 5 (fun z => normed (arrA m c) (arrW m c) (arrX m c) (arrG m c) (z 0) (z 1)) (fun t _ => ?_) fun i => ?_
  · rw [Value.flushed5]
    funext y
    refine (left5 m c t y).trans ?_
    rw [View.read_apply]
    refine congr (congrArg (normed (arrA m c) (arrW m c) (arrX m c) (arrG m c)) (Fin.ext ?_)) (Fin.ext ?_)
    · show 512 * t.val + (y 0).val = win0_5.index t 0 * 512 + 1 * (y 0).val; rw [(at_5 t).1]; omega
    · show (y 1).val = win0_5.index t 1 * 1024 + 1 * (y 1).val; rw [(at_5 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_5 ⟨(i 0 : Nat) / 512, hN⟩
    refine ⟨⟨(i 0 : Nat) / 512, hN⟩, flush0_5 _, ?_⟩
    show i ∈ ((View.whole main_v0_1).slice (win0_5.rect ⟨(i 0 : Nat) / 512, hN⟩)).set
    rw [View.set_slice_whole, Rect.mem_set_unit]
    intro a
    match a with
    | ⟨0, _⟩ => show win0_5.index ⟨(i 0 : Nat) / 512, hN⟩ 0 * 512 ≤ (i 0 : Nat)
                    ∧ (i 0 : Nat) < win0_5.index ⟨(i 0 : Nat) / 512, hN⟩ 0 * 512 + 512
                rw [h.1]; dsimp only; omega
    | ⟨1, _⟩ => show win0_5.index ⟨(i 0 : Nat) / 512, hN⟩ 1 * 1024 ≤ (i 1 : Nat)
                    ∧ (i 1 : Nat) < win0_5.index ⟨(i 0 : Nat) / 512, hN⟩ 1 * 1024 + 1024
                rw [h.2]; omega

end Kernel

section Reference

open Cert.DownFwdRefIdeal Cert.DownFwdRefIdeal.Read

variable (a : Vec Ideal S4x4096x704 .bf16) (w : Vec Ideal S4x704x1024 .bf16) (x : Vec Ideal S4096x1024 .f32) (g : Vec Ideal S1x1024 .f32)

theorem ref_res (s : Fin 4096) (d : Fin 1024) : val_main_v5 a w x (ix2 s d) = res a w x s d := by
  pointwise [val_main_v5, val_main_v2, val_main_v1, val_main_v0, val_main_v4, val_main_v3, val_main_cst]
  exact congrArg (fun s => _ + _ * s) Finset.sum_comm

theorem ref_normed (s : Fin 4096) (d : Fin 1024) : val_main_v18 a w x g (ix2 s d) = normed a w x g s d := by
  pointwise [val_main_v18, val_main_v17, val_main_v16, val_main_v15, val_main_v14, val_main_v13, val_main_v12, val_main_v11, val_main_v10, val_main_v9, val_main_v8, val_main_v7, val_main_v6, val_main_cst_0, val_main_cst_1, val_main_cst_2, ref_res]
  rfl

/-- The reference runs, keeps its arguments and has no semaphore. -/
theorem ref_frame : Cert.quiescent_DownFwdRefIdeal := fun m ρ _ =>
  (θ_run Cert.DownFwdRefIdeal.defs _ _).mono (fun r h => ⟨fun c => (h c).2.2, sem_eq_zero_of_no_sems (by decide) r.2⟩)
    (Cert.DownFwdRefIdeal.Value.run (F := Ideal) m ρ)

end Reference

open Cert.DownFwdIdeal in
/-- Kernel and reference leave the same two arrays. -/
theorem algebraic : Cert.algebraic_DownFwdIdeal_DownFwdRefIdeal := by
  intro m g m' g' _ hagree
  refine ⟨fun c z => res (arrA m c) (arrW m c) (arrX m c) (z 0) (z 1),
    fun c z => normed (arrA m c) (arrW m c) (arrX m c) (arrG m c) (z 0) (z 1), ?_, ?_⟩
  · refine (θ_run Cert.DownFwdIdeal.defs _ _).mono (fun r h c => ?_) (Cert.DownFwdIdeal.Value.run_blocks m g)
    obtain ⟨h4, h5, hk⟩ := h c
    exact ⟨h4.trans (out4 m c), h5.trans (out5 m c), hk⟩
  · refine (θ_run Cert.DownFwdRefIdeal.defs _ _).mono (fun r h c => ?_) (Cert.DownFwdRefIdeal.Value.run (F := Ideal) m' g')
    obtain ⟨h0, h1, hk⟩ := h c
    obtain ⟨ea, ew, ex, eg⟩ := hagree c
    refine ⟨?_, ?_, hk⟩
    · refine (h0.trans (Cert.DownFwdRefIdeal.Read.val_main_v5_eq ..)).trans ?_
      rw [ea, ew, ex]
      funext z
      obtain ⟨s, d, rfl⟩ : ∃ s d, z = ix2 s d := ⟨z 0, z 1, funext fun a => by fin_cases a <;> rfl⟩
      exact ref_res ..
    · refine (h1.trans (Cert.DownFwdRefIdeal.Read.val_main_v18_eq ..)).trans ?_
      rw [ea, ew, ex, eg]
      funext z
      obtain ⟨s, d, rfl⟩ : ∃ s d, z = ix2 s d := ⟨z 0, z 1, funext fun a => by fin_cases a <;> rfl⟩
      exact ref_normed ..

end Cert.DownFwdClaim
-- ==== Proof.OutFwdClaim.lean ====
/-
  The step out of a mixer: a product is added to the residual row by row, and each row is then normed. Kernel and reference
  compute the same rows; the kernel takes them in blocks of 512, each in two halves.
-/
module

public import proofs.«01_k».proof.Defs
public import proofs.«01_k».proof.Proof.RmsGrad
public import proofs.«01_k».proof.Proof.Gen.OutFwdIdeal.Value
public import proofs.«01_k».proof.Proof.Gen.OutFwdRefIdeal.Run
public import proofs.«01_k».proof.Proof.Gen.OutFwdRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.OutFwdClaim

open Idealize.ShloMosaic Idealize.ShloMosaic.TcCoe Idealize.SL.Sem
open Idealize.ShloMosaic.Pipeline (Dat)

section Values

open Cert.OutFwdIdeal

/-- The new residual at row `s`. -/
def res (a : Vec Ideal S4096x1024 .bf16) (w : Vec Ideal S1024x1024 .bf16) (x : Vec Ideal S4096x1024 .f32) (s : Fin 4096) (d : Fin 1024) :
    EReal :=
  x (ix2 s d) + ∑ f : Fin 1024, a (ix2 s f) * w (ix2 f d)

/-- Row `s` after the norm. -/
def normed (a : Vec Ideal S4096x1024 .bf16) (w : Vec Ideal S1024x1024 .bf16) (x : Vec Ideal S4096x1024 .f32) (g : Vec Ideal S1x1024 .f32)
    (s : Fin 4096) (d : Fin 1024) : EReal :=
  res a w x s d * RmsGrad.recip (res a w x s) * g (ix2 0 d)

end Values

section Kernel

open Cert.OutFwdIdeal Cert.OutFwdIdeal.Gen

/-- The vector holds 256 rows, from row `o`. -/
def RowsOf (a : Vec Ideal S4096x1024 .bf16) (o : ℕ) (ho : o + 256 ≤ 4096) (v : Vec Ideal S1x256x1024 .bf16) : Prop :=
  ∀ (i : Fin 256) (f : Fin 1024), v (ix3 0 i f) = a (ix2 ⟨o + i.val, by omega⟩ f)

/-- The vector holds the weight. -/
def PlaneOf (w : Vec Ideal S1024x1024 .bf16) (v : Vec Ideal S1x1024x1024 .bf16) : Prop :=
  ∀ (f : Fin 1024) (d : Fin 1024), v (ix3 0 f d) = w (ix2 f d)

/-- The vector holds 256 rows, from row `o`. -/
def Rows (x : Vec Ideal S4096x1024 .f32) (o : ℕ) (ho : o + 256 ≤ 4096) (v : Vec Ideal S256x1024 .f32) : Prop :=
  ∀ (i : Fin 256) (d : Fin 1024), v (ix2 i d) = x (ix2 ⟨o + i.val, by omega⟩ d)

section Chunk

variable {a : Vec Ideal S4096x1024 .bf16} {w : Vec Ideal S1024x1024 .bf16} {x : Vec Ideal S4096x1024 .f32} {g : Vec Ideal S1x1024 .f32}
  {o : ℕ} (ho : o + 256 ≤ 4096)

theorem res_first {va : Vec Ideal S1x256x1024 .bf16} {vw : Vec Ideal S1x1024x1024 .bf16} {vx : Vec Ideal S256x1024 .f32}
    (ha : RowsOf a o ho va) (hw : PlaneOf w vw) (hx : Rows x o ho vx) (i : Fin 256) (d : Fin 1024) :
    k0_pay3 va vw vx (ix2 i d) = res a w x ⟨o + i.val, by omega⟩ d := by
  unfold_payloads
  pointwise
  simp only [ha i _, hw _ _, hx i _]
  rfl

theorem normed_first {va : Vec Ideal S1x256x1024 .bf16} {vw : Vec Ideal S1x1024x1024 .bf16} {vx : Vec Ideal S256x1024 .f32} {vg : Vec Ideal S1x1024 .f32}
    (ha : RowsOf a o ho va) (hw : PlaneOf w vw) (hx : Rows x o ho vx) (hg : vg = g) (i : Fin 256) (d : Fin 1024) :
    k0_pay4 va vw vx vg (ix2 i d) = normed a w x g ⟨o + i.val, by omega⟩ d := by
  subst hg
  have h := fun k => res_first ho ha hw hx i k
  unfold k0_pay4
  generalize k0_pay3 va vw vx = r at h ⊢
  pointwise
  simp only [h]
  rfl

theorem res_second {va : Vec Ideal S1x256x1024 .bf16} {vw : Vec Ideal S1x1024x1024 .bf16} {vx : Vec Ideal S256x1024 .f32}
    (ha : RowsOf a o ho va) (hw : PlaneOf w vw) (hx : Rows x o ho vx) (i : Fin 256) (d : Fin 1024) :
    k0_pay1 (k0_pay5 va vw) vx (ix2 i d) = res a w x ⟨o + i.val, by omega⟩ d := by
  unfold_payloads
  pointwise
  simp only [ha i _, hw _ _, hx i _]
  rfl

theorem normed_second {va : Vec Ideal S1x256x1024 .bf16} {vw : Vec Ideal S1x1024x1024 .bf16} {vx : Vec Ideal S256x1024 .f32} {vg : Vec Ideal S1x1024 .f32}
    (ha : RowsOf a o ho va) (hw : PlaneOf w vw) (hx : Rows x o ho vx) (hg : vg = g) (i : Fin 256) (d : Fin 1024) :
    k0_pay2 (k0_pay5 va vw) vx vg (ix2 i d) = normed a w x g ⟨o + i.val, by omega⟩ d := by
  subst hg
  have h := fun k => res_second ho ha hw hx i k
  unfold k0_pay2
  generalize k0_pay1 (k0_pay5 va vw) vx = r at h ⊢
  pointwise
  simp only [h]
  rfl

end Chunk

variable (m : (ℓ : Loc nD τ sig) → Buf (Elt Ideal) ℓ) (c : Dev nD)

/-- The arguments. -/
abbrev arrA : Vec Ideal S4096x1024 .bf16 := m ((c : Thread nD τ).loc main_arg0)
abbrev arrW : Vec Ideal S1024x1024 .bf16 := m ((c : Thread nD τ).loc main_arg1)
abbrev arrX : Vec Ideal S4096x1024 .f32 := m ((c : Thread nD τ).loc main_arg2)
abbrev arrG : Vec Ideal S1x1024 .f32 := m ((c : Thread nD τ).loc main_arg3)

theorem zero2 : (![0, 0] : Fin 2 → Nat) = fun _ => 0 := funext fun a => by fin_cases a <;> rfl
theorem zero3 : (![0, 0, 0] : Fin 3 → Nat) = fun _ => 0 := funext fun a => by fin_cases a <;> rfl

/-- Where window 0 stands. -/
theorem at_0 (t : Fin cfg0.N) : win0_0.index t 0 = 0 ∧ win0_0.index t 1 = t.val ∧ win0_0.index t 2 = 0 := by
  rcases fin_N0 t with rfl | rfl | rfl | rfl | rfl | rfl | rfl | rfl <;> decide +kernel

/-- Where window 1 stands. -/
theorem at_1 (t : Fin cfg0.N) : win0_1.index t 0 = 0 ∧ win0_1.index t 1 = 0 ∧ win0_1.index t 2 = 0 := by
  rcases fin_N0 t with rfl | rfl | rfl | rfl | rfl | rfl | rfl | rfl <;> decide +kernel

/-- Where window 2 stands. -/
theorem at_2 (t : Fin cfg0.N) : win0_2.index t 0 = t.val ∧ win0_2.index t 1 = 0 := by
  rcases fin_N0 t with rfl | rfl | rfl | rfl | rfl | rfl | rfl | rfl <;> decide +kernel

/-- Where window 3 stands. -/
theorem at_3 (t : Fin cfg0.N) : win0_3.index t 0 = 0 ∧ win0_3.index t 1 = 0 := by
  rcases fin_N0 t with rfl | rfl | rfl | rfl | rfl | rfl | rfl | rfl <;> decide +kernel

/-- Where window 4 stands. -/
theorem at_4 (t : Fin cfg0.N) : win0_4.index t 0 = t.val ∧ win0_4.index t 1 = 0 := by
  rcases fin_N0 t with rfl | rfl | rfl | rfl | rfl | rfl | rfl | rfl <;> decide +kernel

/-- Where window 5 stands. -/
theorem at_5 (t : Fin cfg0.N) : win0_5.index t 0 = t.val ∧ win0_5.index t 1 = 0 := by
  rcases fin_N0 t with rfl | rfl | rfl | rfl | rfl | rfl | rfl | rfl <;> decide +kernel

/-- The array with an axis of one in front, as the region finds it. -/
theorem entry_main_v0 (i : Fin 4096) (j : Fin 1024) :
    V m c main_v0 (ix3 0 i j) = arrA m c (ix2 i j) := by
  have e : V m c main_v0 = broadcastInDim S1x4096x1024 ![1, 2] bcast_S4096x1024_S1x4096x1024_1_2 (m ((c : Thread nD τ).loc main_arg0)) := by
    show StableHlo.after hostOps0 (fun b => m (c, b)) (Proc.devRef .tc main_v0) = _
    after_results
  rw [e]
  show broadcastInDim S1x4096x1024 ![1, 2] _ (m ((c : Thread nD τ).loc main_arg0)) _ = m ((c : Thread nD τ).loc main_arg0) _
  generalize m ((c : Thread nD τ).loc main_arg0) = y
  pointwise

/-- The array with an axis of one in front, as the region finds it. -/
theorem entry_main_v1 (i : Fin 1024) (j : Fin 1024) :
    V m c main_v1 (ix3 0 i j) = arrW m c (ix2 i j) := by
  have e : V m c main_v1 = broadcastInDim S1x1024x1024 ![1, 2] bcast_S1024x1024_S1x1024x1024_1_2 (m ((c : Thread nD τ).loc main_arg1)) := by
    show StableHlo.after hostOps0 (fun b => m (c, b)) (Proc.devRef .tc main_v1) = _
    after_results
  rw [e]
  show broadcastInDim S1x1024x1024 ![1, 2] _ (m ((c : Thread nD τ).loc main_arg1)) _ = m ((c : Thread nD τ).loc main_arg1) _
  generalize m ((c : Thread nD τ).loc main_arg1) = y
  pointwise

theorem lt_rows (t : Fin cfg0.N) (k : ℕ) (hk : k + 256 ≤ 512) : 512 * t.val + k + 256 ≤ 4096 := by
  have : t.val < 8 := lt_of_lt_of_eq t.isLt N_0
  omega

/-- The rows that a load of the first window takes. -/
theorem rows_a (t : Fin cfg0.N) (k : ℕ) (hk : k + 256 ≤ 512) (h) :
    RowsOf (arrA m c) (512 * t.val + k) (lt_rows t k hk)
      (View.ld (iblk m c 0 t) (Rect.unit (s := S1x512x1024) ![0, k, 0] S1x256x1024.size h)) := by
  intro i f
  have w := at_0 t
  rw [← entry_main_v0 m c]
  show (View.read (Elt Ideal) _ _) _ = _
  rw [View.read_apply]
  refine congrArg (V m c main_v0) (funext fun a => Fin.ext ?_)
  match a with
  | ⟨0, _⟩ => show win0_0.index t 0 * 1 + 1 * (0 + 1 * 0) = 0; rw [w.1]
  | ⟨1, _⟩ => show win0_0.index t 1 * 512 + 1 * (k + 1 * i.val) = 512 * t.val + k + i.val; rw [w.2.1]; omega
  | ⟨2, _⟩ => show win0_0.index t 2 * 1024 + 1 * (0 + 1 * f.val) = f.val; rw [w.2.2]; omega

/-- The weight that a load of the second window takes. -/
theorem plane_w (t : Fin cfg0.N) (h) :
    PlaneOf (arrW m c) (View.ld (iblk m c 1 t) (Rect.unit (s := S1x1024x1024) ![0, 0, 0] S1x1024x1024.size h)) := by
  intro f d
  have w := at_1 t
  rw [← entry_main_v1 m c]
  show (View.read (Elt Ideal) _ _) _ = _
  rw [View.read_apply]
  refine congrArg (V m c main_v1) (funext fun a => Fin.ext ?_)
  match a with
  | ⟨0, _⟩ => show win0_1.index t 0 * 1 + 1 * (0 + 1 * 0) = 0; rw [w.1]
  | ⟨1, _⟩ => show win0_1.index t 1 * 1024 + 1 * (0 + 1 * f.val) = f.val; rw [w.2.1]; omega
  | ⟨2, _⟩ => show win0_1.index t 2 * 1024 + 1 * (0 + 1 * d.val) = d.val; rw [w.2.2]; omega

/-- The rows that a load of the third window takes. -/
theorem rows_x (t : Fin cfg0.N) (k : ℕ) (hk : k + 256 ≤ 512) (h) :
    Rows (arrX m c) (512 * t.val + k) (lt_rows t k hk)
      (View.ld (iblk m c 2 t) (Rect.unit (s := S512x1024) ![k, 0] S256x1024.size h)) := by
  intro i d
  have w := at_2 t
  rw [arrX, ← V_main_arg2 m c]
  show (View.read (Elt Ideal) _ _) _ = _
  rw [View.read_apply]
  refine congrArg (V m c main_arg2) (funext fun a => Fin.ext ?_)
  match a with
  | ⟨0, _⟩ => show win0_2.index t 0 * 512 + 1 * (k + 1 * i.val) = 512 * t.val + k + i.val; rw [w.1]; omega
  | ⟨1, _⟩ => show win0_2.index t 1 * 1024 + 1 * (0 + 1 * d.val) = d.val; rw [w.2]; omega

/-- The gain is whole at every point. -/
theorem gain (t : Fin cfg0.N) : (iblk m c 3 t : Vec Ideal S1x1024 .f32) = arrG m c := by
  have w := at_3 t
  funext y
  rw [arrG, ← V_main_arg3 m c]
  show (View.read (Elt Ideal) _ _) _ = _
  rw [View.read_apply]
  refine congrArg (V m c main_arg3) (funext fun a => Fin.ext ?_)
  match a with
  | ⟨0, _⟩ => show win0_3.index t 0 * 1 + 1 * (y 0).val = (y 0).val; rw [w.1]; omega
  | ⟨1, _⟩ => show win0_3.index t 1 * 1024 + 1 * (y 1).val = (y 1).val; rw [w.2]; omega

/-- A stored half block is what the whole block holds there. -/
theorem half (t : Fin cfg0.N) (k : ℕ) (hk : k + 256 ≤ 512) (v : S256x1024.Idx → EReal) (G : Fin 4096 → Fin 1024 → EReal) (h)
    (hv : ∀ (i : Fin 256) (d : Fin 1024), v (ix2 i d) = G ⟨512 * t.val + k + i.val, by have := lt_rows t k hk; omega⟩ d)
    (y : S256x1024.Idx) :
    v y = (fun z : S512x1024.Idx => G ⟨512 * t.val + (z 0).val, by have := lt_rows t 256 (by decide); have : (z 0).val < 512 := (z 0).isLt; omega⟩ (z 1))
      ((Rect.unit (s := S512x1024) ![k, 0] S256x1024.size h).emb y) := by
  obtain ⟨i, d, rfl⟩ : ∃ i d, y = ix2 i d := ⟨y 0, y 1, funext fun a => by fin_cases a <;> rfl⟩
  rw [hv]
  refine congr (congrArg G (Fin.ext ?_)) (Fin.ext ?_)
  · show 512 * t.val + k + i.val = 512 * t.val + (k + 1 * i.val); omega
  · show d.val = 0 + 1 * d.val; omega

/-- What a point leaves in window 4. -/
theorem left4 (t : Fin cfg0.N) (y : S512x1024.Idx) :
    out0_4 (iblk m c 0 t) (iblk m c 1 t) (iblk m c 2 t) (iblk m c 3 t) y
      = res (arrA m c) (arrW m c) (arrX m c) ⟨512 * t.val + (y 0).val, by have := lt_rows t 256 (by decide); have : (y 0).val < 512 := (y 0).isLt; omega⟩ (y 1) := by
  unfold out0_4
  refine View.canon_apply_of_pieces (Val := Elt Ideal) (e := .f32) (fun z : S512x1024.Idx => res (arrA m c) (arrW m c) (arrX m c)
    ⟨512 * t.val + (z 0).val, by have := lt_rows t 256 (by decide); have : (z 0).val < 512 := (z 0).isLt; omega⟩ (z 1)) _ ?_ _ (cover0_4 ..)
  unfold k0_pay6
  rw [List.forall_mem_cons, List.forall_mem_singleton]
  dsimp only
  exact ⟨half t 256 (by decide) _ (res (arrA m c) (arrW m c) (arrX m c)) _
      (res_second (lt_rows t 256 (by decide)) (rows_a m c t 256 (by decide) _) (plane_w m c t _) (rows_x m c t 256 (by decide) _)),
    half t 0 (by decide) _ (res (arrA m c) (arrW m c) (arrX m c)) _
      (res_first (lt_rows t 0 (by decide)) (rows_a m c t 0 (by decide) _) (plane_w m c t _) (rows_x m c t 0 (by decide) _))⟩

/-- What a point leaves in window 5. -/
theorem left5 (t : Fin cfg0.N) (y : S512x1024.Idx) :
    out0_5 (iblk m c 0 t) (iblk m c 1 t) (iblk m c 2 t) (iblk m c 3 t) y
      = normed (arrA m c) (arrW m c) (arrX m c) (arrG m c) ⟨512 * t.val + (y 0).val, by have := lt_rows t 256 (by decide); have : (y 0).val < 512 := (y 0).isLt; omega⟩ (y 1) := by
  unfold out0_5
  refine View.canon_apply_of_pieces (Val := Elt Ideal) (e := .bf16) (fun z : S512x1024.Idx => normed (arrA m c) (arrW m c) (arrX m c) (arrG m c)
    ⟨512 * t.val + (z 0).val, by have := lt_rows t 256 (by decide); have : (z 0).val < 512 := (z 0).isLt; omega⟩ (z 1)) _ ?_ _ (cover0_5 ..)
  unfold k0_pay6
  rw [List.forall_mem_cons, List.forall_mem_singleton]
  dsimp only
  exact ⟨half t 256 (by decide) _ (normed (arrA m c) (arrW m c) (arrX m c) (arrG m c)) _
      (normed_second (lt_rows t 256 (by decide)) (rows_a m c t 256 (by decide) _) (plane_w m c t _) (rows_x m c t 256 (by decide) _) ((View.ld_unit_zero (S := S1x1024) zero2 _ _).trans (gain m c t))),
    half t 0 (by decide) _ (normed (arrA m c) (arrW m c) (arrX m c) (arrG m c)) _
      (normed_first (lt_rows t 0 (by decide)) (rows_a m c t 0 (by decide) _) (plane_w m c t _) (rows_x m c t 0 (by decide) _) ((View.ld_unit_zero (S := S1x1024) zero2 _ _).trans (gain m c t)))⟩

/-- The blocks fill the array. -/
theorem out4 : (dats m 0 c).arrAt 4 cfg0.N = fun z => res (arrA m c) (arrW m c) (arrX m c) (z 0) (z 1) := by
  refine (dats m 0 c).arrAt_eq_of_cover 4 (fun z => res (arrA m c) (arrW m c) (arrX m c) (z 0) (z 1)) (fun t _ => ?_) fun i => ?_
  · rw [Value.flushed4]
    funext y
    refine (left4 m c t y).trans ?_
    rw [View.read_apply]
    refine congr (congrArg (res (arrA m c) (arrW m c) (arrX m c)) (Fin.ext ?_)) (Fin.ext ?_)
    · show 512 * t.val + (y 0).val = win0_4.index t 0 * 512 + 1 * (y 0).val; rw [(at_4 t).1]; omega
    · show (y 1).val = win0_4.index t 1 * 1024 + 1 * (y 1).val; rw [(at_4 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_4 ⟨(i 0 : Nat) / 512, hN⟩
    refine ⟨⟨(i 0 : Nat) / 512, hN⟩, flush0_4 _, ?_⟩
    show i ∈ ((View.whole main_v2_0).slice (win0_4.rect ⟨(i 0 : Nat) / 512, hN⟩)).set
    rw [View.set_slice_whole, Rect.mem_set_unit]
    intro a
    match a with
    | ⟨0, _⟩ => show win0_4.index ⟨(i 0 : Nat) / 512, hN⟩ 0 * 512 ≤ (i 0 : Nat)
                    ∧ (i 0 : Nat) < win0_4.index ⟨(i 0 : Nat) / 512, hN⟩ 0 * 512 + 512
                rw [h.1]; dsimp only; omega
    | ⟨1, _⟩ => show win0_4.index ⟨(i 0 : Nat) / 512, hN⟩ 1 * 1024 ≤ (i 1 : Nat)
                    ∧ (i 1 : Nat) < win0_4.index ⟨(i 0 : Nat) / 512, hN⟩ 1 * 1024 + 1024
                rw [h.2]; omega

/-- The blocks fill the array. -/
theorem out5 : (dats m 0 c).arrAt 5 cfg0.N = fun z => normed (arrA m c) (arrW m c) (arrX m c) (arrG m c) (z 0) (z 1) := by
  refine (dats m 0 c).arrAt_eq_of_cover 5 (fun z => normed (arrA m c) (arrW m c) (arrX m c) (arrG m c) (z 0) (z 1)) (fun t _ => ?_) fun i => ?_
  · rw [Value.flushed5]
    funext y
    refine (left5 m c t y).trans ?_
    rw [View.read_apply]
    refine congr (congrArg (normed (arrA m c) (arrW m c) (arrX m c) (arrG m c)) (Fin.ext ?_)) (Fin.ext ?_)
    · show 512 * t.val + (y 0).val = win0_5.index t 0 * 512 + 1 * (y 0).val; rw [(at_5 t).1]; omega
    · show (y 1).val = win0_5.index t 1 * 1024 + 1 * (y 1).val; rw [(at_5 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_5 ⟨(i 0 : Nat) / 512, hN⟩
    refine ⟨⟨(i 0 : Nat) / 512, hN⟩, flush0_5 _, ?_⟩
    show i ∈ ((View.whole main_v2_1).slice (win0_5.rect ⟨(i 0 : Nat) / 512, hN⟩)).set
    rw [View.set_slice_whole, Rect.mem_set_unit]
    intro a
    match a with
    | ⟨0, _⟩ => show win0_5.index ⟨(i 0 : Nat) / 512, hN⟩ 0 * 512 ≤ (i 0 : Nat)
                    ∧ (i 0 : Nat) < win0_5.index ⟨(i 0 : Nat) / 512, hN⟩ 0 * 512 + 512
                rw [h.1]; dsimp only; omega
    | ⟨1, _⟩ => show win0_5.index ⟨(i 0 : Nat) / 512, hN⟩ 1 * 1024 ≤ (i 1 : Nat)
                    ∧ (i 1 : Nat) < win0_5.index ⟨(i 0 : Nat) / 512, hN⟩ 1 * 1024 + 1024
                rw [h.2]; omega

end Kernel

section Reference

open Cert.OutFwdRefIdeal Cert.OutFwdRefIdeal.Read

variable (a : Vec Ideal S4096x1024 .bf16) (w : Vec Ideal S1024x1024 .bf16) (x : Vec Ideal S4096x1024 .f32) (g : Vec Ideal S1x1024 .f32)

theorem ref_res (s : Fin 4096) (d : Fin 1024) : val_main_v3 a w x (ix2 s d) = res a w x s d := by
  pointwise [val_main_v3, val_main_v2, val_main_v1, val_main_v0]
  rfl

theorem ref_normed (s : Fin 4096) (d : Fin 1024) : val_main_v16 a w x g (ix2 s d) = normed a w x g s d := by
  pointwise [val_main_v16, val_main_v15, val_main_v14, val_main_v13, val_main_v12, val_main_v11, val_main_v10, val_main_v9, val_main_v8, val_main_v7, val_main_v6, val_main_v5, val_main_v4, val_main_cst_0, val_main_cst_1, val_main_cst, ref_res]
  rfl

/-- The reference runs, keeps its arguments and has no semaphore. -/
theorem ref_frame : Cert.quiescent_OutFwdRefIdeal := fun m ρ _ =>
  (θ_run Cert.OutFwdRefIdeal.defs _ _).mono (fun r h => ⟨fun c => (h c).2.2, sem_eq_zero_of_no_sems (by decide) r.2⟩)
    (Cert.OutFwdRefIdeal.Value.run (F := Ideal) m ρ)

end Reference

open Cert.OutFwdIdeal in
/-- Kernel and reference leave the same two arrays. -/
theorem algebraic : Cert.algebraic_OutFwdIdeal_OutFwdRefIdeal := by
  intro m g m' g' _ hagree
  refine ⟨fun c z => res (arrA m c) (arrW m c) (arrX m c) (z 0) (z 1),
    fun c z => normed (arrA m c) (arrW m c) (arrX m c) (arrG m c) (z 0) (z 1), ?_, ?_⟩
  · refine (θ_run Cert.OutFwdIdeal.defs _ _).mono (fun r h c => ?_) (Cert.OutFwdIdeal.Value.run_blocks m g)
    obtain ⟨h4, h5, hk⟩ := h c
    exact ⟨h4.trans (out4 m c), h5.trans (out5 m c), hk⟩
  · refine (θ_run Cert.OutFwdRefIdeal.defs _ _).mono (fun r h c => ?_) (Cert.OutFwdRefIdeal.Value.run (F := Ideal) m' g')
    obtain ⟨h0, h1, hk⟩ := h c
    obtain ⟨ea, ew, ex, eg⟩ := hagree c
    refine ⟨?_, ?_, hk⟩
    · refine (h0.trans (Cert.OutFwdRefIdeal.Read.val_main_v3_eq ..)).trans ?_
      rw [ea, ew, ex]
      funext z
      obtain ⟨s, d, rfl⟩ : ∃ s d, z = ix2 s d := ⟨z 0, z 1, funext fun a => by fin_cases a <;> rfl⟩
      exact ref_res ..
    · refine (h1.trans (Cert.OutFwdRefIdeal.Read.val_main_v16_eq ..)).trans ?_
      rw [ea, ew, ex, eg]
      funext z
      obtain ⟨s, d, rfl⟩ : ∃ s d, z = ix2 s d := ⟨z 0, z 1, funext fun a => by fin_cases a <;> rfl⟩
      exact ref_normed ..

end Cert.OutFwdClaim
-- ==== Proof.DownLossClaim.lean ====
/-
  The last step: the second gated layer's product is summed over its planes, halved and added to the residual, each row is
  normed and compared with its target, and the loss goes back through the norm at once. The loss and the gain's gradient are
  added up over the points. The reference's three terms of the gradient at the norm's input are the
  kernel's one bracket.
-/
module

public import proofs.«01_k».proof.Defs
public import proofs.«01_k».proof.Proof.RmsGrad
public import proofs.«01_k».proof.Proof.Sums
public import proofs.«01_k».proof.Proof.Gen.DownLossIdeal.Value
public import proofs.«01_k».proof.Proof.Gen.DownLossRefIdeal.Run
public import proofs.«01_k».proof.Proof.Gen.DownLossRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.DownLossClaim

open Idealize.ShloMosaic Idealize.ShloMosaic.TcCoe Idealize.SL.Sem
open Idealize.ShloMosaic.Pipeline (Dat)

section Values

open Cert.DownLossIdeal

variable (a : Vec Ideal S4x4096x704 .bf16) (w : Vec Ideal S4x704x1024 .bf16) (x : Vec Ideal S4096x1024 .f32)
  (g : Vec Ideal S1x1024 .f32) (r : Vec Ideal S4096x1024 .f32)

/-- The last residual at row `s`. -/
def res (s : Fin 4096) (d : Fin 1024) : EReal :=
  x (ix2 s d) + Ideal.ofBits FTy.f32 0x3F000000#32 * ∑ j : Fin 4, ∑ f : Fin 704, a (ix3 j s f) * w (ix3 j f d)

/-- The normed row less its target. -/
def err (s : Fin 4096) (d : Fin 1024) : EReal :=
  res a w x s d * RmsGrad.recip (res a w x s) * g (ix2 0 d) - r (ix2 s d)

/-- What the loss sends back to the normed row. -/
def dy (s : Fin 4096) (d : Fin 1024) : EReal := err a w x g r s d * Ideal.ofBits FTy.f32 0x3A800000#32

/-- The gradient at the last residual. -/
def dx (s : Fin 4096) (d : Fin 1024) : EReal :=
  RmsGrad.grad (res a w x s) (fun k => g (ix2 0 k)) (dy a w x g r s) 0 d

/-- Row `s`'s share of the gain's gradient; nothing beyond the last row. -/
def term (d : Fin 1024) (s : ℕ) : EReal :=
  if h : s < 4096 then dy a w x g r ⟨s, h⟩ d * (res a w x ⟨s, h⟩ d * RmsGrad.recip (res a w x ⟨s, h⟩)) else 0

/-- Row `s`'s share of the loss. -/
def cost (s : ℕ) : EReal :=
  if h : s < 4096 then Ideal.ofBits FTy.f32 0x3F000000#32
    * Ideal.div (∑ d : Fin 1024, err a w x g r ⟨s, h⟩ d * err a w x g r ⟨s, h⟩ d) (Ideal.ofBits FTy.f32 1149239296#32) else 0

end Values

/-- A quantity summed over the first `n` rows. -/
def upTo (f : ℕ → EReal) (n : ℕ) : EReal := ∑ s ∈ Finset.range n, f s

/-- A block of rows more. -/
theorem upTo_add (f : ℕ → EReal) (n : ℕ) : upTo f (n + 256) = upTo f n + ∑ i : Fin 256, f (n + i.val) := by
  unfold upTo
  rw [Finset.sum_range_add, Finset.sum_range (fun i => f (n + i))]

section Kernel

open Cert.DownLossIdeal Cert.DownLossIdeal.Gen

/-- The vector holds plane `j` of 256 rows, from row `o`. -/
def RowsOf (a : Vec Ideal S4x4096x704 .bf16) (j : Fin 4) (o : ℕ) (ho : o + 256 ≤ 4096) (v : Vec Ideal S1x256x704 .bf16) : Prop :=
  ∀ (i : Fin 256) (f : Fin 704), v (ix3 0 i f) = a (ix3 j ⟨o + i.val, by omega⟩ f)

/-- The vector holds plane `j` of the weight. -/
def PlaneOf (w : Vec Ideal S4x704x1024 .bf16) (j : Fin 4) (v : Vec Ideal S1x704x1024 .bf16) : Prop :=
  ∀ (f : Fin 704) (d : Fin 1024), v (ix3 0 f d) = w (ix3 j f d)

/-- The vector holds 256 rows, from row `o`. -/
def Rows (x : Vec Ideal S4096x1024 .f32) (o : ℕ) (ho : o + 256 ≤ 4096) (v : Vec Ideal S256x1024 .f32) : Prop :=
  ∀ (i : Fin 256) (d : Fin 1024), v (ix2 i d) = x (ix2 ⟨o + i.val, by omega⟩ d)

section Chunk

variable {a : Vec Ideal S4x4096x704 .bf16} {w : Vec Ideal S4x704x1024 .bf16} {x : Vec Ideal S4096x1024 .f32}
  {g vg : Vec Ideal S1x1024 .f32} {r : Vec Ideal S4096x1024 .f32} {o : ℕ} (ho : o + 256 ≤ 4096)
  {a0 : Vec Ideal S1x256x704 .bf16} {w0 : Vec Ideal S1x704x1024 .bf16} {a1 : Vec Ideal S1x256x704 .bf16}
  {w1 : Vec Ideal S1x704x1024 .bf16} {a2 : Vec Ideal S1x256x704 .bf16} {w2 : Vec Ideal S1x704x1024 .bf16}
  {a3 : Vec Ideal S1x256x704 .bf16} {w3 : Vec Ideal S1x704x1024 .bf16} {vx vr : Vec Ideal S256x1024 .f32}

/-- What eight loads and the residual's hold. -/
structure Loads (a : Vec Ideal S4x4096x704 .bf16) (w : Vec Ideal S4x704x1024 .bf16) (x : Vec Ideal S4096x1024 .f32) (o : ℕ)
    (ho : o + 256 ≤ 4096) (a0 : Vec Ideal S1x256x704 .bf16) (w0 : Vec Ideal S1x704x1024 .bf16) (a1 : Vec Ideal S1x256x704 .bf16)
    (w1 : Vec Ideal S1x704x1024 .bf16) (a2 : Vec Ideal S1x256x704 .bf16) (w2 : Vec Ideal S1x704x1024 .bf16)
    (a3 : Vec Ideal S1x256x704 .bf16) (w3 : Vec Ideal S1x704x1024 .bf16) (vx : Vec Ideal S256x1024 .f32) : Prop where
  ha0 : RowsOf a 0 o ho a0
  hw0 : PlaneOf w 0 w0
  ha1 : RowsOf a 1 o ho a1
  hw1 : PlaneOf w 1 w1
  ha2 : RowsOf a 2 o ho a2
  hw2 : PlaneOf w 2 w2
  ha3 : RowsOf a 3 o ho a3
  hw3 : PlaneOf w 3 w3
  hx : Rows x o ho vx

theorem res_first (hl : Loads a w x o ho a0 w0 a1 w1 a2 w2 a3 w3 vx) (i : Fin 256) (d : Fin 1024) : k0_pay9 (k0_pay8 a0 w0 a1 w1 a2 w2 a3 w3) vx (ix2 i d) = res a w x ⟨o + i.val, by omega⟩ d := by
  obtain ⟨ha0, hw0, ha1, hw1, ha2, hw2, ha3, hw3, hx⟩ := hl
  unfold_payloads
  pointwise
  simp only [ha0 i _, hw0 _ _, ha1 i _, hw1 _ _, ha2 i _, hw2 _ _, ha3 i _, hw3 _ _, hx i _]
  rw [res, Fin.sum_univ_four]

/-- The first 256 rows go back through the norm. -/
theorem dx_first (hl : Loads a w x o ho a0 w0 a1 w1 a2 w2 a3 w3 vx) (hg : vg = g) (hr : Rows r o ho vr) (i : Fin 256)
    (d : Fin 1024) : (k0_pay15 (k0_pay8 a0 w0 a1 w1 a2 w2 a3 w3) vx vg vr) (ix2 i d) = dx a w x g r ⟨o + i.val, by omega⟩ d := by
  subst hg
  have h := fun i k => res_first ho hl i k
  unfold k0_pay15 k0_pay14 k0_pay12 k0_pay11 k0_pay10
  generalize k0_pay9 (k0_pay8 a0 w0 a1 w1 a2 w2 a3 w3) vx = y at h ⊢
  pointwise
  simp only [h, hr i _]
  exact (zero_add _).symm

/-- The same rows, rounded. -/
theorem dxb_first (hl : Loads a w x o ho a0 w0 a1 w1 a2 w2 a3 w3 vx) (hg : vg = g) (hr : Rows r o ho vr) (i : Fin 256)
    (d : Fin 1024) : (k0_pay16 (k0_pay15 (k0_pay8 a0 w0 a1 w1 a2 w2 a3 w3) vx vg vr)) (ix2 i d) = dx a w x g r ⟨o + i.val, by omega⟩ d := by
  rw [← dx_first ho hl hg hr i d]
  unfold k0_pay16
  pointwise

/-- The first 256 rows' share of the loss. -/
theorem loss_first (hl : Loads a w x o ho a0 w0 a1 w1 a2 w2 a3 w3 vx) (hg : vg = g) (hr : Rows r o ho vr) (acc : Vec Ideal S8x128 .f32)
    (p : Fin 8) (q : Fin 128) : (k0_pay17 (k0_pay13 (k0_pay8 a0 w0 a1 w1 a2 w2 a3 w3) vx vg vr) acc) (ix2 p q) = acc (ix2 p q) + ∑ i : Fin 256, cost a w x g r (o + i.val) := by
  subst hg
  have h := fun i k => res_first ho hl i k
  unfold k0_pay17 k0_pay13 k0_pay12 k0_pay11 k0_pay10
  generalize k0_pay9 (k0_pay8 a0 w0 a1 w1 a2 w2 a3 w3) vx = y at h ⊢
  pointwise
  refine congrArg (_ + ·) ((Sums.half_mul_sum _ _).trans (Finset.sum_congr rfl fun i _ => ?_))
  simp only [h, hr i _]
  rw [cost, dif_pos (by omega)]
  rfl

/-- The first 256 rows' share of the gain's gradient. -/
theorem dg_first (hl : Loads a w x o ho a0 w0 a1 w1 a2 w2 a3 w3 vx) (hg : vg = g) (hr : Rows r o ho vr) (acc : Vec Ideal S1x1024 .f32)
    (d : Fin 1024) : (k0_pay18 (k0_pay11 (k0_pay8 a0 w0 a1 w1 a2 w2 a3 w3) vx) (k0_pay14 (k0_pay8 a0 w0 a1 w1 a2 w2 a3 w3) vx vg vr) acc) (ix2 0 d) = acc (ix2 0 d) + ∑ i : Fin 256, term a w x g r d (o + i.val) := by
  subst hg
  have h := fun i k => res_first ho hl i k
  unfold k0_pay18 k0_pay14 k0_pay12 k0_pay11 k0_pay10
  generalize k0_pay9 (k0_pay8 a0 w0 a1 w1 a2 w2 a3 w3) vx = y at h ⊢
  pointwise
  refine congrArg (_ + ·) (Finset.sum_congr rfl fun i _ => ?_)
  simp only [h, hr i _]
  rw [term, dif_pos (by omega)]
  rfl

theorem res_second (hl : Loads a w x o ho a0 w0 a1 w1 a2 w2 a3 w3 vx) (i : Fin 256) (d : Fin 1024) : k0_pay21 (k0_pay19 a0 w0 a1 w1) (k0_pay20 a2) w2 a3 w3 vx (ix2 i d) = res a w x ⟨o + i.val, by omega⟩ d := by
  obtain ⟨ha0, hw0, ha1, hw1, ha2, hw2, ha3, hw3, hx⟩ := hl
  unfold_payloads
  pointwise
  simp only [ha0 i _, hw0 _ _, ha1 i _, hw1 _ _, ha2 i _, hw2 _ _, ha3 i _, hw3 _ _, hx i _]
  rw [res, Fin.sum_univ_four]

/-- The second 256 rows go back through the norm. -/
theorem dx_second (hl : Loads a w x o ho a0 w0 a1 w1 a2 w2 a3 w3 vx) (hg : vg = g) (hr : Rows r o ho vr) (i : Fin 256)
    (d : Fin 1024) : (k0_pay2 (k0_pay22 (k0_pay19 a0 w0 a1 w1) (k0_pay20 a2) w2 a3 w3 vx) (k0_pay23 (k0_pay19 a0 w0 a1 w1) (k0_pay20 a2) w2 a3 w3 vx) vg (k0_pay24 (k0_pay19 a0 w0 a1 w1) (k0_pay20 a2) w2 a3 w3 vx vg vr)) (ix2 i d) = dx a w x g r ⟨o + i.val, by omega⟩ d := by
  subst hg
  have h := fun i k => res_second ho hl i k
  unfold k0_pay2 k0_pay1 k0_pay24 k0_pay23 k0_pay22
  generalize k0_pay21 (k0_pay19 a0 w0 a1 w1) (k0_pay20 a2) w2 a3 w3 vx = y at h ⊢
  pointwise
  simp only [h, hr i _]
  exact (zero_add _).symm

/-- The same rows, rounded. -/
theorem dxb_second (hl : Loads a w x o ho a0 w0 a1 w1 a2 w2 a3 w3 vx) (hg : vg = g) (hr : Rows r o ho vr) (i : Fin 256)
    (d : Fin 1024) : (k0_pay3 (k0_pay22 (k0_pay19 a0 w0 a1 w1) (k0_pay20 a2) w2 a3 w3 vx) (k0_pay23 (k0_pay19 a0 w0 a1 w1) (k0_pay20 a2) w2 a3 w3 vx) vg (k0_pay24 (k0_pay19 a0 w0 a1 w1) (k0_pay20 a2) w2 a3 w3 vx vg vr)) (ix2 i d) = dx a w x g r ⟨o + i.val, by omega⟩ d := by
  rw [← dx_second ho hl hg hr i d]
  unfold k0_pay3
  pointwise

/-- The second 256 rows' share of the loss. -/
theorem loss_second (hl : Loads a w x o ho a0 w0 a1 w1 a2 w2 a3 w3 vx) (hg : vg = g) (hr : Rows r o ho vr) (acc : Vec Ideal S8x128 .f32)
    (p : Fin 8) (q : Fin 128) : (k0_pay4 (k0_pay25 (k0_pay19 a0 w0 a1 w1) (k0_pay20 a2) w2 a3 w3 vx vg vr) acc) (ix2 p q) = acc (ix2 p q) + ∑ i : Fin 256, cost a w x g r (o + i.val) := by
  subst hg
  have h := fun i k => res_second ho hl i k
  unfold k0_pay4 k0_pay25 k0_pay24 k0_pay23 k0_pay22
  generalize k0_pay21 (k0_pay19 a0 w0 a1 w1) (k0_pay20 a2) w2 a3 w3 vx = y at h ⊢
  pointwise
  refine congrArg (_ + ·) ((Sums.half_mul_sum _ _).trans (Finset.sum_congr rfl fun i _ => ?_))
  simp only [h, hr i _]
  rw [cost, dif_pos (by omega)]
  rfl

/-- The second 256 rows' share of the gain's gradient. -/
theorem dg_second (hl : Loads a w x o ho a0 w0 a1 w1 a2 w2 a3 w3 vx) (hg : vg = g) (hr : Rows r o ho vr) (acc : Vec Ideal S1x1024 .f32)
    (d : Fin 1024) : (k0_pay5 (k0_pay23 (k0_pay19 a0 w0 a1 w1) (k0_pay20 a2) w2 a3 w3 vx) (k0_pay24 (k0_pay19 a0 w0 a1 w1) (k0_pay20 a2) w2 a3 w3 vx vg vr) acc) (ix2 0 d) = acc (ix2 0 d) + ∑ i : Fin 256, term a w x g r d (o + i.val) := by
  subst hg
  have h := fun i k => res_second ho hl i k
  unfold k0_pay5 k0_pay1 k0_pay24 k0_pay23 k0_pay22
  generalize k0_pay21 (k0_pay19 a0 w0 a1 w1) (k0_pay20 a2) w2 a3 w3 vx = y at h ⊢
  pointwise
  refine congrArg (_ + ·) (Finset.sum_congr rfl fun i _ => ?_)
  simp only [h, hr i _]
  rw [term, dif_pos (by omega)]
  rfl

end Chunk

variable (m : (ℓ : Loc nD τ sig) → Buf (Elt Ideal) ℓ) (c : Dev nD)

/-- The arguments. -/
abbrev arrA : Vec Ideal S4x4096x704 .bf16 := m ((c : Thread nD τ).loc main_arg0)
abbrev arrW : Vec Ideal S4x704x1024 .bf16 := m ((c : Thread nD τ).loc main_arg1)
abbrev arrX : Vec Ideal S4096x1024 .f32 := m ((c : Thread nD τ).loc main_arg2)
abbrev arrG : Vec Ideal S1x1024 .f32 := m ((c : Thread nD τ).loc main_arg3)
abbrev arrR : Vec Ideal S4096x1024 .f32 := m ((c : Thread nD τ).loc main_arg4)

theorem zero2 : (![0, 0] : Fin 2 → Nat) = fun _ => 0 := funext fun a => by fin_cases a <;> rfl
theorem zero3 : (![0, 0, 0] : Fin 3 → Nat) = fun _ => 0 := funext fun a => by fin_cases a <;> rfl

/-- Where window 0 stands. -/
theorem at_0 (t : Fin cfg0.N) : win0_0.index t 0 = 0 ∧ win0_0.index t 1 = t.val ∧ win0_0.index t 2 = 0 := by
  rcases fin_N0 t with rfl | rfl | rfl | rfl | rfl | rfl | rfl | rfl <;> decide +kernel

/-- Where window 1 stands. -/
theorem at_1 (t : Fin cfg0.N) : win0_1.index t 0 = 0 ∧ win0_1.index t 1 = 0 ∧ win0_1.index t 2 = 0 := by
  rcases fin_N0 t with rfl | rfl | rfl | rfl | rfl | rfl | rfl | rfl <;> decide +kernel

/-- Where window 2 stands. -/
theorem at_2 (t : Fin cfg0.N) : win0_2.index t 0 = t.val ∧ win0_2.index t 1 = 0 := by
  rcases fin_N0 t with rfl | rfl | rfl | rfl | rfl | rfl | rfl | rfl <;> decide +kernel

/-- Where window 3 stands. -/
theorem at_3 (t : Fin cfg0.N) : win0_3.index t 0 = 0 ∧ win0_3.index t 1 = 0 := by
  rcases fin_N0 t with rfl | rfl | rfl | rfl | rfl | rfl | rfl | rfl <;> decide +kernel

/-- Where window 4 stands. -/
theorem at_4 (t : Fin cfg0.N) : win0_4.index t 0 = t.val ∧ win0_4.index t 1 = 0 := by
  rcases fin_N0 t with rfl | rfl | rfl | rfl | rfl | rfl | rfl | rfl <;> decide +kernel

/-- Where window 5 stands. -/
theorem at_5 (t : Fin cfg0.N) : win0_5.index t 0 = t.val ∧ win0_5.index t 1 = 0 := by
  rcases fin_N0 t with rfl | rfl | rfl | rfl | rfl | rfl | rfl | rfl <;> decide +kernel

/-- Where window 6 stands. -/
theorem at_6 (t : Fin cfg0.N) : win0_6.index t 0 = t.val ∧ win0_6.index t 1 = 0 := by
  rcases fin_N0 t with rfl | rfl | rfl | rfl | rfl | rfl | rfl | rfl <;> decide +kernel

/-- Where window 7 stands. -/
theorem at_7 (t : Fin cfg0.N) : win0_7.index t 0 = 0 ∧ win0_7.index t 1 = 0 := by
  rcases fin_N0 t with rfl | rfl | rfl | rfl | rfl | rfl | rfl | rfl <;> decide +kernel

/-- Where window 8 stands. -/
theorem at_8 (t : Fin cfg0.N) : win0_8.index t 0 = 0 ∧ win0_8.index t 1 = 0 := by
  rcases fin_N0 t with rfl | rfl | rfl | rfl | rfl | rfl | rfl | rfl <;> decide +kernel

theorem lt_rows (t : Fin cfg0.N) (k : ℕ) (hk : k + 256 ≤ 512) : 512 * t.val + k + 256 ≤ 4096 := by
  have : t.val < 8 := lt_of_lt_of_eq t.isLt N_0
  omega

/-- The rows that a load of the first window takes. -/
theorem rows_a (t : Fin cfg0.N) (j : Fin 4) (k : ℕ) (hk : k + 256 ≤ 512) (h) :
    RowsOf (arrA m c) j (512 * t.val + k) (lt_rows t k hk)
      (View.ld (iblk m c 0 t) (Rect.unit (s := S4x512x704) ![j.val, k, 0] S1x256x704.size h)) := by
  intro i f
  have w := at_0 t
  rw [arrA, ← V_main_arg0 m c]
  show (View.read (Elt Ideal) _ _) _ = _
  rw [View.read_apply]
  refine congrArg (V m c main_arg0) (funext fun a => Fin.ext ?_)
  match a with
  | ⟨0, _⟩ => show win0_0.index t 0 * 4 + 1 * (j.val + 1 * 0) = j.val; rw [w.1]; omega
  | ⟨1, _⟩ => show win0_0.index t 1 * 512 + 1 * (k + 1 * i.val) = 512 * t.val + k + i.val; rw [w.2.1]; omega
  | ⟨2, _⟩ => show win0_0.index t 2 * 704 + 1 * (0 + 1 * f.val) = f.val; rw [w.2.2]; omega

/-- The weight that a load of the second window takes. -/
theorem plane_w (t : Fin cfg0.N) (j : Fin 4) (h) :
    PlaneOf (arrW m c) j (View.ld (iblk m c 1 t) (Rect.unit (s := S4x704x1024) ![j.val, 0, 0] S1x704x1024.size h)) := by
  intro f d
  have w := at_1 t
  rw [arrW, ← V_main_arg1 m c]
  show (View.read (Elt Ideal) _ _) _ = _
  rw [View.read_apply]
  refine congrArg (V m c main_arg1) (funext fun a => Fin.ext ?_)
  match a with
  | ⟨0, _⟩ => show win0_1.index t 0 * 4 + 1 * (j.val + 1 * 0) = j.val; rw [w.1]; omega
  | ⟨1, _⟩ => show win0_1.index t 1 * 704 + 1 * (0 + 1 * f.val) = f.val; rw [w.2.1]; omega
  | ⟨2, _⟩ => show win0_1.index t 2 * 1024 + 1 * (0 + 1 * d.val) = d.val; rw [w.2.2]; omega

/-- The rows that a load of window 2 takes. -/
theorem rows_x (t : Fin cfg0.N) (k : ℕ) (hk : k + 256 ≤ 512) (h) :
    Rows (arrX m c) (512 * t.val + k) (lt_rows t k hk)
      (View.ld (iblk m c 2 t) (Rect.unit (s := S512x1024) ![k, 0] S256x1024.size h)) := by
  intro i d
  have w := at_2 t
  rw [arrX, ← V_main_arg2 m c]
  show (View.read (Elt Ideal) _ _) _ = _
  rw [View.read_apply]
  refine congrArg (V m c main_arg2) (funext fun a => Fin.ext ?_)
  match a with
  | ⟨0, _⟩ => show win0_2.index t 0 * 512 + 1 * (k + 1 * i.val) = 512 * t.val + k + i.val; rw [w.1]; omega
  | ⟨1, _⟩ => show win0_2.index t 1 * 1024 + 1 * (0 + 1 * d.val) = d.val; rw [w.2]; omega

/-- The rows that a load of window 4 takes. -/
theorem rows_r (t : Fin cfg0.N) (k : ℕ) (hk : k + 256 ≤ 512) (h) :
    Rows (arrR m c) (512 * t.val + k) (lt_rows t k hk)
      (View.ld (iblk m c 4 t) (Rect.unit (s := S512x1024) ![k, 0] S256x1024.size h)) := by
  intro i d
  have w := at_4 t
  rw [arrR, ← V_main_arg4 m c]
  show (View.read (Elt Ideal) _ _) _ = _
  rw [View.read_apply]
  refine congrArg (V m c main_arg4) (funext fun a => Fin.ext ?_)
  match a with
  | ⟨0, _⟩ => show win0_4.index t 0 * 512 + 1 * (k + 1 * i.val) = 512 * t.val + k + i.val; rw [w.1]; omega
  | ⟨1, _⟩ => show win0_4.index t 1 * 1024 + 1 * (0 + 1 * d.val) = d.val; rw [w.2]; omega

/-- What a half block's loads hold. -/
theorem loads (t : Fin cfg0.N) (k : ℕ) (hk : k + 256 ≤ 512) (h0) (p0) (h1) (p1) (h2) (p2) (h3) (p3) (hx) :
    Loads (arrA m c) (arrW m c) (arrX m c) (512 * t.val + k) (lt_rows t k hk)
      (View.ld (iblk m c 0 t) (Rect.unit (s := S4x512x704) ![0, k, 0] S1x256x704.size h0))
      (View.ld (iblk m c 1 t) (Rect.unit (s := S4x704x1024) ![0, 0, 0] S1x704x1024.size p0))
      (View.ld (iblk m c 0 t) (Rect.unit (s := S4x512x704) ![1, k, 0] S1x256x704.size h1))
      (View.ld (iblk m c 1 t) (Rect.unit (s := S4x704x1024) ![1, 0, 0] S1x704x1024.size p1))
      (View.ld (iblk m c 0 t) (Rect.unit (s := S4x512x704) ![2, k, 0] S1x256x704.size h2))
      (View.ld (iblk m c 1 t) (Rect.unit (s := S4x704x1024) ![2, 0, 0] S1x704x1024.size p2))
      (View.ld (iblk m c 0 t) (Rect.unit (s := S4x512x704) ![3, k, 0] S1x256x704.size h3))
      (View.ld (iblk m c 1 t) (Rect.unit (s := S4x704x1024) ![3, 0, 0] S1x704x1024.size p3))
      (View.ld (iblk m c 2 t) (Rect.unit (s := S512x1024) ![k, 0] S256x1024.size hx)) :=
  ⟨rows_a m c t 0 k hk h0, plane_w m c t 0 p0, rows_a m c t 1 k hk h1, plane_w m c t 1 p1, rows_a m c t 2 k hk h2,
    plane_w m c t 2 p2, rows_a m c t 3 k hk h3, plane_w m c t 3 p3, rows_x m c t k hk hx⟩

/-- The gain is whole at every point. -/
theorem gain (t : Fin cfg0.N) : (iblk m c 3 t : Vec Ideal S1x1024 .f32) = arrG m c := by
  have w := at_3 t
  funext y
  rw [arrG, ← V_main_arg3 m c]
  show (View.read (Elt Ideal) _ _) _ = _
  rw [View.read_apply]
  refine congrArg (V m c main_arg3) (funext fun a => Fin.ext ?_)
  match a with
  | ⟨0, _⟩ => show win0_3.index t 0 * 1 + 1 * (y 0).val = (y 0).val; rw [w.1]; omega
  | ⟨1, _⟩ => show win0_3.index t 1 * 1024 + 1 * (y 1).val = (y 1).val; rw [w.2]; omega

/-- A stored half block is what the whole block holds there. -/
theorem half (t : Fin cfg0.N) (k : ℕ) (hk : k + 256 ≤ 512) (v : S256x1024.Idx → EReal) (G : Fin 4096 → Fin 1024 → EReal) (h)
    (hv : ∀ (i : Fin 256) (d : Fin 1024), v (ix2 i d) = G ⟨512 * t.val + k + i.val, by have := lt_rows t k hk; omega⟩ d)
    (y : S256x1024.Idx) :
    v y = (fun z : S512x1024.Idx => G ⟨512 * t.val + (z 0).val, by have := lt_rows t 256 (by decide); have : (z 0).val < 512 := (z 0).isLt; omega⟩ (z 1))
      ((Rect.unit (s := S512x1024) ![k, 0] S256x1024.size h).emb y) := by
  obtain ⟨i, d, rfl⟩ : ∃ i d, y = ix2 i d := ⟨y 0, y 1, funext fun a => by fin_cases a <;> rfl⟩
  rw [hv]
  refine congr (congrArg G (Fin.ext ?_)) (Fin.ext ?_)
  · show 512 * t.val + k + i.val = 512 * t.val + (k + 1 * i.val); omega
  · show d.val = 0 + 1 * d.val; omega

/-- A point's rows of the gradient. -/
def rowsOut (t : Fin cfg0.N) : S512x1024.Idx → EReal := fun z =>
  dx (arrA m c) (arrW m c) (arrX m c) (arrG m c) (arrR m c)
    ⟨512 * t.val + (z 0).val, by have := lt_rows t 256 (by decide); have : (z 0).val < 512 := (z 0).isLt; omega⟩ (z 1)

theorem left5_A (t : Fin cfg0.N) (h0 : t.val % 8 = 0) (y : S512x1024.Idx) :
    (outsAt0 m c t.val t.isLt).1 y = rowsOut m c t y := by
  rw [outsAt0_A m c t h0]
  dsimp only
  unfold out0_A_5
  rw [View.read_writes_junk_eq_canon]
  refine View.canon_apply_of_pieces (Val := Elt Ideal) (e := .f32) (rowsOut m c t) _ ?_ _ (cover0_A_5 ..)
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [List.forall_mem_cons, List.forall_mem_singleton]
  dsimp only
  rw [gain m c t]
  exact ⟨half t 256 (by decide) _ (dx (arrA m c) (arrW m c) (arrX m c) (arrG m c) (arrR m c)) _ (dx_second (lt_rows t 256 (by decide)) (loads m c t 256 (by decide) ..) rfl (rows_r m c t 256 (by decide) _)),
    half t 0 (by decide) _ (dx (arrA m c) (arrW m c) (arrX m c) (arrG m c) (arrR m c)) _ (dx_first (lt_rows t 0 (by decide)) (loads m c t 0 (by decide) ..) rfl (rows_r m c t 0 (by decide) _))⟩

theorem left5_B (t : Fin cfg0.N) (h0 : ¬t.val % 8 = 0) (y : S512x1024.Idx) :
    (outsAt0 m c t.val t.isLt).1 y = rowsOut m c t y := by
  rw [outsAt0_B m c t h0]
  dsimp only
  unfold out0_B_5
  rw [View.read_writes_junk_eq_canon]
  refine View.canon_apply_of_pieces (Val := Elt Ideal) (e := .f32) (rowsOut m c t) _ ?_ _ (cover0_B_5 ..)
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [List.forall_mem_cons, List.forall_mem_singleton]
  dsimp only
  rw [gain m c t]
  exact ⟨half t 256 (by decide) _ (dx (arrA m c) (arrW m c) (arrX m c) (arrG m c) (arrR m c)) _ (dx_second (lt_rows t 256 (by decide)) (loads m c t 256 (by decide) ..) rfl (rows_r m c t 256 (by decide) _)),
    half t 0 (by decide) _ (dx (arrA m c) (arrW m c) (arrX m c) (arrG m c) (arrR m c)) _ (dx_first (lt_rows t 0 (by decide)) (loads m c t 0 (by decide) ..) rfl (rows_r m c t 0 (by decide) _))⟩

theorem left5 (t : Fin cfg0.N) (y : S512x1024.Idx) : (outsAt0 m c t.val t.isLt).1 y = rowsOut m c t y := by
  by_cases h0 : t.val % 8 = 0
  · exact left5_A m c t h0 y
  · exact left5_B m c t h0 y

theorem left6_A (t : Fin cfg0.N) (h0 : t.val % 8 = 0) (y : S512x1024.Idx) :
    (outsAt0 m c t.val t.isLt).2.1 y = rowsOut m c t y := by
  rw [outsAt0_A m c t h0]
  dsimp only
  unfold out0_A_6
  rw [View.read_writes_junk_eq_canon]
  refine View.canon_apply_of_pieces (Val := Elt Ideal) (e := .bf16) (rowsOut m c t) _ ?_ _ (cover0_A_6 ..)
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [List.forall_mem_cons, List.forall_mem_singleton]
  dsimp only
  rw [gain m c t]
  exact ⟨half t 256 (by decide) _ (dx (arrA m c) (arrW m c) (arrX m c) (arrG m c) (arrR m c)) _ (dxb_second (lt_rows t 256 (by decide)) (loads m c t 256 (by decide) ..) rfl (rows_r m c t 256 (by decide) _)),
    half t 0 (by decide) _ (dx (arrA m c) (arrW m c) (arrX m c) (arrG m c) (arrR m c)) _ (dxb_first (lt_rows t 0 (by decide)) (loads m c t 0 (by decide) ..) rfl (rows_r m c t 0 (by decide) _))⟩

theorem left6_B (t : Fin cfg0.N) (h0 : ¬t.val % 8 = 0) (y : S512x1024.Idx) :
    (outsAt0 m c t.val t.isLt).2.1 y = rowsOut m c t y := by
  rw [outsAt0_B m c t h0]
  dsimp only
  unfold out0_B_6
  rw [View.read_writes_junk_eq_canon]
  refine View.canon_apply_of_pieces (Val := Elt Ideal) (e := .bf16) (rowsOut m c t) _ ?_ _ (cover0_B_6 ..)
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [List.forall_mem_cons, List.forall_mem_singleton]
  dsimp only
  rw [gain m c t]
  exact ⟨half t 256 (by decide) _ (dx (arrA m c) (arrW m c) (arrX m c) (arrG m c) (arrR m c)) _ (dxb_second (lt_rows t 256 (by decide)) (loads m c t 256 (by decide) ..) rfl (rows_r m c t 256 (by decide) _)),
    half t 0 (by decide) _ (dx (arrA m c) (arrW m c) (arrX m c) (arrG m c) (arrR m c)) _ (dxb_first (lt_rows t 0 (by decide)) (loads m c t 0 (by decide) ..) rfl (rows_r m c t 0 (by decide) _))⟩

theorem left6 (t : Fin cfg0.N) (y : S512x1024.Idx) : (outsAt0 m c t.val t.isLt).2.1 y = rowsOut m c t y := by
  by_cases h0 : t.val % 8 = 0
  · exact left6_A m c t h0 y
  · exact left6_B m c t h0 y

/-- What a point of this case leaves in window 7. -/
theorem left7_A (t : Fin cfg0.N) (h0 : t.val % 8 = 0) (p : Fin 8) (q : Fin 128) :
    (outsAt0 m c t.val t.isLt).2.2.1 (ix2 p q) = 0
      + (∑ i : Fin 256, cost (arrA m c) (arrW m c) (arrX m c) (arrG m c) (arrR m c) (512 * t.val + 0 + i.val)) + (∑ i : Fin 256, cost (arrA m c) (arrW m c) (arrX m c) (arrG m c) (arrR m c) (512 * t.val + 256 + i.val)) := by
  rw [outsAt0_A m c t h0]
  dsimp only
  unfold out0_A_7
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [View.canon_cons_unit_zero zero2]
  refine (loss_second (g := arrG m c) (lt_rows t 256 (by decide)) (loads m c t 256 (by decide) ..) (gain m c t) (rows_r m c t 256 (by decide) _) _ p q).trans ?_
  refine congrArg (· + _) ((loss_first (g := arrG m c) (lt_rows t 0 (by decide)) (loads m c t 0 (by decide) ..) (gain m c t) (rows_r m c t 0 (by decide) _) _ p q).trans ?_)
  refine congrArg (· + _) ?_
  unfold_payloads
  pointwise

/-- What a point of this case leaves in window 7. -/
theorem left7_B (t : Fin cfg0.N) (h0 : ¬t.val % 8 = 0) (p : Fin 8) (q : Fin 128) :
    (outsAt0 m c t.val t.isLt).2.2.1 (ix2 p q) = (outsAt0 m c (t.val - 1) (lt_of_le_of_lt (Nat.sub_le _ _) t.isLt)).2.2.1 (ix2 p q)
      + (∑ i : Fin 256, cost (arrA m c) (arrW m c) (arrX m c) (arrG m c) (arrR m c) (512 * t.val + 0 + i.val)) + (∑ i : Fin 256, cost (arrA m c) (arrW m c) (arrX m c) (arrG m c) (arrR m c) (512 * t.val + 256 + i.val)) := by
  rw [outsAt0_B m c t h0]
  dsimp only
  unfold out0_B_7
  rw [View.read_writes_junk_eq_canon]
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [View.canon_cons_unit_zero zero2]
  refine (loss_second (g := arrG m c) (lt_rows t 256 (by decide)) (loads m c t 256 (by decide) ..) (gain m c t) (rows_r m c t 256 (by decide) _) _ p q).trans ?_
  refine congrArg (· + _) ((loss_first (g := arrG m c) (lt_rows t 0 (by decide)) (loads m c t 0 (by decide) ..) (gain m c t) (rows_r m c t 0 (by decide) _) _ p q).trans ?_)
  rfl

/-- What window 7 holds over the rows up to a point. -/
theorem left7 (p : Fin 8) (q : Fin 128) (n : ℕ) : ∀ hn : n < cfg0.N,
    (outsAt0 m c n hn).2.2.1 (ix2 p q) = upTo (cost (arrA m c) (arrW m c) (arrX m c) (arrG m c) (arrR m c)) (512 * n + 512) := by
  induction n with
  | zero =>
    intro hn
    refine (left7_A m c ⟨0, hn⟩ rfl p q).trans ?_
    rw [show 512 * 0 + 512 = 0 + 256 + 256 from rfl, upTo_add, upTo_add, show upTo _ 0 = 0 from Finset.sum_range_zero _]
    rfl
  | succ n ih =>
    intro hn
    have h8 : n + 1 < 8 := lt_of_lt_of_eq hn N_0
    refine (left7_B m c ⟨n + 1, hn⟩ (show ¬(n + 1) % 8 = 0 by omega) p q).trans ?_
    rw [show 512 * (n + 1) + 512 = 512 * (n + 1) + 256 + 256 from rfl, upTo_add, upTo_add]
    refine congrArg (· + _) (congrArg (· + _) ?_)
    exact ih (by omega)

/-- What a point of this case leaves in window 8. -/
theorem left8_A (t : Fin cfg0.N) (h0 : t.val % 8 = 0) (d : Fin 1024) :
    (outsAt0 m c t.val t.isLt).2.2.2 (ix2 0 d) = 0
      + (∑ i : Fin 256, term (arrA m c) (arrW m c) (arrX m c) (arrG m c) (arrR m c) d (512 * t.val + 0 + i.val)) + (∑ i : Fin 256, term (arrA m c) (arrW m c) (arrX m c) (arrG m c) (arrR m c) d (512 * t.val + 256 + i.val)) := by
  rw [outsAt0_A m c t h0]
  dsimp only
  unfold out0_A_8
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [View.canon_cons_unit_zero zero2]
  refine (dg_second (g := arrG m c) (lt_rows t 256 (by decide)) (loads m c t 256 (by decide) ..) (gain m c t) (rows_r m c t 256 (by decide) _) _ d).trans ?_
  refine congrArg (· + _) ((dg_first (g := arrG m c) (lt_rows t 0 (by decide)) (loads m c t 0 (by decide) ..) (gain m c t) (rows_r m c t 0 (by decide) _) _ d).trans ?_)
  refine congrArg (· + _) ?_
  unfold_payloads
  pointwise

/-- What a point of this case leaves in window 8. -/
theorem left8_B (t : Fin cfg0.N) (h0 : ¬t.val % 8 = 0) (d : Fin 1024) :
    (outsAt0 m c t.val t.isLt).2.2.2 (ix2 0 d) = (outsAt0 m c (t.val - 1) (lt_of_le_of_lt (Nat.sub_le _ _) t.isLt)).2.2.2 (ix2 0 d)
      + (∑ i : Fin 256, term (arrA m c) (arrW m c) (arrX m c) (arrG m c) (arrR m c) d (512 * t.val + 0 + i.val)) + (∑ i : Fin 256, term (arrA m c) (arrW m c) (arrX m c) (arrG m c) (arrR m c) d (512 * t.val + 256 + i.val)) := by
  rw [outsAt0_B m c t h0]
  dsimp only
  unfold out0_B_8
  rw [View.read_writes_junk_eq_canon]
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2, View.ld_unit_zero (S := S8x128) zero2]
  rw [View.canon_cons_unit_zero zero2]
  refine (dg_second (g := arrG m c) (lt_rows t 256 (by decide)) (loads m c t 256 (by decide) ..) (gain m c t) (rows_r m c t 256 (by decide) _) _ d).trans ?_
  refine congrArg (· + _) ((dg_first (g := arrG m c) (lt_rows t 0 (by decide)) (loads m c t 0 (by decide) ..) (gain m c t) (rows_r m c t 0 (by decide) _) _ d).trans ?_)
  rfl

/-- What window 8 holds over the rows up to a point. -/
theorem left8 (d : Fin 1024) (n : ℕ) : ∀ hn : n < cfg0.N,
    (outsAt0 m c n hn).2.2.2 (ix2 0 d) = upTo (term (arrA m c) (arrW m c) (arrX m c) (arrG m c) (arrR m c) d) (512 * n + 512) := by
  induction n with
  | zero =>
    intro hn
    refine (left8_A m c ⟨0, hn⟩ rfl d).trans ?_
    rw [show 512 * 0 + 512 = 0 + 256 + 256 from rfl, upTo_add, upTo_add, show upTo _ 0 = 0 from Finset.sum_range_zero _]
    rfl
  | succ n ih =>
    intro hn
    have h8 : n + 1 < 8 := lt_of_lt_of_eq hn N_0
    refine (left8_B m c ⟨n + 1, hn⟩ (show ¬(n + 1) % 8 = 0 by omega) d).trans ?_
    rw [show 512 * (n + 1) + 512 = 512 * (n + 1) + 256 + 256 from rfl, upTo_add, upTo_add]
    refine congrArg (· + _) (congrArg (· + _) ?_)
    exact ih (by omega)

/-- The blocks fill the array. -/
theorem out5 : (dats m 0 c).arrAt 5 cfg0.N = fun z => dx (arrA m c) (arrW m c) (arrX m c) (arrG m c) (arrR m c) (z 0) (z 1) := by
  refine (dats m 0 c).arrAt_eq_of_cover 5 (fun z => dx (arrA m c) (arrW m c) (arrX m c) (arrG m c) (arrR m c) (z 0) (z 1)) (fun t _ => ?_) fun i => ?_
  · rw [Value.flushed5]
    funext y
    refine (left5 m c t y).trans ?_
    rw [View.read_apply]
    refine congr (congrArg (dx (arrA m c) (arrW m c) (arrX m c) (arrG m c) (arrR m c)) (Fin.ext ?_)) (Fin.ext ?_)
    · show 512 * t.val + (y 0).val = win0_5.index t 0 * 512 + 1 * (y 0).val; rw [(at_5 t).1]; omega
    · show (y 1).val = win0_5.index t 1 * 1024 + 1 * (y 1).val; rw [(at_5 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_5 ⟨(i 0 : Nat) / 512, hN⟩
    refine ⟨⟨(i 0 : Nat) / 512, hN⟩, flush0_5 _, ?_⟩
    show i ∈ ((View.whole main_v0_0).slice (win0_5.rect ⟨(i 0 : Nat) / 512, hN⟩)).set
    rw [View.set_slice_whole, Rect.mem_set_unit]
    intro a
    match a with
    | ⟨0, _⟩ => show win0_5.index ⟨(i 0 : Nat) / 512, hN⟩ 0 * 512 ≤ (i 0 : Nat)
                    ∧ (i 0 : Nat) < win0_5.index ⟨(i 0 : Nat) / 512, hN⟩ 0 * 512 + 512
                rw [h.1]; dsimp only; omega
    | ⟨1, _⟩ => show win0_5.index ⟨(i 0 : Nat) / 512, hN⟩ 1 * 1024 ≤ (i 1 : Nat)
                    ∧ (i 1 : Nat) < win0_5.index ⟨(i 0 : Nat) / 512, hN⟩ 1 * 1024 + 1024
                rw [h.2]; omega

/-- The blocks fill the array. -/
theorem out6 : (dats m 0 c).arrAt 6 cfg0.N = fun z => dx (arrA m c) (arrW m c) (arrX m c) (arrG m c) (arrR m c) (z 0) (z 1) := by
  refine (dats m 0 c).arrAt_eq_of_cover 6 (fun z => dx (arrA m c) (arrW m c) (arrX m c) (arrG m c) (arrR m c) (z 0) (z 1)) (fun t _ => ?_) fun i => ?_
  · rw [Value.flushed6]
    funext y
    refine (left6 m c t y).trans ?_
    rw [View.read_apply]
    refine congr (congrArg (dx (arrA m c) (arrW m c) (arrX m c) (arrG m c) (arrR m c)) (Fin.ext ?_)) (Fin.ext ?_)
    · show 512 * t.val + (y 0).val = win0_6.index t 0 * 512 + 1 * (y 0).val; rw [(at_6 t).1]; omega
    · show (y 1).val = win0_6.index t 1 * 1024 + 1 * (y 1).val; rw [(at_6 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_6 ⟨(i 0 : Nat) / 512, hN⟩
    refine ⟨⟨(i 0 : Nat) / 512, hN⟩, flush0_6 _, ?_⟩
    show i ∈ ((View.whole main_v0_1).slice (win0_6.rect ⟨(i 0 : Nat) / 512, hN⟩)).set
    rw [View.set_slice_whole, Rect.mem_set_unit]
    intro a
    match a with
    | ⟨0, _⟩ => show win0_6.index ⟨(i 0 : Nat) / 512, hN⟩ 0 * 512 ≤ (i 0 : Nat)
                    ∧ (i 0 : Nat) < win0_6.index ⟨(i 0 : Nat) / 512, hN⟩ 0 * 512 + 512
                rw [h.1]; dsimp only; omega
    | ⟨1, _⟩ => show win0_6.index ⟨(i 0 : Nat) / 512, hN⟩ 1 * 1024 ≤ (i 1 : Nat)
                    ∧ (i 1 : Nat) < win0_6.index ⟨(i 0 : Nat) / 512, hN⟩ 1 * 1024 + 1024
                rw [h.2]; omega

/-- The last point writes window 7 back. -/
theorem out7 : (dats m 0 c).arrAt 7 cfg0.N = fun _ => upTo (cost (arrA m c) (arrW m c) (arrX m c) (arrG m c) (arrR m c)) 4096 := by
  refine (dats m 0 c).arrAt_eq_of_cover 7 (fun _ => upTo (cost (arrA m c) (arrW m c) (arrX m c) (arrG m c) (arrR m c)) 4096) (fun t hf => ?_) fun i => ?_
  · have h := at_7 t
    have hN : t.val < 8 := lt_of_lt_of_eq t.isLt N_0
    have h7 : t.val % 8 = 7 := (flush0_7 t).mp hf
    rw [Value.flushed7]
    funext y
    obtain ⟨z, d, rfl⟩ : ∃ z d, y = ix2 z d := ⟨y 0, y 1, funext fun a => by fin_cases a <;> rfl⟩
    refine (left7 m c z d t.val t.isLt).trans ?_
    rw [View.read_apply, show 512 * t.val + 512 = 4096 by omega]
    rfl
  · have h0 : (i 0 : Nat) < 8 := (i 0).isLt
    have h1 : (i 1 : Nat) < 128 := (i 1).isLt
    have h := at_7 t0_7
    refine ⟨t0_7, (flush0_7 t0_7).mpr rfl, ?_⟩
    show i ∈ ((View.whole main_v0_2).slice (win0_7.rect t0_7)).set
    rw [View.set_slice_whole, Rect.mem_set_unit]
    intro a
    match a with
    | ⟨0, _⟩ => show win0_7.index t0_7 0 * 8 ≤ (i 0 : Nat) ∧ (i 0 : Nat) < win0_7.index t0_7 0 * 8 + 8
                rw [h.1]; omega
    | ⟨1, _⟩ => show win0_7.index t0_7 1 * 128 ≤ (i 1 : Nat) ∧ (i 1 : Nat) < win0_7.index t0_7 1 * 128 + 128
                rw [h.2]; omega

/-- The last point writes window 8 back. -/
theorem out8 : (dats m 0 c).arrAt 8 cfg0.N = fun z => upTo (term (arrA m c) (arrW m c) (arrX m c) (arrG m c) (arrR m c) (z 1)) 4096 := by
  refine (dats m 0 c).arrAt_eq_of_cover 8 (fun z => upTo (term (arrA m c) (arrW m c) (arrX m c) (arrG m c) (arrR m c) (z 1)) 4096) (fun t hf => ?_) fun i => ?_
  · have h := at_8 t
    have hN : t.val < 8 := lt_of_lt_of_eq t.isLt N_0
    have h7 : t.val % 8 = 7 := (flush0_8 t).mp hf
    rw [Value.flushed8]
    funext y
    obtain ⟨z, d, rfl⟩ : ∃ z d, y = ix2 z d := ⟨y 0, y 1, funext fun a => by fin_cases a <;> rfl⟩
    obtain rfl : z = 0 := Subsingleton.elim _ _
    refine (left8 m c d t.val t.isLt).trans ?_
    rw [View.read_apply, show 512 * t.val + 512 = 4096 by omega]
    refine congrArg (fun k : Fin 1024 => upTo (term (arrA m c) (arrW m c) (arrX m c) (arrG m c) (arrR m c) k) 4096) (Fin.ext ?_)
    show d.val = win0_8.index t 1 * 1024 + 1 * d.val; rw [h.2]; omega
  · have h0 : (i 0 : Nat) < 1 := (i 0).isLt
    have h1 : (i 1 : Nat) < 1024 := (i 1).isLt
    have h := at_8 t0_7
    refine ⟨t0_7, (flush0_8 t0_7).mpr rfl, ?_⟩
    show i ∈ ((View.whole main_v0_3).slice (win0_8.rect t0_7)).set
    rw [View.set_slice_whole, Rect.mem_set_unit]
    intro a
    match a with
    | ⟨0, _⟩ => show win0_8.index t0_7 0 * 1 ≤ (i 0 : Nat) ∧ (i 0 : Nat) < win0_8.index t0_7 0 * 1 + 1
                rw [h.1]; omega
    | ⟨1, _⟩ => show win0_8.index t0_7 1 * 1024 ≤ (i 1 : Nat) ∧ (i 1 : Nat) < win0_8.index t0_7 1 * 1024 + 1024
                rw [h.2]; omega

end Kernel

section Reference

open Cert.DownLossRefIdeal Cert.DownLossRefIdeal.Read

variable (a : Vec Ideal S4x4096x704 .bf16) (w : Vec Ideal S4x704x1024 .bf16) (x : Vec Ideal S4096x1024 .f32)
  (g : Vec Ideal S1x1024 .f32) (r : Vec Ideal S4096x1024 .f32)

theorem ref_res (s : Fin 4096) (d : Fin 1024) : val_main_v5 a w x (ix2 s d) = res a w x s d := by
  pointwise [val_main_v5, val_main_v4, val_main_v3, val_main_v2, val_main_v1, val_main_v0, val_main_cst]
  exact congrArg (fun s => _ + _ * s) Finset.sum_comm

/-- The reciprocal of a row's root mean square. -/
theorem ref_recip (s : Fin 4096) : val_main_v13 a w x (ix2 s 0) = RmsGrad.recip (res a w x s) := by
  pointwise [val_main_v13, val_main_v12, val_main_v11, val_main_v10, val_main_v9, val_main_v8, val_main_v7, val_main_v6, val_main_cst_0, val_main_cst_1, val_main_cst_2, ref_res]
  rfl

theorem ref_normed (s : Fin 4096) (d : Fin 1024) :
    val_main_v18 a w x (ix2 s d) = res a w x s d * RmsGrad.recip (res a w x s) := by
  pointwise [val_main_v18, val_main_v17, ref_res, ref_recip]

theorem ref_err (s : Fin 4096) (d : Fin 1024) : val_main_v21 a w x g r (ix2 s d) = err a w x g r s d := by
  pointwise [val_main_v21, val_main_v20, val_main_v19, ref_normed]
  rfl

theorem two_eq : Ideal.ofBits FTy.f32 0x40000000#32 = ((2 : ℝ) : EReal) := by
  simp [Ideal.ofBits, Ideal.ieee, ← EReal.coe_mul]
  norm_num

theorem part_eq : Ideal.ofBits FTy.f32 0x3A800000#32 = ((1 / 1024 : ℝ) : EReal) := by
  simp [Ideal.ofBits, Ideal.ieee, ← EReal.coe_mul]
  norm_num

theorem one_eq : Ideal.ofBits FTy.f32 0x3F800000#32 = ((1 : ℝ) : EReal) := by
  simp [Ideal.ofBits, Ideal.ieee, ← EReal.coe_mul]
  norm_num

/-- The derivative of half a mean square: the two and the half go out. -/
theorem share_eq (e : EReal) : Ideal.div (Ideal.ofBits FTy.f32 0x3F000000#32) (Ideal.ofBits FTy.f32 1149239296#32)
    * (Ideal.ofBits FTy.f32 0x40000000#32 * e) = e * Ideal.ofBits FTy.f32 0x3A800000#32 := by
  rw [Sums.half_eq, RmsGrad.width_eq, two_eq, part_eq, Ideal.div_coe (by norm_num), ← mul_assoc, ← EReal.coe_mul, ← EReal.coe_mul, mul_comm e]
  norm_num

theorem ref_dy (s : Fin 4096) (d : Fin 1024) : val_main_v35 a w x g r (ix2 s d) = dy a w x g r s d := by
  pointwise [val_main_v35, val_main_v34, val_main_v33, val_main_v32, val_main_v31, val_main_v30, val_main_v24, val_main_v23, val_main_cst_4, val_main_cst_9, val_main_cst_10, val_main_cst_11, ref_err]
  exact share_eq _

/-- The loss. -/
theorem ref_loss (z : S8x128.Idx) : val_main_v56 a w x g r z = upTo (cost a w x g r) 4096 := by
  obtain ⟨p, q, rfl⟩ : ∃ p q, z = ix2 p q := ⟨z 0, z 1, funext fun a => by fin_cases a <;> rfl⟩
  pointwise [val_main_v56, val_main_v29, val_main_v28, val_main_v27, val_main_v26, val_main_v25, val_main_v22, val_main_cst_5, val_main_cst_6, val_main_cst_7, val_main_cst_8, ref_err]
  refine (Sums.half_mul_sum _ _).trans ?_
  unfold upTo
  rw [Finset.sum_range]
  refine Finset.sum_congr rfl fun s _ => ?_
  rw [cost, dif_pos s.isLt]

/-- The gain's gradient. -/
theorem ref_gain (z : S1x1024.Idx) : val_main_v38 a w x g r z = upTo (term a w x g r (z 1)) 4096 := by
  obtain ⟨o, d, rfl⟩ : ∃ o d, z = ix2 o d := ⟨z 0, z 1, funext fun a => by fin_cases a <;> rfl⟩
  obtain rfl : o = 0 := Subsingleton.elim _ _
  pointwise [val_main_v38, val_main_v37, val_main_v36, val_main_cst_12, ref_normed, ref_dy]
  unfold upTo
  rw [Finset.sum_range]
  refine Finset.sum_congr rfl fun s _ => ?_
  show _ = term a w x g r d s
  rw [term, dif_pos s.isLt, mul_comm]

/-- The gradient at the norm's input. -/
theorem ref_grad (z : S4096x1024.Idx) :
    val_main_v54 a w x g r z = dx a w x g r (z 0) (z 1) := by
  obtain ⟨s, d, rfl⟩ : ∃ s d, z = ix2 s d := ⟨z 0, z 1, funext fun a => by fin_cases a <;> rfl⟩
  have e : val_main_v12 a w x (ix2 s 0) = RmsGrad.meanSq (res a w x s) := by
    pointwise [val_main_v12, val_main_v11, val_main_v10, val_main_v9, val_main_v8, val_main_v7, val_main_v6, val_main_cst_0, val_main_cst_1, val_main_cst_2, ref_res]
    rfl
  pointwise [val_main_v54, val_main_v53, val_main_v52, val_main_v51, val_main_v50, val_main_v49, val_main_v48, val_main_v47, val_main_v46, val_main_v45, val_main_v44, val_main_v43, val_main_v42, val_main_v41, val_main_v40, val_main_v39, val_main_v16, val_main_v15, val_main_v14, val_main_cst_3, val_main_cst_13, val_main_cst_14, val_main_cst_15, ref_res, ref_recip, ref_dy, e]
  simp only [Finset.univ_unique, Finset.sum_singleton]
  refine Eq.trans ?_ (RmsGrad.grad_eq ..).symm
  rw [show val_main_v13 a w x (ix2 s default) = _ from ref_recip a w x s, show val_main_v12 a w x (ix2 s default) = _ from e,
    zero_add (dy a w x g r s d * g (ix2 0 d) * RmsGrad.recip (res a w x s))]
  rfl

/-- The rounded gradient is the gradient. -/
theorem ref_gradb (z : S4096x1024.Idx) : val_main_v55 a w x g r z = val_main_v54 a w x g r z := by
  pointwise [val_main_v55]

/-- The reference runs, keeps its arguments and has no semaphore. -/
theorem ref_frame : Cert.quiescent_DownLossRefIdeal := fun m ρ _ =>
  (θ_run Cert.DownLossRefIdeal.defs _ _).mono (fun r h => ⟨fun c => (h c).2.2.2.2, sem_eq_zero_of_no_sems (by decide) r.2⟩)
    (Cert.DownLossRefIdeal.Value.run (F := Ideal) m ρ)

end Reference

open Cert.DownLossIdeal in
/-- Kernel and reference leave the same four arrays. -/
theorem algebraic : Cert.algebraic_DownLossIdeal_DownLossRefIdeal := by
  intro m g m' g' _ hagree
  refine ⟨fun c z => dx (arrA m c) (arrW m c) (arrX m c) (arrG m c) (arrR m c) (z 0) (z 1), fun c z => dx (arrA m c) (arrW m c) (arrX m c) (arrG m c) (arrR m c) (z 0) (z 1), fun c _ => upTo (cost (arrA m c) (arrW m c) (arrX m c) (arrG m c) (arrR m c)) 4096,
    fun c z => upTo (term (arrA m c) (arrW m c) (arrX m c) (arrG m c) (arrR m c) (z 1)) 4096, ?_, ?_⟩
  · refine (θ_run Cert.DownLossIdeal.defs _ _).mono (fun r h c => ?_) (Cert.DownLossIdeal.Value.run_blocks m g)
    obtain ⟨h5, h6, h7, h8, hk⟩ := h c
    exact ⟨h5.trans (out5 m c), h6.trans (out6 m c), h7.trans (out7 m c), h8.trans (out8 m c), hk⟩
  · refine (θ_run Cert.DownLossRefIdeal.defs _ _).mono (fun r h c => ?_) (Cert.DownLossRefIdeal.Value.run (F := Ideal) m' g')
    obtain ⟨h0, h1, h2, h3, hk⟩ := h c
    obtain ⟨ea, ew, ex, eg, er⟩ := hagree c
    have key := fun z => ref_grad (arrA m c) (arrW m c) (arrX m c) (arrG m c) (arrR m c) z
    refine ⟨?_, ?_, ?_, ?_, hk⟩
    · refine (h0.trans (Cert.DownLossRefIdeal.Read.val_main_v54_eq ..)).trans ?_
      rw [ea, ew, ex, eg, er]
      exact funext key
    · refine (h1.trans (Cert.DownLossRefIdeal.Read.val_main_v55_eq ..)).trans ?_
      rw [ea, ew, ex, eg, er]
      exact funext fun z => (ref_gradb ..).trans (key z)
    · refine (h2.trans (Cert.DownLossRefIdeal.Read.val_main_v56_eq ..)).trans ?_
      rw [ea, ew, ex, eg, er]
      exact funext fun z => ref_loss ..
    · refine (h3.trans (Cert.DownLossRefIdeal.Read.val_main_v38_eq ..)).trans ?_
      rw [ea, ew, ex, eg, er]
      exact funext fun z => ref_gain ..

end Cert.DownLossClaim
-- ==== Proof.QBwdClaim.lean ====
/-
  The norm gradient `QBwd`: the queries' gradient goes back through their weight and then, row by row, through the norm; the
  gain's gradient is added up over the points. The reference's three terms of the gradient at the norm's
  input are the kernel's one bracket.
-/
module

public import proofs.«01_k».proof.Defs
public import proofs.«01_k».proof.Proof.RmsGrad
public import proofs.«01_k».proof.Proof.Sums
public import proofs.«01_k».proof.Proof.Gen.QBwdIdeal.Value
public import proofs.«01_k».proof.Proof.Gen.QBwdRefIdeal.Run
public import proofs.«01_k».proof.Proof.Gen.QBwdRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.QBwdClaim

open Idealize.ShloMosaic Idealize.ShloMosaic.TcCoe Idealize.SL.Sem
open Idealize.ShloMosaic.Pipeline (Dat)

section Values

open Cert.QBwdIdeal

variable (a : Vec Ideal S4096x1024 .bf16) (w : Vec Ideal S1024x1024 .bf16) (x : Vec Ideal S4096x1024 .f32)
  (g : Vec Ideal S1x1024 .f32) (r : Vec Ideal S4096x1024 .f32)

/-- What comes down through the norm at row `s`. -/
def dh (s : Fin 4096) (d : Fin 1024) : EReal := ∑ f : Fin 1024, a (ix2 s f) * w (ix2 d f)

/-- The gradient of the norm's argument. -/
def dx (s : Fin 4096) (d : Fin 1024) : EReal :=
  RmsGrad.grad (fun k => x (ix2 s k)) (fun k => g (ix2 0 k)) (dh a w s) (r (ix2 s d)) d

/-- Row `s`'s share of the gain's gradient; nothing beyond the last row. -/
def term (d : Fin 1024) (s : ℕ) : EReal :=
  if h : s < 4096 then dh a w ⟨s, h⟩ d * (x (ix2 ⟨s, h⟩ d) * RmsGrad.recip fun k => x (ix2 ⟨s, h⟩ k)) else 0

/-- The gain's gradient over the first `n` rows. -/
def upTo (d : Fin 1024) (n : ℕ) : EReal := ∑ s ∈ Finset.range n, term a w x d s

/-- A block of rows more. -/
theorem upTo_add (d : Fin 1024) (n : ℕ) : upTo a w x d (n + 256) = upTo a w x d n + ∑ i : Fin 256, term a w x d (n + i.val) := by
  unfold upTo
  rw [Finset.sum_range_add, Finset.sum_range (fun i => term a w x d (n + i))]

end Values

section Kernel

open Cert.QBwdIdeal Cert.QBwdIdeal.Gen

/-- The vector holds 256 rows of the queries' gradient, from row `o`. -/
def RowsOf (a : Vec Ideal S4096x1024 .bf16) (o : ℕ) (ho : o + 256 ≤ 4096) (v : Vec Ideal S1x256x1024 .bf16) : Prop :=
  ∀ (i : Fin 256) (f : Fin 1024), v (ix3 0 i f) = a (ix2 ⟨o + i.val, by omega⟩ f)

/-- The vector holds the weight. -/
def PlaneOf (w : Vec Ideal S1024x1024 .bf16) (v : Vec Ideal S1x1024x1024 .bf16) : Prop :=
  ∀ (d f : Fin 1024), v (ix3 0 d f) = w (ix2 d f)

/-- The vector holds 256 rows, from row `o`. -/
def Rows (x : Vec Ideal S4096x1024 .f32) (o : ℕ) (ho : o + 256 ≤ 4096) (v : Vec Ideal S256x1024 .f32) : Prop :=
  ∀ (i : Fin 256) (d : Fin 1024), v (ix2 i d) = x (ix2 ⟨o + i.val, by omega⟩ d)

section Chunk

variable {a : Vec Ideal S4096x1024 .bf16} {w : Vec Ideal S1024x1024 .bf16} {x : Vec Ideal S4096x1024 .f32}
  {g : Vec Ideal S1x1024 .f32} {r : Vec Ideal S4096x1024 .f32} {o : ℕ} (ho : o + 256 ≤ 4096)
  {va : Vec Ideal S1x256x1024 .bf16} {vw : Vec Ideal S1x1024x1024 .bf16} {vx vr : Vec Ideal S256x1024 .f32}

/-- The first 256 rows go back through the norm. -/
theorem dx_first (ha : RowsOf a o ho va) (hw : PlaneOf w vw) (hx : Rows x o ho vx) (hr : Rows r o ho vr) (i : Fin 256)
    (d : Fin 1024) : k0_pay10 vr (k0_pay8 va vw vx g) (k0_pay9 vx) (ix2 i d) = dx a w x g r ⟨o + i.val, by omega⟩ d := by
  unfold_payloads
  pointwise
  simp only [ha i _, hw _ _, hx i _, hr i _]
  rfl

/-- The same rows, rounded. -/
theorem dxb_first (ha : RowsOf a o ho va) (hw : PlaneOf w vw) (hx : Rows x o ho vx) (hr : Rows r o ho vr) (i : Fin 256)
    (d : Fin 1024) : k0_pay11 vr (k0_pay8 va vw vx g) (k0_pay9 vx) (ix2 i d) = dx a w x g r ⟨o + i.val, by omega⟩ d := by
  rw [← dx_first ho ha hw hx hr i d]
  unfold k0_pay11
  pointwise

/-- The first 256 rows' share of the gain's gradient. -/
theorem dg_first (ha : RowsOf a o ho va) (hw : PlaneOf w vw) (hx : Rows x o ho vx) (acc : Vec Ideal S1x1024 .f32)
    (d : Fin 1024) : k0_pay12 (k0_pay5 va vw) (k0_pay7 vx) acc (ix2 0 d) = acc (ix2 0 d) + ∑ i : Fin 256, term a w x d (o + i.val) := by
  unfold_payloads
  pointwise
  refine congrArg (_ + ·) (Finset.sum_congr rfl fun i _ => ?_)
  simp only [ha i _, hw _ _, hx i _]
  rw [term, dif_pos (by omega)]
  rfl

/-- The second 256 rows go back through the norm. -/
theorem dx_second (ha : RowsOf a o ho va) (hw : PlaneOf w vw) (hx : Rows x o ho vx) (hr : Rows r o ho vr) (i : Fin 256)
    (d : Fin 1024) : k0_pay1 (k0_pay14 vx) (k0_pay15 vx) (k0_pay16 va vw g) vr (ix2 i d) = dx a w x g r ⟨o + i.val, by omega⟩ d := by
  unfold_payloads
  pointwise
  simp only [ha i _, hw _ _, hx i _, hr i _]
  rfl

/-- The same rows, rounded. -/
theorem dxb_second (ha : RowsOf a o ho va) (hw : PlaneOf w vw) (hx : Rows x o ho vx) (hr : Rows r o ho vr) (i : Fin 256)
    (d : Fin 1024) : k0_pay2 (k0_pay14 vx) (k0_pay15 vx) (k0_pay16 va vw g) vr (ix2 i d) = dx a w x g r ⟨o + i.val, by omega⟩ d := by
  rw [← dx_second ho ha hw hx hr i d]
  unfold k0_pay2
  pointwise

/-- The second 256 rows' share of the gain's gradient. -/
theorem dg_second (ha : RowsOf a o ho va) (hw : PlaneOf w vw) (hx : Rows x o ho vx) (acc : Vec Ideal S1x1024 .f32)
    (d : Fin 1024) : k0_pay3 (k0_pay13 va vw) (k0_pay15 vx) acc (ix2 0 d) = acc (ix2 0 d) + ∑ i : Fin 256, term a w x d (o + i.val) := by
  unfold_payloads
  pointwise
  refine congrArg (_ + ·) (Finset.sum_congr rfl fun i _ => ?_)
  simp only [ha i _, hw _ _, hx i _]
  rw [term, dif_pos (by omega)]
  rfl

end Chunk

variable (m : (ℓ : Loc nD τ sig) → Buf (Elt Ideal) ℓ) (c : Dev nD)

/-- The arguments. -/
abbrev arrA : Vec Ideal S4096x1024 .bf16 := m ((c : Thread nD τ).loc main_arg0)
abbrev arrW : Vec Ideal S1024x1024 .bf16 := m ((c : Thread nD τ).loc main_arg1)
abbrev arrX : Vec Ideal S4096x1024 .f32 := m ((c : Thread nD τ).loc main_arg2)
abbrev arrG : Vec Ideal S1x1024 .f32 := m ((c : Thread nD τ).loc main_arg3)
abbrev arrR : Vec Ideal S4096x1024 .f32 := m ((c : Thread nD τ).loc main_arg4)

theorem zero2 : (![0, 0] : Fin 2 → Nat) = fun _ => 0 := funext fun a => by fin_cases a <;> rfl
theorem zero3 : (![0, 0, 0] : Fin 3 → Nat) = fun _ => 0 := funext fun a => by fin_cases a <;> rfl

/-- Where window 0 stands. -/
theorem at_0 (t : Fin cfg0.N) : win0_0.index t 0 = 0 ∧ win0_0.index t 1 = t.val ∧ win0_0.index t 2 = 0 := by
  rcases fin_N0 t with rfl | rfl | rfl | rfl | rfl | rfl | rfl | rfl <;> decide +kernel

/-- Where window 1 stands. -/
theorem at_1 (t : Fin cfg0.N) : win0_1.index t 0 = t.val ∧ win0_1.index t 1 = 0 := by
  rcases fin_N0 t with rfl | rfl | rfl | rfl | rfl | rfl | rfl | rfl <;> decide +kernel

/-- Where window 2 stands. -/
theorem at_2 (t : Fin cfg0.N) : win0_2.index t 0 = 0 ∧ win0_2.index t 1 = 0 := by
  rcases fin_N0 t with rfl | rfl | rfl | rfl | rfl | rfl | rfl | rfl <;> decide +kernel

/-- Where window 3 stands. -/
theorem at_3 (t : Fin cfg0.N) : win0_3.index t 0 = t.val ∧ win0_3.index t 1 = 0 := by
  rcases fin_N0 t with rfl | rfl | rfl | rfl | rfl | rfl | rfl | rfl <;> decide +kernel

/-- Where window 4 stands. -/
theorem at_4 (t : Fin cfg0.N) : win0_4.index t 0 = t.val ∧ win0_4.index t 1 = 0 := by
  rcases fin_N0 t with rfl | rfl | rfl | rfl | rfl | rfl | rfl | rfl <;> decide +kernel

/-- Where window 5 stands. -/
theorem at_5 (t : Fin cfg0.N) : win0_5.index t 0 = t.val ∧ win0_5.index t 1 = 0 := by
  rcases fin_N0 t with rfl | rfl | rfl | rfl | rfl | rfl | rfl | rfl <;> decide +kernel

/-- Where window 6 stands. -/
theorem at_6 (t : Fin cfg0.N) : win0_6.index t 0 = 0 ∧ win0_6.index t 1 = 0 := by
  rcases fin_N0 t with rfl | rfl | rfl | rfl | rfl | rfl | rfl | rfl <;> decide +kernel

/-- The array with an axis of one in front, as the region finds it. -/
theorem entry_main_v0 (i : Fin 4096) (j : Fin 1024) :
    V m c main_v0 (ix3 0 i j) = arrA m c (ix2 i j) := by
  have e : V m c main_v0 = broadcastInDim S1x4096x1024 ![1, 2] bcast_S4096x1024_S1x4096x1024_1_2 (m ((c : Thread nD τ).loc main_arg0)) := by
    show StableHlo.after hostOps0 (fun b => m (c, b)) (Proc.devRef .tc main_v0) = _
    after_results
  rw [e]
  show broadcastInDim S1x4096x1024 ![1, 2] _ (m ((c : Thread nD τ).loc main_arg0)) _ = m ((c : Thread nD τ).loc main_arg0) _
  generalize m ((c : Thread nD τ).loc main_arg0) = y
  pointwise

/-- The array with an axis of one in front, as the region finds it. -/
theorem entry_main_v1 (i : Fin 1024) (j : Fin 1024) :
    V m c main_v1 (ix3 0 i j) = arrW m c (ix2 i j) := by
  have e : V m c main_v1 = broadcastInDim S1x1024x1024 ![1, 2] bcast_S1024x1024_S1x1024x1024_1_2 (m ((c : Thread nD τ).loc main_arg1)) := by
    show StableHlo.after hostOps0 (fun b => m (c, b)) (Proc.devRef .tc main_v1) = _
    after_results
  rw [e]
  show broadcastInDim S1x1024x1024 ![1, 2] _ (m ((c : Thread nD τ).loc main_arg1)) _ = m ((c : Thread nD τ).loc main_arg1) _
  generalize m ((c : Thread nD τ).loc main_arg1) = y
  pointwise

theorem lt_rows (t : Fin cfg0.N) (k : ℕ) (hk : k + 256 ≤ 512) : 512 * t.val + k + 256 ≤ 4096 := by
  have : t.val < 8 := lt_of_lt_of_eq t.isLt N_0
  omega

/-- The rows that a load of the first window takes. -/
theorem rows_a (t : Fin cfg0.N) (k : ℕ) (hk : k + 256 ≤ 512) (h) :
    RowsOf (arrA m c) (512 * t.val + k) (lt_rows t k hk)
      (View.ld (iblk m c 0 t) (Rect.unit (s := S1x512x1024) ![0, k, 0] S1x256x1024.size h)) := by
  intro i f
  have w := at_0 t
  rw [← entry_main_v0 m c]
  show (View.read (Elt Ideal) _ _) _ = _
  rw [View.read_apply]
  refine congrArg (V m c main_v0) (funext fun a => Fin.ext ?_)
  match a with
  | ⟨0, _⟩ => show win0_0.index t 0 * 1 + 1 * (0 + 1 * 0) = 0; rw [w.1]
  | ⟨1, _⟩ => show win0_0.index t 1 * 512 + 1 * (k + 1 * i.val) = 512 * t.val + k + i.val; rw [w.2.1]; omega
  | ⟨2, _⟩ => show win0_0.index t 2 * 1024 + 1 * (0 + 1 * f.val) = f.val; rw [w.2.2]; omega

/-- The rows that a load of window 1 takes. -/
theorem rows_x (t : Fin cfg0.N) (k : ℕ) (hk : k + 256 ≤ 512) (h) :
    Rows (arrX m c) (512 * t.val + k) (lt_rows t k hk)
      (View.ld (iblk m c 1 t) (Rect.unit (s := S512x1024) ![k, 0] S256x1024.size h)) := by
  intro i d
  have w := at_1 t
  rw [arrX, ← V_main_arg2 m c]
  show (View.read (Elt Ideal) _ _) _ = _
  rw [View.read_apply]
  refine congrArg (V m c main_arg2) (funext fun a => Fin.ext ?_)
  match a with
  | ⟨0, _⟩ => show win0_1.index t 0 * 512 + 1 * (k + 1 * i.val) = 512 * t.val + k + i.val; rw [w.1]; omega
  | ⟨1, _⟩ => show win0_1.index t 1 * 1024 + 1 * (0 + 1 * d.val) = d.val; rw [w.2]; omega

/-- The rows that a load of window 3 takes. -/
theorem rows_r (t : Fin cfg0.N) (k : ℕ) (hk : k + 256 ≤ 512) (h) :
    Rows (arrR m c) (512 * t.val + k) (lt_rows t k hk)
      (View.ld (iblk m c 3 t) (Rect.unit (s := S512x1024) ![k, 0] S256x1024.size h)) := by
  intro i d
  have w := at_3 t
  rw [arrR, ← V_main_arg4 m c]
  show (View.read (Elt Ideal) _ _) _ = _
  rw [View.read_apply]
  refine congrArg (V m c main_arg4) (funext fun a => Fin.ext ?_)
  match a with
  | ⟨0, _⟩ => show win0_3.index t 0 * 512 + 1 * (k + 1 * i.val) = 512 * t.val + k + i.val; rw [w.1]; omega
  | ⟨1, _⟩ => show win0_3.index t 1 * 1024 + 1 * (0 + 1 * d.val) = d.val; rw [w.2]; omega

/-- The gain is whole at every point. -/
theorem gain (t : Fin cfg0.N) : (iblk m c 2 t : Vec Ideal S1x1024 .f32) = arrG m c := by
  have w := at_2 t
  funext y
  rw [arrG, ← V_main_arg3 m c]
  show (View.read (Elt Ideal) _ _) _ = _
  rw [View.read_apply]
  refine congrArg (V m c main_arg3) (funext fun a => Fin.ext ?_)
  match a with
  | ⟨0, _⟩ => show win0_2.index t 0 * 1 + 1 * (y 0).val = (y 0).val; rw [w.1]; omega
  | ⟨1, _⟩ => show win0_2.index t 1 * 1024 + 1 * (y 1).val = (y 1).val; rw [w.2]; omega

/-- An array written whole holds what was written. -/
theorem canon_whole (v : Vec Ideal S1x1024x1024 .bf16) :
    View.canon (Val := Elt Ideal) (e := .bf16) [⟨Rect.whole S1x1024x1024, v⟩] = v :=
  View.canon_unit_zero (S := S1x1024x1024) (off := fun _ => 0) rfl (fun a => (Nat.zero_add _).le) v

/-- The weight out of an array that holds it. -/
theorem plane_ld (v : Vec Ideal S1x1024x1024 .bf16) (hv : v = V m c main_v1) (h) :
    PlaneOf (arrW m c) (View.ld (Val := Elt Ideal) (e' := .bf16) v (Rect.unit (s := S1x1024x1024) ![0, 0, 0] S1x1024x1024.size h)) := by
  intro d f
  rw [View.ld_unit_zero (S := S1x1024x1024) zero3, hv]
  exact entry_main_v1 m c d f

/-- The weight out of the scratch array just after it has been copied in. -/
theorem plane_cov (v : Vec Ideal S1x1024x1024 .bf16) (hv : v = V m c main_v1) (h) :
    PlaneOf (arrW m c) ((View.whole cc0_scratch0).readCov (Val := Elt Ideal) [⟨Rect.whole S1x1024x1024, v⟩]
      (Rect.unit (s := S1x1024x1024) ![0, 0, 0] S1x1024x1024.size h).toLoadRect) := by
  intro d f
  rw [View.readCov_eq_canon']
  dsimp only
  rw [canon_whole]
  exact plane_ld m c v hv h d f

/-- A stored half block is what the whole block holds there. -/
theorem half (t : Fin cfg0.N) (k : ℕ) (hk : k + 256 ≤ 512) (v : S256x1024.Idx → EReal) (G : Fin 4096 → Fin 1024 → EReal) (h)
    (hv : ∀ (i : Fin 256) (d : Fin 1024), v (ix2 i d) = G ⟨512 * t.val + k + i.val, by have := lt_rows t k hk; omega⟩ d)
    (y : S256x1024.Idx) :
    v y = (fun z : S512x1024.Idx => G ⟨512 * t.val + (z 0).val, by have := lt_rows t 256 (by decide); have : (z 0).val < 512 := (z 0).isLt; omega⟩ (z 1))
      ((Rect.unit (s := S512x1024) ![k, 0] S256x1024.size h).emb y) := by
  obtain ⟨i, d, rfl⟩ : ∃ i d, y = ix2 i d := ⟨y 0, y 1, funext fun a => by fin_cases a <;> rfl⟩
  rw [hv]
  refine congr (congrArg G (Fin.ext ?_)) (Fin.ext ?_)
  · show 512 * t.val + k + i.val = 512 * t.val + (k + 1 * i.val); omega
  · show d.val = 0 + 1 * d.val; omega

/-- What the copy brings in. -/
theorem weight_in : ReadAs.same.apply (View.read (Elt Ideal) (View.whole main_v1) (V m c main_v1)) = V m c main_v1 := rfl

/-- The scratch array holds the weight after every point. -/
theorem scratch (n : ℕ) : ∀ hn : n < cfg0.N, (outsAt0 m c n hn).2.2.2 = V m c main_v1 := by
  induction n with
  | zero =>
    intro hn
    rw [show outsAt0 m c 0 hn = _ from outsAt0_A m c ⟨0, hn⟩ rfl rfl]
    dsimp only
    unfold sout0_A_0
    rw [View.read_writes_junk_eq_canon]
    unfold kernelRun0_A
    dsimp only
    sl_unfold_words
    exact (canon_whole _).trans (weight_in m c)
  | succ n ih =>
    intro hn
    have h8 : n + 1 < 8 := lt_of_lt_of_eq hn N_0
    have h0 : ¬(n + 1) % 8 = 0 := by omega
    rw [show outsAt0 m c (n + 1) hn = _ from outsAt0_B m c ⟨n + 1, hn⟩ h0 h0]
    dsimp only
    unfold sout0_B_0
    exact ih _

/-- A point's rows of the gradient. -/
def rowsOut (t : Fin cfg0.N) : S512x1024.Idx → EReal := fun z =>
  dx (arrA m c) (arrW m c) (arrX m c) (arrG m c) (arrR m c)
    ⟨512 * t.val + (z 0).val, by have := lt_rows t 256 (by decide); have : (z 0).val < 512 := (z 0).isLt; omega⟩ (z 1)

theorem left4_A (t : Fin cfg0.N) (h0 : t.val % 8 = 0) (y : S512x1024.Idx) :
    (outsAt0 m c t.val t.isLt).1 y = rowsOut m c t y := by
  rw [outsAt0_A m c t h0 h0]
  dsimp only
  unfold out0_A_4
  rw [View.read_writes_junk_eq_canon]
  refine View.canon_apply_of_pieces (Val := Elt Ideal) (e := .f32) (rowsOut m c t) _ ?_ _ (cover0_A_4 ..)
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
      (dx_second (lt_rows t 256 (by decide)) (rows_a m c t 256 (by decide) _) (plane_cov m c _ (weight_in m c) _) (rows_x m c t 256 (by decide) _) (rows_r m c t 256 (by decide) _)),
    half t 0 (by decide) _ (dx (arrA m c) (arrW m c) (arrX m c) (arrG m c) (arrR m c)) _
      (dx_first (lt_rows t 0 (by decide)) (rows_a m c t 0 (by decide) _) (plane_cov m c _ (weight_in m c) _) (rows_x m c t 0 (by decide) _) (rows_r m c t 0 (by decide) _))⟩

theorem left4_B (t : Fin cfg0.N) (h0 : ¬t.val % 8 = 0) (y : S512x1024.Idx) :
    (outsAt0 m c t.val t.isLt).1 y = rowsOut m c t y := by
  rw [outsAt0_B m c t h0 h0]
  dsimp only
  have hs := fun hn => (Memref.IsWhole.read_unread (Memref.isWhole_whole cc0_scratch0) _).trans (scratch m c (t.val - 1) hn)
  unfold out0_B_4
  rw [View.read_writes_junk_eq_canon]
  refine View.canon_apply_of_pieces (Val := Elt Ideal) (e := .f32) (rowsOut m c t) _ ?_ _ (cover0_B_4 ..)
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
      (dx_second (lt_rows t 256 (by decide)) (rows_a m c t 256 (by decide) _) (plane_ld m c _ (hs _) _) (rows_x m c t 256 (by decide) _) (rows_r m c t 256 (by decide) _)),
    half t 0 (by decide) _ (dx (arrA m c) (arrW m c) (arrX m c) (arrG m c) (arrR m c)) _
      (dx_first (lt_rows t 0 (by decide)) (rows_a m c t 0 (by decide) _) (plane_ld m c _ (hs _) _) (rows_x m c t 0 (by decide) _) (rows_r m c t 0 (by decide) _))⟩

theorem left4 (t : Fin cfg0.N) (y : S512x1024.Idx) : (outsAt0 m c t.val t.isLt).1 y = rowsOut m c t y := by
  by_cases h0 : t.val % 8 = 0
  · exact left4_A m c t h0 y
  · exact left4_B m c t h0 y

theorem left5_A (t : Fin cfg0.N) (h0 : t.val % 8 = 0) (y : S512x1024.Idx) :
    (outsAt0 m c t.val t.isLt).2.1 y = rowsOut m c t y := by
  rw [outsAt0_A m c t h0 h0]
  dsimp only
  unfold out0_A_5
  rw [View.read_writes_junk_eq_canon]
  refine View.canon_apply_of_pieces (Val := Elt Ideal) (e := .bf16) (rowsOut m c t) _ ?_ _ (cover0_A_5 ..)
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
      (dxb_second (lt_rows t 256 (by decide)) (rows_a m c t 256 (by decide) _) (plane_cov m c _ (weight_in m c) _) (rows_x m c t 256 (by decide) _) (rows_r m c t 256 (by decide) _)),
    half t 0 (by decide) _ (dx (arrA m c) (arrW m c) (arrX m c) (arrG m c) (arrR m c)) _
      (dxb_first (lt_rows t 0 (by decide)) (rows_a m c t 0 (by decide) _) (plane_cov m c _ (weight_in m c) _) (rows_x m c t 0 (by decide) _) (rows_r m c t 0 (by decide) _))⟩

theorem left5_B (t : Fin cfg0.N) (h0 : ¬t.val % 8 = 0) (y : S512x1024.Idx) :
    (outsAt0 m c t.val t.isLt).2.1 y = rowsOut m c t y := by
  rw [outsAt0_B m c t h0 h0]
  dsimp only
  have hs := fun hn => (Memref.IsWhole.read_unread (Memref.isWhole_whole cc0_scratch0) _).trans (scratch m c (t.val - 1) hn)
  unfold out0_B_5
  rw [View.read_writes_junk_eq_canon]
  refine View.canon_apply_of_pieces (Val := Elt Ideal) (e := .bf16) (rowsOut m c t) _ ?_ _ (cover0_B_5 ..)
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [List.forall_mem_cons, List.forall_mem_singleton]
  dsimp only
  rw [gain m c t]
  exact ⟨half t 256 (by decide) _ (dx (arrA m c) (arrW m c) (arrX m c) (arrG m c) (arrR m c)) _
      (dxb_second (lt_rows t 256 (by decide)) (rows_a m c t 256 (by decide) _) (plane_ld m c _ (hs _) _) (rows_x m c t 256 (by decide) _) (rows_r m c t 256 (by decide) _)),
    half t 0 (by decide) _ (dx (arrA m c) (arrW m c) (arrX m c) (arrG m c) (arrR m c)) _
      (dxb_first (lt_rows t 0 (by decide)) (rows_a m c t 0 (by decide) _) (plane_ld m c _ (hs _) _) (rows_x m c t 0 (by decide) _) (rows_r m c t 0 (by decide) _))⟩

theorem left5 (t : Fin cfg0.N) (y : S512x1024.Idx) : (outsAt0 m c t.val t.isLt).2.1 y = rowsOut m c t y := by
  by_cases h0 : t.val % 8 = 0
  · exact left5_A m c t h0 y
  · exact left5_B m c t h0 y

/-- What a point of this case leaves of the gain's gradient. -/
theorem left6_A (t : Fin cfg0.N) (h0 : t.val % 8 = 0) (d : Fin 1024) :
    (outsAt0 m c t.val t.isLt).2.2.1 (ix2 0 d) = 0
      + (∑ i : Fin 256, term (arrA m c) (arrW m c) (arrX m c) d (512 * t.val + 0 + i.val))
      + (∑ i : Fin 256, term (arrA m c) (arrW m c) (arrX m c) d (512 * t.val + 256 + i.val)) := by
  rw [outsAt0_A m c t h0 h0]
  dsimp only
  unfold out0_A_6
  rw [View.read_writes_junk_eq_canon]
  unfold kernelRun0_A
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [View.canon_cons_unit_zero zero2]
  refine (dg_second (lt_rows t 256 (by decide)) (rows_a m c t 256 (by decide) _) (plane_cov m c _ (weight_in m c) _) (rows_x m c t 256 (by decide) _) _ d).trans ?_
  refine congrArg (· + _) ((dg_first (lt_rows t 0 (by decide)) (rows_a m c t 0 (by decide) _) (plane_cov m c _ (weight_in m c) _) (rows_x m c t 0 (by decide) _) _ d).trans ?_)
  refine congrArg (· + _) ?_
  unfold_payloads
  pointwise

/-- What a point of this case leaves of the gain's gradient. -/
theorem left6_B (t : Fin cfg0.N) (h0 : ¬t.val % 8 = 0) (d : Fin 1024) :
    (outsAt0 m c t.val t.isLt).2.2.1 (ix2 0 d) = (outsAt0 m c (t.val - 1) (lt_of_le_of_lt (Nat.sub_le _ _) t.isLt)).2.2.1 (ix2 0 d)
      + (∑ i : Fin 256, term (arrA m c) (arrW m c) (arrX m c) d (512 * t.val + 0 + i.val))
      + (∑ i : Fin 256, term (arrA m c) (arrW m c) (arrX m c) d (512 * t.val + 256 + i.val)) := by
  rw [outsAt0_B m c t h0 h0]
  dsimp only
  have hs := fun hn => (Memref.IsWhole.read_unread (Memref.isWhole_whole cc0_scratch0) _).trans (scratch m c (t.val - 1) hn)
  unfold out0_B_6
  rw [View.read_writes_junk_eq_canon]
  unfold kernelRun0_B
  dsimp only
  sl_unfold_words
  simp (disch := decide) only [↓ View.readCov_skip, ↓ View.readCov_cons_toLoadRect, ↓ View.readCov_fill]
  simp only [View.readAt_eq_ld, Memref.IsWhole.read_unread, View.ld_unit_zero (S := S1x1024) zero2]
  rw [View.canon_cons_unit_zero zero2]
  refine (dg_second (lt_rows t 256 (by decide)) (rows_a m c t 256 (by decide) _) (plane_ld m c _ (hs _) _) (rows_x m c t 256 (by decide) _) _ d).trans ?_
  refine congrArg (· + _) ((dg_first (lt_rows t 0 (by decide)) (rows_a m c t 0 (by decide) _) (plane_ld m c _ (hs _) _) (rows_x m c t 0 (by decide) _) _ d).trans ?_)
  rfl

/-- The gain's gradient over the rows up to a point. -/
theorem left6 (d : Fin 1024) (n : ℕ) : ∀ hn : n < cfg0.N,
    (outsAt0 m c n hn).2.2.1 (ix2 0 d) = upTo (arrA m c) (arrW m c) (arrX m c) d (512 * n + 512) := by
  induction n with
  | zero =>
    intro hn
    refine (left6_A m c ⟨0, hn⟩ rfl d).trans ?_
    rw [show 512 * 0 + 512 = 0 + 256 + 256 from rfl, upTo_add, upTo_add, show upTo _ _ _ d 0 = 0 from Finset.sum_range_zero _]
    rfl
  | succ n ih =>
    intro hn
    have h8 : n + 1 < 8 := lt_of_lt_of_eq hn N_0
    refine (left6_B m c ⟨n + 1, hn⟩ (show ¬(n + 1) % 8 = 0 by omega) d).trans ?_
    rw [show 512 * (n + 1) + 512 = 512 * (n + 1) + 256 + 256 from rfl, upTo_add, upTo_add]
    refine congrArg (· + _) (congrArg (· + _) ?_)
    exact ih (by omega)

/-- The blocks fill the array. -/
theorem out4 : (dats m 0 c).arrAt 4 cfg0.N = fun z => dx (arrA m c) (arrW m c) (arrX m c) (arrG m c) (arrR m c) (z 0) (z 1) := by
  refine (dats m 0 c).arrAt_eq_of_cover 4 (fun z => dx (arrA m c) (arrW m c) (arrX m c) (arrG m c) (arrR m c) (z 0) (z 1)) (fun t _ => ?_) fun i => ?_
  · rw [Value.flushed4]
    funext y
    refine (left4 m c t y).trans ?_
    rw [View.read_apply]
    refine congr (congrArg (dx (arrA m c) (arrW m c) (arrX m c) (arrG m c) (arrR m c)) (Fin.ext ?_)) (Fin.ext ?_)
    · show 512 * t.val + (y 0).val = win0_4.index t 0 * 512 + 1 * (y 0).val; rw [(at_4 t).1]; omega
    · show (y 1).val = win0_4.index t 1 * 1024 + 1 * (y 1).val; rw [(at_4 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_4 ⟨(i 0 : Nat) / 512, hN⟩
    refine ⟨⟨(i 0 : Nat) / 512, hN⟩, flush0_4 _, ?_⟩
    show i ∈ ((View.whole main_v2_0).slice (win0_4.rect ⟨(i 0 : Nat) / 512, hN⟩)).set
    rw [View.set_slice_whole, Rect.mem_set_unit]
    intro a
    match a with
    | ⟨0, _⟩ => show win0_4.index ⟨(i 0 : Nat) / 512, hN⟩ 0 * 512 ≤ (i 0 : Nat)
                    ∧ (i 0 : Nat) < win0_4.index ⟨(i 0 : Nat) / 512, hN⟩ 0 * 512 + 512
                rw [h.1]; dsimp only; omega
    | ⟨1, _⟩ => show win0_4.index ⟨(i 0 : Nat) / 512, hN⟩ 1 * 1024 ≤ (i 1 : Nat)
                    ∧ (i 1 : Nat) < win0_4.index ⟨(i 0 : Nat) / 512, hN⟩ 1 * 1024 + 1024
                rw [h.2]; omega

/-- The blocks fill the array. -/
theorem out5 : (dats m 0 c).arrAt 5 cfg0.N = fun z => dx (arrA m c) (arrW m c) (arrX m c) (arrG m c) (arrR m c) (z 0) (z 1) := by
  refine (dats m 0 c).arrAt_eq_of_cover 5 (fun z => dx (arrA m c) (arrW m c) (arrX m c) (arrG m c) (arrR m c) (z 0) (z 1)) (fun t _ => ?_) fun i => ?_
  · rw [Value.flushed5]
    funext y
    refine (left5 m c t y).trans ?_
    rw [View.read_apply]
    refine congr (congrArg (dx (arrA m c) (arrW m c) (arrX m c) (arrG m c) (arrR m c)) (Fin.ext ?_)) (Fin.ext ?_)
    · show 512 * t.val + (y 0).val = win0_5.index t 0 * 512 + 1 * (y 0).val; rw [(at_5 t).1]; omega
    · show (y 1).val = win0_5.index t 1 * 1024 + 1 * (y 1).val; rw [(at_5 t).2]; omega
  · have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    have h := at_5 ⟨(i 0 : Nat) / 512, hN⟩
    refine ⟨⟨(i 0 : Nat) / 512, hN⟩, flush0_5 _, ?_⟩
    show i ∈ ((View.whole main_v2_1).slice (win0_5.rect ⟨(i 0 : Nat) / 512, hN⟩)).set
    rw [View.set_slice_whole, Rect.mem_set_unit]
    intro a
    match a with
    | ⟨0, _⟩ => show win0_5.index ⟨(i 0 : Nat) / 512, hN⟩ 0 * 512 ≤ (i 0 : Nat)
                    ∧ (i 0 : Nat) < win0_5.index ⟨(i 0 : Nat) / 512, hN⟩ 0 * 512 + 512
                rw [h.1]; dsimp only; omega
    | ⟨1, _⟩ => show win0_5.index ⟨(i 0 : Nat) / 512, hN⟩ 1 * 1024 ≤ (i 1 : Nat)
                    ∧ (i 1 : Nat) < win0_5.index ⟨(i 0 : Nat) / 512, hN⟩ 1 * 1024 + 1024
                rw [h.2]; omega

/-- The last point writes the gain's gradient back. -/
theorem out6 : (dats m 0 c).arrAt 6 cfg0.N = fun z => upTo (arrA m c) (arrW m c) (arrX m c) (z 1) 4096 := by
  refine (dats m 0 c).arrAt_eq_of_cover 6 (fun z => upTo (arrA m c) (arrW m c) (arrX m c) (z 1) 4096) (fun t hf => ?_) fun i => ?_
  · have h := at_6 t
    have hN : t.val < 8 := lt_of_lt_of_eq t.isLt N_0
    have h7 : t.val % 8 = 7 := (flush0_6 t).mp hf
    rw [Value.flushed6]
    funext y
    obtain ⟨z, d, rfl⟩ : ∃ z d, y = ix2 z d := ⟨y 0, y 1, funext fun a => by fin_cases a <;> rfl⟩
    obtain rfl : z = 0 := Subsingleton.elim _ _
    refine (left6 m c d t.val t.isLt).trans ?_
    rw [View.read_apply, show 512 * t.val + 512 = 4096 by omega]
    refine congrArg (fun k : Fin 1024 => upTo (arrA m c) (arrW m c) (arrX m c) k 4096) (Fin.ext ?_)
    show d.val = win0_6.index t 1 * 1024 + 1 * d.val; rw [h.2]; omega
  · have h0 : (i 0 : Nat) < 1 := (i 0).isLt
    have h1 : (i 1 : Nat) < 1024 := (i 1).isLt
    have h := at_6 t0_7
    refine ⟨t0_7, (flush0_6 t0_7).mpr rfl, ?_⟩
    show i ∈ ((View.whole main_v2_2).slice (win0_6.rect t0_7)).set
    rw [View.set_slice_whole, Rect.mem_set_unit]
    intro a
    match a with
    | ⟨0, _⟩ => show win0_6.index t0_7 0 * 1 ≤ (i 0 : Nat) ∧ (i 0 : Nat) < win0_6.index t0_7 0 * 1 + 1
                rw [h.1]; omega
    | ⟨1, _⟩ => show win0_6.index t0_7 1 * 1024 ≤ (i 1 : Nat) ∧ (i 1 : Nat) < win0_6.index t0_7 1 * 1024 + 1024
                rw [h.2]; omega

end Kernel

section Reference

open Cert.QBwdRefIdeal Cert.QBwdRefIdeal.Read

variable (a : Vec Ideal S4096x1024 .bf16) (w : Vec Ideal S1024x1024 .bf16) (x : Vec Ideal S4096x1024 .f32)
  (g : Vec Ideal S1x1024 .f32) (r : Vec Ideal S4096x1024 .f32)

/-- What comes down through the norm. -/
theorem ref_dh (s : Fin 4096) (d : Fin 1024) : val_main_v18 a w (ix2 s d) = dh a w s d := by
  pointwise [val_main_v18, val_main_v17, val_main_v15]
  rfl

/-- The gain's gradient. -/
theorem ref_gain (z : S1x1024.Idx) : val_main_v21 a w x z = upTo a w x (z 1) 4096 := by
  obtain ⟨o, d, rfl⟩ : ∃ o d, z = ix2 o d := ⟨z 0, z 1, funext fun a => by fin_cases a <;> rfl⟩
  pointwise [val_main_v21, val_main_v20, val_main_v19, val_main_v12, val_main_v11, val_main_v7, val_main_v6, val_main_v5, val_main_v4, val_main_v3, val_main_v2, val_main_v1, val_main_v0, val_main_cst, val_main_cst_0, val_main_cst_1, val_main_cst_3, ref_dh]
  show _ = ∑ s ∈ Finset.range 4096, term a w x d s
  rw [Finset.sum_range]
  refine Finset.sum_congr rfl fun s _ => ?_
  rw [term, dif_pos s.isLt, mul_comm]
  rfl

/-- The gradient at the norm's input. -/
theorem ref_grad (z : S4096x1024.Idx) :
    val_main_v38 a w x g r z = dx a w x g r (z 0) (z 1) := by
  obtain ⟨s, d, rfl⟩ : ∃ s d, z = ix2 s d := ⟨z 0, z 1, funext fun a => by fin_cases a <;> rfl⟩
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, ref_dh]
  simp only [Finset.univ_unique, Finset.sum_singleton]
  exact (RmsGrad.grad_eq (fun k => x (ix2 s k)) (fun k => g (ix2 0 k)) (dh a w s) (r (ix2 s d)) d).symm

/-- The rounded gradient is the gradient. -/
theorem ref_gradb (z : S4096x1024.Idx) : val_main_v39 a w x g r z = val_main_v38 a w x g r z := by
  pointwise [val_main_v39]

/-- The reference runs, keeps its arguments and has no semaphore. -/
theorem ref_frame : Cert.quiescent_QBwdRefIdeal := fun m ρ _ =>
  (θ_run Cert.QBwdRefIdeal.defs _ _).mono (fun r h => ⟨fun c => (h c).2.2.2, sem_eq_zero_of_no_sems (by decide) r.2⟩)
    (Cert.QBwdRefIdeal.Value.run (F := Ideal) m ρ)

end Reference

open Cert.QBwdIdeal in
/-- Kernel and reference leave the same three arrays. -/
theorem algebraic : Cert.algebraic_QBwdIdeal_QBwdRefIdeal := by
  intro m g m' g' _ hagree
  refine ⟨fun c z => dx (arrA m c) (arrW m c) (arrX m c) (arrG m c) (arrR m c) (z 0) (z 1),
    fun c z => dx (arrA m c) (arrW m c) (arrX m c) (arrG m c) (arrR m c) (z 0) (z 1),
    fun c z => upTo (arrA m c) (arrW m c) (arrX m c) (z 1) 4096, ?_, ?_⟩
  · refine (θ_run Cert.QBwdIdeal.defs _ _).mono (fun r h c => ?_) (Cert.QBwdIdeal.Value.run_blocks m g)
    obtain ⟨h5, h6, h7, hk⟩ := h c
    exact ⟨h5.trans (out4 m c), h6.trans (out5 m c), h7.trans (out6 m c), hk⟩
  · refine (θ_run Cert.QBwdRefIdeal.defs _ _).mono (fun r h c => ?_) (Cert.QBwdRefIdeal.Value.run (F := Ideal) m' g')
    obtain ⟨h0, h1, h2, hk⟩ := h c
    obtain ⟨ea, ew, ex, eg, er⟩ := hagree c
    have key := fun z => ref_grad (arrA m c) (arrW m c) (arrX m c) (arrG m c) (arrR m c) z
    refine ⟨?_, ?_, ?_, hk⟩
    · refine (h0.trans (Cert.QBwdRefIdeal.Read.val_main_v38_eq ..)).trans ?_
      rw [ea, ew, ex, eg, er]
      exact funext key
    · refine (h1.trans (Cert.QBwdRefIdeal.Read.val_main_v39_eq ..)).trans ?_
      rw [ea, ew, ex, eg, er]
      exact funext fun z => (ref_gradb ..).trans (key z)
    · refine (h2.trans (Cert.QBwdRefIdeal.Read.val_main_v21_eq ..)).trans ?_
      rw [ea, ew, ex]
      exact funext fun z => ref_gain ..

end Cert.QBwdClaim
-- ==== Proof.OutBwdClaim.lean ====
/-
  The gradient that goes back into the mixer: the product of the residual's gradient with the transposed weight, in blocks of
  1024 rows.
-/
module

public import proofs.«01_k».proof.Defs
public import proofs.«01_k».proof.Proof.Gen.OutBwdIdeal.Value
public import proofs.«01_k».proof.Proof.Gen.OutBwdRefIdeal.Run
public import proofs.«01_k».proof.Proof.Gen.OutBwdRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.OutBwdClaim

open Idealize.ShloMosaic Idealize.ShloMosaic.TcCoe Idealize.SL.Sem
open Idealize.ShloMosaic.Pipeline (Dat)

/-- Row `s` of the gradient. -/
def back (a : Vec Ideal Cert.OutBwdIdeal.S4096x1024 .bf16) (w : Vec Ideal Cert.OutBwdIdeal.S1024x1024 .bf16) (s : Fin 4096)
    (d : Fin 1024) : EReal :=
  ∑ f : Fin 1024, a (ix2 s f) * w (ix2 d f)

section Kernel

open Cert.OutBwdIdeal Cert.OutBwdIdeal.Gen

variable (m : (ℓ : Loc nD τ sig) → Buf (Elt Ideal) ℓ) (c : Dev nD)

/-- The arguments. -/
abbrev arrA : Vec Ideal S4096x1024 .bf16 := m ((c : Thread nD τ).loc main_arg0)
abbrev arrW : Vec Ideal S1024x1024 .bf16 := m ((c : Thread nD τ).loc main_arg1)

theorem zero2 : (![0, 0] : Fin 2 → Nat) = fun _ => 0 := funext fun a => by fin_cases a <;> rfl
theorem zero3 : (![0, 0, 0] : Fin 3 → Nat) = fun _ => 0 := funext fun a => by fin_cases a <;> rfl

/-- Where window 0 stands. -/
theorem at_0 (t : Fin cfg0.N) : win0_0.index t 0 = 0 ∧ win0_0.index t 1 = t.val ∧ win0_0.index t 2 = 0 := by
  rcases fin_N0 t with rfl | rfl | rfl | rfl <;> decide +kernel

/-- Where window 1 stands. -/
theorem at_1 (t : Fin cfg0.N) : win0_1.index t 0 = 0 ∧ win0_1.index t 1 = 0 ∧ win0_1.index t 2 = 0 := by
  rcases fin_N0 t with rfl | rfl | rfl | rfl <;> decide +kernel

/-- Where window 2 stands. -/
theorem at_2 (t : Fin cfg0.N) : win0_2.index t 0 = t.val ∧ win0_2.index t 1 = 0 := by
  rcases fin_N0 t with rfl | rfl | rfl | rfl <;> decide +kernel

/-- The array with an axis of one in front, as the region finds it. -/
theorem entry_main_v0 (i : Fin 4096) (j : Fin 1024) :
    V m c main_v0 (ix3 0 i j) = arrA m c (ix2 i j) := by
  have e : V m c main_v0 = broadcastInDim S1x4096x1024 ![1, 2] bcast_S4096x1024_S1x4096x1024_1_2 (m ((c : Thread nD τ).loc main_arg0)) := by
    show StableHlo.after hostOps0 (fun b => m (c, b)) (Proc.devRef .tc main_v0) = _
    after_results
  rw [e]
  show broadcastInDim S1x4096x1024 ![1, 2] _ (m ((c : Thread nD τ).loc main_arg0)) _ = m ((c : Thread nD τ).loc main_arg0) _
  generalize m ((c : Thread nD τ).loc main_arg0) = y
  pointwise

/-- The array with an axis of one in front, as the region finds it. -/
theorem entry_main_v1 (i : Fin 1024) (j : Fin 1024) :
    V m c main_v1 (ix3 0 i j) = arrW m c (ix2 i j) := by
  have e : V m c main_v1 = broadcastInDim S1x1024x1024 ![1, 2] bcast_S1024x1024_S1x1024x1024_1_2 (m ((c : Thread nD τ).loc main_arg1)) := by
    show StableHlo.after hostOps0 (fun b => m (c, b)) (Proc.devRef .tc main_v1) = _
    after_results
  rw [e]
  show broadcastInDim S1x1024x1024 ![1, 2] _ (m ((c : Thread nD τ).loc main_arg1)) _ = m ((c : Thread nD τ).loc main_arg1) _
  generalize m ((c : Thread nD τ).loc main_arg1) = y
  pointwise

theorem lt_rows (t : Fin cfg0.N) : 1024 * t.val + 1024 ≤ 4096 := by
  have : t.val < 4 := lt_of_lt_of_eq t.isLt N_0
  omega

/-- A point's rows of the gradient. -/
theorem rows_a (t : Fin cfg0.N) (i : Fin 1024) (f : Fin 1024) :
    iblk m c 0 t (ix3 0 i f) = arrA m c (ix2 ⟨1024 * t.val + i.val, by have := lt_rows t; omega⟩ f) := by
  have w := at_0 t
  rw [← entry_main_v0 m c]
  unfold iblk
  rw [View.read_apply]
  refine congrArg (V m c main_v0) (funext fun a => Fin.ext ?_)
  match a with
  | ⟨0, _⟩ => show win0_0.index t 0 * 1 + 1 * 0 = 0; rw [w.1]
  | ⟨1, _⟩ => show win0_0.index t 1 * 1024 + 1 * i.val = 1024 * t.val + i.val; rw [w.2.1]; omega
  | ⟨2, _⟩ => show win0_0.index t 2 * 1024 + 1 * f.val = f.val; rw [w.2.2]; omega

/-- The weight is whole at every point. -/
theorem plane_w (t : Fin cfg0.N) (d f : Fin 1024) : iblk m c 1 t (ix3 0 d f) = arrW m c (ix2 d f) := by
  have w := at_1 t
  rw [← entry_main_v1 m c]
  unfold iblk
  rw [View.read_apply]
  refine congrArg (V m c main_v1) (funext fun a => Fin.ext ?_)
  match a with
  | ⟨0, _⟩ => show win0_1.index t 0 * 1 + 1 * 0 = 0; rw [w.1]
  | ⟨1, _⟩ => show win0_1.index t 1 * 1024 + 1 * d.val = d.val; rw [w.2.1]; omega
  | ⟨2, _⟩ => show win0_1.index t 2 * 1024 + 1 * f.val = f.val; rw [w.2.2]; omega

/-- What the body stores. -/
theorem stored (x y : Vec Ideal S1x1024x1024 .bf16) (i d : Fin 1024) :
    out0_2 x y (ix2 i d) = ∑ f : Fin 1024, x (ix3 0 i f) * y (ix3 0 d f) := by
  unfold out0_2
  simp only [r0_0, r0_1, View.ld_unit_zero (S := S1x1024x1024) zero3]
  rw [View.canon_unit_zero zero2]
  unfold_payloads
  pointwise

/-- What a point leaves. -/
theorem left2 (t : Fin cfg0.N) (y : S1024x1024.Idx) :
    out0_2 (iblk m c 0 t) (iblk m c 1 t) y
      = back (arrA m c) (arrW m c) ⟨1024 * t.val + (y 0).val, by have := lt_rows t; have : (y 0).val < 1024 := (y 0).isLt; omega⟩ (y 1) := by
  obtain ⟨i, d, rfl⟩ : ∃ i d, y = ix2 i d := ⟨y 0, y 1, funext fun a => by fin_cases a <;> rfl⟩
  refine (stored _ _ i d).trans ?_
  simp only [rows_a, plane_w]
  rfl

/-- The blocks fill the array. -/
theorem out2 : (dats m 0 c).arrAt 2 cfg0.N = fun z => back (arrA m c) (arrW m c) (z 0) (z 1) := by
  refine (dats m 0 c).arrAt_eq_of_cover 2 (fun z => back (arrA m c) (arrW m c) (z 0) (z 1)) (fun t _ => ?_) fun i => ?_
  · rw [Value.flushed2]
    funext y
    refine (left2 m c t y).trans ?_
    rw [View.read_apply]
    refine congr (congrArg (back (arrA m c) (arrW m c)) (Fin.ext ?_)) (Fin.ext ?_)
    · show 1024 * t.val + (y 0).val = win0_2.index t 0 * 1024 + 1 * (y 0).val; rw [(at_2 t).1]; omega
    · show (y 1).val = win0_2.index t 1 * 1024 + 1 * (y 1).val; rw [(at_2 t).2]; omega
  · have h0 : (i 0 : Nat) < 4096 := (i 0).isLt
    have h1 : (i 1 : Nat) < 1024 := (i 1).isLt
    have hN : (i 0 : Nat) / 1024 < cfg0.N := lt_of_lt_of_eq (by omega : (i 0 : Nat) / 1024 < 4) N_0.symm
    have h := at_2 ⟨(i 0 : Nat) / 1024, hN⟩
    refine ⟨⟨(i 0 : Nat) / 1024, hN⟩, flush0_2 _, ?_⟩
    show i ∈ ((View.whole main_v2).slice (win0_2.rect ⟨(i 0 : Nat) / 1024, hN⟩)).set
    rw [View.set_slice_whole, Rect.mem_set_unit]
    intro a
    match a with
    | ⟨0, _⟩ => show win0_2.index ⟨(i 0 : Nat) / 1024, hN⟩ 0 * 1024 ≤ (i 0 : Nat)
                    ∧ (i 0 : Nat) < win0_2.index ⟨(i 0 : Nat) / 1024, hN⟩ 0 * 1024 + 1024
                rw [h.1]; dsimp only; omega
    | ⟨1, _⟩ => show win0_2.index ⟨(i 0 : Nat) / 1024, hN⟩ 1 * 1024 ≤ (i 1 : Nat)
                    ∧ (i 1 : Nat) < win0_2.index ⟨(i 0 : Nat) / 1024, hN⟩ 1 * 1024 + 1024
                rw [h.2]; omega

end Kernel

section Reference

open Cert.OutBwdRefIdeal Cert.OutBwdRefIdeal.Read

theorem ref_back (a : Vec Ideal S4096x1024 .bf16) (w : Vec Ideal S1024x1024 .bf16) (s : Fin 4096) (d : Fin 1024) :
    val_main_v5 a w (ix2 s d) = back a w s d := by
  pointwise [val_main_v5, val_main_v4, val_main_v3, val_main_v2, val_main_v1, val_main_v0, val_main_cst]
  rfl

/-- The reference runs, keeps its arguments and has no semaphore. -/
theorem ref_frame : Cert.quiescent_OutBwdRefIdeal := fun m ρ _ =>
  (θ_run Cert.OutBwdRefIdeal.defs _ _).mono (fun r h => ⟨fun c => (h c).2, sem_eq_zero_of_no_sems (by decide) r.2⟩)
    (Cert.OutBwdRefIdeal.Value.run (F := Ideal) m ρ)

end Reference

open Cert.OutBwdIdeal in
/-- Kernel and reference leave the same array. -/
theorem algebraic : Cert.algebraic_OutBwdIdeal_OutBwdRefIdeal := by
  intro m g m' g' _ hagree
  refine ⟨fun c z => back (arrA m c) (arrW m c) (z 0) (z 1), ?_, ?_⟩
  · refine (θ_run Cert.OutBwdIdeal.defs _ _).mono (fun r h c => ?_) (Cert.OutBwdIdeal.Value.run_blocks m g)
    exact ⟨(h c).1.trans (out2 m c), (h c).2⟩
  · refine (θ_run Cert.OutBwdRefIdeal.defs _ _).mono (fun r h c => ?_) (Cert.OutBwdRefIdeal.Value.run (F := Ideal) m' g')
    obtain ⟨ea, ew⟩ := hagree c
    refine ⟨((h c).1.trans (Cert.OutBwdRefIdeal.Read.val_main_v5_eq ..)).trans ?_, (h c).2⟩
    rw [ea, ew]
    funext z
    obtain ⟨s, d, rfl⟩ : ∃ s d, z = ix2 s d := ⟨z 0, z 1, funext fun a => by fin_cases a <;> rfl⟩
    exact ref_back ..

end Cert.OutBwdClaim
-- ==== Proof.DwInSpec.lean ====
/-
  The weight gradient of the input projection `DwIn`, row by row, and the reference's value: the reference pads the three
  cotangents to one width, adds them and takes one product with the normalised input.
-/
module

public import proofs.«01_k».proof.Defs
public import proofs.«01_k».proof.Proof.Gen.DwInRefIdeal.Run
public import proofs.«01_k».proof.Proof.Gen.DwInRefIdeal.Read
public import Idealize.ShloMosaic.Lib.Tactic
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

noncomputable section

namespace Cert.DwInClaim

open Idealize.ShloMosaic Idealize.ShloMosaic.TcCoe Idealize.SL.Sem
open Idealize.ShloMosaic.Pipeline (Dat)

section Values

open Cert.DwInIdeal

/-- The gradient: rows below 1024 are the queries', rows up to 1536 the keys' and values', the others the five branches'. -/
def Gat (a : Vec Ideal S5x4096x1024 .bf16) (q : Vec Ideal S4096x1024 .bf16) (kv : Vec Ideal S4096x512 .bf16)
    (h : Vec Ideal S4096x1024 .bf16) (r : Fin 6656) (l : Fin 1024) : EReal :=
  if hq : r.val < 1024 then ∑ s : Fin 4096, q (ix2 s ⟨r.val, hq⟩) * h (ix2 s l)
  else if hk : r.val < 1536 then ∑ s : Fin 4096, kv (ix2 s ⟨r.val - 1024, by omega⟩) * h (ix2 s l)
  else ∑ s : Fin 4096, a (ix3 ⟨(r.val - 1536) / 1024, by omega⟩ s ⟨(r.val - 1536) % 1024, Nat.mod_lt _ (by decide)⟩) * h (ix2 s l)

/-- The gradient as an array. -/
def G (a : Vec Ideal S5x4096x1024 .bf16) (q : Vec Ideal S4096x1024 .bf16) (kv : Vec Ideal S4096x512 .bf16)
    (h : Vec Ideal S4096x1024 .bf16) : Vec Ideal S6656x1024 .bf16 := fun y => Gat a q kv h (y 0) (y 1)

end Values

section Reference

set_option maxRecDepth 16384

open Cert.DwInRefIdeal Cert.DwInRefIdeal.Read

variable (a : Vec Ideal S5x4096x1024 .bf16) (q : Vec Ideal S4096x1024 .bf16) (kv : Vec Ideal S4096x512 .bf16)
  (h : Vec Ideal S4096x1024 .bf16)

/-- The padded cotangents, column by column. -/
theorem pad_kv (s : Fin 4096) (r : Fin 6656) : val_main_v12 kv (ix2 s r)
    = if hr : 1024 ≤ r.val ∧ r.val < 1536 then kv (ix2 s ⟨r.val - 1024, by omega⟩) else 0 := by
  unfold val_main_v12
  by_cases hr : 1024 ≤ r.val ∧ r.val < 1536
  · rw [dif_pos hr, pad_apply_of_inside _ _ _ _ _ _ _ _ (ix2 s ⟨r.val - 1024, by omega⟩) (fun b => by
      match b with
      | ⟨0, _⟩ => show s.val = 0 + s.val * 1; omega
      | ⟨1, _⟩ => show r.val = 1024 + (r.val - 1024) * 1; omega)]
    pointwise [val_main_v2]
  · rw [dif_neg hr, pad_apply_of_not_inside _ _ _ _ _ _ _ _ 1 (by
      show ¬(1024 ≤ r.val ∧ (r.val - 1024) % 1 = 0 ∧ (r.val - 1024) / 1 < 512); omega)]
    pointwise [val_main_cst_0]

theorem pad_q (s : Fin 4096) (r : Fin 6656) : val_main_v13 q (ix2 s r)
    = if hr : r.val < 1024 then q (ix2 s ⟨r.val, hr⟩) else 0 := by
  unfold val_main_v13
  by_cases hr : r.val < 1024
  · rw [dif_pos hr, pad_apply_of_inside _ _ _ _ _ _ _ _ (ix2 s ⟨r.val, hr⟩) (fun b => by
      match b with
      | ⟨0, _⟩ => show s.val = 0 + s.val * 1; omega
      | ⟨1, _⟩ => show r.val = 0 + r.val * 1; omega)]
    pointwise [val_main_v1]
  · rw [dif_neg hr, pad_apply_of_not_inside _ _ _ _ _ _ _ _ 1 (by
      show ¬(0 ≤ r.val ∧ (r.val - 0) % 1 = 0 ∧ (r.val - 0) / 1 < 1024); omega)]
    pointwise [val_main_cst_1]

theorem pad_a (s : Fin 4096) (r : Fin 6656) : val_main_v17 a (ix2 s r)
    = if hr : 1536 ≤ r.val then a (ix3 ⟨(r.val - 1536) / 1024, by omega⟩ s ⟨(r.val - 1536) % 1024, Nat.mod_lt _ (by decide)⟩) else 0 := by
  have hr' := r.isLt
  unfold val_main_v17
  by_cases hr : 1536 ≤ r.val
  · rw [dif_pos hr, pad_apply_of_inside _ _ _ _ _ _ _ _ (ix2 s ⟨r.val - 1536, by omega⟩) (fun b => by
      match b with
      | ⟨0, _⟩ => show s.val = 0 + s.val * 1; omega
      | ⟨1, _⟩ => show r.val = 1536 + (r.val - 1536) * 1; omega)]
    rw [val_main_v16_apply]
    pointwise [val_main_v15, val_main_v0]
    refine congrArg a (funext fun b => Fin.ext ?_)
    match b with
    | ⟨0, _⟩ => show (s.val * 5120 + (r.val - 1536)) / 1024 % 5 = (r.val - 1536) / 1024; omega
    | ⟨1, _⟩ => show (s.val * 5120 + (r.val - 1536)) / 5120 = s.val; omega
    | ⟨2, _⟩ => show (s.val * 5120 + (r.val - 1536)) % 1024 = (r.val - 1536) % 1024; omega
  · rw [dif_neg hr, pad_apply_of_not_inside _ _ _ _ _ _ _ _ 1 (by
      show ¬(1536 ≤ r.val ∧ (r.val - 1536) % 1 = 0 ∧ (r.val - 1536) / 1 < 5120); omega)]
    pointwise [val_main_cst_2]

/-- The three cotangents side by side. -/
theorem joined (s : Fin 4096) (r : Fin 6656) : val_main_v18 a q kv (ix2 s r)
    = val_main_v12 kv (ix2 s r) + val_main_v13 q (ix2 s r) + val_main_v17 a (ix2 s r) := rfl

/-- The reference's array. -/
theorem ref_out : val_main_v22 a q kv h = G a q kv h := by
  funext y
  obtain ⟨r, l, rfl⟩ : ∃ r l, y = ix2 r l := ⟨y 0, y 1, funext fun a => by fin_cases a <;> rfl⟩
  have hr := r.isLt
  pointwise [val_main_v22, val_main_v21, val_main_v20, val_main_v19, val_main_v4]
  simp only [joined, pad_kv, pad_q, pad_a]
  show _ = Gat a q kv h r l
  unfold Gat
  by_cases hq : r.val < 1024
  · rw [dif_pos hq]
    refine Finset.sum_congr rfl fun s _ => ?_
    rw [dif_neg (by omega), dif_pos hq, dif_neg (by omega), zero_add, add_zero]
  · rw [dif_neg hq]
    by_cases hk : r.val < 1536
    · rw [dif_pos hk]
      refine Finset.sum_congr rfl fun s _ => ?_
      rw [dif_pos (by omega), dif_neg (by omega), dif_neg (by omega), add_zero, add_zero]
    · rw [dif_neg hk]
      refine Finset.sum_congr rfl fun s _ => ?_
      rw [dif_neg (by omega), dif_neg (by omega), dif_pos (by omega), zero_add, zero_add]

/-- The reference runs, keeps its arguments and has no semaphore. -/
theorem ref_frame : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

end Reference

end Cert.DwInClaim
-- ==== Proof.DwInCalls.lean ====
/-
  The three calls of `DwIn`: each writes its rows of one array, the second and the third into what the call before left.
  A call's rows are its transposed cotangent times the normalised input.
-/
module

public import proofs.«01_k».proof.Defs
public import proofs.«01_k».proof.Proof.DwInSpec
public import proofs.«01_k».proof.Proof.Gen.DwInIdeal.Frame
public import Idealize.ShloMosaic.Lib.Tactic
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

noncomputable section

namespace Cert.DwInClaim

open Idealize.ShloMosaic Idealize.ShloMosaic.TcCoe Idealize.SL.Sem
open Idealize.ShloMosaic.Pipeline (Dat)

section Kernel

set_option maxRecDepth 16384

open Cert.DwInIdeal Cert.DwInIdeal.Gen

theorem zero3 : (![0, 0, 0] : Fin 3 → Nat) = fun _ => 0 := funext fun a => by fin_cases a <;> rfl
theorem zero2 : (![0, 0] : Fin 2 → Nat) = fun _ => 0 := funext fun a => by fin_cases a <;> rfl

/-- The product a body takes, row by row. -/
def prod (x : Vec Ideal S1x4096x512 .bf16) (z : Vec Ideal S4096x1024 .bf16) (i : Fin 512) (l : Fin 1024) : EReal :=
  ∑ s : Fin 4096, x (ix3 0 s i) * z (ix2 s l)

/-- The rows of the branches. -/
def rows0 (a : Vec Ideal S5x4096x1024 .bf16) (h : Vec Ideal S4096x1024 .bf16) : Vec Ideal S6656x1024 .bf16 := fun y =>
  ∑ s : Fin 4096, a (ix3 ⟨((y 0).val - 1536) / 1024, by have : (y 0).val < 6656 := (y 0).isLt; omega⟩ s ⟨((y 0).val - 1536) % 1024, Nat.mod_lt _ (by decide)⟩) * h (ix2 s (y 1))

/-- The rows of the queries. -/
def rows1 (a : Vec Ideal S1x4096x1024 .bf16) (h : Vec Ideal S4096x1024 .bf16) : Vec Ideal S6656x1024 .bf16 := fun y =>
  ∑ s : Fin 4096, a (ix3 0 s ⟨(y 0).val % 1024, Nat.mod_lt _ (by decide)⟩) * h (ix2 s (y 1))

/-- The rows of the keys and values. -/
def rows2 (a : Vec Ideal S1x4096x512 .bf16) (h : Vec Ideal S4096x1024 .bf16) : Vec Ideal S6656x1024 .bf16 := fun y =>
  ∑ s : Fin 4096, a (ix3 0 s ⟨((y 0).val - 1024) % 512, Nat.mod_lt _ (by decide)⟩) * h (ix2 s (y 1))

theorem prod_rows0 (x : Vec Ideal S1x4096x512 .bf16) (z : Vec Ideal S4096x1024 .bf16) (a : Vec Ideal S5x4096x1024 .bf16)
    (h : Vec Ideal S4096x1024 .bf16) (i : Fin 512) (l : Fin 1024) (y : S6656x1024.Idx)
    (hx : ∀ s, x (ix3 0 s i) = a (ix3 ⟨((y 0).val - 1536) / 1024, by have : (y 0).val < 6656 := (y 0).isLt; omega⟩ s ⟨((y 0).val - 1536) % 1024, Nat.mod_lt _ (by decide)⟩)) (hz : ∀ s, z (ix2 s l) = h (ix2 s (y 1))) :
    prod x z i l = rows0 a h y :=
  Finset.sum_congr rfl fun s _ => congr (congrArg _ (hx s)) (hz s)

theorem prod_rows1 (x : Vec Ideal S1x4096x512 .bf16) (z : Vec Ideal S4096x1024 .bf16) (a : Vec Ideal S1x4096x1024 .bf16)
    (h : Vec Ideal S4096x1024 .bf16) (i : Fin 512) (l : Fin 1024) (y : S6656x1024.Idx)
    (hx : ∀ s, x (ix3 0 s i) = a (ix3 0 s ⟨(y 0).val % 1024, Nat.mod_lt _ (by decide)⟩)) (hz : ∀ s, z (ix2 s l) = h (ix2 s (y 1))) :
    prod x z i l = rows1 a h y :=
  Finset.sum_congr rfl fun s _ => congr (congrArg _ (hx s)) (hz s)

theorem prod_rows2 (x : Vec Ideal S1x4096x512 .bf16) (z : Vec Ideal S4096x1024 .bf16) (a : Vec Ideal S1x4096x512 .bf16)
    (h : Vec Ideal S4096x1024 .bf16) (i : Fin 512) (l : Fin 1024) (y : S6656x1024.Idx)
    (hx : ∀ s, x (ix3 0 s i) = a (ix3 0 s ⟨((y 0).val - 1024) % 512, Nat.mod_lt _ (by decide)⟩)) (hz : ∀ s, z (ix2 s l) = h (ix2 s (y 1))) :
    prod x z i l = rows2 a h y :=
  Finset.sum_congr rfl fun s _ => congr (congrArg _ (hx s)) (hz s)

/-- The three calls' rows are the gradient's. -/
theorem rows_q (b : Vec Ideal S1x4096x1024 .bf16) (a : Vec Ideal S5x4096x1024 .bf16) (q : Vec Ideal S4096x1024 .bf16)
    (kv : Vec Ideal S4096x512 .bf16) (h : Vec Ideal S4096x1024 .bf16) (hb : ∀ s f, b (ix3 0 s f) = q (ix2 s f))
    (y : S6656x1024.Idx) (hy : (y 0).val < 1024) : rows1 b h y = G a q kv h y := by
  unfold rows1 G Gat
  rw [dif_pos hy]
  refine Finset.sum_congr rfl fun s _ => ?_
  rw [hb]
  simp only [Nat.mod_eq_of_lt hy]

theorem rows_kv (b : Vec Ideal S1x4096x512 .bf16) (a : Vec Ideal S5x4096x1024 .bf16) (q : Vec Ideal S4096x1024 .bf16)
    (kv : Vec Ideal S4096x512 .bf16) (h : Vec Ideal S4096x1024 .bf16) (hb : ∀ s f, b (ix3 0 s f) = kv (ix2 s f))
    (y : S6656x1024.Idx) (hy : ¬(y 0).val < 1024) (hk : (y 0).val < 1536) : rows2 b h y = G a q kv h y := by
  unfold rows2 G Gat
  rw [dif_neg hy, dif_pos hk]
  refine Finset.sum_congr rfl fun s _ => ?_
  rw [hb]
  simp only [Nat.mod_eq_of_lt (show (y 0).val - 1024 < 512 by omega)]

theorem rows_a (a : Vec Ideal S5x4096x1024 .bf16) (q : Vec Ideal S4096x1024 .bf16)
    (kv : Vec Ideal S4096x512 .bf16) (h : Vec Ideal S4096x1024 .bf16)
    (y : S6656x1024.Idx) (hy : ¬(y 0).val < 1024) (hk : ¬(y 0).val < 1536) : rows0 a h y = G a q kv h y := by
  unfold rows0 G Gat
  rw [dif_neg hy, dif_neg hk]

section Calls

variable (V : (c : Dev nD) → (b : Ref sig .tc) → Buf (Elt Ideal) ((c : Thread nD τ).loc b)) (c : Dev nD)

/-- Which block of its array each window of the call is at. -/
theorem at0 : ∀ t : Fin cfg0.N,
    (win0_0.index t 0 = t.val / 2 ∧ win0_0.index t 1 = 0 ∧ win0_0.index t 2 = t.val % 2)
    ∧ (win0_1.index t 0 = 0 ∧ win0_1.index t 1 = 0)
    ∧ (win0_2.index t 0 = 3 + t.val ∧ win0_2.index t 1 = 0) :=
  (by decide +kernel : ∀ t : Fin grid0.N,
    (win0_0.index t 0 = t.val / 2 ∧ win0_0.index t 1 = 0 ∧ win0_0.index t 2 = t.val % 2)
    ∧ (win0_1.index t 0 = 0 ∧ win0_1.index t 1 = 0)
    ∧ (win0_2.index t 0 = 3 + t.val ∧ win0_2.index t 1 = 0))

/-- The block of the cotangent, read against a row of the result. -/
theorem left0 (t : Fin cfg0.N) (s : Fin 4096) (i : Fin 512) (y : S6656x1024.Idx) (hy : (y 0).val = (3 + t.val) * 512 + i.val) :
    iblk0 V c 0 t (ix3 0 s i) = V c main_arg0 (ix3 ⟨((y 0).val - 1536) / 1024, by have : (y 0).val < 6656 := (y 0).isLt; omega⟩ s ⟨((y 0).val - 1536) % 1024, Nat.mod_lt _ (by decide)⟩) := by
  obtain ⟨h, -, -⟩ := at0 t
  have ht : t.val < 10 := lt_of_lt_of_eq t.isLt N_0
  have hi := i.isLt
  unfold iblk0
  rw [View.read_apply]
  refine congrArg (V c main_arg0) (funext fun a => Fin.ext ?_)
  match a with
  | ⟨0, _⟩ => show win0_0.index t 0 * 1 + 1 * 0 = ((y 0).val - 1536) / 1024; rw [h.1]; omega
  | ⟨1, _⟩ => show win0_0.index t 1 * 4096 + 1 * s.val = s.val; rw [h.2.1]; omega
  | ⟨2, _⟩ => show win0_0.index t 2 * 512 + 1 * i.val = ((y 0).val - 1536) % 1024; rw [h.2.2]; omega

/-- The normalised input, whole. -/
theorem right0 (t : Fin cfg0.N) (s : Fin 4096) (l : Fin 1024) : iblk0 V c 1 t (ix2 s l) = V c main_arg3 (ix2 s l) := by
  obtain ⟨-, h, -⟩ := at0 t
  unfold iblk0
  rw [View.read_apply]
  refine congrArg (V c main_arg3) (funext fun a => Fin.ext ?_)
  match a with
  | ⟨0, _⟩ => show win0_1.index t 0 * 4096 + 1 * s.val = s.val; rw [h.1]; omega
  | ⟨1, _⟩ => show win0_1.index t 1 * 1024 + 1 * l.val = l.val; rw [h.2]; omega

/-- What the call's body stores. -/
theorem stored0 (t : Fin cfg0.N) (i : Fin 512) (l : Fin 1024) :
    out0_2 (iblk0 V c 0 t) (iblk0 V c 1 t) (ix2 i l) = prod (iblk0 V c 0 t) (iblk0 V c 1 t) i l := by
  generalize iblk0 V c 0 t = x
  generalize iblk0 V c 1 t = y
  unfold out0_2
  simp only [r0_0, r0_1, r0_2, View.ld_unit_zero (S := S1x4096x512) zero3, View.ld_unit_zero (S := S4096x1024) zero2]
  rw [View.canon_unit_zero zero2]
  unfold_payloads
  unfold prod
  pointwise

/-- A block the call writes back is a block of its rows. -/
theorem block0 (t : Fin cfg0.N) : (dat0 V c).flushed 2 t
    = ((cfg0.win 2).blk t).view.read (Elt Ideal) (rows0 (V c main_arg0) (V c main_arg3)) := by
  obtain ⟨-, -, h⟩ := at0 t
  show (cfg0.win 2).cut (grid0.coords t) ((dat0 V c).after 2 t) = _
  rw [after0_2]
  funext y
  obtain ⟨i, l, rfl⟩ : ∃ i l, y = ix2 i l := ⟨y 0, y 1, funext fun a => by fin_cases a <;> rfl⟩
  refine (stored0 V c t i l).trans ?_
  rw [View.read_apply]
  refine prod_rows0 _ _ _ _ i l _ (fun s => left0 V c t s i _ ?_) (fun s => (right0 V c t s l).trans (congrArg (V c main_arg3) (funext fun a => Fin.ext ?_)))
  · show win0_2.index t 0 * 512 + 1 * i.val = _
    rw [h.1]; omega
  · match a with
    | ⟨0, _⟩ => rfl
    | ⟨1, _⟩ => show l.val = win0_2.index t 1 * 1024 + 1 * l.val; rw [h.2]; omega

/-- Whether a point of the call writes a row. -/
theorem mem0 (t : Fin cfg0.N) (i : S6656x1024.Idx) :
    i ∈ ((cfg0.win 2).blk t).view.set ↔ (3 + t.val) * 512 ≤ (i 0).val ∧ (i 0).val < (3 + t.val) * 512 + 512 := by
  obtain ⟨-, -, h⟩ := at0 t
  have h1 : (i 1 : Nat) < 1024 := (i 1).isLt
  show i ∈ ((View.whole main_v0).slice (win0_2.rect t)).set ↔ _
  rw [View.set_slice_whole, Rect.mem_set_unit]
  constructor
  · intro hi
    have := hi 0
    change win0_2.index t 0 * 512 ≤ (i 0).val ∧ (i 0).val < win0_2.index t 0 * 512 + 512 at this
    rwa [h.1] at this
  · intro hi a
    match a with
    | ⟨0, _⟩ => show win0_2.index t 0 * 512 ≤ (i 0).val ∧ (i 0).val < win0_2.index t 0 * 512 + 512
                rw [h.1]; exact hi
    | ⟨1, _⟩ => show win0_2.index t 1 * 1024 ≤ (i 1 : Nat) ∧ (i 1 : Nat) < win0_2.index t 1 * 1024 + 1024
                rw [h.2, Nat.zero_mul, Nat.zero_add]; exact ⟨Nat.zero_le _, h1⟩

/-- After the call its rows hold the product. -/
theorem inside0 (i : S6656x1024.Idx) (h0 : 1536 ≤ (i 0).val) (h1 : (i 0).val < 6656) :
    (dat0 V c).arrAt 2 cfg0.N i = rows0 (V c main_arg0) (V c main_arg3) i := by
  obtain ⟨t, ht⟩ : ∃ t : Fin cfg0.N, t.val = ((i 0).val - 1536) / 512 :=
    ⟨⟨((i 0).val - 1536) / 512, by rw [show cfg0.N = 10 from N_0]; omega⟩, rfl⟩
  exact (dat0 V c).arrAt_apply_of_mem 2 (rows0 (V c main_arg0) (V c main_arg3)) (fun t _ => block0 V c t) cfg0.N t i t.isLt (flush0_2 t)
    ((mem0 t i).mpr (by omega))

/-- Which block of its array each window of the call is at. -/
theorem at1 : ∀ t : Fin cfg1.N,
    (win1_0.index t 0 = 0 ∧ win1_0.index t 1 = 0 ∧ win1_0.index t 2 = t.val)
    ∧ (win1_1.index t 0 = 0 ∧ win1_1.index t 1 = 0)
    ∧ (win1_2.index t 0 = t.val ∧ win1_2.index t 1 = 0) :=
  (by decide +kernel : ∀ t : Fin grid1.N,
    (win1_0.index t 0 = 0 ∧ win1_0.index t 1 = 0 ∧ win1_0.index t 2 = t.val)
    ∧ (win1_1.index t 0 = 0 ∧ win1_1.index t 1 = 0)
    ∧ (win1_2.index t 0 = t.val ∧ win1_2.index t 1 = 0))

/-- The block of the cotangent, read against a row of the result. -/
theorem left1 (t : Fin cfg1.N) (s : Fin 4096) (i : Fin 512) (y : S6656x1024.Idx) (hy : (y 0).val = (t.val) * 512 + i.val) :
    iblk1 V c 0 t (ix3 0 s i) = V c main_v1 (ix3 0 s ⟨(y 0).val % 1024, Nat.mod_lt _ (by decide)⟩) := by
  obtain ⟨h, -, -⟩ := at1 t
  have ht : t.val < 2 := lt_of_lt_of_eq t.isLt N_1
  have hi := i.isLt
  unfold iblk1
  rw [View.read_apply]
  refine congrArg (V c main_v1) (funext fun a => Fin.ext ?_)
  match a with
  | ⟨0, _⟩ => show win1_0.index t 0 * 1 + 1 * 0 = 0; rw [h.1]
  | ⟨1, _⟩ => show win1_0.index t 1 * 4096 + 1 * s.val = s.val; rw [h.2.1]; omega
  | ⟨2, _⟩ => show win1_0.index t 2 * 512 + 1 * i.val = (y 0).val % 1024; rw [h.2.2]; omega

/-- The normalised input, whole. -/
theorem right1 (t : Fin cfg1.N) (s : Fin 4096) (l : Fin 1024) : iblk1 V c 1 t (ix2 s l) = V c main_arg3 (ix2 s l) := by
  obtain ⟨-, h, -⟩ := at1 t
  unfold iblk1
  rw [View.read_apply]
  refine congrArg (V c main_arg3) (funext fun a => Fin.ext ?_)
  match a with
  | ⟨0, _⟩ => show win1_1.index t 0 * 4096 + 1 * s.val = s.val; rw [h.1]; omega
  | ⟨1, _⟩ => show win1_1.index t 1 * 1024 + 1 * l.val = l.val; rw [h.2]; omega

/-- What the call's body stores. -/
theorem stored1 (t : Fin cfg1.N) (i : Fin 512) (l : Fin 1024) :
    outsAt1 V c t (ix2 i l) = prod (iblk1 V c 0 t) (iblk1 V c 1 t) i l := by
  unfold outsAt1
  generalize iblk1 V c 0 t = x
  generalize iblk1 V c 1 t = y
  unfold out1_A_2
  rw [View.read_writes_junk_eq_canon]
  unfold kernelRun1_A
  dsimp only
  simp only [View.readAt_eq_ld, Memref.IsWhole.read_unread, View.ld_unit_zero (S := S1x4096x512) zero3,
    View.ld_unit_zero (S := S4096x1024) zero2]
  rw [View.canon_unit_zero zero2]
  unfold_payloads
  unfold prod
  pointwise

/-- A block the call writes back is a block of its rows. -/
theorem block1 (t : Fin cfg1.N) : (dat1 V c).flushed 2 t
    = ((cfg1.win 2).blk t).view.read (Elt Ideal) (rows1 (V c main_v1) (V c main_arg3)) := by
  obtain ⟨-, -, h⟩ := at1 t
  show (cfg1.win 2).cut (grid1.coords t) ((dat1 V c).after 2 t) = _
  rw [after1_2]
  funext y
  obtain ⟨i, l, rfl⟩ : ∃ i l, y = ix2 i l := ⟨y 0, y 1, funext fun a => by fin_cases a <;> rfl⟩
  refine (stored1 V c t i l).trans ?_
  rw [View.read_apply]
  refine prod_rows1 _ _ _ _ i l _ (fun s => left1 V c t s i _ ?_) (fun s => (right1 V c t s l).trans (congrArg (V c main_arg3) (funext fun a => Fin.ext ?_)))
  · show win1_2.index t 0 * 512 + 1 * i.val = _
    rw [h.1]; omega
  · match a with
    | ⟨0, _⟩ => rfl
    | ⟨1, _⟩ => show l.val = win1_2.index t 1 * 1024 + 1 * l.val; rw [h.2]; omega

/-- Whether a point of the call writes a row. -/
theorem mem1 (t : Fin cfg1.N) (i : S6656x1024.Idx) :
    i ∈ ((cfg1.win 2).blk t).view.set ↔ (t.val) * 512 ≤ (i 0).val ∧ (i 0).val < (t.val) * 512 + 512 := by
  obtain ⟨-, -, h⟩ := at1 t
  have h1 : (i 1 : Nat) < 1024 := (i 1).isLt
  show i ∈ ((View.whole main_v2).slice (win1_2.rect t)).set ↔ _
  rw [View.set_slice_whole, Rect.mem_set_unit]
  constructor
  · intro hi
    have := hi 0
    change win1_2.index t 0 * 512 ≤ (i 0).val ∧ (i 0).val < win1_2.index t 0 * 512 + 512 at this
    rwa [h.1] at this
  · intro hi a
    match a with
    | ⟨0, _⟩ => show win1_2.index t 0 * 512 ≤ (i 0).val ∧ (i 0).val < win1_2.index t 0 * 512 + 512
                rw [h.1]; exact hi
    | ⟨1, _⟩ => show win1_2.index t 1 * 1024 ≤ (i 1 : Nat) ∧ (i 1 : Nat) < win1_2.index t 1 * 1024 + 1024
                rw [h.2, Nat.zero_mul, Nat.zero_add]; exact ⟨Nat.zero_le _, h1⟩

/-- After the call its rows hold the product. -/
theorem inside1 (i : S6656x1024.Idx) (h0 : 0 ≤ (i 0).val) (h1 : (i 0).val < 1024) :
    (dat1 V c).arrAt 2 cfg1.N i = rows1 (V c main_v1) (V c main_arg3) i := by
  obtain ⟨t, ht⟩ : ∃ t : Fin cfg1.N, t.val = ((i 0).val - 0) / 512 :=
    ⟨⟨((i 0).val - 0) / 512, by rw [show cfg1.N = 2 from N_1]; omega⟩, rfl⟩
  exact (dat1 V c).arrAt_apply_of_mem 2 (rows1 (V c main_v1) (V c main_arg3)) (fun t _ => block1 V c t) cfg1.N t i t.isLt (flush1_2 t)
    ((mem1 t i).mpr (by omega))

/-- The other rows are as the call found them. -/
theorem outside1 (i : S6656x1024.Idx) (h : (i 0).val < 0 ∨ 1024 ≤ (i 0).val) :
    (dat1 V c).arrAt 2 cfg1.N i = V c main_v2 i := by
  refine ((dat1 V c).arrAt_apply_of_forall_not_mem 2 cfg1.N i fun t _ _ hi => ?_).trans (congrFun (A_eq1 V c 2) i)
  have := (mem1 t i).mp hi
  have ht : t.val < 2 := lt_of_lt_of_eq t.isLt N_1
  omega

/-- Which block of its array each window of the call is at. -/
theorem at2 : ∀ t : Fin cfg2.N,
    (win2_0.index t 0 = 0 ∧ win2_0.index t 1 = 0 ∧ win2_0.index t 2 = 0)
    ∧ (win2_1.index t 0 = 0 ∧ win2_1.index t 1 = 0)
    ∧ (win2_2.index t 0 = 2 ∧ win2_2.index t 1 = 0) :=
  (by decide +kernel : ∀ t : Fin grid2.N,
    (win2_0.index t 0 = 0 ∧ win2_0.index t 1 = 0 ∧ win2_0.index t 2 = 0)
    ∧ (win2_1.index t 0 = 0 ∧ win2_1.index t 1 = 0)
    ∧ (win2_2.index t 0 = 2 ∧ win2_2.index t 1 = 0))

/-- The block of the cotangent, read against a row of the result. -/
theorem left2 (t : Fin cfg2.N) (s : Fin 4096) (i : Fin 512) (y : S6656x1024.Idx) (hy : (y 0).val = (2) * 512 + i.val) :
    iblk2 V c 0 t (ix3 0 s i) = V c main_v3 (ix3 0 s ⟨((y 0).val - 1024) % 512, Nat.mod_lt _ (by decide)⟩) := by
  obtain ⟨h, -, -⟩ := at2 t
  have ht : t.val < 1 := lt_of_lt_of_eq t.isLt N_2
  have hi := i.isLt
  unfold iblk2
  rw [View.read_apply]
  refine congrArg (V c main_v3) (funext fun a => Fin.ext ?_)
  match a with
  | ⟨0, _⟩ => show win2_0.index t 0 * 1 + 1 * 0 = 0; rw [h.1]
  | ⟨1, _⟩ => show win2_0.index t 1 * 4096 + 1 * s.val = s.val; rw [h.2.1]; omega
  | ⟨2, _⟩ => show win2_0.index t 2 * 512 + 1 * i.val = ((y 0).val - 1024) % 512; rw [h.2.2]; omega

/-- The normalised input, whole. -/
theorem right2 (t : Fin cfg2.N) (s : Fin 4096) (l : Fin 1024) : iblk2 V c 1 t (ix2 s l) = V c main_arg3 (ix2 s l) := by
  obtain ⟨-, h, -⟩ := at2 t
  unfold iblk2
  rw [View.read_apply]
  refine congrArg (V c main_arg3) (funext fun a => Fin.ext ?_)
  match a with
  | ⟨0, _⟩ => show win2_1.index t 0 * 4096 + 1 * s.val = s.val; rw [h.1]; omega
  | ⟨1, _⟩ => show win2_1.index t 1 * 1024 + 1 * l.val = l.val; rw [h.2]; omega

/-- What the call's body stores. -/
theorem stored2 (t : Fin cfg2.N) (i : Fin 512) (l : Fin 1024) :
    outsAt2 V c t (ix2 i l) = prod (iblk2 V c 0 t) (iblk2 V c 1 t) i l := by
  unfold outsAt2
  generalize iblk2 V c 0 t = x
  generalize iblk2 V c 1 t = y
  unfold out2_A_2
  rw [View.read_writes_junk_eq_canon]
  unfold kernelRun2_A
  dsimp only
  simp only [View.readAt_eq_ld, Memref.IsWhole.read_unread, View.ld_unit_zero (S := S1x4096x512) zero3,
    View.ld_unit_zero (S := S4096x1024) zero2]
  rw [View.canon_unit_zero zero2]
  unfold_payloads
  unfold prod
  pointwise

/-- A block the call writes back is a block of its rows. -/
theorem block2 (t : Fin cfg2.N) : (dat2 V c).flushed 2 t
    = ((cfg2.win 2).blk t).view.read (Elt Ideal) (rows2 (V c main_v3) (V c main_arg3)) := by
  obtain ⟨-, -, h⟩ := at2 t
  show (cfg2.win 2).cut (grid2.coords t) ((dat2 V c).after 2 t) = _
  rw [after2_2]
  funext y
  obtain ⟨i, l, rfl⟩ : ∃ i l, y = ix2 i l := ⟨y 0, y 1, funext fun a => by fin_cases a <;> rfl⟩
  refine (stored2 V c t i l).trans ?_
  rw [View.read_apply]
  refine prod_rows2 _ _ _ _ i l _ (fun s => left2 V c t s i _ ?_) (fun s => (right2 V c t s l).trans (congrArg (V c main_arg3) (funext fun a => Fin.ext ?_)))
  · show win2_2.index t 0 * 512 + 1 * i.val = _
    rw [h.1]; omega
  · match a with
    | ⟨0, _⟩ => rfl
    | ⟨1, _⟩ => show l.val = win2_2.index t 1 * 1024 + 1 * l.val; rw [h.2]; omega

/-- Whether a point of the call writes a row. -/
theorem mem2 (t : Fin cfg2.N) (i : S6656x1024.Idx) :
    i ∈ ((cfg2.win 2).blk t).view.set ↔ (2) * 512 ≤ (i 0).val ∧ (i 0).val < (2) * 512 + 512 := by
  obtain ⟨-, -, h⟩ := at2 t
  have h1 : (i 1 : Nat) < 1024 := (i 1).isLt
  show i ∈ ((View.whole main_v4).slice (win2_2.rect t)).set ↔ _
  rw [View.set_slice_whole, Rect.mem_set_unit]
  constructor
  · intro hi
    have := hi 0
    change win2_2.index t 0 * 512 ≤ (i 0).val ∧ (i 0).val < win2_2.index t 0 * 512 + 512 at this
    rwa [h.1] at this
  · intro hi a
    match a with
    | ⟨0, _⟩ => show win2_2.index t 0 * 512 ≤ (i 0).val ∧ (i 0).val < win2_2.index t 0 * 512 + 512
                rw [h.1]; exact hi
    | ⟨1, _⟩ => show win2_2.index t 1 * 1024 ≤ (i 1 : Nat) ∧ (i 1 : Nat) < win2_2.index t 1 * 1024 + 1024
                rw [h.2, Nat.zero_mul, Nat.zero_add]; exact ⟨Nat.zero_le _, h1⟩

/-- After the call its rows hold the product. -/
theorem inside2 (i : S6656x1024.Idx) (h0 : 1024 ≤ (i 0).val) (h1 : (i 0).val < 1536) :
    (dat2 V c).arrAt 2 cfg2.N i = rows2 (V c main_v3) (V c main_arg3) i := by
  obtain ⟨t, ht⟩ : ∃ t : Fin cfg2.N, t.val = ((i 0).val - 1024) / 512 :=
    ⟨⟨((i 0).val - 1024) / 512, by rw [show cfg2.N = 1 from N_2]; omega⟩, rfl⟩
  exact (dat2 V c).arrAt_apply_of_mem 2 (rows2 (V c main_v3) (V c main_arg3)) (fun t _ => block2 V c t) cfg2.N t i t.isLt (flush2_2 t)
    ((mem2 t i).mpr (by omega))

/-- The other rows are as the call found them. -/
theorem outside2 (i : S6656x1024.Idx) (h : (i 0).val < 1024 ∨ 1536 ≤ (i 0).val) :
    (dat2 V c).arrAt 2 cfg2.N i = V c main_v4 i := by
  refine ((dat2 V c).arrAt_apply_of_forall_not_mem 2 cfg2.N i fun t _ _ hi => ?_).trans (congrFun (A_eq2 V c 2) i)
  have := (mem2 t i).mp hi
  have ht : t.val < 1 := lt_of_lt_of_eq t.isLt N_2
  omega

end Calls

variable (m : (ℓ : Loc nD τ sig) → Buf (Elt Ideal) ℓ) (ρ : Dev nD → PrngReg) (c : Dev nD)

/-- The queries' cotangent as its call finds it, with an axis of one in front. -/
theorem found1 (s : Fin 4096) (f : Fin 1024) : V2 m ρ c main_v1 (ix3 0 s f) = m ((c : Thread nD τ).loc main_arg1) (ix2 s f) := by
  have e : V2 m ρ c main_v1 = broadcastInDim S1x4096x1024 ![1, 2] bcast_S4096x1024_S1x4096x1024_1_2 (V1 m ρ c main_arg1) := by
    show StableHlo.after hostOps1 (W1 m ρ c) (Proc.devRef .tc main_v1) = _
    after_results
  rw [e, show V1 m ρ c main_arg1 = _ from W1_args m ρ c main_arg1 (by decide)]
  generalize m ((c : Thread nD τ).loc main_arg1) = y
  pointwise

/-- The keys' and values' cotangent as its call finds it, with an axis of one in front. -/
theorem found2 (s : Fin 4096) (f : Fin 512) : V4 m ρ c main_v3 (ix3 0 s f) = m ((c : Thread nD τ).loc main_arg2) (ix2 s f) := by
  have e : V4 m ρ c main_v3 = broadcastInDim S1x4096x512 ![1, 2] bcast_S4096x512_S1x4096x512_1_2 (V3 m ρ c main_arg2) := by
    show StableHlo.after hostOps2 (W3 m ρ c) (Proc.devRef .tc main_v3) = _
    after_results
  rw [e, show V3 m ρ c main_arg2 = _ from W3_args m ρ c main_arg2 (by decide)]
  generalize m ((c : Thread nD τ).loc main_arg2) = y
  pointwise

/-- What the first call leaves is what the second begins from. -/
theorem begun1 : V2 m ρ c main_v2 = (dat0 (V0 m ρ) c).arrAt 2 cfg0.N := by
  refine Eq.trans ?_ (W1_arr m ρ c 2)
  show StableHlo.after hostOps1 (W1 m ρ c) (Proc.devRef .tc main_v2) = _
  after_results
  rfl

/-- What the second call leaves is what the third begins from. -/
theorem begun2 : V4 m ρ c main_v4 = (dat1 (V2 m ρ) c).arrAt 2 cfg1.N := by
  refine Eq.trans ?_ (W3_arr m ρ c 2)
  show StableHlo.after hostOps2 (W3 m ρ c) (Proc.devRef .tc main_v4) = _
  after_results
  rfl

/-- The array after the three calls. -/
theorem out : W5 m ρ c (Proc.devRef .tc main_v4)
    = G (m ((c : Thread nD τ).loc main_arg0)) (m ((c : Thread nD τ).loc main_arg1)) (m ((c : Thread nD τ).loc main_arg2))
        (m ((c : Thread nD τ).loc main_arg3)) := by
  refine (W5_arr m ρ c 2).trans (funext fun (i : S6656x1024.Idx) => ?_)
  have hi : (i 0).val < 6656 := (i 0).isLt
  by_cases hq : (i 0).val < 1024
  · refine (outside2 (V4 m ρ) c i (.inl hq)).trans ?_
    rw [begun2]
    refine (inside1 (V2 m ρ) c i (Nat.zero_le _) hq).trans ?_
    rw [show V2 m ρ c main_arg3 = _ from W2_args m ρ c main_arg3 (by decide)]
    exact rows_q _ _ _ _ _ (found1 m ρ c) i hq
  · by_cases hk : (i 0).val < 1536
    · refine (inside2 (V4 m ρ) c i (by omega) hk).trans ?_
      rw [show V4 m ρ c main_arg3 = _ from W4_args m ρ c main_arg3 (by decide)]
      exact rows_kv _ _ _ _ _ (found2 m ρ c) i hq hk
    · refine (outside2 (V4 m ρ) c i (.inr (by omega))).trans ?_
      rw [begun2]
      refine (outside1 (V2 m ρ) c i (.inr (by omega))).trans ?_
      rw [begun1]
      exact (inside0 (V0 m ρ) c i (by omega) hi).trans (rows_a _ _ _ _ i hq hk)

section Run

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- The three calls run one after another; afterwards every array a call or the host wrote is at what the last wrote. -/
theorem run : θ_run defs (onTc (τ := τ) (main (F := Ideal))) ⟨m, fun _ => 0, ρ⟩ (fun r => ∀ c : Dev nD,
      ∀ b : Ref sig .tc, ¬ (Proc.devRef .tc b : DevRef τ sig).isScoped →
        r.2.mem ((c : Thread nD τ).loc b) = W5 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => fun c b hb => h c _ (mem_uc b hb))

end Run

end Kernel

end Cert.DwInClaim
-- ==== Proof.DwInClaim.lean ====
/-
  The claims on `DwIn`: the kernel's three calls and the reference's product leave the same array.
-/
module

public import proofs.«01_k».proof.Defs
public import proofs.«01_k».proof.Proof.DwInCalls

@[expose] public section

noncomputable section

namespace Cert.DwInClaim

open Idealize.ShloMosaic Idealize.ShloMosaic.TcCoe Idealize.SL.Sem
open Idealize.ShloMosaic.Pipeline (Dat)

/-- Kernel and reference leave the same gradient. -/
theorem algebraic : Cert.algebraic_DwInIdeal_DwInRefIdeal := by
  intro m g m' g' _ hagree
  refine ⟨fun c => G (m ((c : Thread Cert.DwInIdeal.nD Cert.DwInIdeal.τ).loc Cert.DwInIdeal.main_arg0))
    (m ((c : Thread Cert.DwInIdeal.nD Cert.DwInIdeal.τ).loc Cert.DwInIdeal.main_arg1))
    (m ((c : Thread Cert.DwInIdeal.nD Cert.DwInIdeal.τ).loc Cert.DwInIdeal.main_arg2))
    (m ((c : Thread Cert.DwInIdeal.nD Cert.DwInIdeal.τ).loc Cert.DwInIdeal.main_arg3)), ?_, ?_⟩
  · refine (θ_run Cert.DwInIdeal.defs _ _).mono (fun r h c => ?_) (run m g)
    exact ⟨(h c _ (by decide)).trans (out m g c),
      (h c _ (by decide)).trans (Cert.DwInIdeal.Gen.W5_main_arg0 m g c), (h c _ (by decide)).trans (Cert.DwInIdeal.Gen.W5_main_arg1 m g c),
      (h c _ (by decide)).trans (Cert.DwInIdeal.Gen.W5_main_arg2 m g c), (h c _ (by decide)).trans (Cert.DwInIdeal.Gen.W5_main_arg3 m g c)⟩
  · refine (θ_run Cert.DwInRefIdeal.defs _ _).mono (fun r h c => ?_) (Cert.DwInRefIdeal.Value.run (F := Ideal) m' g')
    refine ⟨(h c).1.trans ((Cert.DwInRefIdeal.Read.val_main_v22_eq _ _ _ _).trans ((ref_out _ _ _ _).trans ?_)), (h c).2⟩
    exact congr (congr (congr (congrArg G (hagree c).1) (hagree c).2.1) (hagree c).2.2.1) (hagree c).2.2.2

end Cert.DwInClaim
-- ==== Proof.MemKvBody.lean ====
/-
  The memory's keys and values `MemKv`: the memory is normalised and taken through eight weights; the gradient comes back
  to the weights and to the norm's gain. Here the values, and what each body leaves of them.
-/
module

public import proofs.«01_k».proof.Defs
public import proofs.«01_k».proof.Proof.RmsGrad
public import proofs.«01_k».proof.Proof.Gen.MemKvIdeal.Frame
public import Idealize.ShloMosaic.Lib.Tactic
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

noncomputable section

namespace Cert.MemKvClaim

open Idealize.ShloMosaic Idealize.ShloMosaic.TcCoe Idealize.SL.Sem
open Idealize.ShloMosaic.Pipeline (Dat)

section Values

open Cert.MemKvIdeal

/-- The memory, normalised. -/
def unit (x : Vec Ideal S256x1024 .f32) (i : Fin 256) (d : Fin 1024) : EReal := x (ix2 i d) * RmsGrad.recip fun k => x (ix2 i k)

def H (x : Vec Ideal S256x1024 .f32) (g : Vec Ideal S1x1024 .f32) : Vec Ideal S256x1024 .bf16 := fun y =>
  unit x (y 0) (y 1) * g (ix2 0 (y 1))

/-- The keys and values, out of the normalised memory. -/
def K (h : Vec Ideal S256x1024 .bf16) (w : Vec Ideal S8x1024x256 .bf16) : Vec Ideal S8x256x256 .bf16 := fun y =>
  ∑ d : Fin 1024, h (ix2 (y 1) d) * w (ix3 (y 0) d (y 2))

/-- The weights' gradient. -/
def DW (h : Vec Ideal S256x1024 .bf16) (q : Vec Ideal S8x256x256 .f32) : Vec Ideal S8x1024x256 .bf16 := fun y =>
  ∑ i : Fin 256, h (ix2 i (y 1)) * q (ix3 (y 0) i (y 2))

/-- What comes back through the weights. -/
def dh (w : Vec Ideal S8x1024x256 .bf16) (q : Vec Ideal S8x256x256 .f32) (i : Fin 256) (d : Fin 1024) : EReal :=
  ∑ j : Fin 8, ∑ n : Fin 256, q (ix3 j i n) * w (ix3 j d n)

/-- The gain's gradient. -/
def DG (x : Vec Ideal S256x1024 .f32) (w : Vec Ideal S8x1024x256 .bf16) (q : Vec Ideal S8x256x256 .f32) : Vec Ideal S1x1024 .f32 := fun y =>
  ∑ i : Fin 256, dh w q i (y 1) * unit x i (y 1)

end Values

section Kernel

set_option maxRecDepth 16384

open Cert.MemKvIdeal Cert.MemKvIdeal.Gen

theorem zero3 : (![0, 0, 0] : Fin 3 → Nat) = fun _ => 0 := funext fun a => by fin_cases a <;> rfl
theorem zero2 : (![0, 0] : Fin 2 → Nat) = fun _ => 0 := funext fun a => by fin_cases a <;> rfl

/-- One plane of an array of planes. -/
theorem plane {n p : ℕ} {e : EltTy} (x : Vec Ideal (⟨3, ![8, n, p]⟩ : Shape) e) (j : ℕ) (hj : j < 8)
    (h) (i : Fin n) (l : Fin p) :
    View.ld (Val := Elt Ideal) x (Rect.unit (s := ⟨3, ![8, n, p]⟩) ![j, 0, 0] (⟨3, ![1, n, p]⟩ : Shape).size h) (ix3 0 i l) = x (ix3 ⟨j, hj⟩ i l) := by
  show x _ = _
  refine congrArg x (funext fun a => Fin.ext ?_)
  match a with
  | ⟨0, _⟩ => show j + 1 * 0 = j; rfl
  | ⟨1, _⟩ => show 0 + 1 * i.val = i.val; omega
  | ⟨2, _⟩ => show 0 + 1 * l.val = l.val; omega

/-- The normalised memory the first call stores. -/
theorem pay_h (x : Vec Ideal S256x1024 .f32) (g : Vec Ideal S1x1024 .f32) : k0_pay3 x g = H x g := by
  funext y
  obtain ⟨i, d, rfl⟩ : ∃ i d, y = ix2 i d := ⟨y 0, y 1, funext fun a => by fin_cases a <;> rfl⟩
  unfold_payloads
  unfold H unit RmsGrad.recip RmsGrad.meanSq
  pointwise

theorem pay_k0 (x : Vec Ideal S256x1024 .f32) (g : Vec Ideal S1x1024 .f32) (v : Vec Ideal S1x1024x256 .bf16) (i l : Fin 256) :
    k0_pay4 x g v (ix3 0 i l) = ∑ d : Fin 1024, H x g (ix2 i d) * v (ix3 0 d l) := by
  rw [← pay_h x g]
  unfold k0_pay4
  generalize k0_pay3 x g = h
  pointwise

theorem pay_k1 (x : Vec Ideal S256x1024 .f32) (g : Vec Ideal S1x1024 .f32) (v : Vec Ideal S1x1024x256 .bf16) (i l : Fin 256) :
    k0_pay5 x g v (ix3 0 i l) = ∑ d : Fin 1024, H x g (ix2 i d) * v (ix3 0 d l) := by
  rw [← pay_h x g]
  unfold k0_pay5
  generalize k0_pay3 x g = h
  pointwise

theorem pay_k2 (x : Vec Ideal S256x1024 .f32) (g : Vec Ideal S1x1024 .f32) (v : Vec Ideal S1x1024x256 .bf16) (i l : Fin 256) :
    k0_pay6 (k0_pay3 x g) v (ix3 0 i l) = ∑ d : Fin 1024, H x g (ix2 i d) * v (ix3 0 d l) := by
  rw [← pay_h x g]
  unfold k0_pay6
  generalize k0_pay3 x g = h
  pointwise

theorem pay_k3 (x : Vec Ideal S256x1024 .f32) (g : Vec Ideal S1x1024 .f32) (v : Vec Ideal S1x1024x256 .bf16) (i l : Fin 256) :
    k0_pay7 (k0_pay3 x g) v (ix3 0 i l) = ∑ d : Fin 1024, H x g (ix2 i d) * v (ix3 0 d l) := by
  rw [← pay_h x g]
  unfold k0_pay7
  generalize k0_pay3 x g = h
  pointwise

theorem pay_k4 (x : Vec Ideal S256x1024 .f32) (g : Vec Ideal S1x1024 .f32) (v : Vec Ideal S1x1024x256 .bf16) (i l : Fin 256) :
    k0_pay8 (k0_pay3 x g) v (ix3 0 i l) = ∑ d : Fin 1024, H x g (ix2 i d) * v (ix3 0 d l) := by
  rw [← pay_h x g]
  unfold k0_pay8
  generalize k0_pay3 x g = h
  pointwise

theorem pay_k5 (x : Vec Ideal S256x1024 .f32) (g : Vec Ideal S1x1024 .f32) (v : Vec Ideal S1x1024x256 .bf16) (i l : Fin 256) :
    k0_pay9 (k0_pay3 x g) v (ix3 0 i l) = ∑ d : Fin 1024, H x g (ix2 i d) * v (ix3 0 d l) := by
  rw [← pay_h x g]
  unfold k0_pay9
  generalize k0_pay3 x g = h
  pointwise

theorem pay_k6 (x : Vec Ideal S256x1024 .f32) (g : Vec Ideal S1x1024 .f32) (v : Vec Ideal S1x1024x256 .bf16) (i l : Fin 256) :
    k0_pay1 (k0_pay3 x g) v (ix3 0 i l) = ∑ d : Fin 1024, H x g (ix2 i d) * v (ix3 0 d l) := by
  rw [← pay_h x g]
  unfold k0_pay1
  generalize k0_pay3 x g = h
  pointwise

theorem pay_k7 (x : Vec Ideal S256x1024 .f32) (g : Vec Ideal S1x1024 .f32) (v : Vec Ideal S1x1024x256 .bf16) (i l : Fin 256) :
    k0_pay2 (k0_pay3 x g) v (ix3 0 i l) = ∑ d : Fin 1024, H x g (ix2 i d) * v (ix3 0 d l) := by
  rw [← pay_h x g]
  unfold k0_pay2
  generalize k0_pay3 x g = h
  pointwise

theorem pay_w0 (q : Vec Ideal S1x256x256 .f32) (h : Vec Ideal S256x1024 .bf16) (d : Fin 1024) (l : Fin 256) :
    k1_pay3 q h (ix3 0 d l) = ∑ i : Fin 256, h (ix2 i d) * q (ix3 0 i l) := by
  unfold_payloads
  pointwise

theorem pay_w1 (q : Vec Ideal S1x256x256 .f32) (h : Vec Ideal S256x1024 .bf16) (d : Fin 1024) (l : Fin 256) :
    k1_pay5 q h (ix3 0 d l) = ∑ i : Fin 256, h (ix2 i d) * q (ix3 0 i l) := by
  unfold_payloads
  pointwise

theorem pay_w2 (q : Vec Ideal S1x256x256 .f32) (h : Vec Ideal S256x1024 .bf16) (d : Fin 1024) (l : Fin 256) :
    k1_pay8 q h (ix3 0 d l) = ∑ i : Fin 256, h (ix2 i d) * q (ix3 0 i l) := by
  unfold_payloads
  pointwise

theorem pay_w3 (q : Vec Ideal S1x256x256 .f32) (h : Vec Ideal S256x1024 .bf16) (d : Fin 1024) (l : Fin 256) :
    k1_pay10 q h (ix3 0 d l) = ∑ i : Fin 256, h (ix2 i d) * q (ix3 0 i l) := by
  unfold_payloads
  pointwise

theorem pay_w4 (q : Vec Ideal S1x256x256 .f32) (h : Vec Ideal S256x1024 .bf16) (d : Fin 1024) (l : Fin 256) :
    k1_pay13 (k1_pay12 q) h (ix3 0 d l) = ∑ i : Fin 256, h (ix2 i d) * q (ix3 0 i l) := by
  unfold_payloads
  pointwise

theorem pay_w5 (q : Vec Ideal S1x256x256 .f32) (h : Vec Ideal S256x1024 .bf16) (d : Fin 1024) (l : Fin 256) :
    k1_pay15 q h (ix3 0 d l) = ∑ i : Fin 256, h (ix2 i d) * q (ix3 0 i l) := by
  unfold_payloads
  pointwise

theorem pay_w6 (q : Vec Ideal S1x256x256 .f32) (h : Vec Ideal S256x1024 .bf16) (d : Fin 1024) (l : Fin 256) :
    k1_pay19 (k1_pay18 q h) (ix3 0 d l) = ∑ i : Fin 256, h (ix2 i d) * q (ix3 0 i l) := by
  unfold_payloads
  pointwise

theorem pay_w7 (q : Vec Ideal S1x256x256 .f32) (h : Vec Ideal S256x1024 .bf16) (d : Fin 1024) (l : Fin 256) :
    k1_pay21 q h (ix3 0 d l) = ∑ i : Fin 256, h (ix2 i d) * q (ix3 0 i l) := by
  unfold_payloads
  pointwise

/-- What comes back through the eight weights. -/
theorem pay_dh (q0 q1 q2 q3 q4 q5 q6 q7 : Vec Ideal S1x256x256 .f32) (w0 w1 w2 w3 w4 w5 w6 w7 : Vec Ideal S1x1024x256 .bf16) (i : Fin 256) (d : Fin 1024) :
    k1_pay22 (k1_pay16 (k1_pay11 (k1_pay6 q0 w0 q1 w1) q2 w2 q3 w3) (k1_pay12 q4) w4 q5 w5) (k1_pay17 q6) w6 q7 w7 (ix2 i d)
      = (∑ n : Fin 256, q0 (ix3 0 i n) * w0 (ix3 0 d n)) + (∑ n : Fin 256, q1 (ix3 0 i n) * w1 (ix3 0 d n))
        + (∑ n : Fin 256, q2 (ix3 0 i n) * w2 (ix3 0 d n)) + (∑ n : Fin 256, q3 (ix3 0 i n) * w3 (ix3 0 d n))
        + (∑ n : Fin 256, q4 (ix3 0 i n) * w4 (ix3 0 d n)) + (∑ n : Fin 256, q5 (ix3 0 i n) * w5 (ix3 0 d n))
        + (∑ n : Fin 256, q6 (ix3 0 i n) * w6 (ix3 0 d n)) + (∑ n : Fin 256, q7 (ix3 0 i n) * w7 (ix3 0 d n)) := by
  unfold_payloads
  pointwise

/-- The memory without its gain. -/
theorem pay_unit (x : Vec Ideal S256x1024 .f32) (i : Fin 256) (d : Fin 1024) : k1_pay23 x (ix2 i d) = unit x i d := by
  unfold_payloads
  unfold unit RmsGrad.recip RmsGrad.meanSq
  pointwise

theorem pay_sum (a b : Vec Ideal S256x1024 .f32) (d : Fin 1024) : k1_pay1 (F := Ideal) a b (ix2 (0 : Fin 1) d) = ∑ i : Fin 256, a (ix2 i d) * b (ix2 i d) := by
  unfold_payloads
  pointwise

/-- What the first call's body leaves. -/
theorem body_h (x : Vec Ideal S256x1024 .f32) (g : Vec Ideal S1x1024 .f32) (w : Vec Ideal S8x1024x256 .bf16) : out0_3 x g w = H x g := by
  unfold out0_3
  simp only [r0_0, r0_1, View.ld_unit_zero (S := S256x1024) zero2, View.ld_unit_zero (S := S1x1024) zero2]
  rw [View.canon_unit_zero zero2]
  exact pay_h x g

/-- A stored plane is what the whole array holds there. -/
theorem put {n p : ℕ} (G : (⟨3, ![8, n, p]⟩ : Shape).Idx → EReal) (v : (⟨3, ![1, n, p]⟩ : Shape).Idx → EReal) (j : ℕ) (hj : j < 8) (h)
    (hv : ∀ i l, v (ix3 0 i l) = G (ix3 ⟨j, hj⟩ i l)) (y : (⟨3, ![1, n, p]⟩ : Shape).Idx) :
    v y = G ((Rect.unit (s := ⟨3, ![8, n, p]⟩) ![j, 0, 0] (⟨3, ![1, n, p]⟩ : Shape).size h).emb y) := by
  obtain ⟨o, i, l, rfl⟩ : ∃ o i l, y = ix3 o i l := ⟨y 0, y 1, y 2, funext fun a => by fin_cases a <;> rfl⟩
  obtain rfl : o = 0 := Subsingleton.elim _ _
  rw [hv]
  refine congrArg G (funext fun a => Fin.ext ?_)
  match a with
  | ⟨0, _⟩ => show j = j + 1 * 0; rfl
  | ⟨1, _⟩ => show i.val = 0 + 1 * i.val; omega
  | ⟨2, _⟩ => show l.val = 0 + 1 * l.val; omega

theorem body_k (x : Vec Ideal S256x1024 .f32) (g : Vec Ideal S1x1024 .f32) (w : Vec Ideal S8x1024x256 .bf16) : out0_4 x g w = K (H x g) w := by
  funext y
  unfold out0_4 k0_pay10
  simp only [r0_0, r0_1, View.ld_unit_zero (S := S256x1024) zero2, View.ld_unit_zero (S := S1x1024) zero2]
  refine View.canon_apply_of_pieces (Val := Elt Ideal) (e := .bf16) (K (H x g) w) _ ?_ _ (cover0_4 ..)
  rw [List.forall_mem_cons, List.forall_mem_cons, List.forall_mem_cons, List.forall_mem_cons, List.forall_mem_cons, List.forall_mem_cons, List.forall_mem_cons, List.forall_mem_singleton]
  dsimp only
  exact ⟨put (K (H x g) w) _ 7 (by decide) _ fun i l => (pay_k7 x g _ i l).trans (Finset.sum_congr rfl fun d _ => congrArg (_ * ·) (plane w 7 (by decide) _ d l)),
    put (K (H x g) w) _ 6 (by decide) _ fun i l => (pay_k6 x g _ i l).trans (Finset.sum_congr rfl fun d _ => congrArg (_ * ·) (plane w 6 (by decide) _ d l)),
    put (K (H x g) w) _ 5 (by decide) _ fun i l => (pay_k5 x g _ i l).trans (Finset.sum_congr rfl fun d _ => congrArg (_ * ·) (plane w 5 (by decide) _ d l)),
    put (K (H x g) w) _ 4 (by decide) _ fun i l => (pay_k4 x g _ i l).trans (Finset.sum_congr rfl fun d _ => congrArg (_ * ·) (plane w 4 (by decide) _ d l)),
    put (K (H x g) w) _ 3 (by decide) _ fun i l => (pay_k3 x g _ i l).trans (Finset.sum_congr rfl fun d _ => congrArg (_ * ·) (plane w 3 (by decide) _ d l)),
    put (K (H x g) w) _ 2 (by decide) _ fun i l => (pay_k2 x g _ i l).trans (Finset.sum_congr rfl fun d _ => congrArg (_ * ·) (plane w 2 (by decide) _ d l)),
    put (K (H x g) w) _ 1 (by decide) _ fun i l => (pay_k1 x g _ i l).trans (Finset.sum_congr rfl fun d _ => congrArg (_ * ·) (plane w 1 (by decide) _ d l)),
    put (K (H x g) w) _ 0 (by decide) _ fun i l => (pay_k0 x g _ i l).trans (Finset.sum_congr rfl fun d _ => congrArg (_ * ·) (plane w 0 (by decide) _ d l))⟩

/-- What the second call's body leaves. -/
theorem body_w (q : Vec Ideal S8x256x256 .f32) (h : Vec Ideal S256x1024 .bf16) (w : Vec Ideal S8x1024x256 .bf16) (x : Vec Ideal S256x1024 .f32) :
    out1_4 q h w x = DW h q := by
  funext y
  unfold out1_4 k1_pay24
  simp only [r1_1, View.ld_unit_zero (S := S256x1024) zero2]
  refine View.canon_apply_of_pieces (Val := Elt Ideal) (e := .bf16) (DW h q) _ ?_ _ (cover1_4 ..)
  rw [List.forall_mem_cons, List.forall_mem_cons, List.forall_mem_cons, List.forall_mem_cons, List.forall_mem_cons, List.forall_mem_cons, List.forall_mem_cons, List.forall_mem_singleton]
  dsimp only
  exact ⟨put (DW h q) _ 7 (by decide) _ fun i l => (pay_w7 _ h i l).trans (Finset.sum_congr rfl fun d _ => congrArg (_ * ·) (plane q 7 (by decide) _ d l)),
    put (DW h q) _ 6 (by decide) _ fun i l => (pay_w6 _ h i l).trans (Finset.sum_congr rfl fun d _ => congrArg (_ * ·) (plane q 6 (by decide) _ d l)),
    put (DW h q) _ 5 (by decide) _ fun i l => (pay_w5 _ h i l).trans (Finset.sum_congr rfl fun d _ => congrArg (_ * ·) (plane q 5 (by decide) _ d l)),
    put (DW h q) _ 4 (by decide) _ fun i l => (pay_w4 _ h i l).trans (Finset.sum_congr rfl fun d _ => congrArg (_ * ·) (plane q 4 (by decide) _ d l)),
    put (DW h q) _ 3 (by decide) _ fun i l => (pay_w3 _ h i l).trans (Finset.sum_congr rfl fun d _ => congrArg (_ * ·) (plane q 3 (by decide) _ d l)),
    put (DW h q) _ 2 (by decide) _ fun i l => (pay_w2 _ h i l).trans (Finset.sum_congr rfl fun d _ => congrArg (_ * ·) (plane q 2 (by decide) _ d l)),
    put (DW h q) _ 1 (by decide) _ fun i l => (pay_w1 _ h i l).trans (Finset.sum_congr rfl fun d _ => congrArg (_ * ·) (plane q 1 (by decide) _ d l)),
    put (DW h q) _ 0 (by decide) _ fun i l => (pay_w0 _ h i l).trans (Finset.sum_congr rfl fun d _ => congrArg (_ * ·) (plane q 0 (by decide) _ d l))⟩

theorem body_g (q : Vec Ideal S8x256x256 .f32) (h : Vec Ideal S256x1024 .bf16) (w : Vec Ideal S8x1024x256 .bf16) (x : Vec Ideal S256x1024 .f32) :
    out1_5 q h w x = DG x w q := by
  funext y
  obtain ⟨o, d, rfl⟩ : ∃ o d, y = ix2 o d := ⟨y 0, y 1, funext fun a => by fin_cases a <;> rfl⟩
  obtain rfl : o = 0 := Subsingleton.elim _ _
  unfold out1_5 k1_pay24
  simp only [r1_1, View.ld_unit_zero (S := S256x1024) zero2]
  rw [View.canon_unit_zero zero2]
  refine (pay_sum _ _ d).trans (Finset.sum_congr rfl fun i _ => congr (congrArg _ ?_) (pay_unit x i d))
  refine (pay_dh .. ).trans ?_
  unfold dh
  rw [Fin.sum_univ_eight]
  refine congr (congrArg _ (congr (congrArg _ (congr (congrArg _ (congr (congrArg _ (congr (congrArg _ (congr (congrArg _ (congr (congrArg _ ((Finset.sum_congr rfl fun n _ => congr (congrArg _ (plane q 0 (by decide) _ i n)) (plane w 0 (by decide) _ d n)))) (Finset.sum_congr rfl fun n _ => congr (congrArg _ (plane q 1 (by decide) _ i n)) (plane w 1 (by decide) _ d n)))) (Finset.sum_congr rfl fun n _ => congr (congrArg _ (plane q 2 (by decide) _ i n)) (plane w 2 (by decide) _ d n)))) (Finset.sum_congr rfl fun n _ => congr (congrArg _ (plane q 3 (by decide) _ i n)) (plane w 3 (by decide) _ d n)))) (Finset.sum_congr rfl fun n _ => congr (congrArg _ (plane q 4 (by decide) _ i n)) (plane w 4 (by decide) _ d n)))) (Finset.sum_congr rfl fun n _ => congr (congrArg _ (plane q 5 (by decide) _ i n)) (plane w 5 (by decide) _ d n)))) (Finset.sum_congr rfl fun n _ => congr (congrArg _ (plane q 6 (by decide) _ i n)) (plane w 6 (by decide) _ d n)))) (Finset.sum_congr rfl fun n _ => congr (congrArg _ (plane q 7 (by decide) _ i n)) (plane w 7 (by decide) _ d n))

end Kernel

end Cert.MemKvClaim
-- ==== Proof.MemKvCalls.lean ====
/-
  `MemKv`, from what each body leaves to what the two calls leave.
-/
module

public import proofs.«01_k».proof.Proof.MemKvBody

@[expose] public section

noncomputable section

namespace Cert.MemKvClaim

open Idealize.ShloMosaic Idealize.ShloMosaic.TcCoe Idealize.SL.Sem
open Idealize.ShloMosaic.Pipeline (Dat)

section Kernel

set_option maxRecDepth 16384

open Cert.MemKvIdeal Cert.MemKvIdeal.Gen

section Calls

variable (V : (c : Dev nD) → (b : Ref sig .tc) → Buf (Elt Ideal) ((c : Thread nD τ).loc b)) (c : Dev nD)

theorem N0_pos : 0 < cfg0.N := by rw [show cfg0.N = 1 from N_0]; decide

/-- Window 0 of the first call is its whole array. -/
theorem at0_0 : ∀ t : Fin grid0.N, win0_0.index t 0 = 0 ∧ win0_0.index t 1 = 0 := by
  decide +kernel

theorem in0_0 (t : Fin cfg0.N) : iblk0 V c 0 t = V c main_arg0 := by
  have h := at0_0 t
  funext y
  unfold iblk0
  rw [View.read_apply]
  refine congrArg (V c main_arg0) (funext fun a => Fin.ext ?_)
  match a with
  | ⟨0, _⟩ => show win0_0.index t 0 * 256 + 1 * (y 0).val = (y 0).val; rw [h.1]; omega
  | ⟨1, _⟩ => show win0_0.index t 1 * 1024 + 1 * (y 1).val = (y 1).val; rw [h.2]; omega

/-- Window 1 of the first call is its whole array. -/
theorem at0_1 : ∀ t : Fin grid0.N, win0_1.index t 0 = 0 ∧ win0_1.index t 1 = 0 := by
  decide +kernel

theorem in0_1 (t : Fin cfg0.N) : iblk0 V c 1 t = V c main_arg1 := by
  have h := at0_1 t
  funext y
  unfold iblk0
  rw [View.read_apply]
  refine congrArg (V c main_arg1) (funext fun a => Fin.ext ?_)
  match a with
  | ⟨0, _⟩ => show win0_1.index t 0 * 1 + 1 * (y 0).val = (y 0).val; rw [h.1]; omega
  | ⟨1, _⟩ => show win0_1.index t 1 * 1024 + 1 * (y 1).val = (y 1).val; rw [h.2]; omega

/-- Window 2 of the first call is its whole array. -/
theorem at0_2 : ∀ t : Fin grid0.N, win0_2.index t 0 = 0 ∧ win0_2.index t 1 = 0 ∧ win0_2.index t 2 = 0 := by
  decide +kernel

theorem in0_2 (t : Fin cfg0.N) : iblk0 V c 2 t = V c main_arg2 := by
  have h := at0_2 t
  funext y
  unfold iblk0
  rw [View.read_apply]
  refine congrArg (V c main_arg2) (funext fun a => Fin.ext ?_)
  match a with
  | ⟨0, _⟩ => show win0_2.index t 0 * 8 + 1 * (y 0).val = (y 0).val; rw [h.1]; omega
  | ⟨1, _⟩ => show win0_2.index t 1 * 1024 + 1 * (y 1).val = (y 1).val; rw [h.2.1]; omega
  | ⟨2, _⟩ => show win0_2.index t 2 * 256 + 1 * (y 2).val = (y 2).val; rw [h.2.2]; omega

/-- Window 3 of the first call is its whole array. -/
theorem at0_3 : ∀ t : Fin grid0.N, win0_3.index t 0 = 0 ∧ win0_3.index t 1 = 0 := by
  decide +kernel

theorem out03 : (dat0 V c).arrAt 3 cfg0.N = H (V c main_arg0) (V c main_arg1) := by
  refine (dat0 V c).arrAt_eq_of_cover 3 (H (V c main_arg0) (V c main_arg1)) (fun t _ => ?_) fun i => ?_
  · have h := at0_3 t
    show (cfg0.win 3).cut (grid0.coords t) ((dat0 V c).after 3 t) = _
    rw [after0_3, body_h, in0_0, in0_1]
    funext y
    rw [View.read_apply]
    refine congrArg (H (V c main_arg0) (V c main_arg1)) (funext fun a => Fin.ext ?_)
    match a with
    | ⟨0, _⟩ => show (y 0).val = win0_3.index t 0 * 256 + 1 * (y 0).val; rw [h.1]; omega
    | ⟨1, _⟩ => show (y 1).val = win0_3.index t 1 * 1024 + 1 * (y 1).val; rw [h.2]; omega
  · have h := at0_3 ⟨0, N0_pos⟩
    refine ⟨⟨0, N0_pos⟩, flush0_3 _, ?_⟩
    show i ∈ ((View.whole main_v0_0).slice (win0_3.rect ⟨0, N0_pos⟩)).set
    rw [View.set_slice_whole, Rect.mem_set_unit]
    have h0 : (i 0 : Nat) < 256 := (i 0).isLt
    have h1 : (i 1 : Nat) < 1024 := (i 1).isLt
    intro a
    match a with
    | ⟨0, _⟩ => show win0_3.index ⟨0, N0_pos⟩ 0 * 256 ≤ (i 0 : Nat) ∧ (i 0 : Nat) < win0_3.index ⟨0, N0_pos⟩ 0 * 256 + 256
                rw [h.1, Nat.zero_mul, Nat.zero_add]; exact ⟨Nat.zero_le _, h0⟩
    | ⟨1, _⟩ => show win0_3.index ⟨0, N0_pos⟩ 1 * 1024 ≤ (i 1 : Nat) ∧ (i 1 : Nat) < win0_3.index ⟨0, N0_pos⟩ 1 * 1024 + 1024
                rw [h.2, Nat.zero_mul, Nat.zero_add]; exact ⟨Nat.zero_le _, h1⟩

/-- Window 4 of the first call is its whole array. -/
theorem at0_4 : ∀ t : Fin grid0.N, win0_4.index t 0 = 0 ∧ win0_4.index t 1 = 0 ∧ win0_4.index t 2 = 0 := by
  decide +kernel

theorem out04 : (dat0 V c).arrAt 4 cfg0.N = K (H (V c main_arg0) (V c main_arg1)) (V c main_arg2) := by
  refine (dat0 V c).arrAt_eq_of_cover 4 (K (H (V c main_arg0) (V c main_arg1)) (V c main_arg2)) (fun t _ => ?_) fun i => ?_
  · have h := at0_4 t
    show (cfg0.win 4).cut (grid0.coords t) ((dat0 V c).after 4 t) = _
    rw [after0_4, body_k, in0_0, in0_1, in0_2]
    funext y
    rw [View.read_apply]
    refine congrArg (K (H (V c main_arg0) (V c main_arg1)) (V c main_arg2)) (funext fun a => Fin.ext ?_)
    match a with
    | ⟨0, _⟩ => show (y 0).val = win0_4.index t 0 * 8 + 1 * (y 0).val; rw [h.1]; omega
    | ⟨1, _⟩ => show (y 1).val = win0_4.index t 1 * 256 + 1 * (y 1).val; rw [h.2.1]; omega
    | ⟨2, _⟩ => show (y 2).val = win0_4.index t 2 * 256 + 1 * (y 2).val; rw [h.2.2]; omega
  · have h := at0_4 ⟨0, N0_pos⟩
    refine ⟨⟨0, N0_pos⟩, flush0_4 _, ?_⟩
    show i ∈ ((View.whole main_v0_1).slice (win0_4.rect ⟨0, N0_pos⟩)).set
    rw [View.set_slice_whole, Rect.mem_set_unit]
    have h0 : (i 0 : Nat) < 8 := (i 0).isLt
    have h1 : (i 1 : Nat) < 256 := (i 1).isLt
    have h2 : (i 2 : Nat) < 256 := (i 2).isLt
    intro a
    match a with
    | ⟨0, _⟩ => show win0_4.index ⟨0, N0_pos⟩ 0 * 8 ≤ (i 0 : Nat) ∧ (i 0 : Nat) < win0_4.index ⟨0, N0_pos⟩ 0 * 8 + 8
                rw [h.1, Nat.zero_mul, Nat.zero_add]; exact ⟨Nat.zero_le _, h0⟩
    | ⟨1, _⟩ => show win0_4.index ⟨0, N0_pos⟩ 1 * 256 ≤ (i 1 : Nat) ∧ (i 1 : Nat) < win0_4.index ⟨0, N0_pos⟩ 1 * 256 + 256
                rw [h.2.1, Nat.zero_mul, Nat.zero_add]; exact ⟨Nat.zero_le _, h1⟩
    | ⟨2, _⟩ => show win0_4.index ⟨0, N0_pos⟩ 2 * 256 ≤ (i 2 : Nat) ∧ (i 2 : Nat) < win0_4.index ⟨0, N0_pos⟩ 2 * 256 + 256
                rw [h.2.2, Nat.zero_mul, Nat.zero_add]; exact ⟨Nat.zero_le _, h2⟩

theorem N1_pos : 0 < cfg1.N := by rw [show cfg1.N = 1 from N_1]; decide

/-- Window 0 of the second call is its whole array. -/
theorem at1_0 : ∀ t : Fin grid1.N, win1_0.index t 0 = 0 ∧ win1_0.index t 1 = 0 ∧ win1_0.index t 2 = 0 := by
  decide +kernel

theorem in1_0 (t : Fin cfg1.N) : iblk1 V c 0 t = V c main_arg3 := by
  have h := at1_0 t
  funext y
  unfold iblk1
  rw [View.read_apply]
  refine congrArg (V c main_arg3) (funext fun a => Fin.ext ?_)
  match a with
  | ⟨0, _⟩ => show win1_0.index t 0 * 8 + 1 * (y 0).val = (y 0).val; rw [h.1]; omega
  | ⟨1, _⟩ => show win1_0.index t 1 * 256 + 1 * (y 1).val = (y 1).val; rw [h.2.1]; omega
  | ⟨2, _⟩ => show win1_0.index t 2 * 256 + 1 * (y 2).val = (y 2).val; rw [h.2.2]; omega

/-- Window 1 of the second call is its whole array. -/
theorem at1_1 : ∀ t : Fin grid1.N, win1_1.index t 0 = 0 ∧ win1_1.index t 1 = 0 := by
  decide +kernel

theorem in1_1 (t : Fin cfg1.N) : iblk1 V c 1 t = V c main_v0_0 := by
  have h := at1_1 t
  funext y
  unfold iblk1
  rw [View.read_apply]
  refine congrArg (V c main_v0_0) (funext fun a => Fin.ext ?_)
  match a with
  | ⟨0, _⟩ => show win1_1.index t 0 * 256 + 1 * (y 0).val = (y 0).val; rw [h.1]; omega
  | ⟨1, _⟩ => show win1_1.index t 1 * 1024 + 1 * (y 1).val = (y 1).val; rw [h.2]; omega

/-- Window 2 of the second call is its whole array. -/
theorem at1_2 : ∀ t : Fin grid1.N, win1_2.index t 0 = 0 ∧ win1_2.index t 1 = 0 ∧ win1_2.index t 2 = 0 := by
  decide +kernel

theorem in1_2 (t : Fin cfg1.N) : iblk1 V c 2 t = V c main_arg2 := by
  have h := at1_2 t
  funext y
  unfold iblk1
  rw [View.read_apply]
  refine congrArg (V c main_arg2) (funext fun a => Fin.ext ?_)
  match a with
  | ⟨0, _⟩ => show win1_2.index t 0 * 8 + 1 * (y 0).val = (y 0).val; rw [h.1]; omega
  | ⟨1, _⟩ => show win1_2.index t 1 * 1024 + 1 * (y 1).val = (y 1).val; rw [h.2.1]; omega
  | ⟨2, _⟩ => show win1_2.index t 2 * 256 + 1 * (y 2).val = (y 2).val; rw [h.2.2]; omega

/-- Window 3 of the second call is its whole array. -/
theorem at1_3 : ∀ t : Fin grid1.N, win1_3.index t 0 = 0 ∧ win1_3.index t 1 = 0 := by
  decide +kernel

theorem in1_3 (t : Fin cfg1.N) : iblk1 V c 3 t = V c main_arg0 := by
  have h := at1_3 t
  funext y
  unfold iblk1
  rw [View.read_apply]
  refine congrArg (V c main_arg0) (funext fun a => Fin.ext ?_)
  match a with
  | ⟨0, _⟩ => show win1_3.index t 0 * 256 + 1 * (y 0).val = (y 0).val; rw [h.1]; omega
  | ⟨1, _⟩ => show win1_3.index t 1 * 1024 + 1 * (y 1).val = (y 1).val; rw [h.2]; omega

/-- Window 4 of the second call is its whole array. -/
theorem at1_4 : ∀ t : Fin grid1.N, win1_4.index t 0 = 0 ∧ win1_4.index t 1 = 0 ∧ win1_4.index t 2 = 0 := by
  decide +kernel

theorem out14 : (dat1 V c).arrAt 4 cfg1.N = DW (V c main_v0_0) (V c main_arg3) := by
  refine (dat1 V c).arrAt_eq_of_cover 4 (DW (V c main_v0_0) (V c main_arg3)) (fun t _ => ?_) fun i => ?_
  · have h := at1_4 t
    show (cfg1.win 4).cut (grid1.coords t) ((dat1 V c).after 4 t) = _
    rw [after1_4, body_w, in1_0, in1_1]
    funext y
    rw [View.read_apply]
    refine congrArg (DW (V c main_v0_0) (V c main_arg3)) (funext fun a => Fin.ext ?_)
    match a with
    | ⟨0, _⟩ => show (y 0).val = win1_4.index t 0 * 8 + 1 * (y 0).val; rw [h.1]; omega
    | ⟨1, _⟩ => show (y 1).val = win1_4.index t 1 * 1024 + 1 * (y 1).val; rw [h.2.1]; omega
    | ⟨2, _⟩ => show (y 2).val = win1_4.index t 2 * 256 + 1 * (y 2).val; rw [h.2.2]; omega
  · have h := at1_4 ⟨0, N1_pos⟩
    refine ⟨⟨0, N1_pos⟩, flush1_4 _, ?_⟩
    show i ∈ ((View.whole main_v1_0).slice (win1_4.rect ⟨0, N1_pos⟩)).set
    rw [View.set_slice_whole, Rect.mem_set_unit]
    have h0 : (i 0 : Nat) < 8 := (i 0).isLt
    have h1 : (i 1 : Nat) < 1024 := (i 1).isLt
    have h2 : (i 2 : Nat) < 256 := (i 2).isLt
    intro a
    match a with
    | ⟨0, _⟩ => show win1_4.index ⟨0, N1_pos⟩ 0 * 8 ≤ (i 0 : Nat) ∧ (i 0 : Nat) < win1_4.index ⟨0, N1_pos⟩ 0 * 8 + 8
                rw [h.1, Nat.zero_mul, Nat.zero_add]; exact ⟨Nat.zero_le _, h0⟩
    | ⟨1, _⟩ => show win1_4.index ⟨0, N1_pos⟩ 1 * 1024 ≤ (i 1 : Nat) ∧ (i 1 : Nat) < win1_4.index ⟨0, N1_pos⟩ 1 * 1024 + 1024
                rw [h.2.1, Nat.zero_mul, Nat.zero_add]; exact ⟨Nat.zero_le _, h1⟩
    | ⟨2, _⟩ => show win1_4.index ⟨0, N1_pos⟩ 2 * 256 ≤ (i 2 : Nat) ∧ (i 2 : Nat) < win1_4.index ⟨0, N1_pos⟩ 2 * 256 + 256
                rw [h.2.2, Nat.zero_mul, Nat.zero_add]; exact ⟨Nat.zero_le _, h2⟩

/-- Window 5 of the second call is its whole array. -/
theorem at1_5 : ∀ t : Fin grid1.N, win1_5.index t 0 = 0 ∧ win1_5.index t 1 = 0 := by
  decide +kernel

theorem out15 : (dat1 V c).arrAt 5 cfg1.N = DG (V c main_arg0) (V c main_arg2) (V c main_arg3) := by
  refine (dat1 V c).arrAt_eq_of_cover 5 (DG (V c main_arg0) (V c main_arg2) (V c main_arg3)) (fun t _ => ?_) fun i => ?_
  · have h := at1_5 t
    show (cfg1.win 5).cut (grid1.coords t) ((dat1 V c).after 5 t) = _
    rw [after1_5, body_g, in1_0, in1_2, in1_3]
    funext y
    rw [View.read_apply]
    refine congrArg (DG (V c main_arg0) (V c main_arg2) (V c main_arg3)) (funext fun a => Fin.ext ?_)
    match a with
    | ⟨0, _⟩ => show (y 0).val = win1_5.index t 0 * 1 + 1 * (y 0).val; rw [h.1]; omega
    | ⟨1, _⟩ => show (y 1).val = win1_5.index t 1 * 1024 + 1 * (y 1).val; rw [h.2]; omega
  · have h := at1_5 ⟨0, N1_pos⟩
    refine ⟨⟨0, N1_pos⟩, flush1_5 _, ?_⟩
    show i ∈ ((View.whole main_v1_1).slice (win1_5.rect ⟨0, N1_pos⟩)).set
    rw [View.set_slice_whole, Rect.mem_set_unit]
    have h0 : (i 0 : Nat) < 1 := (i 0).isLt
    have h1 : (i 1 : Nat) < 1024 := (i 1).isLt
    intro a
    match a with
    | ⟨0, _⟩ => show win1_5.index ⟨0, N1_pos⟩ 0 * 1 ≤ (i 0 : Nat) ∧ (i 0 : Nat) < win1_5.index ⟨0, N1_pos⟩ 0 * 1 + 1
                rw [h.1, Nat.zero_mul, Nat.zero_add]; exact ⟨Nat.zero_le _, h0⟩
    | ⟨1, _⟩ => show win1_5.index ⟨0, N1_pos⟩ 1 * 1024 ≤ (i 1 : Nat) ∧ (i 1 : Nat) < win1_5.index ⟨0, N1_pos⟩ 1 * 1024 + 1024
                rw [h.2, Nat.zero_mul, Nat.zero_add]; exact ⟨Nat.zero_le _, h1⟩

end Calls

variable (m : (ℓ : Loc nD τ sig) → Buf (Elt Ideal) ℓ) (ρ : Dev nD → PrngReg) (c : Dev nD)

/-- What each of the four results ends at. -/
theorem mid_h : W1 m ρ c (Proc.devRef .tc main_v0_0) = H (m ((c : Thread nD τ).loc main_arg0)) (m ((c : Thread nD τ).loc main_arg1)) :=
  (W1_arr m ρ c 3).trans (out03 (V0 m ρ) c)

theorem end_h : W2 m ρ c (Proc.devRef .tc main_v0_0) = H (m ((c : Thread nD τ).loc main_arg0)) (m ((c : Thread nD τ).loc main_arg1)) :=
  (W2_of m ρ c main_v0_0 (by decide +kernel)).trans (mid_h m ρ c)

theorem end_k : W2 m ρ c (Proc.devRef .tc main_v0_1)
    = K (H (m ((c : Thread nD τ).loc main_arg0)) (m ((c : Thread nD τ).loc main_arg1))) (m ((c : Thread nD τ).loc main_arg2)) :=
  (W2_of m ρ c main_v0_1 (by decide +kernel)).trans ((W1_arr m ρ c 4).trans (out04 (V0 m ρ) c))

theorem end_w : W2 m ρ c (Proc.devRef .tc main_v1_0)
    = DW (H (m ((c : Thread nD τ).loc main_arg0)) (m ((c : Thread nD τ).loc main_arg1))) (m ((c : Thread nD τ).loc main_arg3)) := by
  refine (W2_arr m ρ c 4).trans ((out14 (V1 m ρ) c).trans ?_)
  rw [show V1 m ρ c main_v0_0 = _ from mid_h m ρ c, show V1 m ρ c main_arg3 = _ from W1_args m ρ c main_arg3 (by decide)]

theorem end_g : W2 m ρ c (Proc.devRef .tc main_v1_1)
    = DG (m ((c : Thread nD τ).loc main_arg0)) (m ((c : Thread nD τ).loc main_arg2)) (m ((c : Thread nD τ).loc main_arg3)) := by
  refine (W2_arr m ρ c 5).trans ((out15 (V1 m ρ) c).trans ?_)
  rw [show V1 m ρ c main_arg0 = _ from W1_args m ρ c main_arg0 (by decide), show V1 m ρ c main_arg2 = _ from W1_args m ρ c main_arg2 (by decide),
    show V1 m ρ c main_arg3 = _ from W1_args m ρ c main_arg3 (by decide)]

section Run

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- The two calls run one after the other; afterwards every array is at what the last call to write it left. -/
theorem run : θ_run defs (onTc (τ := τ) (main (F := Ideal))) ⟨m, fun _ => 0, ρ⟩ (fun r => ∀ c : Dev nD,
      ∀ b : Ref sig .tc, ¬ (Proc.devRef .tc b : DevRef τ sig).isScoped →
        r.2.mem ((c : Thread nD τ).loc b) = W2 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => fun c b hb => h c _ (mem_uc b hb))

end Run

end Kernel

end Cert.MemKvClaim
-- ==== Proof.MemKvClaim.lean ====
/-
  The claims on `MemKv`: the kernel's two calls and the reference leave the same four arrays.
-/
module

public import proofs.«01_k».proof.Defs
public import proofs.«01_k».proof.Proof.MemKvCalls
public import proofs.«01_k».proof.Proof.Gen.MemKvRefIdeal.Run
public import proofs.«01_k».proof.Proof.Gen.MemKvRefIdeal.Read

@[expose] public section

noncomputable section

namespace Cert.MemKvClaim

open Idealize.ShloMosaic Idealize.ShloMosaic.TcCoe Idealize.SL.Sem
open Idealize.ShloMosaic.Pipeline (Dat)

section Reference

set_option maxRecDepth 16384

open Cert.MemKvRefIdeal Cert.MemKvRefIdeal.Read

variable (x : Vec Ideal S256x1024 .f32) (g : Vec Ideal S1x1024 .f32) (w : Vec Ideal S8x1024x256 .bf16) (q : Vec Ideal S8x256x256 .f32)

theorem ref_unit (i : Fin 256) (d : Fin 1024) : val_main_v10 (F := Ideal) x (ix2 i d) = unit x i d := by
  unfold unit RmsGrad.recip RmsGrad.meanSq
  pointwise [val_main_v10, val_main_v9, val_main_v8, val_main_v7, val_main_v6, val_main_v5, val_main_v4, val_main_v3, val_main_v2,
    val_main_v1, val_main_cst, val_main_cst_0, val_main_cst_1]

theorem ref_norm (i : Fin 256) (d : Fin 1024) : val_main_v12 (F := Ideal) x g (ix2 i d) = H x g (ix2 i d) := by
  have e := ref_unit x i d
  show _ = unit x i d * g (ix2 0 d)
  rw [← e]
  pointwise [val_main_v12, val_main_v11]

theorem ref_h (i : Fin 256) (d : Fin 1024) : val_main_v34 (F := Ideal) x g (ix2 i d) = H x g (ix2 i d) := by
  show _ = unit x i d * g (ix2 0 d)
  unfold unit RmsGrad.recip RmsGrad.meanSq
  pointwise [val_main_v34, val_main_v33, val_main_v32, val_main_v31, val_main_v30, val_main_v29, val_main_v28, val_main_v27, val_main_v26,
    val_main_v25, val_main_v24, val_main_v23, val_main_v22, val_main_cst_3, val_main_cst_4, val_main_cst_5]

theorem ref_k (j : Fin 8) (i l : Fin 256) : val_main_v35 (F := Ideal) x g w (ix3 j i l) = K (H x g) w (ix3 j i l) := by
  have e := ref_norm x g i
  show _ = ∑ d : Fin 1024, H x g (ix2 i d) * w (ix3 j d l)
  simp only [← e]
  pointwise [val_main_v35, val_main_v14, val_main_v13, val_main_v0]
  exact Finset.sum_congr rfl fun d _ => mul_comm _ _

theorem ref_w (j : Fin 8) (d : Fin 1024) (l : Fin 256) : val_main_v36 (F := Ideal) x g q (ix3 j d l) = DW (H x g) q (ix3 j d l) := by
  have e := fun i => ref_norm x g i d
  show _ = ∑ i : Fin 256, H x g (ix2 i d) * q (ix3 j i l)
  simp only [← e]
  pointwise [val_main_v36, val_main_v18, val_main_v17, val_main_v15]
  exact Finset.sum_congr rfl fun d _ => mul_comm _ _

theorem ref_dh (i : Fin 256) (d : Fin 1024) : val_main_v16 (F := Ideal) w q (ix2 i d) = dh w q i d := by
  unfold dh
  pointwise [val_main_v16, val_main_v15, val_main_v0]

theorem ref_gain (d : Fin 1024) : val_main_v21 (F := Ideal) x w q (ix2 0 d) = DG x w q (ix2 0 d) := by
  show _ = ∑ i : Fin 256, dh w q i d * unit x i d
  pointwise [val_main_v21, val_main_v20, val_main_v19, val_main_cst_2]
  refine Finset.sum_congr rfl fun i _ => ?_
  exact (congr (congrArg _ (ref_unit x i d)) (ref_dh w q i d)).trans (mul_comm _ _)

end Reference

theorem ref_frame : Cert.quiescent_MemKvRefIdeal := fun m ρ _ =>
  (θ_run Cert.MemKvRefIdeal.defs _ _).mono (fun r h => ⟨fun c => (h c).2.2.2.2, sem_eq_zero_of_no_sems (by decide) r.2⟩)
    (Cert.MemKvRefIdeal.Value.run (F := Ideal) m ρ)

/-- Kernel and reference leave the same four arrays. -/
theorem algebraic : Cert.algebraic_MemKvIdeal_MemKvRefIdeal := by
  intro m g m' g' _ hagree
  let a0 := fun c : Dev Cert.MemKvIdeal.nD => m ((c : Thread Cert.MemKvIdeal.nD Cert.MemKvIdeal.τ).loc Cert.MemKvIdeal.main_arg0)
  let a1 := fun c : Dev Cert.MemKvIdeal.nD => m ((c : Thread Cert.MemKvIdeal.nD Cert.MemKvIdeal.τ).loc Cert.MemKvIdeal.main_arg1)
  let a2 := fun c : Dev Cert.MemKvIdeal.nD => m ((c : Thread Cert.MemKvIdeal.nD Cert.MemKvIdeal.τ).loc Cert.MemKvIdeal.main_arg2)
  let a3 := fun c : Dev Cert.MemKvIdeal.nD => m ((c : Thread Cert.MemKvIdeal.nD Cert.MemKvIdeal.τ).loc Cert.MemKvIdeal.main_arg3)
  refine ⟨fun c => H (a0 c) (a1 c), fun c => K (H (a0 c) (a1 c)) (a2 c), fun c => DW (H (a0 c) (a1 c)) (a3 c),
    fun c => DG (a0 c) (a2 c) (a3 c), ?_, ?_⟩
  · refine (θ_run Cert.MemKvIdeal.defs _ _).mono (fun r h c => ?_) (run m g)
    exact ⟨(h c _ (by decide)).trans (end_h m g c), (h c _ (by decide)).trans (end_k m g c),
      (h c _ (by decide)).trans (end_w m g c), (h c _ (by decide)).trans (end_g m g c),
      (h c _ (by decide)).trans (Cert.MemKvIdeal.Gen.W2_main_arg0 m g c), (h c _ (by decide)).trans (Cert.MemKvIdeal.Gen.W2_main_arg1 m g c),
      (h c _ (by decide)).trans (Cert.MemKvIdeal.Gen.W2_main_arg2 m g c), (h c _ (by decide)).trans (Cert.MemKvIdeal.Gen.W2_main_arg3 m g c)⟩
  · refine (θ_run Cert.MemKvRefIdeal.defs _ _).mono (fun r h c => ?_) (Cert.MemKvRefIdeal.Value.run (F := Ideal) m' g')
    obtain ⟨e0, e1, e2, e3⟩ := hagree c
    refine ⟨(h c).1.trans ((Cert.MemKvRefIdeal.Read.val_main_v34_eq _ _).trans ?_),
      (h c).2.1.trans ((Cert.MemKvRefIdeal.Read.val_main_v35_eq _ _ _).trans ?_),
      (h c).2.2.1.trans ((Cert.MemKvRefIdeal.Read.val_main_v36_eq _ _ _).trans ?_),
      (h c).2.2.2.1.trans ((Cert.MemKvRefIdeal.Read.val_main_v21_eq _ _ _).trans ?_), (h c).2.2.2.2⟩
    · rw [e0, e1]
      funext y
      obtain ⟨i, d, rfl⟩ : ∃ i d, y = ix2 i d := ⟨y 0, y 1, funext fun a => by fin_cases a <;> rfl⟩
      exact ref_h ..
    · rw [e0, e1, e2]
      funext y
      obtain ⟨j, i, l, rfl⟩ : ∃ j i l, y = ix3 j i l := ⟨y 0, y 1, y 2, funext fun a => by fin_cases a <;> rfl⟩
      exact ref_k ..
    · rw [e0, e1, e3]
      funext y
      obtain ⟨j, i, l, rfl⟩ : ∃ j i l, y = ix3 j i l := ⟨y 0, y 1, y 2, funext fun a => by fin_cases a <;> rfl⟩
      exact ref_w ..
    · rw [e0, e2, e3]
      funext y
      obtain ⟨o, d, rfl⟩ : ∃ o d, y = ix2 o d := ⟨y 0, y 1, funext fun a => by fin_cases a <;> rfl⟩
      obtain rfl : o = 0 := Subsingleton.elim _ _
      exact ref_gain ..

end Cert.MemKvClaim
-- ==== Proof.AdamMath.lean ====
/-
  The optimiser's step. First one entry, as the lines of the problem have it: the two running means, and the change of the
  weight from their unbiased values. Then a weight of `R` rows of `C` entries, whose gradient is the sum of eight parts; and
  what a kernel that steps it in blocks of `T` rows needs: where a block's entries stand, and that the blocks fill the array.
-/
module

public import Idealize.ShloMosaic.PureOps
public import Idealize.ShloMosaic.Lib.Pointwise
public import Idealize.ShloMosaic.Lib.Pipeline.ValueKit

@[expose] public section

noncomputable section

namespace Cert.AdamMath

open Idealize.ShloMosaic

/-- The running mean of the gradient. -/
def mean (g m : EReal) : EReal := Ideal.ofBits FTy.f32 0x3F666666#32 * m + Ideal.ofBits FTy.f32 0x3DCCCCCD#32 * g

/-- The running mean of its square. -/
def square (g v : EReal) : EReal := Ideal.ofBits FTy.f32 0x3F7FBE77#32 * v + Ideal.ofBits FTy.f32 0x3A83126F#32 * (g * g)

/-- The change of the weight. -/
def change (g w m v : EReal) : EReal :=
  Ideal.ofBits FTy.f32 0xBA83126F#32 *
    (Ideal.div (Ideal.div (mean g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

/-- The indices of an array of `R` rows of `C` entries, and of its eight parts. -/
abbrev At (R C : ℕ) := (⟨2, ![R, C]⟩ : Shape).Idx
abbrev Parts (R C : ℕ) := (⟨3, ![8, R, C]⟩ : Shape).Idx

section Arrays

variable {R C : ℕ} (p : Parts R C → EReal) (w m v : At R C → EReal) (z : At R C)

/-- The gradient: the sum of its parts. -/
def grads : EReal := ∑ j : Fin 8, p (ix3 j (z 0) (z 1))

/-- The new running means, and the weight's change. -/
def means : EReal := mean (grads p z) (m z)
def squares : EReal := square (grads p z) (v z)
def changes : EReal := change (grads p z) (w z) (m z) (v z)

end Arrays

section Blocks

variable {R C T : ℕ}

/-- Where the entries of block `q` stand in the array, and in its parts. -/
def pos (q : ℕ) (hq : T * q + T ≤ R) (y : At T C) : At R C :=
  ix2 ⟨T * q + (y 0).val, by have : (y 0).val < T := (y 0).isLt; omega⟩ (y 1)
def pos3 (q : ℕ) (hq : T * q + T ≤ R) (y : Parts T C) : Parts R C :=
  ix3 (y 0) ⟨T * q + (y 1).val, by have : (y 1).val < T := (y 1).isLt; omega⟩ (y 2)

theorem eq_pos {q : ℕ} (hq : T * q + T ≤ R) {k : Fin 2 → ℕ} (hk : k 0 = q ∧ k 1 = 0) (y : At T C) (z : At R C)
    (h0 : (z 0).val = k 0 * T + 1 * (y 0).val) (h1 : (z 1).val = k 1 * C + 1 * (y 1).val) : z = pos q hq y := by
  refine funext fun a => Fin.ext ?_
  match a with
  | ⟨0, _⟩ => refine h0.trans ?_; rw [hk.1, Nat.one_mul, Nat.mul_comm]; rfl
  | ⟨1, _⟩ => refine h1.trans ?_; rw [hk.2, Nat.one_mul, Nat.zero_mul, Nat.zero_add]; rfl

theorem eq_pos3 {q : ℕ} (hq : T * q + T ≤ R) {k : Fin 3 → ℕ} (hk : k 0 = 0 ∧ k 1 = q ∧ k 2 = 0) (y : Parts T C) (z : Parts R C)
    (h0 : (z 0).val = k 0 * 8 + 1 * (y 0).val) (h1 : (z 1).val = k 1 * T + 1 * (y 1).val)
    (h2 : (z 2).val = k 2 * C + 1 * (y 2).val) : z = pos3 q hq y := by
  refine funext fun a => Fin.ext ?_
  match a with
  | ⟨0, _⟩ => refine h0.trans ?_; rw [hk.1, Nat.one_mul, Nat.zero_mul, Nat.zero_add]; rfl
  | ⟨1, _⟩ => refine h1.trans ?_; rw [hk.2.1, Nat.one_mul, Nat.mul_comm]; rfl
  | ⟨2, _⟩ => refine h2.trans ?_; rw [hk.2.2, Nat.one_mul, Nat.zero_mul, Nat.zero_add]; rfl

/-- An entry lies in the block of its row. -/
theorem inside (hT : 0 < T) (i : At R C) {k : Fin 2 → ℕ} (hk : k 0 = (i 0).val / T ∧ k 1 = 0) (a : Fin 2) :
    k a * (![T, C] : Fin 2 → ℕ) a ≤ (i a).val ∧ (i a).val < k a * (![T, C] : Fin 2 → ℕ) a + (![T, C] : Fin 2 → ℕ) a := by
  match a with
  | ⟨0, _⟩ =>
    show k 0 * T ≤ (i 0).val ∧ (i 0).val < k 0 * T + T
    rw [hk.1]
    have h := Nat.div_add_mod (i 0).val T
    have := Nat.mod_lt (i 0).val hT
    rw [Nat.mul_comm] at h
    omega
  | ⟨1, _⟩ =>
    show k 1 * C ≤ (i 1).val ∧ (i 1).val < k 1 * C + C
    have : (i 1).val < C := (i 1).isLt
    rw [hk.2]
    omega

/-- The vector holds part `j` of the block. -/
def PartOf (x : Parts T C → EReal) (j : Fin 8) (v : (⟨3, ![1, T, C]⟩ : Shape).Idx → EReal) : Prop :=
  ∀ (i : Fin T) (d : Fin C), v (ix3 0 i d) = x (ix3 j i d)

/-- The part that a load takes. -/
theorem part (x : Parts T C → EReal) (j : Fin 8) (h) :
    PartOf x j fun y => x ((Rect.unit (s := ⟨3, ![8, T, C]⟩) ![j.val, 0, 0] ![1, T, C] h).idx y) := by
  intro i d
  refine congrArg x (funext fun a => Fin.ext ?_)
  match a with
  | ⟨0, _⟩ => show j.val + 1 * 0 = j.val; omega
  | ⟨1, _⟩ => show 0 + 1 * i.val = i.val; omega
  | ⟨2, _⟩ => show 0 + 1 * d.val = d.val; omega

theorem ix2_eta (y : At T C) : y = ix2 (y 0) (y 1) := funext fun a => by match a with | ⟨0, _⟩ => rfl | ⟨1, _⟩ => rfl

theorem zero2 : (![0, 0] : Fin 2 → Nat) = fun _ => 0 := funext fun a => by match a with | ⟨0, _⟩ => rfl | ⟨1, _⟩ => rfl

end Blocks

end Cert.AdamMath
-- ==== Proof.AdamDownClaim.lean ====
/-
  The optimiser's step of the second weight of a gated layer, whose step runs by itself: the eight parts of the gradient
  are summed, and each entry of the weight is stepped, in blocks of 176 rows.
-/
module

public import proofs.«01_k».proof.Defs
public import proofs.«01_k».proof.Proof.AdamMath
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamDownClaim

open Idealize.ShloMosaic Idealize.ShloMosaic.TcCoe Idealize.SL.Sem AdamMath
open Idealize.ShloMosaic.Pipeline (Dat)

section Kernel

open Cert.AdamDownIdeal Cert.AdamDownIdeal.Gen

theorem summed {x : Vec Ideal S8x176x1024 .bf16} {a0 a1 a2 a3 a4 a5 a6 a7 : Vec Ideal S1x176x1024 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x176x1024 .bf16) (w m v : Vec Ideal S176x1024 .f32)

/-- The sum that the body makes. -/
theorem block : k0_pay5 x w m v = grads x :=
  summed (part x 0 _) (part x 1 _) (part x 2 _) (part x 3 _) (part x 4 _) (part x 5 _) (part x 6 _) (part x 7 _)

/-- What the body stores. -/
theorem stored4 : out0_4 x w m v = grads x := by
  unfold out0_4
  simp only [r0_8]
  rw [View.canon_unit_zero zero2, block]

theorem stored5 : out0_5 x w m v = changes x w m v := by
  unfold out0_5
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored6 : out0_6 x w m v = means x m := by
  unfold out0_6
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v = squares x v := by
  unfold out0_7
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x352x1024 .bf16 := m ((c : Thread nD τ).loc main_arg0)
abbrev arrW : Vec Ideal S352x1024 .f32 := m ((c : Thread nD τ).loc main_arg1)
abbrev arrM : Vec Ideal S352x1024 .f32 := m ((c : Thread nD τ).loc main_arg2)
abbrev arrV : Vec Ideal S352x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl | rfl <;> decide +kernel

theorem at_1 (t : Fin cfg0.N) : win0_1.index t 0 = t.val ∧ win0_1.index t 1 = 0 := by
  rcases fin_N0 t with rfl | rfl <;> decide +kernel

theorem at_2 (t : Fin cfg0.N) : win0_2.index t 0 = t.val ∧ win0_2.index t 1 = 0 := by
  rcases fin_N0 t with rfl | rfl <;> decide +kernel

theorem at_3 (t : Fin cfg0.N) : win0_3.index t 0 = t.val ∧ win0_3.index t 1 = 0 := by
  rcases fin_N0 t with rfl | rfl <;> decide +kernel

theorem at_4 (t : Fin cfg0.N) : win0_4.index t 0 = t.val ∧ win0_4.index t 1 = 0 := by
  rcases fin_N0 t with rfl | rfl <;> decide +kernel

theorem at_5 (t : Fin cfg0.N) : win0_5.index t 0 = t.val ∧ win0_5.index t 1 = 0 := by
  rcases fin_N0 t with rfl | rfl <;> decide +kernel

theorem at_6 (t : Fin cfg0.N) : win0_6.index t 0 = t.val ∧ win0_6.index t 1 = 0 := by
  rcases fin_N0 t with rfl | rfl <;> decide +kernel

theorem at_7 (t : Fin cfg0.N) : win0_7.index t 0 = t.val ∧ win0_7.index t 1 = 0 := by
  rcases fin_N0 t with rfl | rfl <;> decide +kernel

theorem lt_rows (t : Fin cfg0.N) : 176 * t.val + 176 ≤ 352 := by
  have : t.val < 2 := lt_of_lt_of_eq t.isLt N_0
  omega

/-- The point that has an entry's row. -/
theorem lt_points (i : At 352 1024) : (i 0).val / 176 < cfg0.N := by
  have : (i 0).val < 352 := (i 0).isLt
  exact lt_of_lt_of_eq (by omega : (i 0).val / 176 < 2) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out4 : (dats m 0 c).arrAt 4 cfg0.N = grads (arrP m c) := by
  refine (dats m 0 c).arrAt_eq_of_cover 4 (grads (arrP m c)) (fun t _ => ?_) fun i => ?_
  · rw [Value.flushed4, stored4, rows_p]
    funext y
    rw [View.read_apply]
    exact congrArg (grads (arrP m c)) (eq_pos (lt_rows t) (at_4 t) y _ rfl rfl).symm
  · refine ⟨⟨(i 0).val / 176, lt_points i⟩, flush0_4 _, ?_⟩
    show i ∈ ((View.whole main_v0_0).slice (win0_4.rect ⟨(i 0).val / 176, lt_points i⟩)).set
    rw [View.set_slice_whole, Rect.mem_set_unit]
    exact inside (by decide) i (at_4 _)

theorem out5 : (dats m 0 c).arrAt 5 cfg0.N = changes (arrP m c) (arrW m c) (arrM m c) (arrV m c) := by
  refine (dats m 0 c).arrAt_eq_of_cover 5 (changes (arrP m c) (arrW m c) (arrM m c) (arrV m c)) (fun t _ => ?_) fun i => ?_
  · rw [Value.flushed5, stored5, rows_p, rows_w, rows_m, rows_v]
    funext y
    rw [View.read_apply]
    exact congrArg (changes (arrP m c) (arrW m c) (arrM m c) (arrV m c)) (eq_pos (lt_rows t) (at_5 t) y _ rfl rfl).symm
  · refine ⟨⟨(i 0).val / 176, lt_points i⟩, flush0_5 _, ?_⟩
    show i ∈ ((View.whole main_v0_1).slice (win0_5.rect ⟨(i 0).val / 176, lt_points i⟩)).set
    rw [View.set_slice_whole, Rect.mem_set_unit]
    exact inside (by decide) i (at_5 _)

theorem out6 : (dats m 0 c).arrAt 6 cfg0.N = means (arrP m c) (arrM m c) := by
  refine (dats m 0 c).arrAt_eq_of_cover 6 (means (arrP m c) (arrM m c)) (fun t _ => ?_) fun i => ?_
  · rw [Value.flushed6, stored6, rows_p, rows_m]
    funext y
    rw [View.read_apply]
    exact congrArg (means (arrP m c) (arrM m c)) (eq_pos (lt_rows t) (at_6 t) y _ rfl rfl).symm
  · refine ⟨⟨(i 0).val / 176, lt_points i⟩, flush0_6 _, ?_⟩
    show i ∈ ((View.whole main_v0_2).slice (win0_6.rect ⟨(i 0).val / 176, lt_points i⟩)).set
    rw [View.set_slice_whole, Rect.mem_set_unit]
    exact inside (by decide) i (at_6 _)

theorem out7 : (dats m 0 c).arrAt 7 cfg0.N = squares (arrP m c) (arrV m c) := by
  refine (dats m 0 c).arrAt_eq_of_cover 7 (squares (arrP m c) (arrV m c)) (fun t _ => ?_) fun i => ?_
  · rw [Value.flushed7, stored7, rows_p, rows_v]
    funext y
    rw [View.read_apply]
    exact congrArg (squares (arrP m c) (arrV m c)) (eq_pos (lt_rows t) (at_7 t) y _ rfl rfl).symm
  · refine ⟨⟨(i 0).val / 176, lt_points i⟩, flush0_7 _, ?_⟩
    show i ∈ ((View.whole main_v0_3).slice (win0_7.rect ⟨(i 0).val / 176, lt_points i⟩)).set
    rw [View.set_slice_whole, Rect.mem_set_unit]
    exact inside (by decide) i (at_7 _)

end Kernel

section Reference

open Cert.AdamDownRefIdeal Cert.AdamDownRefIdeal.Read

variable (p : Vec Ideal S8x352x1024 .bf16) (w m v : Vec Ideal S352x1024 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

end Reference

open Cert.AdamDownIdeal in
/-- Kernel and reference leave the same four arrays. -/
theorem algebraic : Cert.algebraic_AdamDownIdeal_AdamDownRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamDownIdeal.defs _ _).mono (fun r h c => ?_) (Cert.AdamDownIdeal.Value.run_blocks m g)
    obtain ⟨h0, h1, h2, h3, hk⟩ := h c
    exact ⟨h0.trans (out4 m c), h1.trans (out5 m c), h2.trans (out6 m c), h3.trans (out7 m c), hk⟩
  · refine (θ_run Cert.AdamDownRefIdeal.defs _ _).mono (fun r h c => ?_) (Cert.AdamDownRefIdeal.Value.run (F := Ideal) m' g')
    obtain ⟨h0, h1, h2, h3, hk⟩ := h c
    obtain ⟨ep, ew, em, ev⟩ := hagree c
    refine ⟨?_, ?_, ?_, ?_, hk⟩
    · refine (h0.trans (Cert.AdamDownRefIdeal.Read.val_main_v1_eq ..)).trans ?_
      rw [ep]
      exact ref_grad _
    · refine (h1.trans (Cert.AdamDownRefIdeal.Read.val_main_v25_eq ..)).trans ?_
      rw [ep, ew, em, ev]
      exact ref_change ..
    · refine (h2.trans (Cert.AdamDownRefIdeal.Read.val_main_v6_eq ..)).trans ?_
      rw [ep, em]
      exact ref_mean ..
    · refine (h3.trans (Cert.AdamDownRefIdeal.Read.val_main_v12_eq ..)).trans ?_
      rw [ep, ev]
      exact ref_square ..

end Cert.AdamDownClaim
-- ==== Proof.AdamSquareClaim.lean ====
/-
  The optimiser's step of the square weights: the eight parts of the gradient
  are summed, and each entry of the weight is stepped, in blocks of 128 rows.
-/
module

public import proofs.«01_k».proof.Defs
public import proofs.«01_k».proof.Proof.AdamMath
public import proofs.«01_k».proof.Proof.Gen.AdamSquareIdeal.Value
public import proofs.«01_k».proof.Proof.Gen.AdamSquareRefIdeal.Run
public import proofs.«01_k».proof.Proof.Gen.AdamSquareRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamSquareClaim

open Idealize.ShloMosaic Idealize.ShloMosaic.TcCoe Idealize.SL.Sem AdamMath
open Idealize.ShloMosaic.Pipeline (Dat)

section Kernel

open Cert.AdamSquareIdeal Cert.AdamSquareIdeal.Gen

theorem summed {x : Vec Ideal S8x128x1024 .bf16} {a0 a1 a2 a3 a4 a5 a6 a7 : Vec Ideal S1x128x1024 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x128x1024 .bf16) (w m v : Vec Ideal S128x1024 .f32) (b : Vec Ideal S8x128 .f32)

/-- The sum that the body makes. -/
theorem block : k0_pay5 x w m v b = grads x :=
  summed (part x 0 _) (part x 1 _) (part x 2 _) (part x 3 _) (part x 4 _) (part x 5 _) (part x 6 _) (part x 7 _)

/-- What the body stores. -/
theorem stored5 : out0_5 x w m v b = grads x := by
  unfold out0_5
  simp only [r0_8]
  rw [View.canon_unit_zero zero2, block]

theorem stored6 : out0_6 x w m v b = changes x w m v := by
  unfold out0_6
  simp only [r0_8, View.ld_unit_zero (S := S128x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v b = means x m := by
  unfold out0_7
  simp only [r0_8, View.ld_unit_zero (S := S128x1024) zero2]
  rw [View.canon_unit_zero zero2, block]
  funext y
  obtain ⟨i, d, rfl⟩ : ∃ i d, y = ix2 i d := ⟨_, _, ix2_eta y⟩
  unfold_payloads
  pointwise
  rfl

theorem stored8 : out0_8 x w m v b = squares x v := by
  unfold out0_8
  simp only [r0_8, View.ld_unit_zero (S := S128x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x128x1024 .bf16 := m ((c : Thread nD τ).loc main_arg0)
abbrev arrW : Vec Ideal S128x1024 .f32 := m ((c : Thread nD τ).loc main_arg1)
abbrev arrM : Vec Ideal S128x1024 .f32 := m ((c : Thread nD τ).loc main_arg2)
abbrev arrV : Vec Ideal S128x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl <;> decide +kernel

theorem at_1 (t : Fin cfg0.N) : win0_1.index t 0 = t.val ∧ win0_1.index t 1 = 0 := by
  rcases fin_N0 t with rfl <;> decide +kernel

theorem at_2 (t : Fin cfg0.N) : win0_2.index t 0 = t.val ∧ win0_2.index t 1 = 0 := by
  rcases fin_N0 t with rfl <;> decide +kernel

theorem at_3 (t : Fin cfg0.N) : win0_3.index t 0 = t.val ∧ win0_3.index t 1 = 0 := by
  rcases fin_N0 t with rfl <;> decide +kernel

theorem at_5 (t : Fin cfg0.N) : win0_5.index t 0 = t.val ∧ win0_5.index t 1 = 0 := by
  rcases fin_N0 t with rfl <;> decide +kernel

theorem at_6 (t : Fin cfg0.N) : win0_6.index t 0 = t.val ∧ win0_6.index t 1 = 0 := by
  rcases fin_N0 t with rfl <;> decide +kernel

theorem at_7 (t : Fin cfg0.N) : win0_7.index t 0 = t.val ∧ win0_7.index t 1 = 0 := by
  rcases fin_N0 t with rfl <;> decide +kernel

theorem at_8 (t : Fin cfg0.N) : win0_8.index t 0 = t.val ∧ win0_8.index t 1 = 0 := by
  rcases fin_N0 t with rfl <;> decide +kernel

theorem lt_rows (t : Fin cfg0.N) : 128 * t.val + 128 ≤ 128 := by
  have : t.val < 1 := lt_of_lt_of_eq t.isLt N_0
  omega

/-- The point that has an entry's row. -/
theorem lt_points (i : At 128 1024) : (i 0).val / 128 < cfg0.N := by
  have : (i 0).val < 128 := (i 0).isLt
  exact lt_of_lt_of_eq (by omega : (i 0).val / 128 < 1) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out5 : (dats m 0 c).arrAt 5 cfg0.N = grads (arrP m c) := by
  refine (dats m 0 c).arrAt_eq_of_cover 5 (grads (arrP m c)) (fun t _ => ?_) fun i => ?_
  · rw [Value.flushed5, stored5, rows_p]
    funext y
    rw [View.read_apply]
    exact congrArg (grads (arrP m c)) (eq_pos (lt_rows t) (at_5 t) y _ rfl rfl).symm
  · refine ⟨⟨(i 0).val / 128, lt_points i⟩, flush0_5 _, ?_⟩
    show i ∈ ((View.whole main_v0_0).slice (win0_5.rect ⟨(i 0).val / 128, lt_points i⟩)).set
    rw [View.set_slice_whole, Rect.mem_set_unit]
    exact inside (by decide) i (at_5 _)

theorem out6 : (dats m 0 c).arrAt 6 cfg0.N = changes (arrP m c) (arrW m c) (arrM m c) (arrV m c) := by
  refine (dats m 0 c).arrAt_eq_of_cover 6 (changes (arrP m c) (arrW m c) (arrM m c) (arrV m c)) (fun t _ => ?_) fun i => ?_
  · rw [Value.flushed6, stored6, rows_p, rows_w, rows_m, rows_v]
    funext y
    rw [View.read_apply]
    exact congrArg (changes (arrP m c) (arrW m c) (arrM m c) (arrV m c)) (eq_pos (lt_rows t) (at_6 t) y _ rfl rfl).symm
  · refine ⟨⟨(i 0).val / 128, lt_points i⟩, flush0_6 _, ?_⟩
    show i ∈ ((View.whole main_v0_1).slice (win0_6.rect ⟨(i 0).val / 128, lt_points i⟩)).set
    rw [View.set_slice_whole, Rect.mem_set_unit]
    exact inside (by decide) i (at_6 _)

theorem out7 : (dats m 0 c).arrAt 7 cfg0.N = means (arrP m c) (arrM m c) := by
  refine (dats m 0 c).arrAt_eq_of_cover 7 (means (arrP m c) (arrM m c)) (fun t _ => ?_) fun i => ?_
  · rw [Value.flushed7, stored7, rows_p, rows_m]
    funext y
    rw [View.read_apply]
    exact congrArg (means (arrP m c) (arrM m c)) (eq_pos (lt_rows t) (at_7 t) y _ rfl rfl).symm
  · refine ⟨⟨(i 0).val / 128, lt_points i⟩, flush0_7 _, ?_⟩
    show i ∈ ((View.whole main_v0_2).slice (win0_7.rect ⟨(i 0).val / 128, lt_points i⟩)).set
    rw [View.set_slice_whole, Rect.mem_set_unit]
    exact inside (by decide) i (at_7 _)

theorem out8 : (dats m 0 c).arrAt 8 cfg0.N = squares (arrP m c) (arrV m c) := by
  refine (dats m 0 c).arrAt_eq_of_cover 8 (squares (arrP m c) (arrV m c)) (fun t _ => ?_) fun i => ?_
  · rw [Value.flushed8, stored8, rows_p, rows_v]
    funext y
    rw [View.read_apply]
    exact congrArg (squares (arrP m c) (arrV m c)) (eq_pos (lt_rows t) (at_8 t) y _ rfl rfl).symm
  · refine ⟨⟨(i 0).val / 128, lt_points i⟩, flush0_8 _, ?_⟩
    show i ∈ ((View.whole main_v0_3).slice (win0_8.rect ⟨(i 0).val / 128, lt_points i⟩)).set
    rw [View.set_slice_whole, Rect.mem_set_unit]
    exact inside (by decide) i (at_8 _)

end Kernel

section Reference

open Cert.AdamSquareRefIdeal Cert.AdamSquareRefIdeal.Read

variable (p : Vec Ideal S8x128x1024 .bf16) (w m v : Vec Ideal S128x1024 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamSquareRefIdeal := fun m ρ _ =>
  (θ_run Cert.AdamSquareRefIdeal.defs _ _).mono (fun r h => ⟨fun c => (h c).2.2.2.2, sem_eq_zero_of_no_sems (by decide) r.2⟩)
    (Cert.AdamSquareRefIdeal.Value.run (F := Ideal) m ρ)

end Reference

open Cert.AdamSquareIdeal in
/-- Kernel and reference leave the same four arrays. -/
theorem algebraic : Cert.algebraic_AdamSquareIdeal_AdamSquareRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamSquareIdeal.defs _ _).mono (fun r h c => ?_) (Cert.AdamSquareIdeal.Value.run_blocks m g)
    obtain ⟨h0, h1, h2, h3, hk⟩ := h c
    exact ⟨h0.trans (out5 m c), h1.trans (out6 m c), h2.trans (out7 m c), h3.trans (out8 m c), hk⟩
  · refine (θ_run Cert.AdamSquareRefIdeal.defs _ _).mono (fun r h c => ?_) (Cert.AdamSquareRefIdeal.Value.run (F := Ideal) m' g')
    obtain ⟨h0, h1, h2, h3, hk⟩ := h c
    obtain ⟨ep, ew, em, ev, _⟩ := hagree c
    refine ⟨?_, ?_, ?_, ?_, hk⟩
    · refine (h0.trans (Cert.AdamSquareRefIdeal.Read.val_main_v1_eq ..)).trans ?_
      rw [ep]
      exact ref_grad _
    · refine (h1.trans (Cert.AdamSquareRefIdeal.Read.val_main_v25_eq ..)).trans ?_
      rw [ep, ew, em, ev]
      exact ref_change ..
    · refine (h2.trans (Cert.AdamSquareRefIdeal.Read.val_main_v6_eq ..)).trans ?_
      rw [ep, em]
      exact ref_mean ..
    · refine (h3.trans (Cert.AdamSquareRefIdeal.Read.val_main_v12_eq ..)).trans ?_
      rw [ep, ev]
      exact ref_square ..

end Cert.AdamSquareClaim
-- ==== Proof.AdamUpClaim.lean ====
/-
  The optimiser's step of the first weight of a gated layer, whose step runs by itself: the eight parts of the gradient
  are summed, and each entry of the weight is stepped, in blocks of 176 rows.
-/
module

public import proofs.«01_k».proof.Defs
public import proofs.«01_k».proof.Proof.AdamMath
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamUpClaim

open Idealize.ShloMosaic Idealize.ShloMosaic.TcCoe Idealize.SL.Sem AdamMath
open Idealize.ShloMosaic.Pipeline (Dat)

section Kernel

open Cert.AdamUpIdeal Cert.AdamUpIdeal.Gen

theorem summed {x : Vec Ideal S8x176x1024 .bf16} {a0 a1 a2 a3 a4 a5 a6 a7 : Vec Ideal S1x176x1024 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x176x1024 .bf16) (w m v : Vec Ideal S176x1024 .f32)

/-- The sum that the body makes. -/
theorem block : k0_pay5 x w m v = grads x :=
  summed (part x 0 _) (part x 1 _) (part x 2 _) (part x 3 _) (part x 4 _) (part x 5 _) (part x 6 _) (part x 7 _)

/-- What the body stores. -/
theorem stored4 : out0_4 x w m v = grads x := by
  unfold out0_4
  simp only [r0_8]
  rw [View.canon_unit_zero zero2, block]

theorem stored5 : out0_5 x w m v = changes x w m v := by
  unfold out0_5
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored6 : out0_6 x w m v = means x m := by
  unfold out0_6
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v = squares x v := by
  unfold out0_7
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x704x1024 .bf16 := m ((c : Thread nD τ).loc main_arg0)
abbrev arrW : Vec Ideal S704x1024 .f32 := m ((c : Thread nD τ).loc main_arg1)
abbrev arrM : Vec Ideal S704x1024 .f32 := m ((c : Thread nD τ).loc main_arg2)
abbrev arrV : Vec Ideal S704x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl | rfl | rfl | rfl <;> decide +kernel

theorem at_1 (t : Fin cfg0.N) : win0_1.index t 0 = t.val ∧ win0_1.index t 1 = 0 := by
  rcases fin_N0 t with rfl | rfl | rfl | rfl <;> decide +kernel

theorem at_2 (t : Fin cfg0.N) : win0_2.index t 0 = t.val ∧ win0_2.index t 1 = 0 := by
  rcases fin_N0 t with rfl | rfl | rfl | rfl <;> decide +kernel

theorem at_3 (t : Fin cfg0.N) : win0_3.index t 0 = t.val ∧ win0_3.index t 1 = 0 := by
  rcases fin_N0 t with rfl | rfl | rfl | rfl <;> decide +kernel

theorem at_4 (t : Fin cfg0.N) : win0_4.index t 0 = t.val ∧ win0_4.index t 1 = 0 := by
  rcases fin_N0 t with rfl | rfl | rfl | rfl <;> decide +kernel

theorem at_5 (t : Fin cfg0.N) : win0_5.index t 0 = t.val ∧ win0_5.index t 1 = 0 := by
  rcases fin_N0 t with rfl | rfl | rfl | rfl <;> decide +kernel

theorem at_6 (t : Fin cfg0.N) : win0_6.index t 0 = t.val ∧ win0_6.index t 1 = 0 := by
  rcases fin_N0 t with rfl | rfl | rfl | rfl <;> decide +kernel

theorem at_7 (t : Fin cfg0.N) : win0_7.index t 0 = t.val ∧ win0_7.index t 1 = 0 := by
  rcases fin_N0 t with rfl | rfl | rfl | rfl <;> decide +kernel

theorem lt_rows (t : Fin cfg0.N) : 176 * t.val + 176 ≤ 704 := by
  have : t.val < 4 := lt_of_lt_of_eq t.isLt N_0
  omega

/-- The point that has an entry's row. -/
theorem lt_points (i : At 704 1024) : (i 0).val / 176 < cfg0.N := by
  have : (i 0).val < 704 := (i 0).isLt
  exact lt_of_lt_of_eq (by omega : (i 0).val / 176 < 4) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out4 : (dats m 0 c).arrAt 4 cfg0.N = grads (arrP m c) := by
  refine (dats m 0 c).arrAt_eq_of_cover 4 (grads (arrP m c)) (fun t _ => ?_) fun i => ?_
  · rw [Value.flushed4, stored4, rows_p]
    funext y
    rw [View.read_apply]
    exact congrArg (grads (arrP m c)) (eq_pos (lt_rows t) (at_4 t) y _ rfl rfl).symm
  · refine ⟨⟨(i 0).val / 176, lt_points i⟩, flush0_4 _, ?_⟩
    show i ∈ ((View.whole main_v0_0).slice (win0_4.rect ⟨(i 0).val / 176, lt_points i⟩)).set
    rw [View.set_slice_whole, Rect.mem_set_unit]
    exact inside (by decide) i (at_4 _)

theorem out5 : (dats m 0 c).arrAt 5 cfg0.N = changes (arrP m c) (arrW m c) (arrM m c) (arrV m c) := by
  refine (dats m 0 c).arrAt_eq_of_cover 5 (changes (arrP m c) (arrW m c) (arrM m c) (arrV m c)) (fun t _ => ?_) fun i => ?_
  · rw [Value.flushed5, stored5, rows_p, rows_w, rows_m, rows_v]
    funext y
    rw [View.read_apply]
    exact congrArg (changes (arrP m c) (arrW m c) (arrM m c) (arrV m c)) (eq_pos (lt_rows t) (at_5 t) y _ rfl rfl).symm
  · refine ⟨⟨(i 0).val / 176, lt_points i⟩, flush0_5 _, ?_⟩
    show i ∈ ((View.whole main_v0_1).slice (win0_5.rect ⟨(i 0).val / 176, lt_points i⟩)).set
    rw [View.set_slice_whole, Rect.mem_set_unit]
    exact inside (by decide) i (at_5 _)

theorem out6 : (dats m 0 c).arrAt 6 cfg0.N = means (arrP m c) (arrM m c) := by
  refine (dats m 0 c).arrAt_eq_of_cover 6 (means (arrP m c) (arrM m c)) (fun t _ => ?_) fun i => ?_
  · rw [Value.flushed6, stored6, rows_p, rows_m]
    funext y
    rw [View.read_apply]
    exact congrArg (means (arrP m c) (arrM m c)) (eq_pos (lt_rows t) (at_6 t) y _ rfl rfl).symm
  · refine ⟨⟨(i 0).val / 176, lt_points i⟩, flush0_6 _, ?_⟩
    show i ∈ ((View.whole main_v0_2).slice (win0_6.rect ⟨(i 0).val / 176, lt_points i⟩)).set
    rw [View.set_slice_whole, Rect.mem_set_unit]
    exact inside (by decide) i (at_6 _)

theorem out7 : (dats m 0 c).arrAt 7 cfg0.N = squares (arrP m c) (arrV m c) := by
  refine (dats m 0 c).arrAt_eq_of_cover 7 (squares (arrP m c) (arrV m c)) (fun t _ => ?_) fun i => ?_
  · rw [Value.flushed7, stored7, rows_p, rows_v]
    funext y
    rw [View.read_apply]
    exact congrArg (squares (arrP m c) (arrV m c)) (eq_pos (lt_rows t) (at_7 t) y _ rfl rfl).symm
  · refine ⟨⟨(i 0).val / 176, lt_points i⟩, flush0_7 _, ?_⟩
    show i ∈ ((View.whole main_v0_3).slice (win0_7.rect ⟨(i 0).val / 176, lt_points i⟩)).set
    rw [View.set_slice_whole, Rect.mem_set_unit]
    exact inside (by decide) i (at_7 _)

end Kernel

section Reference

open Cert.AdamUpRefIdeal Cert.AdamUpRefIdeal.Read

variable (p : Vec Ideal S8x704x1024 .bf16) (w m v : Vec Ideal S704x1024 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

end Reference

open Cert.AdamUpIdeal in
/-- Kernel and reference leave the same four arrays. -/
theorem algebraic : Cert.algebraic_AdamUpIdeal_AdamUpRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamUpIdeal.defs _ _).mono (fun r h c => ?_) (Cert.AdamUpIdeal.Value.run_blocks m g)
    obtain ⟨h0, h1, h2, h3, hk⟩ := h c
    exact ⟨h0.trans (out4 m c), h1.trans (out5 m c), h2.trans (out6 m c), h3.trans (out7 m c), hk⟩
  · refine (θ_run Cert.AdamUpRefIdeal.defs _ _).mono (fun r h c => ?_) (Cert.AdamUpRefIdeal.Value.run (F := Ideal) m' g')
    obtain ⟨h0, h1, h2, h3, hk⟩ := h c
    obtain ⟨ep, ew, em, ev⟩ := hagree c
    refine ⟨?_, ?_, ?_, ?_, hk⟩
    · refine (h0.trans (Cert.AdamUpRefIdeal.Read.val_main_v1_eq ..)).trans ?_
      rw [ep]
      exact ref_grad _
    · refine (h1.trans (Cert.AdamUpRefIdeal.Read.val_main_v25_eq ..)).trans ?_
      rw [ep, ew, em, ev]
      exact ref_change ..
    · refine (h2.trans (Cert.AdamUpRefIdeal.Read.val_main_v6_eq ..)).trans ?_
      rw [ep, em]
      exact ref_mean ..
    · refine (h3.trans (Cert.AdamUpRefIdeal.Read.val_main_v12_eq ..)).trans ?_
      rw [ep, ev]
      exact ref_square ..

end Cert.AdamUpClaim
-- ==== Proof.AdamInClaim.lean ====
/-
  The optimiser's step of the weight into the mixers: the eight parts of the gradient
  are summed, and each entry of the weight is stepped, in blocks of 208 rows.
-/
module

public import proofs.«01_k».proof.Defs
public import proofs.«01_k».proof.Proof.AdamMath
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamInClaim

open Idealize.ShloMosaic Idealize.ShloMosaic.TcCoe Idealize.SL.Sem AdamMath
open Idealize.ShloMosaic.Pipeline (Dat)

section Kernel

open Cert.AdamInIdeal Cert.AdamInIdeal.Gen

theorem summed {x : Vec Ideal S8x208x1024 .bf16} {a0 a1 a2 a3 a4 a5 a6 a7 : Vec Ideal S1x208x1024 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x208x1024 .bf16) (w m v : Vec Ideal S208x1024 .f32)

/-- The sum that the body makes. -/
theorem block : k0_pay5 x w m v = grads x :=
  summed (part x 0 _) (part x 1 _) (part x 2 _) (part x 3 _) (part x 4 _) (part x 5 _) (part x 6 _) (part x 7 _)

/-- What the body stores. -/
theorem stored4 : out0_4 x w m v = grads x := by
  unfold out0_4
  simp only [r0_8]
  rw [View.canon_unit_zero zero2, block]

theorem stored5 : out0_5 x w m v = changes x w m v := by
  unfold out0_5
  simp only [r0_8, View.ld_unit_zero (S := S208x1024) zero2]
  rw [View.canon_unit_zero zero2, block]
  funext y
  obtain ⟨i, d, rfl⟩ : ∃ i d, y = ix2 i d := ⟨_, _, ix2_eta y⟩
  unfold_payloads
  pointwise
  rfl

theorem stored6 : out0_6 x w m v = means x m := by
  unfold out0_6
  simp only [r0_8, View.ld_unit_zero (S := S208x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v = squares x v := by
  unfold out0_7
  simp only [r0_8, View.ld_unit_zero (S := S208x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x832x1024 .bf16 := m ((c : Thread nD τ).loc main_arg0)
abbrev arrW : Vec Ideal S832x1024 .f32 := m ((c : Thread nD τ).loc main_arg1)
abbrev arrM : Vec Ideal S832x1024 .f32 := m ((c : Thread nD τ).loc main_arg2)
abbrev arrV : Vec Ideal S832x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl | rfl | rfl | rfl <;> decide +kernel

theorem at_1 (t : Fin cfg0.N) : win0_1.index t 0 = t.val ∧ win0_1.index t 1 = 0 := by
  rcases fin_N0 t with rfl | rfl | rfl | rfl <;> decide +kernel

theorem at_2 (t : Fin cfg0.N) : win0_2.index t 0 = t.val ∧ win0_2.index t 1 = 0 := by
  rcases fin_N0 t with rfl | rfl | rfl | rfl <;> decide +kernel

theorem at_3 (t : Fin cfg0.N) : win0_3.index t 0 = t.val ∧ win0_3.index t 1 = 0 := by
  rcases fin_N0 t with rfl | rfl | rfl | rfl <;> decide +kernel

theorem at_4 (t : Fin cfg0.N) : win0_4.index t 0 = t.val ∧ win0_4.index t 1 = 0 := by
  rcases fin_N0 t with rfl | rfl | rfl | rfl <;> decide +kernel

theorem at_5 (t : Fin cfg0.N) : win0_5.index t 0 = t.val ∧ win0_5.index t 1 = 0 := by
  rcases fin_N0 t with rfl | rfl | rfl | rfl <;> decide +kernel

theorem at_6 (t : Fin cfg0.N) : win0_6.index t 0 = t.val ∧ win0_6.index t 1 = 0 := by
  rcases fin_N0 t with rfl | rfl | rfl | rfl <;> decide +kernel

theorem at_7 (t : Fin cfg0.N) : win0_7.index t 0 = t.val ∧ win0_7.index t 1 = 0 := by
  rcases fin_N0 t with rfl | rfl | rfl | rfl <;> decide +kernel

theorem lt_rows (t : Fin cfg0.N) : 208 * t.val + 208 ≤ 832 := by
  have : t.val < 4 := lt_of_lt_of_eq t.isLt N_0
  omega

/-- The point that has an entry's row. -/
theorem lt_points (i : At 832 1024) : (i 0).val / 208 < cfg0.N := by
  have : (i 0).val < 832 := (i 0).isLt
  exact lt_of_lt_of_eq (by omega : (i 0).val / 208 < 4) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out4 : (dats m 0 c).arrAt 4 cfg0.N = grads (arrP m c) := by
  refine (dats m 0 c).arrAt_eq_of_cover 4 (grads (arrP m c)) (fun t _ => ?_) fun i => ?_
  · rw [Value.flushed4, stored4, rows_p]
    funext y
    rw [View.read_apply]
    exact congrArg (grads (arrP m c)) (eq_pos (lt_rows t) (at_4 t) y _ rfl rfl).symm
  · refine ⟨⟨(i 0).val / 208, lt_points i⟩, flush0_4 _, ?_⟩
    show i ∈ ((View.whole main_v0_0).slice (win0_4.rect ⟨(i 0).val / 208, lt_points i⟩)).set
    rw [View.set_slice_whole, Rect.mem_set_unit]
    exact inside (by decide) i (at_4 _)

theorem out5 : (dats m 0 c).arrAt 5 cfg0.N = changes (arrP m c) (arrW m c) (arrM m c) (arrV m c) := by
  refine (dats m 0 c).arrAt_eq_of_cover 5 (changes (arrP m c) (arrW m c) (arrM m c) (arrV m c)) (fun t _ => ?_) fun i => ?_
  · rw [Value.flushed5, stored5, rows_p, rows_w, rows_m, rows_v]
    funext y
    rw [View.read_apply]
    exact congrArg (changes (arrP m c) (arrW m c) (arrM m c) (arrV m c)) (eq_pos (lt_rows t) (at_5 t) y _ rfl rfl).symm
  · refine ⟨⟨(i 0).val / 208, lt_points i⟩, flush0_5 _, ?_⟩
    show i ∈ ((View.whole main_v0_1).slice (win0_5.rect ⟨(i 0).val / 208, lt_points i⟩)).set
    rw [View.set_slice_whole, Rect.mem_set_unit]
    exact inside (by decide) i (at_5 _)

theorem out6 : (dats m 0 c).arrAt 6 cfg0.N = means (arrP m c) (arrM m c) := by
  refine (dats m 0 c).arrAt_eq_of_cover 6 (means (arrP m c) (arrM m c)) (fun t _ => ?_) fun i => ?_
  · rw [Value.flushed6, stored6, rows_p, rows_m]
    funext y
    rw [View.read_apply]
    exact congrArg (means (arrP m c) (arrM m c)) (eq_pos (lt_rows t) (at_6 t) y _ rfl rfl).symm
  · refine ⟨⟨(i 0).val / 208, lt_points i⟩, flush0_6 _, ?_⟩
    show i ∈ ((View.whole main_v0_2).slice (win0_6.rect ⟨(i 0).val / 208, lt_points i⟩)).set
    rw [View.set_slice_whole, Rect.mem_set_unit]
    exact inside (by decide) i (at_6 _)

theorem out7 : (dats m 0 c).arrAt 7 cfg0.N = squares (arrP m c) (arrV m c) := by
  refine (dats m 0 c).arrAt_eq_of_cover 7 (squares (arrP m c) (arrV m c)) (fun t _ => ?_) fun i => ?_
  · rw [Value.flushed7, stored7, rows_p, rows_v]
    funext y
    rw [View.read_apply]
    exact congrArg (squares (arrP m c) (arrV m c)) (eq_pos (lt_rows t) (at_7 t) y _ rfl rfl).symm
  · refine ⟨⟨(i 0).val / 208, lt_points i⟩, flush0_7 _, ?_⟩
    show i ∈ ((View.whole main_v0_3).slice (win0_7.rect ⟨(i 0).val / 208, lt_points i⟩)).set
    rw [View.set_slice_whole, Rect.mem_set_unit]
    exact inside (by decide) i (at_7 _)

end Kernel

section Reference

open Cert.AdamInRefIdeal Cert.AdamInRefIdeal.Read

variable (p : Vec Ideal S8x832x1024 .bf16) (w m v : Vec Ideal S832x1024 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

end Reference

open Cert.AdamInIdeal in
/-- Kernel and reference leave the same four arrays. -/
theorem algebraic : Cert.algebraic_AdamInIdeal_AdamInRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamInIdeal.defs _ _).mono (fun r h c => ?_) (Cert.AdamInIdeal.Value.run_blocks m g)
    obtain ⟨h0, h1, h2, h3, hk⟩ := h c
    exact ⟨h0.trans (out4 m c), h1.trans (out5 m c), h2.trans (out6 m c), h3.trans (out7 m c), hk⟩
  · refine (θ_run Cert.AdamInRefIdeal.defs _ _).mono (fun r h c => ?_) (Cert.AdamInRefIdeal.Value.run (F := Ideal) m' g')
    obtain ⟨h0, h1, h2, h3, hk⟩ := h c
    obtain ⟨ep, ew, em, ev⟩ := hagree c
    refine ⟨?_, ?_, ?_, ?_, hk⟩
    · refine (h0.trans (Cert.AdamInRefIdeal.Read.val_main_v1_eq ..)).trans ?_
      rw [ep]
      exact ref_grad _
    · refine (h1.trans (Cert.AdamInRefIdeal.Read.val_main_v25_eq ..)).trans ?_
      rw [ep, ew, em, ev]
      exact ref_change ..
    · refine (h2.trans (Cert.AdamInRefIdeal.Read.val_main_v6_eq ..)).trans ?_
      rw [ep, em]
      exact ref_mean ..
    · refine (h3.trans (Cert.AdamInRefIdeal.Read.val_main_v12_eq ..)).trans ?_
      rw [ep, ev]
      exact ref_square ..

end Cert.AdamInClaim
-- ==== Proof.AdamKvClaim.lean ====
/-
  The optimiser's step of the weight of the memory's keys and values: the eight parts of the gradient
  are summed, and each entry of the weight is stepped, in blocks of 256 rows.
-/
module

public import proofs.«01_k».proof.Defs
public import proofs.«01_k».proof.Proof.AdamMath
public import proofs.«01_k».proof.Proof.Gen.AdamKvIdeal.Value
public import proofs.«01_k».proof.Proof.Gen.AdamKvRefIdeal.Run
public import proofs.«01_k».proof.Proof.Gen.AdamKvRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamKvClaim

open Idealize.ShloMosaic Idealize.ShloMosaic.TcCoe Idealize.SL.Sem AdamMath
open Idealize.ShloMosaic.Pipeline (Dat)

section Kernel

open Cert.AdamKvIdeal Cert.AdamKvIdeal.Gen

theorem summed {x : Vec Ideal S8x256x256 .bf16} {a0 a1 a2 a3 a4 a5 a6 a7 : Vec Ideal S1x256x256 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x256x256 .bf16) (w m v : Vec Ideal S256x256 .f32) (b : Vec Ideal S8x128 .f32)

/-- The sum that the body makes. -/
theorem block : k0_pay5 x w m v b = grads x :=
  summed (part x 0 _) (part x 1 _) (part x 2 _) (part x 3 _) (part x 4 _) (part x 5 _) (part x 6 _) (part x 7 _)

/-- What the body stores. -/
theorem stored5 : out0_5 x w m v b = grads x := by
  unfold out0_5
  simp only [r0_8]
  rw [View.canon_unit_zero zero2, block]

theorem stored6 : out0_6 x w m v b = changes x w m v := by
  unfold out0_6
  simp only [r0_8, View.ld_unit_zero (S := S256x256) zero2]
  rw [View.canon_unit_zero zero2, block]
  funext y
  obtain ⟨i, d, rfl⟩ : ∃ i d, y = ix2 i d := ⟨_, _, ix2_eta y⟩
  unfold_payloads
  pointwise
  rfl

theorem stored7 : out0_7 x w m v b = means x m := by
  unfold out0_7
  simp only [r0_8, View.ld_unit_zero (S := S256x256) zero2]
  rw [View.canon_unit_zero zero2, block]
  funext y
  obtain ⟨i, d, rfl⟩ : ∃ i d, y = ix2 i d := ⟨_, _, ix2_eta y⟩
  unfold_payloads
  pointwise
  rfl

theorem stored8 : out0_8 x w m v b = squares x v := by
  unfold out0_8
  simp only [r0_8, View.ld_unit_zero (S := S256x256) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x1024x256 .bf16 := m ((c : Thread nD τ).loc main_arg0)
abbrev arrW : Vec Ideal S1024x256 .f32 := m ((c : Thread nD τ).loc main_arg1)
abbrev arrM : Vec Ideal S1024x256 .f32 := m ((c : Thread nD τ).loc main_arg2)
abbrev arrV : Vec Ideal S1024x256 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl | rfl | rfl | rfl <;> decide +kernel

theorem at_1 (t : Fin cfg0.N) : win0_1.index t 0 = t.val ∧ win0_1.index t 1 = 0 := by
  rcases fin_N0 t with rfl | rfl | rfl | rfl <;> decide +kernel

theorem at_2 (t : Fin cfg0.N) : win0_2.index t 0 = t.val ∧ win0_2.index t 1 = 0 := by
  rcases fin_N0 t with rfl | rfl | rfl | rfl <;> decide +kernel

theorem at_3 (t : Fin cfg0.N) : win0_3.index t 0 = t.val ∧ win0_3.index t 1 = 0 := by
  rcases fin_N0 t with rfl | rfl | rfl | rfl <;> decide +kernel

theorem at_5 (t : Fin cfg0.N) : win0_5.index t 0 = t.val ∧ win0_5.index t 1 = 0 := by
  rcases fin_N0 t with rfl | rfl | rfl | rfl <;> decide +kernel

theorem at_6 (t : Fin cfg0.N) : win0_6.index t 0 = t.val ∧ win0_6.index t 1 = 0 := by
  rcases fin_N0 t with rfl | rfl | rfl | rfl <;> decide +kernel

theorem at_7 (t : Fin cfg0.N) : win0_7.index t 0 = t.val ∧ win0_7.index t 1 = 0 := by
  rcases fin_N0 t with rfl | rfl | rfl | rfl <;> decide +kernel

theorem at_8 (t : Fin cfg0.N) : win0_8.index t 0 = t.val ∧ win0_8.index t 1 = 0 := by
  rcases fin_N0 t with rfl | rfl | rfl | rfl <;> decide +kernel

theorem lt_rows (t : Fin cfg0.N) : 256 * t.val + 256 ≤ 1024 := by
  have : t.val < 4 := lt_of_lt_of_eq t.isLt N_0
  omega

/-- The point that has an entry's row. -/
theorem lt_points (i : At 1024 256) : (i 0).val / 256 < cfg0.N := by
  have : (i 0).val < 1024 := (i 0).isLt
  exact lt_of_lt_of_eq (by omega : (i 0).val / 256 < 4) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out5 : (dats m 0 c).arrAt 5 cfg0.N = grads (arrP m c) := by
  refine (dats m 0 c).arrAt_eq_of_cover 5 (grads (arrP m c)) (fun t _ => ?_) fun i => ?_
  · rw [Value.flushed5, stored5, rows_p]
    funext y
    rw [View.read_apply]
    exact congrArg (grads (arrP m c)) (eq_pos (lt_rows t) (at_5 t) y _ rfl rfl).symm
  · refine ⟨⟨(i 0).val / 256, lt_points i⟩, flush0_5 _, ?_⟩
    show i ∈ ((View.whole main_v0_0).slice (win0_5.rect ⟨(i 0).val / 256, lt_points i⟩)).set
    rw [View.set_slice_whole, Rect.mem_set_unit]
    exact inside (by decide) i (at_5 _)

theorem out6 : (dats m 0 c).arrAt 6 cfg0.N = changes (arrP m c) (arrW m c) (arrM m c) (arrV m c) := by
  refine (dats m 0 c).arrAt_eq_of_cover 6 (changes (arrP m c) (arrW m c) (arrM m c) (arrV m c)) (fun t _ => ?_) fun i => ?_
  · rw [Value.flushed6, stored6, rows_p, rows_w, rows_m, rows_v]
    funext y
    rw [View.read_apply]
    exact congrArg (changes (arrP m c) (arrW m c) (arrM m c) (arrV m c)) (eq_pos (lt_rows t) (at_6 t) y _ rfl rfl).symm
  · refine ⟨⟨(i 0).val / 256, lt_points i⟩, flush0_6 _, ?_⟩
    show i ∈ ((View.whole main_v0_1).slice (win0_6.rect ⟨(i 0).val / 256, lt_points i⟩)).set
    rw [View.set_slice_whole, Rect.mem_set_unit]
    exact inside (by decide) i (at_6 _)

theorem out7 : (dats m 0 c).arrAt 7 cfg0.N = means (arrP m c) (arrM m c) := by
  refine (dats m 0 c).arrAt_eq_of_cover 7 (means (arrP m c) (arrM m c)) (fun t _ => ?_) fun i => ?_
  · rw [Value.flushed7, stored7, rows_p, rows_m]
    funext y
    rw [View.read_apply]
    exact congrArg (means (arrP m c) (arrM m c)) (eq_pos (lt_rows t) (at_7 t) y _ rfl rfl).symm
  · refine ⟨⟨(i 0).val / 256, lt_points i⟩, flush0_7 _, ?_⟩
    show i ∈ ((View.whole main_v0_2).slice (win0_7.rect ⟨(i 0).val / 256, lt_points i⟩)).set
    rw [View.set_slice_whole, Rect.mem_set_unit]
    exact inside (by decide) i (at_7 _)

theorem out8 : (dats m 0 c).arrAt 8 cfg0.N = squares (arrP m c) (arrV m c) := by
  refine (dats m 0 c).arrAt_eq_of_cover 8 (squares (arrP m c) (arrV m c)) (fun t _ => ?_) fun i => ?_
  · rw [Value.flushed8, stored8, rows_p, rows_v]
    funext y
    rw [View.read_apply]
    exact congrArg (squares (arrP m c) (arrV m c)) (eq_pos (lt_rows t) (at_8 t) y _ rfl rfl).symm
  · refine ⟨⟨(i 0).val / 256, lt_points i⟩, flush0_8 _, ?_⟩
    show i ∈ ((View.whole main_v0_3).slice (win0_8.rect ⟨(i 0).val / 256, lt_points i⟩)).set
    rw [View.set_slice_whole, Rect.mem_set_unit]
    exact inside (by decide) i (at_8 _)

end Kernel

section Reference

open Cert.AdamKvRefIdeal Cert.AdamKvRefIdeal.Read

variable (p : Vec Ideal S8x1024x256 .bf16) (w m v : Vec Ideal S1024x256 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamKvRefIdeal := fun m ρ _ =>
  (θ_run Cert.AdamKvRefIdeal.defs _ _).mono (fun r h => ⟨fun c => (h c).2.2.2.2, sem_eq_zero_of_no_sems (by decide) r.2⟩)
    (Cert.AdamKvRefIdeal.Value.run (F := Ideal) m ρ)

end Reference

open Cert.AdamKvIdeal in
/-- Kernel and reference leave the same four arrays. -/
theorem algebraic : Cert.algebraic_AdamKvIdeal_AdamKvRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamKvIdeal.defs _ _).mono (fun r h c => ?_) (Cert.AdamKvIdeal.Value.run_blocks m g)
    obtain ⟨h0, h1, h2, h3, hk⟩ := h c
    exact ⟨h0.trans (out5 m c), h1.trans (out6 m c), h2.trans (out7 m c), h3.trans (out8 m c), hk⟩
  · refine (θ_run Cert.AdamKvRefIdeal.defs _ _).mono (fun r h c => ?_) (Cert.AdamKvRefIdeal.Value.run (F := Ideal) m' g')
    obtain ⟨h0, h1, h2, h3, hk⟩ := h c
    obtain ⟨ep, ew, em, ev, _⟩ := hagree c
    refine ⟨?_, ?_, ?_, ?_, hk⟩
    · refine (h0.trans (Cert.AdamKvRefIdeal.Read.val_main_v1_eq ..)).trans ?_
      rw [ep]
      exact ref_grad _
    · refine (h1.trans (Cert.AdamKvRefIdeal.Read.val_main_v25_eq ..)).trans ?_
      rw [ep, ew, em, ev]
      exact ref_change ..
    · refine (h2.trans (Cert.AdamKvRefIdeal.Read.val_main_v6_eq ..)).trans ?_
      rw [ep, em]
      exact ref_mean ..
    · refine (h3.trans (Cert.AdamKvRefIdeal.Read.val_main_v12_eq ..)).trans ?_
      rw [ep, ev]
      exact ref_square ..

end Cert.AdamKvClaim
-- ==== Proof.AdamSmallClaim.lean ====
/-
  The optimiser's step of the packed rows of the small weights: the eight parts of the gradient
  are summed, and each entry of the weight is stepped, in blocks of 16 rows.
-/
module

public import proofs.«01_k».proof.Defs
public import proofs.«01_k».proof.Proof.AdamMath
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamSmallClaim

open Idealize.ShloMosaic Idealize.ShloMosaic.TcCoe Idealize.SL.Sem AdamMath
open Idealize.ShloMosaic.Pipeline (Dat)

section Kernel

open Cert.AdamSmallIdeal Cert.AdamSmallIdeal.Gen

theorem summed {x : Vec Ideal S8x16x1024 .f32} {a0 a1 a2 a3 a4 a5 a6 a7 : Vec Ideal S1x16x1024 .f32}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x16x1024 .f32) (w m v : Vec Ideal S16x1024 .f32)

/-- The sum that the body makes. -/
theorem block : k0_pay6 x w m v = grads x :=
  summed (part x 0 _) (part x 1 _) (part x 2 _) (part x 3 _) (part x 4 _) (part x 5 _) (part x 6 _) (part x 7 _)

/-- What the body stores. -/
theorem stored4 : out0_4 x w m v = grads x := by
  unfold out0_4
  simp only [r0_8]
  rw [View.canon_unit_zero zero2, block]

theorem stored5 : out0_5 x w m v = changes x w m v := by
  unfold out0_5
  simp only [r0_8, View.ld_unit_zero (S := S16x1024) zero2]
  rw [View.canon_unit_zero zero2, block]
  funext y
  obtain ⟨i, d, rfl⟩ : ∃ i d, y = ix2 i d := ⟨_, _, ix2_eta y⟩
  unfold_payloads
  pointwise
  rfl

theorem stored6 : out0_6 x w m v = means x m := by
  unfold out0_6
  simp only [r0_8, View.ld_unit_zero (S := S16x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v = squares x v := by
  unfold out0_7
  simp only [r0_8, View.ld_unit_zero (S := S16x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x16x1024 .f32 := m ((c : Thread nD τ).loc main_arg0)
abbrev arrW : Vec Ideal S16x1024 .f32 := m ((c : Thread nD τ).loc main_arg1)
abbrev arrM : Vec Ideal S16x1024 .f32 := m ((c : Thread nD τ).loc main_arg2)
abbrev arrV : Vec Ideal S16x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl <;> decide +kernel

theorem at_1 (t : Fin cfg0.N) : win0_1.index t 0 = t.val ∧ win0_1.index t 1 = 0 := by
  rcases fin_N0 t with rfl <;> decide +kernel

theorem at_2 (t : Fin cfg0.N) : win0_2.index t 0 = t.val ∧ win0_2.index t 1 = 0 := by
  rcases fin_N0 t with rfl <;> decide +kernel

theorem at_3 (t : Fin cfg0.N) : win0_3.index t 0 = t.val ∧ win0_3.index t 1 = 0 := by
  rcases fin_N0 t with rfl <;> decide +kernel

theorem at_4 (t : Fin cfg0.N) : win0_4.index t 0 = t.val ∧ win0_4.index t 1 = 0 := by
  rcases fin_N0 t with rfl <;> decide +kernel

theorem at_5 (t : Fin cfg0.N) : win0_5.index t 0 = t.val ∧ win0_5.index t 1 = 0 := by
  rcases fin_N0 t with rfl <;> decide +kernel

theorem at_6 (t : Fin cfg0.N) : win0_6.index t 0 = t.val ∧ win0_6.index t 1 = 0 := by
  rcases fin_N0 t with rfl <;> decide +kernel

theorem at_7 (t : Fin cfg0.N) : win0_7.index t 0 = t.val ∧ win0_7.index t 1 = 0 := by
  rcases fin_N0 t with rfl <;> decide +kernel

theorem lt_rows (t : Fin cfg0.N) : 16 * t.val + 16 ≤ 16 := by
  have : t.val < 1 := lt_of_lt_of_eq t.isLt N_0
  omega

/-- The point that has an entry's row. -/
theorem lt_points (i : At 16 1024) : (i 0).val / 16 < cfg0.N := by
  have : (i 0).val < 16 := (i 0).isLt
  exact lt_of_lt_of_eq (by omega : (i 0).val / 16 < 1) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out4 : (dats m 0 c).arrAt 4 cfg0.N = grads (arrP m c) := by
  refine (dats m 0 c).arrAt_eq_of_cover 4 (grads (arrP m c)) (fun t _ => ?_) fun i => ?_
  · rw [Value.flushed4, stored4, rows_p]
    funext y
    rw [View.read_apply]
    exact congrArg (grads (arrP m c)) (eq_pos (lt_rows t) (at_4 t) y _ rfl rfl).symm
  · refine ⟨⟨(i 0).val / 16, lt_points i⟩, flush0_4 _, ?_⟩
    show i ∈ ((View.whole main_v0_0).slice (win0_4.rect ⟨(i 0).val / 16, lt_points i⟩)).set
    rw [View.set_slice_whole, Rect.mem_set_unit]
    exact inside (by decide) i (at_4 _)

theorem out5 : (dats m 0 c).arrAt 5 cfg0.N = changes (arrP m c) (arrW m c) (arrM m c) (arrV m c) := by
  refine (dats m 0 c).arrAt_eq_of_cover 5 (changes (arrP m c) (arrW m c) (arrM m c) (arrV m c)) (fun t _ => ?_) fun i => ?_
  · rw [Value.flushed5, stored5, rows_p, rows_w, rows_m, rows_v]
    funext y
    rw [View.read_apply]
    exact congrArg (changes (arrP m c) (arrW m c) (arrM m c) (arrV m c)) (eq_pos (lt_rows t) (at_5 t) y _ rfl rfl).symm
  · refine ⟨⟨(i 0).val / 16, lt_points i⟩, flush0_5 _, ?_⟩
    show i ∈ ((View.whole main_v0_1).slice (win0_5.rect ⟨(i 0).val / 16, lt_points i⟩)).set
    rw [View.set_slice_whole, Rect.mem_set_unit]
    exact inside (by decide) i (at_5 _)

theorem out6 : (dats m 0 c).arrAt 6 cfg0.N = means (arrP m c) (arrM m c) := by
  refine (dats m 0 c).arrAt_eq_of_cover 6 (means (arrP m c) (arrM m c)) (fun t _ => ?_) fun i => ?_
  · rw [Value.flushed6, stored6, rows_p, rows_m]
    funext y
    rw [View.read_apply]
    exact congrArg (means (arrP m c) (arrM m c)) (eq_pos (lt_rows t) (at_6 t) y _ rfl rfl).symm
  · refine ⟨⟨(i 0).val / 16, lt_points i⟩, flush0_6 _, ?_⟩
    show i ∈ ((View.whole main_v0_2).slice (win0_6.rect ⟨(i 0).val / 16, lt_points i⟩)).set
    rw [View.set_slice_whole, Rect.mem_set_unit]
    exact inside (by decide) i (at_6 _)

theorem out7 : (dats m 0 c).arrAt 7 cfg0.N = squares (arrP m c) (arrV m c) := by
  refine (dats m 0 c).arrAt_eq_of_cover 7 (squares (arrP m c) (arrV m c)) (fun t _ => ?_) fun i => ?_
  · rw [Value.flushed7, stored7, rows_p, rows_v]
    funext y
    rw [View.read_apply]
    exact congrArg (squares (arrP m c) (arrV m c)) (eq_pos (lt_rows t) (at_7 t) y _ rfl rfl).symm
  · refine ⟨⟨(i 0).val / 16, lt_points i⟩, flush0_7 _, ?_⟩
    show i ∈ ((View.whole main_v0_3).slice (win0_7.rect ⟨(i 0).val / 16, lt_points i⟩)).set
    rw [View.set_slice_whole, Rect.mem_set_unit]
    exact inside (by decide) i (at_7 _)

end Kernel

section Reference

open Cert.AdamSmallRefIdeal Cert.AdamSmallRefIdeal.Read

variable (p : Vec Ideal S8x16x1024 .f32) (w m v : Vec Ideal S16x1024 .f32)

theorem ref_grad : val_main_v0 p = grads p := by
  funext z
  obtain ⟨s, d, rfl⟩ : ∃ s d, z = ix2 s d := ⟨_, _, ix2_eta z⟩
  pointwise [val_main_v0, val_main_cst]
  rfl

theorem ref_mean : val_main_v5 p m = means p m := by
  funext z
  obtain ⟨s, d, rfl⟩ : ∃ s d, z = ix2 s d := ⟨_, _, ix2_eta z⟩
  pointwise [val_main_v5, val_main_v4, val_main_v3, val_main_cst_1, val_main_v2, val_main_v1, val_main_cst_0, ref_grad]
  rfl

theorem ref_square : val_main_v11 p v = squares p v := by
  funext z
  obtain ⟨s, d, rfl⟩ : ∃ s d, z = ix2 s d := ⟨_, _, ix2_eta z⟩
  pointwise [val_main_v11, val_main_v10, val_main_v9, val_main_cst_3, val_main_v8, val_main_v7, val_main_v6, val_main_cst_2, ref_grad]
  rfl

theorem ref_change : val_main_v24 p w m v = changes p w m v := by
  funext z
  obtain ⟨s, d, rfl⟩ : ∃ s d, z = ix2 s d := ⟨_, _, ix2_eta z⟩
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, ref_mean, ref_square]
  rfl

/-- The reference runs, keeps its arguments and has no semaphore. -/
theorem ref_frame : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

end Reference

open Cert.AdamSmallIdeal in
/-- Kernel and reference leave the same four arrays. -/
theorem algebraic : Cert.algebraic_AdamSmallIdeal_AdamSmallRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamSmallIdeal.defs _ _).mono (fun r h c => ?_) (Cert.AdamSmallIdeal.Value.run_blocks m g)
    obtain ⟨h0, h1, h2, h3, hk⟩ := h c
    exact ⟨h0.trans (out4 m c), h1.trans (out5 m c), h2.trans (out6 m c), h3.trans (out7 m c), hk⟩
  · refine (θ_run Cert.AdamSmallRefIdeal.defs _ _).mono (fun r h c => ?_) (Cert.AdamSmallRefIdeal.Value.run (F := Ideal) m' g')
    obtain ⟨h0, h1, h2, h3, hk⟩ := h c
    obtain ⟨ep, ew, em, ev⟩ := hagree c
    refine ⟨?_, ?_, ?_, ?_, hk⟩
    · refine (h0.trans (Cert.AdamSmallRefIdeal.Read.val_main_v0_eq ..)).trans ?_
      rw [ep]
      exact ref_grad _
    · refine (h1.trans (Cert.AdamSmallRefIdeal.Read.val_main_v24_eq ..)).trans ?_
      rw [ep, ew, em, ev]
      exact ref_change ..
    · refine (h2.trans (Cert.AdamSmallRefIdeal.Read.val_main_v5_eq ..)).trans ?_
      rw [ep, em]
      exact ref_mean ..
    · refine (h3.trans (Cert.AdamSmallRefIdeal.Read.val_main_v11_eq ..)).trans ?_
      rw [ep, ev]
      exact ref_square ..

end Cert.AdamSmallClaim
-- ==== Proof.AdamDownAfterClaim.lean ====
/-
  The optimiser's step of the second weight of a gated layer, whose step runs behind an exchange: the eight parts of the gradient
  are summed, and each entry of the weight is stepped, in blocks of 176 rows.
-/
module

public import proofs.«01_k».proof.Defs
public import proofs.«01_k».proof.Proof.AdamMath
public import proofs.«01_k».proof.Proof.Gen.AdamDownAfterIdeal.Value
public import proofs.«01_k».proof.Proof.Gen.AdamDownAfterRefIdeal.Run
public import proofs.«01_k».proof.Proof.Gen.AdamDownAfterRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamDownAfterClaim

open Idealize.ShloMosaic Idealize.ShloMosaic.TcCoe Idealize.SL.Sem AdamMath
open Idealize.ShloMosaic.Pipeline (Dat)

section Kernel

open Cert.AdamDownAfterIdeal Cert.AdamDownAfterIdeal.Gen

theorem summed {x : Vec Ideal S8x176x1024 .bf16} {a0 a1 a2 a3 a4 a5 a6 a7 : Vec Ideal S1x176x1024 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x176x1024 .bf16) (w m v : Vec Ideal S176x1024 .f32) (b : Vec Ideal S8x128 .f32)

/-- The sum that the body makes. -/
theorem block : k0_pay5 x w m v b = grads x :=
  summed (part x 0 _) (part x 1 _) (part x 2 _) (part x 3 _) (part x 4 _) (part x 5 _) (part x 6 _) (part x 7 _)

/-- What the body stores. -/
theorem stored5 : out0_5 x w m v b = grads x := by
  unfold out0_5
  simp only [r0_8]
  rw [View.canon_unit_zero zero2, block]

theorem stored6 : out0_6 x w m v b = changes x w m v := by
  unfold out0_6
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v b = means x m := by
  unfold out0_7
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored8 : out0_8 x w m v b = squares x v := by
  unfold out0_8
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x352x1024 .bf16 := m ((c : Thread nD τ).loc main_arg0)
abbrev arrW : Vec Ideal S352x1024 .f32 := m ((c : Thread nD τ).loc main_arg1)
abbrev arrM : Vec Ideal S352x1024 .f32 := m ((c : Thread nD τ).loc main_arg2)
abbrev arrV : Vec Ideal S352x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl | rfl <;> decide +kernel

theorem at_1 (t : Fin cfg0.N) : win0_1.index t 0 = t.val ∧ win0_1.index t 1 = 0 := by
  rcases fin_N0 t with rfl | rfl <;> decide +kernel

theorem at_2 (t : Fin cfg0.N) : win0_2.index t 0 = t.val ∧ win0_2.index t 1 = 0 := by
  rcases fin_N0 t with rfl | rfl <;> decide +kernel

theorem at_3 (t : Fin cfg0.N) : win0_3.index t 0 = t.val ∧ win0_3.index t 1 = 0 := by
  rcases fin_N0 t with rfl | rfl <;> decide +kernel

theorem at_5 (t : Fin cfg0.N) : win0_5.index t 0 = t.val ∧ win0_5.index t 1 = 0 := by
  rcases fin_N0 t with rfl | rfl <;> decide +kernel

theorem at_6 (t : Fin cfg0.N) : win0_6.index t 0 = t.val ∧ win0_6.index t 1 = 0 := by
  rcases fin_N0 t with rfl | rfl <;> decide +kernel

theorem at_7 (t : Fin cfg0.N) : win0_7.index t 0 = t.val ∧ win0_7.index t 1 = 0 := by
  rcases fin_N0 t with rfl | rfl <;> decide +kernel

theorem at_8 (t : Fin cfg0.N) : win0_8.index t 0 = t.val ∧ win0_8.index t 1 = 0 := by
  rcases fin_N0 t with rfl | rfl <;> decide +kernel

theorem lt_rows (t : Fin cfg0.N) : 176 * t.val + 176 ≤ 352 := by
  have : t.val < 2 := lt_of_lt_of_eq t.isLt N_0
  omega

/-- The point that has an entry's row. -/
theorem lt_points (i : At 352 1024) : (i 0).val / 176 < cfg0.N := by
  have : (i 0).val < 352 := (i 0).isLt
  exact lt_of_lt_of_eq (by omega : (i 0).val / 176 < 2) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out5 : (dats m 0 c).arrAt 5 cfg0.N = grads (arrP m c) := by
  refine (dats m 0 c).arrAt_eq_of_cover 5 (grads (arrP m c)) (fun t _ => ?_) fun i => ?_
  · rw [Value.flushed5, stored5, rows_p]
    funext y
    rw [View.read_apply]
    exact congrArg (grads (arrP m c)) (eq_pos (lt_rows t) (at_5 t) y _ rfl rfl).symm
  · refine ⟨⟨(i 0).val / 176, lt_points i⟩, flush0_5 _, ?_⟩
    show i ∈ ((View.whole main_v0_0).slice (win0_5.rect ⟨(i 0).val / 176, lt_points i⟩)).set
    rw [View.set_slice_whole, Rect.mem_set_unit]
    exact inside (by decide) i (at_5 _)

theorem out6 : (dats m 0 c).arrAt 6 cfg0.N = changes (arrP m c) (arrW m c) (arrM m c) (arrV m c) := by
  refine (dats m 0 c).arrAt_eq_of_cover 6 (changes (arrP m c) (arrW m c) (arrM m c) (arrV m c)) (fun t _ => ?_) fun i => ?_
  · rw [Value.flushed6, stored6, rows_p, rows_w, rows_m, rows_v]
    funext y
    rw [View.read_apply]
    exact congrArg (changes (arrP m c) (arrW m c) (arrM m c) (arrV m c)) (eq_pos (lt_rows t) (at_6 t) y _ rfl rfl).symm
  · refine ⟨⟨(i 0).val / 176, lt_points i⟩, flush0_6 _, ?_⟩
    show i ∈ ((View.whole main_v0_1).slice (win0_6.rect ⟨(i 0).val / 176, lt_points i⟩)).set
    rw [View.set_slice_whole, Rect.mem_set_unit]
    exact inside (by decide) i (at_6 _)

theorem out7 : (dats m 0 c).arrAt 7 cfg0.N = means (arrP m c) (arrM m c) := by
  refine (dats m 0 c).arrAt_eq_of_cover 7 (means (arrP m c) (arrM m c)) (fun t _ => ?_) fun i => ?_
  · rw [Value.flushed7, stored7, rows_p, rows_m]
    funext y
    rw [View.read_apply]
    exact congrArg (means (arrP m c) (arrM m c)) (eq_pos (lt_rows t) (at_7 t) y _ rfl rfl).symm
  · refine ⟨⟨(i 0).val / 176, lt_points i⟩, flush0_7 _, ?_⟩
    show i ∈ ((View.whole main_v0_2).slice (win0_7.rect ⟨(i 0).val / 176, lt_points i⟩)).set
    rw [View.set_slice_whole, Rect.mem_set_unit]
    exact inside (by decide) i (at_7 _)

theorem out8 : (dats m 0 c).arrAt 8 cfg0.N = squares (arrP m c) (arrV m c) := by
  refine (dats m 0 c).arrAt_eq_of_cover 8 (squares (arrP m c) (arrV m c)) (fun t _ => ?_) fun i => ?_
  · rw [Value.flushed8, stored8, rows_p, rows_v]
    funext y
    rw [View.read_apply]
    exact congrArg (squares (arrP m c) (arrV m c)) (eq_pos (lt_rows t) (at_8 t) y _ rfl rfl).symm
  · refine ⟨⟨(i 0).val / 176, lt_points i⟩, flush0_8 _, ?_⟩
    show i ∈ ((View.whole main_v0_3).slice (win0_8.rect ⟨(i 0).val / 176, lt_points i⟩)).set
    rw [View.set_slice_whole, Rect.mem_set_unit]
    exact inside (by decide) i (at_8 _)

end Kernel

section Reference

open Cert.AdamDownAfterRefIdeal Cert.AdamDownAfterRefIdeal.Read

variable (p : Vec Ideal S8x352x1024 .bf16) (w m v : Vec Ideal S352x1024 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamDownAfterRefIdeal := fun m ρ _ =>
  (θ_run Cert.AdamDownAfterRefIdeal.defs _ _).mono (fun r h => ⟨fun c => (h c).2.2.2.2, sem_eq_zero_of_no_sems (by decide) r.2⟩)
    (Cert.AdamDownAfterRefIdeal.Value.run (F := Ideal) m ρ)

end Reference

open Cert.AdamDownAfterIdeal in
/-- Kernel and reference leave the same four arrays. -/
theorem algebraic : Cert.algebraic_AdamDownAfterIdeal_AdamDownAfterRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamDownAfterIdeal.defs _ _).mono (fun r h c => ?_) (Cert.AdamDownAfterIdeal.Value.run_blocks m g)
    obtain ⟨h0, h1, h2, h3, hk⟩ := h c
    exact ⟨h0.trans (out5 m c), h1.trans (out6 m c), h2.trans (out7 m c), h3.trans (out8 m c), hk⟩
  · refine (θ_run Cert.AdamDownAfterRefIdeal.defs _ _).mono (fun r h c => ?_) (Cert.AdamDownAfterRefIdeal.Value.run (F := Ideal) m' g')
    obtain ⟨h0, h1, h2, h3, hk⟩ := h c
    obtain ⟨ep, ew, em, ev, _⟩ := hagree c
    refine ⟨?_, ?_, ?_, ?_, hk⟩
    · refine (h0.trans (Cert.AdamDownAfterRefIdeal.Read.val_main_v1_eq ..)).trans ?_
      rw [ep]
      exact ref_grad _
    · refine (h1.trans (Cert.AdamDownAfterRefIdeal.Read.val_main_v25_eq ..)).trans ?_
      rw [ep, ew, em, ev]
      exact ref_change ..
    · refine (h2.trans (Cert.AdamDownAfterRefIdeal.Read.val_main_v6_eq ..)).trans ?_
      rw [ep, em]
      exact ref_mean ..
    · refine (h3.trans (Cert.AdamDownAfterRefIdeal.Read.val_main_v12_eq ..)).trans ?_
      rw [ep, ev]
      exact ref_square ..

end Cert.AdamDownAfterClaim
-- ==== Proof.AdamUpAfterClaim.lean ====
/-
  The optimiser's step of the first weight of a gated layer, whose step runs behind an exchange: the eight parts of the gradient
  are summed, and each entry of the weight is stepped, in blocks of 176 rows.
-/
module

public import proofs.«01_k».proof.Defs
public import proofs.«01_k».proof.Proof.AdamMath
public import proofs.«01_k».proof.Proof.Gen.AdamUpAfterIdeal.Value
public import proofs.«01_k».proof.Proof.Gen.AdamUpAfterRefIdeal.Run
public import proofs.«01_k».proof.Proof.Gen.AdamUpAfterRefIdeal.Read
public import Idealize.ShloMosaic.Lib.Tactic
public import Idealize.ShloMosaic.Lib.Pointwise
public import Idealize.ShloMosaic.Lib.WritesUnit
public import Idealize.ShloMosaic.Lib.Pipeline.ValueKit
public import Idealize.ShloMosaic.Lib.Pipeline.ReadBack

@[expose] public section

noncomputable section

namespace Cert.AdamUpAfterClaim

open Idealize.ShloMosaic Idealize.ShloMosaic.TcCoe Idealize.SL.Sem AdamMath
open Idealize.ShloMosaic.Pipeline (Dat)

section Kernel

open Cert.AdamUpAfterIdeal Cert.AdamUpAfterIdeal.Gen

theorem summed {x : Vec Ideal S8x176x1024 .bf16} {a0 a1 a2 a3 a4 a5 a6 a7 : Vec Ideal S1x176x1024 .bf16}
    (h0 : PartOf x 0 a0) (h1 : PartOf x 1 a1) (h2 : PartOf x 2 a2) (h3 : PartOf x 3 a3) (h4 : PartOf x 4 a4) (h5 : PartOf x 5 a5)
    (h6 : PartOf x 6 a6) (h7 : PartOf x 7 a7) : k0_pay4 a0 a1 a2 a3 a4 a5 a6 a7 = grads x := by
  funext y
  obtain ⟨i, d, rfl⟩ : ∃ i d, y = ix2 i d := ⟨_, _, ix2_eta y⟩
  show _ = ∑ j : Fin 8, x (ix3 j i d)
  unfold_payloads
  pointwise
  simp only [h0 i d, h1 i d, h2 i d, h3 i d, h4 i d, h5 i d, h6 i d, h7 i d]
  rw [Fin.sum_univ_eight]

section Block

variable (x : Vec Ideal S8x176x1024 .bf16) (w m v : Vec Ideal S176x1024 .f32) (b : Vec Ideal S8x128 .f32)

/-- The sum that the body makes. -/
theorem block : k0_pay5 x w m v b = grads x :=
  summed (part x 0 _) (part x 1 _) (part x 2 _) (part x 3 _) (part x 4 _) (part x 5 _) (part x 6 _) (part x 7 _)

/-- What the body stores. -/
theorem stored5 : out0_5 x w m v b = grads x := by
  unfold out0_5
  simp only [r0_8]
  rw [View.canon_unit_zero zero2, block]

theorem stored6 : out0_6 x w m v b = changes x w m v := by
  unfold out0_6
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored7 : out0_7 x w m v b = means x m := by
  unfold out0_7
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

theorem stored8 : out0_8 x w m v b = squares x v := by
  unfold out0_8
  simp only [r0_8, View.ld_unit_zero (S := S176x1024) zero2]
  rw [View.canon_unit_zero zero2, block]
  funext y
  obtain ⟨i, d, rfl⟩ : ∃ i d, y = ix2 i d := ⟨_, _, ix2_eta y⟩
  unfold_payloads
  pointwise
  rfl

end Block

variable (m : (ℓ : Loc nD τ sig) → Buf (Elt Ideal) ℓ) (c : Dev nD)

/-- The arguments. -/
abbrev arrP : Vec Ideal S8x704x1024 .bf16 := m ((c : Thread nD τ).loc main_arg0)
abbrev arrW : Vec Ideal S704x1024 .f32 := m ((c : Thread nD τ).loc main_arg1)
abbrev arrM : Vec Ideal S704x1024 .f32 := m ((c : Thread nD τ).loc main_arg2)
abbrev arrV : Vec Ideal S704x1024 .f32 := m ((c : Thread nD τ).loc main_arg3)

/-- Where the windows stand. -/
theorem at_0 (t : Fin cfg0.N) : win0_0.index t 0 = 0 ∧ win0_0.index t 1 = t.val ∧ win0_0.index t 2 = 0 := by
  rcases fin_N0 t with rfl | rfl | rfl | rfl <;> decide +kernel

theorem at_1 (t : Fin cfg0.N) : win0_1.index t 0 = t.val ∧ win0_1.index t 1 = 0 := by
  rcases fin_N0 t with rfl | rfl | rfl | rfl <;> decide +kernel

theorem at_2 (t : Fin cfg0.N) : win0_2.index t 0 = t.val ∧ win0_2.index t 1 = 0 := by
  rcases fin_N0 t with rfl | rfl | rfl | rfl <;> decide +kernel

theorem at_3 (t : Fin cfg0.N) : win0_3.index t 0 = t.val ∧ win0_3.index t 1 = 0 := by
  rcases fin_N0 t with rfl | rfl | rfl | rfl <;> decide +kernel

theorem at_5 (t : Fin cfg0.N) : win0_5.index t 0 = t.val ∧ win0_5.index t 1 = 0 := by
  rcases fin_N0 t with rfl | rfl | rfl | rfl <;> decide +kernel

theorem at_6 (t : Fin cfg0.N) : win0_6.index t 0 = t.val ∧ win0_6.index t 1 = 0 := by
  rcases fin_N0 t with rfl | rfl | rfl | rfl <;> decide +kernel

theorem at_7 (t : Fin cfg0.N) : win0_7.index t 0 = t.val ∧ win0_7.index t 1 = 0 := by
  rcases fin_N0 t with rfl | rfl | rfl | rfl <;> decide +kernel

theorem at_8 (t : Fin cfg0.N) : win0_8.index t 0 = t.val ∧ win0_8.index t 1 = 0 := by
  rcases fin_N0 t with rfl | rfl | rfl | rfl <;> decide +kernel

theorem lt_rows (t : Fin cfg0.N) : 176 * t.val + 176 ≤ 704 := by
  have : t.val < 4 := lt_of_lt_of_eq t.isLt N_0
  omega

/-- The point that has an entry's row. -/
theorem lt_points (i : At 704 1024) : (i 0).val / 176 < cfg0.N := by
  have : (i 0).val < 704 := (i 0).isLt
  exact lt_of_lt_of_eq (by omega : (i 0).val / 176 < 4) N_0.symm

/-- What a point reads. -/
theorem rows_p (t : Fin cfg0.N) : iblk m c 0 t = fun y => arrP m c (pos3 t.val (lt_rows t) y) := by
  funext y
  rw [arrP, ← V_main_arg0 m c]
  unfold iblk
  rw [View.read_apply]
  exact congrArg (V m c main_arg0) (eq_pos3 (lt_rows t) (at_0 t) y _ rfl rfl rfl)

theorem rows_w (t : Fin cfg0.N) : iblk m c 1 t = fun y => arrW m c (pos t.val (lt_rows t) y) := by
  funext y
  rw [arrW, ← V_main_arg1 m c]
  unfold iblk
  rw [View.read_apply]
  exact congrArg (V m c main_arg1) (eq_pos (lt_rows t) (at_1 t) y _ rfl rfl)

theorem rows_m (t : Fin cfg0.N) : iblk m c 2 t = fun y => arrM m c (pos t.val (lt_rows t) y) := by
  funext y
  rw [arrM, ← V_main_arg2 m c]
  unfold iblk
  rw [View.read_apply]
  exact congrArg (V m c main_arg2) (eq_pos (lt_rows t) (at_2 t) y _ rfl rfl)

theorem rows_v (t : Fin cfg0.N) : iblk m c 3 t = fun y => arrV m c (pos t.val (lt_rows t) y) := by
  funext y
  rw [arrV, ← V_main_arg3 m c]
  unfold iblk
  rw [View.read_apply]
  exact congrArg (V m c main_arg3) (eq_pos (lt_rows t) (at_3 t) y _ rfl rfl)

/-- The blocks fill the arrays. -/
theorem out5 : (dats m 0 c).arrAt 5 cfg0.N = grads (arrP m c) := by
  refine (dats m 0 c).arrAt_eq_of_cover 5 (grads (arrP m c)) (fun t _ => ?_) fun i => ?_
  · rw [Value.flushed5, stored5, rows_p]
    funext y
    rw [View.read_apply]
    exact congrArg (grads (arrP m c)) (eq_pos (lt_rows t) (at_5 t) y _ rfl rfl).symm
  · refine ⟨⟨(i 0).val / 176, lt_points i⟩, flush0_5 _, ?_⟩
    show i ∈ ((View.whole main_v0_0).slice (win0_5.rect ⟨(i 0).val / 176, lt_points i⟩)).set
    rw [View.set_slice_whole, Rect.mem_set_unit]
    exact inside (by decide) i (at_5 _)

theorem out6 : (dats m 0 c).arrAt 6 cfg0.N = changes (arrP m c) (arrW m c) (arrM m c) (arrV m c) := by
  refine (dats m 0 c).arrAt_eq_of_cover 6 (changes (arrP m c) (arrW m c) (arrM m c) (arrV m c)) (fun t _ => ?_) fun i => ?_
  · rw [Value.flushed6, stored6, rows_p, rows_w, rows_m, rows_v]
    funext y
    rw [View.read_apply]
    exact congrArg (changes (arrP m c) (arrW m c) (arrM m c) (arrV m c)) (eq_pos (lt_rows t) (at_6 t) y _ rfl rfl).symm
  · refine ⟨⟨(i 0).val / 176, lt_points i⟩, flush0_6 _, ?_⟩
    show i ∈ ((View.whole main_v0_1).slice (win0_6.rect ⟨(i 0).val / 176, lt_points i⟩)).set
    rw [View.set_slice_whole, Rect.mem_set_unit]
    exact inside (by decide) i (at_6 _)

theorem out7 : (dats m 0 c).arrAt 7 cfg0.N = means (arrP m c) (arrM m c) := by
  refine (dats m 0 c).arrAt_eq_of_cover 7 (means (arrP m c) (arrM m c)) (fun t _ => ?_) fun i => ?_
  · rw [Value.flushed7, stored7, rows_p, rows_m]
    funext y
    rw [View.read_apply]
    exact congrArg (means (arrP m c) (arrM m c)) (eq_pos (lt_rows t) (at_7 t) y _ rfl rfl).symm
  · refine ⟨⟨(i 0).val / 176, lt_points i⟩, flush0_7 _, ?_⟩
    show i ∈ ((View.whole main_v0_2).slice (win0_7.rect ⟨(i 0).val / 176, lt_points i⟩)).set
    rw [View.set_slice_whole, Rect.mem_set_unit]
    exact inside (by decide) i (at_7 _)

theorem out8 : (dats m 0 c).arrAt 8 cfg0.N = squares (arrP m c) (arrV m c) := by
  refine (dats m 0 c).arrAt_eq_of_cover 8 (squares (arrP m c) (arrV m c)) (fun t _ => ?_) fun i => ?_
  · rw [Value.flushed8, stored8, rows_p, rows_v]
    funext y
    rw [View.read_apply]
    exact congrArg (squares (arrP m c) (arrV m c)) (eq_pos (lt_rows t) (at_8 t) y _ rfl rfl).symm
  · refine ⟨⟨(i 0).val / 176, lt_points i⟩, flush0_8 _, ?_⟩
    show i ∈ ((View.whole main_v0_3).slice (win0_8.rect ⟨(i 0).val / 176, lt_points i⟩)).set
    rw [View.set_slice_whole, Rect.mem_set_unit]
    exact inside (by decide) i (at_8 _)

end Kernel

section Reference

open Cert.AdamUpAfterRefIdeal Cert.AdamUpAfterRefIdeal.Read

variable (p : Vec Ideal S8x704x1024 .bf16) (w m v : Vec Ideal S704x1024 .f32)

theorem ref_grad : val_main_v1 p = grads p := by
  funext z
  obtain ⟨s, d, rfl⟩ : ∃ s d, z = ix2 s d := ⟨_, _, ix2_eta z⟩
  pointwise [val_main_v1, val_main_cst, val_main_v0]
  rfl

theorem ref_mean : val_main_v6 p m = means p m := by
  funext z
  obtain ⟨s, d, rfl⟩ : ∃ s d, z = ix2 s d := ⟨_, _, ix2_eta z⟩
  pointwise [val_main_v6, val_main_v5, val_main_v4, val_main_cst_1, val_main_v3, val_main_v2, val_main_cst_0, ref_grad]
  rfl

theorem ref_square : val_main_v12 p v = squares p v := by
  funext z
  obtain ⟨s, d, rfl⟩ : ∃ s d, z = ix2 s d := ⟨_, _, ix2_eta z⟩
  pointwise [val_main_v12, val_main_v11, val_main_v10, val_main_cst_3, val_main_v9, val_main_v8, val_main_v7, val_main_cst_2, ref_grad]
  rfl

theorem ref_change : val_main_v25 p w m v = changes p w m v := by
  funext z
  obtain ⟨s, d, rfl⟩ : ∃ s d, z = ix2 s d := ⟨_, _, ix2_eta z⟩
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, ref_mean, ref_square]
  rfl

/-- The reference runs, keeps its arguments and has no semaphore. -/
theorem ref_frame : Cert.quiescent_AdamUpAfterRefIdeal := fun m ρ _ =>
  (θ_run Cert.AdamUpAfterRefIdeal.defs _ _).mono (fun r h => ⟨fun c => (h c).2.2.2.2, sem_eq_zero_of_no_sems (by decide) r.2⟩)
    (Cert.AdamUpAfterRefIdeal.Value.run (F := Ideal) m ρ)

end Reference

open Cert.AdamUpAfterIdeal in
/-- Kernel and reference leave the same four arrays. -/
theorem algebraic : Cert.algebraic_AdamUpAfterIdeal_AdamUpAfterRefIdeal := by
  intro m g m' g' _ hagree
  refine ⟨fun c => grads (arrP m c), fun c => changes (arrP m c) (arrW m c) (arrM m c) (arrV m c),
    fun c => means (arrP m c) (arrM m c), fun c => squares (arrP m c) (arrV m c), ?_, ?_⟩
  · refine (θ_run Cert.AdamUpAfterIdeal.defs _ _).mono (fun r h c => ?_) (Cert.AdamUpAfterIdeal.Value.run_blocks m g)
    obtain ⟨h0, h1, h2, h3, hk⟩ := h c
    exact ⟨h0.trans (out5 m c), h1.trans (out6 m c), h2.trans (out7 m c), h3.trans (out8 m c), hk⟩
  · refine (θ_run Cert.AdamUpAfterRefIdeal.defs _ _).mono (fun r h c => ?_) (Cert.AdamUpAfterRefIdeal.Value.run (F := Ideal) m' g')
    obtain ⟨h0, h1, h2, h3, hk⟩ := h c
    obtain ⟨ep, ew, em, ev, _⟩ := hagree c
    refine ⟨?_, ?_, ?_, ?_, hk⟩
    · refine (h0.trans (Cert.AdamUpAfterRefIdeal.Read.val_main_v1_eq ..)).trans ?_
      rw [ep]
      exact ref_grad _
    · refine (h1.trans (Cert.AdamUpAfterRefIdeal.Read.val_main_v25_eq ..)).trans ?_
      rw [ep, ew, em, ev]
      exact ref_change ..
    · refine (h2.trans (Cert.AdamUpAfterRefIdeal.Read.val_main_v6_eq ..)).trans ?_
      rw [ep, em]
      exact ref_mean ..
    · refine (h3.trans (Cert.AdamUpAfterRefIdeal.Read.val_main_v12_eq ..)).trans ?_
      rw [ep, ev]
      exact ref_square ..

end Cert.AdamUpAfterClaim
-- ==== Proof.lean ====
/- The proof of the certificate's claims: for each program its frames, and the equality of its results with its
   reference's. The mathematics is in the modules under Proof/. -/
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.Pre_finite2
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Gen.QBwdIdeal.Value
public import proofs.«01_k».proof.Proof.Gen.QBwdRefIdeal.Run
public import proofs.«01_k».proof.Proof.Gen.QBwdRefIdeal.Read
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.QBwd
public import proofs.«01_k».proof.Proof.Gen.QBwd.Skeleton
public import proofs.«01_k».proof.Proof.Gen.QBwd.Launch
public import proofs.«01_k».proof.Proof.Gen.QBwd.Points
public import proofs.«01_k».proof.Proof.Gen.QBwd.Frame
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.XattnRefIdeal.Run
public import proofs.«01_k».proof.Proof.Gen.XattnRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvRefIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamDownAfter
public import proofs.«01_k».proof.Proof.Gen.AdamDownAfter.Skeleton
public import proofs.«01_k».proof.Proof.Gen.AdamDownAfter.Launch
public import proofs.«01_k».proof.Proof.Gen.AdamDownAfter.Points
public import proofs.«01_k».proof.Proof.Gen.AdamDownAfter.Frame
public import proofs.«01_k».proof.Proof.Gen.AdamDownAfterIdeal
public import proofs.«01_k».proof.Proof.Gen.AdamDownAfterIdeal.Skeleton
public import proofs.«01_k».proof.Proof.Gen.AdamDownAfterIdeal.Launch
public import proofs.«01_k».proof.Proof.Gen.AdamDownAfterIdeal.Points
public import proofs.«01_k».proof.Proof.Gen.AdamDownAfterIdeal.Frame
public import proofs.«01_k».proof.Proof.Gen.AdamDownAfterRefIdeal
public import proofs.«01_k».proof.Proof.Gen.AdamUpAfter
public import proofs.«01_k».proof.Proof.Gen.AdamUpAfter.Skeleton
public import proofs.«01_k».proof.Proof.Gen.AdamUpAfter.Launch
public import proofs.«01_k».proof.Proof.Gen.AdamUpAfter.Points
public import proofs.«01_k».proof.Proof.Gen.AdamUpAfter.Frame
public import proofs.«01_k».proof.Proof.Gen.AdamUpAfterIdeal
public import proofs.«01_k».proof.Proof.Gen.AdamUpAfterIdeal.Skeleton
public import proofs.«01_k».proof.Proof.Gen.AdamUpAfterIdeal.Launch
public import proofs.«01_k».proof.Proof.Gen.AdamUpAfterIdeal.Points
public import proofs.«01_k».proof.Proof.Gen.AdamUpAfterIdeal.Frame
public import proofs.«01_k».proof.Proof.Gen.AdamUpAfterRefIdeal
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamDownAfterIdeal.Value
public import proofs.«01_k».proof.Proof.Gen.AdamDownAfterRefIdeal.Run
public import proofs.«01_k».proof.Proof.Gen.AdamDownAfterRefIdeal.Read
public import proofs.«01_k».proof.Proof.Gen.AdamUpAfterIdeal.Value
public import proofs.«01_k».proof.Proof.Gen.AdamUpAfterRefIdeal.Run
public import proofs.«01_k».proof.Proof.Gen.AdamUpAfterRefIdeal.Read
public import proofs.«01_k».proof.Proof.ConvClaim
public import proofs.«01_k».proof.Proof.XattnClaim
public import proofs.«01_k».proof.Proof.FfnUpClaim
public import proofs.«01_k».proof.Proof.DwDownClaim
public import proofs.«01_k».proof.Proof.DwUpClaim
public import proofs.«01_k».proof.Proof.DwOutClaim
public import proofs.«01_k».proof.Proof.FfnFwdClaim
public import proofs.«01_k».proof.Proof.DownFwdClaim
public import proofs.«01_k».proof.Proof.OutFwdClaim
public import proofs.«01_k».proof.Proof.DownLossClaim
public import proofs.«01_k».proof.Proof.QBwdClaim
public import proofs.«01_k».proof.Proof.OutBwdClaim
public import proofs.«01_k».proof.Proof.DwInClaim
public import proofs.«01_k».proof.Proof.MemKvClaim
public import proofs.«01_k».proof.Proof.AdamDownClaim
public import proofs.«01_k».proof.Proof.AdamSquareClaim
public import proofs.«01_k».proof.Proof.AdamUpClaim
public import proofs.«01_k».proof.Proof.AdamInClaim
public import proofs.«01_k».proof.Proof.AdamKvClaim
public import proofs.«01_k».proof.Proof.AdamSmallClaim
public import proofs.«01_k».proof.Proof.AdamDownAfterClaim
public import proofs.«01_k».proof.Proof.AdamUpAfterClaim
public import Idealize.ShloMosaic.Adequacy
public import Idealize.ShloMosaic.Init

@[expose] public section

noncomputable section

namespace Cert.Proof

open Idealize.ShloMosaic Idealize.SL.Sem Cert.Conv

theorem claim : Cert.Claim := ⟨Cert.Conv.Gen.facts,
  Cert.ConvIdeal.Gen.facts,
  Cert.ConvRefIdeal.Gen.facts,
  Cert.Xattn.Gen.facts,
  Cert.XattnIdeal.Gen.facts,
  Cert.XattnRefIdeal.Gen.facts,
  Cert.FfnUp.Gen.facts,
  Cert.FfnUpIdeal.Gen.facts,
  Cert.FfnUpRefIdeal.Gen.facts,
  Cert.DwDown.Gen.facts,
  Cert.DwDownIdeal.Gen.facts,
  Cert.DwDownRefIdeal.Gen.facts,
  Cert.DwUp.Gen.facts,
  Cert.DwUpIdeal.Gen.facts,
  Cert.DwUpRefIdeal.Gen.facts,
  Cert.DwOut.Gen.facts,
  Cert.DwOutIdeal.Gen.facts,
  Cert.DwOutRefIdeal.Gen.facts,
  Cert.FfnFwd.Gen.facts,
  Cert.FfnFwdIdeal.Gen.facts,
  Cert.FfnFwdRefIdeal.Gen.facts,
  Cert.DownFwd.Gen.facts,
  Cert.DownFwdIdeal.Gen.facts,
  Cert.DownFwdRefIdeal.Gen.facts,
  Cert.OutFwd.Gen.facts,
  Cert.OutFwdIdeal.Gen.facts,
  Cert.OutFwdRefIdeal.Gen.facts,
  Cert.DownLoss.Gen.facts,
  Cert.DownLossIdeal.Gen.facts,
  Cert.DownLossRefIdeal.Gen.facts,
  Cert.QBwd.Gen.facts,
  Cert.QBwdIdeal.Gen.facts,
  Cert.QBwdRefIdeal.Gen.facts,
  Cert.OutBwd.Gen.facts,
  Cert.OutBwdIdeal.Gen.facts,
  Cert.OutBwdRefIdeal.Gen.facts,
  Cert.DwIn.Gen.facts,
  Cert.DwInIdeal.Gen.facts,
  Cert.DwInRefIdeal.Gen.facts,
  Cert.MemKv.Gen.facts,
  Cert.MemKvIdeal.Gen.facts,
  Cert.MemKvRefIdeal.Gen.facts,
  Cert.AdamDown.Gen.facts,
  Cert.AdamDownIdeal.Gen.facts,
  Cert.AdamDownRefIdeal.Gen.facts,
  Cert.AdamSquare.Gen.facts,
  Cert.AdamSquareIdeal.Gen.facts,
  Cert.AdamSquareRefIdeal.Gen.facts,
  Cert.AdamUp.Gen.facts,
  Cert.AdamUpIdeal.Gen.facts,
  Cert.AdamUpRefIdeal.Gen.facts,
  Cert.AdamIn.Gen.facts,
  Cert.AdamInIdeal.Gen.facts,
  Cert.AdamInRefIdeal.Gen.facts,
  Cert.AdamKv.Gen.facts,
  Cert.AdamKvIdeal.Gen.facts,
  Cert.AdamKvRefIdeal.Gen.facts,
  Cert.AdamSmall.Gen.facts,
  Cert.AdamSmallIdeal.Gen.facts,
  Cert.AdamSmallRefIdeal.Gen.facts,
  Cert.AdamDownAfter.Gen.facts,
  Cert.AdamDownAfterIdeal.Gen.facts,
  Cert.AdamDownAfterRefIdeal.Gen.facts,
  Cert.AdamUpAfter.Gen.facts,
  Cert.AdamUpAfterIdeal.Gen.facts,
  Cert.AdamUpAfterRefIdeal.Gen.facts,
  Cert.Pre_finite2.Gen.facts,
  fun m ρ _ => Cert.Conv.Gen.frame m ρ,
  fun m ρ _ => Cert.ConvIdeal.Gen.frame m ρ,
  Cert.ConvClaim.ref_frame,
  fun m ρ _ => Cert.Xattn.Gen.frame m ρ,
  fun m ρ _ => Cert.XattnIdeal.Gen.frame m ρ,
  fun m ρ _ => Cert.XattnIdeal.Gen.frame m ρ,
  Cert.XattnClaim.ref_frame,
  fun m ρ _ => Cert.XattnClaim.ref_frame m ρ trivial,
  fun m ρ _ => Cert.FfnUp.Gen.frame m ρ,
  fun m ρ _ => Cert.FfnUpIdeal.Gen.frame m ρ,
  Cert.FfnUpClaim.ref_frame,
  fun m ρ _ => Cert.DwDown.Gen.frame m ρ,
  fun m ρ _ => Cert.DwDownIdeal.Gen.frame m ρ,
  Cert.DwDownClaim.ref_frame,
  fun m ρ _ => Cert.DwUp.Gen.frame m ρ,
  fun m ρ _ => Cert.DwUpIdeal.Gen.frame m ρ,
  Cert.DwUpClaim.ref_frame,
  fun m ρ _ => Cert.DwOut.Gen.frame m ρ,
  fun m ρ _ => Cert.DwOutIdeal.Gen.frame m ρ,
  Cert.DwOutClaim.ref_frame,
  fun m ρ _ => Cert.FfnFwd.Gen.frame m ρ,
  fun m ρ _ => Cert.FfnFwdIdeal.Gen.frame m ρ,
  Cert.FfnFwdClaim.ref_frame,
  fun m ρ _ => Cert.DownFwd.Gen.frame m ρ,
  fun m ρ _ => Cert.DownFwdIdeal.Gen.frame m ρ,
  Cert.DownFwdClaim.ref_frame,
  fun m ρ _ => Cert.OutFwd.Gen.frame m ρ,
  fun m ρ _ => Cert.OutFwdIdeal.Gen.frame m ρ,
  Cert.OutFwdClaim.ref_frame,
  fun m ρ _ => Cert.DownLoss.Gen.frame m ρ,
  fun m ρ _ => Cert.DownLossIdeal.Gen.frame m ρ,
  Cert.DownLossClaim.ref_frame,
  fun m ρ _ => Cert.QBwd.Gen.frame m ρ,
  fun m ρ _ => Cert.QBwdIdeal.Gen.frame m ρ,
  Cert.QBwdClaim.ref_frame,
  fun m ρ _ => Cert.OutBwd.Gen.frame m ρ,
  fun m ρ _ => Cert.OutBwdIdeal.Gen.frame m ρ,
  Cert.OutBwdClaim.ref_frame,
  fun m ρ _ => Cert.DwIn.Gen.frame m ρ,
  fun m ρ _ => Cert.DwInIdeal.Gen.frame m ρ,
  Cert.DwInClaim.ref_frame,
  fun m ρ _ => Cert.MemKv.Gen.frame m ρ,
  fun m ρ _ => Cert.MemKvIdeal.Gen.frame m ρ,
  Cert.MemKvClaim.ref_frame,
  fun m ρ _ => Cert.AdamDown.Gen.frame m ρ,
  fun m ρ _ => Cert.AdamDownIdeal.Gen.frame m ρ,
  Cert.AdamDownClaim.ref_frame,
  fun m ρ _ => Cert.AdamSquare.Gen.frame m ρ,
  fun m ρ _ => Cert.AdamSquareIdeal.Gen.frame m ρ,
  Cert.AdamSquareClaim.ref_frame,
  fun m ρ _ => Cert.AdamUp.Gen.frame m ρ,
  fun m ρ _ => Cert.AdamUpIdeal.Gen.frame m ρ,
  Cert.AdamUpClaim.ref_frame,
  fun m ρ _ => Cert.AdamIn.Gen.frame m ρ,
  fun m ρ _ => Cert.AdamInIdeal.Gen.frame m ρ,
  Cert.AdamInClaim.ref_frame,
  fun m ρ _ => Cert.AdamKv.Gen.frame m ρ,
  fun m ρ _ => Cert.AdamKvIdeal.Gen.frame m ρ,
  Cert.AdamKvClaim.ref_frame,
  fun m ρ _ => Cert.AdamSmall.Gen.frame m ρ,
  fun m ρ _ => Cert.AdamSmallIdeal.Gen.frame m ρ,
  Cert.AdamSmallClaim.ref_frame,
  fun m ρ _ => Cert.AdamDownAfter.Gen.frame m ρ,
  fun m ρ _ => Cert.AdamDownAfterIdeal.Gen.frame m ρ,
  Cert.AdamDownAfterClaim.ref_frame,
  fun m ρ _ => Cert.AdamUpAfter.Gen.frame m ρ,
  fun m ρ _ => Cert.AdamUpAfterIdeal.Gen.frame m ρ,
  Cert.AdamUpAfterClaim.ref_frame,
  trivial,
  Cert.ConvClaim.algebraic,
  trivial,
  Cert.XattnClaim.algebraic,
  trivial,
  Cert.FfnUpClaim.algebraic,
  trivial,
  Cert.DwDownClaim.algebraic,
  trivial,
  Cert.DwUpClaim.algebraic,
  trivial,
  Cert.DwOutClaim.algebraic,
  trivial,
  Cert.FfnFwdClaim.algebraic,
  trivial,
  Cert.DownFwdClaim.algebraic,
  trivial,
  Cert.OutFwdClaim.algebraic,
  trivial,
  Cert.DownLossClaim.algebraic,
  trivial,
  Cert.QBwdClaim.algebraic,
  trivial,
  Cert.OutBwdClaim.algebraic,
  trivial,
  Cert.DwInClaim.algebraic,
  trivial,
  Cert.MemKvClaim.algebraic,
  trivial,
  Cert.AdamDownClaim.algebraic,
  trivial,
  Cert.AdamSquareClaim.algebraic,
  trivial,
  Cert.AdamUpClaim.algebraic,
  trivial,
  Cert.AdamInClaim.algebraic,
  trivial,
  Cert.AdamKvClaim.algebraic,
  trivial,
  Cert.AdamSmallClaim.algebraic,
  trivial,
  Cert.AdamDownAfterClaim.algebraic,
  trivial,
  Cert.AdamUpAfterClaim.algebraic⟩

end Cert.Proof

end
